-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "inv_lr_tenth" .f32 0x47023555#32 ((100000 / 3 : ℝ) : EReal)
  ∧ IdealRules.named_const.Statement Cert.KernelIdeal.κ "thousandth" .f32 0x3A83126F#32 ((1 / 1000 : ℝ) : EReal)
  ∧ IdealRules.named_const.Statement Cert.KernelIdeal.κ "eps" .f32 0x322BCC77#32 ((1 / 100000000 : ℝ) : EReal)
  ∧ IdealRules.named_const.Statement Cert.KernelIdeal.κ "seventh" .f32 0x3E124925#32 ((1 / 7 : ℝ) : EReal)
  ∧ IdealRules.named_const.Statement Cert.KernelIdeal.κ "seventieth" .f32 0x3C6A0EA1#32 ((1 / 70 : ℝ) : EReal)
  ∧ IdealRules.named_const.Statement Cert.KernelIdeal.κ "lr_decay" .f32 0x37FBA882#32 ((3 / 100000 : ℝ) : EReal)

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)) (v5 : (c : Dev Cert.KernelIdeal.nD) → Buf (Elt Ideal) ((c.tc : Thread Cert.KernelIdeal.nD Cert.KernelIdeal.τ).loc Cert.KernelIdeal.main_v1_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_v1_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v118) = v1 c
          ∧ r.2.mem ((c.tc : Thread Cert.ReferenceIdeal.nD Cert.ReferenceIdeal.τ).loc Cert.ReferenceIdeal.main_v85) = v2 c
          ∧ r.2.mem ((c.tc : Thread Cert.ReferenceIdeal.nD Cert.ReferenceIdeal.τ).loc Cert.ReferenceIdeal.main_v129) = v3 c
          ∧ r.2.mem ((c.tc : Thread Cert.ReferenceIdeal.nD Cert.ReferenceIdeal.τ).loc Cert.ReferenceIdeal.main_v93) = v4 c
          ∧ r.2.mem ((c.tc : Thread Cert.ReferenceIdeal.nD Cert.ReferenceIdeal.τ).loc Cert.ReferenceIdeal.main_v94) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S5x384x2880 : Shape := ⟨3, ![5, 384, 2880]⟩
abbrev S_ : Shape := ⟨0, ![]⟩
abbrev S5x384x1440 : Shape := ⟨3, ![5, 384, 1440]⟩
abbrev S5x6x2880 : Shape := ⟨3, ![5, 6, 2880]⟩
abbrev S5x384 : Shape := ⟨2, ![5, 384]⟩
abbrev S5x2880 : Shape := ⟨2, ![5, 2880]⟩

class Facts : Prop where
  bcast_S_S5x384 : S_.BroadcastsInDim S5x384 (![] : Fin 0 → Fin S5x384.rank)
  reducesTo_S5x384_S_d0_1 : S5x384.ReducesTo [0, 1] S_
  h_S_ : 0 < S_.numel
  bcast_S_S5x2880 : S_.BroadcastsInDim S5x2880 (![] : Fin 0 → Fin S5x2880.rank)
  reducesTo_S5x2880_S_d0_1 : S5x2880.ReducesTo [0, 1] S_

variable [Facts]

def fn {F : FTy → Type} [FloatOps F] (main_arg0 : FVec F S5x384x2880 .bf16) (main_arg1 : FVec F S5x384x2880 .bf16) (main_arg2 : IVec S_ 32) (main_arg3 : IVec S5x384x1440 8) (main_arg4 : FVec F S5x6x2880 .f32) (main_arg5 : IVec S5x384x1440 8) (main_arg6 : FVec F S5x384 .f32) (main_arg7 : FVec F S5x2880 .f32) : IVec S_ 1 :=
  let main_c : IVec S_ 32 := constantI S_ 32 1#32
  let main_v0 : IVec S_ 1 := cmpi .sge main_arg2 main_c
  let main_cst : FVec F S_ .f32 := constant S_ .f32 0x00800000#32
  let main_v1 : FVec F S5x384 .f32 := broadcastInDim S5x384 ![] bcast_S_S5x384 main_cst
  let main_v2 : IVec S5x384 1 := cmpf .oge main_arg6 main_v1
  let main_c_0 : IVec S_ 1 := constantI S_ 1 1#1
  let main_v3 : IVec S_ 1 := (fun x v => Host.reduce IntOp.andi x v reducesTo_S5x384_S_d0_1 h_S_) main_v2 main_c_0
  let main_v4 : IVec S_ 1 := andi main_v0 main_v3
  let main_cst_1 : FVec F S_ .f32 := constant S_ .f32 0x00800000#32
  let main_v5 : FVec F S5x2880 .f32 := broadcastInDim S5x2880 ![] bcast_S_S5x2880 main_cst_1
  let main_v6 : IVec S5x2880 1 := cmpf .oge main_arg7 main_v5
  let main_c_2 : IVec S_ 1 := constantI S_ 1 1#1
  let main_v7 : IVec S_ 1 := (fun x v => Host.reduce IntOp.andi x v reducesTo_S5x2880_S_d0_1 h_S_) main_v6 main_c_2
  let main_v8 : IVec S_ 1 := andi main_v4 main_v7
  main_v8
-- ==== Kernel.lean ====
abbrev S5x384x2880 : Shape := ⟨3, ![5, 384, 2880]⟩
abbrev S_ : Shape := ⟨0, ![]⟩
abbrev S5x384x1440 : Shape := ⟨3, ![5, 384, 1440]⟩
abbrev S5x6x2880 : Shape := ⟨3, ![5, 6, 2880]⟩
abbrev S5x384 : Shape := ⟨2, ![5, 384]⟩
abbrev S5x2880 : Shape := ⟨2, ![5, 2880]⟩
abbrev S1 : Shape := ⟨1, ![1]⟩
abbrev S1x128x2880 : Shape := ⟨3, ![1, 128, 2880]⟩
abbrev S1x128x1440 : Shape := ⟨3, ![1, 128, 1440]⟩
abbrev S1x6x2880 : Shape := ⟨3, ![1, 6, 2880]⟩
abbrev S256x256 : Shape := ⟨2, ![256, 256]⟩
abbrev S256x128 : Shape := ⟨2, ![256, 128]⟩
abbrev S8x128 : Shape := ⟨2, ![8, 128]⟩
abbrev S6x128x2880 : Shape := ⟨3, ![6, 128, 2880]⟩
abbrev S6x128x128 : Shape := ⟨3, ![6, 128, 128]⟩
abbrev S2x8x2880 : Shape := ⟨3, ![2, 8, 2880]⟩
abbrev S2x1x2880 : Shape := ⟨3, ![2, 1, 2880]⟩
abbrev S128x128 : Shape := ⟨2, ![128, 128]⟩
abbrev S1x2880 : Shape := ⟨2, ![1, 2880]⟩
abbrev S2x2880 : Shape := ⟨2, ![2, 2880]⟩
abbrev S1x128 : Shape := ⟨2, ![1, 128]⟩
abbrev S2880 : Shape := ⟨1, ![2880]⟩
abbrev S1x8x2880 : Shape := ⟨3, ![1, 8, 2880]⟩
abbrev S6x2880 : Shape := ⟨2, ![6, 2880]⟩
abbrev S5x128 : Shape := ⟨2, ![5, 128]⟩
abbrev S128 : Shape := ⟨1, ![128]⟩
abbrev S64x128 : Shape := ⟨2, ![64, 128]⟩
abbrev S1x64x256 : Shape := ⟨3, ![1, 64, 256]⟩
abbrev S64x256 : Shape := ⟨2, ![64, 256]⟩
abbrev S1x64x128 : Shape := ⟨3, ![1, 64, 128]⟩
abbrev S16x128 : Shape := ⟨2, ![16, 128]⟩
abbrev S1x256 : Shape := ⟨2, ![1, 256]⟩
abbrev S256 : Shape := ⟨1, ![256]⟩
abbrev S8x8x256 : Shape := ⟨3, ![8, 8, 256]⟩
abbrev S8x256 : Shape := ⟨2, ![8, 256]⟩
abbrev S1x8x256 : Shape := ⟨3, ![1, 8, 256]⟩
abbrev S1x64x64 : Shape := ⟨3, ![1, 64, 64]⟩
abbrev S64x64 : Shape := ⟨2, ![64, 64]⟩
abbrev S1x64x32 : Shape := ⟨3, ![1, 64, 32]⟩
abbrev S64x32 : Shape := ⟨2, ![64, 32]⟩
abbrev S16x32 : Shape := ⟨2, ![16, 32]⟩
abbrev S32x64 : Shape := ⟨2, ![32, 64]⟩
abbrev S1x64 : Shape := ⟨2, ![1, 64]⟩
abbrev S64 : Shape := ⟨1, ![64]⟩
abbrev S64x1 : Shape := ⟨2, ![64, 1]⟩
abbrev S8x8x64 : Shape := ⟨3, ![8, 8, 64]⟩
abbrev S8x64 : Shape := ⟨2, ![8, 64]⟩
abbrev S1x8x64 : Shape := ⟨3, ![1, 8, 64]⟩
abbrev S8x2880 : Shape := ⟨2, ![8, 2880]⟩
abbrev S1x1x2880 : Shape := ⟨3, ![1, 1, 2880]⟩
abbrev S1x1x256 : Shape := ⟨3, ![1, 1, 256]⟩
abbrev S1x1x64 : Shape := ⟨3, ![1, 1, 64]⟩

abbrev nBuf : Space → Nat
  | .hbm => 15
  | .vmem => 32
  | .smem => 1
  | _ => 0

abbrev bufTy : (tb : Table) → Fin (tcTables nBuf tb) → BufTy
  | .hbm, ⟨0, _⟩ => ⟨S5x384x2880, .bf16⟩
  | .hbm, ⟨1, _⟩ => ⟨S5x384x2880, .bf16⟩
  | .hbm, ⟨2, _⟩ => ⟨S_, .i32⟩
  | .hbm, ⟨3, _⟩ => ⟨S5x384x1440, .i8⟩
  | .hbm, ⟨4, _⟩ => ⟨S5x6x2880, .f32⟩
  | .hbm, ⟨5, _⟩ => ⟨S5x384x1440, .i8⟩
  | .hbm, ⟨6, _⟩ => ⟨S5x384, .f32⟩
  | .hbm, ⟨7, _⟩ => ⟨S5x2880, .f32⟩
  | .hbm, ⟨8, _⟩ => ⟨S1, .i32⟩
  | .hbm, ⟨9, _⟩ => ⟨S5x384x2880, .f32⟩
  | .hbm, ⟨10, _⟩ => ⟨S5x384x1440, .i8⟩
  | .hbm, ⟨11, _⟩ => ⟨S5x6x2880, .f32⟩
  | .hbm, ⟨12, _⟩ => ⟨S5x384x1440, .i8⟩
  | .hbm, ⟨13, _⟩ => ⟨S5x384, .f32⟩
  | .hbm, ⟨14, _⟩ => ⟨S5x2880, .f32⟩
  | .local _ .vmem, ⟨0, _⟩ => ⟨S1x128x2880, .bf16⟩
  | .local _ .vmem, ⟨1, _⟩ => ⟨S1x128x2880, .bf16⟩
  | .local _ .vmem, ⟨2, _⟩ => ⟨S1x128x2880, .bf16⟩
  | .local _ .vmem, ⟨3, _⟩ => ⟨S1x128x2880, .bf16⟩
  | .local _ .vmem, ⟨4, _⟩ => ⟨S1x128x1440, .i8⟩
  | .local _ .vmem, ⟨5, _⟩ => ⟨S1x128x1440, .i8⟩
  | .local _ .vmem, ⟨6, _⟩ => ⟨S1x6x2880, .f32⟩
  | .local _ .vmem, ⟨7, _⟩ => ⟨S1x6x2880, .f32⟩
  | .local _ .vmem, ⟨8, _⟩ => ⟨S1x128x1440, .i8⟩
  | .local _ .vmem, ⟨9, _⟩ => ⟨S1x128x1440, .i8⟩
  | .local _ .vmem, ⟨10, _⟩ => ⟨S5x384, .f32⟩
  | .local _ .vmem, ⟨11, _⟩ => ⟨S5x2880, .f32⟩
  | .local _ .vmem, ⟨12, _⟩ => ⟨S1x128x2880, .f32⟩
  | .local _ .vmem, ⟨13, _⟩ => ⟨S1x128x2880, .f32⟩
  | .local _ .vmem, ⟨14, _⟩ => ⟨S1x128x1440, .i8⟩
  | .local _ .vmem, ⟨15, _⟩ => ⟨S1x128x1440, .i8⟩
  | .local _ .vmem, ⟨16, _⟩ => ⟨S1x6x2880, .f32⟩
  | .local _ .vmem, ⟨17, _⟩ => ⟨S1x6x2880, .f32⟩
  | .local _ .vmem, ⟨18, _⟩ => ⟨S1x128x1440, .i8⟩
  | .local _ .vmem, ⟨19, _⟩ => ⟨S1x128x1440, .i8⟩
  | .local _ .vmem, ⟨20, _⟩ => ⟨S5x384, .f32⟩
  | .local _ .vmem, ⟨21, _⟩ => ⟨S5x2880, .f32⟩
  | .local _ .vmem, ⟨22, _⟩ => ⟨S256x256, .bf16⟩
  | .local _ .vmem, ⟨23, _⟩ => ⟨S256x128, .bf16⟩
  | .local _ .vmem, ⟨24, _⟩ => ⟨S8x128, .f32⟩
  | .local _ .vmem, ⟨25, _⟩ => ⟨S6x128x2880, .f32⟩
  | .local _ .vmem, ⟨26, _⟩ => ⟨S6x128x128, .f32⟩
  | .local _ .vmem, ⟨27, _⟩ => ⟨S2x8x2880, .f32⟩
  | .local _ .vmem, ⟨28, _⟩ => ⟨S2x1x2880, .f32⟩
  | .local _ .vmem, ⟨29, _⟩ => ⟨S128x128, .f32⟩
  | .local _ .vmem, ⟨30, _⟩ => ⟨S1x2880, .f32⟩
  | .local _ .vmem, ⟨31, _⟩ => ⟨S2x2880, .f32⟩
  | .local _ .smem, ⟨0, _⟩ => ⟨S1, .i32⟩
  | _, _ => ⟨S5x384x2880, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_scratch8 : Ref sig .tc := ⟨.vmem, 30, rfl⟩
abbrev cc0_scratch9 : Ref sig .tc := ⟨.vmem, 31, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22

abbrev nD : Nat := 1
abbrev τ : Topo := Topo.v7x

variable {F : FTy → Type} [FloatOps F]

abbrev grid0 : Pipeline.Grid := ⟨1, ![18], ![false]⟩

def k0_cond2 (i : grid0.Coords) : BitVec 1 :=
  let arg0 : BitVec 32 := BitVec.ofNat 32 (i 0).val
  let c15_i32 : BitVec 32 := 15#32
  let v30 : BitVec 1 := Scalar.cmpi .slt arg0 c15_i32
  let v31 : BitVec 32 := Scalar.extui v30
  let c0_i32_12 : BitVec 32 := 0#32
  let v32 : BitVec 1 := Scalar.cmpi .ne v31 c0_i32_12
  v32

def k0_cond3 (i : grid0.Coords) : BitVec 1 :=
  let arg0 : BitVec 32 := BitVec.ofNat 32 (i 0).val
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c0_i32_15 : BitVec 32 := 0#32
  let v36 : BitVec 1 := Scalar.cmpi .eq v26 c0_i32_15
  let v37 : BitVec 32 := Scalar.extui v36
  let c0_i32_16 : BitVec 32 := 0#32
  let v38 : BitVec 1 := Scalar.cmpi .ne v37 c0_i32_16
  v38

def k0_off1 (i : grid0.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c3_i32 : BitVec 32 := 3#32
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let v0 : BitVec 32 := Scalar.divsi arg0 c3_i32
  let c1_i32 : BitVec 32 := 1#32
  let v15 : BitVec 32 := Scalar.subi v0 c1_i32
  let v16 : BitVec 32 := Scalar.select v14 v15 v0
  let c2_i32_1992 : BitVec 32 := 2#32
  let c0_i32_1993 : BitVec 32 := 0#32
  let v3959 : BitVec 1 := Scalar.cmpi .eq c2_i32_1992 c0_i32_1993
  let c1_i32_1994 : BitVec 32 := 1#32
  let v3960 : BitVec 32 := Scalar.select v3959 c1_i32_1994 c2_i32_1992
  let v3961 : BitVec 32 := Scalar.remsi v16 v3960
  let c0_i32_1996 : BitVec 32 := 0#32
  let v3963 : BitVec 1 := Scalar.cmpi .slt v3961 c0_i32_1996
  let c0_i32_1997 : BitVec 32 := 0#32
  let v3964 : BitVec 1 := Scalar.cmpi .slt v3960 c0_i32_1997
  let v3965 : BitVec 1 := Scalar.xori v3963 v3964
  let c0_i32_1995 : BitVec 32 := 0#32
  let v3962 : BitVec 1 := Scalar.cmpi .ne v3961 c0_i32_1995
  let v3966 : BitVec 1 := Scalar.andi v3965 v3962
  let v3967 : BitVec 32 := Scalar.addi v3961 v3960
  let v3968 : BitVec 32 := Scalar.select v3966 v3967 v3961
  let v3969 : Index := Scalar.indexCast v3968
  let c0_1998 : Index := 0#32
  let c0_1999 : Index := 0#32
  ![v3969.toNat, 0, 0]
def k0_mult1 (i : grid0.Coords) : BitVec 32 :=
  let arg0 : BitVec 32 := BitVec.ofNat 32 (i 0).val
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c128_i32 : BitVec 32 := 128#32
  let v39 : BitVec 32 := Scalar.muli v26 c128_i32
  v39
def k0_off2 (i : grid0.Coords) : Fin 2 → Nat :=
  let c0 : Index := 0#32
  let arg0 : BitVec 32 := BitVec.ofNat 32 (i 0).val
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c128_i32 : BitVec 32 := 128#32
  let v39 : BitVec 32 := Scalar.muli v26 c128_i32
  let v40 : BitVec 32 := v39
  let v41 : Index := Scalar.indexCast v40
  ![0, v41.toNat]
def k0_off3 (i : grid0.Coords) : Fin 3 → Nat :=
  let arg0 : BitVec 32 := BitVec.ofNat 32 (i 0).val
  let c6_i32 : BitVec 32 := 6#32
  let c0_i32_25 : BitVec 32 := 0#32
  let v62 : BitVec 1 := Scalar.cmpi .eq c6_i32 c0_i32_25
  let c1_i32_26 : BitVec 32 := 1#32
  let v63 : BitVec 32 := Scalar.select v62 c1_i32_26 c6_i32
  let v64 : BitVec 32 := Scalar.remsi arg0 v63
  let c0_i32_28 : BitVec 32 := 0#32
  let v66 : BitVec 1 := Scalar.cmpi .slt v64 c0_i32_28
  let c0_i32_29 : BitVec 32 := 0#32
  let v67 : BitVec 1 := Scalar.cmpi .slt v63 c0_i32_29
  let v68 : BitVec 1 := Scalar.xori v66 v67
  let c0_i32_27 : BitVec 32 := 0#32
  let v65 : BitVec 1 := Scalar.cmpi .ne v64 c0_i32_27
  let v69 : BitVec 1 := Scalar.andi v68 v65
  let v70 : BitVec 32 := Scalar.addi v64 v63
  let v71 : BitVec 32 := Scalar.select v69 v70 v64
  let v187 : Index := Scalar.indexCast v71
  let c0_87 : Index := 0#32
  let c0_88 : Index := 0#32
  ![v187.toNat, 0, 0]
def k0_off4 (i : grid0.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c3_i32 : BitVec 32 := 3#32
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let v0 : BitVec 32 := Scalar.divsi arg0 c3_i32
  let c1_i32 : BitVec 32 := 1#32
  let v15 : BitVec 32 := Scalar.subi v0 c1_i32
  let v16 : BitVec 32 := Scalar.select v14 v15 v0
  let c2_i32_90 : BitVec 32 := 2#32
  let c0_i32_91 : BitVec 32 := 0#32
  let v197 : BitVec 1 := Scalar.cmpi .eq c2_i32_90 c0_i32_91
  let c1_i32_92 : BitVec 32 := 1#32
  let v198 : BitVec 32 := Scalar.select v197 c1_i32_92 c2_i32_90
  let v199 : BitVec 32 := Scalar.remsi v16 v198
  let c0_i32_94 : BitVec 32 := 0#32
  let v201 : BitVec 1 := Scalar.cmpi .slt v199 c0_i32_94
  let c0_i32_95 : BitVec 32 := 0#32
  let v202 : BitVec 1 := Scalar.cmpi .slt v198 c0_i32_95
  let v203 : BitVec 1 := Scalar.xori v201 v202
  let c0_i32_93 : BitVec 32 := 0#32
  let v200 : BitVec 1 := Scalar.cmpi .ne v199 c0_i32_93
  let v204 : BitVec 1 := Scalar.andi v203 v200
  let v205 : BitVec 32 := Scalar.addi v199 v198
  let v206 : BitVec 32 := Scalar.select v204 v205 v199
  let v207 : Index := Scalar.indexCast v206
  let c0_96 : Index := 0#32
  let c0_97 : Index := 0#32
  ![v207.toNat, 0, 0]
def k0_off5 (i : grid0.Coords) : Fin 3 → Nat :=
  let arg0 : BitVec 32 := BitVec.ofNat 32 (i 0).val
  let c6_i32 : BitVec 32 := 6#32
  let c0_i32_25 : BitVec 32 := 0#32
  let v62 : BitVec 1 := Scalar.cmpi .eq c6_i32 c0_i32_25
  let c1_i32_26 : BitVec 32 := 1#32
  let v63 : BitVec 32 := Scalar.select v62 c1_i32_26 c6_i32
  let v64 : BitVec 32 := Scalar.remsi arg0 v63
  let c0_i32_28 : BitVec 32 := 0#32
  let v66 : BitVec 1 := Scalar.cmpi .slt v64 c0_i32_28
  let c0_i32_29 : BitVec 32 := 0#32
  let v67 : BitVec 1 := Scalar.cmpi .slt v63 c0_i32_29
  let v68 : BitVec 1 := Scalar.xori v66 v67
  let c0_i32_27 : BitVec 32 := 0#32
  let v65 : BitVec 1 := Scalar.cmpi .ne v64 c0_i32_27
  let v69 : BitVec 1 := Scalar.andi v68 v65
  let v70 : BitVec 32 := Scalar.addi v64 v63
  let v71 : BitVec 32 := Scalar.select v69 v70 v64
  let v343 : Index := Scalar.indexCast v71
  let c0_164 : Index := 0#32
  let c256_165 : Index := 256#32
  ![v343.toNat, 0, 256]
def k0_off6 (i : grid0.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c3_i32 : BitVec 32 := 3#32
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let v0 : BitVec 32 := Scalar.divsi arg0 c3_i32
  let c1_i32 : BitVec 32 := 1#32
  let v15 : BitVec 32 := Scalar.subi v0 c1_i32
  let v16 : BitVec 32 := Scalar.select v14 v15 v0
  let c2_i32_167 : BitVec 32 := 2#32
  let c0_i32_168 : BitVec 32 := 0#32
  let v353 : BitVec 1 := Scalar.cmpi .eq c2_i32_167 c0_i32_168
  let c1_i32_169 : BitVec 32 := 1#32
  let v354 : BitVec 32 := Scalar.select v353 c1_i32_169 c2_i32_167
  let v355 : BitVec 32 := Scalar.remsi v16 v354
  let c0_i32_171 : BitVec 32 := 0#32
  let v357 : BitVec 1 := Scalar.cmpi .slt v355 c0_i32_171
  let c0_i32_172 : BitVec 32 := 0#32
  let v358 : BitVec 1 := Scalar.cmpi .slt v354 c0_i32_172
  let v359 : BitVec 1 := Scalar.xori v357 v358
  let c0_i32_170 : BitVec 32 := 0#32
  let v356 : BitVec 1 := Scalar.cmpi .ne v355 c0_i32_170
  let v360 : BitVec 1 := Scalar.andi v359 v356
  let v361 : BitVec 32 := Scalar.addi v355 v354
  let v362 : BitVec 32 := Scalar.select v360 v361 v355
  let v363 : Index := Scalar.indexCast v362
  let c0_173 : Index := 0#32
  let c256_174 : Index := 256#32
  ![v363.toNat, 0, 256]
def k0_off7 (i : grid0.Coords) : Fin 3 → Nat :=
  let arg0 : BitVec 32 := BitVec.ofNat 32 (i 0).val
  let c6_i32 : BitVec 32 := 6#32
  let c0_i32_25 : BitVec 32 := 0#32
  let v62 : BitVec 1 := Scalar.cmpi .eq c6_i32 c0_i32_25
  let c1_i32_26 : BitVec 32 := 1#32
  let v63 : BitVec 32 := Scalar.select v62 c1_i32_26 c6_i32
  let v64 : BitVec 32 := Scalar.remsi arg0 v63
  let c0_i32_28 : BitVec 32 := 0#32
  let v66 : BitVec 1 := Scalar.cmpi .slt v64 c0_i32_28
  let c0_i32_29 : BitVec 32 := 0#32
  let v67 : BitVec 1 := Scalar.cmpi .slt v63 c0_i32_29
  let v68 : BitVec 1 := Scalar.xori v66 v67
  let c0_i32_27 : BitVec 32 := 0#32
  let v65 : BitVec 1 := Scalar.cmpi .ne v64 c0_i32_27
  let v69 : BitVec 1 := Scalar.andi v68 v65
  let v70 : BitVec 32 := Scalar.addi v64 v63
  let v71 : BitVec 32 := Scalar.select v69 v70 v64
  let v499 : Index := Scalar.indexCast v71
  let c0_242 : Index := 0#32
  let c512_243 : Index := 512#32
  ![v499.toNat, 0, 512]
def k0_off8 (i : grid0.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c3_i32 : BitVec 32 := 3#32
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let v0 : BitVec 32 := Scalar.divsi arg0 c3_i32
  let c1_i32 : BitVec 32 := 1#32
  let v15 : BitVec 32 := Scalar.subi v0 c1_i32
  let v16 : BitVec 32 := Scalar.select v14 v15 v0
  let c2_i32_245 : BitVec 32 := 2#32
  let c0_i32_246 : BitVec 32 := 0#32
  let v509 : BitVec 1 := Scalar.cmpi .eq c2_i32_245 c0_i32_246
  let c1_i32_247 : BitVec 32 := 1#32
  let v510 : BitVec 32 := Scalar.select v509 c1_i32_247 c2_i32_245
  let v511 : BitVec 32 := Scalar.remsi v16 v510
  let c0_i32_249 : BitVec 32 := 0#32
  let v513 : BitVec 1 := Scalar.cmpi .slt v511 c0_i32_249
  let c0_i32_250 : BitVec 32 := 0#32
  let v514 : BitVec 1 := Scalar.cmpi .slt v510 c0_i32_250
  let v515 : BitVec 1 := Scalar.xori v513 v514
  let c0_i32_248 : BitVec 32 := 0#32
  let v512 : BitVec 1 := Scalar.cmpi .ne v511 c0_i32_248
  let v516 : BitVec 1 := Scalar.andi v515 v512
  let v517 : BitVec 32 := Scalar.addi v511 v510
  let v518 : BitVec 32 := Scalar.select v516 v517 v511
  let v519 : Index := Scalar.indexCast v518
  let c0_251 : Index := 0#32
  let c512_252 : Index := 512#32
  ![v519.toNat, 0, 512]
def k0_off9 (i : grid0.Coords) : Fin 3 → Nat :=
  let arg0 : BitVec 32 := BitVec.ofNat 32 (i 0).val
  let c6_i32 : BitVec 32 := 6#32
  let c0_i32_25 : BitVec 32 := 0#32
  let v62 : BitVec 1 := Scalar.cmpi .eq c6_i32 c0_i32_25
  let c1_i32_26 : BitVec 32 := 1#32
  let v63 : BitVec 32 := Scalar.select v62 c1_i32_26 c6_i32
  let v64 : BitVec 32 := Scalar.remsi arg0 v63
  let c0_i32_28 : BitVec 32 := 0#32
  let v66 : BitVec 1 := Scalar.cmpi .slt v64 c0_i32_28
  let c0_i32_29 : BitVec 32 := 0#32
  let v67 : BitVec 1 := Scalar.cmpi .slt v63 c0_i32_29
  let v68 : BitVec 1 := Scalar.xori v66 v67
  let c0_i32_27 : BitVec 32 := 0#32
  let v65 : BitVec 1 := Scalar.cmpi .ne v64 c0_i32_27
  let v69 : BitVec 1 := Scalar.andi v68 v65
  let v70 : BitVec 32 := Scalar.addi v64 v63
  let v71 : BitVec 32 := Scalar.select v69 v70 v64
  let v655 : Index := Scalar.indexCast v71
  let c0_319 : Index := 0#32
  let c768_320 : Index := 768#32
  ![v655.toNat, 0, 768]
def k0_off10 (i : grid0.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c3_i32 : BitVec 32 := 3#32
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let v0 : BitVec 32 := Scalar.divsi arg0 c3_i32
  let c1_i32 : BitVec 32 := 1#32
  let v15 : BitVec 32 := Scalar.subi v0 c1_i32
  let v16 : BitVec 32 := Scalar.select v14 v15 v0
  let c2_i32_322 : BitVec 32 := 2#32
  let c0_i32_323 : BitVec 32 := 0#32
  let v665 : BitVec 1 := Scalar.cmpi .eq c2_i32_322 c0_i32_323
  let c1_i32_324 : BitVec 32 := 1#32
  let v666 : BitVec 32 := Scalar.select v665 c1_i32_324 c2_i32_322
  let v667 : BitVec 32 := Scalar.remsi v16 v666
  let c0_i32_326 : BitVec 32 := 0#32
  let v669 : BitVec 1 := Scalar.cmpi .slt v667 c0_i32_326
  let c0_i32_327 : BitVec 32 := 0#32
  let v670 : BitVec 1 := Scalar.cmpi .slt v666 c0_i32_327
  let v671 : BitVec 1 := Scalar.xori v669 v670
  let c0_i32_325 : BitVec 32 := 0#32
  let v668 : BitVec 1 := Scalar.cmpi .ne v667 c0_i32_325
  let v672 : BitVec 1 := Scalar.andi v671 v668
  let v673 : BitVec 32 := Scalar.addi v667 v666
  let v674 : BitVec 32 := Scalar.select v672 v673 v667
  let v675 : Index := Scalar.indexCast v674
  let c0_328 : Index := 0#32
  let c768_329 : Index := 768#32
  ![v675.toNat, 0, 768]
def k0_off11 (i : grid0.Coords) : Fin 3 → Nat :=
  let arg0 : BitVec 32 := BitVec.ofNat 32 (i 0).val
  let c6_i32 : BitVec 32 := 6#32
  let c0_i32_25 : BitVec 32 := 0#32
  let v62 : BitVec 1 := Scalar.cmpi .eq c6_i32 c0_i32_25
  let c1_i32_26 : BitVec 32 := 1#32
  let v63 : BitVec 32 := Scalar.select v62 c1_i32_26 c6_i32
  let v64 : BitVec 32 := Scalar.remsi arg0 v63
  let c0_i32_28 : BitVec 32 := 0#32
  let v66 : BitVec 1 := Scalar.cmpi .slt v64 c0_i32_28
  let c0_i32_29 : BitVec 32 := 0#32
  let v67 : BitVec 1 := Scalar.cmpi .slt v63 c0_i32_29
  let v68 : BitVec 1 := Scalar.xori v66 v67
  let c0_i32_27 : BitVec 32 := 0#32
  let v65 : BitVec 1 := Scalar.cmpi .ne v64 c0_i32_27
  let v69 : BitVec 1 := Scalar.andi v68 v65
  let v70 : BitVec 32 := Scalar.addi v64 v63
  let v71 : BitVec 32 := Scalar.select v69 v70 v64
  let v811 : Index := Scalar.indexCast v71
  let c0_397 : Index := 0#32
  let c1024_398 : Index := 1024#32
  ![v811.toNat, 0, 1024]
def k0_off12 (i : grid0.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c3_i32 : BitVec 32 := 3#32
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let v0 : BitVec 32 := Scalar.divsi arg0 c3_i32
  let c1_i32 : BitVec 32 := 1#32
  let v15 : BitVec 32 := Scalar.subi v0 c1_i32
  let v16 : BitVec 32 := Scalar.select v14 v15 v0
  let c2_i32_400 : BitVec 32 := 2#32
  let c0_i32_401 : BitVec 32 := 0#32
  let v821 : BitVec 1 := Scalar.cmpi .eq c2_i32_400 c0_i32_401
  let c1_i32_402 : BitVec 32 := 1#32
  let v822 : BitVec 32 := Scalar.select v821 c1_i32_402 c2_i32_400
  let v823 : BitVec 32 := Scalar.remsi v16 v822
  let c0_i32_404 : BitVec 32 := 0#32
  let v825 : BitVec 1 := Scalar.cmpi .slt v823 c0_i32_404
  let c0_i32_405 : BitVec 32 := 0#32
  let v826 : BitVec 1 := Scalar.cmpi .slt v822 c0_i32_405
  let v827 : BitVec 1 := Scalar.xori v825 v826
  let c0_i32_403 : BitVec 32 := 0#32
  let v824 : BitVec 1 := Scalar.cmpi .ne v823 c0_i32_403
  let v828 : BitVec 1 := Scalar.andi v827 v824
  let v829 : BitVec 32 := Scalar.addi v823 v822
  let v830 : BitVec 32 := Scalar.select v828 v829 v823
  let v831 : Index := Scalar.indexCast v830
  let c0_406 : Index := 0#32
  let c1024_407 : Index := 1024#32
  ![v831.toNat, 0, 1024]
def k0_off13 (i : grid0.Coords) : Fin 3 → Nat :=
  let arg0 : BitVec 32 := BitVec.ofNat 32 (i 0).val
  let c6_i32 : BitVec 32 := 6#32
  let c0_i32_25 : BitVec 32 := 0#32
  let v62 : BitVec 1 := Scalar.cmpi .eq c6_i32 c0_i32_25
  let c1_i32_26 : BitVec 32 := 1#32
  let v63 : BitVec 32 := Scalar.select v62 c1_i32_26 c6_i32
  let v64 : BitVec 32 := Scalar.remsi arg0 v63
  let c0_i32_28 : BitVec 32 := 0#32
  let v66 : BitVec 1 := Scalar.cmpi .slt v64 c0_i32_28
  let c0_i32_29 : BitVec 32 := 0#32
  let v67 : BitVec 1 := Scalar.cmpi .slt v63 c0_i32_29
  let v68 : BitVec 1 := Scalar.xori v66 v67
  let c0_i32_27 : BitVec 32 := 0#32
  let v65 : BitVec 1 := Scalar.cmpi .ne v64 c0_i32_27
  let v69 : BitVec 1 := Scalar.andi v68 v65
  let v70 : BitVec 32 := Scalar.addi v64 v63
  let v71 : BitVec 32 := Scalar.select v69 v70 v64
  let v967 : Index := Scalar.indexCast v71
  let c0_474 : Index := 0#32
  let c1280_475 : Index := 1280#32
  ![v967.toNat, 0, 1280]
def k0_off14 (i : grid0.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c3_i32 : BitVec 32 := 3#32
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let v0 : BitVec 32 := Scalar.divsi arg0 c3_i32
  let c1_i32 : BitVec 32 := 1#32
  let v15 : BitVec 32 := Scalar.subi v0 c1_i32
  let v16 : BitVec 32 := Scalar.select v14 v15 v0
  let c2_i32_477 : BitVec 32 := 2#32
  let c0_i32_478 : BitVec 32 := 0#32
  let v977 : BitVec 1 := Scalar.cmpi .eq c2_i32_477 c0_i32_478
  let c1_i32_479 : BitVec 32 := 1#32
  let v978 : BitVec 32 := Scalar.select v977 c1_i32_479 c2_i32_477
  let v979 : BitVec 32 := Scalar.remsi v16 v978
  let c0_i32_481 : BitVec 32 := 0#32
  let v981 : BitVec 1 := Scalar.cmpi .slt v979 c0_i32_481
  let c0_i32_482 : BitVec 32 := 0#32
  let v982 : BitVec 1 := Scalar.cmpi .slt v978 c0_i32_482
  let v983 : BitVec 1 := Scalar.xori v981 v982
  let c0_i32_480 : BitVec 32 := 0#32
  let v980 : BitVec 1 := Scalar.cmpi .ne v979 c0_i32_480
  let v984 : BitVec 1 := Scalar.andi v983 v980
  let v985 : BitVec 32 := Scalar.addi v979 v978
  let v986 : BitVec 32 := Scalar.select v984 v985 v979
  let v987 : Index := Scalar.indexCast v986
  let c0_483 : Index := 0#32
  let c1280_484 : Index := 1280#32
  ![v987.toNat, 0, 1280]
def k0_off15 (i : grid0.Coords) : Fin 3 → Nat :=
  let arg0 : BitVec 32 := BitVec.ofNat 32 (i 0).val
  let c6_i32 : BitVec 32 := 6#32
  let c0_i32_25 : BitVec 32 := 0#32
  let v62 : BitVec 1 := Scalar.cmpi .eq c6_i32 c0_i32_25
  let c1_i32_26 : BitVec 32 := 1#32
  let v63 : BitVec 32 := Scalar.select v62 c1_i32_26 c6_i32
  let v64 : BitVec 32 := Scalar.remsi arg0 v63
  let c0_i32_28 : BitVec 32 := 0#32
  let v66 : BitVec 1 := Scalar.cmpi .slt v64 c0_i32_28
  let c0_i32_29 : BitVec 32 := 0#32
  let v67 : BitVec 1 := Scalar.cmpi .slt v63 c0_i32_29
  let v68 : BitVec 1 := Scalar.xori v66 v67
  let c0_i32_27 : BitVec 32 := 0#32
  let v65 : BitVec 1 := Scalar.cmpi .ne v64 c0_i32_27
  let v69 : BitVec 1 := Scalar.andi v68 v65
  let v70 : BitVec 32 := Scalar.addi v64 v63
  let v71 : BitVec 32 := Scalar.select v69 v70 v64
  let v1123 : Index := Scalar.indexCast v71
  let c0_552 : Index := 0#32
  let c1536_553 : Index := 1536#32
  ![v1123.toNat, 0, 1536]
def k0_off16 (i : grid0.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c3_i32 : BitVec 32 := 3#32
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let v0 : BitVec 32 := Scalar.divsi arg0 c3_i32
  let c1_i32 : BitVec 32 := 1#32
  let v15 : BitVec 32 := Scalar.subi v0 c1_i32
  let v16 : BitVec 32 := Scalar.select v14 v15 v0
  let c2_i32_555 : BitVec 32 := 2#32
  let c0_i32_556 : BitVec 32 := 0#32
  let v1133 : BitVec 1 := Scalar.cmpi .eq c2_i32_555 c0_i32_556
  let c1_i32_557 : BitVec 32 := 1#32
  let v1134 : BitVec 32 := Scalar.select v1133 c1_i32_557 c2_i32_555
  let v1135 : BitVec 32 := Scalar.remsi v16 v1134
  let c0_i32_559 : BitVec 32 := 0#32
  let v1137 : BitVec 1 := Scalar.cmpi .slt v1135 c0_i32_559
  let c0_i32_560 : BitVec 32 := 0#32
  let v1138 : BitVec 1 := Scalar.cmpi .slt v1134 c0_i32_560
  let v1139 : BitVec 1 := Scalar.xori v1137 v1138
  let c0_i32_558 : BitVec 32 := 0#32
  let v1136 : BitVec 1 := Scalar.cmpi .ne v1135 c0_i32_558
  let v1140 : BitVec 1 := Scalar.andi v1139 v1136
  let v1141 : BitVec 32 := Scalar.addi v1135 v1134
  let v1142 : BitVec 32 := Scalar.select v1140 v1141 v1135
  let v1143 : Index := Scalar.indexCast v1142
  let c0_561 : Index := 0#32
  let c1536_562 : Index := 1536#32
  ![v1143.toNat, 0, 1536]
def k0_off17 (i : grid0.Coords) : Fin 3 → Nat :=
  let arg0 : BitVec 32 := BitVec.ofNat 32 (i 0).val
  let c6_i32 : BitVec 32 := 6#32
  let c0_i32_25 : BitVec 32 := 0#32
  let v62 : BitVec 1 := Scalar.cmpi .eq c6_i32 c0_i32_25
  let c1_i32_26 : BitVec 32 := 1#32
  let v63 : BitVec 32 := Scalar.select v62 c1_i32_26 c6_i32
  let v64 : BitVec 32 := Scalar.remsi arg0 v63
  let c0_i32_28 : BitVec 32 := 0#32
  let v66 : BitVec 1 := Scalar.cmpi .slt v64 c0_i32_28
  let c0_i32_29 : BitVec 32 := 0#32
  let v67 : BitVec 1 := Scalar.cmpi .slt v63 c0_i32_29
  let v68 : BitVec 1 := Scalar.xori v66 v67
  let c0_i32_27 : BitVec 32 := 0#32
  let v65 : BitVec 1 := Scalar.cmpi .ne v64 c0_i32_27
  let v69 : BitVec 1 := Scalar.andi v68 v65
  let v70 : BitVec 32 := Scalar.addi v64 v63
  let v71 : BitVec 32 := Scalar.select v69 v70 v64
  let v1279 : Index := Scalar.indexCast v71
  let c0_629 : Index := 0#32
  let c1792_630 : Index := 1792#32
  ![v1279.toNat, 0, 1792]
def k0_off18 (i : grid0.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c3_i32 : BitVec 32 := 3#32
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let v0 : BitVec 32 := Scalar.divsi arg0 c3_i32
  let c1_i32 : BitVec 32 := 1#32
  let v15 : BitVec 32 := Scalar.subi v0 c1_i32
  let v16 : BitVec 32 := Scalar.select v14 v15 v0
  let c2_i32_632 : BitVec 32 := 2#32
  let c0_i32_633 : BitVec 32 := 0#32
  let v1289 : BitVec 1 := Scalar.cmpi .eq c2_i32_632 c0_i32_633
  let c1_i32_634 : BitVec 32 := 1#32
  let v1290 : BitVec 32 := Scalar.select v1289 c1_i32_634 c2_i32_632
  let v1291 : BitVec 32 := Scalar.remsi v16 v1290
  let c0_i32_636 : BitVec 32 := 0#32
  let v1293 : BitVec 1 := Scalar.cmpi .slt v1291 c0_i32_636
  let c0_i32_637 : BitVec 32 := 0#32
  let v1294 : BitVec 1 := Scalar.cmpi .slt v1290 c0_i32_637
  let v1295 : BitVec 1 := Scalar.xori v1293 v1294
  let c0_i32_635 : BitVec 32 := 0#32
  let v1292 : BitVec 1 := Scalar.cmpi .ne v1291 c0_i32_635
  let v1296 : BitVec 1 := Scalar.andi v1295 v1292
  let v1297 : BitVec 32 := Scalar.addi v1291 v1290
  let v1298 : BitVec 32 := Scalar.select v1296 v1297 v1291
  let v1299 : Index := Scalar.indexCast v1298
  let c0_638 : Index := 0#32
  let c1792_639 : Index := 1792#32
  ![v1299.toNat, 0, 1792]
def k0_off19 (i : grid0.Coords) : Fin 3 → Nat :=
  let arg0 : BitVec 32 := BitVec.ofNat 32 (i 0).val
  let c6_i32 : BitVec 32 := 6#32
  let c0_i32_25 : BitVec 32 := 0#32
  let v62 : BitVec 1 := Scalar.cmpi .eq c6_i32 c0_i32_25
  let c1_i32_26 : BitVec 32 := 1#32
  let v63 : BitVec 32 := Scalar.select v62 c1_i32_26 c6_i32
  let v64 : BitVec 32 := Scalar.remsi arg0 v63
  let c0_i32_28 : BitVec 32 := 0#32
  let v66 : BitVec 1 := Scalar.cmpi .slt v64 c0_i32_28
  let c0_i32_29 : BitVec 32 := 0#32
  let v67 : BitVec 1 := Scalar.cmpi .slt v63 c0_i32_29
  let v68 : BitVec 1 := Scalar.xori v66 v67
  let c0_i32_27 : BitVec 32 := 0#32
  let v65 : BitVec 1 := Scalar.cmpi .ne v64 c0_i32_27
  let v69 : BitVec 1 := Scalar.andi v68 v65
  let v70 : BitVec 32 := Scalar.addi v64 v63
  let v71 : BitVec 32 := Scalar.select v69 v70 v64
  let v1435 : Index := Scalar.indexCast v71
  let c0_707 : Index := 0#32
  let c2048_708 : Index := 2048#32
  ![v1435.toNat, 0, 2048]
def k0_off20 (i : grid0.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c3_i32 : BitVec 32 := 3#32
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let v0 : BitVec 32 := Scalar.divsi arg0 c3_i32
  let c1_i32 : BitVec 32 := 1#32
  let v15 : BitVec 32 := Scalar.subi v0 c1_i32
  let v16 : BitVec 32 := Scalar.select v14 v15 v0
  let c2_i32_710 : BitVec 32 := 2#32
  let c0_i32_711 : BitVec 32 := 0#32
  let v1445 : BitVec 1 := Scalar.cmpi .eq c2_i32_710 c0_i32_711
  let c1_i32_712 : BitVec 32 := 1#32
  let v1446 : BitVec 32 := Scalar.select v1445 c1_i32_712 c2_i32_710
  let v1447 : BitVec 32 := Scalar.remsi v16 v1446
  let c0_i32_714 : BitVec 32 := 0#32
  let v1449 : BitVec 1 := Scalar.cmpi .slt v1447 c0_i32_714
  let c0_i32_715 : BitVec 32 := 0#32
  let v1450 : BitVec 1 := Scalar.cmpi .slt v1446 c0_i32_715
  let v1451 : BitVec 1 := Scalar.xori v1449 v1450
  let c0_i32_713 : BitVec 32 := 0#32
  let v1448 : BitVec 1 := Scalar.cmpi .ne v1447 c0_i32_713
  let v1452 : BitVec 1 := Scalar.andi v1451 v1448
  let v1453 : BitVec 32 := Scalar.addi v1447 v1446
  let v1454 : BitVec 32 := Scalar.select v1452 v1453 v1447
  let v1455 : Index := Scalar.indexCast v1454
  let c0_716 : Index := 0#32
  let c2048_717 : Index := 2048#32
  ![v1455.toNat, 0, 2048]
def k0_off21 (i : grid0.Coords) : Fin 3 → Nat :=
  let arg0 : BitVec 32 := BitVec.ofNat 32 (i 0).val
  let c6_i32 : BitVec 32 := 6#32
  let c0_i32_25 : BitVec 32 := 0#32
  let v62 : BitVec 1 := Scalar.cmpi .eq c6_i32 c0_i32_25
  let c1_i32_26 : BitVec 32 := 1#32
  let v63 : BitVec 32 := Scalar.select v62 c1_i32_26 c6_i32
  let v64 : BitVec 32 := Scalar.remsi arg0 v63
  let c0_i32_28 : BitVec 32 := 0#32
  let v66 : BitVec 1 := Scalar.cmpi .slt v64 c0_i32_28
  let c0_i32_29 : BitVec 32 := 0#32
  let v67 : BitVec 1 := Scalar.cmpi .slt v63 c0_i32_29
  let v68 : BitVec 1 := Scalar.xori v66 v67
  let c0_i32_27 : BitVec 32 := 0#32
  let v65 : BitVec 1 := Scalar.cmpi .ne v64 c0_i32_27
  let v69 : BitVec 1 := Scalar.andi v68 v65
  let v70 : BitVec 32 := Scalar.addi v64 v63
  let v71 : BitVec 32 := Scalar.select v69 v70 v64
  let v1591 : Index := Scalar.indexCast v71
  let c0_784 : Index := 0#32
  let c2304_785 : Index := 2304#32
  ![v1591.toNat, 0, 2304]
def k0_off22 (i : grid0.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c3_i32 : BitVec 32 := 3#32
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let v0 : BitVec 32 := Scalar.divsi arg0 c3_i32
  let c1_i32 : BitVec 32 := 1#32
  let v15 : BitVec 32 := Scalar.subi v0 c1_i32
  let v16 : BitVec 32 := Scalar.select v14 v15 v0
  let c2_i32_787 : BitVec 32 := 2#32
  let c0_i32_788 : BitVec 32 := 0#32
  let v1601 : BitVec 1 := Scalar.cmpi .eq c2_i32_787 c0_i32_788
  let c1_i32_789 : BitVec 32 := 1#32
  let v1602 : BitVec 32 := Scalar.select v1601 c1_i32_789 c2_i32_787
  let v1603 : BitVec 32 := Scalar.remsi v16 v1602
  let c0_i32_791 : BitVec 32 := 0#32
  let v1605 : BitVec 1 := Scalar.cmpi .slt v1603 c0_i32_791
  let c0_i32_792 : BitVec 32 := 0#32
  let v1606 : BitVec 1 := Scalar.cmpi .slt v1602 c0_i32_792
  let v1607 : BitVec 1 := Scalar.xori v1605 v1606
  let c0_i32_790 : BitVec 32 := 0#32
  let v1604 : BitVec 1 := Scalar.cmpi .ne v1603 c0_i32_790
  let v1608 : BitVec 1 := Scalar.andi v1607 v1604
  let v1609 : BitVec 32 := Scalar.addi v1603 v1602
  let v1610 : BitVec 32 := Scalar.select v1608 v1609 v1603
  let v1611 : Index := Scalar.indexCast v1610
  let c0_793 : Index := 0#32
  let c2304_794 : Index := 2304#32
  ![v1611.toNat, 0, 2304]
def k0_off23 (i : grid0.Coords) : Fin 3 → Nat :=
  let arg0 : BitVec 32 := BitVec.ofNat 32 (i 0).val
  let c6_i32 : BitVec 32 := 6#32
  let c0_i32_25 : BitVec 32 := 0#32
  let v62 : BitVec 1 := Scalar.cmpi .eq c6_i32 c0_i32_25
  let c1_i32_26 : BitVec 32 := 1#32
  let v63 : BitVec 32 := Scalar.select v62 c1_i32_26 c6_i32
  let v64 : BitVec 32 := Scalar.remsi arg0 v63
  let c0_i32_28 : BitVec 32 := 0#32
  let v66 : BitVec 1 := Scalar.cmpi .slt v64 c0_i32_28
  let c0_i32_29 : BitVec 32 := 0#32
  let v67 : BitVec 1 := Scalar.cmpi .slt v63 c0_i32_29
  let v68 : BitVec 1 := Scalar.xori v66 v67
  let c0_i32_27 : BitVec 32 := 0#32
  let v65 : BitVec 1 := Scalar.cmpi .ne v64 c0_i32_27
  let v69 : BitVec 1 := Scalar.andi v68 v65
  let v70 : BitVec 32 := Scalar.addi v64 v63
  let v71 : BitVec 32 := Scalar.select v69 v70 v64
  let v1747 : Index := Scalar.indexCast v71
  let c0_862 : Index := 0#32
  let c2560_863 : Index := 2560#32
  ![v1747.toNat, 0, 2560]
def k0_off24 (i : grid0.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c3_i32 : BitVec 32 := 3#32
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let v0 : BitVec 32 := Scalar.divsi arg0 c3_i32
  let c1_i32 : BitVec 32 := 1#32
  let v15 : BitVec 32 := Scalar.subi v0 c1_i32
  let v16 : BitVec 32 := Scalar.select v14 v15 v0
  let c2_i32_865 : BitVec 32 := 2#32
  let c0_i32_866 : BitVec 32 := 0#32
  let v1757 : BitVec 1 := Scalar.cmpi .eq c2_i32_865 c0_i32_866
  let c1_i32_867 : BitVec 32 := 1#32
  let v1758 : BitVec 32 := Scalar.select v1757 c1_i32_867 c2_i32_865
  let v1759 : BitVec 32 := Scalar.remsi v16 v1758
  let c0_i32_869 : BitVec 32 := 0#32
  let v1761 : BitVec 1 := Scalar.cmpi .slt v1759 c0_i32_869
  let c0_i32_870 : BitVec 32 := 0#32
  let v1762 : BitVec 1 := Scalar.cmpi .slt v1758 c0_i32_870
  let v1763 : BitVec 1 := Scalar.xori v1761 v1762
  let c0_i32_868 : BitVec 32 := 0#32
  let v1760 : BitVec 1 := Scalar.cmpi .ne v1759 c0_i32_868
  let v1764 : BitVec 1 := Scalar.andi v1763 v1760
  let v1765 : BitVec 32 := Scalar.addi v1759 v1758
  let v1766 : BitVec 32 := Scalar.select v1764 v1765 v1759
  let v1767 : Index := Scalar.indexCast v1766
  let c0_871 : Index := 0#32
  let c2560_872 : Index := 2560#32
  ![v1767.toNat, 0, 2560]
def k0_off25 (i : grid0.Coords) : Fin 3 → Nat :=
  let arg0 : BitVec 32 := BitVec.ofNat 32 (i 0).val
  let c6_i32 : BitVec 32 := 6#32
  let c0_i32_25 : BitVec 32 := 0#32
  let v62 : BitVec 1 := Scalar.cmpi .eq c6_i32 c0_i32_25
  let c1_i32_26 : BitVec 32 := 1#32
  let v63 : BitVec 32 := Scalar.select v62 c1_i32_26 c6_i32
  let v64 : BitVec 32 := Scalar.remsi arg0 v63
  let c0_i32_28 : BitVec 32 := 0#32
  let v66 : BitVec 1 := Scalar.cmpi .slt v64 c0_i32_28
  let c0_i32_29 : BitVec 32 := 0#32
  let v67 : BitVec 1 := Scalar.cmpi .slt v63 c0_i32_29
  let v68 : BitVec 1 := Scalar.xori v66 v67
  let c0_i32_27 : BitVec 32 := 0#32
  let v65 : BitVec 1 := Scalar.cmpi .ne v64 c0_i32_27
  let v69 : BitVec 1 := Scalar.andi v68 v65
  let v70 : BitVec 32 := Scalar.addi v64 v63
  let v71 : BitVec 32 := Scalar.select v69 v70 v64
  let v1907 : Index := Scalar.indexCast v71
  let c0_945 : Index := 0#32
  let c2816_946 : Index := 2816#32
  ![v1907.toNat, 0, 2816]
def k0_off26 (i : grid0.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c3_i32 : BitVec 32 := 3#32
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let v0 : BitVec 32 := Scalar.divsi arg0 c3_i32
  let c1_i32 : BitVec 32 := 1#32
  let v15 : BitVec 32 := Scalar.subi v0 c1_i32
  let v16 : BitVec 32 := Scalar.select v14 v15 v0
  let c2_i32_949 : BitVec 32 := 2#32
  let c0_i32_950 : BitVec 32 := 0#32
  let v1917 : BitVec 1 := Scalar.cmpi .eq c2_i32_949 c0_i32_950
  let c1_i32_951 : BitVec 32 := 1#32
  let v1918 : BitVec 32 := Scalar.select v1917 c1_i32_951 c2_i32_949
  let v1919 : BitVec 32 := Scalar.remsi v16 v1918
  let c0_i32_953 : BitVec 32 := 0#32
  let v1921 : BitVec 1 := Scalar.cmpi .slt v1919 c0_i32_953
  let c0_i32_954 : BitVec 32 := 0#32
  let v1922 : BitVec 1 := Scalar.cmpi .slt v1918 c0_i32_954
  let v1923 : BitVec 1 := Scalar.xori v1921 v1922
  let c0_i32_952 : BitVec 32 := 0#32
  let v1920 : BitVec 1 := Scalar.cmpi .ne v1919 c0_i32_952
  let v1924 : BitVec 1 := Scalar.andi v1923 v1920
  let v1925 : BitVec 32 := Scalar.addi v1919 v1918
  let v1926 : BitVec 32 := Scalar.select v1924 v1925 v1919
  let v1927 : Index := Scalar.indexCast v1926
  let c0_955 : Index := 0#32
  let c2816_956 : Index := 2816#32
  ![v1927.toNat, 0, 2816]
def k0_off27 (i : grid0.Coords) : Fin 3 → Nat :=
  let arg0 : BitVec 32 := BitVec.ofNat 32 (i 0).val
  let c6_i32 : BitVec 32 := 6#32
  let c0_i32_25 : BitVec 32 := 0#32
  let v62 : BitVec 1 := Scalar.cmpi .eq c6_i32 c0_i32_25
  let c1_i32_26 : BitVec 32 := 1#32
  let v63 : BitVec 32 := Scalar.select v62 c1_i32_26 c6_i32
  let v64 : BitVec 32 := Scalar.remsi arg0 v63
  let c0_i32_28 : BitVec 32 := 0#32
  let v66 : BitVec 1 := Scalar.cmpi .slt v64 c0_i32_28
  let c0_i32_29 : BitVec 32 := 0#32
  let v67 : BitVec 1 := Scalar.cmpi .slt v63 c0_i32_29
  let v68 : BitVec 1 := Scalar.xori v66 v67
  let c0_i32_27 : BitVec 32 := 0#32
  let v65 : BitVec 1 := Scalar.cmpi .ne v64 c0_i32_27
  let v69 : BitVec 1 := Scalar.andi v68 v65
  let v70 : BitVec 32 := Scalar.addi v64 v63
  let v71 : BitVec 32 := Scalar.select v69 v70 v64
  let v1991 : Index := Scalar.indexCast v71
  let c0_988 : Index := 0#32
  let c0_989 : Index := 0#32
  ![v1991.toNat, 0, 0]
def k0_off28 (i : grid0.Coords) : Fin 3 → Nat :=
  let arg0 : BitVec 32 := BitVec.ofNat 32 (i 0).val
  let c6_i32 : BitVec 32 := 6#32
  let c0_i32_25 : BitVec 32 := 0#32
  let v62 : BitVec 1 := Scalar.cmpi .eq c6_i32 c0_i32_25
  let c1_i32_26 : BitVec 32 := 1#32
  let v63 : BitVec 32 := Scalar.select v62 c1_i32_26 c6_i32
  let v64 : BitVec 32 := Scalar.remsi arg0 v63
  let c0_i32_28 : BitVec 32 := 0#32
  let v66 : BitVec 1 := Scalar.cmpi .slt v64 c0_i32_28
  let c0_i32_29 : BitVec 32 := 0#32
  let v67 : BitVec 1 := Scalar.cmpi .slt v63 c0_i32_29
  let v68 : BitVec 1 := Scalar.xori v66 v67
  let c0_i32_27 : BitVec 32 := 0#32
  let v65 : BitVec 1 := Scalar.cmpi .ne v64 c0_i32_27
  let v69 : BitVec 1 := Scalar.andi v68 v65
  let v70 : BitVec 32 := Scalar.addi v64 v63
  let v71 : BitVec 32 := Scalar.select v69 v70 v64
  let v2113 : Index := Scalar.indexCast v71
  let c64_1054 : Index := 64#32
  let c0_1055 : Index := 0#32
  ![v2113.toNat, 64, 0]
def k0_off29 (i : grid0.Coords) : Fin 3 → Nat :=
  let arg0 : BitVec 32 := BitVec.ofNat 32 (i 0).val
  let c6_i32 : BitVec 32 := 6#32
  let c0_i32_25 : BitVec 32 := 0#32
  let v62 : BitVec 1 := Scalar.cmpi .eq c6_i32 c0_i32_25
  let c1_i32_26 : BitVec 32 := 1#32
  let v63 : BitVec 32 := Scalar.select v62 c1_i32_26 c6_i32
  let v64 : BitVec 32 := Scalar.remsi arg0 v63
  let c0_i32_28 : BitVec 32 := 0#32
  let v66 : BitVec 1 := Scalar.cmpi .slt v64 c0_i32_28
  let c0_i32_29 : BitVec 32 := 0#32
  let v67 : BitVec 1 := Scalar.cmpi .slt v63 c0_i32_29
  let v68 : BitVec 1 := Scalar.xori v66 v67
  let c0_i32_27 : BitVec 32 := 0#32
  let v65 : BitVec 1 := Scalar.cmpi .ne v64 c0_i32_27
  let v69 : BitVec 1 := Scalar.andi v68 v65
  let v70 : BitVec 32 := Scalar.addi v64 v63
  let v71 : BitVec 32 := Scalar.select v69 v70 v64
  let v2269 : Index := Scalar.indexCast v71
  let c64_1133 : Index := 64#32
  let c256_1134 : Index := 256#32
  ![v2269.toNat, 64, 256]
def k0_off30 (i : grid0.Coords) : Fin 3 → Nat :=
  let arg0 : BitVec 32 := BitVec.ofNat 32 (i 0).val
  let c6_i32 : BitVec 32 := 6#32
  let c0_i32_25 : BitVec 32 := 0#32
  let v62 : BitVec 1 := Scalar.cmpi .eq c6_i32 c0_i32_25
  let c1_i32_26 : BitVec 32 := 1#32
  let v63 : BitVec 32 := Scalar.select v62 c1_i32_26 c6_i32
  let v64 : BitVec 32 := Scalar.remsi arg0 v63
  let c0_i32_28 : BitVec 32 := 0#32
  let v66 : BitVec 1 := Scalar.cmpi .slt v64 c0_i32_28
  let c0_i32_29 : BitVec 32 := 0#32
  let v67 : BitVec 1 := Scalar.cmpi .slt v63 c0_i32_29
  let v68 : BitVec 1 := Scalar.xori v66 v67
  let c0_i32_27 : BitVec 32 := 0#32
  let v65 : BitVec 1 := Scalar.cmpi .ne v64 c0_i32_27
  let v69 : BitVec 1 := Scalar.andi v68 v65
  let v70 : BitVec 32 := Scalar.addi v64 v63
  let v71 : BitVec 32 := Scalar.select v69 v70 v64
  let v2425 : Index := Scalar.indexCast v71
  let c64_1212 : Index := 64#32
  let c512_1213 : Index := 512#32
  ![v2425.toNat, 64, 512]
def k0_off31 (i : grid0.Coords) : Fin 3 → Nat :=
  let arg0 : BitVec 32 := BitVec.ofNat 32 (i 0).val
  let c6_i32 : BitVec 32 := 6#32
  let c0_i32_25 : BitVec 32 := 0#32
  let v62 : BitVec 1 := Scalar.cmpi .eq c6_i32 c0_i32_25
  let c1_i32_26 : BitVec 32 := 1#32
  let v63 : BitVec 32 := Scalar.select v62 c1_i32_26 c6_i32
  let v64 : BitVec 32 := Scalar.remsi arg0 v63
  let c0_i32_28 : BitVec 32 := 0#32
  let v66 : BitVec 1 := Scalar.cmpi .slt v64 c0_i32_28
  let c0_i32_29 : BitVec 32 := 0#32
  let v67 : BitVec 1 := Scalar.cmpi .slt v63 c0_i32_29
  let v68 : BitVec 1 := Scalar.xori v66 v67
  let c0_i32_27 : BitVec 32 := 0#32
  let v65 : BitVec 1 := Scalar.cmpi .ne v64 c0_i32_27
  let v69 : BitVec 1 := Scalar.andi v68 v65
  let v70 : BitVec 32 := Scalar.addi v64 v63
  let v71 : BitVec 32 := Scalar.select v69 v70 v64
  let v2581 : Index := Scalar.indexCast v71
  let c64_1291 : Index := 64#32
  let c768_1292 : Index := 768#32
  ![v2581.toNat, 64, 768]
def k0_off32 (i : grid0.Coords) : Fin 3 → Nat :=
  let arg0 : BitVec 32 := BitVec.ofNat 32 (i 0).val
  let c6_i32 : BitVec 32 := 6#32
  let c0_i32_25 : BitVec 32 := 0#32
  let v62 : BitVec 1 := Scalar.cmpi .eq c6_i32 c0_i32_25
  let c1_i32_26 : BitVec 32 := 1#32
  let v63 : BitVec 32 := Scalar.select v62 c1_i32_26 c6_i32
  let v64 : BitVec 32 := Scalar.remsi arg0 v63
  let c0_i32_28 : BitVec 32 := 0#32
  let v66 : BitVec 1 := Scalar.cmpi .slt v64 c0_i32_28
  let c0_i32_29 : BitVec 32 := 0#32
  let v67 : BitVec 1 := Scalar.cmpi .slt v63 c0_i32_29
  let v68 : BitVec 1 := Scalar.xori v66 v67
  let c0_i32_27 : BitVec 32 := 0#32
  let v65 : BitVec 1 := Scalar.cmpi .ne v64 c0_i32_27
  let v69 : BitVec 1 := Scalar.andi v68 v65
  let v70 : BitVec 32 := Scalar.addi v64 v63
  let v71 : BitVec 32 := Scalar.select v69 v70 v64
  let v2737 : Index := Scalar.indexCast v71
  let c64_1370 : Index := 64#32
  let c1024_1371 : Index := 1024#32
  ![v2737.toNat, 64, 1024]
def k0_off33 (i : grid0.Coords) : Fin 3 → Nat :=
  let arg0 : BitVec 32 := BitVec.ofNat 32 (i 0).val
  let c6_i32 : BitVec 32 := 6#32
  let c0_i32_25 : BitVec 32 := 0#32
  let v62 : BitVec 1 := Scalar.cmpi .eq c6_i32 c0_i32_25
  let c1_i32_26 : BitVec 32 := 1#32
  let v63 : BitVec 32 := Scalar.select v62 c1_i32_26 c6_i32
  let v64 : BitVec 32 := Scalar.remsi arg0 v63
  let c0_i32_28 : BitVec 32 := 0#32
  let v66 : BitVec 1 := Scalar.cmpi .slt v64 c0_i32_28
  let c0_i32_29 : BitVec 32 := 0#32
  let v67 : BitVec 1 := Scalar.cmpi .slt v63 c0_i32_29
  let v68 : BitVec 1 := Scalar.xori v66 v67
  let c0_i32_27 : BitVec 32 := 0#32
  let v65 : BitVec 1 := Scalar.cmpi .ne v64 c0_i32_27
  let v69 : BitVec 1 := Scalar.andi v68 v65
  let v70 : BitVec 32 := Scalar.addi v64 v63
  let v71 : BitVec 32 := Scalar.select v69 v70 v64
  let v2893 : Index := Scalar.indexCast v71
  let c64_1449 : Index := 64#32
  let c1280_1450 : Index := 1280#32
  ![v2893.toNat, 64, 1280]
def k0_off34 (i : grid0.Coords) : Fin 3 → Nat :=
  let arg0 : BitVec 32 := BitVec.ofNat 32 (i 0).val
  let c6_i32 : BitVec 32 := 6#32
  let c0_i32_25 : BitVec 32 := 0#32
  let v62 : BitVec 1 := Scalar.cmpi .eq c6_i32 c0_i32_25
  let c1_i32_26 : BitVec 32 := 1#32
  let v63 : BitVec 32 := Scalar.select v62 c1_i32_26 c6_i32
  let v64 : BitVec 32 := Scalar.remsi arg0 v63
  let c0_i32_28 : BitVec 32 := 0#32
  let v66 : BitVec 1 := Scalar.cmpi .slt v64 c0_i32_28
  let c0_i32_29 : BitVec 32 := 0#32
  let v67 : BitVec 1 := Scalar.cmpi .slt v63 c0_i32_29
  let v68 : BitVec 1 := Scalar.xori v66 v67
  let c0_i32_27 : BitVec 32 := 0#32
  let v65 : BitVec 1 := Scalar.cmpi .ne v64 c0_i32_27
  let v69 : BitVec 1 := Scalar.andi v68 v65
  let v70 : BitVec 32 := Scalar.addi v64 v63
  let v71 : BitVec 32 := Scalar.select v69 v70 v64
  let v3049 : Index := Scalar.indexCast v71
  let c64_1528 : Index := 64#32
  let c1536_1529 : Index := 1536#32
  ![v3049.toNat, 64, 1536]
def k0_off35 (i : grid0.Coords) : Fin 3 → Nat :=
  let arg0 : BitVec 32 := BitVec.ofNat 32 (i 0).val
  let c6_i32 : BitVec 32 := 6#32
  let c0_i32_25 : BitVec 32 := 0#32
  let v62 : BitVec 1 := Scalar.cmpi .eq c6_i32 c0_i32_25
  let c1_i32_26 : BitVec 32 := 1#32
  let v63 : BitVec 32 := Scalar.select v62 c1_i32_26 c6_i32
  let v64 : BitVec 32 := Scalar.remsi arg0 v63
  let c0_i32_28 : BitVec 32 := 0#32
  let v66 : BitVec 1 := Scalar.cmpi .slt v64 c0_i32_28
  let c0_i32_29 : BitVec 32 := 0#32
  let v67 : BitVec 1 := Scalar.cmpi .slt v63 c0_i32_29
  let v68 : BitVec 1 := Scalar.xori v66 v67
  let c0_i32_27 : BitVec 32 := 0#32
  let v65 : BitVec 1 := Scalar.cmpi .ne v64 c0_i32_27
  let v69 : BitVec 1 := Scalar.andi v68 v65
  let v70 : BitVec 32 := Scalar.addi v64 v63
  let v71 : BitVec 32 := Scalar.select v69 v70 v64
  let v3205 : Index := Scalar.indexCast v71
  let c64_1607 : Index := 64#32
  let c1792_1608 : Index := 1792#32
  ![v3205.toNat, 64, 1792]
def k0_off36 (i : grid0.Coords) : Fin 3 → Nat :=
  let arg0 : BitVec 32 := BitVec.ofNat 32 (i 0).val
  let c6_i32 : BitVec 32 := 6#32
  let c0_i32_25 : BitVec 32 := 0#32
  let v62 : BitVec 1 := Scalar.cmpi .eq c6_i32 c0_i32_25
  let c1_i32_26 : BitVec 32 := 1#32
  let v63 : BitVec 32 := Scalar.select v62 c1_i32_26 c6_i32
  let v64 : BitVec 32 := Scalar.remsi arg0 v63
  let c0_i32_28 : BitVec 32 := 0#32
  let v66 : BitVec 1 := Scalar.cmpi .slt v64 c0_i32_28
  let c0_i32_29 : BitVec 32 := 0#32
  let v67 : BitVec 1 := Scalar.cmpi .slt v63 c0_i32_29
  let v68 : BitVec 1 := Scalar.xori v66 v67
  let c0_i32_27 : BitVec 32 := 0#32
  let v65 : BitVec 1 := Scalar.cmpi .ne v64 c0_i32_27
  let v69 : BitVec 1 := Scalar.andi v68 v65
  let v70 : BitVec 32 := Scalar.addi v64 v63
  let v71 : BitVec 32 := Scalar.select v69 v70 v64
  let v3361 : Index := Scalar.indexCast v71
  let c64_1686 : Index := 64#32
  let c2048_1687 : Index := 2048#32
  ![v3361.toNat, 64, 2048]
def k0_off37 (i : grid0.Coords) : Fin 3 → Nat :=
  let arg0 : BitVec 32 := BitVec.ofNat 32 (i 0).val
  let c6_i32 : BitVec 32 := 6#32
  let c0_i32_25 : BitVec 32 := 0#32
  let v62 : BitVec 1 := Scalar.cmpi .eq c6_i32 c0_i32_25
  let c1_i32_26 : BitVec 32 := 1#32
  let v63 : BitVec 32 := Scalar.select v62 c1_i32_26 c6_i32
  let v64 : BitVec 32 := Scalar.remsi arg0 v63
  let c0_i32_28 : BitVec 32 := 0#32
  let v66 : BitVec 1 := Scalar.cmpi .slt v64 c0_i32_28
  let c0_i32_29 : BitVec 32 := 0#32
  let v67 : BitVec 1 := Scalar.cmpi .slt v63 c0_i32_29
  let v68 : BitVec 1 := Scalar.xori v66 v67
  let c0_i32_27 : BitVec 32 := 0#32
  let v65 : BitVec 1 := Scalar.cmpi .ne v64 c0_i32_27
  let v69 : BitVec 1 := Scalar.andi v68 v65
  let v70 : BitVec 32 := Scalar.addi v64 v63
  let v71 : BitVec 32 := Scalar.select v69 v70 v64
  let v3517 : Index := Scalar.indexCast v71
  let c64_1765 : Index := 64#32
  let c2304_1766 : Index := 2304#32
  ![v3517.toNat, 64, 2304]
def k0_off38 (i : grid0.Coords) : Fin 3 → Nat :=
  let arg0 : BitVec 32 := BitVec.ofNat 32 (i 0).val
  let c6_i32 : BitVec 32 := 6#32
  let c0_i32_25 : BitVec 32 := 0#32
  let v62 : BitVec 1 := Scalar.cmpi .eq c6_i32 c0_i32_25
  let c1_i32_26 : BitVec 32 := 1#32
  let v63 : BitVec 32 := Scalar.select v62 c1_i32_26 c6_i32
  let v64 : BitVec 32 := Scalar.remsi arg0 v63
  let c0_i32_28 : BitVec 32 := 0#32
  let v66 : BitVec 1 := Scalar.cmpi .slt v64 c0_i32_28
  let c0_i32_29 : BitVec 32 := 0#32
  let v67 : BitVec 1 := Scalar.cmpi .slt v63 c0_i32_29
  let v68 : BitVec 1 := Scalar.xori v66 v67
  let c0_i32_27 : BitVec 32 := 0#32
  let v65 : BitVec 1 := Scalar.cmpi .ne v64 c0_i32_27
  let v69 : BitVec 1 := Scalar.andi v68 v65
  let v70 : BitVec 32 := Scalar.addi v64 v63
  let v71 : BitVec 32 := Scalar.select v69 v70 v64
  let v3673 : Index := Scalar.indexCast v71
  let c64_1844 : Index := 64#32
  let c2560_1845 : Index := 2560#32
  ![v3673.toNat, 64, 2560]
def k0_off39 (i : grid0.Coords) : Fin 3 → Nat :=
  let arg0 : BitVec 32 := BitVec.ofNat 32 (i 0).val
  let c6_i32 : BitVec 32 := 6#32
  let c0_i32_25 : BitVec 32 := 0#32
  let v62 : BitVec 1 := Scalar.cmpi .eq c6_i32 c0_i32_25
  let c1_i32_26 : BitVec 32 := 1#32
  let v63 : BitVec 32 := Scalar.select v62 c1_i32_26 c6_i32
  let v64 : BitVec 32 := Scalar.remsi arg0 v63
  let c0_i32_28 : BitVec 32 := 0#32
  let v66 : BitVec 1 := Scalar.cmpi .slt v64 c0_i32_28
  let c0_i32_29 : BitVec 32 := 0#32
  let v67 : BitVec 1 := Scalar.cmpi .slt v63 c0_i32_29
  let v68 : BitVec 1 := Scalar.xori v66 v67
  let c0_i32_27 : BitVec 32 := 0#32
  let v65 : BitVec 1 := Scalar.cmpi .ne v64 c0_i32_27
  let v69 : BitVec 1 := Scalar.andi v68 v65
  let v70 : BitVec 32 := Scalar.addi v64 v63
  let v71 : BitVec 32 := Scalar.select v69 v70 v64
  let v3833 : Index := Scalar.indexCast v71
  let c64_1929 : Index := 64#32
  let c2816_1930 : Index := 2816#32
  ![v3833.toNat, 64, 2816]
def k0_off40 (i : grid0.Coords) : Fin 3 → Nat :=
  let arg0 : BitVec 32 := BitVec.ofNat 32 (i 0).val
  let c6_i32 : BitVec 32 := 6#32
  let c0_i32_25 : BitVec 32 := 0#32
  let v62 : BitVec 1 := Scalar.cmpi .eq c6_i32 c0_i32_25
  let c1_i32_26 : BitVec 32 := 1#32
  let v63 : BitVec 32 := Scalar.select v62 c1_i32_26 c6_i32
  let v64 : BitVec 32 := Scalar.remsi arg0 v63
  let c0_i32_28 : BitVec 32 := 0#32
  let v66 : BitVec 1 := Scalar.cmpi .slt v64 c0_i32_28
  let c0_i32_29 : BitVec 32 := 0#32
  let v67 : BitVec 1 := Scalar.cmpi .slt v63 c0_i32_29
  let v68 : BitVec 1 := Scalar.xori v66 v67
  let c0_i32_27 : BitVec 32 := 0#32
  let v65 : BitVec 1 := Scalar.cmpi .ne v64 c0_i32_27
  let v69 : BitVec 1 := Scalar.andi v68 v65
  let v70 : BitVec 32 := Scalar.addi v64 v63
  let v71 : BitVec 32 := Scalar.select v69 v70 v64
  let v3917 : Index := Scalar.indexCast v71
  let c64_1972 : Index := 64#32
  let c0_1973 : Index := 0#32
  ![v3917.toNat, 64, 0]
def k0_cond4 (i : grid0.Coords) : BitVec 1 :=
  let arg0 : BitVec 32 := BitVec.ofNat 32 (i 0).val
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c2_i32_1981 : BitVec 32 := 2#32
  let v3940 : BitVec 1 := Scalar.cmpi .eq v26 c2_i32_1981
  let v3941 : BitVec 32 := Scalar.extui v3940
  let c0_i32_1982 : BitVec 32 := 0#32
  let v3942 : BitVec 1 := Scalar.cmpi .ne v3941 c0_i32_1982
  v3942

def k0_off41 (i : grid0.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c3_i32 : BitVec 32 := 3#32
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let v0 : BitVec 32 := Scalar.divsi arg0 c3_i32
  let c1_i32 : BitVec 32 := 1#32
  let v15 : BitVec 32 := Scalar.subi v0 c1_i32
  let v16 : BitVec 32 := Scalar.select v14 v15 v0
  let c2_i32_1983 : BitVec 32 := 2#32
  let c0_i32_1984 : BitVec 32 := 0#32
  let v3943 : BitVec 1 := Scalar.cmpi .eq c2_i32_1983 c0_i32_1984
  let c1_i32_1985 : BitVec 32 := 1#32
  let v3944 : BitVec 32 := Scalar.select v3943 c1_i32_1985 c2_i32_1983
  let v3945 : BitVec 32 := Scalar.remsi v16 v3944
  let c0_i32_1987 : BitVec 32 := 0#32
  let v3947 : BitVec 1 := Scalar.cmpi .slt v3945 c0_i32_1987
  let c0_i32_1988 : BitVec 32 := 0#32
  let v3948 : BitVec 1 := Scalar.cmpi .slt v3944 c0_i32_1988
  let v3949 : BitVec 1 := Scalar.xori v3947 v3948
  let c0_i32_1986 : BitVec 32 := 0#32
  let v3946 : BitVec 1 := Scalar.cmpi .ne v3945 c0_i32_1986
  let v3950 : BitVec 1 := Scalar.andi v3949 v3946
  let v3951 : BitVec 32 := Scalar.addi v3945 v3944
  let v3952 : BitVec 32 := Scalar.select v3950 v3951 v3945
  let v3953 : Index := Scalar.indexCast v3952
  let c0_1989 : Index := 0#32
  let c0_1990 : Index := 0#32
  ![v3953.toNat, 0, 0]
def k0_off42 (i : grid0.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c3_i32 : BitVec 32 := 3#32
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let v0 : BitVec 32 := Scalar.divsi arg0 c3_i32
  let c1_i32 : BitVec 32 := 1#32
  let v15 : BitVec 32 := Scalar.subi v0 c1_i32
  let v16 : BitVec 32 := Scalar.select v14 v15 v0
  let c2_i32_2000 : BitVec 32 := 2#32
  let c0_i32_2001 : BitVec 32 := 0#32
  let v3975 : BitVec 1 := Scalar.cmpi .eq c2_i32_2000 c0_i32_2001
  let c1_i32_2002 : BitVec 32 := 1#32
  let v3976 : BitVec 32 := Scalar.select v3975 c1_i32_2002 c2_i32_2000
  let v3977 : BitVec 32 := Scalar.remsi v16 v3976
  let c0_i32_2004 : BitVec 32 := 0#32
  let v3979 : BitVec 1 := Scalar.cmpi .slt v3977 c0_i32_2004
  let c0_i32_2005 : BitVec 32 := 0#32
  let v3980 : BitVec 1 := Scalar.cmpi .slt v3976 c0_i32_2005
  let v3981 : BitVec 1 := Scalar.xori v3979 v3980
  let c0_i32_2003 : BitVec 32 := 0#32
  let v3978 : BitVec 1 := Scalar.cmpi .ne v3977 c0_i32_2003
  let v3982 : BitVec 1 := Scalar.andi v3981 v3978
  let v3983 : BitVec 32 := Scalar.addi v3977 v3976
  let v3984 : BitVec 32 := Scalar.select v3982 v3983 v3977
  let v3985 : Index := Scalar.indexCast v3984
  let c0_2006 : Index := 0#32
  let c0_2007 : Index := 0#32
  ![v3985.toNat, 0, 0]
def k0_cond5 (i : grid0.Coords) : BitVec 1 :=
  let arg0 : BitVec 32 := BitVec.ofNat 32 (i 0).val
  let c3_i32_13 : BitVec 32 := 3#32
  let v33 : BitVec 1 := Scalar.cmpi .sge arg0 c3_i32_13
  let v34 : BitVec 32 := Scalar.extui v33
  let c0_i32_14 : BitVec 32 := 0#32
  let v35 : BitVec 1 := Scalar.cmpi .ne v34 c0_i32_14
  v35

def k0_off43 (i : grid0.Coords) : Fin 3 → Nat :=
  let arg0 : BitVec 32 := BitVec.ofNat 32 (i 0).val
  let c3_i32_15 : BitVec 32 := 3#32
  let v36 : BitVec 32 := Scalar.subi arg0 c3_i32_15
  let c6_i32 : BitVec 32 := 6#32
  let c0_i32_16 : BitVec 32 := 0#32
  let v37 : BitVec 1 := Scalar.cmpi .eq c6_i32 c0_i32_16
  let c1_i32_17 : BitVec 32 := 1#32
  let v38 : BitVec 32 := Scalar.select v37 c1_i32_17 c6_i32
  let v39 : BitVec 32 := Scalar.remsi v36 v38
  let c0_i32_19 : BitVec 32 := 0#32
  let v41 : BitVec 1 := Scalar.cmpi .slt v39 c0_i32_19
  let c0_i32_20 : BitVec 32 := 0#32
  let v42 : BitVec 1 := Scalar.cmpi .slt v38 c0_i32_20
  let v43 : BitVec 1 := Scalar.xori v41 v42
  let c0_i32_18 : BitVec 32 := 0#32
  let v40 : BitVec 1 := Scalar.cmpi .ne v39 c0_i32_18
  let v44 : BitVec 1 := Scalar.andi v43 v40
  let v45 : BitVec 32 := Scalar.addi v39 v38
  let v46 : BitVec 32 := Scalar.select v44 v45 v39
  let v58 : Index := Scalar.indexCast v46
  let c0 : Index := 0#32
  let c0_27 : Index := 0#32
  ![v58.toNat, 0, 0]
def k0_off44 (i : grid0.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c3_i32 : BitVec 32 := 3#32
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let v0 : BitVec 32 := Scalar.divsi arg0 c3_i32
  let c1_i32 : BitVec 32 := 1#32
  let v15 : BitVec 32 := Scalar.subi v0 c1_i32
  let v16 : BitVec 32 := Scalar.select v14 v15 v0
  let c1_i32_21 : BitVec 32 := 1#32
  let v47 : BitVec 32 := Scalar.addi v16 c1_i32_21
  let c2_i32 : BitVec 32 := 2#32
  let c0_i32_22 : BitVec 32 := 0#32
  let v48 : BitVec 1 := Scalar.cmpi .eq c2_i32 c0_i32_22
  let c1_i32_23 : BitVec 32 := 1#32
  let v49 : BitVec 32 := Scalar.select v48 c1_i32_23 c2_i32
  let v50 : BitVec 32 := Scalar.remsi v47 v49
  let c0_i32_25 : BitVec 32 := 0#32
  let v52 : BitVec 1 := Scalar.cmpi .slt v50 c0_i32_25
  let c0_i32_26 : BitVec 32 := 0#32
  let v53 : BitVec 1 := Scalar.cmpi .slt v49 c0_i32_26
  let v54 : BitVec 1 := Scalar.xori v52 v53
  let c0_i32_24 : BitVec 32 := 0#32
  let v51 : BitVec 1 := Scalar.cmpi .ne v50 c0_i32_24
  let v55 : BitVec 1 := Scalar.andi v54 v51
  let v56 : BitVec 32 := Scalar.addi v50 v49
  let v57 : BitVec 32 := Scalar.select v55 v56 v50
  let v62 : Index := Scalar.indexCast v57
  let c0_28 : Index := 0#32
  let c0_29 : Index := 0#32
  ![v62.toNat, 0, 0]
def k0_off45 (i : grid0.Coords) : Fin 3 → Nat :=
  let arg0 : BitVec 32 := BitVec.ofNat 32 (i 0).val
  let c3_i32_15 : BitVec 32 := 3#32
  let v36 : BitVec 32 := Scalar.subi arg0 c3_i32_15
  let c6_i32 : BitVec 32 := 6#32
  let c0_i32_16 : BitVec 32 := 0#32
  let v37 : BitVec 1 := Scalar.cmpi .eq c6_i32 c0_i32_16
  let c1_i32_17 : BitVec 32 := 1#32
  let v38 : BitVec 32 := Scalar.select v37 c1_i32_17 c6_i32
  let v39 : BitVec 32 := Scalar.remsi v36 v38
  let c0_i32_19 : BitVec 32 := 0#32
  let v41 : BitVec 1 := Scalar.cmpi .slt v39 c0_i32_19
  let c0_i32_20 : BitVec 32 := 0#32
  let v42 : BitVec 1 := Scalar.cmpi .slt v38 c0_i32_20
  let v43 : BitVec 1 := Scalar.xori v41 v42
  let c0_i32_18 : BitVec 32 := 0#32
  let v40 : BitVec 1 := Scalar.cmpi .ne v39 c0_i32_18
  let v44 : BitVec 1 := Scalar.andi v43 v40
  let v45 : BitVec 32 := Scalar.addi v39 v38
  let v46 : BitVec 32 := Scalar.select v44 v45 v39
  let v67 : Index := Scalar.indexCast v46
  let c0_30 : Index := 0#32
  let c0_31 : Index := 0#32
  ![v67.toNat, 0, 0]
def k0_off46 (i : grid0.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c3_i32 : BitVec 32 := 3#32
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let v0 : BitVec 32 := Scalar.divsi arg0 c3_i32
  let c1_i32 : BitVec 32 := 1#32
  let v15 : BitVec 32 := Scalar.subi v0 c1_i32
  let v16 : BitVec 32 := Scalar.select v14 v15 v0
  let c1_i32_21 : BitVec 32 := 1#32
  let v47 : BitVec 32 := Scalar.addi v16 c1_i32_21
  let c2_i32 : BitVec 32 := 2#32
  let c0_i32_22 : BitVec 32 := 0#32
  let v48 : BitVec 1 := Scalar.cmpi .eq c2_i32 c0_i32_22
  let c1_i32_23 : BitVec 32 := 1#32
  let v49 : BitVec 32 := Scalar.select v48 c1_i32_23 c2_i32
  let v50 : BitVec 32 := Scalar.remsi v47 v49
  let c0_i32_25 : BitVec 32 := 0#32
  let v52 : BitVec 1 := Scalar.cmpi .slt v50 c0_i32_25
  let c0_i32_26 : BitVec 32 := 0#32
  let v53 : BitVec 1 := Scalar.cmpi .slt v49 c0_i32_26
  let v54 : BitVec 1 := Scalar.xori v52 v53
  let c0_i32_24 : BitVec 32 := 0#32
  let v51 : BitVec 1 := Scalar.cmpi .ne v50 c0_i32_24
  let v55 : BitVec 1 := Scalar.andi v54 v51
  let v56 : BitVec 32 := Scalar.addi v50 v49
  let v57 : BitVec 32 := Scalar.select v55 v56 v50
  let v96 : Index := Scalar.indexCast v57
  let c0_45 : Index := 0#32
  let c256 : Index := 256#32
  ![v96.toNat, 0, 256]
def k0_off47 (i : grid0.Coords) : Fin 3 → Nat :=
  let arg0 : BitVec 32 := BitVec.ofNat 32 (i 0).val
  let c3_i32_15 : BitVec 32 := 3#32
  let v36 : BitVec 32 := Scalar.subi arg0 c3_i32_15
  let c6_i32 : BitVec 32 := 6#32
  let c0_i32_16 : BitVec 32 := 0#32
  let v37 : BitVec 1 := Scalar.cmpi .eq c6_i32 c0_i32_16
  let c1_i32_17 : BitVec 32 := 1#32
  let v38 : BitVec 32 := Scalar.select v37 c1_i32_17 c6_i32
  let v39 : BitVec 32 := Scalar.remsi v36 v38
  let c0_i32_19 : BitVec 32 := 0#32
  let v41 : BitVec 1 := Scalar.cmpi .slt v39 c0_i32_19
  let c0_i32_20 : BitVec 32 := 0#32
  let v42 : BitVec 1 := Scalar.cmpi .slt v38 c0_i32_20
  let v43 : BitVec 1 := Scalar.xori v41 v42
  let c0_i32_18 : BitVec 32 := 0#32
  let v40 : BitVec 1 := Scalar.cmpi .ne v39 c0_i32_18
  let v44 : BitVec 1 := Scalar.andi v43 v40
  let v45 : BitVec 32 := Scalar.addi v39 v38
  let v46 : BitVec 32 := Scalar.select v44 v45 v39
  let v101 : Index := Scalar.indexCast v46
  let c0_46 : Index := 0#32
  let c256_47 : Index := 256#32
  ![v101.toNat, 0, 256]
def k0_off48 (i : grid0.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c3_i32 : BitVec 32 := 3#32
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let v0 : BitVec 32 := Scalar.divsi arg0 c3_i32
  let c1_i32 : BitVec 32 := 1#32
  let v15 : BitVec 32 := Scalar.subi v0 c1_i32
  let v16 : BitVec 32 := Scalar.select v14 v15 v0
  let c1_i32_21 : BitVec 32 := 1#32
  let v47 : BitVec 32 := Scalar.addi v16 c1_i32_21
  let c2_i32 : BitVec 32 := 2#32
  let c0_i32_22 : BitVec 32 := 0#32
  let v48 : BitVec 1 := Scalar.cmpi .eq c2_i32 c0_i32_22
  let c1_i32_23 : BitVec 32 := 1#32
  let v49 : BitVec 32 := Scalar.select v48 c1_i32_23 c2_i32
  let v50 : BitVec 32 := Scalar.remsi v47 v49
  let c0_i32_25 : BitVec 32 := 0#32
  let v52 : BitVec 1 := Scalar.cmpi .slt v50 c0_i32_25
  let c0_i32_26 : BitVec 32 := 0#32
  let v53 : BitVec 1 := Scalar.cmpi .slt v49 c0_i32_26
  let v54 : BitVec 1 := Scalar.xori v52 v53
  let c0_i32_24 : BitVec 32 := 0#32
  let v51 : BitVec 1 := Scalar.cmpi .ne v50 c0_i32_24
  let v55 : BitVec 1 := Scalar.andi v54 v51
  let v56 : BitVec 32 := Scalar.addi v50 v49
  let v57 : BitVec 32 := Scalar.select v55 v56 v50
  let v130 : Index := Scalar.indexCast v57
  let c0_61 : Index := 0#32
  let c512 : Index := 512#32
  ![v130.toNat, 0, 512]
def k0_off49 (i : grid0.Coords) : Fin 3 → Nat :=
  let arg0 : BitVec 32 := BitVec.ofNat 32 (i 0).val
  let c3_i32_15 : BitVec 32 := 3#32
  let v36 : BitVec 32 := Scalar.subi arg0 c3_i32_15
  let c6_i32 : BitVec 32 := 6#32
  let c0_i32_16 : BitVec 32 := 0#32
  let v37 : BitVec 1 := Scalar.cmpi .eq c6_i32 c0_i32_16
  let c1_i32_17 : BitVec 32 := 1#32
  let v38 : BitVec 32 := Scalar.select v37 c1_i32_17 c6_i32
  let v39 : BitVec 32 := Scalar.remsi v36 v38
  let c0_i32_19 : BitVec 32 := 0#32
  let v41 : BitVec 1 := Scalar.cmpi .slt v39 c0_i32_19
  let c0_i32_20 : BitVec 32 := 0#32
  let v42 : BitVec 1 := Scalar.cmpi .slt v38 c0_i32_20
  let v43 : BitVec 1 := Scalar.xori v41 v42
  let c0_i32_18 : BitVec 32 := 0#32
  let v40 : BitVec 1 := Scalar.cmpi .ne v39 c0_i32_18
  let v44 : BitVec 1 := Scalar.andi v43 v40
  let v45 : BitVec 32 := Scalar.addi v39 v38
  let v46 : BitVec 32 := Scalar.select v44 v45 v39
  let v135 : Index := Scalar.indexCast v46
  let c0_62 : Index := 0#32
  let c512_63 : Index := 512#32
  ![v135.toNat, 0, 512]
def k0_off50 (i : grid0.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c3_i32 : BitVec 32 := 3#32
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let v0 : BitVec 32 := Scalar.divsi arg0 c3_i32
  let c1_i32 : BitVec 32 := 1#32
  let v15 : BitVec 32 := Scalar.subi v0 c1_i32
  let v16 : BitVec 32 := Scalar.select v14 v15 v0
  let c1_i32_21 : BitVec 32 := 1#32
  let v47 : BitVec 32 := Scalar.addi v16 c1_i32_21
  let c2_i32 : BitVec 32 := 2#32
  let c0_i32_22 : BitVec 32 := 0#32
  let v48 : BitVec 1 := Scalar.cmpi .eq c2_i32 c0_i32_22
  let c1_i32_23 : BitVec 32 := 1#32
  let v49 : BitVec 32 := Scalar.select v48 c1_i32_23 c2_i32
  let v50 : BitVec 32 := Scalar.remsi v47 v49
  let c0_i32_25 : BitVec 32 := 0#32
  let v52 : BitVec 1 := Scalar.cmpi .slt v50 c0_i32_25
  let c0_i32_26 : BitVec 32 := 0#32
  let v53 : BitVec 1 := Scalar.cmpi .slt v49 c0_i32_26
  let v54 : BitVec 1 := Scalar.xori v52 v53
  let c0_i32_24 : BitVec 32 := 0#32
  let v51 : BitVec 1 := Scalar.cmpi .ne v50 c0_i32_24
  let v55 : BitVec 1 := Scalar.andi v54 v51
  let v56 : BitVec 32 := Scalar.addi v50 v49
  let v57 : BitVec 32 := Scalar.select v55 v56 v50
  let v164 : Index := Scalar.indexCast v57
  let c0_78 : Index := 0#32
  let c768 : Index := 768#32
  ![v164.toNat, 0, 768]
def k0_off51 (i : grid0.Coords) : Fin 3 → Nat :=
  let arg0 : BitVec 32 := BitVec.ofNat 32 (i 0).val
  let c3_i32_15 : BitVec 32 := 3#32
  let v36 : BitVec 32 := Scalar.subi arg0 c3_i32_15
  let c6_i32 : BitVec 32 := 6#32
  let c0_i32_16 : BitVec 32 := 0#32
  let v37 : BitVec 1 := Scalar.cmpi .eq c6_i32 c0_i32_16
  let c1_i32_17 : BitVec 32 := 1#32
  let v38 : BitVec 32 := Scalar.select v37 c1_i32_17 c6_i32
  let v39 : BitVec 32 := Scalar.remsi v36 v38
  let c0_i32_19 : BitVec 32 := 0#32
  let v41 : BitVec 1 := Scalar.cmpi .slt v39 c0_i32_19
  let c0_i32_20 : BitVec 32 := 0#32
  let v42 : BitVec 1 := Scalar.cmpi .slt v38 c0_i32_20
  let v43 : BitVec 1 := Scalar.xori v41 v42
  let c0_i32_18 : BitVec 32 := 0#32
  let v40 : BitVec 1 := Scalar.cmpi .ne v39 c0_i32_18
  let v44 : BitVec 1 := Scalar.andi v43 v40
  let v45 : BitVec 32 := Scalar.addi v39 v38
  let v46 : BitVec 32 := Scalar.select v44 v45 v39
  let v169 : Index := Scalar.indexCast v46
  let c0_79 : Index := 0#32
  let c768_80 : Index := 768#32
  ![v169.toNat, 0, 768]
def k0_off52 (i : grid0.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c3_i32 : BitVec 32 := 3#32
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let v0 : BitVec 32 := Scalar.divsi arg0 c3_i32
  let c1_i32 : BitVec 32 := 1#32
  let v15 : BitVec 32 := Scalar.subi v0 c1_i32
  let v16 : BitVec 32 := Scalar.select v14 v15 v0
  let c1_i32_21 : BitVec 32 := 1#32
  let v47 : BitVec 32 := Scalar.addi v16 c1_i32_21
  let c2_i32 : BitVec 32 := 2#32
  let c0_i32_22 : BitVec 32 := 0#32
  let v48 : BitVec 1 := Scalar.cmpi .eq c2_i32 c0_i32_22
  let c1_i32_23 : BitVec 32 := 1#32
  let v49 : BitVec 32 := Scalar.select v48 c1_i32_23 c2_i32
  let v50 : BitVec 32 := Scalar.remsi v47 v49
  let c0_i32_25 : BitVec 32 := 0#32
  let v52 : BitVec 1 := Scalar.cmpi .slt v50 c0_i32_25
  let c0_i32_26 : BitVec 32 := 0#32
  let v53 : BitVec 1 := Scalar.cmpi .slt v49 c0_i32_26
  let v54 : BitVec 1 := Scalar.xori v52 v53
  let c0_i32_24 : BitVec 32 := 0#32
  let v51 : BitVec 1 := Scalar.cmpi .ne v50 c0_i32_24
  let v55 : BitVec 1 := Scalar.andi v54 v51
  let v56 : BitVec 32 := Scalar.addi v50 v49
  let v57 : BitVec 32 := Scalar.select v55 v56 v50
  let v198 : Index := Scalar.indexCast v57
  let c0_94 : Index := 0#32
  let c1024 : Index := 1024#32
  ![v198.toNat, 0, 1024]
def k0_off53 (i : grid0.Coords) : Fin 3 → Nat :=
  let arg0 : BitVec 32 := BitVec.ofNat 32 (i 0).val
  let c3_i32_15 : BitVec 32 := 3#32
  let v36 : BitVec 32 := Scalar.subi arg0 c3_i32_15
  let c6_i32 : BitVec 32 := 6#32
  let c0_i32_16 : BitVec 32 := 0#32
  let v37 : BitVec 1 := Scalar.cmpi .eq c6_i32 c0_i32_16
  let c1_i32_17 : BitVec 32 := 1#32
  let v38 : BitVec 32 := Scalar.select v37 c1_i32_17 c6_i32
  let v39 : BitVec 32 := Scalar.remsi v36 v38
  let c0_i32_19 : BitVec 32 := 0#32
  let v41 : BitVec 1 := Scalar.cmpi .slt v39 c0_i32_19
  let c0_i32_20 : BitVec 32 := 0#32
  let v42 : BitVec 1 := Scalar.cmpi .slt v38 c0_i32_20
  let v43 : BitVec 1 := Scalar.xori v41 v42
  let c0_i32_18 : BitVec 32 := 0#32
  let v40 : BitVec 1 := Scalar.cmpi .ne v39 c0_i32_18
  let v44 : BitVec 1 := Scalar.andi v43 v40
  let v45 : BitVec 32 := Scalar.addi v39 v38
  let v46 : BitVec 32 := Scalar.select v44 v45 v39
  let v203 : Index := Scalar.indexCast v46
  let c0_95 : Index := 0#32
  let c1024_96 : Index := 1024#32
  ![v203.toNat, 0, 1024]
def k0_off54 (i : grid0.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c3_i32 : BitVec 32 := 3#32
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let v0 : BitVec 32 := Scalar.divsi arg0 c3_i32
  let c1_i32 : BitVec 32 := 1#32
  let v15 : BitVec 32 := Scalar.subi v0 c1_i32
  let v16 : BitVec 32 := Scalar.select v14 v15 v0
  let c1_i32_21 : BitVec 32 := 1#32
  let v47 : BitVec 32 := Scalar.addi v16 c1_i32_21
  let c2_i32 : BitVec 32 := 2#32
  let c0_i32_22 : BitVec 32 := 0#32
  let v48 : BitVec 1 := Scalar.cmpi .eq c2_i32 c0_i32_22
  let c1_i32_23 : BitVec 32 := 1#32
  let v49 : BitVec 32 := Scalar.select v48 c1_i32_23 c2_i32
  let v50 : BitVec 32 := Scalar.remsi v47 v49
  let c0_i32_25 : BitVec 32 := 0#32
  let v52 : BitVec 1 := Scalar.cmpi .slt v50 c0_i32_25
  let c0_i32_26 : BitVec 32 := 0#32
  let v53 : BitVec 1 := Scalar.cmpi .slt v49 c0_i32_26
  let v54 : BitVec 1 := Scalar.xori v52 v53
  let c0_i32_24 : BitVec 32 := 0#32
  let v51 : BitVec 1 := Scalar.cmpi .ne v50 c0_i32_24
  let v55 : BitVec 1 := Scalar.andi v54 v51
  let v56 : BitVec 32 := Scalar.addi v50 v49
  let v57 : BitVec 32 := Scalar.select v55 v56 v50
  let v232 : Index := Scalar.indexCast v57
  let c0_111 : Index := 0#32
  let c1280 : Index := 1280#32
  ![v232.toNat, 0, 1280]
def k0_off55 (i : grid0.Coords) : Fin 3 → Nat :=
  let arg0 : BitVec 32 := BitVec.ofNat 32 (i 0).val
  let c3_i32_15 : BitVec 32 := 3#32
  let v36 : BitVec 32 := Scalar.subi arg0 c3_i32_15
  let c6_i32 : BitVec 32 := 6#32
  let c0_i32_16 : BitVec 32 := 0#32
  let v37 : BitVec 1 := Scalar.cmpi .eq c6_i32 c0_i32_16
  let c1_i32_17 : BitVec 32 := 1#32
  let v38 : BitVec 32 := Scalar.select v37 c1_i32_17 c6_i32
  let v39 : BitVec 32 := Scalar.remsi v36 v38
  let c0_i32_19 : BitVec 32 := 0#32
  let v41 : BitVec 1 := Scalar.cmpi .slt v39 c0_i32_19
  let c0_i32_20 : BitVec 32 := 0#32
  let v42 : BitVec 1 := Scalar.cmpi .slt v38 c0_i32_20
  let v43 : BitVec 1 := Scalar.xori v41 v42
  let c0_i32_18 : BitVec 32 := 0#32
  let v40 : BitVec 1 := Scalar.cmpi .ne v39 c0_i32_18
  let v44 : BitVec 1 := Scalar.andi v43 v40
  let v45 : BitVec 32 := Scalar.addi v39 v38
  let v46 : BitVec 32 := Scalar.select v44 v45 v39
  let v237 : Index := Scalar.indexCast v46
  let c0_112 : Index := 0#32
  let c1280_113 : Index := 1280#32
  ![v237.toNat, 0, 1280]
def k0_off56 (i : grid0.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c3_i32 : BitVec 32 := 3#32
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let v0 : BitVec 32 := Scalar.divsi arg0 c3_i32
  let c1_i32 : BitVec 32 := 1#32
  let v15 : BitVec 32 := Scalar.subi v0 c1_i32
  let v16 : BitVec 32 := Scalar.select v14 v15 v0
  let c1_i32_21 : BitVec 32 := 1#32
  let v47 : BitVec 32 := Scalar.addi v16 c1_i32_21
  let c2_i32 : BitVec 32 := 2#32
  let c0_i32_22 : BitVec 32 := 0#32
  let v48 : BitVec 1 := Scalar.cmpi .eq c2_i32 c0_i32_22
  let c1_i32_23 : BitVec 32 := 1#32
  let v49 : BitVec 32 := Scalar.select v48 c1_i32_23 c2_i32
  let v50 : BitVec 32 := Scalar.remsi v47 v49
  let c0_i32_25 : BitVec 32 := 0#32
  let v52 : BitVec 1 := Scalar.cmpi .slt v50 c0_i32_25
  let c0_i32_26 : BitVec 32 := 0#32
  let v53 : BitVec 1 := Scalar.cmpi .slt v49 c0_i32_26
  let v54 : BitVec 1 := Scalar.xori v52 v53
  let c0_i32_24 : BitVec 32 := 0#32
  let v51 : BitVec 1 := Scalar.cmpi .ne v50 c0_i32_24
  let v55 : BitVec 1 := Scalar.andi v54 v51
  let v56 : BitVec 32 := Scalar.addi v50 v49
  let v57 : BitVec 32 := Scalar.select v55 v56 v50
  let v266 : Index := Scalar.indexCast v57
  let c0_127 : Index := 0#32
  let c1536 : Index := 1536#32
  ![v266.toNat, 0, 1536]
def k0_off57 (i : grid0.Coords) : Fin 3 → Nat :=
  let arg0 : BitVec 32 := BitVec.ofNat 32 (i 0).val
  let c3_i32_15 : BitVec 32 := 3#32
  let v36 : BitVec 32 := Scalar.subi arg0 c3_i32_15
  let c6_i32 : BitVec 32 := 6#32
  let c0_i32_16 : BitVec 32 := 0#32
  let v37 : BitVec 1 := Scalar.cmpi .eq c6_i32 c0_i32_16
  let c1_i32_17 : BitVec 32 := 1#32
  let v38 : BitVec 32 := Scalar.select v37 c1_i32_17 c6_i32
  let v39 : BitVec 32 := Scalar.remsi v36 v38
  let c0_i32_19 : BitVec 32 := 0#32
  let v41 : BitVec 1 := Scalar.cmpi .slt v39 c0_i32_19
  let c0_i32_20 : BitVec 32 := 0#32
  let v42 : BitVec 1 := Scalar.cmpi .slt v38 c0_i32_20
  let v43 : BitVec 1 := Scalar.xori v41 v42
  let c0_i32_18 : BitVec 32 := 0#32
  let v40 : BitVec 1 := Scalar.cmpi .ne v39 c0_i32_18
  let v44 : BitVec 1 := Scalar.andi v43 v40
  let v45 : BitVec 32 := Scalar.addi v39 v38
  let v46 : BitVec 32 := Scalar.select v44 v45 v39
  let v271 : Index := Scalar.indexCast v46
  let c0_128 : Index := 0#32
  let c1536_129 : Index := 1536#32
  ![v271.toNat, 0, 1536]
def k0_off58 (i : grid0.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c3_i32 : BitVec 32 := 3#32
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let v0 : BitVec 32 := Scalar.divsi arg0 c3_i32
  let c1_i32 : BitVec 32 := 1#32
  let v15 : BitVec 32 := Scalar.subi v0 c1_i32
  let v16 : BitVec 32 := Scalar.select v14 v15 v0
  let c1_i32_21 : BitVec 32 := 1#32
  let v47 : BitVec 32 := Scalar.addi v16 c1_i32_21
  let c2_i32 : BitVec 32 := 2#32
  let c0_i32_22 : BitVec 32 := 0#32
  let v48 : BitVec 1 := Scalar.cmpi .eq c2_i32 c0_i32_22
  let c1_i32_23 : BitVec 32 := 1#32
  let v49 : BitVec 32 := Scalar.select v48 c1_i32_23 c2_i32
  let v50 : BitVec 32 := Scalar.remsi v47 v49
  let c0_i32_25 : BitVec 32 := 0#32
  let v52 : BitVec 1 := Scalar.cmpi .slt v50 c0_i32_25
  let c0_i32_26 : BitVec 32 := 0#32
  let v53 : BitVec 1 := Scalar.cmpi .slt v49 c0_i32_26
  let v54 : BitVec 1 := Scalar.xori v52 v53
  let c0_i32_24 : BitVec 32 := 0#32
  let v51 : BitVec 1 := Scalar.cmpi .ne v50 c0_i32_24
  let v55 : BitVec 1 := Scalar.andi v54 v51
  let v56 : BitVec 32 := Scalar.addi v50 v49
  let v57 : BitVec 32 := Scalar.select v55 v56 v50
  let v300 : Index := Scalar.indexCast v57
  let c0_144 : Index := 0#32
  let c1792 : Index := 1792#32
  ![v300.toNat, 0, 1792]
def k0_off59 (i : grid0.Coords) : Fin 3 → Nat :=
  let arg0 : BitVec 32 := BitVec.ofNat 32 (i 0).val
  let c3_i32_15 : BitVec 32 := 3#32
  let v36 : BitVec 32 := Scalar.subi arg0 c3_i32_15
  let c6_i32 : BitVec 32 := 6#32
  let c0_i32_16 : BitVec 32 := 0#32
  let v37 : BitVec 1 := Scalar.cmpi .eq c6_i32 c0_i32_16
  let c1_i32_17 : BitVec 32 := 1#32
  let v38 : BitVec 32 := Scalar.select v37 c1_i32_17 c6_i32
  let v39 : BitVec 32 := Scalar.remsi v36 v38
  let c0_i32_19 : BitVec 32 := 0#32
  let v41 : BitVec 1 := Scalar.cmpi .slt v39 c0_i32_19
  let c0_i32_20 : BitVec 32 := 0#32
  let v42 : BitVec 1 := Scalar.cmpi .slt v38 c0_i32_20
  let v43 : BitVec 1 := Scalar.xori v41 v42
  let c0_i32_18 : BitVec 32 := 0#32
  let v40 : BitVec 1 := Scalar.cmpi .ne v39 c0_i32_18
  let v44 : BitVec 1 := Scalar.andi v43 v40
  let v45 : BitVec 32 := Scalar.addi v39 v38
  let v46 : BitVec 32 := Scalar.select v44 v45 v39
  let v305 : Index := Scalar.indexCast v46
  let c0_145 : Index := 0#32
  let c1792_146 : Index := 1792#32
  ![v305.toNat, 0, 1792]
def k0_off60 (i : grid0.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c3_i32 : BitVec 32 := 3#32
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let v0 : BitVec 32 := Scalar.divsi arg0 c3_i32
  let c1_i32 : BitVec 32 := 1#32
  let v15 : BitVec 32 := Scalar.subi v0 c1_i32
  let v16 : BitVec 32 := Scalar.select v14 v15 v0
  let c1_i32_21 : BitVec 32 := 1#32
  let v47 : BitVec 32 := Scalar.addi v16 c1_i32_21
  let c2_i32 : BitVec 32 := 2#32
  let c0_i32_22 : BitVec 32 := 0#32
  let v48 : BitVec 1 := Scalar.cmpi .eq c2_i32 c0_i32_22
  let c1_i32_23 : BitVec 32 := 1#32
  let v49 : BitVec 32 := Scalar.select v48 c1_i32_23 c2_i32
  let v50 : BitVec 32 := Scalar.remsi v47 v49
  let c0_i32_25 : BitVec 32 := 0#32
  let v52 : BitVec 1 := Scalar.cmpi .slt v50 c0_i32_25
  let c0_i32_26 : BitVec 32 := 0#32
  let v53 : BitVec 1 := Scalar.cmpi .slt v49 c0_i32_26
  let v54 : BitVec 1 := Scalar.xori v52 v53
  let c0_i32_24 : BitVec 32 := 0#32
  let v51 : BitVec 1 := Scalar.cmpi .ne v50 c0_i32_24
  let v55 : BitVec 1 := Scalar.andi v54 v51
  let v56 : BitVec 32 := Scalar.addi v50 v49
  let v57 : BitVec 32 := Scalar.select v55 v56 v50
  let v334 : Index := Scalar.indexCast v57
  let c0_160 : Index := 0#32
  let c2048 : Index := 2048#32
  ![v334.toNat, 0, 2048]
def k0_off61 (i : grid0.Coords) : Fin 3 → Nat :=
  let arg0 : BitVec 32 := BitVec.ofNat 32 (i 0).val
  let c3_i32_15 : BitVec 32 := 3#32
  let v36 : BitVec 32 := Scalar.subi arg0 c3_i32_15
  let c6_i32 : BitVec 32 := 6#32
  let c0_i32_16 : BitVec 32 := 0#32
  let v37 : BitVec 1 := Scalar.cmpi .eq c6_i32 c0_i32_16
  let c1_i32_17 : BitVec 32 := 1#32
  let v38 : BitVec 32 := Scalar.select v37 c1_i32_17 c6_i32
  let v39 : BitVec 32 := Scalar.remsi v36 v38
  let c0_i32_19 : BitVec 32 := 0#32
  let v41 : BitVec 1 := Scalar.cmpi .slt v39 c0_i32_19
  let c0_i32_20 : BitVec 32 := 0#32
  let v42 : BitVec 1 := Scalar.cmpi .slt v38 c0_i32_20
  let v43 : BitVec 1 := Scalar.xori v41 v42
  let c0_i32_18 : BitVec 32 := 0#32
  let v40 : BitVec 1 := Scalar.cmpi .ne v39 c0_i32_18
  let v44 : BitVec 1 := Scalar.andi v43 v40
  let v45 : BitVec 32 := Scalar.addi v39 v38
  let v46 : BitVec 32 := Scalar.select v44 v45 v39
  let v339 : Index := Scalar.indexCast v46
  let c0_161 : Index := 0#32
  let c2048_162 : Index := 2048#32
  ![v339.toNat, 0, 2048]
def k0_off62 (i : grid0.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c3_i32 : BitVec 32 := 3#32
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let v0 : BitVec 32 := Scalar.divsi arg0 c3_i32
  let c1_i32 : BitVec 32 := 1#32
  let v15 : BitVec 32 := Scalar.subi v0 c1_i32
  let v16 : BitVec 32 := Scalar.select v14 v15 v0
  let c1_i32_21 : BitVec 32 := 1#32
  let v47 : BitVec 32 := Scalar.addi v16 c1_i32_21
  let c2_i32 : BitVec 32 := 2#32
  let c0_i32_22 : BitVec 32 := 0#32
  let v48 : BitVec 1 := Scalar.cmpi .eq c2_i32 c0_i32_22
  let c1_i32_23 : BitVec 32 := 1#32
  let v49 : BitVec 32 := Scalar.select v48 c1_i32_23 c2_i32
  let v50 : BitVec 32 := Scalar.remsi v47 v49
  let c0_i32_25 : BitVec 32 := 0#32
  let v52 : BitVec 1 := Scalar.cmpi .slt v50 c0_i32_25
  let c0_i32_26 : BitVec 32 := 0#32
  let v53 : BitVec 1 := Scalar.cmpi .slt v49 c0_i32_26
  let v54 : BitVec 1 := Scalar.xori v52 v53
  let c0_i32_24 : BitVec 32 := 0#32
  let v51 : BitVec 1 := Scalar.cmpi .ne v50 c0_i32_24
  let v55 : BitVec 1 := Scalar.andi v54 v51
  let v56 : BitVec 32 := Scalar.addi v50 v49
  let v57 : BitVec 32 := Scalar.select v55 v56 v50
  let v368 : Index := Scalar.indexCast v57
  let c0_177 : Index := 0#32
  let c2304 : Index := 2304#32
  ![v368.toNat, 0, 2304]
def k0_off63 (i : grid0.Coords) : Fin 3 → Nat :=
  let arg0 : BitVec 32 := BitVec.ofNat 32 (i 0).val
  let c3_i32_15 : BitVec 32 := 3#32
  let v36 : BitVec 32 := Scalar.subi arg0 c3_i32_15
  let c6_i32 : BitVec 32 := 6#32
  let c0_i32_16 : BitVec 32 := 0#32
  let v37 : BitVec 1 := Scalar.cmpi .eq c6_i32 c0_i32_16
  let c1_i32_17 : BitVec 32 := 1#32
  let v38 : BitVec 32 := Scalar.select v37 c1_i32_17 c6_i32
  let v39 : BitVec 32 := Scalar.remsi v36 v38
  let c0_i32_19 : BitVec 32 := 0#32
  let v41 : BitVec 1 := Scalar.cmpi .slt v39 c0_i32_19
  let c0_i32_20 : BitVec 32 := 0#32
  let v42 : BitVec 1 := Scalar.cmpi .slt v38 c0_i32_20
  let v43 : BitVec 1 := Scalar.xori v41 v42
  let c0_i32_18 : BitVec 32 := 0#32
  let v40 : BitVec 1 := Scalar.cmpi .ne v39 c0_i32_18
  let v44 : BitVec 1 := Scalar.andi v43 v40
  let v45 : BitVec 32 := Scalar.addi v39 v38
  let v46 : BitVec 32 := Scalar.select v44 v45 v39
  let v373 : Index := Scalar.indexCast v46
  let c0_178 : Index := 0#32
  let c2304_179 : Index := 2304#32
  ![v373.toNat, 0, 2304]
def k0_off64 (i : grid0.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c3_i32 : BitVec 32 := 3#32
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let v0 : BitVec 32 := Scalar.divsi arg0 c3_i32
  let c1_i32 : BitVec 32 := 1#32
  let v15 : BitVec 32 := Scalar.subi v0 c1_i32
  let v16 : BitVec 32 := Scalar.select v14 v15 v0
  let c1_i32_21 : BitVec 32 := 1#32
  let v47 : BitVec 32 := Scalar.addi v16 c1_i32_21
  let c2_i32 : BitVec 32 := 2#32
  let c0_i32_22 : BitVec 32 := 0#32
  let v48 : BitVec 1 := Scalar.cmpi .eq c2_i32 c0_i32_22
  let c1_i32_23 : BitVec 32 := 1#32
  let v49 : BitVec 32 := Scalar.select v48 c1_i32_23 c2_i32
  let v50 : BitVec 32 := Scalar.remsi v47 v49
  let c0_i32_25 : BitVec 32 := 0#32
  let v52 : BitVec 1 := Scalar.cmpi .slt v50 c0_i32_25
  let c0_i32_26 : BitVec 32 := 0#32
  let v53 : BitVec 1 := Scalar.cmpi .slt v49 c0_i32_26
  let v54 : BitVec 1 := Scalar.xori v52 v53
  let c0_i32_24 : BitVec 32 := 0#32
  let v51 : BitVec 1 := Scalar.cmpi .ne v50 c0_i32_24
  let v55 : BitVec 1 := Scalar.andi v54 v51
  let v56 : BitVec 32 := Scalar.addi v50 v49
  let v57 : BitVec 32 := Scalar.select v55 v56 v50
  let v402 : Index := Scalar.indexCast v57
  let c0_193 : Index := 0#32
  let c2560 : Index := 2560#32
  ![v402.toNat, 0, 2560]
def k0_off65 (i : grid0.Coords) : Fin 3 → Nat :=
  let arg0 : BitVec 32 := BitVec.ofNat 32 (i 0).val
  let c3_i32_15 : BitVec 32 := 3#32
  let v36 : BitVec 32 := Scalar.subi arg0 c3_i32_15
  let c6_i32 : BitVec 32 := 6#32
  let c0_i32_16 : BitVec 32 := 0#32
  let v37 : BitVec 1 := Scalar.cmpi .eq c6_i32 c0_i32_16
  let c1_i32_17 : BitVec 32 := 1#32
  let v38 : BitVec 32 := Scalar.select v37 c1_i32_17 c6_i32
  let v39 : BitVec 32 := Scalar.remsi v36 v38
  let c0_i32_19 : BitVec 32 := 0#32
  let v41 : BitVec 1 := Scalar.cmpi .slt v39 c0_i32_19
  let c0_i32_20 : BitVec 32 := 0#32
  let v42 : BitVec 1 := Scalar.cmpi .slt v38 c0_i32_20
  let v43 : BitVec 1 := Scalar.xori v41 v42
  let c0_i32_18 : BitVec 32 := 0#32
  let v40 : BitVec 1 := Scalar.cmpi .ne v39 c0_i32_18
  let v44 : BitVec 1 := Scalar.andi v43 v40
  let v45 : BitVec 32 := Scalar.addi v39 v38
  let v46 : BitVec 32 := Scalar.select v44 v45 v39
  let v407 : Index := Scalar.indexCast v46
  let c0_194 : Index := 0#32
  let c2560_195 : Index := 2560#32
  ![v407.toNat, 0, 2560]
def k0_off66 (i : grid0.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c3_i32 : BitVec 32 := 3#32
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let v0 : BitVec 32 := Scalar.divsi arg0 c3_i32
  let c1_i32 : BitVec 32 := 1#32
  let v15 : BitVec 32 := Scalar.subi v0 c1_i32
  let v16 : BitVec 32 := Scalar.select v14 v15 v0
  let c1_i32_21 : BitVec 32 := 1#32
  let v47 : BitVec 32 := Scalar.addi v16 c1_i32_21
  let c2_i32 : BitVec 32 := 2#32
  let c0_i32_22 : BitVec 32 := 0#32
  let v48 : BitVec 1 := Scalar.cmpi .eq c2_i32 c0_i32_22
  let c1_i32_23 : BitVec 32 := 1#32
  let v49 : BitVec 32 := Scalar.select v48 c1_i32_23 c2_i32
  let v50 : BitVec 32 := Scalar.remsi v47 v49
  let c0_i32_25 : BitVec 32 := 0#32
  let v52 : BitVec 1 := Scalar.cmpi .slt v50 c0_i32_25
  let c0_i32_26 : BitVec 32 := 0#32
  let v53 : BitVec 1 := Scalar.cmpi .slt v49 c0_i32_26
  let v54 : BitVec 1 := Scalar.xori v52 v53
  let c0_i32_24 : BitVec 32 := 0#32
  let v51 : BitVec 1 := Scalar.cmpi .ne v50 c0_i32_24
  let v55 : BitVec 1 := Scalar.andi v54 v51
  let v56 : BitVec 32 := Scalar.addi v50 v49
  let v57 : BitVec 32 := Scalar.select v55 v56 v50
  let v436 : Index := Scalar.indexCast v57
  let c0_210 : Index := 0#32
  let c2816 : Index := 2816#32
  ![v436.toNat, 0, 2816]
def k0_off67 (i : grid0.Coords) : Fin 3 → Nat :=
  let arg0 : BitVec 32 := BitVec.ofNat 32 (i 0).val
  let c3_i32_15 : BitVec 32 := 3#32
  let v36 : BitVec 32 := Scalar.subi arg0 c3_i32_15
  let c6_i32 : BitVec 32 := 6#32
  let c0_i32_16 : BitVec 32 := 0#32
  let v37 : BitVec 1 := Scalar.cmpi .eq c6_i32 c0_i32_16
  let c1_i32_17 : BitVec 32 := 1#32
  let v38 : BitVec 32 := Scalar.select v37 c1_i32_17 c6_i32
  let v39 : BitVec 32 := Scalar.remsi v36 v38
  let c0_i32_19 : BitVec 32 := 0#32
  let v41 : BitVec 1 := Scalar.cmpi .slt v39 c0_i32_19
  let c0_i32_20 : BitVec 32 := 0#32
  let v42 : BitVec 1 := Scalar.cmpi .slt v38 c0_i32_20
  let v43 : BitVec 1 := Scalar.xori v41 v42
  let c0_i32_18 : BitVec 32 := 0#32
  let v40 : BitVec 1 := Scalar.cmpi .ne v39 c0_i32_18
  let v44 : BitVec 1 := Scalar.andi v43 v40
  let v45 : BitVec 32 := Scalar.addi v39 v38
  let v46 : BitVec 32 := Scalar.select v44 v45 v39
  let v441 : Index := Scalar.indexCast v46
  let c0_211 : Index := 0#32
  let c2816_212 : Index := 2816#32
  ![v441.toNat, 0, 2816]
def k0_off68 (i : grid0.Coords) : Fin 3 → Nat :=
  let arg0 : BitVec 32 := BitVec.ofNat 32 (i 0).val
  let c3_i32_15 : BitVec 32 := 3#32
  let v36 : BitVec 32 := Scalar.subi arg0 c3_i32_15
  let c6_i32 : BitVec 32 := 6#32
  let c0_i32_16 : BitVec 32 := 0#32
  let v37 : BitVec 1 := Scalar.cmpi .eq c6_i32 c0_i32_16
  let c1_i32_17 : BitVec 32 := 1#32
  let v38 : BitVec 32 := Scalar.select v37 c1_i32_17 c6_i32
  let v39 : BitVec 32 := Scalar.remsi v36 v38
  let c0_i32_19 : BitVec 32 := 0#32
  let v41 : BitVec 1 := Scalar.cmpi .slt v39 c0_i32_19
  let c0_i32_20 : BitVec 32 := 0#32
  let v42 : BitVec 1 := Scalar.cmpi .slt v38 c0_i32_20
  let v43 : BitVec 1 := Scalar.xori v41 v42
  let c0_i32_18 : BitVec 32 := 0#32
  let v40 : BitVec 1 := Scalar.cmpi .ne v39 c0_i32_18
  let v44 : BitVec 1 := Scalar.andi v43 v40
  let v45 : BitVec 32 := Scalar.addi v39 v38
  let v46 : BitVec 32 := Scalar.select v44 v45 v39
  let v466 : Index := Scalar.indexCast v46
  let c64 : Index := 64#32
  let c0_224 : Index := 0#32
  ![v466.toNat, 64, 0]
def k0_off69 (i : grid0.Coords) : Fin 3 → Nat :=
  let arg0 : BitVec 32 := BitVec.ofNat 32 (i 0).val
  let c3_i32_15 : BitVec 32 := 3#32
  let v36 : BitVec 32 := Scalar.subi arg0 c3_i32_15
  let c6_i32 : BitVec 32 := 6#32
  let c0_i32_16 : BitVec 32 := 0#32
  let v37 : BitVec 1 := Scalar.cmpi .eq c6_i32 c0_i32_16
  let c1_i32_17 : BitVec 32 := 1#32
  let v38 : BitVec 32 := Scalar.select v37 c1_i32_17 c6_i32
  let v39 : BitVec 32 := Scalar.remsi v36 v38
  let c0_i32_19 : BitVec 32 := 0#32
  let v41 : BitVec 1 := Scalar.cmpi .slt v39 c0_i32_19
  let c0_i32_20 : BitVec 32 := 0#32
  let v42 : BitVec 1 := Scalar.cmpi .slt v38 c0_i32_20
  let v43 : BitVec 1 := Scalar.xori v41 v42
  let c0_i32_18 : BitVec 32 := 0#32
  let v40 : BitVec 1 := Scalar.cmpi .ne v39 c0_i32_18
  let v44 : BitVec 1 := Scalar.andi v43 v40
  let v45 : BitVec 32 := Scalar.addi v39 v38
  let v46 : BitVec 32 := Scalar.select v44 v45 v39
  let v475 : Index := Scalar.indexCast v46
  let c64_227 : Index := 64#32
  let c0_228 : Index := 0#32
  ![v475.toNat, 64, 0]
def k0_off70 (i : grid0.Coords) : Fin 3 → Nat :=
  let arg0 : BitVec 32 := BitVec.ofNat 32 (i 0).val
  let c3_i32_15 : BitVec 32 := 3#32
  let v36 : BitVec 32 := Scalar.subi arg0 c3_i32_15
  let c6_i32 : BitVec 32 := 6#32
  let c0_i32_16 : BitVec 32 := 0#32
  let v37 : BitVec 1 := Scalar.cmpi .eq c6_i32 c0_i32_16
  let c1_i32_17 : BitVec 32 := 1#32
  let v38 : BitVec 32 := Scalar.select v37 c1_i32_17 c6_i32
  let v39 : BitVec 32 := Scalar.remsi v36 v38
  let c0_i32_19 : BitVec 32 := 0#32
  let v41 : BitVec 1 := Scalar.cmpi .slt v39 c0_i32_19
  let c0_i32_20 : BitVec 32 := 0#32
  let v42 : BitVec 1 := Scalar.cmpi .slt v38 c0_i32_20
  let v43 : BitVec 1 := Scalar.xori v41 v42
  let c0_i32_18 : BitVec 32 := 0#32
  let v40 : BitVec 1 := Scalar.cmpi .ne v39 c0_i32_18
  let v44 : BitVec 1 := Scalar.andi v43 v40
  let v45 : BitVec 32 := Scalar.addi v39 v38
  let v46 : BitVec 32 := Scalar.select v44 v45 v39
  let v509 : Index := Scalar.indexCast v46
  let c64_245 : Index := 64#32
  let c256_246 : Index := 256#32
  ![v509.toNat, 64, 256]
def k0_off71 (i : grid0.Coords) : Fin 3 → Nat :=
  let arg0 : BitVec 32 := BitVec.ofNat 32 (i 0).val
  let c3_i32_15 : BitVec 32 := 3#32
  let v36 : BitVec 32 := Scalar.subi arg0 c3_i32_15
  let c6_i32 : BitVec 32 := 6#32
  let c0_i32_16 : BitVec 32 := 0#32
  let v37 : BitVec 1 := Scalar.cmpi .eq c6_i32 c0_i32_16
  let c1_i32_17 : BitVec 32 := 1#32
  let v38 : BitVec 32 := Scalar.select v37 c1_i32_17 c6_i32
  let v39 : BitVec 32 := Scalar.remsi v36 v38
  let c0_i32_19 : BitVec 32 := 0#32
  let v41 : BitVec 1 := Scalar.cmpi .slt v39 c0_i32_19
  let c0_i32_20 : BitVec 32 := 0#32
  let v42 : BitVec 1 := Scalar.cmpi .slt v38 c0_i32_20
  let v43 : BitVec 1 := Scalar.xori v41 v42
  let c0_i32_18 : BitVec 32 := 0#32
  let v40 : BitVec 1 := Scalar.cmpi .ne v39 c0_i32_18
  let v44 : BitVec 1 := Scalar.andi v43 v40
  let v45 : BitVec 32 := Scalar.addi v39 v38
  let v46 : BitVec 32 := Scalar.select v44 v45 v39
  let v543 : Index := Scalar.indexCast v46
  let c64_263 : Index := 64#32
  let c512_264 : Index := 512#32
  ![v543.toNat, 64, 512]
def k0_off72 (i : grid0.Coords) : Fin 3 → Nat :=
  let arg0 : BitVec 32 := BitVec.ofNat 32 (i 0).val
  let c3_i32_15 : BitVec 32 := 3#32
  let v36 : BitVec 32 := Scalar.subi arg0 c3_i32_15
  let c6_i32 : BitVec 32 := 6#32
  let c0_i32_16 : BitVec 32 := 0#32
  let v37 : BitVec 1 := Scalar.cmpi .eq c6_i32 c0_i32_16
  let c1_i32_17 : BitVec 32 := 1#32
  let v38 : BitVec 32 := Scalar.select v37 c1_i32_17 c6_i32
  let v39 : BitVec 32 := Scalar.remsi v36 v38
  let c0_i32_19 : BitVec 32 := 0#32
  let v41 : BitVec 1 := Scalar.cmpi .slt v39 c0_i32_19
  let c0_i32_20 : BitVec 32 := 0#32
  let v42 : BitVec 1 := Scalar.cmpi .slt v38 c0_i32_20
  let v43 : BitVec 1 := Scalar.xori v41 v42
  let c0_i32_18 : BitVec 32 := 0#32
  let v40 : BitVec 1 := Scalar.cmpi .ne v39 c0_i32_18
  let v44 : BitVec 1 := Scalar.andi v43 v40
  let v45 : BitVec 32 := Scalar.addi v39 v38
  let v46 : BitVec 32 := Scalar.select v44 v45 v39
  let v577 : Index := Scalar.indexCast v46
  let c64_281 : Index := 64#32
  let c768_282 : Index := 768#32
  ![v577.toNat, 64, 768]
def k0_off73 (i : grid0.Coords) : Fin 3 → Nat :=
  let arg0 : BitVec 32 := BitVec.ofNat 32 (i 0).val
  let c3_i32_15 : BitVec 32 := 3#32
  let v36 : BitVec 32 := Scalar.subi arg0 c3_i32_15
  let c6_i32 : BitVec 32 := 6#32
  let c0_i32_16 : BitVec 32 := 0#32
  let v37 : BitVec 1 := Scalar.cmpi .eq c6_i32 c0_i32_16
  let c1_i32_17 : BitVec 32 := 1#32
  let v38 : BitVec 32 := Scalar.select v37 c1_i32_17 c6_i32
  let v39 : BitVec 32 := Scalar.remsi v36 v38
  let c0_i32_19 : BitVec 32 := 0#32
  let v41 : BitVec 1 := Scalar.cmpi .slt v39 c0_i32_19
  let c0_i32_20 : BitVec 32 := 0#32
  let v42 : BitVec 1 := Scalar.cmpi .slt v38 c0_i32_20
  let v43 : BitVec 1 := Scalar.xori v41 v42
  let c0_i32_18 : BitVec 32 := 0#32
  let v40 : BitVec 1 := Scalar.cmpi .ne v39 c0_i32_18
  let v44 : BitVec 1 := Scalar.andi v43 v40
  let v45 : BitVec 32 := Scalar.addi v39 v38
  let v46 : BitVec 32 := Scalar.select v44 v45 v39
  let v611 : Index := Scalar.indexCast v46
  let c64_299 : Index := 64#32
  let c1024_300 : Index := 1024#32
  ![v611.toNat, 64, 1024]
def k0_off74 (i : grid0.Coords) : Fin 3 → Nat :=
  let arg0 : BitVec 32 := BitVec.ofNat 32 (i 0).val
  let c3_i32_15 : BitVec 32 := 3#32
  let v36 : BitVec 32 := Scalar.subi arg0 c3_i32_15
  let c6_i32 : BitVec 32 := 6#32
  let c0_i32_16 : BitVec 32 := 0#32
  let v37 : BitVec 1 := Scalar.cmpi .eq c6_i32 c0_i32_16
  let c1_i32_17 : BitVec 32 := 1#32
  let v38 : BitVec 32 := Scalar.select v37 c1_i32_17 c6_i32
  let v39 : BitVec 32 := Scalar.remsi v36 v38
  let c0_i32_19 : BitVec 32 := 0#32
  let v41 : BitVec 1 := Scalar.cmpi .slt v39 c0_i32_19
  let c0_i32_20 : BitVec 32 := 0#32
  let v42 : BitVec 1 := Scalar.cmpi .slt v38 c0_i32_20
  let v43 : BitVec 1 := Scalar.xori v41 v42
  let c0_i32_18 : BitVec 32 := 0#32
  let v40 : BitVec 1 := Scalar.cmpi .ne v39 c0_i32_18
  let v44 : BitVec 1 := Scalar.andi v43 v40
  let v45 : BitVec 32 := Scalar.addi v39 v38
  let v46 : BitVec 32 := Scalar.select v44 v45 v39
  let v645 : Index := Scalar.indexCast v46
  let c64_317 : Index := 64#32
  let c1280_318 : Index := 1280#32
  ![v645.toNat, 64, 1280]
def k0_off75 (i : grid0.Coords) : Fin 3 → Nat :=
  let arg0 : BitVec 32 := BitVec.ofNat 32 (i 0).val
  let c3_i32_15 : BitVec 32 := 3#32
  let v36 : BitVec 32 := Scalar.subi arg0 c3_i32_15
  let c6_i32 : BitVec 32 := 6#32
  let c0_i32_16 : BitVec 32 := 0#32
  let v37 : BitVec 1 := Scalar.cmpi .eq c6_i32 c0_i32_16
  let c1_i32_17 : BitVec 32 := 1#32
  let v38 : BitVec 32 := Scalar.select v37 c1_i32_17 c6_i32
  let v39 : BitVec 32 := Scalar.remsi v36 v38
  let c0_i32_19 : BitVec 32 := 0#32
  let v41 : BitVec 1 := Scalar.cmpi .slt v39 c0_i32_19
  let c0_i32_20 : BitVec 32 := 0#32
  let v42 : BitVec 1 := Scalar.cmpi .slt v38 c0_i32_20
  let v43 : BitVec 1 := Scalar.xori v41 v42
  let c0_i32_18 : BitVec 32 := 0#32
  let v40 : BitVec 1 := Scalar.cmpi .ne v39 c0_i32_18
  let v44 : BitVec 1 := Scalar.andi v43 v40
  let v45 : BitVec 32 := Scalar.addi v39 v38
  let v46 : BitVec 32 := Scalar.select v44 v45 v39
  let v679 : Index := Scalar.indexCast v46
  let c64_335 : Index := 64#32
  let c1536_336 : Index := 1536#32
  ![v679.toNat, 64, 1536]
def k0_off76 (i : grid0.Coords) : Fin 3 → Nat :=
  let arg0 : BitVec 32 := BitVec.ofNat 32 (i 0).val
  let c3_i32_15 : BitVec 32 := 3#32
  let v36 : BitVec 32 := Scalar.subi arg0 c3_i32_15
  let c6_i32 : BitVec 32 := 6#32
  let c0_i32_16 : BitVec 32 := 0#32
  let v37 : BitVec 1 := Scalar.cmpi .eq c6_i32 c0_i32_16
  let c1_i32_17 : BitVec 32 := 1#32
  let v38 : BitVec 32 := Scalar.select v37 c1_i32_17 c6_i32
  let v39 : BitVec 32 := Scalar.remsi v36 v38
  let c0_i32_19 : BitVec 32 := 0#32
  let v41 : BitVec 1 := Scalar.cmpi .slt v39 c0_i32_19
  let c0_i32_20 : BitVec 32 := 0#32
  let v42 : BitVec 1 := Scalar.cmpi .slt v38 c0_i32_20
  let v43 : BitVec 1 := Scalar.xori v41 v42
  let c0_i32_18 : BitVec 32 := 0#32
  let v40 : BitVec 1 := Scalar.cmpi .ne v39 c0_i32_18
  let v44 : BitVec 1 := Scalar.andi v43 v40
  let v45 : BitVec 32 := Scalar.addi v39 v38
  let v46 : BitVec 32 := Scalar.select v44 v45 v39
  let v713 : Index := Scalar.indexCast v46
  let c64_353 : Index := 64#32
  let c1792_354 : Index := 1792#32
  ![v713.toNat, 64, 1792]
def k0_off77 (i : grid0.Coords) : Fin 3 → Nat :=
  let arg0 : BitVec 32 := BitVec.ofNat 32 (i 0).val
  let c3_i32_15 : BitVec 32 := 3#32
  let v36 : BitVec 32 := Scalar.subi arg0 c3_i32_15
  let c6_i32 : BitVec 32 := 6#32
  let c0_i32_16 : BitVec 32 := 0#32
  let v37 : BitVec 1 := Scalar.cmpi .eq c6_i32 c0_i32_16
  let c1_i32_17 : BitVec 32 := 1#32
  let v38 : BitVec 32 := Scalar.select v37 c1_i32_17 c6_i32
  let v39 : BitVec 32 := Scalar.remsi v36 v38
  let c0_i32_19 : BitVec 32 := 0#32
  let v41 : BitVec 1 := Scalar.cmpi .slt v39 c0_i32_19
  let c0_i32_20 : BitVec 32 := 0#32
  let v42 : BitVec 1 := Scalar.cmpi .slt v38 c0_i32_20
  let v43 : BitVec 1 := Scalar.xori v41 v42
  let c0_i32_18 : BitVec 32 := 0#32
  let v40 : BitVec 1 := Scalar.cmpi .ne v39 c0_i32_18
  let v44 : BitVec 1 := Scalar.andi v43 v40
  let v45 : BitVec 32 := Scalar.addi v39 v38
  let v46 : BitVec 32 := Scalar.select v44 v45 v39
  let v747 : Index := Scalar.indexCast v46
  let c64_371 : Index := 64#32
  let c2048_372 : Index := 2048#32
  ![v747.toNat, 64, 2048]
def k0_off78 (i : grid0.Coords) : Fin 3 → Nat :=
  let arg0 : BitVec 32 := BitVec.ofNat 32 (i 0).val
  let c3_i32_15 : BitVec 32 := 3#32
  let v36 : BitVec 32 := Scalar.subi arg0 c3_i32_15
  let c6_i32 : BitVec 32 := 6#32
  let c0_i32_16 : BitVec 32 := 0#32
  let v37 : BitVec 1 := Scalar.cmpi .eq c6_i32 c0_i32_16
  let c1_i32_17 : BitVec 32 := 1#32
  let v38 : BitVec 32 := Scalar.select v37 c1_i32_17 c6_i32
  let v39 : BitVec 32 := Scalar.remsi v36 v38
  let c0_i32_19 : BitVec 32 := 0#32
  let v41 : BitVec 1 := Scalar.cmpi .slt v39 c0_i32_19
  let c0_i32_20 : BitVec 32 := 0#32
  let v42 : BitVec 1 := Scalar.cmpi .slt v38 c0_i32_20
  let v43 : BitVec 1 := Scalar.xori v41 v42
  let c0_i32_18 : BitVec 32 := 0#32
  let v40 : BitVec 1 := Scalar.cmpi .ne v39 c0_i32_18
  let v44 : BitVec 1 := Scalar.andi v43 v40
  let v45 : BitVec 32 := Scalar.addi v39 v38
  let v46 : BitVec 32 := Scalar.select v44 v45 v39
  let v781 : Index := Scalar.indexCast v46
  let c64_389 : Index := 64#32
  let c2304_390 : Index := 2304#32
  ![v781.toNat, 64, 2304]
def k0_off79 (i : grid0.Coords) : Fin 3 → Nat :=
  let arg0 : BitVec 32 := BitVec.ofNat 32 (i 0).val
  let c3_i32_15 : BitVec 32 := 3#32
  let v36 : BitVec 32 := Scalar.subi arg0 c3_i32_15
  let c6_i32 : BitVec 32 := 6#32
  let c0_i32_16 : BitVec 32 := 0#32
  let v37 : BitVec 1 := Scalar.cmpi .eq c6_i32 c0_i32_16
  let c1_i32_17 : BitVec 32 := 1#32
  let v38 : BitVec 32 := Scalar.select v37 c1_i32_17 c6_i32
  let v39 : BitVec 32 := Scalar.remsi v36 v38
  let c0_i32_19 : BitVec 32 := 0#32
  let v41 : BitVec 1 := Scalar.cmpi .slt v39 c0_i32_19
  let c0_i32_20 : BitVec 32 := 0#32
  let v42 : BitVec 1 := Scalar.cmpi .slt v38 c0_i32_20
  let v43 : BitVec 1 := Scalar.xori v41 v42
  let c0_i32_18 : BitVec 32 := 0#32
  let v40 : BitVec 1 := Scalar.cmpi .ne v39 c0_i32_18
  let v44 : BitVec 1 := Scalar.andi v43 v40
  let v45 : BitVec 32 := Scalar.addi v39 v38
  let v46 : BitVec 32 := Scalar.select v44 v45 v39
  let v815 : Index := Scalar.indexCast v46
  let c64_407 : Index := 64#32
  let c2560_408 : Index := 2560#32
  ![v815.toNat, 64, 2560]
def k0_off80 (i : grid0.Coords) : Fin 3 → Nat :=
  let arg0 : BitVec 32 := BitVec.ofNat 32 (i 0).val
  let c3_i32_15 : BitVec 32 := 3#32
  let v36 : BitVec 32 := Scalar.subi arg0 c3_i32_15
  let c6_i32 : BitVec 32 := 6#32
  let c0_i32_16 : BitVec 32 := 0#32
  let v37 : BitVec 1 := Scalar.cmpi .eq c6_i32 c0_i32_16
  let c1_i32_17 : BitVec 32 := 1#32
  let v38 : BitVec 32 := Scalar.select v37 c1_i32_17 c6_i32
  let v39 : BitVec 32 := Scalar.remsi v36 v38
  let c0_i32_19 : BitVec 32 := 0#32
  let v41 : BitVec 1 := Scalar.cmpi .slt v39 c0_i32_19
  let c0_i32_20 : BitVec 32 := 0#32
  let v42 : BitVec 1 := Scalar.cmpi .slt v38 c0_i32_20
  let v43 : BitVec 1 := Scalar.xori v41 v42
  let c0_i32_18 : BitVec 32 := 0#32
  let v40 : BitVec 1 := Scalar.cmpi .ne v39 c0_i32_18
  let v44 : BitVec 1 := Scalar.andi v43 v40
  let v45 : BitVec 32 := Scalar.addi v39 v38
  let v46 : BitVec 32 := Scalar.select v44 v45 v39
  let v849 : Index := Scalar.indexCast v46
  let c64_425 : Index := 64#32
  let c2816_426 : Index := 2816#32
  ![v849.toNat, 64, 2816]
def k0_cond1 (i : grid0.Coords) : BitVec 1 :=
  let arg0 : BitVec 32 := BitVec.ofNat 32 (i 0).val
  let c0_i32_10 : BitVec 32 := 0#32
  let v27 : BitVec 1 := Scalar.cmpi .eq arg0 c0_i32_10
  let v28 : BitVec 32 := Scalar.extui v27
  let c0_i32_11 : BitVec 32 := 0#32
  let v29 : BitVec 1 := Scalar.cmpi .ne v28 c0_i32_11
  v29

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c14_i32 : BitVec 32 := 14#32
  let v0 : BitVec 32 := Scalar.minsi arg0 c14_i32
  let c3_i32 : BitVec 32 := 3#32
  let v1 : BitVec 32 := Scalar.divsi v0 c3_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi v0 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c3_i32_4 : BitVec 32 := 3#32
  let c0_i32_5 : BitVec 32 := 0#32
  let v18 : BitVec 1 := Scalar.cmpi .eq c3_i32_4 c0_i32_5
  let c1_i32_6 : BitVec 32 := 1#32
  let v19 : BitVec 32 := Scalar.select v18 c1_i32_6 c3_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_2 (i : grid0.Coords) : Fin 3 → Nat :=
  let arg0 : BitVec 32 := BitVec.ofNat 32 (i 0).val
  let c14_i32 : BitVec 32 := 14#32
  let v0 : BitVec 32 := Scalar.minsi arg0 c14_i32
  let c3_i32 : BitVec 32 := 3#32
  let v1 : BitVec 32 := Scalar.divsi v0 c3_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi v0 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c3_i32_4 : BitVec 32 := 3#32
  let c0_i32_5 : BitVec 32 := 0#32
  let v18 : BitVec 1 := Scalar.cmpi .eq c3_i32_4 c0_i32_5
  let c1_i32_6 : BitVec 32 := 1#32
  let v19 : BitVec 32 := Scalar.select v18 c1_i32_6 c3_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_3 (i : grid0.Coords) : Fin 3 → Nat :=
  let arg0 : BitVec 32 := BitVec.ofNat 32 (i 0).val
  let c14_i32 : BitVec 32 := 14#32
  let v0 : BitVec 32 := Scalar.minsi arg0 c14_i32
  let c3_i32 : BitVec 32 := 3#32
  let v1 : BitVec 32 := Scalar.divsi v0 c3_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi v0 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c3_i32_4 : BitVec 32 := 3#32
  let c0_i32_5 : BitVec 32 := 0#32
  let v18 : BitVec 1 := Scalar.cmpi .eq c3_i32_4 c0_i32_5
  let c1_i32_6 : BitVec 32 := 1#32
  let v19 : BitVec 32 := Scalar.select v18 c1_i32_6 c3_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_4 (i : grid0.Coords) : Fin 3 → Nat :=
  let arg0 : BitVec 32 := BitVec.ofNat 32 (i 0).val
  let c14_i32 : BitVec 32 := 14#32
  let v0 : BitVec 32 := Scalar.minsi arg0 c14_i32
  let c3_i32 : BitVec 32 := 3#32
  let v1 : BitVec 32 := Scalar.divsi v0 c3_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi v0 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_5 (i : grid0.Coords) : Fin 3 → Nat :=
  let arg0 : BitVec 32 := BitVec.ofNat 32 (i 0).val
  let c14_i32 : BitVec 32 := 14#32
  let v0 : BitVec 32 := Scalar.minsi arg0 c14_i32
  let c3_i32 : BitVec 32 := 3#32
  let v1 : BitVec 32 := Scalar.divsi v0 c3_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi v0 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c3_i32_4 : BitVec 32 := 3#32
  let c0_i32_5 : BitVec 32 := 0#32
  let v18 : BitVec 1 := Scalar.cmpi .eq c3_i32_4 c0_i32_5
  let c1_i32_6 : BitVec 32 := 1#32
  let v19 : BitVec 32 := Scalar.select v18 c1_i32_6 c3_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c14_i32 : BitVec 32 := 14#32
  let v0 : BitVec 32 := Scalar.minsi arg0 c14_i32
  let c3_i32 : BitVec 32 := 3#32
  let v1 : BitVec 32 := Scalar.divsi v0 c3_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi v0 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c3_i32_4 : BitVec 32 := 3#32
  let c0_i32_5 : BitVec 32 := 0#32
  let v18 : BitVec 1 := Scalar.cmpi .eq c3_i32_4 c0_i32_5
  let c1_i32_6 : BitVec 32 := 1#32
  let v19 : BitVec 32 := Scalar.select v18 c1_i32_6 c3_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_9 (i : grid0.Coords) : Fin 3 → Nat :=
  let arg0 : BitVec 32 := BitVec.ofNat 32 (i 0).val
  let c14_i32 : BitVec 32 := 14#32
  let v0 : BitVec 32 := Scalar.minsi arg0 c14_i32
  let c3_i32 : BitVec 32 := 3#32
  let v1 : BitVec 32 := Scalar.divsi v0 c3_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi v0 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c3_i32_4 : BitVec 32 := 3#32
  let c0_i32_5 : BitVec 32 := 0#32
  let v18 : BitVec 1 := Scalar.cmpi .eq c3_i32_4 c0_i32_5
  let c1_i32_6 : BitVec 32 := 1#32
  let v19 : BitVec 32 := Scalar.select v18 c1_i32_6 c3_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_10 (i : grid0.Coords) : Fin 3 → Nat :=
  let arg0 : BitVec 32 := BitVec.ofNat 32 (i 0).val
  let c14_i32 : BitVec 32 := 14#32
  let v0 : BitVec 32 := Scalar.minsi arg0 c14_i32
  let c3_i32 : BitVec 32 := 3#32
  let v1 : BitVec 32 := Scalar.divsi v0 c3_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi v0 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_11 (i : grid0.Coords) : Fin 3 → Nat :=
  let arg0 : BitVec 32 := BitVec.ofNat 32 (i 0).val
  let c3_i32 : BitVec 32 := 3#32
  let v0 : BitVec 32 := Scalar.subi arg0 c3_i32
  let c0_i32 : BitVec 32 := 0#32
  let v1 : BitVec 32 := Scalar.maxsi v0 c0_i32
  let c3_i32_0 : BitVec 32 := 3#32
  let v2 : BitVec 32 := Scalar.divsi v1 c3_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c3_i32_0 c0_i32_3
  let v9 : BitVec 32 := Scalar.extui v8
  let c0_i32_4 : BitVec 32 := 0#32
  let v10 : BitVec 1 := Scalar.cmpi .slt c3_i32_0 c0_i32_4
  let v11 : BitVec 32 := Scalar.extui v10
  let v12 : BitVec 32 := Scalar.subi v9 v11
  let v13 : BitVec 1 := Scalar.cmpi .ne v7 v12
  let v14 : BitVec 32 := Scalar.remsi v1 c3_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c3_i32_6 : BitVec 32 := 3#32
  let c0_i32_7 : BitVec 32 := 0#32
  let v19 : BitVec 1 := Scalar.cmpi .eq c3_i32_6 c0_i32_7
  let c1_i32_8 : BitVec 32 := 1#32
  let v20 : BitVec 32 := Scalar.select v19 c1_i32_8 c3_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x128x2880 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2880 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1440 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x6x2880 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1440 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S5x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S5x2880 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x128x2880 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x1440 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x6x2880 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128x1440 .i8 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S5x384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S5x2880 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== KernelIdeal.lean ====
variable {F : FTy → Type} [FloatOps F] [Named F]
def κ : String → Option EReal := fun
  | "eps" => some ((1 / 100000000 : ℝ) : EReal)
  | "inv_lr_tenth" => some ((100000 / 3 : ℝ) : EReal)
  | "lr_decay" => some ((3 / 100000 : ℝ) : EReal)
  | "seventh" => some ((1 / 7 : ℝ) : EReal)
  | "seventieth" => some ((1 / 70 : ℝ) : EReal)
  | "thousandth" => some ((1 / 1000 : ℝ) : EReal)
  | _ => none
-- ==== ReferenceIdeal.lean ====
abbrev S5x384x2880 : Shape := ⟨3, ![5, 384, 2880]⟩
abbrev S_ : Shape := ⟨0, ![]⟩
abbrev S5x384x1440 : Shape := ⟨3, ![5, 384, 1440]⟩
abbrev S5x6x2880 : Shape := ⟨3, ![5, 6, 2880]⟩
abbrev S5x384 : Shape := ⟨2, ![5, 384]⟩
abbrev S5x2880 : Shape := ⟨2, ![5, 2880]⟩
abbrev S5x384x1440x1 : Shape := ⟨4, ![5, 384, 1440, 1]⟩
abbrev S5x384x1440x2 : Shape := ⟨4, ![5, 384, 1440, 2]⟩
abbrev S5x6x64x2880 : Shape := ⟨4, ![5, 6, 64, 2880]⟩
abbrev S5x6x1x2880 : Shape := ⟨4, ![5, 6, 1, 2880]⟩
abbrev S5x384x1 : Shape := ⟨3, ![5, 384, 1]⟩
abbrev S5x1x2880 : Shape := ⟨3, ![5, 1, 2880]⟩

abbrev nBuf : Space → Nat
  | .hbm => 192
  | .vmem => 0
  | .smem => 0
  | _ => 0

abbrev hbmTy0_0 (i : Nat) : BufTy := match i % 128 with
  | 0 => ⟨S5x384x2880, .bf16⟩
  | 1 => ⟨S5x384x2880, .bf16⟩
  | 2 => ⟨S_, .i32⟩
  | 3 => ⟨S5x384x1440, .i8⟩
  | 4 => ⟨S5x6x2880, .f32⟩
  | 5 => ⟨S5x384x1440, .i8⟩
  | 6 => ⟨S5x384, .f32⟩
  | 7 => ⟨S5x2880, .f32⟩
  | 8 => ⟨S5x384x1440, .i32⟩
  | 9 => ⟨S_, .i32⟩
  | 10 => ⟨S5x384x1440, .i32⟩
  | 11 => ⟨S5x384x1440, .i32⟩
  | 12 => ⟨S_, .i32⟩
  | 13 => ⟨S5x384x1440, .i32⟩
  | 14 => ⟨S5x384x1440, .i32⟩
  | 15 => ⟨S5x384x1440x1, .i32⟩
  | 16 => ⟨S5x384x1440x1, .i32⟩
  | 17 => ⟨S5x384x1440x2, .i32⟩
  | 18 => ⟨S5x384x2880, .i32⟩
  | 19 => ⟨S_, .i32⟩
  | 20 => ⟨S5x384x2880, .i32⟩
  | 21 => ⟨S5x384x2880, .i1⟩
  | 22 => ⟨S_, .i32⟩
  | 23 => ⟨S5x384x2880, .i32⟩
  | 24 => ⟨S5x384x2880, .i32⟩
  | 25 => ⟨S5x384x2880, .i32⟩
  | 26 => ⟨S5x384x2880, .f32⟩
  | 27 => ⟨S5x6x64x2880, .f32⟩
  | 28 => ⟨S5x6x1x2880, .f32⟩
  | 29 => ⟨S5x6x64x2880, .f32⟩
  | 30 => ⟨S5x6x64x2880, .f32⟩
  | 31 => ⟨S5x384x2880, .f32⟩
  | 32 => ⟨S5x384x1440, .i32⟩
  | 33 => ⟨S_, .i32⟩
  | 34 => ⟨S5x384x1440, .i32⟩
  | 35 => ⟨S5x384x1440, .i32⟩
  | 36 => ⟨S_, .i32⟩
  | 37 => ⟨S5x384x1440, .i32⟩
  | 38 => ⟨S5x384x1440, .i32⟩
  | 39 => ⟨S5x384x1440x1, .i32⟩
  | 40 => ⟨S5x384x1440x1, .i32⟩
  | 41 => ⟨S5x384x1440x2, .i32⟩
  | 42 => ⟨S5x384x2880, .i32⟩
  | 43 => ⟨S5x384x2880, .f32⟩
  | 44 => ⟨S_, .f32⟩
  | 45 => ⟨S5x384x2880, .f32⟩
  | 46 => ⟨S5x384x2880, .f32⟩
  | 47 => ⟨S_, .f32⟩
  | 48 => ⟨S5x384x2880, .f32⟩
  | 49 => ⟨S5x384x2880, .f32⟩
  | 50 => ⟨S5x384x1, .f32⟩
  | 51 => ⟨S5x1x2880, .f32⟩
  | 52 => ⟨S5x384x2880, .f32⟩
  | 53 => ⟨S5x384x2880, .f32⟩
  | 54 => ⟨S5x384x2880, .f32⟩
  | 55 => ⟨S5x384x2880, .f32⟩
  | 56 => ⟨S5x384x2880, .f32⟩
  | 57 => ⟨S_, .f32⟩
  | 58 => ⟨S_, .f32⟩
  | 59 => ⟨S_, .f32⟩
  | 60 => ⟨S5x384x2880, .f32⟩
  | 61 => ⟨S5x384x2880, .f32⟩
  | 62 => ⟨S_, .f32⟩
  | 63 => ⟨S_, .f32⟩
  | 64 => ⟨S_, .f32⟩
  | 65 => ⟨S5x384x2880, .f32⟩
  | 66 => ⟨S5x384x2880, .f32⟩
  | 67 => ⟨S5x384x2880, .f32⟩
  | 68 => ⟨S_, .f32⟩
  | 69 => ⟨S_, .f32⟩
  | 70 => ⟨S_, .f32⟩
  | 71 => ⟨S5x384x2880, .f32⟩
  | 72 => ⟨S5x384x2880, .f32⟩
  | 73 => ⟨S_, .f32⟩
  | 74 => ⟨S_, .f32⟩
  | 75 => ⟨S_, .f32⟩
  | 76 => ⟨S5x384x2880, .f32⟩
  | 77 => ⟨S5x384x2880, .f32⟩
  | 78 => ⟨S5x384x2880, .f32⟩
  | 79 => ⟨S5x384x2880, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S5x384x2880, .f32⟩
  | 90 => ⟨S5x384x2880, .f32⟩
  | 91 => ⟨S5x384x2880, .f32⟩
  | 92 => ⟨S5x384x2880, .f32⟩
  | 93 => ⟨S5x384x2880, .f32⟩
  | 94 => ⟨S_, .f32⟩
  | 95 => ⟨S_, .f32⟩
  | 96 => ⟨S_, .f32⟩
  | 97 => ⟨S5x384x2880, .f32⟩
  | 98 => ⟨S5x384x2880, .f32⟩
  | 99 => ⟨S5x384x2880, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S5x384x2880, .f32⟩
  | 107 => ⟨S5x384x2880, .f32⟩
  | 108 => ⟨S5x384x2880, .f32⟩
  | 109 => ⟨S5x384x2880, .f32⟩
  | 110 => ⟨S5x384x2880, .f32⟩
  | 111 => ⟨S5x384x2880, .f32⟩
  | 112 => ⟨S5x6x64x2880, .f32⟩
  | 113 => ⟨S5x6x64x2880, .f32⟩
  | 114 => ⟨S_, .f32⟩
  | 115 => ⟨S5x6x2880, .f32⟩
  | 116 => ⟨S_, .f32⟩
  | 117 => ⟨S5x6x2880, .f32⟩
  | 118 => ⟨S5x6x2880, .i1⟩
  | 119 => ⟨S_, .f32⟩
  | 120 => ⟨S5x6x2880, .f32⟩
  | 121 => ⟨S5x6x2880, .f32⟩
  | 122 => ⟨S_, .f32⟩
  | 123 => ⟨S_, .f32⟩
  | 124 => ⟨S5x6x2880, .f32⟩
  | 125 => ⟨S5x6x2880, .f32⟩
  | 126 => ⟨S5x6x1x2880, .f32⟩
  | 127 => ⟨S5x6x64x2880, .f32⟩
  | _ => ⟨S5x384x2880, .bf16⟩

abbrev hbmTy0_1 (i : Nat) : BufTy := match i % 128 with
  | 0 => ⟨S5x6x64x2880, .f32⟩
  | 1 => ⟨S5x6x64x2880, .f32⟩
  | 2 => ⟨S_, .f32⟩
  | 3 => ⟨S_, .f32⟩
  | 4 => ⟨S_, .f32⟩
  | 5 => ⟨S5x6x64x2880, .f32⟩
  | 6 => ⟨S5x6x64x2880, .f32⟩
  | 7 => ⟨S_, .f32⟩
  | 8 => ⟨S5x6x64x2880, .f32⟩
  | 9 => ⟨S5x6x64x2880, .f32⟩
  | 10 => ⟨S5x6x64x2880, .i32⟩
  | 11 => ⟨S5x384x2880, .i32⟩
  | 12 => ⟨S_, .f32⟩
  | 13 => ⟨S5x384, .f32⟩
  | 14 => ⟨S_, .f32⟩
  | 15 => ⟨S5x2880, .f32⟩
  | 16 => ⟨S5x384x1, .f32⟩
  | 17 => ⟨S5x1x2880, .f32⟩
  | 18 => ⟨S5x384x2880, .f32⟩
  | 19 => ⟨S5x384x2880, .f32⟩
  | 20 => ⟨S5x384x2880, .f32⟩
  | 21 => ⟨S_, .f32⟩
  | 22 => ⟨S5x384x2880, .f32⟩
  | 23 => ⟨S5x384x2880, .f32⟩
  | 24 => ⟨S5x384x2880, .f32⟩
  | 25 => ⟨S_, .f32⟩
  | 26 => ⟨S5x384x2880, .f32⟩
  | 27 => ⟨S5x384x2880, .f32⟩
  | 28 => ⟨S5x384x2880, .f32⟩
  | 29 => ⟨S_, .f32⟩
  | 30 => ⟨S_, .f32⟩
  | 31 => ⟨S_, .f32⟩
  | 32 => ⟨S5x384x2880, .f32⟩
  | 33 => ⟨S5x384x2880, .f32⟩
  | 34 => ⟨S_, .f32⟩
  | 35 => ⟨S5x384x2880, .f32⟩
  | 36 => ⟨S5x384x2880, .f32⟩
  | 37 => ⟨S5x384x2880, .i32⟩
  | 38 => ⟨S_, .i32⟩
  | 39 => ⟨S5x384x2880, .i32⟩
  | 40 => ⟨S5x384x2880, .i32⟩
  | 41 => ⟨S5x384x1440x2, .i32⟩
  | 42 => ⟨S5x384x1440x1, .i32⟩
  | 43 => ⟨S5x384x1440, .i32⟩
  | 44 => ⟨S5x384x1440x1, .i32⟩
  | 45 => ⟨S5x384x1440, .i32⟩
  | 46 => ⟨S_, .i32⟩
  | 47 => ⟨S5x384x1440, .i32⟩
  | 48 => ⟨S5x384x1440, .i32⟩
  | 49 => ⟨S5x384x1440, .i32⟩
  | 50 => ⟨S5x384x1440, .i8⟩
  | 51 => ⟨S_, .i32⟩
  | 52 => ⟨S5x384x2880, .i32⟩
  | 53 => ⟨S5x384x2880, .i32⟩
  | 54 => ⟨S5x384x1440x2, .i32⟩
  | 55 => ⟨S5x384x1440x1, .i32⟩
  | 56 => ⟨S5x384x1440, .i32⟩
  | 57 => ⟨S5x384x1440x1, .i32⟩
  | 58 => ⟨S5x384x1440, .i32⟩
  | 59 => ⟨S_, .i32⟩
  | 60 => ⟨S5x384x1440, .i32⟩
  | 61 => ⟨S5x384x1440, .i32⟩
  | 62 => ⟨S5x384x1440, .i32⟩
  | 63 => ⟨S5x384x1440, .i8⟩
  | _ => ⟨S5x384x2880, .bf16⟩

abbrev hbmTy (i : Nat) : BufTy := match i / 128 with
  | 0 => hbmTy0_0 i
  | 1 => hbmTy0_1 i
  | _ => ⟨S5x384x2880, .bf16⟩

abbrev bufTy : (tb : Table) → Fin (tcTables nBuf tb) → BufTy
  | .hbm, ⟨i, _⟩ => hbmTy i
  | _, _ => ⟨S5x384x2880, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_10 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_12 : Ref sig .tc := ⟨.hbm, 73, rfl⟩
abbrev main_cst_13 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_14 : Ref sig .tc := ⟨.hbm, 81, rfl⟩
abbrev main_v57 : Ref sig .tc := ⟨.hbm, 82, rfl⟩
abbrev main_cst_15 : Ref sig .tc := ⟨.hbm, 83, rfl⟩
abbrev main_v58 : Ref sig .tc := ⟨.hbm, 84, rfl⟩
abbrev main_cst_16 : Ref sig .tc := ⟨.hbm, 85, rfl⟩
abbrev main_v59 : Ref sig .tc := ⟨.hbm, 86, rfl⟩
abbrev main_cst_17 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_18 : Ref sig .tc := ⟨.hbm, 94, rfl⟩
abbrev main_cst_19 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_20 : Ref sig .tc := ⟨.hbm, 100, rfl⟩
abbrev main_cst_21 : Ref sig .tc := ⟨.hbm, 101, rfl⟩
abbrev main_v70 : Ref sig .tc := ⟨.hbm, 102, rfl⟩
abbrev main_cst_22 : Ref sig .tc := ⟨.hbm, 103, rfl⟩
abbrev main_cst_23 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_24 : Ref sig .tc := ⟨.hbm, 114, rfl⟩
abbrev main_v80 : Ref sig .tc := ⟨.hbm, 115, rfl⟩
abbrev main_cst_25 : Ref sig .tc := ⟨.hbm, 116, rfl⟩
abbrev main_v81 : Ref sig .tc := ⟨.hbm, 117, rfl⟩
abbrev main_v82 : Ref sig .tc := ⟨.hbm, 118, rfl⟩
abbrev main_cst_26 : Ref sig .tc := ⟨.hbm, 119, rfl⟩
abbrev main_v83 : Ref sig .tc := ⟨.hbm, 120, rfl⟩
abbrev main_v84 : Ref sig .tc := ⟨.hbm, 121, rfl⟩
abbrev main_cst_27 : Ref sig .tc := ⟨.hbm, 122, rfl⟩
abbrev main_call1_v0 : Ref sig .tc := ⟨.hbm, 123, rfl⟩
abbrev main_call1_v1 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_cst_28 : Ref sig .tc := ⟨.hbm, 130, rfl⟩
abbrev main_cst_29 : Ref sig .tc := ⟨.hbm, 131, rfl⟩
abbrev main_call3_v0 : Ref sig .tc := ⟨.hbm, 132, rfl⟩
abbrev main_call3_v1 : Ref sig .tc := ⟨.hbm, 133, rfl⟩
abbrev main_call3_v2 : Ref sig .tc := ⟨.hbm, 134, rfl⟩
abbrev main_call3_v3 : Ref sig .tc := ⟨.hbm, 135, rfl⟩
abbrev main_call3_v4 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_cst_30 : Ref sig .tc := ⟨.hbm, 140, rfl⟩
abbrev main_v93 : Ref sig .tc := ⟨.hbm, 141, rfl⟩
abbrev main_cst_31 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_cst_32 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_cst_33 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_cst_34 : Ref sig .tc := ⟨.hbm, 157, rfl⟩
abbrev main_cst_35 : Ref sig .tc := ⟨.hbm, 158, rfl⟩
abbrev main_call5_v0 : Ref sig .tc := ⟨.hbm, 159, rfl⟩
abbrev main_call5_v1 : Ref sig .tc := ⟨.hbm, 160, rfl⟩
abbrev main_call5_v2 : Ref sig .tc := ⟨.hbm, 161, rfl⟩
abbrev main_call5_v3 : Ref sig .tc := ⟨.hbm, 162, rfl⟩
abbrev main_call5_v4 : Ref sig .tc := ⟨.hbm, 163, rfl⟩
abbrev main_v106 : Ref sig .tc := ⟨.hbm, 164, rfl⟩
abbrev main_v107 : Ref sig .tc := ⟨.hbm, 165, rfl⟩
abbrev main_c_36 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_c_37 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_c_38 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_c_39 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩

abbrev nD : Nat := 1
abbrev τ : Topo := Topo.v7x

variable {F : FTy → Type} [FloatOps F]
-- ==== Proof.Runs.lean ====
/-
  Straight-line programs over buffers held at named contents. A STATE `S : σ` says what every buffer of a body
  holds; `P S` is the ownership of all of them at that state. `Runs P p S S' a` says that from `P S` the program
  `p` returns `a` and leaves `P S'`. One rule per kind of operation: a load answers a window of the contents, a
  store puts its payload at a window of them.
-/
module

public import Idealize.ShloMosaic.Lib.Memref
public import Idealize.ShloMosaic.Lib.VecWindow
public import Idealize.ShloMosaic.Lib.Tactic

@[expose] public section

noncomputable section

namespace Cert.Proof

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U]
variable {Lvl : Type} [Preorder Lvl] {Λ : Labels}

local notation "𝕄" => MT nD τ sig Ix Val Name U Lvl

variable (defs : Defs nD τ sig Val Λ) (𝒱 : Variants) (c : Thread nD τ)

/-- From `P S` the program returns `a` and leaves `P S'`. -/
def Runs {σ α : Type} (P : σ → sProp 𝕄) (p : Prog (TpuEff nD τ sig Val Λ c.2) α) (S S' : σ) (a : α) : Prop :=
  ∀ (E : Set Name) (Q : α → sProp 𝕄), iprop(P S ∗ (P S' -∗ Q a)) ⊢ wp frame (wpE defs 𝒱 c none) E p Q

/-- A buffer of the state: the memref `m` at the contents `get S`, which may be exchanged for others (`set`). -/
structure Cell {σ : Type} (P : σ → sProp 𝕄) {sp : Space} {s : Shape} {e : EltTy} (m : Memref sig c.2.kind sp s e)
    (get : σ → s.Idx → Val e) (set : σ → (s.Idx → Val e) → σ) : Prop where
  focus : ∀ S, P S ⊢ iprop(owns c m fullShare (get S) ∗ (∀ X, owns c m fullShare X -∗ P (set S X)))
  same : ∀ S, set S (get S) = S

variable {defs 𝒱 c}
variable {σ α β : Type} {P : σ → sProp (MT nD τ sig Ix Val Name U Lvl)}

theorem Runs.ret (S : σ) (a : α) : Runs defs 𝒱 c P (.ret a) S S a := by
  intro E Q
  iintro ⟨HP, HQ⟩
  iapply (le_wp_ret _ _ _ a Q)
  iapply HQ
  iexact HP

theorem Runs.bind {p : Prog (TpuEff nD τ sig Val Λ c.2) α} {k : α → Prog (TpuEff nD τ sig Val Λ c.2) β} {S S₁ S₂ : σ} {a : α} {b : β}
    (hp : Runs defs 𝒱 c P p S S₁ a) (hk : Runs defs 𝒱 c P (k a) S₁ S₂ b) : Runs defs 𝒱 c P (p >>= k) S S₂ b := by
  intro E Q
  rw [wp_bind]
  refine BIBase.Entails.trans ?_ (hp E _)
  iintro ⟨HP, HQ⟩
  isplitl [HP]
  · iexact HP
  iintro H
  iapply (hk E Q)
  isplitl [H]
  · iexact H
  iexact HQ

variable {sp : Space} {s : Shape} {e : EltTy}

/-- A load answers the window of the contents at its rectangle. -/
theorem Runs.load {cs : CoreSpace} {m : Memref sig c.2.kind cs s e} {get : σ → s.Idx → Val e} {set : σ → (s.Idx → Val e) → σ}
    (hc : Cell c P m get set) {off size : Fin s.rank → ℕ} {inb : ∀ a, off a + size a ≤ s.size a}
    {hl : m.view.LoadsAt (Rect.unit off size inb).toLoadRect} {k : ((Rect.unit off size inb).toLoadRect.shape.Idx → Val e) → Prog (TpuEff nD τ sig Val Λ c.2) α}
    {S S' : σ} {a : α} (hk : Runs defs 𝒱 c P (k (VecWindow.window (get S) off size inb)) S S' a) :
    Runs defs 𝒱 c P (.op (.load m (Rect.unit off size inb).toLoadRect hl) k) S S' a := by
  intro E Q
  iintro ⟨HP, HQ⟩
  ihave ⟨Ho, Hback⟩ := (hc.focus S) $$ HP
  unfold owns
  icases Ho with ⟨%f, %hf, Hf⟩
  iapply (wp_load (defs := defs) 𝒱 c none (Γ := .empty) E (m := m) (hl := hl) (k := k) (Q := Q) (S := m.view.set) (f := f) (m.view.setOn_subset_set _)) $$ Hf
  iintro Hf
  have e : m.view.readAt Val (Rect.unit off size inb).toLoadRect f = VecWindow.window (get S) off size inb := by
    rw [← hf]; rfl
  rw [e]
  iapply (hk E Q)
  isplitl [Hf Hback]
  · ispecialize Hback $$ %(get S)
    rw [hc.same]
    iapply Hback
    iexists f
    isplitr
    · ipureintro; exact hf
    iexact Hf
  iexact HQ

/-- An unmasked store puts its payload at its rectangle. -/
theorem Runs.store {cs : CoreSpace} {m : Memref sig c.2.kind cs s e} {get : σ → s.Idx → Val e} {set : σ → (s.Idx → Val e) → σ}
    (hc : Cell c P m get set) {off size : Fin s.rank → ℕ} {inb : ∀ a, off a + size a ≤ s.size a} {w : (Rect.unit off size inb).shape.Idx → Val e}
    {hx : (m.access (Rect.unit off size inb)).Stores Finset.univ} {hm : Finset.univ = Finset.univ ∨ ∀ a, (Rect.unit off size inb).stride a = 1}
    {k : PUnit → Prog (TpuEff nD τ sig Val Λ c.2) α} {S S' : σ} {a : α}
    (hk : Runs defs 𝒱 c P (k ⟨⟩) (set S (VecWindow.put (get S) off size w)) S' a) :
    Runs defs 𝒱 c P (.op (.store m (Rect.unit off size inb) w Finset.univ hx hm) k) S S' a := by
  intro E Q
  iintro ⟨HP, HQ⟩
  ihave ⟨Ho, Hback⟩ := (hc.focus S) $$ HP
  unfold owns
  icases Ho with ⟨%f, %hf, Hf⟩
  iapply (wp_store_writes₀ (defs := defs) 𝒱 c none E (m := m) (hx := hx) (hm := hm) (k := k) (Q := Q) (S := m.view.set) (f := f)
    (m.setOn_access_subset _ _)) $$ Hf
  iintro Hf
  iapply (hk E Q)
  isplitl [Hf Hback]
  · iapply Hback
    iexists _
    isplitr
    swap
    · iexact Hf
    ipureintro
    rw [View.read_writes_cons_put m.view f inb w [] rfl, View.writes_nil, hf]
  iexact HQ

/-- A branch taken whatever its condition: both sides run, each to its own end. -/
theorem Runs.dite {q : Prop} [Decidable q] {p₁ : q → Prog (TpuEff nD τ sig Val Λ c.2) α} {p₂ : ¬ q → Prog (TpuEff nD τ sig Val Λ c.2) α}
    {S : σ} {S₁ : q → σ} {S₂ : ¬ q → σ} {a : α} (h₁ : ∀ h, Runs defs 𝒱 c P (p₁ h) S (S₁ h) a) (h₂ : ∀ h, Runs defs 𝒱 c P (p₂ h) S (S₂ h) a) :
    Runs defs 𝒱 c P (if h : q then p₁ h else p₂ h) S (if h : q then S₁ h else S₂ h) a := by
  by_cases h : q
  · rw [dif_pos h, dif_pos h]; exact h₁ h
  · rw [dif_neg h, dif_neg h]; exact h₂ h

end Cert.Proof

end

end
-- ==== Proof.KMach.lean ====
/-
  The buffers of the kernel body: the memrefs one grid point is called with (`Mems`), what they hold (`St`), and the
  ownership of all of them at a state (`Pst`).
-/
module

public import proofs.«01_k».proof.Proof.Gen.Kernel.Frame
public import proofs.«01_k».proof.Proof.Runs
public import Mathlib.Tactic.IntervalCases

@[expose] public section

set_option maxRecDepth 16384

noncomputable section

namespace Cert.Kernel.Body

open Cert.Kernel Cert.Kernel.Gen Cert.Proof
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The memrefs the body is called with, each a whole buffer. -/
structure Mems where
  arg1 : Memref sig .tc .smem S1 .i32
  harg1 : arg1.IsWhole
  arg2 : Memref sig .tc .vmem S1x128x2880 .bf16
  harg2 : arg2.IsWhole
  arg3 : Memref sig .tc .vmem S1x128x2880 .bf16
  harg3 : arg3.IsWhole
  arg4 : Memref sig .tc .vmem S1x128x1440 .i8
  harg4 : arg4.IsWhole
  arg5 : Memref sig .tc .vmem S1x6x2880 .f32
  harg5 : arg5.IsWhole
  arg6 : Memref sig .tc .vmem S1x128x1440 .i8
  harg6 : arg6.IsWhole
  arg7 : Memref sig .tc .vmem S5x384 .f32
  harg7 : arg7.IsWhole
  arg8 : Memref sig .tc .vmem S5x2880 .f32
  harg8 : arg8.IsWhole
  arg9 : Memref sig .tc .vmem S1x128x2880 .f32
  harg9 : arg9.IsWhole
  arg10 : Memref sig .tc .vmem S1x128x1440 .i8
  harg10 : arg10.IsWhole
  arg11 : Memref sig .tc .vmem S1x6x2880 .f32
  harg11 : arg11.IsWhole
  arg12 : Memref sig .tc .vmem S1x128x1440 .i8
  harg12 : arg12.IsWhole
  arg13 : Memref sig .tc .vmem S5x384 .f32
  harg13 : arg13.IsWhole
  arg14 : Memref sig .tc .vmem S5x2880 .f32
  harg14 : arg14.IsWhole
  arg15 : Memref sig .tc .vmem S256x256 .bf16
  harg15 : arg15.IsWhole
  arg16 : Memref sig .tc .vmem S256x128 .bf16
  harg16 : arg16.IsWhole
  arg17 : Memref sig .tc .vmem S8x128 .f32
  harg17 : arg17.IsWhole
  arg18 : Memref sig .tc .vmem S6x128x2880 .f32
  harg18 : arg18.IsWhole
  arg19 : Memref sig .tc .vmem S6x128x128 .f32
  harg19 : arg19.IsWhole
  arg20 : Memref sig .tc .vmem S2x8x2880 .f32
  harg20 : arg20.IsWhole
  arg21 : Memref sig .tc .vmem S2x1x2880 .f32
  harg21 : arg21.IsWhole
  arg22 : Memref sig .tc .vmem S128x128 .f32
  harg22 : arg22.IsWhole
  arg23 : Memref sig .tc .vmem S1x2880 .f32
  harg23 : arg23.IsWhole
  arg24 : Memref sig .tc .vmem S2x2880 .f32
  harg24 : arg24.IsWhole

/-- What each of them holds. -/
@[ext] structure St (F : FTy → Type) where
  a1 : S1.Idx → Elt F .i32
  a2 : S1x128x2880.Idx → Elt F .bf16
  a3 : S1x128x2880.Idx → Elt F .bf16
  a4 : S1x128x1440.Idx → Elt F .i8
  a5 : S1x6x2880.Idx → Elt F .f32
  a6 : S1x128x1440.Idx → Elt F .i8
  a7 : S5x384.Idx → Elt F .f32
  a8 : S5x2880.Idx → Elt F .f32
  a9 : S1x128x2880.Idx → Elt F .f32
  a10 : S1x128x1440.Idx → Elt F .i8
  a11 : S1x6x2880.Idx → Elt F .f32
  a12 : S1x128x1440.Idx → Elt F .i8
  a13 : S5x384.Idx → Elt F .f32
  a14 : S5x2880.Idx → Elt F .f32
  a15 : S256x256.Idx → Elt F .bf16
  a16 : S256x128.Idx → Elt F .bf16
  a17 : S8x128.Idx → Elt F .f32
  a18 : S6x128x2880.Idx → Elt F .f32
  a19 : S6x128x128.Idx → Elt F .f32
  a20 : S2x8x2880.Idx → Elt F .f32
  a21 : S2x1x2880.Idx → Elt F .f32
  a22 : S128x128.Idx → Elt F .f32
  a23 : S1x2880.Idx → Elt F .f32
  a24 : S2x2880.Idx → Elt F .f32

/-- All of them held whole at a state. -/
def Pst (c : Dev nD) (A : Mems) (S : St F) : sProp 𝕄 :=
  iprop(owns (c : Thread nD τ) A.arg1 fullShare S.a1 ∗ owns (c : Thread nD τ) A.arg2 fullShare S.a2 ∗ owns (c : Thread nD τ) A.arg3 fullShare S.a3 ∗ owns (c : Thread nD τ) A.arg4 fullShare S.a4 ∗ owns (c : Thread nD τ) A.arg5 fullShare S.a5 ∗ owns (c : Thread nD τ) A.arg6 fullShare S.a6 ∗ owns (c : Thread nD τ) A.arg7 fullShare S.a7 ∗ owns (c : Thread nD τ) A.arg8 fullShare S.a8 ∗ owns (c : Thread nD τ) A.arg9 fullShare S.a9 ∗ owns (c : Thread nD τ) A.arg10 fullShare S.a10 ∗ owns (c : Thread nD τ) A.arg11 fullShare S.a11 ∗ owns (c : Thread nD τ) A.arg12 fullShare S.a12 ∗ owns (c : Thread nD τ) A.arg13 fullShare S.a13 ∗ owns (c : Thread nD τ) A.arg14 fullShare S.a14 ∗ owns (c : Thread nD τ) A.arg15 fullShare S.a15 ∗ owns (c : Thread nD τ) A.arg16 fullShare S.a16 ∗ owns (c : Thread nD τ) A.arg17 fullShare S.a17 ∗ owns (c : Thread nD τ) A.arg18 fullShare S.a18 ∗ owns (c : Thread nD τ) A.arg19 fullShare S.a19 ∗ owns (c : Thread nD τ) A.arg20 fullShare S.a20 ∗ owns (c : Thread nD τ) A.arg21 fullShare S.a21 ∗ owns (c : Thread nD τ) A.arg22 fullShare S.a22 ∗ owns (c : Thread nD τ) A.arg23 fullShare S.a23 ∗ owns (c : Thread nD τ) A.arg24 fullShare S.a24)

theorem cell1 (A : Mems) (c : Dev nD) : Cell (c : Thread nD τ) (Pst (F := F) c A) A.arg1 (fun S => S.a1) (fun S X => { S with a1 := X }) where
  same _ := rfl
  focus S := by
    unfold Pst
    iintro ⟨H1, H2, H3, H4, H5, H6, H7, H8, H9, H10, H11, H12, H13, H14, H15, H16, H17, H18, H19, H20, H21, H22, H23, H24⟩
    isplitl [H1]
    · iexact H1
    iintro %X HX
    isplitl [HX]
    · iexact HX
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [H23]
    · iexact H23
    iexact H24

theorem cell2 (A : Mems) (c : Dev nD) : Cell (c : Thread nD τ) (Pst (F := F) c A) A.arg2 (fun S => S.a2) (fun S X => { S with a2 := X }) where
  same _ := rfl
  focus S := by
    unfold Pst
    iintro ⟨H1, H2, H3, H4, H5, H6, H7, H8, H9, H10, H11, H12, H13, H14, H15, H16, H17, H18, H19, H20, H21, H22, H23, H24⟩
    isplitl [H2]
    · iexact H2
    iintro %X HX
    isplitl [H1]
    · iexact H1
    isplitl [HX]
    · iexact HX
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [H23]
    · iexact H23
    iexact H24

theorem cell3 (A : Mems) (c : Dev nD) : Cell (c : Thread nD τ) (Pst (F := F) c A) A.arg3 (fun S => S.a3) (fun S X => { S with a3 := X }) where
  same _ := rfl
  focus S := by
    unfold Pst
    iintro ⟨H1, H2, H3, H4, H5, H6, H7, H8, H9, H10, H11, H12, H13, H14, H15, H16, H17, H18, H19, H20, H21, H22, H23, H24⟩
    isplitl [H3]
    · iexact H3
    iintro %X HX
    isplitl [H1]
    · iexact H1
    isplitl [H2]
    · iexact H2
    isplitl [HX]
    · iexact HX
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [H23]
    · iexact H23
    iexact H24

theorem cell4 (A : Mems) (c : Dev nD) : Cell (c : Thread nD τ) (Pst (F := F) c A) A.arg4 (fun S => S.a4) (fun S X => { S with a4 := X }) where
  same _ := rfl
  focus S := by
    unfold Pst
    iintro ⟨H1, H2, H3, H4, H5, H6, H7, H8, H9, H10, H11, H12, H13, H14, H15, H16, H17, H18, H19, H20, H21, H22, H23, H24⟩
    isplitl [H4]
    · iexact H4
    iintro %X HX
    isplitl [H1]
    · iexact H1
    isplitl [H2]
    · iexact H2
    isplitl [H3]
    · iexact H3
    isplitl [HX]
    · iexact HX
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [H23]
    · iexact H23
    iexact H24

theorem cell5 (A : Mems) (c : Dev nD) : Cell (c : Thread nD τ) (Pst (F := F) c A) A.arg5 (fun S => S.a5) (fun S X => { S with a5 := X }) where
  same _ := rfl
  focus S := by
    unfold Pst
    iintro ⟨H1, H2, H3, H4, H5, H6, H7, H8, H9, H10, H11, H12, H13, H14, H15, H16, H17, H18, H19, H20, H21, H22, H23, H24⟩
    isplitl [H5]
    · iexact H5
    iintro %X HX
    isplitl [H1]
    · iexact H1
    isplitl [H2]
    · iexact H2
    isplitl [H3]
    · iexact H3
    isplitl [H4]
    · iexact H4
    isplitl [HX]
    · iexact HX
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [H23]
    · iexact H23
    iexact H24

theorem cell6 (A : Mems) (c : Dev nD) : Cell (c : Thread nD τ) (Pst (F := F) c A) A.arg6 (fun S => S.a6) (fun S X => { S with a6 := X }) where
  same _ := rfl
  focus S := by
    unfold Pst
    iintro ⟨H1, H2, H3, H4, H5, H6, H7, H8, H9, H10, H11, H12, H13, H14, H15, H16, H17, H18, H19, H20, H21, H22, H23, H24⟩
    isplitl [H6]
    · iexact H6
    iintro %X HX
    isplitl [H1]
    · iexact H1
    isplitl [H2]
    · iexact H2
    isplitl [H3]
    · iexact H3
    isplitl [H4]
    · iexact H4
    isplitl [H5]
    · iexact H5
    isplitl [HX]
    · iexact HX
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [H23]
    · iexact H23
    iexact H24

theorem cell7 (A : Mems) (c : Dev nD) : Cell (c : Thread nD τ) (Pst (F := F) c A) A.arg7 (fun S => S.a7) (fun S X => { S with a7 := X }) where
  same _ := rfl
  focus S := by
    unfold Pst
    iintro ⟨H1, H2, H3, H4, H5, H6, H7, H8, H9, H10, H11, H12, H13, H14, H15, H16, H17, H18, H19, H20, H21, H22, H23, H24⟩
    isplitl [H7]
    · iexact H7
    iintro %X HX
    isplitl [H1]
    · iexact H1
    isplitl [H2]
    · iexact H2
    isplitl [H3]
    · iexact H3
    isplitl [H4]
    · iexact H4
    isplitl [H5]
    · iexact H5
    isplitl [H6]
    · iexact H6
    isplitl [HX]
    · iexact HX
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [H23]
    · iexact H23
    iexact H24

theorem cell8 (A : Mems) (c : Dev nD) : Cell (c : Thread nD τ) (Pst (F := F) c A) A.arg8 (fun S => S.a8) (fun S X => { S with a8 := X }) where
  same _ := rfl
  focus S := by
    unfold Pst
    iintro ⟨H1, H2, H3, H4, H5, H6, H7, H8, H9, H10, H11, H12, H13, H14, H15, H16, H17, H18, H19, H20, H21, H22, H23, H24⟩
    isplitl [H8]
    · iexact H8
    iintro %X HX
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [HX]
    · iexact HX
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [H23]
    · iexact H23
    iexact H24

theorem cell9 (A : Mems) (c : Dev nD) : Cell (c : Thread nD τ) (Pst (F := F) c A) A.arg9 (fun S => S.a9) (fun S X => { S with a9 := X }) where
  same _ := rfl
  focus S := by
    unfold Pst
    iintro ⟨H1, H2, H3, H4, H5, H6, H7, H8, H9, H10, H11, H12, H13, H14, H15, H16, H17, H18, H19, H20, H21, H22, H23, H24⟩
    isplitl [H9]
    · iexact H9
    iintro %X HX
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [HX]
    · iexact HX
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [H23]
    · iexact H23
    iexact H24

theorem cell10 (A : Mems) (c : Dev nD) : Cell (c : Thread nD τ) (Pst (F := F) c A) A.arg10 (fun S => S.a10) (fun S X => { S with a10 := X }) where
  same _ := rfl
  focus S := by
    unfold Pst
    iintro ⟨H1, H2, H3, H4, H5, H6, H7, H8, H9, H10, H11, H12, H13, H14, H15, H16, H17, H18, H19, H20, H21, H22, H23, H24⟩
    isplitl [H10]
    · iexact H10
    iintro %X HX
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [HX]
    · iexact HX
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [H23]
    · iexact H23
    iexact H24

theorem cell11 (A : Mems) (c : Dev nD) : Cell (c : Thread nD τ) (Pst (F := F) c A) A.arg11 (fun S => S.a11) (fun S X => { S with a11 := X }) where
  same _ := rfl
  focus S := by
    unfold Pst
    iintro ⟨H1, H2, H3, H4, H5, H6, H7, H8, H9, H10, H11, H12, H13, H14, H15, H16, H17, H18, H19, H20, H21, H22, H23, H24⟩
    isplitl [H11]
    · iexact H11
    iintro %X HX
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [HX]
    · iexact HX
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [H23]
    · iexact H23
    iexact H24

theorem cell12 (A : Mems) (c : Dev nD) : Cell (c : Thread nD τ) (Pst (F := F) c A) A.arg12 (fun S => S.a12) (fun S X => { S with a12 := X }) where
  same _ := rfl
  focus S := by
    unfold Pst
    iintro ⟨H1, H2, H3, H4, H5, H6, H7, H8, H9, H10, H11, H12, H13, H14, H15, H16, H17, H18, H19, H20, H21, H22, H23, H24⟩
    isplitl [H12]
    · iexact H12
    iintro %X HX
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [HX]
    · iexact HX
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [H23]
    · iexact H23
    iexact H24

theorem cell13 (A : Mems) (c : Dev nD) : Cell (c : Thread nD τ) (Pst (F := F) c A) A.arg13 (fun S => S.a13) (fun S X => { S with a13 := X }) where
  same _ := rfl
  focus S := by
    unfold Pst
    iintro ⟨H1, H2, H3, H4, H5, H6, H7, H8, H9, H10, H11, H12, H13, H14, H15, H16, H17, H18, H19, H20, H21, H22, H23, H24⟩
    isplitl [H13]
    · iexact H13
    iintro %X HX
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [HX]
    · iexact HX
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [H23]
    · iexact H23
    iexact H24

theorem cell14 (A : Mems) (c : Dev nD) : Cell (c : Thread nD τ) (Pst (F := F) c A) A.arg14 (fun S => S.a14) (fun S X => { S with a14 := X }) where
  same _ := rfl
  focus S := by
    unfold Pst
    iintro ⟨H1, H2, H3, H4, H5, H6, H7, H8, H9, H10, H11, H12, H13, H14, H15, H16, H17, H18, H19, H20, H21, H22, H23, H24⟩
    isplitl [H14]
    · iexact H14
    iintro %X HX
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [HX]
    · iexact HX
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [H23]
    · iexact H23
    iexact H24

theorem cell15 (A : Mems) (c : Dev nD) : Cell (c : Thread nD τ) (Pst (F := F) c A) A.arg15 (fun S => S.a15) (fun S X => { S with a15 := X }) where
  same _ := rfl
  focus S := by
    unfold Pst
    iintro ⟨H1, H2, H3, H4, H5, H6, H7, H8, H9, H10, H11, H12, H13, H14, H15, H16, H17, H18, H19, H20, H21, H22, H23, H24⟩
    isplitl [H15]
    · iexact H15
    iintro %X HX
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [HX]
    · iexact HX
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [H23]
    · iexact H23
    iexact H24

theorem cell16 (A : Mems) (c : Dev nD) : Cell (c : Thread nD τ) (Pst (F := F) c A) A.arg16 (fun S => S.a16) (fun S X => { S with a16 := X }) where
  same _ := rfl
  focus S := by
    unfold Pst
    iintro ⟨H1, H2, H3, H4, H5, H6, H7, H8, H9, H10, H11, H12, H13, H14, H15, H16, H17, H18, H19, H20, H21, H22, H23, H24⟩
    isplitl [H16]
    · iexact H16
    iintro %X HX
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [HX]
    · iexact HX
    isplitl [H17]
    · iexact H17
    isplitl [H18]
    · iexact H18
    isplitl [H19]
    · iexact H19
    isplitl [H20]
    · iexact H20
    isplitl [H21]
    · iexact H21
    isplitl [H22]
    · iexact H22
    isplitl [H23]
    · iexact H23
    iexact H24

theorem cell17 (A : Mems) (c : Dev nD) : Cell (c : Thread nD τ) (Pst (F := F) c A) A.arg17 (fun S => S.a17) (fun S X => { S with a17 := X }) where
  same _ := rfl
  focus S := by
    unfold Pst
    iintro ⟨H1, H2, H3, H4, H5, H6, H7, H8, H9, H10, H11, H12, H13, H14, H15, H16, H17, H18, H19, H20, H21, H22, H23, H24⟩
    isplitl [H17]
    · iexact H17
    iintro %X HX
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [HX]
    · iexact HX
    isplitl [H18]
    · iexact H18
    isplitl [H19]
    · iexact H19
    isplitl [H20]
    · iexact H20
    isplitl [H21]
    · iexact H21
    isplitl [H22]
    · iexact H22
    isplitl [H23]
    · iexact H23
    iexact H24

theorem cell18 (A : Mems) (c : Dev nD) : Cell (c : Thread nD τ) (Pst (F := F) c A) A.arg18 (fun S => S.a18) (fun S X => { S with a18 := X }) where
  same _ := rfl
  focus S := by
    unfold Pst
    iintro ⟨H1, H2, H3, H4, H5, H6, H7, H8, H9, H10, H11, H12, H13, H14, H15, H16, H17, H18, H19, H20, H21, H22, H23, H24⟩
    isplitl [H18]
    · iexact H18
    iintro %X HX
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [HX]
    · iexact HX
    isplitl [H19]
    · iexact H19
    isplitl [H20]
    · iexact H20
    isplitl [H21]
    · iexact H21
    isplitl [H22]
    · iexact H22
    isplitl [H23]
    · iexact H23
    iexact H24

theorem cell19 (A : Mems) (c : Dev nD) : Cell (c : Thread nD τ) (Pst (F := F) c A) A.arg19 (fun S => S.a19) (fun S X => { S with a19 := X }) where
  same _ := rfl
  focus S := by
    unfold Pst
    iintro ⟨H1, H2, H3, H4, H5, H6, H7, H8, H9, H10, H11, H12, H13, H14, H15, H16, H17, H18, H19, H20, H21, H22, H23, H24⟩
    isplitl [H19]
    · iexact H19
    iintro %X HX
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [HX]
    · iexact HX
    isplitl [H20]
    · iexact H20
    isplitl [H21]
    · iexact H21
    isplitl [H22]
    · iexact H22
    isplitl [H23]
    · iexact H23
    iexact H24

theorem cell20 (A : Mems) (c : Dev nD) : Cell (c : Thread nD τ) (Pst (F := F) c A) A.arg20 (fun S => S.a20) (fun S X => { S with a20 := X }) where
  same _ := rfl
  focus S := by
    unfold Pst
    iintro ⟨H1, H2, H3, H4, H5, H6, H7, H8, H9, H10, H11, H12, H13, H14, H15, H16, H17, H18, H19, H20, H21, H22, H23, H24⟩
    isplitl [H20]
    · iexact H20
    iintro %X HX
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [HX]
    · iexact HX
    isplitl [H21]
    · iexact H21
    isplitl [H22]
    · iexact H22
    isplitl [H23]
    · iexact H23
    iexact H24

theorem cell21 (A : Mems) (c : Dev nD) : Cell (c : Thread nD τ) (Pst (F := F) c A) A.arg21 (fun S => S.a21) (fun S X => { S with a21 := X }) where
  same _ := rfl
  focus S := by
    unfold Pst
    iintro ⟨H1, H2, H3, H4, H5, H6, H7, H8, H9, H10, H11, H12, H13, H14, H15, H16, H17, H18, H19, H20, H21, H22, H23, H24⟩
    isplitl [H21]
    · iexact H21
    iintro %X HX
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [HX]
    · iexact HX
    isplitl [H22]
    · iexact H22
    isplitl [H23]
    · iexact H23
    iexact H24

theorem cell22 (A : Mems) (c : Dev nD) : Cell (c : Thread nD τ) (Pst (F := F) c A) A.arg22 (fun S => S.a22) (fun S X => { S with a22 := X }) where
  same _ := rfl
  focus S := by
    unfold Pst
    iintro ⟨H1, H2, H3, H4, H5, H6, H7, H8, H9, H10, H11, H12, H13, H14, H15, H16, H17, H18, H19, H20, H21, H22, H23, H24⟩
    isplitl [H22]
    · iexact H22
    iintro %X HX
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [HX]
    · iexact HX
    isplitl [H23]
    · iexact H23
    iexact H24

theorem cell23 (A : Mems) (c : Dev nD) : Cell (c : Thread nD τ) (Pst (F := F) c A) A.arg23 (fun S => S.a23) (fun S X => { S with a23 := X }) where
  same _ := rfl
  focus S := by
    unfold Pst
    iintro ⟨H1, H2, H3, H4, H5, H6, H7, H8, H9, H10, H11, H12, H13, H14, H15, H16, H17, H18, H19, H20, H21, H22, H23, H24⟩
    isplitl [H23]
    · iexact H23
    iintro %X HX
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [HX]
    · iexact HX
    iexact H24

theorem cell24 (A : Mems) (c : Dev nD) : Cell (c : Thread nD τ) (Pst (F := F) c A) A.arg24 (fun S => S.a24) (fun S X => { S with a24 := X }) where
  same _ := rfl
  focus S := by
    unfold Pst
    iintro ⟨H1, H2, H3, H4, H5, H6, H7, H8, H9, H10, H11, H12, H13, H14, H15, H16, H17, H18, H19, H20, H21, H22, H23, H24⟩
    isplitl [H24]
    · iexact H24
    iintro %X HX
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [H23]
    · iexact H23
    iexact HX

/-! ### Rectangles inside their buffers -/

theorem inb2 {X Y x y a b : ℕ} (h₀ : a + x ≤ X) (h₁ : b + y ≤ Y) : ∀ k : Fin 2, (![a, b] : Fin 2 → ℕ) k + (![x, y] : Fin 2 → ℕ) k ≤ (![X, Y] : Fin 2 → ℕ) k := by
  intro k; fin_cases k
  · exact h₀
  · exact h₁

theorem inb3 {X Y Z x y z a b d : ℕ} (h₀ : a + x ≤ X) (h₁ : b + y ≤ Y) (h₂ : d + z ≤ Z) :
    ∀ k : Fin 3, (![a, b, d] : Fin 3 → ℕ) k + (![x, y, z] : Fin 3 → ℕ) k ≤ (![X, Y, Z] : Fin 3 → ℕ) k := by
  intro k; fin_cases k
  · exact h₀
  · exact h₁
  · exact h₂

theorem inbB {mb j : ℕ} (hmb : mb < 2) (hj : j < 11) : ∀ a, (![0, 64 * mb, 256 * j] : Fin 3 → ℕ) a + S1x64x256.size a ≤ S1x128x2880.size a :=
  inb3 (by omega) (by omega) (by omega)

theorem inbBl {mb : ℕ} (hmb : mb < 2) : ∀ a, (![0, 64 * mb, 2816] : Fin 3 → ℕ) a + S1x64x64.size a ≤ S1x128x2880.size a :=
  inb3 (by omega) (by omega) (by omega)

theorem inbC {mb j : ℕ} (hmb : mb < 2) (hj : j < 11) : ∀ a, (![0, 64 * mb, 128 * j] : Fin 3 → ℕ) a + S1x64x128.size a ≤ S1x128x1440.size a :=
  inb3 (by omega) (by omega) (by omega)

theorem inbCl {mb : ℕ} (hmb : mb < 2) : ∀ a, (![0, 64 * mb, 1408] : Fin 3 → ℕ) a + S1x64x32.size a ≤ S1x128x1440.size a :=
  inb3 (by omega) (by omega) (by omega)

theorem inbS0 {j : ℕ} (hj : j < 11) : ∀ a, (![0, 256 * j] : Fin 2 → ℕ) a + S1x256.size a ≤ S2x2880.size a :=
  inb2 (by omega) (by omega)

theorem inbS1 {j : ℕ} (hj : j < 11) : ∀ a, (![1, 256 * j] : Fin 2 → ℕ) a + S1x256.size a ≤ S2x2880.size a :=
  inb2 (by omega) (by omega)

theorem inbN {j : ℕ} (hj : j < 11) : ∀ a, (![0, 256 * j] : Fin 2 → ℕ) a + S1x256.size a ≤ S1x2880.size a :=
  inb2 (by omega) (by omega)

theorem inbR {mb : ℕ} (hmb : mb < 2) : ∀ a, (![64 * mb, 0] : Fin 2 → ℕ) a + S64x128.size a ≤ S128x128.size a :=
  inb2 (by omega) (by omega)

theorem inbV {vs mb j : ℕ} (hvs : vs < 6) (hmb : mb < 2) (hj : j < 11) : ∀ a, (![vs, 64 * mb, 256 * j] : Fin 3 → ℕ) a + S1x64x256.size a ≤ S6x128x2880.size a :=
  inb3 (by omega) (by omega) (by omega)

theorem inbVl {vs mb : ℕ} (hvs : vs < 6) (hmb : mb < 2) : ∀ a, (![vs, 64 * mb, 2816] : Fin 3 → ℕ) a + S1x64x64.size a ≤ S6x128x2880.size a :=
  inb3 (by omega) (by omega) (by omega)

theorem inbI {vs mb : ℕ} (hvs : vs < 6) (hmb : mb < 2) : ∀ a, (![vs, 64 * mb, 0] : Fin 3 → ℕ) a + S1x64x128.size a ≤ S6x128x128.size a :=
  inb3 (by omega) (by omega) (by omega)

theorem inbM {cp j : ℕ} (hcp : cp < 2) (hj : j < 11) : ∀ a, (![cp, 0, 256 * j] : Fin 3 → ℕ) a + S1x8x256.size a ≤ S2x8x2880.size a :=
  inb3 (by omega) (by omega) (by omega)

theorem inbMl {cp : ℕ} (hcp : cp < 2) : ∀ a, (![cp, 0, 2816] : Fin 3 → ℕ) a + S1x8x64.size a ≤ S2x8x2880.size a :=
  inb3 (by omega) (by omega) (by omega)

theorem inbMw {cp : ℕ} (hcp : cp < 2) : ∀ a, (![cp, 0, 0] : Fin 3 → ℕ) a + S1x8x2880.size a ≤ S2x8x2880.size a :=
  inb3 (by omega) (by omega) (by omega)

theorem inbK {cp j : ℕ} (hcp : cp < 2) (hj : j < 11) : ∀ a, (![cp, 0, 256 * j] : Fin 3 → ℕ) a + S1x1x256.size a ≤ S2x1x2880.size a :=
  inb3 (by omega) (by omega) (by omega)

theorem inbKl {cp : ℕ} (hcp : cp < 2) : ∀ a, (![cp, 0, 2816] : Fin 3 → ℕ) a + S1x1x64.size a ≤ S2x1x2880.size a :=
  inb3 (by omega) (by omega) (by omega)

theorem inbKw {cp : ℕ} (hcp : cp < 2) : ∀ a, (![cp, 0, 0] : Fin 3 → ℕ) a + S1x1x2880.size a ≤ S2x1x2880.size a :=
  inb3 (by omega) (by omega) (by omega)

theorem inbL {ls : ℕ} (hls : ls + 128 ≤ 384) : ∀ a, (![0, ls] : Fin 2 → ℕ) a + S5x128.size a ≤ S5x384.size a :=
  inb2 (by omega) (by omega)

/-- A block of whole packed words: 64 rows from a multiple of 64. -/
theorem packedC {mb j : ℕ} (hmb : mb < 2) (hj : j < 11) : (Rect.unit (s := S1x128x1440) ![0, 64 * mb, 128 * j] S1x64x128.size (inbC hmb hj)).PackedRows (EltTy.packing .i8) := by
  interval_cases mb <;> interval_cases j <;> decide +revert

theorem packedCl {mb : ℕ} (hmb : mb < 2) : (Rect.unit (s := S1x128x1440) ![0, 64 * mb, 1408] S1x64x32.size (inbCl hmb)).PackedRows (EltTy.packing .i8) := by
  interval_cases mb <;> decide +revert

end Cert.Kernel.Body

end

end
-- ==== Proof.KPieces.lean ====
/-
  The pieces of the kernel body that happen once at a point: the first point's setup (`init`), a new expert's column
  maximum (`start`), the row maxima (`pre`), the scales of a block of 64 rows (`head`, `tail`), the row maxima written
  (`vro`) and a finished expert's column maxima (`finish`). Each piece as a program, as a function of the state, and the
  proof that the one runs as the other. The payload of every store is a definition of its own.
-/
module

public import proofs.«01_k».proof.Proof.Gen.Kernel.Frame
public import proofs.«01_k».proof.Proof.Runs
public import proofs.«01_k».proof.Proof.KMach
@[expose] public section

set_option maxRecDepth 16384

noncomputable section

namespace Cert.Kernel.Body

open Cert.Kernel Cert.Kernel.Gen Cert.Proof
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ### The first point -/

def initA (v76 : Elt F .i32) : FVec F S8x128 .f32 :=
  let cst_30 : F .f32 := Scalar.ofBits .f32 0x3F800000#32
  let v81 := broadcast S8x128 cst_30
  let cst_29 : F .f32 := Scalar.ofBits .f32 0x3F666666#32
  let v79 := broadcast S8x128 cst_29
  let v77 := broadcast S8x128 v76
  let v78 := sitofp .f32 v77
  let v80 := powf v79 v78
  let v82 := subf v81 v80
  let cst_33 : F .f32 := Scalar.ofBits .f32 0x47023555#32
  let v87 := broadcast S8x128 cst_33
  mulf v82 v87

def initQ  : FVec F S256x256 .bf16 :=
  let v37 := iota .tc S256x256 32 [1] iota_S256x256_d1_w32
  let v36 := iota .tc S256x256 32 [0] iota_S256x256_d0_w32
  let c128_i32 : BitVec 32 := 128#32
  let v38 := broadcast S256x256 c128_i32
  let v39 := cmpi .slt v36 v38
  let c2_i32 : BitVec 32 := 2#32
  let v40 := broadcast S256x256 c2_i32
  let v41 := muli v40 v36
  let c2_i32_16 : BitVec 32 := 2#32
  let v44 := broadcast S256x256 c2_i32_16
  let c128_i32_15 : BitVec 32 := 128#32
  let v42 := broadcast S256x256 c128_i32_15
  let v43 := subi v36 v42
  let v45 := muli v44 v43
  let c1_i32_17 : BitVec 32 := 1#32
  let v46 := broadcast S256x256 c1_i32_17
  let v47 := addi v45 v46
  let v48 := select v39 v41 v47
  let v49 := cmpi .eq v37 v48
  let cst : F .f32 := Scalar.ofBits .f32 0x3D800000#32
  let v50 := broadcast S256x256 cst
  let cst_18 : F .f32 := Scalar.ofBits .f32 0x00000000#32
  let v51 := broadcast S256x256 cst_18
  let v52 := select v49 v50 v51
  let v53 := truncf .bf16 v52 bitsLt_bf16_f32
  shapeCast S256x256 v53 shapeCasts_S256x256_S256x256

def initP  : FVec F S256x128 .bf16 :=
  let v58 := iota .tc S256x128 32 [0] iota_S256x128_d0_w32
  let c2_i32_20 : BitVec 32 := 2#32
  let v59 := broadcast S256x128 c2_i32_20
  let v57 := iota .tc S256x128 32 [1] iota_S256x128_d1_w32
  let v60 := muli v59 v57
  let v61 := cmpi .eq v58 v60
  let cst_25 : F .f32 := Scalar.ofBits .f32 0x3F800000#32
  let v70 := broadcast S256x128 cst_25
  let c2_i32_21 : BitVec 32 := 2#32
  let v62 := broadcast S256x128 c2_i32_21
  let v63 := muli v62 v57
  let c1_i32_22 : BitVec 32 := 1#32
  let v64 := broadcast S256x128 c1_i32_22
  let v65 := addi v63 v64
  let v66 := cmpi .eq v58 v65
  let cst_23 : F .f32 := Scalar.ofBits .f32 0x41800000#32
  let v67 := broadcast S256x128 cst_23
  let cst_24 : F .f32 := Scalar.ofBits .f32 0x00000000#32
  let v68 := broadcast S256x128 cst_24
  let v69 := select v66 v67 v68
  let v71 := select v61 v70 v69
  let v72 := truncf .bf16 v71 bitsLt_bf16_f32
  shapeCast S256x128 v72 shapeCasts_S256x128_S256x128

def initK1 (v76 : Elt F .i32) (v88 : FVec F S8x128 .f32) : FVec F S1x128 .f32 :=
  let cst_34 : F .f32 := Scalar.ofBits .f32 0x3A83126F#32
  let v89 := broadcast S8x128 cst_34
  let cst_32 : F .f32 := Scalar.ofBits .f32 0x3F800000#32
  let v85 := broadcast S8x128 cst_32
  let cst_31 : F .f32 := Scalar.ofBits .f32 0x3F7FBE77#32
  let v83 := broadcast S8x128 cst_31
  let v77 := broadcast S8x128 v76
  let v78 := sitofp .f32 v77
  let v84 := powf v83 v78
  let v86 := subf v85 v84
  let v90 := divf v89 v86
  let v91 := sqrt v90
  let v92 := mulf v91 v88
  let v93 := extractStridedSlice S1x128 ![0, 0] v92 slices_S8x128_o0_0_S1x128
  shapeCast S1x128 v93 shapeCasts_S1x128_S1x128

def initK2 (v88 : FVec F S8x128 .f32) : FVec F S1x128 .f32 :=
  let cst_37 : F .f32 := Scalar.ofBits .f32 0x322BCC77#32
  let v97 := broadcast S8x128 cst_37
  let v98 := mulf v97 v88
  let v99 := extractStridedSlice S1x128 ![0, 0] v98 slices_S8x128_o0_0_S1x128
  shapeCast S1x128 v99 shapeCasts_S1x128_S1x128

def initRo  : FVec F S5x384 .f32 :=
  let cst_39 : F .f32 := Scalar.ofBits .f32 0x00000000#32
  broadcast S5x384 cst_39

def initCo  : FVec F S5x2880 .f32 :=
  let cst_42 : F .f32 := Scalar.ofBits .f32 0x00000000#32
  broadcast S5x2880 cst_42

def init (A : Mems)   : Prog (TpuEff nD τ sig (Elt F) Λ₀ .tc) (PUnit) := do
  let _v54 : Vec F S256x256 .bf16 ← Prog.lift (.load A.arg15 (Rect.unit (s := S256x256) ![0, 0] S256x256.size inb_S256x256_S256x256_0_0).toLoadRect (View.loadsAt_vmem h_S256x256))
  Prog.lift (.store A.arg15 (Rect.unit (s := S256x256) ![0, 0] S256x256.size inb_S256x256_S256x256_0_0) (initQ ) Finset.univ (View.stores_vmem h_S256x256 (A.harg15.storeExact_slice rfl _ packedbf16_S256x256_S256x256_0_0) (fun _ => rfl)) (.inl rfl))
  let _v73 : Vec F S256x128 .bf16 ← Prog.lift (.load A.arg16 (Rect.unit (s := S256x128) ![0, 0] S256x128.size inb_S256x128_S256x128_0_0).toLoadRect (View.loadsAt_vmem h_S256x128))
  Prog.lift (.store A.arg16 (Rect.unit (s := S256x128) ![0, 0] S256x128.size inb_S256x128_S256x128_0_0) (initP ) Finset.univ (View.stores_vmem h_S256x128 (A.harg16.storeExact_slice rfl _ packedbf16_S256x128_S256x128_0_0) (fun _ => rfl)) (.inl rfl))
  let v76 : Elt F .i32 ← smemLoad A.arg1 (Rect.unit (s := S1) ![0] S1.size inb_S1_S1_0) numel1_S1 rfl
  let v88 := initA v76
  let _v94 : Vec F S1x128 .f32 ← Prog.lift (.load A.arg17 (Rect.unit (s := S8x128) ![0, 0] S1x128.size inb_S8x128_S1x128_0_0).toLoadRect (View.loadsAt_vmem h_S1x128))
  Prog.lift (.store A.arg17 (Rect.unit (s := S8x128) ![0, 0] S1x128.size inb_S8x128_S1x128_0_0) (initK1 v76 v88) Finset.univ (View.stores_vmem_bits_univ h_S1x128 rfl) (.inl rfl))
  let _v100 : Vec F S1x128 .f32 ← Prog.lift (.load A.arg17 (Rect.unit (s := S8x128) ![1, 0] S1x128.size inb_S8x128_S1x128_1_0).toLoadRect (View.loadsAt_vmem h_S1x128))
  Prog.lift (.store A.arg17 (Rect.unit (s := S8x128) ![1, 0] S1x128.size inb_S8x128_S1x128_1_0) (initK2 v88) Finset.univ (View.stores_vmem_bits_univ h_S1x128 rfl) (.inl rfl))
  let _v104 : Vec F S5x384 .f32 ← Prog.lift (.load A.arg13 (Rect.unit (s := S5x384) ![0, 0] S5x384.size inb_S5x384_S5x384_0_0).toLoadRect (View.loadsAt_vmem h_S5x384))
  Prog.lift (.store A.arg13 (Rect.unit (s := S5x384) ![0, 0] S5x384.size inb_S5x384_S5x384_0_0) (initRo ) Finset.univ (View.stores_vmem_bits_univ h_S5x384 rfl) (.inl rfl))
  let _v106 : Vec F S5x2880 .f32 ← Prog.lift (.load A.arg14 (Rect.unit (s := S5x2880) ![0, 0] S5x2880.size inb_S5x2880_S5x2880_0_0).toLoadRect (View.loadsAt_vmem h_S5x2880))
  Prog.lift (.store A.arg14 (Rect.unit (s := S5x2880) ![0, 0] S5x2880.size inb_S5x2880_S5x2880_0_0) (initCo ) Finset.univ (View.stores_vmem_bits_univ h_S5x2880 rfl) (.inl rfl))
  pure ⟨⟩

def initS   (S : St F) : St F :=
  let S : St F := { S with a15 := VecWindow.put (s := S256x256) S.a15 ![0, 0] S256x256.size (initQ ) }
  let S : St F := { S with a16 := VecWindow.put (s := S256x128) S.a16 ![0, 0] S256x128.size (initP ) }
  let v76 := VecWindow.window (s := S1) S.a1 ![0] S1.size inb_S1_S1_0 (Shape.Idx.first (numel1_S1.symm ▸ Nat.one_pos))
  let v88 := initA v76
  let S : St F := { S with a17 := VecWindow.put (s := S8x128) S.a17 ![0, 0] S1x128.size (initK1 v76 v88) }
  let S : St F := { S with a17 := VecWindow.put (s := S8x128) S.a17 ![1, 0] S1x128.size (initK2 v88) }
  let S : St F := { S with a13 := VecWindow.put (s := S5x384) S.a13 ![0, 0] S5x384.size (initRo ) }
  let S : St F := { S with a14 := VecWindow.put (s := S5x2880) S.a14 ![0, 0] S5x2880.size (initCo ) }
  S

theorem init_runs (c : Dev nD) (A : Mems)   (S : St F) :
    Runs defs₀ Variants.none (c : Thread nD τ) (Pst c A) (init A ) S (initS  S) ⟨⟩ := by
  unfold init
  refine Runs.load (cell15 A c) ?_
  refine Runs.store (cell15 A c) ?_
  refine Runs.load (cell16 A c) ?_
  refine Runs.store (cell16 A c) ?_
  refine Runs.load (cell1 A c) ?_
  refine Runs.load (cell17 A c) ?_
  refine Runs.store (cell17 A c) ?_
  refine Runs.load (cell17 A c) ?_
  refine Runs.store (cell17 A c) ?_
  refine Runs.load (cell13 A c) ?_
  refine Runs.store (cell13 A c) ?_
  refine Runs.load (cell14 A c) ?_
  refine Runs.store (cell14 A c) ?_
  exact Runs.ret _ _

/-! ### A new expert -/

def startCn (v3943 : Vec F S5x2880 .f32) (v16 : BitVec 32) : FVec F S1x2880 .f32 :=
  let v3944 := iota .tc S5x2880 32 [0] iota_S5x2880_d0_w32
  let v3945 := broadcast S5x2880 v16
  let v3946 := cmpi .eq v3944 v3945
  let cst_1985 : F .f32 := Scalar.ofBits .f32 0x00000000#32
  let v3947 := broadcast S5x2880 cst_1985
  let v3948 := select v3946 v3943 v3947
  let v3949 := multiReduction .add [0] S2880 v3948 0x00000000#32 reduces_S5x2880_S2880 (.inl rfl) rfl
  let v3950 := shapeCast S1x2880 v3949 shapeCasts_S2880_S1x2880
  let cst_1987 : F .f32 := Scalar.ofBits .f32 0x4479C000#32
  let v3951 := broadcast S1x2880 cst_1987
  let v3952 := mulf v3950 v3951
  let cst_1988 : F .f32 := Scalar.ofBits .f32 0x02800000#32
  let v3953 := broadcast S1x2880 cst_1988
  let v3954 := maximumf v3952 v3953
  shapeCast S1x2880 v3954 shapeCasts_S1x2880_S1x2880

def startMax  : FVec F S1x8x2880 .f32 :=
  let cst_1991 : F .f32 := Scalar.ofBits .f32 0x00000000#32
  let v3958 := broadcast S1x8x2880 cst_1991
  shapeCast S1x8x2880 v3958 shapeCasts_S1x8x2880_S1x8x2880

def startSc  : FVec F S1x6x2880 .f32 :=
  let cst_2000 : F .f32 := Scalar.ofBits .f32 0x00000000#32
  let v3973 := broadcast S6x2880 cst_2000
  shapeCast S1x6x2880 v3973 shapeCasts_S6x2880_S1x6x2880

def start (A : Mems) (cp : ℕ) (hcp : cp < 2) (v16 : BitVec 32) : Prog (TpuEff nD τ sig (Elt F) Λ₀ .tc) (PUnit) := do
  let v3943 : Vec F S5x2880 .f32 ← Prog.lift (.load A.arg8 (Rect.unit (s := S5x2880) ![0, 0] S5x2880.size inb_S5x2880_S5x2880_0_0).toLoadRect (View.loadsAt_vmem h_S5x2880))
  let _v3955 : Vec F S1x2880 .f32 ← Prog.lift (.load A.arg23 (Rect.unit (s := S1x2880) ![0, 0] S1x2880.size inb_S1x2880_S1x2880_0_0).toLoadRect (View.loadsAt_vmem h_S1x2880))
  Prog.lift (.store A.arg23 (Rect.unit (s := S1x2880) ![0, 0] S1x2880.size inb_S1x2880_S1x2880_0_0) (startCn v3943 v16) Finset.univ (View.stores_vmem_bits_univ h_S1x2880 rfl) (.inl rfl))
  let _v3970 : Vec F S1x8x2880 .f32 ← Prog.lift (.load A.arg20 (Rect.unit (s := S2x8x2880) ![cp, 0, 0] S1x8x2880.size (inbMw hcp)).toLoadRect (View.loadsAt_vmem h_S1x8x2880))
  Prog.lift (.store A.arg20 (Rect.unit (s := S2x8x2880) ![cp, 0, 0] S1x8x2880.size (inbMw hcp)) (startMax ) Finset.univ (View.stores_vmem_bits_univ h_S1x8x2880 rfl) (.inl rfl))
  let _v3974 : Vec F S1x6x2880 .f32 ← Prog.lift (.load A.arg11 (Rect.unit (s := S1x6x2880) ![0, 0, 0] S1x6x2880.size inb_S1x6x2880_S1x6x2880_0_0_0).toLoadRect (View.loadsAt_vmem h_S1x6x2880))
  Prog.lift (.store A.arg11 (Rect.unit (s := S1x6x2880) ![0, 0, 0] S1x6x2880.size inb_S1x6x2880_S1x6x2880_0_0_0) (startSc ) Finset.univ (View.stores_vmem_bits_univ h_S1x6x2880 rfl) (.inl rfl))
  pure ⟨⟩

def startS (cp : ℕ) (hcp : cp < 2) (v16 : BitVec 32) (S : St F) : St F :=
  let v3943 := VecWindow.window (s := S5x2880) S.a8 ![0, 0] S5x2880.size inb_S5x2880_S5x2880_0_0
  let S : St F := { S with a23 := VecWindow.put (s := S1x2880) S.a23 ![0, 0] S1x2880.size (startCn v3943 v16) }
  let S : St F := { S with a20 := VecWindow.put (s := S2x8x2880) S.a20 ![cp, 0, 0] S1x8x2880.size (startMax ) }
  let S : St F := { S with a11 := VecWindow.put (s := S1x6x2880) S.a11 ![0, 0, 0] S1x6x2880.size (startSc ) }
  S

theorem start_runs (c : Dev nD) (A : Mems) (cp : ℕ) (hcp : cp < 2) (v16 : BitVec 32) (S : St F) :
    Runs defs₀ Variants.none (c : Thread nD τ) (Pst c A) (start A cp hcp v16) S (startS cp hcp v16 S) ⟨⟩ := by
  unfold start
  refine Runs.load (cell8 A c) ?_
  refine Runs.load (cell23 A c) ?_
  refine Runs.store (cell23 A c) ?_
  refine Runs.load (cell20 A c) ?_
  refine Runs.store (cell20 A c) ?_
  refine Runs.load (cell11 A c) ?_
  refine Runs.store (cell11 A c) ?_
  exact Runs.ret _ _

/-! ### The row maxima -/

def preRn (v42 : Vec F S5x128 .f32) (v16 : BitVec 32) : FVec F S128x128 .f32 :=
  let v43 := iota .tc S5x128 32 [0] iota_S5x128_d0_w32
  let v44 := broadcast S5x128 v16
  let v45 := cmpi .eq v43 v44
  let cst : F .f32 := Scalar.ofBits .f32 0x00000000#32
  let v46 := broadcast S5x128 cst
  let v47 := select v45 v42 v46
  let v48 := multiReduction .add [0] S128 v47 0x00000000#32 reduces_S5x128_S128 (.inl rfl) rfl
  let v49 := shapeCast S1x128 v48 shapeCasts_S128_S1x128
  let cst_18 : F .f32 := Scalar.ofBits .f32 0x4479C000#32
  let v50 := broadcast S1x128 cst_18
  let v51 := mulf v49 v50
  let cst_19 : F .f32 := Scalar.ofBits .f32 0x02800000#32
  let v52 := broadcast S1x128 cst_19
  let v53 := maximumf v51 v52
  let v54 := shapeCast S1x128 v53 shapeCasts_S1x128_S1x128
  let v55 := broadcastTo S128x128 v54 broadcasts_S1x128_S128x128
  let v56 := transpose S128x128 [1, 0] v55 transposes_S128x128_p1_0_S128x128
  shapeCast S128x128 v56 shapeCasts_S128x128_S128x128

def pre (A : Mems) (ls : ℕ) (hls : ls + 128 ≤ 384) (v16 : BitVec 32) : Prog (TpuEff nD τ sig (Elt F) Λ₀ .tc) (Vec F S1x128 .f32 × Vec F S1x128 .f32) := do
  let v42 : Vec F S5x128 .f32 ← Prog.lift (.load A.arg7 (Rect.unit (s := S5x384) ![0, ls] S5x128.size (inbL hls)).toLoadRect (View.loadsAt_vmem h_S5x128))
  let _v57 : Vec F S128x128 .f32 ← Prog.lift (.load A.arg22 (Rect.unit (s := S128x128) ![0, 0] S128x128.size inb_S128x128_S128x128_0_0).toLoadRect (View.loadsAt_vmem h_S128x128))
  Prog.lift (.store A.arg22 (Rect.unit (s := S128x128) ![0, 0] S128x128.size inb_S128x128_S128x128_0_0) (preRn v42 v16) Finset.univ (View.stores_vmem_bits_univ h_S128x128 rfl) (.inl rfl))
  let v60 : Vec F S1x128 .f32 ← Prog.lift (.load A.arg17 (Rect.unit (s := S8x128) ![0, 0] S1x128.size inb_S8x128_S1x128_0_0).toLoadRect (View.loadsAt_vmem h_S1x128))
  let v61 : Vec F S1x128 .f32 ← Prog.lift (.load A.arg17 (Rect.unit (s := S8x128) ![1, 0] S1x128.size inb_S8x128_S1x128_1_0).toLoadRect (View.loadsAt_vmem h_S1x128))
  pure (v60, v61)

def preS (ls : ℕ) (hls : ls + 128 ≤ 384) (v16 : BitVec 32) (S : St F) : St F × (Vec F S1x128 .f32 × Vec F S1x128 .f32) :=
  let v42 := VecWindow.window (s := S5x384) S.a7 ![0, ls] S5x128.size (inbL hls)
  let S : St F := { S with a22 := VecWindow.put (s := S128x128) S.a22 ![0, 0] S128x128.size (preRn v42 v16) }
  let v60 := VecWindow.window (s := S8x128) S.a17 ![0, 0] S1x128.size inb_S8x128_S1x128_0_0
  let v61 := VecWindow.window (s := S8x128) S.a17 ![1, 0] S1x128.size inb_S8x128_S1x128_1_0
  (S, (v60, v61))

theorem pre_runs (c : Dev nD) (A : Mems) (ls : ℕ) (hls : ls + 128 ≤ 384) (v16 : BitVec 32) (S : St F) :
    Runs defs₀ Variants.none (c : Thread nD τ) (Pst c A) (pre A ls hls v16) S (preS ls hls v16 S).1 (preS ls hls v16 S).2 := by
  unfold pre
  refine Runs.load (cell7 A c) ?_
  refine Runs.load (cell22 A c) ?_
  refine Runs.store (cell22 A c) ?_
  refine Runs.load (cell17 A c) ?_
  refine Runs.load (cell17 A c) ?_
  exact Runs.ret _ _

/-! ### The scales of a block -/

def headSc (v73 : Vec F S1x6x2880 .f32) (v76 : BitVec 32) : FVec F S1x2880 .f32 :=
  let v77 := iota .tc S6x2880 32 [0] iota_S6x2880_d0_w32
  let v78 := broadcast S6x2880 v76
  let v79 := cmpi .eq v77 v78
  let v74 := shapeCast S6x2880 v73 shapeCasts_S1x6x2880_S6x2880
  let cst_35 : F .f32 := Scalar.ofBits .f32 0x00000000#32
  let v80 := broadcast S6x2880 cst_35
  let v81 := select v79 v74 v80
  let v82 := multiReduction .add [0] S2880 v81 0x00000000#32 reduces_S6x2880_S2880 (.inl rfl) rfl
  let v83 := shapeCast S1x2880 v82 shapeCasts_S2880_S1x2880
  let cst_37 : F .f32 := Scalar.ofBits .f32 0x41100000#32
  let v84 := broadcast S1x2880 cst_37
  let v85 := mulf v83 v84
  shapeCast S1x2880 v85 shapeCasts_S1x2880_S1x2880

def head (A : Mems)  (v76 : BitVec 32) : Prog (TpuEff nD τ sig (Elt F) Λ₀ .tc) (PUnit) := do
  let v73 : Vec F S1x6x2880 .f32 ← Prog.lift (.load A.arg5 (Rect.unit (s := S1x6x2880) ![0, 0, 0] S1x6x2880.size inb_S1x6x2880_S1x6x2880_0_0_0).toLoadRect (View.loadsAt_vmem h_S1x6x2880))
  let _v86 : Vec F S1x2880 .f32 ← Prog.lift (.load A.arg24 (Rect.unit (s := S2x2880) ![0, 0] S1x2880.size inb_S2x2880_S1x2880_0_0).toLoadRect (View.loadsAt_vmem h_S1x2880))
  Prog.lift (.store A.arg24 (Rect.unit (s := S2x2880) ![0, 0] S1x2880.size inb_S2x2880_S1x2880_0_0) (headSc v73 v76) Finset.univ (View.stores_vmem_bits_univ h_S1x2880 rfl) (.inl rfl))
  pure ⟨⟩

def headS  (v76 : BitVec 32) (S : St F) : St F :=
  let v73 := VecWindow.window (s := S1x6x2880) S.a5 ![0, 0, 0] S1x6x2880.size inb_S1x6x2880_S1x6x2880_0_0_0
  let S : St F := { S with a24 := VecWindow.put (s := S2x2880) S.a24 ![0, 0] S1x2880.size (headSc v73 v76) }
  S

theorem head_runs (c : Dev nD) (A : Mems)  (v76 : BitVec 32) (S : St F) :
    Runs defs₀ Variants.none (c : Thread nD τ) (Pst c A) (head A v76) S (headS v76 S) ⟨⟩ := by
  unfold head
  refine Runs.load (cell5 A c) ?_
  refine Runs.load (cell24 A c) ?_
  refine Runs.store (cell24 A c) ?_
  exact Runs.ret _ _

/-! ### The end of a block -/

def tailMax (v1914 : FVec F S64x128 .f32) : FVec F S64x128 .f32 :=
  let v1979 := multiReduction .maximumf [1] S64 v1914 0xFF800000#32 reduces_S64x128_S64 (.inl rfl) rfl
  let v1980 := shapeCast S64x1 v1979 shapeCasts_S64_S64x1
  let v1981 := shapeCast S64x1 v1980 shapeCasts_S64x1_S64x1
  broadcastTo S64x128 v1981 broadcasts_S64x1_S64x128

def tailSc (v1965 : Vec F S1x6x2880 .f32) (v1967 : Vec F S1x2880 .f32) (v1969 : BitVec 32) : FVec F S1x6x2880 .f32 :=
  let v1970 := iota .tc S6x2880 32 [0] iota_S6x2880_d0_w32
  let v1971 := broadcast S6x2880 v1969
  let v1972 := cmpi .eq v1970 v1971
  let v1973 := shapeCast S1x2880 v1967 shapeCasts_S1x2880_S1x2880
  let v1974 := broadcastTo S6x2880 v1973 broadcasts_S1x2880_S6x2880
  let v1966 := shapeCast S6x2880 v1965 shapeCasts_S1x6x2880_S6x2880
  let v1975 := select v1972 v1974 v1966
  shapeCast S1x6x2880 v1975 shapeCasts_S6x2880_S1x6x2880

def tailInv (v1982 : FVec F S64x128 .f32) : FVec F S1x64x128 .f32 :=
  let cst_984 : F .f32 := Scalar.ofBits .f32 0x3A83126F#32
  let v1983 := broadcast S64x128 cst_984
  let v1984 := mulf v1982 v1983
  let cst_985 : F .f32 := Scalar.ofBits .f32 0x00000000#32
  let v1985 := broadcast S64x128 cst_985
  let v1986 := cmpf .oeq v1984 v1985
  let cst_987 : F .f32 := Scalar.ofBits .f32 0x00000000#32
  let v1989 := broadcast S64x128 cst_987
  let cst_986 : F .f32 := Scalar.ofBits .f32 0x41800000#32
  let v1987 := broadcast S64x128 cst_986
  let v1988 := divf v1987 v1982
  let v1990 := select v1986 v1989 v1988
  shapeCast S1x64x128 v1990 shapeCasts_S64x128_S1x64x128

def tailRn_ (v1982 : FVec F S64x128 .f32) : FVec F S64x128 .f32 :=
  shapeCast S64x128 v1982 shapeCasts_S64x128_S64x128

def tail (A : Mems) (vs : ℕ) (mb : ℕ) (hvs : vs < 6) (hmb : mb < 2) (v1969 : BitVec 32) (v1914 : FVec F S64x128 .f32) : Prog (TpuEff nD τ sig (Elt F) Λ₀ .tc) (PUnit) := do
  let v1982 := tailMax v1914
  let v1965 : Vec F S1x6x2880 .f32 ← Prog.lift (.load A.arg11 (Rect.unit (s := S1x6x2880) ![0, 0, 0] S1x6x2880.size inb_S1x6x2880_S1x6x2880_0_0_0).toLoadRect (View.loadsAt_vmem h_S1x6x2880))
  let v1967 : Vec F S1x2880 .f32 ← Prog.lift (.load A.arg24 (Rect.unit (s := S2x2880) ![1, 0] S1x2880.size inb_S2x2880_S1x2880_1_0).toLoadRect (View.loadsAt_vmem h_S1x2880))
  let _v1976 : Vec F S1x6x2880 .f32 ← Prog.lift (.load A.arg11 (Rect.unit (s := S1x6x2880) ![0, 0, 0] S1x6x2880.size inb_S1x6x2880_S1x6x2880_0_0_0).toLoadRect (View.loadsAt_vmem h_S1x6x2880))
  Prog.lift (.store A.arg11 (Rect.unit (s := S1x6x2880) ![0, 0, 0] S1x6x2880.size inb_S1x6x2880_S1x6x2880_0_0_0) (tailSc v1965 v1967 v1969) Finset.univ (View.stores_vmem_bits_univ h_S1x6x2880 rfl) (.inl rfl))
  let _v1992 : Vec F S1x64x128 .f32 ← Prog.lift (.load A.arg19 (Rect.unit (s := S6x128x128) ![vs, 64 * mb, 0] S1x64x128.size (inbI hvs hmb)).toLoadRect (View.loadsAt_vmem h_S1x64x128))
  Prog.lift (.store A.arg19 (Rect.unit (s := S6x128x128) ![vs, 64 * mb, 0] S1x64x128.size (inbI hvs hmb)) (tailInv v1982) Finset.univ (View.stores_vmem_bits_univ h_S1x64x128 rfl) (.inl rfl))
  let _v1995 : Vec F S64x128 .f32 ← Prog.lift (.load A.arg22 (Rect.unit (s := S128x128) ![64 * mb, 0] S64x128.size (inbR hmb)).toLoadRect (View.loadsAt_vmem h_S64x128))
  Prog.lift (.store A.arg22 (Rect.unit (s := S128x128) ![64 * mb, 0] S64x128.size (inbR hmb)) (tailRn_ v1982) Finset.univ (View.stores_vmem_bits_univ h_S64x128 rfl) (.inl rfl))
  pure ⟨⟩

def tailS (vs : ℕ) (mb : ℕ) (hvs : vs < 6) (hmb : mb < 2) (v1969 : BitVec 32) (v1914 : FVec F S64x128 .f32) (S : St F) : St F :=
  let v1982 := tailMax v1914
  let v1965 := VecWindow.window (s := S1x6x2880) S.a11 ![0, 0, 0] S1x6x2880.size inb_S1x6x2880_S1x6x2880_0_0_0
  let v1967 := VecWindow.window (s := S2x2880) S.a24 ![1, 0] S1x2880.size inb_S2x2880_S1x2880_1_0
  let S : St F := { S with a11 := VecWindow.put (s := S1x6x2880) S.a11 ![0, 0, 0] S1x6x2880.size (tailSc v1965 v1967 v1969) }
  let S : St F := { S with a19 := VecWindow.put (s := S6x128x128) S.a19 ![vs, 64 * mb, 0] S1x64x128.size (tailInv v1982) }
  let S : St F := { S with a22 := VecWindow.put (s := S128x128) S.a22 ![64 * mb, 0] S64x128.size (tailRn_ v1982) }
  S

theorem tail_runs (c : Dev nD) (A : Mems) (vs : ℕ) (mb : ℕ) (hvs : vs < 6) (hmb : mb < 2) (v1969 : BitVec 32) (v1914 : FVec F S64x128 .f32) (S : St F) :
    Runs defs₀ Variants.none (c : Thread nD τ) (Pst c A) (tail A vs mb hvs hmb v1969 v1914) S (tailS vs mb hvs hmb v1969 v1914 S) ⟨⟩ := by
  unfold tail
  refine Runs.load (cell11 A c) ?_
  refine Runs.load (cell24 A c) ?_
  refine Runs.load (cell11 A c) ?_
  refine Runs.store (cell11 A c) ?_
  refine Runs.load (cell19 A c) ?_
  refine Runs.store (cell19 A c) ?_
  refine Runs.load (cell22 A c) ?_
  refine Runs.store (cell22 A c) ?_
  exact Runs.ret _ _

/-! ### The row maxima written -/

def vroRow (v3925 : Vec F S5x128 .f32) (v3927 : Vec F S128x128 .f32) (v16 : BitVec 32) : FVec F S5x128 .f32 :=
  let v3932 := iota .tc S5x128 32 [0] iota_S5x128_d0_w32
  let v3933 := broadcast S5x128 v16
  let v3934 := cmpi .eq v3932 v3933
  let v3928 := transpose S128x128 [1, 0] v3927 transposes_S128x128_p1_0_S128x128
  let v3929 := extractStridedSlice S1x128 ![0, 0] v3928 slices_S128x128_o0_0_S1x128
  let cst_1979 : F .f32 := Scalar.ofBits .f32 0x3A83126F#32
  let v3930 := broadcast S1x128 cst_1979
  let v3931 := mulf v3929 v3930
  let v3935 := shapeCast S1x128 v3931 shapeCasts_S1x128_S1x128
  let v3936 := broadcastTo S5x128 v3935 broadcasts_S1x128_S5x128
  let v3926 := shapeCast S5x128 v3925 shapeCasts_S5x128_S5x128
  select v3934 v3936 v3926

def vro (A : Mems) (ls : ℕ) (hls : ls + 128 ≤ 384) (v16 : BitVec 32) : Prog (TpuEff nD τ sig (Elt F) Λ₀ .tc) (PUnit) := do
  let v3925 : Vec F S5x128 .f32 ← Prog.lift (.load A.arg13 (Rect.unit (s := S5x384) ![0, ls] S5x128.size (inbL hls)).toLoadRect (View.loadsAt_vmem h_S5x128))
  let v3927 : Vec F S128x128 .f32 ← Prog.lift (.load A.arg22 (Rect.unit (s := S128x128) ![0, 0] S128x128.size inb_S128x128_S128x128_0_0).toLoadRect (View.loadsAt_vmem h_S128x128))
  let _v3939 : Vec F S5x128 .f32 ← Prog.lift (.load A.arg13 (Rect.unit (s := S5x384) ![0, ls] S5x128.size (inbL hls)).toLoadRect (View.loadsAt_vmem h_S5x128))
  Prog.lift (.store A.arg13 (Rect.unit (s := S5x384) ![0, ls] S5x128.size (inbL hls)) (vroRow v3925 v3927 v16) Finset.univ (View.stores_vmem_bits_univ h_S5x128 rfl) (.inl rfl))
  pure ⟨⟩

def vroS (ls : ℕ) (hls : ls + 128 ≤ 384) (v16 : BitVec 32) (S : St F) : St F :=
  let v3925 := VecWindow.window (s := S5x384) S.a13 ![0, ls] S5x128.size (inbL hls)
  let v3927 := VecWindow.window (s := S128x128) S.a22 ![0, 0] S128x128.size inb_S128x128_S128x128_0_0
  let S : St F := { S with a13 := VecWindow.put (s := S5x384) S.a13 ![0, ls] S5x128.size (vroRow v3925 v3927 v16) }
  S

theorem vro_runs (c : Dev nD) (A : Mems) (ls : ℕ) (hls : ls + 128 ≤ 384) (v16 : BitVec 32) (S : St F) :
    Runs defs₀ Variants.none (c : Thread nD τ) (Pst c A) (vro A ls hls v16) S (vroS ls hls v16 S) ⟨⟩ := by
  unfold vro
  refine Runs.load (cell13 A c) ?_
  refine Runs.load (cell22 A c) ?_
  refine Runs.load (cell13 A c) ?_
  refine Runs.store (cell13 A c) ?_
  exact Runs.ret _ _

/-! ### A finished expert -/

def finMax (v3954 : Vec F S1x8x2880 .f32) : FVec F S1x2880 .f32 :=
  let v3955 := shapeCast S8x2880 v3954 shapeCasts_S1x8x2880_S8x2880
  let v3956 := multiReduction .maximumf [0] S2880 v3955 0xFF800000#32 reduces_S8x2880_S2880 (.inl rfl) rfl
  shapeCast S1x2880 v3956 shapeCasts_S2880_S1x2880

def finCo (v3957 : FVec F S1x2880 .f32) (v3960 : Vec F S5x2880 .f32) (v16 : BitVec 32) : FVec F S5x2880 .f32 :=
  let v3962 := iota .tc S5x2880 32 [0] iota_S5x2880_d0_w32
  let v3963 := broadcast S5x2880 v16
  let v3964 := cmpi .eq v3962 v3963
  let cst_1992 : F .f32 := Scalar.ofBits .f32 0x3A83126F#32
  let v3958 := broadcast S1x2880 cst_1992
  let v3959 := mulf v3957 v3958
  let v3965 := shapeCast S1x2880 v3959 shapeCasts_S1x2880_S1x2880
  let v3966 := broadcastTo S5x2880 v3965 broadcasts_S1x2880_S5x2880
  let v3961 := shapeCast S5x2880 v3960 shapeCasts_S5x2880_S5x2880
  select v3964 v3966 v3961

def finInv (v3957 : FVec F S1x2880 .f32) : FVec F S1x1x2880 .f32 :=
  let cst_1992 : F .f32 := Scalar.ofBits .f32 0x3A83126F#32
  let v3958 := broadcast S1x2880 cst_1992
  let v3959 := mulf v3957 v3958
  let cst_1997 : F .f32 := Scalar.ofBits .f32 0x00000000#32
  let v3969 := broadcast S1x2880 cst_1997
  let v3970 := cmpf .oeq v3959 v3969
  let cst_1999 : F .f32 := Scalar.ofBits .f32 0x00000000#32
  let v3973 := broadcast S1x2880 cst_1999
  let cst_1998 : F .f32 := Scalar.ofBits .f32 0x41800000#32
  let v3971 := broadcast S1x2880 cst_1998
  let v3972 := divf v3971 v3957
  let v3974 := select v3970 v3973 v3972
  shapeCast S1x1x2880 v3974 shapeCasts_S1x2880_S1x1x2880

def finish (A : Mems) (cp : ℕ) (hcp : cp < 2) (v16 : BitVec 32) : Prog (TpuEff nD τ sig (Elt F) Λ₀ .tc) (PUnit) := do
  let v3954 : Vec F S1x8x2880 .f32 ← Prog.lift (.load A.arg20 (Rect.unit (s := S2x8x2880) ![cp, 0, 0] S1x8x2880.size (inbMw hcp)).toLoadRect (View.loadsAt_vmem h_S1x8x2880))
  let v3957 := finMax v3954
  let v3960 : Vec F S5x2880 .f32 ← Prog.lift (.load A.arg14 (Rect.unit (s := S5x2880) ![0, 0] S5x2880.size inb_S5x2880_S5x2880_0_0).toLoadRect (View.loadsAt_vmem h_S5x2880))
  let _v3968 : Vec F S5x2880 .f32 ← Prog.lift (.load A.arg14 (Rect.unit (s := S5x2880) ![0, 0] S5x2880.size inb_S5x2880_S5x2880_0_0).toLoadRect (View.loadsAt_vmem h_S5x2880))
  Prog.lift (.store A.arg14 (Rect.unit (s := S5x2880) ![0, 0] S5x2880.size inb_S5x2880_S5x2880_0_0) (finCo v3957 v3960 v16) Finset.univ (View.stores_vmem_bits_univ h_S5x2880 rfl) (.inl rfl))
  let _v3986 : Vec F S1x1x2880 .f32 ← Prog.lift (.load A.arg21 (Rect.unit (s := S2x1x2880) ![cp, 0, 0] S1x1x2880.size (inbKw hcp)).toLoadRect (View.loadsAt_vmem h_S1x1x2880))
  Prog.lift (.store A.arg21 (Rect.unit (s := S2x1x2880) ![cp, 0, 0] S1x1x2880.size (inbKw hcp)) (finInv v3957) Finset.univ (View.stores_vmem_bits_univ h_S1x1x2880 rfl) (.inl rfl))
  pure ⟨⟩

def finishS (cp : ℕ) (hcp : cp < 2) (v16 : BitVec 32) (S : St F) : St F :=
  let v3954 := VecWindow.window (s := S2x8x2880) S.a20 ![cp, 0, 0] S1x8x2880.size (inbMw hcp)
  let v3957 := finMax v3954
  let v3960 := VecWindow.window (s := S5x2880) S.a14 ![0, 0] S5x2880.size inb_S5x2880_S5x2880_0_0
  let S : St F := { S with a14 := VecWindow.put (s := S5x2880) S.a14 ![0, 0] S5x2880.size (finCo v3957 v3960 v16) }
  let S : St F := { S with a21 := VecWindow.put (s := S2x1x2880) S.a21 ![cp, 0, 0] S1x1x2880.size (finInv v3957) }
  S

theorem finish_runs (c : Dev nD) (A : Mems) (cp : ℕ) (hcp : cp < 2) (v16 : BitVec 32) (S : St F) :
    Runs defs₀ Variants.none (c : Thread nD τ) (Pst c A) (finish A cp hcp v16) S (finishS cp hcp v16 S) ⟨⟩ := by
  unfold finish
  refine Runs.load (cell20 A c) ?_
  refine Runs.load (cell14 A c) ?_
  refine Runs.load (cell14 A c) ?_
  refine Runs.store (cell14 A c) ?_
  refine Runs.load (cell21 A c) ?_
  refine Runs.store (cell21 A c) ?_
  exact Runs.ret _ _

end Cert.Kernel.Body

end

end
-- ==== Proof.KTiles.lean ====
/-
  The tiles of the kernel body: 64 rows by 256 columns (the last one by 64) of the update, and of the second moment's
  requantisation three points later.
-/
module

public import proofs.«01_k».proof.Proof.Gen.Kernel.Frame
public import proofs.«01_k».proof.Proof.Runs
public import proofs.«01_k».proof.Proof.KMach
@[expose] public section

set_option maxRecDepth 16384

noncomputable section

namespace Cert.Kernel.Body

open Cert.Kernel Cert.Kernel.Gen Cert.Proof
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ### A tile of the update -/

def tU_mp (v89 : Vec F S1x64x256 .bf16) (v92 : Vec F S1x64x128 .i8) (v106 : Vec F S256x256 .bf16) (v108 : Vec F S1x256 .f32) : FVec F S64x256 .f32 :=
  let v93 := shapeCast S64x128 v92 shapeCasts_S1x64x128_S64x128
  let v94 := bitcast S16x128 32 v93 bitcasts_S64x128_w8_S16x128_w32
  let c4_i32 : BitVec 32 := 4#32
  let v95 := broadcast S16x128 c4_i32
  let v96 := shli v94 v95
  let c_m252645136_i32 : BitVec 32 := 4042322160#32
  let v97 := broadcast S16x128 c_m252645136_i32
  let v98 := andi v96 v97
  let v101 := bitcast S64x128 8 v98 bitcasts_S16x128_w32_S64x128_w8
  let v102 := sitofp .bf16 v101
  let c_m252645136_i32_46 : BitVec 32 := 4042322160#32
  let v99 := broadcast S16x128 c_m252645136_i32_46
  let v100 := andi v94 v99
  let v103 := bitcast S64x128 8 v100 bitcasts_S16x128_w32_S64x128_w8
  let v104 := sitofp .bf16 v103
  let v105 := concatenate S64x256 1 [⟨S64x128, v102⟩, ⟨S64x128, v104⟩] concatenates_S64x128_S64x128_S64x256_d1
  let cst_49 : FVec F S64x256 .f32 := constant S64x256 .f32 0x00000000#32
  let v107 := matmul dot_S64x256_S256x256_S64x256_1_0_0_1_n_n none v105 v106 cst_49
  let v109 := broadcastTo S64x256 v108 broadcasts_S1x256_S64x256
  let v110 := mulf v107 v109
  let v90 := shapeCast S64x256 v89 shapeCasts_S1x64x256_S64x256
  let v91 := extf .f32 v90 bitsLt_bf16_f32
  addf v110 v91

def tU_vp (v89 : Vec F S1x64x256 .bf16) (v159 : Vec F S1x64x128 .i8) (v177 : Vec F S256x256 .bf16) (v179 : Vec F S64x128 .f32) (v181 : Vec F S1x256 .f32) : FVec F S64x256 .f32 :=
  let v160 := shapeCast S64x128 v159 shapeCasts_S1x64x128_S64x128
  let v161 := bitcast S16x128 32 v160 bitcasts_S64x128_w8_S16x128_w32
  let c252645135_i32 : BitVec 32 := 252645135#32
  let v162 := broadcast S16x128 c252645135_i32
  let v163 := andi v161 v162
  let c16843009_i32 : BitVec 32 := 16843009#32
  let v164 := broadcast S16x128 c16843009_i32
  let v165 := addi v163 v164
  let v172 := bitcast S64x128 8 v165 bitcasts_S16x128_w32_S64x128_w8
  let v173 := sitofp .bf16 v172
  let c4_i32_77 : BitVec 32 := 4#32
  let v166 := broadcast S16x128 c4_i32_77
  let v167 := shrsi v161 v166
  let c252645135_i32_78 : BitVec 32 := 252645135#32
  let v168 := broadcast S16x128 c252645135_i32_78
  let v169 := andi v167 v168
  let c16843009_i32_79 : BitVec 32 := 16843009#32
  let v170 := broadcast S16x128 c16843009_i32_79
  let v171 := addi v169 v170
  let v174 := bitcast S64x128 8 v171 bitcasts_S16x128_w32_S64x128_w8
  let v175 := sitofp .bf16 v174
  let v176 := concatenate S64x256 1 [⟨S64x128, v173⟩, ⟨S64x128, v175⟩] concatenates_S64x128_S64x128_S64x256_d1
  let cst_82 : FVec F S64x256 .f32 := constant S64x256 .f32 0x00000000#32
  let v178 := matmul dot_S64x256_S256x256_S64x256_1_0_0_1_n_n none v176 v177 cst_82
  let v180 := concatenate S64x256 1 [⟨S64x128, v179⟩, ⟨S64x128, v179⟩] concatenates_S64x128_S64x128_S64x256_d1
  let v182 := broadcastTo S64x256 v181 broadcasts_S1x256_S64x256
  let v183 := minimumf v180 v182
  let v184 := mulf v178 v183
  let v90 := shapeCast S64x256 v89 shapeCasts_S1x64x256_S64x256
  let v91 := extf .f32 v90 bitsLt_bf16_f32
  let v185 := mulf v91 v91
  addf v184 v185

def tU_sc (v111 : FVec F S64x256 .f32) : FVec F S1x256 .f32 :=
  let v112 := absf v111
  let v113 := multiReduction .maximumf [0] S256 v112 0xFF800000#32 reduces_S64x256_S256 (.inl rfl) rfl
  let v114 := shapeCast S1x256 v113 shapeCasts_S256_S1x256
  let cst_56 : F .f32 := Scalar.ofBits .f32 0x00000000#32
  let v121 := broadcast S1x256 cst_56
  let v122 := cmpf .oeq v114 v121
  let cst_58 : F .f32 := Scalar.ofBits .f32 0x3F800000#32
  let v125 := broadcast S1x256 cst_58
  let cst_57 : F .f32 := Scalar.ofBits .f32 0x3C6A0EA1#32
  let v123 := broadcast S1x256 cst_57
  let v124 := mulf v114 v123
  let v126 := select v122 v125 v124
  shapeCast S1x256 v126 shapeCasts_S1x256_S1x256

def tU_m (v111 : FVec F S64x256 .f32) (v146 : Vec F S256x128 .bf16) : IVec S1x64x128 8 :=
  let cst_61 : F .f32 := Scalar.ofBits .f32 0x3F800000#32
  let v130 := broadcast S1x256 cst_61
  let v112 := absf v111
  let v113 := multiReduction .maximumf [0] S256 v112 0xFF800000#32 reduces_S64x256_S256 (.inl rfl) rfl
  let v114 := shapeCast S1x256 v113 shapeCasts_S256_S1x256
  let cst_53 : F .f32 := Scalar.ofBits .f32 0x00000000#32
  let v115 := broadcast S1x256 cst_53
  let v116 := cmpf .oeq v114 v115
  let cst_55 : F .f32 := Scalar.ofBits .f32 0x3F800000#32
  let v119 := broadcast S1x256 cst_55
  let cst_54 : F .f32 := Scalar.ofBits .f32 0x3E124925#32
  let v117 := broadcast S1x256 cst_54
  let v118 := mulf v114 v117
  let v120 := select v116 v119 v118
  let v131 := divf v130 v120
  let v132 := broadcastTo S64x256 v131 broadcasts_S1x256_S64x256
  let v133 := mulf v111 v132
  let cst_62 : F .f32 := Scalar.ofBits .f32 0x4B404308#32
  let v134 := broadcast S64x256 cst_62
  let v135 := addf v133 v134
  let cst_63 : F .f32 := Scalar.ofBits .f32 0x4B400000#32
  let v136 := broadcast S64x256 cst_63
  let v137 := subf v135 v136
  let v138 := roundeven v137
  let cst_64 : F .f32 := Scalar.ofBits .f32 0x46850000#32
  let v139 := broadcast S64x256 cst_64
  let v140 := subf v138 v139
  let v141 := truncf .bf16 v140 bitsLt_bf16_f32
  let cst_65 : F .bf16 := Scalar.ofBits .bf16 0x4301#16
  let v142 := broadcast S64x256 cst_65
  let v143 := maximumf v141 v142
  let cst_66 : F .bf16 := Scalar.ofBits .bf16 0x430F#16
  let v144 := broadcast S64x256 cst_66
  let v145 := minimumf v143 v144
  let cst_69 : FVec F S64x128 .f32 := constant S64x128 .f32 0x00000000#32
  let v147 := matmul dot_S64x256_S256x128_S64x128_1_0_0_1_n_n none v145 v146 cst_69
  let cst_70 : F .f32 := Scalar.ofBits .f32 0x45080000#32
  let v148 := broadcast S64x128 cst_70
  let v149 := subf v147 v148
  let v150 := fptosi 32 v149
  let v151 := trunci 8 v150 natLt_8_32
  let v152 := bitcast S16x128 32 v151 bitcasts_S64x128_w8_S16x128_w32
  let c_m2004318072_i32 : BitVec 32 := 2290649224#32
  let v153 := broadcast S16x128 c_m2004318072_i32
  let v154 := xori v152 v153
  let v155 := bitcast S64x128 8 v154 bitcasts_S16x128_w32_S64x128_w8
  shapeCast S1x64x128 v155 shapeCasts_S64x128_S1x64x128

def tU_v (v186 : FVec F S64x256 .f32) : FVec F S1x64x256 .f32 :=
  shapeCast S1x64x256 v186 shapeCasts_S64x256_S1x64x256

def tU_cmax (v186 : FVec F S64x256 .f32) (v208 : Vec F S1x8x256 .f32) : FVec F S1x8x256 .f32 :=
  let v209 := shapeCast S8x256 v208 shapeCasts_S1x8x256_S8x256
  let v195 := shapeCast S8x8x256 v186 shapeCasts_S64x256_S8x8x256
  let v196 := multiReduction .maximumf [0] S8x256 v195 0xFF800000#32 reduces_S8x8x256_S8x256 (.inl rfl) rfl
  let v210 := maximumf v209 v196
  shapeCast S1x8x256 v210 shapeCasts_S8x256_S1x8x256

def tU_dw (v111 : FVec F S64x256 .f32) (v186 : FVec F S64x256 .f32) (v236 : Vec F S1x64x256 .bf16) (v60 : Vec F S1x128 .f32) (v61 : Vec F S1x128 .f32) : FVec F S1x64x256 .f32 :=
  let v225 := rsqrt v186
  let v226 := mulf v111 v225
  let cst_106 : F .f32 := Scalar.ofBits .f32 0x3F800000#32
  let v233 := broadcast S64x256 cst_106
  let v227 := concatenate S1x256 1 [⟨S1x128, v60⟩, ⟨S1x128, v60⟩] concatenates_S1x128_S1x128_S1x256_d1
  let v231 := broadcastTo S64x256 v227 broadcasts_S1x256_S64x256
  let v228 := concatenate S1x256 1 [⟨S1x128, v61⟩, ⟨S1x128, v61⟩] concatenates_S1x128_S1x128_S1x256_d1
  let v229 := broadcastTo S64x256 v228 broadcasts_S1x256_S64x256
  let v230 := mulf v229 v225
  let v232 := addf v231 v230
  let v234 := divf v233 v232
  let v235 := mulf v226 v234
  let v237 := shapeCast S64x256 v236 shapeCasts_S1x64x256_S64x256
  let v238 := extf .f32 v237 bitsLt_bf16_f32
  let cst_110 : F .f32 := Scalar.ofBits .f32 0x37FBA882#32
  let v239 := broadcast S64x256 cst_110
  let v240 := mulf v238 v239
  let v241 := addf v235 v240
  shapeCast S1x64x256 v241 shapeCasts_S64x256_S1x64x256

def tU_rmax (v186 : FVec F S64x256 .f32) (v72 : FVec F S64x128 .f32) : FVec F S64x128 .f32 :=
  let v191 := extractStridedSlice S64x128 ![0, 0] v186 slices_S64x256_o0_0_S64x128
  let v192 := maximumf v72 v191
  let v193 := extractStridedSlice S64x128 ![0, 128] v186 slices_S64x256_o0_128_S64x128
  maximumf v192 v193

def tileU (A : Mems) (vs : ℕ) (cp : ℕ) (mb : ℕ) (j : ℕ) (hvs : vs < 6) (hcp : cp < 2) (hmb : mb < 2) (hj : j < 11) (v60 : Vec F S1x128 .f32) (v61 : Vec F S1x128 .f32) (v72 : FVec F S64x128 .f32) : Prog (TpuEff nD τ sig (Elt F) Λ₀ .tc) (FVec F S64x128 .f32) := do
  let v89 : Vec F S1x64x256 .bf16 ← Prog.lift (.load A.arg3 (Rect.unit (s := S1x128x2880) ![0, 64 * mb, 256 * j] S1x64x256.size (inbB hmb hj)).toLoadRect (View.loadsAt_vmem h_S1x64x256))
  let v92 : Vec F S1x64x128 .i8 ← Prog.lift (.load A.arg4 (Rect.unit (s := S1x128x1440) ![0, 64 * mb, 128 * j] S1x64x128.size (inbC hmb hj)).toLoadRect (View.loadsAt_vmem h_S1x64x128))
  let v106 : Vec F S256x256 .bf16 ← Prog.lift (.load A.arg15 (Rect.unit (s := S256x256) ![0, 0] S256x256.size inb_S256x256_S256x256_0_0).toLoadRect (View.loadsAt_vmem h_S256x256))
  let v108 : Vec F S1x256 .f32 ← Prog.lift (.load A.arg24 (Rect.unit (s := S2x2880) ![0, 256 * j] S1x256.size (inbS0 hj)).toLoadRect (View.loadsAt_vmem h_S1x256))
  let v111 := tU_mp v89 v92 v106 v108
  let _v127 : Vec F S1x256 .f32 ← Prog.lift (.load A.arg24 (Rect.unit (s := S2x2880) ![1, 256 * j] S1x256.size (inbS1 hj)).toLoadRect (View.loadsAt_vmem h_S1x256))
  Prog.lift (.store A.arg24 (Rect.unit (s := S2x2880) ![1, 256 * j] S1x256.size (inbS1 hj)) (tU_sc v111) Finset.univ (View.stores_vmem_bits_univ h_S1x256 rfl) (.inl rfl))
  let v146 : Vec F S256x128 .bf16 ← Prog.lift (.load A.arg16 (Rect.unit (s := S256x128) ![0, 0] S256x128.size inb_S256x128_S256x128_0_0).toLoadRect (View.loadsAt_vmem h_S256x128))
  let _v156 : Vec F S1x64x128 .i8 ← Prog.lift (.load A.arg10 (Rect.unit (s := S1x128x1440) ![0, 64 * mb, 128 * j] S1x64x128.size (inbC hmb hj)).toLoadRect (View.loadsAt_vmem h_S1x64x128))
  Prog.lift (.store A.arg10 (Rect.unit (s := S1x128x1440) ![0, 64 * mb, 128 * j] S1x64x128.size (inbC hmb hj)) (tU_m v111 v146) Finset.univ (View.stores_vmem h_S1x64x128 (A.harg10.storeExact_slice rfl _ (packedC hmb hj)) (fun _ => rfl)) (.inl rfl))
  let v159 : Vec F S1x64x128 .i8 ← Prog.lift (.load A.arg6 (Rect.unit (s := S1x128x1440) ![0, 64 * mb, 128 * j] S1x64x128.size (inbC hmb hj)).toLoadRect (View.loadsAt_vmem h_S1x64x128))
  let v177 : Vec F S256x256 .bf16 ← Prog.lift (.load A.arg15 (Rect.unit (s := S256x256) ![0, 0] S256x256.size inb_S256x256_S256x256_0_0).toLoadRect (View.loadsAt_vmem h_S256x256))
  let v179 : Vec F S64x128 .f32 ← Prog.lift (.load A.arg22 (Rect.unit (s := S128x128) ![64 * mb, 0] S64x128.size (inbR hmb)).toLoadRect (View.loadsAt_vmem h_S64x128))
  let v181 : Vec F S1x256 .f32 ← Prog.lift (.load A.arg23 (Rect.unit (s := S1x2880) ![0, 256 * j] S1x256.size (inbN hj)).toLoadRect (View.loadsAt_vmem h_S1x256))
  let v186 := tU_vp v89 v159 v177 v179 v181
  let _v188 : Vec F S1x64x256 .f32 ← Prog.lift (.load A.arg18 (Rect.unit (s := S6x128x2880) ![vs, 64 * mb, 256 * j] S1x64x256.size (inbV hvs hmb hj)).toLoadRect (View.loadsAt_vmem h_S1x64x256))
  Prog.lift (.store A.arg18 (Rect.unit (s := S6x128x2880) ![vs, 64 * mb, 256 * j] S1x64x256.size (inbV hvs hmb hj)) (tU_v v186) Finset.univ (View.stores_vmem_bits_univ h_S1x64x256 rfl) (.inl rfl))
  let v208 : Vec F S1x8x256 .f32 ← Prog.lift (.load A.arg20 (Rect.unit (s := S2x8x2880) ![cp, 0, 256 * j] S1x8x256.size (inbM hcp hj)).toLoadRect (View.loadsAt_vmem h_S1x8x256))
  let _v222 : Vec F S1x8x256 .f32 ← Prog.lift (.load A.arg20 (Rect.unit (s := S2x8x2880) ![cp, 0, 256 * j] S1x8x256.size (inbM hcp hj)).toLoadRect (View.loadsAt_vmem h_S1x8x256))
  Prog.lift (.store A.arg20 (Rect.unit (s := S2x8x2880) ![cp, 0, 256 * j] S1x8x256.size (inbM hcp hj)) (tU_cmax v186 v208) Finset.univ (View.stores_vmem_bits_univ h_S1x8x256 rfl) (.inl rfl))
  let v236 : Vec F S1x64x256 .bf16 ← Prog.lift (.load A.arg2 (Rect.unit (s := S1x128x2880) ![0, 64 * mb, 256 * j] S1x64x256.size (inbB hmb hj)).toLoadRect (View.loadsAt_vmem h_S1x64x256))
  let _v242 : Vec F S1x64x256 .f32 ← Prog.lift (.load A.arg9 (Rect.unit (s := S1x128x2880) ![0, 64 * mb, 256 * j] S1x64x256.size (inbB hmb hj)).toLoadRect (View.loadsAt_vmem h_S1x64x256))
  Prog.lift (.store A.arg9 (Rect.unit (s := S1x128x2880) ![0, 64 * mb, 256 * j] S1x64x256.size (inbB hmb hj)) (tU_dw v111 v186 v236 v60 v61) Finset.univ (View.stores_vmem_bits_univ h_S1x64x256 rfl) (.inl rfl))
  pure (tU_rmax v186 v72)

def tileUS (vs : ℕ) (cp : ℕ) (mb : ℕ) (j : ℕ) (hvs : vs < 6) (hcp : cp < 2) (hmb : mb < 2) (hj : j < 11) (v60 : Vec F S1x128 .f32) (v61 : Vec F S1x128 .f32) (v72 : FVec F S64x128 .f32) (S : St F) : St F × (FVec F S64x128 .f32) :=
  let v89 := VecWindow.window (s := S1x128x2880) S.a3 ![0, 64 * mb, 256 * j] S1x64x256.size (inbB hmb hj)
  let v92 := VecWindow.window (s := S1x128x1440) S.a4 ![0, 64 * mb, 128 * j] S1x64x128.size (inbC hmb hj)
  let v106 := VecWindow.window (s := S256x256) S.a15 ![0, 0] S256x256.size inb_S256x256_S256x256_0_0
  let v108 := VecWindow.window (s := S2x2880) S.a24 ![0, 256 * j] S1x256.size (inbS0 hj)
  let v111 := tU_mp v89 v92 v106 v108
  let S : St F := { S with a24 := VecWindow.put (s := S2x2880) S.a24 ![1, 256 * j] S1x256.size (tU_sc v111) }
  let v146 := VecWindow.window (s := S256x128) S.a16 ![0, 0] S256x128.size inb_S256x128_S256x128_0_0
  let S : St F := { S with a10 := VecWindow.put (s := S1x128x1440) S.a10 ![0, 64 * mb, 128 * j] S1x64x128.size (tU_m v111 v146) }
  let v159 := VecWindow.window (s := S1x128x1440) S.a6 ![0, 64 * mb, 128 * j] S1x64x128.size (inbC hmb hj)
  let v177 := VecWindow.window (s := S256x256) S.a15 ![0, 0] S256x256.size inb_S256x256_S256x256_0_0
  let v179 := VecWindow.window (s := S128x128) S.a22 ![64 * mb, 0] S64x128.size (inbR hmb)
  let v181 := VecWindow.window (s := S1x2880) S.a23 ![0, 256 * j] S1x256.size (inbN hj)
  let v186 := tU_vp v89 v159 v177 v179 v181
  let S : St F := { S with a18 := VecWindow.put (s := S6x128x2880) S.a18 ![vs, 64 * mb, 256 * j] S1x64x256.size (tU_v v186) }
  let v208 := VecWindow.window (s := S2x8x2880) S.a20 ![cp, 0, 256 * j] S1x8x256.size (inbM hcp hj)
  let S : St F := { S with a20 := VecWindow.put (s := S2x8x2880) S.a20 ![cp, 0, 256 * j] S1x8x256.size (tU_cmax v186 v208) }
  let v236 := VecWindow.window (s := S1x128x2880) S.a2 ![0, 64 * mb, 256 * j] S1x64x256.size (inbB hmb hj)
  let S : St F := { S with a9 := VecWindow.put (s := S1x128x2880) S.a9 ![0, 64 * mb, 256 * j] S1x64x256.size (tU_dw v111 v186 v236 v60 v61) }
  (S, (tU_rmax v186 v72))

theorem tileU_runs (c : Dev nD) (A : Mems) (vs : ℕ) (cp : ℕ) (mb : ℕ) (j : ℕ) (hvs : vs < 6) (hcp : cp < 2) (hmb : mb < 2) (hj : j < 11) (v60 : Vec F S1x128 .f32) (v61 : Vec F S1x128 .f32) (v72 : FVec F S64x128 .f32) (S : St F) :
    Runs defs₀ Variants.none (c : Thread nD τ) (Pst c A) (tileU A vs cp mb j hvs hcp hmb hj v60 v61 v72) S (tileUS vs cp mb j hvs hcp hmb hj v60 v61 v72 S).1 (tileUS vs cp mb j hvs hcp hmb hj v60 v61 v72 S).2 := by
  unfold tileU
  refine Runs.load (cell3 A c) ?_
  refine Runs.load (cell4 A c) ?_
  refine Runs.load (cell15 A c) ?_
  refine Runs.load (cell24 A c) ?_
  refine Runs.load (cell24 A c) ?_
  refine Runs.store (cell24 A c) ?_
  refine Runs.load (cell16 A c) ?_
  refine Runs.load (cell10 A c) ?_
  refine Runs.store (cell10 A c) ?_
  refine Runs.load (cell6 A c) ?_
  refine Runs.load (cell15 A c) ?_
  refine Runs.load (cell22 A c) ?_
  refine Runs.load (cell23 A c) ?_
  refine Runs.load (cell18 A c) ?_
  refine Runs.store (cell18 A c) ?_
  refine Runs.load (cell20 A c) ?_
  refine Runs.load (cell20 A c) ?_
  refine Runs.store (cell20 A c) ?_
  refine Runs.load (cell2 A c) ?_
  refine Runs.load (cell9 A c) ?_
  refine Runs.store (cell9 A c) ?_
  exact Runs.ret _ _

/-! ### The last tile of the update -/

def tUl_mp (v1805 : Vec F S1x64x64 .bf16) (v1808 : Vec F S1x64x32 .i8) (v1821 : Vec F S32x64 .bf16) (v1823 : Vec F S32x64 .bf16) (v1826 : Vec F S1x64 .f32) : FVec F S64x64 .f32 :=
  let v1809 := shapeCast S64x32 v1808 shapeCasts_S1x64x32_S64x32
  let v1810 := bitcast S16x32 32 v1809 bitcasts_S64x32_w8_S16x32_w32
  let c4_i32_893 : BitVec 32 := 4#32
  let v1811 := broadcast S16x32 c4_i32_893
  let v1812 := shli v1810 v1811
  let c_m252645136_i32_894 : BitVec 32 := 4042322160#32
  let v1813 := broadcast S16x32 c_m252645136_i32_894
  let v1814 := andi v1812 v1813
  let v1817 := bitcast S64x32 8 v1814 bitcasts_S16x32_w32_S64x32_w8
  let v1818 := sitofp .bf16 v1817
  let cst_898 : FVec F S64x64 .f32 := constant S64x64 .f32 0x00000000#32
  let v1822 := matmul dot_S64x32_S32x64_S64x64_1_0_0_1_n_n none v1818 v1821 cst_898
  let c_m252645136_i32_895 : BitVec 32 := 4042322160#32
  let v1815 := broadcast S16x32 c_m252645136_i32_895
  let v1816 := andi v1810 v1815
  let v1819 := bitcast S64x32 8 v1816 bitcasts_S16x32_w32_S64x32_w8
  let v1820 := sitofp .bf16 v1819
  let cst_901 : FVec F S64x64 .f32 := constant S64x64 .f32 0x00000000#32
  let v1824 := matmul dot_S64x32_S32x64_S64x64_1_0_0_1_n_n none v1820 v1823 cst_901
  let v1825 := addf v1822 v1824
  let v1827 := broadcastTo S64x64 v1826 broadcasts_S1x64_S64x64
  let v1828 := mulf v1825 v1827
  let v1806 := shapeCast S64x64 v1805 shapeCasts_S1x64x64_S64x64
  let v1807 := extf .f32 v1806 bitsLt_bf16_f32
  addf v1828 v1807

def tUl_vp (v1805 : Vec F S1x64x64 .bf16) (v1877 : Vec F S1x64x32 .i8) (v1894 : Vec F S32x64 .bf16) (v1896 : Vec F S32x64 .bf16) (v1899 : Vec F S64x128 .f32) (v1901 : Vec F S1x64 .f32) : FVec F S64x64 .f32 :=
  let v1878 := shapeCast S64x32 v1877 shapeCasts_S1x64x32_S64x32
  let v1879 := bitcast S16x32 32 v1878 bitcasts_S64x32_w8_S16x32_w32
  let c252645135_i32_930 : BitVec 32 := 252645135#32
  let v1880 := broadcast S16x32 c252645135_i32_930
  let v1881 := andi v1879 v1880
  let c16843009_i32_931 : BitVec 32 := 16843009#32
  let v1882 := broadcast S16x32 c16843009_i32_931
  let v1883 := addi v1881 v1882
  let v1890 := bitcast S64x32 8 v1883 bitcasts_S16x32_w32_S64x32_w8
  let v1891 := sitofp .bf16 v1890
  let cst_937 : FVec F S64x64 .f32 := constant S64x64 .f32 0x00000000#32
  let v1895 := matmul dot_S64x32_S32x64_S64x64_1_0_0_1_n_n none v1891 v1894 cst_937
  let c4_i32_932 : BitVec 32 := 4#32
  let v1884 := broadcast S16x32 c4_i32_932
  let v1885 := shrsi v1879 v1884
  let c252645135_i32_933 : BitVec 32 := 252645135#32
  let v1886 := broadcast S16x32 c252645135_i32_933
  let v1887 := andi v1885 v1886
  let c16843009_i32_934 : BitVec 32 := 16843009#32
  let v1888 := broadcast S16x32 c16843009_i32_934
  let v1889 := addi v1887 v1888
  let v1892 := bitcast S64x32 8 v1889 bitcasts_S16x32_w32_S64x32_w8
  let v1893 := sitofp .bf16 v1892
  let cst_940 : FVec F S64x64 .f32 := constant S64x64 .f32 0x00000000#32
  let v1897 := matmul dot_S64x32_S32x64_S64x64_1_0_0_1_n_n none v1893 v1896 cst_940
  let v1898 := addf v1895 v1897
  let v1900 := extractStridedSlice S64x64 ![0, 0] v1899 slices_S64x128_o0_0_S64x64
  let v1902 := broadcastTo S64x64 v1901 broadcasts_S1x64_S64x64
  let v1903 := minimumf v1900 v1902
  let v1904 := mulf v1898 v1903
  let v1806 := shapeCast S64x64 v1805 shapeCasts_S1x64x64_S64x64
  let v1807 := extf .f32 v1806 bitsLt_bf16_f32
  let v1905 := mulf v1807 v1807
  addf v1904 v1905

def tUl_sc (v1829 : FVec F S64x64 .f32) : FVec F S1x64 .f32 :=
  let v1830 := absf v1829
  let v1831 := multiReduction .maximumf [0] S64 v1830 0xFF800000#32 reduces_S64x64_S64 (.inl rfl) rfl
  let v1832 := shapeCast S1x64 v1831 shapeCasts_S64_S1x64
  let cst_908 : F .f32 := Scalar.ofBits .f32 0x00000000#32
  let v1839 := broadcast S1x64 cst_908
  let v1840 := cmpf .oeq v1832 v1839
  let cst_910 : F .f32 := Scalar.ofBits .f32 0x3F800000#32
  let v1843 := broadcast S1x64 cst_910
  let cst_909 : F .f32 := Scalar.ofBits .f32 0x3C6A0EA1#32
  let v1841 := broadcast S1x64 cst_909
  let v1842 := mulf v1832 v1841
  let v1844 := select v1840 v1843 v1842
  shapeCast S1x64 v1844 shapeCasts_S1x64_S1x64

def tUl_m (v1829 : FVec F S64x64 .f32) (v1864 : Vec F S64x32 .bf16) : IVec S1x64x32 8 :=
  let cst_913 : F .f32 := Scalar.ofBits .f32 0x3F800000#32
  let v1848 := broadcast S1x64 cst_913
  let v1830 := absf v1829
  let v1831 := multiReduction .maximumf [0] S64 v1830 0xFF800000#32 reduces_S64x64_S64 (.inl rfl) rfl
  let v1832 := shapeCast S1x64 v1831 shapeCasts_S64_S1x64
  let cst_905 : F .f32 := Scalar.ofBits .f32 0x00000000#32
  let v1833 := broadcast S1x64 cst_905
  let v1834 := cmpf .oeq v1832 v1833
  let cst_907 : F .f32 := Scalar.ofBits .f32 0x3F800000#32
  let v1837 := broadcast S1x64 cst_907
  let cst_906 : F .f32 := Scalar.ofBits .f32 0x3E124925#32
  let v1835 := broadcast S1x64 cst_906
  let v1836 := mulf v1832 v1835
  let v1838 := select v1834 v1837 v1836
  let v1849 := divf v1848 v1838
  let v1850 := broadcastTo S64x64 v1849 broadcasts_S1x64_S64x64
  let v1851 := mulf v1829 v1850
  let cst_914 : F .f32 := Scalar.ofBits .f32 0x4B404308#32
  let v1852 := broadcast S64x64 cst_914
  let v1853 := addf v1851 v1852
  let cst_915 : F .f32 := Scalar.ofBits .f32 0x4B400000#32
  let v1854 := broadcast S64x64 cst_915
  let v1855 := subf v1853 v1854
  let v1856 := roundeven v1855
  let cst_916 : F .f32 := Scalar.ofBits .f32 0x46850000#32
  let v1857 := broadcast S64x64 cst_916
  let v1858 := subf v1856 v1857
  let v1859 := truncf .bf16 v1858 bitsLt_bf16_f32
  let cst_917 : F .bf16 := Scalar.ofBits .bf16 0x4301#16
  let v1860 := broadcast S64x64 cst_917
  let v1861 := maximumf v1859 v1860
  let cst_918 : F .bf16 := Scalar.ofBits .bf16 0x430F#16
  let v1862 := broadcast S64x64 cst_918
  let v1863 := minimumf v1861 v1862
  let cst_921 : FVec F S64x32 .f32 := constant S64x32 .f32 0x00000000#32
  let v1865 := matmul dot_S64x64_S64x32_S64x32_1_0_0_1_n_n none v1863 v1864 cst_921
  let cst_922 : F .f32 := Scalar.ofBits .f32 0x45080000#32
  let v1866 := broadcast S64x32 cst_922
  let v1867 := subf v1865 v1866
  let v1868 := fptosi 32 v1867
  let v1869 := trunci 8 v1868 natLt_8_32
  let v1870 := bitcast S16x32 32 v1869 bitcasts_S64x32_w8_S16x32_w32
  let c_m2004318072_i32_923 : BitVec 32 := 2290649224#32
  let v1871 := broadcast S16x32 c_m2004318072_i32_923
  let v1872 := xori v1870 v1871
  let v1873 := bitcast S64x32 8 v1872 bitcasts_S16x32_w32_S64x32_w8
  shapeCast S1x64x32 v1873 shapeCasts_S64x32_S1x64x32

def tUl_v (v1906 : FVec F S64x64 .f32) : FVec F S1x64x64 .f32 :=
  shapeCast S1x64x64 v1906 shapeCasts_S64x64_S1x64x64

def tUl_cmax (v1906 : FVec F S64x64 .f32) (v1928 : Vec F S1x8x64 .f32) : FVec F S1x8x64 .f32 :=
  let v1929 := shapeCast S8x64 v1928 shapeCasts_S1x8x64_S8x64
  let v1915 := shapeCast S8x8x64 v1906 shapeCasts_S64x64_S8x8x64
  let v1916 := multiReduction .maximumf [0] S8x64 v1915 0xFF800000#32 reduces_S8x8x64_S8x64 (.inl rfl) rfl
  let v1930 := maximumf v1929 v1916
  shapeCast S1x8x64 v1930 shapeCasts_S8x64_S1x8x64

def tUl_dw (v1829 : FVec F S64x64 .f32) (v1906 : FVec F S64x64 .f32) (v1956 : Vec F S1x64x64 .bf16) (v60 : Vec F S1x128 .f32) (v61 : Vec F S1x128 .f32) : FVec F S1x64x64 .f32 :=
  let v1945 := rsqrt v1906
  let v1946 := mulf v1829 v1945
  let cst_965 : F .f32 := Scalar.ofBits .f32 0x3F800000#32
  let v1953 := broadcast S64x64 cst_965
  let v1947 := extractStridedSlice S1x64 ![0, 0] v60 slices_S1x128_o0_0_S1x64
  let v1951 := broadcastTo S64x64 v1947 broadcasts_S1x64_S64x64
  let v1948 := extractStridedSlice S1x64 ![0, 0] v61 slices_S1x128_o0_0_S1x64
  let v1949 := broadcastTo S64x64 v1948 broadcasts_S1x64_S64x64
  let v1950 := mulf v1949 v1945
  let v1952 := addf v1951 v1950
  let v1954 := divf v1953 v1952
  let v1955 := mulf v1946 v1954
  let v1957 := shapeCast S64x64 v1956 shapeCasts_S1x64x64_S64x64
  let v1958 := extf .f32 v1957 bitsLt_bf16_f32
  let cst_969 : F .f32 := Scalar.ofBits .f32 0x37FBA882#32
  let v1959 := broadcast S64x64 cst_969
  let v1960 := mulf v1958 v1959
  let v1961 := addf v1955 v1960
  shapeCast S1x64x64 v1961 shapeCasts_S64x64_S1x64x64

def tUl_rmax (v1906 : FVec F S64x64 .f32) (v1754 : FVec F S64x128 .f32) : FVec F S64x128 .f32 :=
  let v1911 := multiReduction .maximumf [1] S64 v1906 0xFF800000#32 reduces_S64x64_S64_2 (.inl rfl) rfl
  let v1912 := shapeCast S64x1 v1911 shapeCasts_S64_S64x1
  let v1913 := broadcastTo S64x128 v1912 broadcasts_S64x1_S64x128
  maximumf v1754 v1913

def tileUl (A : Mems) (vs : ℕ) (cp : ℕ) (mb : ℕ) (hvs : vs < 6) (hcp : cp < 2) (hmb : mb < 2) (v60 : Vec F S1x128 .f32) (v61 : Vec F S1x128 .f32) (v1754 : FVec F S64x128 .f32) : Prog (TpuEff nD τ sig (Elt F) Λ₀ .tc) (FVec F S64x128 .f32) := do
  let v1805 : Vec F S1x64x64 .bf16 ← Prog.lift (.load A.arg3 (Rect.unit (s := S1x128x2880) ![0, 64 * mb, 2816] S1x64x64.size (inbBl hmb)).toLoadRect (View.loadsAt_vmem h_S1x64x64))
  let v1808 : Vec F S1x64x32 .i8 ← Prog.lift (.load A.arg4 (Rect.unit (s := S1x128x1440) ![0, 64 * mb, 1408] S1x64x32.size (inbCl hmb)).toLoadRect (View.loadsAt_vmem h_S1x64x32))
  let v1821 : Vec F S32x64 .bf16 ← Prog.lift (.load A.arg15 (Rect.unit (s := S256x256) ![0, 0] S32x64.size inb_S256x256_S32x64_0_0).toLoadRect (View.loadsAt_vmem h_S32x64))
  let v1823 : Vec F S32x64 .bf16 ← Prog.lift (.load A.arg15 (Rect.unit (s := S256x256) ![128, 0] S32x64.size inb_S256x256_S32x64_128_0).toLoadRect (View.loadsAt_vmem h_S32x64))
  let v1826 : Vec F S1x64 .f32 ← Prog.lift (.load A.arg24 (Rect.unit (s := S2x2880) ![0, 2816] S1x64.size inb_S2x2880_S1x64_0_2816).toLoadRect (View.loadsAt_vmem h_S1x64))
  let v1829 := tUl_mp v1805 v1808 v1821 v1823 v1826
  let _v1845 : Vec F S1x64 .f32 ← Prog.lift (.load A.arg24 (Rect.unit (s := S2x2880) ![1, 2816] S1x64.size inb_S2x2880_S1x64_1_2816).toLoadRect (View.loadsAt_vmem h_S1x64))
  Prog.lift (.store A.arg24 (Rect.unit (s := S2x2880) ![1, 2816] S1x64.size inb_S2x2880_S1x64_1_2816) (tUl_sc v1829) Finset.univ (View.stores_vmem_bits_univ h_S1x64 rfl) (.inl rfl))
  let v1864 : Vec F S64x32 .bf16 ← Prog.lift (.load A.arg16 (Rect.unit (s := S256x128) ![0, 0] S64x32.size inb_S256x128_S64x32_0_0).toLoadRect (View.loadsAt_vmem h_S64x32))
  let _v1874 : Vec F S1x64x32 .i8 ← Prog.lift (.load A.arg10 (Rect.unit (s := S1x128x1440) ![0, 64 * mb, 1408] S1x64x32.size (inbCl hmb)).toLoadRect (View.loadsAt_vmem h_S1x64x32))
  Prog.lift (.store A.arg10 (Rect.unit (s := S1x128x1440) ![0, 64 * mb, 1408] S1x64x32.size (inbCl hmb)) (tUl_m v1829 v1864) Finset.univ (View.stores_vmem h_S1x64x32 (A.harg10.storeExact_slice rfl _ (packedCl hmb)) (fun _ => rfl)) (.inl rfl))
  let v1877 : Vec F S1x64x32 .i8 ← Prog.lift (.load A.arg6 (Rect.unit (s := S1x128x1440) ![0, 64 * mb, 1408] S1x64x32.size (inbCl hmb)).toLoadRect (View.loadsAt_vmem h_S1x64x32))
  let v1894 : Vec F S32x64 .bf16 ← Prog.lift (.load A.arg15 (Rect.unit (s := S256x256) ![0, 0] S32x64.size inb_S256x256_S32x64_0_0).toLoadRect (View.loadsAt_vmem h_S32x64))
  let v1896 : Vec F S32x64 .bf16 ← Prog.lift (.load A.arg15 (Rect.unit (s := S256x256) ![128, 0] S32x64.size inb_S256x256_S32x64_128_0).toLoadRect (View.loadsAt_vmem h_S32x64))
  let v1899 : Vec F S64x128 .f32 ← Prog.lift (.load A.arg22 (Rect.unit (s := S128x128) ![64 * mb, 0] S64x128.size (inbR hmb)).toLoadRect (View.loadsAt_vmem h_S64x128))
  let v1901 : Vec F S1x64 .f32 ← Prog.lift (.load A.arg23 (Rect.unit (s := S1x2880) ![0, 2816] S1x64.size inb_S1x2880_S1x64_0_2816).toLoadRect (View.loadsAt_vmem h_S1x64))
  let v1906 := tUl_vp v1805 v1877 v1894 v1896 v1899 v1901
  let _v1908 : Vec F S1x64x64 .f32 ← Prog.lift (.load A.arg18 (Rect.unit (s := S6x128x2880) ![vs, 64 * mb, 2816] S1x64x64.size (inbVl hvs hmb)).toLoadRect (View.loadsAt_vmem h_S1x64x64))
  Prog.lift (.store A.arg18 (Rect.unit (s := S6x128x2880) ![vs, 64 * mb, 2816] S1x64x64.size (inbVl hvs hmb)) (tUl_v v1906) Finset.univ (View.stores_vmem_bits_univ h_S1x64x64 rfl) (.inl rfl))
  let v1928 : Vec F S1x8x64 .f32 ← Prog.lift (.load A.arg20 (Rect.unit (s := S2x8x2880) ![cp, 0, 2816] S1x8x64.size (inbMl hcp)).toLoadRect (View.loadsAt_vmem h_S1x8x64))
  let _v1942 : Vec F S1x8x64 .f32 ← Prog.lift (.load A.arg20 (Rect.unit (s := S2x8x2880) ![cp, 0, 2816] S1x8x64.size (inbMl hcp)).toLoadRect (View.loadsAt_vmem h_S1x8x64))
  Prog.lift (.store A.arg20 (Rect.unit (s := S2x8x2880) ![cp, 0, 2816] S1x8x64.size (inbMl hcp)) (tUl_cmax v1906 v1928) Finset.univ (View.stores_vmem_bits_univ h_S1x8x64 rfl) (.inl rfl))
  let v1956 : Vec F S1x64x64 .bf16 ← Prog.lift (.load A.arg2 (Rect.unit (s := S1x128x2880) ![0, 64 * mb, 2816] S1x64x64.size (inbBl hmb)).toLoadRect (View.loadsAt_vmem h_S1x64x64))
  let _v1962 : Vec F S1x64x64 .f32 ← Prog.lift (.load A.arg9 (Rect.unit (s := S1x128x2880) ![0, 64 * mb, 2816] S1x64x64.size (inbBl hmb)).toLoadRect (View.loadsAt_vmem h_S1x64x64))
  Prog.lift (.store A.arg9 (Rect.unit (s := S1x128x2880) ![0, 64 * mb, 2816] S1x64x64.size (inbBl hmb)) (tUl_dw v1829 v1906 v1956 v60 v61) Finset.univ (View.stores_vmem_bits_univ h_S1x64x64 rfl) (.inl rfl))
  pure (tUl_rmax v1906 v1754)

def tileUlS (vs : ℕ) (cp : ℕ) (mb : ℕ) (hvs : vs < 6) (hcp : cp < 2) (hmb : mb < 2) (v60 : Vec F S1x128 .f32) (v61 : Vec F S1x128 .f32) (v1754 : FVec F S64x128 .f32) (S : St F) : St F × (FVec F S64x128 .f32) :=
  let v1805 := VecWindow.window (s := S1x128x2880) S.a3 ![0, 64 * mb, 2816] S1x64x64.size (inbBl hmb)
  let v1808 := VecWindow.window (s := S1x128x1440) S.a4 ![0, 64 * mb, 1408] S1x64x32.size (inbCl hmb)
  let v1821 := VecWindow.window (s := S256x256) S.a15 ![0, 0] S32x64.size inb_S256x256_S32x64_0_0
  let v1823 := VecWindow.window (s := S256x256) S.a15 ![128, 0] S32x64.size inb_S256x256_S32x64_128_0
  let v1826 := VecWindow.window (s := S2x2880) S.a24 ![0, 2816] S1x64.size inb_S2x2880_S1x64_0_2816
  let v1829 := tUl_mp v1805 v1808 v1821 v1823 v1826
  let S : St F := { S with a24 := VecWindow.put (s := S2x2880) S.a24 ![1, 2816] S1x64.size (tUl_sc v1829) }
  let v1864 := VecWindow.window (s := S256x128) S.a16 ![0, 0] S64x32.size inb_S256x128_S64x32_0_0
  let S : St F := { S with a10 := VecWindow.put (s := S1x128x1440) S.a10 ![0, 64 * mb, 1408] S1x64x32.size (tUl_m v1829 v1864) }
  let v1877 := VecWindow.window (s := S1x128x1440) S.a6 ![0, 64 * mb, 1408] S1x64x32.size (inbCl hmb)
  let v1894 := VecWindow.window (s := S256x256) S.a15 ![0, 0] S32x64.size inb_S256x256_S32x64_0_0
  let v1896 := VecWindow.window (s := S256x256) S.a15 ![128, 0] S32x64.size inb_S256x256_S32x64_128_0
  let v1899 := VecWindow.window (s := S128x128) S.a22 ![64 * mb, 0] S64x128.size (inbR hmb)
  let v1901 := VecWindow.window (s := S1x2880) S.a23 ![0, 2816] S1x64.size inb_S1x2880_S1x64_0_2816
  let v1906 := tUl_vp v1805 v1877 v1894 v1896 v1899 v1901
  let S : St F := { S with a18 := VecWindow.put (s := S6x128x2880) S.a18 ![vs, 64 * mb, 2816] S1x64x64.size (tUl_v v1906) }
  let v1928 := VecWindow.window (s := S2x8x2880) S.a20 ![cp, 0, 2816] S1x8x64.size (inbMl hcp)
  let S : St F := { S with a20 := VecWindow.put (s := S2x8x2880) S.a20 ![cp, 0, 2816] S1x8x64.size (tUl_cmax v1906 v1928) }
  let v1956 := VecWindow.window (s := S1x128x2880) S.a2 ![0, 64 * mb, 2816] S1x64x64.size (inbBl hmb)
  let S : St F := { S with a9 := VecWindow.put (s := S1x128x2880) S.a9 ![0, 64 * mb, 2816] S1x64x64.size (tUl_dw v1829 v1906 v1956 v60 v61) }
  (S, (tUl_rmax v1906 v1754))

theorem tileUl_runs (c : Dev nD) (A : Mems) (vs : ℕ) (cp : ℕ) (mb : ℕ) (hvs : vs < 6) (hcp : cp < 2) (hmb : mb < 2) (v60 : Vec F S1x128 .f32) (v61 : Vec F S1x128 .f32) (v1754 : FVec F S64x128 .f32) (S : St F) :
    Runs defs₀ Variants.none (c : Thread nD τ) (Pst c A) (tileUl A vs cp mb hvs hcp hmb v60 v61 v1754) S (tileUlS vs cp mb hvs hcp hmb v60 v61 v1754 S).1 (tileUlS vs cp mb hvs hcp hmb v60 v61 v1754 S).2 := by
  unfold tileUl
  refine Runs.load (cell3 A c) ?_
  refine Runs.load (cell4 A c) ?_
  refine Runs.load (cell15 A c) ?_
  refine Runs.load (cell15 A c) ?_
  refine Runs.load (cell24 A c) ?_
  refine Runs.load (cell24 A c) ?_
  refine Runs.store (cell24 A c) ?_
  refine Runs.load (cell16 A c) ?_
  refine Runs.load (cell10 A c) ?_
  refine Runs.store (cell10 A c) ?_
  refine Runs.load (cell6 A c) ?_
  refine Runs.load (cell15 A c) ?_
  refine Runs.load (cell15 A c) ?_
  refine Runs.load (cell22 A c) ?_
  refine Runs.load (cell23 A c) ?_
  refine Runs.load (cell18 A c) ?_
  refine Runs.store (cell18 A c) ?_
  refine Runs.load (cell20 A c) ?_
  refine Runs.load (cell20 A c) ?_
  refine Runs.store (cell20 A c) ?_
  refine Runs.load (cell2 A c) ?_
  refine Runs.load (cell9 A c) ?_
  refine Runs.store (cell9 A c) ?_
  exact Runs.ret _ _

/-! ### A tile of the requantisation -/

def tR_v (v59 : Vec F S1x64x128 .f32) (v63 : Vec F S1x1x256 .f32) (v68 : Vec F S1x64x256 .f32) (v83 : Vec F S256x128 .bf16) : IVec S1x64x128 8 :=
  let v69 := shapeCast S64x256 v68 shapeCasts_S1x64x256_S64x256
  let v60 := shapeCast S64x128 v59 shapeCasts_S1x64x128_S64x128
  let v61 := concatenate S64x256 1 [⟨S64x128, v60⟩, ⟨S64x128, v60⟩] concatenates_S64x128_S64x128_S64x256_d1
  let v64 := shapeCast S1x256 v63 shapeCasts_S1x1x256_S1x256
  let v65 := broadcastTo S64x256 v64 broadcasts_S1x256_S64x256
  let v66 := maximumf v61 v65
  let v70 := mulf v69 v66
  let cst : F .f32 := Scalar.ofBits .f32 0x4B4042FF#32
  let v71 := broadcast S64x256 cst
  let v72 := addf v70 v71
  let cst_32 : F .f32 := Scalar.ofBits .f32 0x4B400000#32
  let v73 := broadcast S64x256 cst_32
  let v74 := subf v72 v73
  let v75 := roundeven v74
  let cst_33 : F .f32 := Scalar.ofBits .f32 0x46850000#32
  let v76 := broadcast S64x256 cst_33
  let v77 := subf v75 v76
  let v78 := truncf .bf16 v77 bitsLt_bf16_f32
  let cst_34 : F .bf16 := Scalar.ofBits .bf16 0x4300#16
  let v79 := broadcast S64x256 cst_34
  let v80 := maximumf v78 v79
  let cst_35 : F .bf16 := Scalar.ofBits .bf16 0x430F#16
  let v81 := broadcast S64x256 cst_35
  let v82 := minimumf v80 v81
  let cst_38 : FVec F S64x128 .f32 := constant S64x128 .f32 0x00000000#32
  let v84 := matmul dot_S64x256_S256x128_S64x128_1_0_0_1_n_n none v82 v83 cst_38
  let cst_39 : F .f32 := Scalar.ofBits .f32 0x45080000#32
  let v85 := broadcast S64x128 cst_39
  let v86 := subf v84 v85
  let v87 := fptosi 32 v86
  let v88 := trunci 8 v87 natLt_8_32
  shapeCast S1x64x128 v88 shapeCasts_S64x128_S1x64x128

def tileR (A : Mems) (vs : ℕ) (cp : ℕ) (mb : ℕ) (j : ℕ) (hvs : vs < 6) (hcp : cp < 2) (hmb : mb < 2) (hj : j < 11)  : Prog (TpuEff nD τ sig (Elt F) Λ₀ .tc) (PUnit) := do
  let v59 : Vec F S1x64x128 .f32 ← Prog.lift (.load A.arg19 (Rect.unit (s := S6x128x128) ![vs, 64 * mb, 0] S1x64x128.size (inbI hvs hmb)).toLoadRect (View.loadsAt_vmem h_S1x64x128))
  let v63 : Vec F S1x1x256 .f32 ← Prog.lift (.load A.arg21 (Rect.unit (s := S2x1x2880) ![cp, 0, 256 * j] S1x1x256.size (inbK hcp hj)).toLoadRect (View.loadsAt_vmem h_S1x1x256))
  let v68 : Vec F S1x64x256 .f32 ← Prog.lift (.load A.arg18 (Rect.unit (s := S6x128x2880) ![vs, 64 * mb, 256 * j] S1x64x256.size (inbV hvs hmb hj)).toLoadRect (View.loadsAt_vmem h_S1x64x256))
  let v83 : Vec F S256x128 .bf16 ← Prog.lift (.load A.arg16 (Rect.unit (s := S256x128) ![0, 0] S256x128.size inb_S256x128_S256x128_0_0).toLoadRect (View.loadsAt_vmem h_S256x128))
  let _v89 : Vec F S1x64x128 .i8 ← Prog.lift (.load A.arg12 (Rect.unit (s := S1x128x1440) ![0, 64 * mb, 128 * j] S1x64x128.size (inbC hmb hj)).toLoadRect (View.loadsAt_vmem h_S1x64x128))
  Prog.lift (.store A.arg12 (Rect.unit (s := S1x128x1440) ![0, 64 * mb, 128 * j] S1x64x128.size (inbC hmb hj)) (tR_v v59 v63 v68 v83) Finset.univ (View.stores_vmem h_S1x64x128 (A.harg12.storeExact_slice rfl _ (packedC hmb hj)) (fun _ => rfl)) (.inl rfl))
  pure ⟨⟩

def tileRS (vs : ℕ) (cp : ℕ) (mb : ℕ) (j : ℕ) (hvs : vs < 6) (hcp : cp < 2) (hmb : mb < 2) (hj : j < 11)  (S : St F) : St F :=
  let v59 := VecWindow.window (s := S6x128x128) S.a19 ![vs, 64 * mb, 0] S1x64x128.size (inbI hvs hmb)
  let v63 := VecWindow.window (s := S2x1x2880) S.a21 ![cp, 0, 256 * j] S1x1x256.size (inbK hcp hj)
  let v68 := VecWindow.window (s := S6x128x2880) S.a18 ![vs, 64 * mb, 256 * j] S1x64x256.size (inbV hvs hmb hj)
  let v83 := VecWindow.window (s := S256x128) S.a16 ![0, 0] S256x128.size inb_S256x128_S256x128_0_0
  let S : St F := { S with a12 := VecWindow.put (s := S1x128x1440) S.a12 ![0, 64 * mb, 128 * j] S1x64x128.size (tR_v v59 v63 v68 v83) }
  S

theorem tileR_runs (c : Dev nD) (A : Mems) (vs : ℕ) (cp : ℕ) (mb : ℕ) (j : ℕ) (hvs : vs < 6) (hcp : cp < 2) (hmb : mb < 2) (hj : j < 11)  (S : St F) :
    Runs defs₀ Variants.none (c : Thread nD τ) (Pst c A) (tileR A vs cp mb j hvs hcp hmb hj) S (tileRS vs cp mb j hvs hcp hmb hj S) ⟨⟩ := by
  unfold tileR
  refine Runs.load (cell19 A c) ?_
  refine Runs.load (cell21 A c) ?_
  refine Runs.load (cell18 A c) ?_
  refine Runs.load (cell16 A c) ?_
  refine Runs.load (cell12 A c) ?_
  refine Runs.store (cell12 A c) ?_
  exact Runs.ret _ _

/-! ### The last tile of the requantisation -/

def tRl_v (v433 : Vec F S1x64x128 .f32) (v437 : Vec F S1x1x64 .f32) (v442 : Vec F S1x64x64 .f32) (v457 : Vec F S64x32 .bf16) : IVec S1x64x32 8 :=
  let v443 := shapeCast S64x64 v442 shapeCasts_S1x64x64_S64x64
  let v434 := shapeCast S64x128 v433 shapeCasts_S1x64x128_S64x128
  let v435 := extractStridedSlice S64x64 ![0, 0] v434 slices_S64x128_o0_0_S64x64
  let v438 := shapeCast S1x64 v437 shapeCasts_S1x1x64_S1x64
  let v439 := broadcastTo S64x64 v438 broadcasts_S1x64_S64x64
  let v440 := maximumf v435 v439
  let v444 := mulf v443 v440
  let cst_213 : F .f32 := Scalar.ofBits .f32 0x4B4042FF#32
  let v445 := broadcast S64x64 cst_213
  let v446 := addf v444 v445
  let cst_214 : F .f32 := Scalar.ofBits .f32 0x4B400000#32
  let v447 := broadcast S64x64 cst_214
  let v448 := subf v446 v447
  let v449 := roundeven v448
  let cst_215 : F .f32 := Scalar.ofBits .f32 0x46850000#32
  let v450 := broadcast S64x64 cst_215
  let v451 := subf v449 v450
  let v452 := truncf .bf16 v451 bitsLt_bf16_f32
  let cst_216 : F .bf16 := Scalar.ofBits .bf16 0x4300#16
  let v453 := broadcast S64x64 cst_216
  let v454 := maximumf v452 v453
  let cst_217 : F .bf16 := Scalar.ofBits .bf16 0x430F#16
  let v455 := broadcast S64x64 cst_217
  let v456 := minimumf v454 v455
  let cst_220 : FVec F S64x32 .f32 := constant S64x32 .f32 0x00000000#32
  let v458 := matmul dot_S64x64_S64x32_S64x32_1_0_0_1_n_n none v456 v457 cst_220
  let cst_221 : F .f32 := Scalar.ofBits .f32 0x45080000#32
  let v459 := broadcast S64x32 cst_221
  let v460 := subf v458 v459
  let v461 := fptosi 32 v460
  let v462 := trunci 8 v461 natLt_8_32
  shapeCast S1x64x32 v462 shapeCasts_S64x32_S1x64x32

def tileRl (A : Mems) (vs : ℕ) (cp : ℕ) (mb : ℕ) (hvs : vs < 6) (hcp : cp < 2) (hmb : mb < 2)  : Prog (TpuEff nD τ sig (Elt F) Λ₀ .tc) (PUnit) := do
  let v433 : Vec F S1x64x128 .f32 ← Prog.lift (.load A.arg19 (Rect.unit (s := S6x128x128) ![vs, 64 * mb, 0] S1x64x128.size (inbI hvs hmb)).toLoadRect (View.loadsAt_vmem h_S1x64x128))
  let v437 : Vec F S1x1x64 .f32 ← Prog.lift (.load A.arg21 (Rect.unit (s := S2x1x2880) ![cp, 0, 2816] S1x1x64.size (inbKl hcp)).toLoadRect (View.loadsAt_vmem h_S1x1x64))
  let v442 : Vec F S1x64x64 .f32 ← Prog.lift (.load A.arg18 (Rect.unit (s := S6x128x2880) ![vs, 64 * mb, 2816] S1x64x64.size (inbVl hvs hmb)).toLoadRect (View.loadsAt_vmem h_S1x64x64))
  let v457 : Vec F S64x32 .bf16 ← Prog.lift (.load A.arg16 (Rect.unit (s := S256x128) ![0, 0] S64x32.size inb_S256x128_S64x32_0_0).toLoadRect (View.loadsAt_vmem h_S64x32))
  let _v463 : Vec F S1x64x32 .i8 ← Prog.lift (.load A.arg12 (Rect.unit (s := S1x128x1440) ![0, 64 * mb, 1408] S1x64x32.size (inbCl hmb)).toLoadRect (View.loadsAt_vmem h_S1x64x32))
  Prog.lift (.store A.arg12 (Rect.unit (s := S1x128x1440) ![0, 64 * mb, 1408] S1x64x32.size (inbCl hmb)) (tRl_v v433 v437 v442 v457) Finset.univ (View.stores_vmem h_S1x64x32 (A.harg12.storeExact_slice rfl _ (packedCl hmb)) (fun _ => rfl)) (.inl rfl))
  pure ⟨⟩

def tileRlS (vs : ℕ) (cp : ℕ) (mb : ℕ) (hvs : vs < 6) (hcp : cp < 2) (hmb : mb < 2)  (S : St F) : St F :=
  let v433 := VecWindow.window (s := S6x128x128) S.a19 ![vs, 64 * mb, 0] S1x64x128.size (inbI hvs hmb)
  let v437 := VecWindow.window (s := S2x1x2880) S.a21 ![cp, 0, 2816] S1x1x64.size (inbKl hcp)
  let v442 := VecWindow.window (s := S6x128x2880) S.a18 ![vs, 64 * mb, 2816] S1x64x64.size (inbVl hvs hmb)
  let v457 := VecWindow.window (s := S256x128) S.a16 ![0, 0] S64x32.size inb_S256x128_S64x32_0_0
  let S : St F := { S with a12 := VecWindow.put (s := S1x128x1440) S.a12 ![0, 64 * mb, 1408] S1x64x32.size (tRl_v v433 v437 v442 v457) }
  S

theorem tileRl_runs (c : Dev nD) (A : Mems) (vs : ℕ) (cp : ℕ) (mb : ℕ) (hvs : vs < 6) (hcp : cp < 2) (hmb : mb < 2)  (S : St F) :
    Runs defs₀ Variants.none (c : Thread nD τ) (Pst c A) (tileRl A vs cp mb hvs hcp hmb) S (tileRlS vs cp mb hvs hcp hmb S) ⟨⟩ := by
  unfold tileRl
  refine Runs.load (cell19 A c) ?_
  refine Runs.load (cell21 A c) ?_
  refine Runs.load (cell18 A c) ?_
  refine Runs.load (cell16 A c) ?_
  refine Runs.load (cell12 A c) ?_
  refine Runs.store (cell12 A c) ?_
  exact Runs.ret _ _

end Cert.Kernel.Body

end

end
-- ==== Proof.KBody.lean ====
/-
  The kernel body as its pieces: the printed body is `body`, by definitional unfolding, and `body` runs as the function
  `step` of the state.
-/
module

public import proofs.«01_k».proof.Proof.Gen.Kernel.Frame
public import proofs.«01_k».proof.Proof.Runs
public import proofs.«01_k».proof.Proof.KPieces
public import proofs.«01_k».proof.Proof.KTiles
@[expose] public section

set_option maxRecDepth 16384

noncomputable section

namespace Cert.Kernel.Body

open Cert.Kernel Cert.Kernel.Gen Cert.Proof
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The chunk of three points a point belongs to (the expert), and its place there (the block of 128 rows). -/
def kW (i : grid0.Coords) : BitVec 32 :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  v16

def nW (i : grid0.Coords) : BitVec 32 :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  v26

/-- The row maxima of a block before its first tile. -/
def rmax0 : FVec F S64x128 .f32 := broadcast S64x128 (Scalar.ofBits .f32 0x00000000#32 : F .f32)

/-- The first `n` tiles of a block of 64 rows. -/
def tilesU (A : Mems) (vs cp mb : ℕ) (hvs : vs < 6) (hcp : cp < 2) (hmb : mb < 2) (k1 k2 : Vec F S1x128 .f32) :
    (n : ℕ) → n ≤ 11 → Prog (TpuEff nD τ sig (Elt F) Λ₀ .tc) (FVec F S64x128 .f32)
  | 0, _ => pure rmax0
  | n + 1, h => do
    let r ← tilesU A vs cp mb hvs hcp hmb k1 k2 n (Nat.le_of_succ_le h)
    tileU A vs cp mb n hvs hcp hmb (Nat.lt_of_succ_le h) k1 k2 r

def tilesUS (vs cp mb : ℕ) (hvs : vs < 6) (hcp : cp < 2) (hmb : mb < 2) (k1 k2 : Vec F S1x128 .f32) :
    (n : ℕ) → n ≤ 11 → St F → St F × FVec F S64x128 .f32
  | 0, _, S => (S, rmax0)
  | n + 1, h, S =>
    let p := tilesUS vs cp mb hvs hcp hmb k1 k2 n (Nat.le_of_succ_le h) S
    tileUS vs cp mb n hvs hcp hmb (Nat.lt_of_succ_le h) k1 k2 p.2 p.1

theorem tilesU_runs (c : Dev nD) (A : Mems) (vs cp mb : ℕ) (hvs : vs < 6) (hcp : cp < 2) (hmb : mb < 2) (k1 k2 : Vec F S1x128 .f32) (S : St F) (n : ℕ) (h : n ≤ 11) :
    Runs defs₀ Variants.none (c : Thread nD τ) (Pst c A) (tilesU A vs cp mb hvs hcp hmb k1 k2 n h) S
      (tilesUS vs cp mb hvs hcp hmb k1 k2 n h S).1 (tilesUS vs cp mb hvs hcp hmb k1 k2 n h S).2 := by
  induction n with
  | zero => exact Runs.ret _ _
  | succ n ih => exact Runs.bind (ih (Nat.le_of_succ_le h)) (tileU_runs c A vs cp mb n hvs hcp hmb (Nat.lt_of_succ_le h) k1 k2 _ _)

/-- A block of 64 rows of the update. -/
def block (A : Mems) (vs cp mb : ℕ) (hvs : vs < 6) (hcp : cp < 2) (hmb : mb < 2) (w : BitVec 32) (k1 k2 : Vec F S1x128 .f32) :
    Prog (TpuEff nD τ sig (Elt F) Λ₀ .tc) PUnit := do
  head A w
  let r ← tilesU A vs cp mb hvs hcp hmb k1 k2 11 le_rfl
  let r' ← tileUl A vs cp mb hvs hcp hmb k1 k2 r
  tail A vs mb hvs hmb w r'

def blockS (vs cp mb : ℕ) (hvs : vs < 6) (hcp : cp < 2) (hmb : mb < 2) (w : BitVec 32) (k1 k2 : Vec F S1x128 .f32) (S : St F) : St F :=
  let S := headS w S
  let p := tilesUS vs cp mb hvs hcp hmb k1 k2 11 le_rfl S
  let q := tileUlS vs cp mb hvs hcp hmb k1 k2 p.2 p.1
  tailS vs mb hvs hmb w q.2 q.1

theorem block_runs (c : Dev nD) (A : Mems) (vs cp mb : ℕ) (hvs : vs < 6) (hcp : cp < 2) (hmb : mb < 2) (w : BitVec 32) (k1 k2 : Vec F S1x128 .f32) (S : St F) :
    Runs defs₀ Variants.none (c : Thread nD τ) (Pst c A) (block A vs cp mb hvs hcp hmb w k1 k2) S (blockS vs cp mb hvs hcp hmb w k1 k2 S) ⟨⟩ :=
  Runs.bind (head_runs c A w S) (Runs.bind (tilesU_runs c A vs cp mb hvs hcp hmb k1 k2 _ 11 le_rfl)
    (Runs.bind (tileUl_runs c A vs cp mb hvs hcp hmb k1 k2 _ _) (tail_runs c A vs mb hvs hmb w _ _)))

/-- The first `n` tiles of a block of 64 rows of the requantisation. -/
def tilesR (A : Mems) (vs cp mb : ℕ) (hvs : vs < 6) (hcp : cp < 2) (hmb : mb < 2) : (n : ℕ) → n ≤ 11 → Prog (TpuEff nD τ sig (Elt F) Λ₀ .tc) PUnit
  | 0, _ => pure ⟨⟩
  | n + 1, h => do
    tilesR A vs cp mb hvs hcp hmb n (Nat.le_of_succ_le h)
    tileR A vs cp mb n hvs hcp hmb (Nat.lt_of_succ_le h)

def tilesRS (vs cp mb : ℕ) (hvs : vs < 6) (hcp : cp < 2) (hmb : mb < 2) : (n : ℕ) → n ≤ 11 → St F → St F
  | 0, _, S => S
  | n + 1, h, S => tileRS vs cp mb n hvs hcp hmb (Nat.lt_of_succ_le h) (tilesRS vs cp mb hvs hcp hmb n (Nat.le_of_succ_le h) S)

theorem tilesR_runs (c : Dev nD) (A : Mems) (vs cp mb : ℕ) (hvs : vs < 6) (hcp : cp < 2) (hmb : mb < 2) (S : St F) (n : ℕ) (h : n ≤ 11) :
    Runs defs₀ Variants.none (c : Thread nD τ) (Pst c A) (tilesR A vs cp mb hvs hcp hmb n h) S (tilesRS vs cp mb hvs hcp hmb n h S) ⟨⟩ := by
  induction n with
  | zero => exact Runs.ret _ _
  | succ n ih => exact Runs.bind (ih (Nat.le_of_succ_le h)) (tileR_runs c A vs cp mb n hvs hcp hmb (Nat.lt_of_succ_le h) _)

/-- A block of 64 rows of the requantisation. -/
def blockR (A : Mems) (vs cp mb : ℕ) (hvs : vs < 6) (hcp : cp < 2) (hmb : mb < 2) : Prog (TpuEff nD τ sig (Elt F) Λ₀ .tc) PUnit := do
  tilesR A vs cp mb hvs hcp hmb 11 le_rfl
  tileRl A vs cp mb hvs hcp hmb

def blockRS (vs cp mb : ℕ) (hvs : vs < 6) (hcp : cp < 2) (hmb : mb < 2) (S : St F) : St F :=
  tileRlS vs cp mb hvs hcp hmb (tilesRS vs cp mb hvs hcp hmb 11 le_rfl S)

theorem blockR_runs (c : Dev nD) (A : Mems) (vs cp mb : ℕ) (hvs : vs < 6) (hcp : cp < 2) (hmb : mb < 2) (S : St F) :
    Runs defs₀ Variants.none (c : Thread nD τ) (Pst c A) (blockR A vs cp mb hvs hcp hmb) S (blockRS vs cp mb hvs hcp hmb S) ⟨⟩ :=
  Runs.bind (tilesR_runs c A vs cp mb hvs hcp hmb S 11 le_rfl) (tileRl_runs c A vs cp mb hvs hcp hmb _)

/-! ### The body's dynamic offsets

A point's slot of the six second-moment blocks kept (`vSlot`), its place of the two experts' column maxima (`cPar`), its
row of lanes in the row maxima (`lane`), and the slot and place read three points later (`rSlot`, `rPar`). -/

def vSlot (i : grid0.Coords) : ℕ := k0_off3 i 0
def cPar (i : grid0.Coords) : ℕ := k0_off4 i 0
def lane (i : grid0.Coords) : ℕ := k0_off2 i 1
def rSlot (i : grid0.Coords) : ℕ := k0_off43 i 0
def rPar (i : grid0.Coords) : ℕ := k0_off44 i 0

theorem vSlot_lt (i : grid0.Coords) (h : k0_cond2 i = 1#1) : vSlot i < 6 := k0_off3_inb i h 0
theorem cPar_lt (i : grid0.Coords) (h : k0_cond2 i = 1#1) : cPar i < 2 := k0_off4_inb i h 0
theorem lane_le (i : grid0.Coords) (h : k0_cond2 i = 1#1) : lane i + 128 ≤ 384 := k0_off2_inb i h 1
theorem rSlot_lt (i : grid0.Coords) (h : k0_cond5 i = 1#1) : rSlot i < 6 := k0_off43_inb i h 0
theorem rPar_lt (i : grid0.Coords) (h : k0_cond5 i = 1#1) : rPar i < 2 := k0_off44_inb i h 0

/-- A new expert's start, at the points that begin one. -/
def starts (A : Mems) (i : grid0.Coords) (h2 : k0_cond2 i = 1#1) : Prog (TpuEff nD τ sig (Elt F) Λ₀ .tc) PUnit :=
  if h3 : k0_cond3 i = 1#1 then start A (cPar i) (cPar_lt i h2) (kW i) else pure ⟨⟩

/-- A finished expert's end, at the points that finish one. -/
def finishes (A : Mems) (i : grid0.Coords) (h2 : k0_cond2 i = 1#1) : Prog (TpuEff nD τ sig (Elt F) Λ₀ .tc) PUnit :=
  if h4 : k0_cond4 i = 1#1 then finish A (cPar i) (cPar_lt i h2) (kW i) else pure ⟨⟩

/-- A point's update: the head of a new expert, two blocks of 64 rows, the row maxima written, a finished expert's end. -/
def update (A : Mems) (i : grid0.Coords) (h2 : k0_cond2 i = 1#1) : Prog (TpuEff nD τ sig (Elt F) Λ₀ .tc) PUnit := do
  starts A i h2
  let p ← pre A (lane i) (lane_le i h2) (kW i)
  block A (vSlot i) (cPar i) 0 (vSlot_lt i h2) (cPar_lt i h2) (by omega) (Scalar.addi (Scalar.muli (nW i) 2#32) 0#32) p.1 p.2
  block A (vSlot i) (cPar i) 1 (vSlot_lt i h2) (cPar_lt i h2) (by omega) (Scalar.addi (Scalar.muli (nW i) 2#32) 1#32) p.1 p.2
  vro A (lane i) (lane_le i h2) (kW i)
  finishes A i h2

/-- A point's requantisation of the second moment of three points before. -/
def requant (A : Mems) (i : grid0.Coords) (h5 : k0_cond5 i = 1#1) : Prog (TpuEff nD τ sig (Elt F) Λ₀ .tc) PUnit := do
  blockR A (rSlot i) (rPar i) 0 (rSlot_lt i h5) (rPar_lt i h5) (by omega)
  blockR A (rSlot i) (rPar i) 1 (rSlot_lt i h5) (rPar_lt i h5) (by omega)

/-- The body of a point, by its pieces. -/
def body (A : Mems) (i : grid0.Coords) : Prog (TpuEff nD τ sig (Elt F) Λ₀ .tc) PUnit := do
  (if h1 : k0_cond1 i = 1#1 then init A else pure ⟨⟩)
  (if h2 : k0_cond2 i = 1#1 then update A i h2 else pure ⟨⟩)
  (if h5 : k0_cond5 i = 1#1 then requant A i h5 else pure ⟨⟩)

set_option maxRecDepth 65536 in
/-- The printed body is its pieces. -/
theorem body_eq (i : grid0.Coords) (arg1 : Memref sig .tc .smem S1 .i32) (harg1 : arg1.IsWhole) (arg2 : Memref sig .tc .vmem S1x128x2880 .bf16) (harg2 : arg2.IsWhole) (arg3 : Memref sig .tc .vmem S1x128x2880 .bf16) (harg3 : arg3.IsWhole) (arg4 : Memref sig .tc .vmem S1x128x1440 .i8) (harg4 : arg4.IsWhole) (arg5 : Memref sig .tc .vmem S1x6x2880 .f32) (harg5 : arg5.IsWhole) (arg6 : Memref sig .tc .vmem S1x128x1440 .i8) (harg6 : arg6.IsWhole) (arg7 : Memref sig .tc .vmem S5x384 .f32) (harg7 : arg7.IsWhole) (arg8 : Memref sig .tc .vmem S5x2880 .f32) (harg8 : arg8.IsWhole) (arg9 : Memref sig .tc .vmem S1x128x2880 .f32) (harg9 : arg9.IsWhole) (arg10 : Memref sig .tc .vmem S1x128x1440 .i8) (harg10 : arg10.IsWhole) (arg11 : Memref sig .tc .vmem S1x6x2880 .f32) (harg11 : arg11.IsWhole) (arg12 : Memref sig .tc .vmem S1x128x1440 .i8) (harg12 : arg12.IsWhole) (arg13 : Memref sig .tc .vmem S5x384 .f32) (harg13 : arg13.IsWhole) (arg14 : Memref sig .tc .vmem S5x2880 .f32) (harg14 : arg14.IsWhole) (arg15 : Memref sig .tc .vmem S256x256 .bf16) (harg15 : arg15.IsWhole) (arg16 : Memref sig .tc .vmem S256x128 .bf16) (harg16 : arg16.IsWhole) (arg17 : Memref sig .tc .vmem S8x128 .f32) (harg17 : arg17.IsWhole) (arg18 : Memref sig .tc .vmem S6x128x2880 .f32) (harg18 : arg18.IsWhole) (arg19 : Memref sig .tc .vmem S6x128x128 .f32) (harg19 : arg19.IsWhole) (arg20 : Memref sig .tc .vmem S2x8x2880 .f32) (harg20 : arg20.IsWhole) (arg21 : Memref sig .tc .vmem S2x1x2880 .f32) (harg21 : arg21.IsWhole) (arg22 : Memref sig .tc .vmem S128x128 .f32) (harg22 : arg22.IsWhole) (arg23 : Memref sig .tc .vmem S1x2880 .f32) (harg23 : arg23.IsWhole) (arg24 : Memref sig .tc .vmem S2x2880 .f32) (harg24 : arg24.IsWhole) :
    cc0_adamw4bit (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 = body ⟨arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, arg24, harg24⟩ i := by
  unfold cc0_adamw4bit body
  by_cases h1 : k0_cond1 i = 1#1 <;> by_cases h2 : k0_cond2 i = 1#1 <;> by_cases h3 : k0_cond3 i = 1#1 <;> by_cases h4 : k0_cond4 i = 1#1 <;> by_cases h5 : k0_cond5 i = 1#1
  all_goals (simp -zeta only [↓reduceDIte, h1, h2, h3, h4, h5, k0_part103, k0_part3, update, starts, finishes]; sl_kernel_rfl)

def startsS (i : grid0.Coords) (h2 : k0_cond2 i = 1#1) (S : St F) : St F :=
  if h3 : k0_cond3 i = 1#1 then startS (cPar i) (cPar_lt i h2) (kW i) S else S

def finishesS (i : grid0.Coords) (h2 : k0_cond2 i = 1#1) (S : St F) : St F :=
  if h4 : k0_cond4 i = 1#1 then finishS (cPar i) (cPar_lt i h2) (kW i) S else S

def updateS (i : grid0.Coords) (h2 : k0_cond2 i = 1#1) (S : St F) : St F :=
  let p := preS (lane i) (lane_le i h2) (kW i) (startsS i h2 S)
  let S₁ := blockS (vSlot i) (cPar i) 0 (vSlot_lt i h2) (cPar_lt i h2) (by omega) (Scalar.addi (Scalar.muli (nW i) 2#32) 0#32) p.2.1 p.2.2 p.1
  let S₂ := blockS (vSlot i) (cPar i) 1 (vSlot_lt i h2) (cPar_lt i h2) (by omega) (Scalar.addi (Scalar.muli (nW i) 2#32) 1#32) p.2.1 p.2.2 S₁
  finishesS i h2 (vroS (lane i) (lane_le i h2) (kW i) S₂)

def requantS (i : grid0.Coords) (h5 : k0_cond5 i = 1#1) (S : St F) : St F :=
  blockRS (rSlot i) (rPar i) 1 (rSlot_lt i h5) (rPar_lt i h5) (by omega) (blockRS (rSlot i) (rPar i) 0 (rSlot_lt i h5) (rPar_lt i h5) (by omega) S)

/-- What a point makes of what the buffers hold. -/
def step (i : grid0.Coords) (S : St F) : St F :=
  let S₁ := if h1 : k0_cond1 i = 1#1 then initS S else S
  let S₂ := if h2 : k0_cond2 i = 1#1 then updateS i h2 S₁ else S₁
  if h5 : k0_cond5 i = 1#1 then requantS i h5 S₂ else S₂

theorem update_runs (c : Dev nD) (A : Mems) (i : grid0.Coords) (h2 : k0_cond2 i = 1#1) (S : St F) :
    Runs defs₀ Variants.none (c : Thread nD τ) (Pst c A) (update A i h2) S (updateS i h2 S) ⟨⟩ :=
  Runs.bind (Runs.dite (fun _ => start_runs c A _ _ _ S) (fun _ => Runs.ret _ _)) (Runs.bind (pre_runs c A _ _ _ _)
    (Runs.bind (block_runs c A _ _ 0 _ _ _ _ _ _ _) (Runs.bind (block_runs c A _ _ 1 _ _ _ _ _ _ _) (Runs.bind (vro_runs c A _ _ _ _)
      (Runs.dite (fun _ => finish_runs c A _ _ _ _) (fun _ => Runs.ret _ _))))))

theorem requant_runs (c : Dev nD) (A : Mems) (i : grid0.Coords) (h5 : k0_cond5 i = 1#1) (S : St F) :
    Runs defs₀ Variants.none (c : Thread nD τ) (Pst c A) (requant A i h5) S (requantS i h5 S) ⟨⟩ :=
  Runs.bind (blockR_runs c A _ _ 0 _ _ _ _) (blockR_runs c A _ _ 1 _ _ _ _)

/-- A point's body runs as `step`. -/
theorem body_runs (c : Dev nD) (A : Mems) (i : grid0.Coords) (S : St F) :
    Runs defs₀ Variants.none (c : Thread nD τ) (Pst c A) (body A i) S (step i S) ⟨⟩ :=
  Runs.bind (Runs.dite (fun _ => init_runs c A S) (fun _ => Runs.ret _ _)) (Runs.bind
    (Runs.dite (fun h => update_runs c A i h _) (fun _ => Runs.ret _ _)) (Runs.dite (fun h => requant_runs c A i h _) (fun _ => Runs.ret _ _)))

end Cert.Kernel.Body

end

end
-- ==== Proof.KRun.lean ====
/-
  The launch of the kernel over what its points do to the buffers (`step`): a SPECIFICATION says what the scratch buffers
  hold before each point and what each result's buffer holds after it; sound at every point, it holds of the run.
-/
module

public import proofs.«01_k».proof.Proof.Gen.Kernel.Frame
public import proofs.«01_k».proof.Proof.KBody
public import Idealize.ShloMosaic.Lib.Pipeline.ArrRel

@[expose] public section

set_option maxRecDepth 16384

noncomputable section

namespace Cert.Kernel.Body

open Cert.Kernel Cert.Kernel.Gen Cert.Proof
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg RDat Window)

variable {F : FTy → Type} [FloatOps F]

local notation "𝕄" => MT nD τ sig Unit (Elt F) ℕ (UR sig nD τ) ℕ

/-! ### What the buffers hold, by kind: the inputs, and the scratch -/

/-- What the input buffers hold. -/
def St.ins (S : St F) :=
  (S.a1, S.a2, S.a3, S.a4, S.a5, S.a6, S.a7, S.a8)

/-- What the scratch buffers hold. -/
structure Sc (F : FTy → Type) where
  a15 : S256x256.Idx → Elt F .bf16
  a16 : S256x128.Idx → Elt F .bf16
  a17 : S8x128.Idx → Elt F .f32
  a18 : S6x128x2880.Idx → Elt F .f32
  a19 : S6x128x128.Idx → Elt F .f32
  a20 : S2x8x2880.Idx → Elt F .f32
  a21 : S2x1x2880.Idx → Elt F .f32
  a22 : S128x128.Idx → Elt F .f32
  a23 : S1x2880.Idx → Elt F .f32
  a24 : S2x2880.Idx → Elt F .f32

/-- The scratch part of a state. -/
def St.sc (S : St F) : Sc F := ⟨S.a15, S.a16, S.a17, S.a18, S.a19, S.a20, S.a21, S.a22, S.a23, S.a24⟩

theorem tilesUS_ins (vs cp mb : ℕ) (hvs : vs < 6) (hcp : cp < 2) (hmb : mb < 2) (k1 k2 : Vec F S1x128 .f32) (S : St F) (n : ℕ) (h : n ≤ 11) :
    (tilesUS vs cp mb hvs hcp hmb k1 k2 n h S).1.ins = S.ins := by
  induction n with
  | zero => rfl
  | succ n ih => exact Eq.trans rfl (ih (Nat.le_of_succ_le h))

theorem tilesRS_ins (vs cp mb : ℕ) (hvs : vs < 6) (hcp : cp < 2) (hmb : mb < 2) (S : St F) (n : ℕ) (h : n ≤ 11) :
    (tilesRS vs cp mb hvs hcp hmb n h S).ins = S.ins := by
  induction n with
  | zero => rfl
  | succ n ih => exact Eq.trans rfl (ih (Nat.le_of_succ_le h))

theorem blockS_ins (vs cp mb : ℕ) (hvs : vs < 6) (hcp : cp < 2) (hmb : mb < 2) (w : BitVec 32) (k1 k2 : Vec F S1x128 .f32) (S : St F) :
    (blockS vs cp mb hvs hcp hmb w k1 k2 S).ins = S.ins :=
  (tilesUS_ins vs cp mb hvs hcp hmb k1 k2 (headS w S) 11 le_rfl).trans rfl

theorem tileRlS_ins (vs cp mb : ℕ) (hvs : vs < 6) (hcp : cp < 2) (hmb : mb < 2) (S : St F) : (tileRlS vs cp mb hvs hcp hmb S).ins = S.ins := rfl

theorem blockRS_ins (vs cp mb : ℕ) (hvs : vs < 6) (hcp : cp < 2) (hmb : mb < 2) (S : St F) : (blockRS vs cp mb hvs hcp hmb S).ins = S.ins := by
  unfold blockRS; rw [tileRlS_ins, tilesRS_ins]

theorem startsS_ins (i : grid0.Coords) (h2 : k0_cond2 i = 1#1) (S : St F) : (startsS i h2 S).ins = S.ins := by
  unfold startsS; split <;> rfl

theorem finishesS_ins (i : grid0.Coords) (h2 : k0_cond2 i = 1#1) (S : St F) : (finishesS i h2 S).ins = S.ins := by
  unfold finishesS; split <;> rfl

theorem preS_ins (ls : ℕ) (hls : ls + 128 ≤ 384) (w : BitVec 32) (S : St F) : (preS ls hls w S).1.ins = S.ins := rfl

theorem vroS_ins (ls : ℕ) (hls : ls + 128 ≤ 384) (w : BitVec 32) (S : St F) : (vroS ls hls w S).ins = S.ins := rfl

theorem updateS_ins (i : grid0.Coords) (h2 : k0_cond2 i = 1#1) (S : St F) : (updateS i h2 S).ins = S.ins := by
  unfold updateS
  dsimp only
  rw [finishesS_ins, vroS_ins, blockS_ins, blockS_ins, preS_ins, startsS_ins]

theorem requantS_ins (i : grid0.Coords) (h5 : k0_cond5 i = 1#1) (S : St F) : (requantS i h5 S).ins = S.ins := by
  unfold requantS; rw [blockRS_ins, blockRS_ins]

/-- A point leaves the inputs as it finds them. -/
theorem step_ins (i : grid0.Coords) (S : St F) : (step i S).ins = S.ins := by
  have e1 : ∀ S : St F, (if h1 : k0_cond1 i = 1#1 then initS S else S).ins = S.ins := fun S => by split <;> rfl
  have e2 : ∀ S : St F, (if h2 : k0_cond2 i = 1#1 then updateS i h2 S else S).ins = S.ins := fun S => by
    split
    · exact updateS_ins i _ S
    · rfl
  have e3 : ∀ S : St F, (if h5 : k0_cond5 i = 1#1 then requantS i h5 S else S).ins = S.ins := fun S => by
    split
    · exact requantS_ins i _ S
    · rfl
  exact (e3 _).trans ((e2 _).trans (e1 S))

/-! ### A specification of the run -/

/-- What the scratch holds before a point (`inv`), and what each result's buffer holds after it. -/
structure Spec (F : FTy → Type) where
  inv : ℕ → Sc F → Prop
  o9 : ℕ → (S1x128x2880.Idx → Elt F .f32) → Prop
  o10 : ℕ → (S1x128x1440.Idx → Elt F .i8) → Prop
  o11 : ℕ → (S1x6x2880.Idx → Elt F .f32) → Prop
  o12 : ℕ → (S1x128x1440.Idx → Elt F .i8) → Prop
  o13 : ℕ → (S5x384.Idx → Elt F .f32) → Prop
  o14 : ℕ → (S5x2880.Idx → Elt F .f32) → Prop

/-- The specification that says nothing. -/
def Spec.none : Spec F := ⟨fun _ _ => True, fun _ _ => True, fun _ _ => True, fun _ _ => True, fun _ _ => True, fun _ _ => True, fun _ _ => True⟩

variable (m : (ℓ : Loc nD τ sig) → Buf (Elt F) ℓ) (ρ : Dev nD → PrngReg)

/-- The inputs' blocks at a point. -/
def insAt (c : Dev nD) (t : Fin cfg0.N) : (S1.Idx → Elt F .i32) × (S1x128x2880.Idx → Elt F .bf16) × (S1x128x2880.Idx → Elt F .bf16) × (S1x128x1440.Idx → Elt F .i8) × (S1x6x2880.Idx → Elt F .f32) × (S1x128x1440.Idx → Elt F .i8) × (S5x384.Idx → Elt F .f32) × (S5x2880.Idx → Elt F .f32) :=
  (iblk m c 0 t, iblk m c 1 t, iblk m c 2 t, iblk m c 3 t, iblk m c 4 t, iblk m c 5 t, iblk m c 6 t, iblk m c 7 t)

/-- A result's buffer is found as the point before left it, where that point did not write it back. -/
def Kept (w : Fin cfg0.W) (t : Fin cfg0.N) (o : ℕ → Prop) : Prop :=
  t.val ≠ 0 → (cfg0.win w).flush ⟨t.val - 1, Nat.lt_of_le_of_lt (Nat.sub_le _ _) t.isLt⟩ ≠ true → o (t.val - 1)

/-- The specification holds at every point: it holds of the scratch before the first point whatever it holds, and a
    point that finds it leaves it. -/
structure Sound (c : Dev nD) (sp : Spec F) : Prop where
  init : ∀ s, sp.inv 0 s
  step : ∀ (t : Fin cfg0.N) (S : St F), S.ins = insAt m c t → sp.inv t.val S.sc →
    Kept 8 t (fun u => sp.o9 u S.a9) →
    Kept 9 t (fun u => sp.o10 u S.a10) →
    Kept 10 t (fun u => sp.o11 u S.a11) →
    Kept 11 t (fun u => sp.o12 u S.a12) →
    Kept 12 t (fun u => sp.o13 u S.a13) →
    Kept 13 t (fun u => sp.o14 u S.a14) →
    sp.inv (t.val + 1) (step (grid0.coords t) S).sc ∧ sp.o9 t.val (step (grid0.coords t) S).a9 ∧ sp.o10 t.val (step (grid0.coords t) S).a10 ∧ sp.o11 t.val (step (grid0.coords t) S).a11 ∧ sp.o12 t.val (step (grid0.coords t) S).a12 ∧ sp.o13 t.val (step (grid0.coords t) S).a13 ∧ sp.o14 t.val (step (grid0.coords t) S).a14

theorem Sound.none (c : Dev nD) : Sound m c (Spec.none (F := F)) :=
  ⟨fun _ => trivial, fun _ _ _ _ _ _ _ _ _ _ => ⟨trivial, trivial, trivial, trivial, trivial, trivial, trivial⟩⟩

variable (c : Dev nD) (sp : Spec F)

/-- The scratch buffers at contents `s`. -/
def scOwns (s : Sc F) : sProp 𝕄 :=
  iprop(owns (c : Thread nD τ) (Memref.whole cc0_scratch0) fullShare s.a15 ∗ owns (c : Thread nD τ) (Memref.whole cc0_scratch1) fullShare s.a16 ∗ owns (c : Thread nD τ) (Memref.whole cc0_scratch2) fullShare s.a17 ∗ owns (c : Thread nD τ) (Memref.whole cc0_scratch3) fullShare s.a18 ∗ owns (c : Thread nD τ) (Memref.whole cc0_scratch4) fullShare s.a19 ∗ owns (c : Thread nD τ) (Memref.whole cc0_scratch5) fullShare s.a20 ∗ owns (c : Thread nD τ) (Memref.whole cc0_scratch6) fullShare s.a21 ∗ owns (c : Thread nD τ) (Memref.whole cc0_scratch7) fullShare s.a22 ∗ owns (c : Thread nD τ) (Memref.whole cc0_scratch8) fullShare s.a23 ∗ owns (c : Thread nD τ) (Memref.whole cc0_scratch9) fullShare s.a24)

/-- The memrefs the body is called with at a point. -/
def memsAt (t : Fin cfg0.N) : Mems :=
  ⟨win0_0.stage (cfg0.slots t 0), hstage0_0 ((cfg0.slots t 0).cast nbuf0_0), win0_1.stage (cfg0.slots t 1), hstage0_1 ((cfg0.slots t 1).cast nbuf0_1), win0_2.stage (cfg0.slots t 2), hstage0_2 ((cfg0.slots t 2).cast nbuf0_2), win0_3.stage (cfg0.slots t 3), hstage0_3 ((cfg0.slots t 3).cast nbuf0_3), win0_4.stage (cfg0.slots t 4), hstage0_4 ((cfg0.slots t 4).cast nbuf0_4), win0_5.stage (cfg0.slots t 5), hstage0_5 ((cfg0.slots t 5).cast nbuf0_5), win0_6.stage (cfg0.slots t 6), hstage0_6 ((cfg0.slots t 6).cast nbuf0_6), win0_7.stage (cfg0.slots t 7), hstage0_7 ((cfg0.slots t 7).cast nbuf0_7), win0_8.stage (cfg0.slots t 8), hstage0_8 ((cfg0.slots t 8).cast nbuf0_8), win0_9.stage (cfg0.slots t 9), hstage0_9 ((cfg0.slots t 9).cast nbuf0_9), win0_10.stage (cfg0.slots t 10), hstage0_10 ((cfg0.slots t 10).cast nbuf0_10), win0_11.stage (cfg0.slots t 11), hstage0_11 ((cfg0.slots t 11).cast nbuf0_11), win0_12.stage (cfg0.slots t 12), hstage0_12 ((cfg0.slots t 12).cast nbuf0_12), win0_13.stage (cfg0.slots t 13), hstage0_13 ((cfg0.slots t 13).cast nbuf0_13),
   Memref.whole cc0_scratch0, Memref.isWhole_whole _, Memref.whole cc0_scratch1, Memref.isWhole_whole _, Memref.whole cc0_scratch2, Memref.isWhole_whole _, Memref.whole cc0_scratch3, Memref.isWhole_whole _, Memref.whole cc0_scratch4, Memref.isWhole_whole _, Memref.whole cc0_scratch5, Memref.isWhole_whole _, Memref.whole cc0_scratch6, Memref.isWhole_whole _, Memref.whole cc0_scratch7, Memref.isWhole_whole _, Memref.whole cc0_scratch8, Memref.isWhole_whole _, Memref.whole cc0_scratch9, Memref.isWhole_whole _⟩

/-- The proof data: an input's buffer is left as found, a result's as the specification says. -/
def rdat : RDat τ (Elt F) Unit ℕ (UR sig nD τ) ℕ cfg0 c where
  A w := V m c (Pipeline.arrRef spec0 w)
  after w := match w with
    | ⟨0, _⟩ => fun _ Y X => X = Y
    | ⟨1, _⟩ => fun _ Y X => X = Y
    | ⟨2, _⟩ => fun _ Y X => X = Y
    | ⟨3, _⟩ => fun _ Y X => X = Y
    | ⟨4, _⟩ => fun _ Y X => X = Y
    | ⟨5, _⟩ => fun _ Y X => X = Y
    | ⟨6, _⟩ => fun _ Y X => X = Y
    | ⟨7, _⟩ => fun _ Y X => X = Y
    | ⟨8, _⟩ => fun t _ X => sp.o9 t.val X
    | ⟨9, _⟩ => fun t _ X => sp.o10 t.val X
    | ⟨10, _⟩ => fun t _ X => sp.o11 t.val X
    | ⟨11, _⟩ => fun t _ X => sp.o12 t.val X
    | ⟨12, _⟩ => fun t _ X => sp.o13 t.val X
    | ⟨13, _⟩ => fun t _ X => sp.o14 t.val X
  Φ t := iprop((∃ s : Sc F, ⌜sp.inv t.val s⌝ ∗ scOwns c s) ∗ ∃ r, prngReg c r)
  q _ := fullShare
  owed _ := 0

theorem rdat_Φ (t : Fin (cfg0.N + 1)) :
    (rdat m c sp).Φ t = iprop((∃ s : Sc F, ⌜sp.inv t.val s⌝ ∗ scOwns c s) ∗ ∃ r, prngReg c r) := rfl

theorem defs₀_row (t : Fin cfg0.N) : defs₀ (F := F) .tc cfg0.body (cfg0.bodyArgs t (cfg0.slots t)) = body (memsAt t) (grid0.coords t) := by
  refine Eq.trans (b := bodyAt0 t) ?_ (body_eq _ _ _ _ _ _ _ _ _ _ _ _ _ _ _ _ _ _ _ _ _ _ _ _ _ _ _ _ _ _ _ _ _ _ _ _ _ _ _ _ _ _ _ _ _ _ _ _ _)
  unfold defs₀; rw [Defs.onTc_tc]

/-- A result's buffer, found: as the point before left it unless that point wrote it back. -/
theorem kept_of_finds {w : Fin cfg0.W} (t : Fin cfg0.N) {Y} (o : ℕ → ((cfg0.win w).block.Idx → Elt F (cfg0.win w).elt) → Prop) (hw : (cfg0.win w).isOut = true)
    (ha : ∀ u Y X, (rdat m c sp).after w u Y X → o u.val X) (hY : (rdat m c sp).Finds w t Y) : Kept w t (fun u => o u Y) := by
  intro ht hf
  have hfe : (cfg0.win w).fetch t = false := (cfg0.win w).fetch_out hw t
  rcases ((rdat m c sp).finds_of_pos hfe ht Y).mp hY with h | ⟨Y', _, h⟩
  · exact absurd h hf
  · exact ha _ _ _ h

/-- An input's buffer, found: its block. -/
theorem found {w : Fin cfg0.W} (t : Fin cfg0.N) {Y} (hw : (cfg0.win w).isOut = false)
    (hclip : ∀ t t' : Fin cfg0.N, (cfg0.win w).index t = (cfg0.win w).index t' → (cfg0.win w).clip (cfg0.grid.coords t) = (cfg0.win w).clip (cfg0.grid.coords t'))
    (ha : ∀ u Y X, (rdat m c sp).after w u Y X → X = Y) (hY : (rdat m c sp).Finds w t Y) : ∃ d, Y = (rdat m c sp).fetched w t d :=
  (rdat m c sp).finds_in_eq_fetched w hw hclip ha t Y hY

theorem body_obligation (hs : Sound m c sp) : (rdat m c sp).BodyObligation defs₀ Variants.none () Set.univ := by
  intro t Y hY
  rw [defs₀_row, bigSep_W0, bigSep_W0, rdat_Φ, rdat_Φ]
  have y0 : Y 0 = iblk m c 0 t := (found m c sp (w := 0) t rfl (fun _ _ _ => rfl) (fun _ _ _ h => h) (hY 0)).elim fun _ h => h
  have y1 : Y 1 = iblk m c 1 t := (found m c sp (w := 1) t rfl (fun _ _ _ => rfl) (fun _ _ _ h => h) (hY 1)).elim fun _ h => h
  have y2 : Y 2 = iblk m c 2 t := (found m c sp (w := 2) t rfl (fun _ _ _ => rfl) (fun _ _ _ h => h) (hY 2)).elim fun _ h => h
  have y3 : Y 3 = iblk m c 3 t := (found m c sp (w := 3) t rfl (fun _ _ _ => rfl) (fun _ _ _ h => h) (hY 3)).elim fun _ h => h
  have y4 : Y 4 = iblk m c 4 t := (found m c sp (w := 4) t rfl (fun _ _ _ => rfl) (fun _ _ _ h => h) (hY 4)).elim fun _ h => h
  have y5 : Y 5 = iblk m c 5 t := (found m c sp (w := 5) t rfl (fun _ _ _ => rfl) (fun _ _ _ h => h) (hY 5)).elim fun _ h => h
  have y6 : Y 6 = iblk m c 6 t := (found m c sp (w := 6) t rfl (fun _ _ _ => rfl) (fun _ _ _ h => h) (hY 6)).elim fun _ h => h
  have y7 : Y 7 = iblk m c 7 t := (found m c sp (w := 7) t rfl (fun _ _ _ => rfl) (fun _ _ _ h => h) (hY 7)).elim fun _ h => h
  have y8 := kept_of_finds m c sp t (w := 8) sp.o9 rfl (fun _ _ _ h => h) (hY 8)
  have y9 := kept_of_finds m c sp t (w := 9) sp.o10 rfl (fun _ _ _ h => h) (hY 9)
  have y10 := kept_of_finds m c sp t (w := 10) sp.o11 rfl (fun _ _ _ h => h) (hY 10)
  have y11 := kept_of_finds m c sp t (w := 11) sp.o12 rfl (fun _ _ _ h => h) (hY 11)
  have y12 := kept_of_finds m c sp t (w := 12) sp.o13 rfl (fun _ _ _ h => h) (hY 12)
  have y13 := kept_of_finds m c sp t (w := 13) sp.o14 rfl (fun _ _ _ h => h) (hY 13)
  iintro ⟨⟨⟨%s, %hs', Hsc⟩, Hr⟩, Hos, Hw⟩
  have hS := hs.step t ⟨Y 0, Y 1, Y 2, Y 3, Y 4, Y 5, Y 6, Y 7, Y 8, Y 9, Y 10, Y 11, Y 12, Y 13, s.a15, s.a16, s.a17, s.a18, s.a19, s.a20, s.a21, s.a22, s.a23, s.a24⟩
    (by unfold St.ins insAt; simp only [y0, y1, y2, y3, y4, y5, y6, y7]) hs' y8 y9 y10 y11 y12 y13
  generalize hSe : (⟨Y 0, Y 1, Y 2, Y 3, Y 4, Y 5, Y 6, Y 7, Y 8, Y 9, Y 10, Y 11, Y 12, Y 13, s.a15, s.a16, s.a17, s.a18, s.a19, s.a20, s.a21, s.a22, s.a23, s.a24⟩ : St F) = S at hS
  have hi := step_ins (grid0.coords t) S
  iapply (body_runs c (memsAt t) (grid0.coords t) S Set.univ _)
  generalize step (grid0.coords t) S = S' at hS hi
  subst hSe
  obtain ⟨hinv, h9, h10, h11, h12, h13, h14⟩ := hS
  unfold St.ins at hi
  simp only [Prod.mk.injEq] at hi
  obtain ⟨e1, e2, e3, e4, e5, e6, e7, e8⟩ := hi
  isplitl [Hsc Hw]
  · unfold scOwns
    icases Hsc with ⟨H15, H16, H17, H18, H19, H20, H21, H22, H23, H24⟩
    icases Hw with ⟨H1, H2, H3, H4, H5, H6, H7, H8, H9, H10, H11, H12, H13, H14⟩
    unfold Pst
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [H23]
    · iexact H23
    iexact H24
  iintro HP
  unfold Pst
  icases HP with ⟨H1, H2, H3, H4, H5, H6, H7, H8, H9, H10, H11, H12, H13, H14, H15, H16, H17, H18, H19, H20, H21, H22, H23, H24⟩
  isplitl [Hr H15 H16 H17 H18 H19 H20 H21 H22 H23 H24]
  · isplitr [Hr]
    · iexists S'.sc
      isplitr
      · ipureintro; exact hinv
      unfold scOwns
      isplitl [H15]
      · iexact H15
      isplitl [H16]
      · iexact H16
      isplitl [H17]
      · iexact H17
      isplitl [H18]
      · iexact H18
      isplitl [H19]
      · iexact H19
      isplitl [H20]
      · iexact H20
      isplitl [H21]
      · iexact H21
      isplitl [H22]
      · iexact H22
      isplitl [H23]
      · iexact H23
      iexact H24
    iexact Hr
  isplitl [Hos]
  · iexact Hos
  isplitl [H1]
  · iexists S'.a1
    isplitr
    · ipureintro; exact e1
    iexact H1
  isplitl [H2]
  · iexists S'.a2
    isplitr
    · ipureintro; exact e2
    iexact H2
  isplitl [H3]
  · iexists S'.a3
    isplitr
    · ipureintro; exact e3
    iexact H3
  isplitl [H4]
  · iexists S'.a4
    isplitr
    · ipureintro; exact e4
    iexact H4
  isplitl [H5]
  · iexists S'.a5
    isplitr
    · ipureintro; exact e5
    iexact H5
  isplitl [H6]
  · iexists S'.a6
    isplitr
    · ipureintro; exact e6
    iexact H6
  isplitl [H7]
  · iexists S'.a7
    isplitr
    · ipureintro; exact e7
    iexact H7
  isplitl [H8]
  · iexists S'.a8
    isplitr
    · ipureintro; exact e8
    iexact H8
  isplitl [H9]
  · iexists S'.a9
    isplitr
    · ipureintro; exact h9
    iexact H9
  isplitl [H10]
  · iexists S'.a10
    isplitr
    · ipureintro; exact h10
    iexact H10
  isplitl [H11]
  · iexists S'.a11
    isplitr
    · ipureintro; exact h11
    iexact H11
  isplitl [H12]
  · iexists S'.a12
    isplitr
    · ipureintro; exact h12
    iexact H12
  isplitl [H13]
  · iexists S'.a13
    isplitr
    · ipureintro; exact h13
    iexact H13
  · iexists S'.a14
    isplitr
    · ipureintro; exact h14
    iexact H14

end Cert.Kernel.Body

end

end
-- ==== Proof.KLaunch.lean ====
/-
  The whole program's run: the invariant taken from the region's entry and given back at its exit, the run with every
  grid point's description, and the frame.
-/
module

public import proofs.«01_k».proof.Proof.KRun

@[expose] public section

noncomputable section
namespace Cert.Kernel.Body

open Cert.Kernel Cert.Kernel.Gen Cert.Proof
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg RDat Window)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the region hands over at its entry is the invariant before the first point. -/
theorem phi_in (c : Dev nD) (sp : Spec F) (hs : Sound m c sp) :
    (Pipeline.ΦA spec0 c : sProp 𝕄) ⊢ (rdat m c sp).Φ 0 := by
  rw [rdat_Φ]
  unfold Pipeline.ΦA
  rw [Gen.scopedRest0_eq c]
  iintro ⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩⟩, Hr⟩
  isplitr [Hr]
  · iexists (⟨f0, f1, f2, f3, f4, f5, f6, f7, f8, f9⟩ : Sc F)
    isplitr
    · ipureintro; exact hs.init _
    unfold scOwns
    simp only [owns_whole_eq]
    isplitl [H0]
    · iexists f0; isplitr; (ipureintro; rfl); iexact H0
    isplitl [H1]
    · iexists f1; isplitr; (ipureintro; rfl); iexact H1
    isplitl [H2]
    · iexists f2; isplitr; (ipureintro; rfl); iexact H2
    isplitl [H3]
    · iexists f3; isplitr; (ipureintro; rfl); iexact H3
    isplitl [H4]
    · iexists f4; isplitr; (ipureintro; rfl); iexact H4
    isplitl [H5]
    · iexists f5; isplitr; (ipureintro; rfl); iexact H5
    isplitl [H6]
    · iexists f6; isplitr; (ipureintro; rfl); iexact H6
    isplitl [H7]
    · iexists f7; isplitr; (ipureintro; rfl); iexact H7
    isplitl [H8]
    · iexists f8; isplitr; (ipureintro; rfl); iexact H8
    · iexists f9; isplitr; (ipureintro; rfl); iexact H9
  iexact Hr

/-- The invariant after the last point gives back what the region takes at its exit. -/
theorem phi_out (c : Dev nD) (sp : Spec F) :
    (rdat m c sp).Φ (Fin.last cfg0.N) ⊢ (Pipeline.ΦA spec0 c : sProp 𝕄) := by
  rw [rdat_Φ]
  unfold Pipeline.ΦA
  rw [Gen.scopedRest0_eq c]
  unfold scOwns
  simp only [owns_whole_eq]
  iintro ⟨⟨%s, -, ⟨%f0, -, H0⟩, ⟨%f1, -, H1⟩, ⟨%f2, -, H2⟩, ⟨%f3, -, H3⟩, ⟨%f4, -, H4⟩, ⟨%f5, -, H5⟩, ⟨%f6, -, H6⟩, ⟨%f7, -, H7⟩, ⟨%f8, -, H8⟩, ⟨%f9, -, H9⟩⟩, Hr⟩
  isplitr [Hr]
  · isplitl [H0]
    · iexists f0; iexact H0
    isplitl [H1]
    · iexists f1; iexact H1
    isplitl [H2]
    · iexists f2; iexact H2
    isplitl [H3]
    · iexists f3; iexact H3
    isplitl [H4]
    · iexists f4; iexact H4
    isplitl [H5]
    · iexists f5; iexact H5
    isplitl [H6]
    · iexists f6; iexact H6
    isplitl [H7]
    · iexists f7; iexact H7
    isplitl [H8]
    · iexists f8; iexact H8
    · iexists f9; iexact H9
  iexact Hr

/-- The whole run, for a sound description of every grid point. -/
theorem run (sp : Dev nD → Spec F) (hs : ∀ c, Sound m c (sp c)) :
    θ_run defs (onTc (τ := τ) (main (F := F))) ⟨m, fun _ => 0, ρ⟩
      (fun r => RDat.FramePost cfg0 (fun c => rdat m c (sp c)) (Gen.V m) r ∧ r.2.sem = fun _ => 0) :=
  RDat.θ_run_frame_track cfgs 0 Gen.launch0 defs₀ Variants.none (fun c => rdat m c (sp c)) m ρ main
    (fun c => body_obligation m c (sp c) (hs c)) (fun c w => by unfold RDat.share; split <;> rfl) (fun c t => rfl) (Gen.V m)
    (Gen.hmain m Variants.none) (fun c w => rfl) (fun c => phi_in m c (sp c) (hs c)) (fun c => phi_out m c (sp c)) _ (fun r h => h)

/-- What the run leaves in the argument arrays: what was there. -/
theorem args_of_post (sp : Dev nD → Spec F) {r : PUnit × MemSt nD τ sig (Elt F)}
    (h : RDat.FramePost cfg0 (fun c => rdat m c (sp c)) (Gen.V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) :=
  ⟨(h.arr_in c 1 rfl).trans (Gen.V_main_arg0 m c), (h.arr_in c 2 rfl).trans (Gen.V_main_arg1 m c),
   ((h c).2 main_arg2 (Pipeline.mem_restRefs_of main_arg2 (by decide) (by decide))).trans (Gen.V_main_arg2 m c),
   (h.arr_in c 3 rfl).trans (Gen.V_main_arg3 m c), (h.arr_in c 4 rfl).trans (Gen.V_main_arg4 m c),
   (h.arr_in c 5 rfl).trans (Gen.V_main_arg5 m c), (h.arr_in c 6 rfl).trans (Gen.V_main_arg6 m c),
   (h.arr_in c 7 rfl).trans (Gen.V_main_arg7 m c)⟩

/-- From any memory the program terminates, its arguments and its counters as they were. -/
theorem frame :
    θ_run defs (onTc (τ := τ) (main (F := F))) ⟨m, fun _ => 0, ρ⟩ (fun r =>
    (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)) ∧ r.2.sem = fun _ => 0) :=
  (θ_run defs _ _).mono (fun _ h => ⟨args_of_post m _ h.1, h.2⟩) (run m ρ (fun _ => Spec.none) (fun c => Sound.none m c))

end Cert.Kernel.Body

end
-- ==== Proof.IMach.lean ====
/-
  The buffers of the kernel body: the memrefs one grid point is called with (`Mems`), what they hold (`St`), and the
  ownership of all of them at a state (`Pst`).
-/
module

public import proofs.«01_k».proof.Proof.Gen.KernelIdeal.Frame
public import proofs.«01_k».proof.Proof.Runs

@[expose] public section

set_option maxRecDepth 16384

noncomputable section

namespace Cert.KernelIdeal.Body

open Cert.KernelIdeal Cert.KernelIdeal.Gen Cert.Proof
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The memrefs the body is called with, each a whole buffer. -/
structure Mems where
  arg1 : Memref sig .tc .smem S1 .i32
  harg1 : arg1.IsWhole
  arg2 : Memref sig .tc .vmem S1x128x2880 .bf16
  harg2 : arg2.IsWhole
  arg3 : Memref sig .tc .vmem S1x128x2880 .bf16
  harg3 : arg3.IsWhole
  arg4 : Memref sig .tc .vmem S1x128x1440 .i8
  harg4 : arg4.IsWhole
  arg5 : Memref sig .tc .vmem S1x6x2880 .f32
  harg5 : arg5.IsWhole
  arg6 : Memref sig .tc .vmem S1x128x1440 .i8
  harg6 : arg6.IsWhole
  arg7 : Memref sig .tc .vmem S5x384 .f32
  harg7 : arg7.IsWhole
  arg8 : Memref sig .tc .vmem S5x2880 .f32
  harg8 : arg8.IsWhole
  arg9 : Memref sig .tc .vmem S1x128x2880 .f32
  harg9 : arg9.IsWhole
  arg10 : Memref sig .tc .vmem S1x128x1440 .i8
  harg10 : arg10.IsWhole
  arg11 : Memref sig .tc .vmem S1x6x2880 .f32
  harg11 : arg11.IsWhole
  arg12 : Memref sig .tc .vmem S1x128x1440 .i8
  harg12 : arg12.IsWhole
  arg13 : Memref sig .tc .vmem S5x384 .f32
  harg13 : arg13.IsWhole
  arg14 : Memref sig .tc .vmem S5x2880 .f32
  harg14 : arg14.IsWhole
  arg15 : Memref sig .tc .vmem S256x256 .bf16
  harg15 : arg15.IsWhole
  arg16 : Memref sig .tc .vmem S256x128 .bf16
  harg16 : arg16.IsWhole
  arg17 : Memref sig .tc .vmem S8x128 .f32
  harg17 : arg17.IsWhole
  arg18 : Memref sig .tc .vmem S6x128x2880 .f32
  harg18 : arg18.IsWhole
  arg19 : Memref sig .tc .vmem S6x128x128 .f32
  harg19 : arg19.IsWhole
  arg20 : Memref sig .tc .vmem S2x8x2880 .f32
  harg20 : arg20.IsWhole
  arg21 : Memref sig .tc .vmem S2x1x2880 .f32
  harg21 : arg21.IsWhole
  arg22 : Memref sig .tc .vmem S128x128 .f32
  harg22 : arg22.IsWhole
  arg23 : Memref sig .tc .vmem S1x2880 .f32
  harg23 : arg23.IsWhole
  arg24 : Memref sig .tc .vmem S2x2880 .f32
  harg24 : arg24.IsWhole

/-- What each of them holds. -/
@[ext] structure St (F : FTy → Type) where
  a1 : S1.Idx → Elt F .i32
  a2 : S1x128x2880.Idx → Elt F .bf16
  a3 : S1x128x2880.Idx → Elt F .bf16
  a4 : S1x128x1440.Idx → Elt F .i8
  a5 : S1x6x2880.Idx → Elt F .f32
  a6 : S1x128x1440.Idx → Elt F .i8
  a7 : S5x384.Idx → Elt F .f32
  a8 : S5x2880.Idx → Elt F .f32
  a9 : S1x128x2880.Idx → Elt F .f32
  a10 : S1x128x1440.Idx → Elt F .i8
  a11 : S1x6x2880.Idx → Elt F .f32
  a12 : S1x128x1440.Idx → Elt F .i8
  a13 : S5x384.Idx → Elt F .f32
  a14 : S5x2880.Idx → Elt F .f32
  a15 : S256x256.Idx → Elt F .bf16
  a16 : S256x128.Idx → Elt F .bf16
  a17 : S8x128.Idx → Elt F .f32
  a18 : S6x128x2880.Idx → Elt F .f32
  a19 : S6x128x128.Idx → Elt F .f32
  a20 : S2x8x2880.Idx → Elt F .f32
  a21 : S2x1x2880.Idx → Elt F .f32
  a22 : S128x128.Idx → Elt F .f32
  a23 : S1x2880.Idx → Elt F .f32
  a24 : S2x2880.Idx → Elt F .f32

/-- All of them held whole at a state. -/
def Pst (c : Dev nD) (A : Mems) (S : St F) : sProp 𝕄 :=
  iprop(owns (c : Thread nD τ) A.arg1 fullShare S.a1 ∗ owns (c : Thread nD τ) A.arg2 fullShare S.a2 ∗ owns (c : Thread nD τ) A.arg3 fullShare S.a3 ∗ owns (c : Thread nD τ) A.arg4 fullShare S.a4 ∗ owns (c : Thread nD τ) A.arg5 fullShare S.a5 ∗ owns (c : Thread nD τ) A.arg6 fullShare S.a6 ∗ owns (c : Thread nD τ) A.arg7 fullShare S.a7 ∗ owns (c : Thread nD τ) A.arg8 fullShare S.a8 ∗ owns (c : Thread nD τ) A.arg9 fullShare S.a9 ∗ owns (c : Thread nD τ) A.arg10 fullShare S.a10 ∗ owns (c : Thread nD τ) A.arg11 fullShare S.a11 ∗ owns (c : Thread nD τ) A.arg12 fullShare S.a12 ∗ owns (c : Thread nD τ) A.arg13 fullShare S.a13 ∗ owns (c : Thread nD τ) A.arg14 fullShare S.a14 ∗ owns (c : Thread nD τ) A.arg15 fullShare S.a15 ∗ owns (c : Thread nD τ) A.arg16 fullShare S.a16 ∗ owns (c : Thread nD τ) A.arg17 fullShare S.a17 ∗ owns (c : Thread nD τ) A.arg18 fullShare S.a18 ∗ owns (c : Thread nD τ) A.arg19 fullShare S.a19 ∗ owns (c : Thread nD τ) A.arg20 fullShare S.a20 ∗ owns (c : Thread nD τ) A.arg21 fullShare S.a21 ∗ owns (c : Thread nD τ) A.arg22 fullShare S.a22 ∗ owns (c : Thread nD τ) A.arg23 fullShare S.a23 ∗ owns (c : Thread nD τ) A.arg24 fullShare S.a24)

theorem cell1 (A : Mems) (c : Dev nD) : Cell (c : Thread nD τ) (Pst (F := F) c A) A.arg1 (fun S => S.a1) (fun S X => { S with a1 := X }) where
  same _ := rfl
  focus S := by
    unfold Pst
    iintro ⟨H1, H2, H3, H4, H5, H6, H7, H8, H9, H10, H11, H12, H13, H14, H15, H16, H17, H18, H19, H20, H21, H22, H23, H24⟩
    isplitl [H1]
    · iexact H1
    iintro %X HX
    isplitl [HX]
    · iexact HX
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [H23]
    · iexact H23
    iexact H24

theorem cell2 (A : Mems) (c : Dev nD) : Cell (c : Thread nD τ) (Pst (F := F) c A) A.arg2 (fun S => S.a2) (fun S X => { S with a2 := X }) where
  same _ := rfl
  focus S := by
    unfold Pst
    iintro ⟨H1, H2, H3, H4, H5, H6, H7, H8, H9, H10, H11, H12, H13, H14, H15, H16, H17, H18, H19, H20, H21, H22, H23, H24⟩
    isplitl [H2]
    · iexact H2
    iintro %X HX
    isplitl [H1]
    · iexact H1
    isplitl [HX]
    · iexact HX
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [H23]
    · iexact H23
    iexact H24

theorem cell3 (A : Mems) (c : Dev nD) : Cell (c : Thread nD τ) (Pst (F := F) c A) A.arg3 (fun S => S.a3) (fun S X => { S with a3 := X }) where
  same _ := rfl
  focus S := by
    unfold Pst
    iintro ⟨H1, H2, H3, H4, H5, H6, H7, H8, H9, H10, H11, H12, H13, H14, H15, H16, H17, H18, H19, H20, H21, H22, H23, H24⟩
    isplitl [H3]
    · iexact H3
    iintro %X HX
    isplitl [H1]
    · iexact H1
    isplitl [H2]
    · iexact H2
    isplitl [HX]
    · iexact HX
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [H23]
    · iexact H23
    iexact H24

theorem cell4 (A : Mems) (c : Dev nD) : Cell (c : Thread nD τ) (Pst (F := F) c A) A.arg4 (fun S => S.a4) (fun S X => { S with a4 := X }) where
  same _ := rfl
  focus S := by
    unfold Pst
    iintro ⟨H1, H2, H3, H4, H5, H6, H7, H8, H9, H10, H11, H12, H13, H14, H15, H16, H17, H18, H19, H20, H21, H22, H23, H24⟩
    isplitl [H4]
    · iexact H4
    iintro %X HX
    isplitl [H1]
    · iexact H1
    isplitl [H2]
    · iexact H2
    isplitl [H3]
    · iexact H3
    isplitl [HX]
    · iexact HX
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [H23]
    · iexact H23
    iexact H24

theorem cell5 (A : Mems) (c : Dev nD) : Cell (c : Thread nD τ) (Pst (F := F) c A) A.arg5 (fun S => S.a5) (fun S X => { S with a5 := X }) where
  same _ := rfl
  focus S := by
    unfold Pst
    iintro ⟨H1, H2, H3, H4, H5, H6, H7, H8, H9, H10, H11, H12, H13, H14, H15, H16, H17, H18, H19, H20, H21, H22, H23, H24⟩
    isplitl [H5]
    · iexact H5
    iintro %X HX
    isplitl [H1]
    · iexact H1
    isplitl [H2]
    · iexact H2
    isplitl [H3]
    · iexact H3
    isplitl [H4]
    · iexact H4
    isplitl [HX]
    · iexact HX
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [H23]
    · iexact H23
    iexact H24

theorem cell6 (A : Mems) (c : Dev nD) : Cell (c : Thread nD τ) (Pst (F := F) c A) A.arg6 (fun S => S.a6) (fun S X => { S with a6 := X }) where
  same _ := rfl
  focus S := by
    unfold Pst
    iintro ⟨H1, H2, H3, H4, H5, H6, H7, H8, H9, H10, H11, H12, H13, H14, H15, H16, H17, H18, H19, H20, H21, H22, H23, H24⟩
    isplitl [H6]
    · iexact H6
    iintro %X HX
    isplitl [H1]
    · iexact H1
    isplitl [H2]
    · iexact H2
    isplitl [H3]
    · iexact H3
    isplitl [H4]
    · iexact H4
    isplitl [H5]
    · iexact H5
    isplitl [HX]
    · iexact HX
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [H23]
    · iexact H23
    iexact H24

theorem cell7 (A : Mems) (c : Dev nD) : Cell (c : Thread nD τ) (Pst (F := F) c A) A.arg7 (fun S => S.a7) (fun S X => { S with a7 := X }) where
  same _ := rfl
  focus S := by
    unfold Pst
    iintro ⟨H1, H2, H3, H4, H5, H6, H7, H8, H9, H10, H11, H12, H13, H14, H15, H16, H17, H18, H19, H20, H21, H22, H23, H24⟩
    isplitl [H7]
    · iexact H7
    iintro %X HX
    isplitl [H1]
    · iexact H1
    isplitl [H2]
    · iexact H2
    isplitl [H3]
    · iexact H3
    isplitl [H4]
    · iexact H4
    isplitl [H5]
    · iexact H5
    isplitl [H6]
    · iexact H6
    isplitl [HX]
    · iexact HX
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [H23]
    · iexact H23
    iexact H24

theorem cell8 (A : Mems) (c : Dev nD) : Cell (c : Thread nD τ) (Pst (F := F) c A) A.arg8 (fun S => S.a8) (fun S X => { S with a8 := X }) where
  same _ := rfl
  focus S := by
    unfold Pst
    iintro ⟨H1, H2, H3, H4, H5, H6, H7, H8, H9, H10, H11, H12, H13, H14, H15, H16, H17, H18, H19, H20, H21, H22, H23, H24⟩
    isplitl [H8]
    · iexact H8
    iintro %X HX
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [HX]
    · iexact HX
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [H23]
    · iexact H23
    iexact H24

theorem cell9 (A : Mems) (c : Dev nD) : Cell (c : Thread nD τ) (Pst (F := F) c A) A.arg9 (fun S => S.a9) (fun S X => { S with a9 := X }) where
  same _ := rfl
  focus S := by
    unfold Pst
    iintro ⟨H1, H2, H3, H4, H5, H6, H7, H8, H9, H10, H11, H12, H13, H14, H15, H16, H17, H18, H19, H20, H21, H22, H23, H24⟩
    isplitl [H9]
    · iexact H9
    iintro %X HX
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [HX]
    · iexact HX
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [H23]
    · iexact H23
    iexact H24

theorem cell10 (A : Mems) (c : Dev nD) : Cell (c : Thread nD τ) (Pst (F := F) c A) A.arg10 (fun S => S.a10) (fun S X => { S with a10 := X }) where
  same _ := rfl
  focus S := by
    unfold Pst
    iintro ⟨H1, H2, H3, H4, H5, H6, H7, H8, H9, H10, H11, H12, H13, H14, H15, H16, H17, H18, H19, H20, H21, H22, H23, H24⟩
    isplitl [H10]
    · iexact H10
    iintro %X HX
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [HX]
    · iexact HX
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [H23]
    · iexact H23
    iexact H24

theorem cell11 (A : Mems) (c : Dev nD) : Cell (c : Thread nD τ) (Pst (F := F) c A) A.arg11 (fun S => S.a11) (fun S X => { S with a11 := X }) where
  same _ := rfl
  focus S := by
    unfold Pst
    iintro ⟨H1, H2, H3, H4, H5, H6, H7, H8, H9, H10, H11, H12, H13, H14, H15, H16, H17, H18, H19, H20, H21, H22, H23, H24⟩
    isplitl [H11]
    · iexact H11
    iintro %X HX
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [HX]
    · iexact HX
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [H23]
    · iexact H23
    iexact H24

theorem cell12 (A : Mems) (c : Dev nD) : Cell (c : Thread nD τ) (Pst (F := F) c A) A.arg12 (fun S => S.a12) (fun S X => { S with a12 := X }) where
  same _ := rfl
  focus S := by
    unfold Pst
    iintro ⟨H1, H2, H3, H4, H5, H6, H7, H8, H9, H10, H11, H12, H13, H14, H15, H16, H17, H18, H19, H20, H21, H22, H23, H24⟩
    isplitl [H12]
    · iexact H12
    iintro %X HX
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [HX]
    · iexact HX
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [H23]
    · iexact H23
    iexact H24

theorem cell13 (A : Mems) (c : Dev nD) : Cell (c : Thread nD τ) (Pst (F := F) c A) A.arg13 (fun S => S.a13) (fun S X => { S with a13 := X }) where
  same _ := rfl
  focus S := by
    unfold Pst
    iintro ⟨H1, H2, H3, H4, H5, H6, H7, H8, H9, H10, H11, H12, H13, H14, H15, H16, H17, H18, H19, H20, H21, H22, H23, H24⟩
    isplitl [H13]
    · iexact H13
    iintro %X HX
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [HX]
    · iexact HX
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [H23]
    · iexact H23
    iexact H24

theorem cell14 (A : Mems) (c : Dev nD) : Cell (c : Thread nD τ) (Pst (F := F) c A) A.arg14 (fun S => S.a14) (fun S X => { S with a14 := X }) where
  same _ := rfl
  focus S := by
    unfold Pst
    iintro ⟨H1, H2, H3, H4, H5, H6, H7, H8, H9, H10, H11, H12, H13, H14, H15, H16, H17, H18, H19, H20, H21, H22, H23, H24⟩
    isplitl [H14]
    · iexact H14
    iintro %X HX
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [HX]
    · iexact HX
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [H23]
    · iexact H23
    iexact H24

theorem cell15 (A : Mems) (c : Dev nD) : Cell (c : Thread nD τ) (Pst (F := F) c A) A.arg15 (fun S => S.a15) (fun S X => { S with a15 := X }) where
  same _ := rfl
  focus S := by
    unfold Pst
    iintro ⟨H1, H2, H3, H4, H5, H6, H7, H8, H9, H10, H11, H12, H13, H14, H15, H16, H17, H18, H19, H20, H21, H22, H23, H24⟩
    isplitl [H15]
    · iexact H15
    iintro %X HX
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [HX]
    · iexact HX
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [H23]
    · iexact H23
    iexact H24

theorem cell16 (A : Mems) (c : Dev nD) : Cell (c : Thread nD τ) (Pst (F := F) c A) A.arg16 (fun S => S.a16) (fun S X => { S with a16 := X }) where
  same _ := rfl
  focus S := by
    unfold Pst
    iintro ⟨H1, H2, H3, H4, H5, H6, H7, H8, H9, H10, H11, H12, H13, H14, H15, H16, H17, H18, H19, H20, H21, H22, H23, H24⟩
    isplitl [H16]
    · iexact H16
    iintro %X HX
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [HX]
    · iexact HX
    isplitl [H17]
    · iexact H17
    isplitl [H18]
    · iexact H18
    isplitl [H19]
    · iexact H19
    isplitl [H20]
    · iexact H20
    isplitl [H21]
    · iexact H21
    isplitl [H22]
    · iexact H22
    isplitl [H23]
    · iexact H23
    iexact H24

theorem cell17 (A : Mems) (c : Dev nD) : Cell (c : Thread nD τ) (Pst (F := F) c A) A.arg17 (fun S => S.a17) (fun S X => { S with a17 := X }) where
  same _ := rfl
  focus S := by
    unfold Pst
    iintro ⟨H1, H2, H3, H4, H5, H6, H7, H8, H9, H10, H11, H12, H13, H14, H15, H16, H17, H18, H19, H20, H21, H22, H23, H24⟩
    isplitl [H17]
    · iexact H17
    iintro %X HX
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [HX]
    · iexact HX
    isplitl [H18]
    · iexact H18
    isplitl [H19]
    · iexact H19
    isplitl [H20]
    · iexact H20
    isplitl [H21]
    · iexact H21
    isplitl [H22]
    · iexact H22
    isplitl [H23]
    · iexact H23
    iexact H24

theorem cell18 (A : Mems) (c : Dev nD) : Cell (c : Thread nD τ) (Pst (F := F) c A) A.arg18 (fun S => S.a18) (fun S X => { S with a18 := X }) where
  same _ := rfl
  focus S := by
    unfold Pst
    iintro ⟨H1, H2, H3, H4, H5, H6, H7, H8, H9, H10, H11, H12, H13, H14, H15, H16, H17, H18, H19, H20, H21, H22, H23, H24⟩
    isplitl [H18]
    · iexact H18
    iintro %X HX
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [HX]
    · iexact HX
    isplitl [H19]
    · iexact H19
    isplitl [H20]
    · iexact H20
    isplitl [H21]
    · iexact H21
    isplitl [H22]
    · iexact H22
    isplitl [H23]
    · iexact H23
    iexact H24

theorem cell19 (A : Mems) (c : Dev nD) : Cell (c : Thread nD τ) (Pst (F := F) c A) A.arg19 (fun S => S.a19) (fun S X => { S with a19 := X }) where
  same _ := rfl
  focus S := by
    unfold Pst
    iintro ⟨H1, H2, H3, H4, H5, H6, H7, H8, H9, H10, H11, H12, H13, H14, H15, H16, H17, H18, H19, H20, H21, H22, H23, H24⟩
    isplitl [H19]
    · iexact H19
    iintro %X HX
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [HX]
    · iexact HX
    isplitl [H20]
    · iexact H20
    isplitl [H21]
    · iexact H21
    isplitl [H22]
    · iexact H22
    isplitl [H23]
    · iexact H23
    iexact H24

theorem cell20 (A : Mems) (c : Dev nD) : Cell (c : Thread nD τ) (Pst (F := F) c A) A.arg20 (fun S => S.a20) (fun S X => { S with a20 := X }) where
  same _ := rfl
  focus S := by
    unfold Pst
    iintro ⟨H1, H2, H3, H4, H5, H6, H7, H8, H9, H10, H11, H12, H13, H14, H15, H16, H17, H18, H19, H20, H21, H22, H23, H24⟩
    isplitl [H20]
    · iexact H20
    iintro %X HX
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [HX]
    · iexact HX
    isplitl [H21]
    · iexact H21
    isplitl [H22]
    · iexact H22
    isplitl [H23]
    · iexact H23
    iexact H24

theorem cell21 (A : Mems) (c : Dev nD) : Cell (c : Thread nD τ) (Pst (F := F) c A) A.arg21 (fun S => S.a21) (fun S X => { S with a21 := X }) where
  same _ := rfl
  focus S := by
    unfold Pst
    iintro ⟨H1, H2, H3, H4, H5, H6, H7, H8, H9, H10, H11, H12, H13, H14, H15, H16, H17, H18, H19, H20, H21, H22, H23, H24⟩
    isplitl [H21]
    · iexact H21
    iintro %X HX
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [HX]
    · iexact HX
    isplitl [H22]
    · iexact H22
    isplitl [H23]
    · iexact H23
    iexact H24

theorem cell22 (A : Mems) (c : Dev nD) : Cell (c : Thread nD τ) (Pst (F := F) c A) A.arg22 (fun S => S.a22) (fun S X => { S with a22 := X }) where
  same _ := rfl
  focus S := by
    unfold Pst
    iintro ⟨H1, H2, H3, H4, H5, H6, H7, H8, H9, H10, H11, H12, H13, H14, H15, H16, H17, H18, H19, H20, H21, H22, H23, H24⟩
    isplitl [H22]
    · iexact H22
    iintro %X HX
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [HX]
    · iexact HX
    isplitl [H23]
    · iexact H23
    iexact H24

theorem cell23 (A : Mems) (c : Dev nD) : Cell (c : Thread nD τ) (Pst (F := F) c A) A.arg23 (fun S => S.a23) (fun S X => { S with a23 := X }) where
  same _ := rfl
  focus S := by
    unfold Pst
    iintro ⟨H1, H2, H3, H4, H5, H6, H7, H8, H9, H10, H11, H12, H13, H14, H15, H16, H17, H18, H19, H20, H21, H22, H23, H24⟩
    isplitl [H23]
    · iexact H23
    iintro %X HX
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [HX]
    · iexact HX
    iexact H24

theorem cell24 (A : Mems) (c : Dev nD) : Cell (c : Thread nD τ) (Pst (F := F) c A) A.arg24 (fun S => S.a24) (fun S X => { S with a24 := X }) where
  same _ := rfl
  focus S := by
    unfold Pst
    iintro ⟨H1, H2, H3, H4, H5, H6, H7, H8, H9, H10, H11, H12, H13, H14, H15, H16, H17, H18, H19, H20, H21, H22, H23, H24⟩
    isplitl [H24]
    · iexact H24
    iintro %X HX
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [H23]
    · iexact H23
    iexact HX

/-! ### Rectangles inside their buffers -/

theorem inb2 {X Y x y a b : ℕ} (h₀ : a + x ≤ X) (h₁ : b + y ≤ Y) : ∀ k : Fin 2, (![a, b] : Fin 2 → ℕ) k + (![x, y] : Fin 2 → ℕ) k ≤ (![X, Y] : Fin 2 → ℕ) k := by
  intro k; fin_cases k
  · exact h₀
  · exact h₁

theorem inb3 {X Y Z x y z a b d : ℕ} (h₀ : a + x ≤ X) (h₁ : b + y ≤ Y) (h₂ : d + z ≤ Z) :
    ∀ k : Fin 3, (![a, b, d] : Fin 3 → ℕ) k + (![x, y, z] : Fin 3 → ℕ) k ≤ (![X, Y, Z] : Fin 3 → ℕ) k := by
  intro k; fin_cases k
  · exact h₀
  · exact h₁
  · exact h₂

theorem inbB {mb j : ℕ} (hmb : mb < 2) (hj : j < 11) : ∀ a, (![0, 64 * mb, 256 * j] : Fin 3 → ℕ) a + S1x64x256.size a ≤ S1x128x2880.size a :=
  inb3 (by omega) (by omega) (by omega)

theorem inbBl {mb : ℕ} (hmb : mb < 2) : ∀ a, (![0, 64 * mb, 2816] : Fin 3 → ℕ) a + S1x64x64.size a ≤ S1x128x2880.size a :=
  inb3 (by omega) (by omega) (by omega)

theorem inbC {mb j : ℕ} (hmb : mb < 2) (hj : j < 11) : ∀ a, (![0, 64 * mb, 128 * j] : Fin 3 → ℕ) a + S1x64x128.size a ≤ S1x128x1440.size a :=
  inb3 (by omega) (by omega) (by omega)

theorem inbCl {mb : ℕ} (hmb : mb < 2) : ∀ a, (![0, 64 * mb, 1408] : Fin 3 → ℕ) a + S1x64x32.size a ≤ S1x128x1440.size a :=
  inb3 (by omega) (by omega) (by omega)

theorem inbS0 {j : ℕ} (hj : j < 11) : ∀ a, (![0, 256 * j] : Fin 2 → ℕ) a + S1x256.size a ≤ S2x2880.size a :=
  inb2 (by omega) (by omega)

theorem inbS1 {j : ℕ} (hj : j < 11) : ∀ a, (![1, 256 * j] : Fin 2 → ℕ) a + S1x256.size a ≤ S2x2880.size a :=
  inb2 (by omega) (by omega)

theorem inbN {j : ℕ} (hj : j < 11) : ∀ a, (![0, 256 * j] : Fin 2 → ℕ) a + S1x256.size a ≤ S1x2880.size a :=
  inb2 (by omega) (by omega)

theorem inbR {mb : ℕ} (hmb : mb < 2) : ∀ a, (![64 * mb, 0] : Fin 2 → ℕ) a + S64x128.size a ≤ S128x128.size a :=
  inb2 (by omega) (by omega)

theorem inbV {vs mb j : ℕ} (hvs : vs < 6) (hmb : mb < 2) (hj : j < 11) : ∀ a, (![vs, 64 * mb, 256 * j] : Fin 3 → ℕ) a + S1x64x256.size a ≤ S6x128x2880.size a :=
  inb3 (by omega) (by omega) (by omega)

theorem inbVl {vs mb : ℕ} (hvs : vs < 6) (hmb : mb < 2) : ∀ a, (![vs, 64 * mb, 2816] : Fin 3 → ℕ) a + S1x64x64.size a ≤ S6x128x2880.size a :=
  inb3 (by omega) (by omega) (by omega)

theorem inbI {vs mb : ℕ} (hvs : vs < 6) (hmb : mb < 2) : ∀ a, (![vs, 64 * mb, 0] : Fin 3 → ℕ) a + S1x64x128.size a ≤ S6x128x128.size a :=
  inb3 (by omega) (by omega) (by omega)

theorem inbM {cp j : ℕ} (hcp : cp < 2) (hj : j < 11) : ∀ a, (![cp, 0, 256 * j] : Fin 3 → ℕ) a + S1x8x256.size a ≤ S2x8x2880.size a :=
  inb3 (by omega) (by omega) (by omega)

theorem inbMl {cp : ℕ} (hcp : cp < 2) : ∀ a, (![cp, 0, 2816] : Fin 3 → ℕ) a + S1x8x64.size a ≤ S2x8x2880.size a :=
  inb3 (by omega) (by omega) (by omega)

theorem inbMw {cp : ℕ} (hcp : cp < 2) : ∀ a, (![cp, 0, 0] : Fin 3 → ℕ) a + S1x8x2880.size a ≤ S2x8x2880.size a :=
  inb3 (by omega) (by omega) (by omega)

theorem inbK {cp j : ℕ} (hcp : cp < 2) (hj : j < 11) : ∀ a, (![cp, 0, 256 * j] : Fin 3 → ℕ) a + S1x1x256.size a ≤ S2x1x2880.size a :=
  inb3 (by omega) (by omega) (by omega)

theorem inbKl {cp : ℕ} (hcp : cp < 2) : ∀ a, (![cp, 0, 2816] : Fin 3 → ℕ) a + S1x1x64.size a ≤ S2x1x2880.size a :=
  inb3 (by omega) (by omega) (by omega)

theorem inbKw {cp : ℕ} (hcp : cp < 2) : ∀ a, (![cp, 0, 0] : Fin 3 → ℕ) a + S1x1x2880.size a ≤ S2x1x2880.size a :=
  inb3 (by omega) (by omega) (by omega)

theorem inbL {ls : ℕ} (hls : ls + 128 ≤ 384) : ∀ a, (![0, ls] : Fin 2 → ℕ) a + S5x128.size a ≤ S5x384.size a :=
  inb2 (by omega) (by omega)

/-- A block of whole packed words: 64 rows from a multiple of 64. -/
theorem packedC {mb j : ℕ} (hmb : mb < 2) (hj : j < 11) : (Rect.unit (s := S1x128x1440) ![0, 64 * mb, 128 * j] S1x64x128.size (inbC hmb hj)).PackedRows (EltTy.packing .i8) := by
  interval_cases mb <;> interval_cases j <;> decide +revert

theorem packedCl {mb : ℕ} (hmb : mb < 2) : (Rect.unit (s := S1x128x1440) ![0, 64 * mb, 1408] S1x64x32.size (inbCl hmb)).PackedRows (EltTy.packing .i8) := by
  interval_cases mb <;> decide +revert

end Cert.KernelIdeal.Body

end

end
-- ==== Proof.IPieces.lean ====
/-
  The pieces of the kernel body that happen once at a point: the first point's setup (`init`), a new expert's column
  maximum (`start`), the row maxima (`pre`), the scales of a block of 64 rows (`head`, `tail`), the row maxima written
  (`vro`) and a finished expert's column maxima (`finish`). Each piece as a program, as a function of the state, and the
  proof that the one runs as the other. The payload of every store is a definition of its own.
-/
module

public import proofs.«01_k».proof.Proof.Gen.KernelIdeal.Frame
public import proofs.«01_k».proof.Proof.Runs
public import proofs.«01_k».proof.Proof.IMach
@[expose] public section

set_option maxRecDepth 16384

noncomputable section

namespace Cert.KernelIdeal.Body

open Cert.KernelIdeal Cert.KernelIdeal.Gen Cert.Proof
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ### The first point -/

def initA (v76 : Elt F .i32) : FVec F S8x128 .f32 :=
  let cst_30 : F .f32 := Scalar.ofBits .f32 0x3F800000#32
  let v81 : FVec F S8x128 .f32 := broadcast S8x128 cst_30
  let cst_29 : F .f32 := Scalar.ofBits .f32 0x3F666666#32
  let v79 : FVec F S8x128 .f32 := broadcast S8x128 cst_29
  let v77 : IVec S8x128 32 := broadcast S8x128 v76
  let v78 : FVec F S8x128 .f32 := sitofp .f32 v77
  let v80 : FVec F S8x128 .f32 := powf v79 v78
  let v82 : FVec F S8x128 .f32 := subf v81 v80
  let cst_33 : F .f32 := Named.named κ "inv_lr_tenth" 0x47023555#32
  let v87 : FVec F S8x128 .f32 := broadcast S8x128 cst_33
  mulf v82 v87

def initQ  : FVec F S256x256 .bf16 :=
  let v37 : IVec S256x256 32 := iota .tc S256x256 32 [1] iota_S256x256_d1_w32
  let v36 : IVec S256x256 32 := iota .tc S256x256 32 [0] iota_S256x256_d0_w32
  let c128_i32 : BitVec 32 := 128#32
  let v38 : IVec S256x256 32 := broadcast S256x256 c128_i32
  let v39 : IVec S256x256 1 := cmpi .slt v36 v38
  let c2_i32 : BitVec 32 := 2#32
  let v40 : IVec S256x256 32 := broadcast S256x256 c2_i32
  let v41 : IVec S256x256 32 := muli v40 v36
  let c2_i32_16 : BitVec 32 := 2#32
  let v44 : IVec S256x256 32 := broadcast S256x256 c2_i32_16
  let c128_i32_15 : BitVec 32 := 128#32
  let v42 : IVec S256x256 32 := broadcast S256x256 c128_i32_15
  let v43 : IVec S256x256 32 := subi v36 v42
  let v45 : IVec S256x256 32 := muli v44 v43
  let c1_i32_17 : BitVec 32 := 1#32
  let v46 : IVec S256x256 32 := broadcast S256x256 c1_i32_17
  let v47 : IVec S256x256 32 := addi v45 v46
  let v48 : IVec S256x256 32 := select v39 v41 v47
  let v49 : IVec S256x256 1 := cmpi .eq v37 v48
  let cst : F .f32 := Scalar.ofBits .f32 0x3D800000#32
  let v50 : FVec F S256x256 .f32 := broadcast S256x256 cst
  let cst_18 : F .f32 := Scalar.ofBits .f32 0x00000000#32
  let v51 : FVec F S256x256 .f32 := broadcast S256x256 cst_18
  let v52 : FVec F S256x256 .f32 := select v49 v50 v51
  let v53 : FVec F S256x256 .bf16 := truncf .bf16 v52 bitsLt_bf16_f32
  shapeCast S256x256 v53 shapeCasts_S256x256_S256x256

def initP  : FVec F S256x128 .bf16 :=
  let v58 : IVec S256x128 32 := iota .tc S256x128 32 [0] iota_S256x128_d0_w32
  let c2_i32_20 : BitVec 32 := 2#32
  let v59 : IVec S256x128 32 := broadcast S256x128 c2_i32_20
  let v57 : IVec S256x128 32 := iota .tc S256x128 32 [1] iota_S256x128_d1_w32
  let v60 : IVec S256x128 32 := muli v59 v57
  let v61 : IVec S256x128 1 := cmpi .eq v58 v60
  let cst_25 : F .f32 := Scalar.ofBits .f32 0x3F800000#32
  let v70 : FVec F S256x128 .f32 := broadcast S256x128 cst_25
  let c2_i32_21 : BitVec 32 := 2#32
  let v62 : IVec S256x128 32 := broadcast S256x128 c2_i32_21
  let v63 : IVec S256x128 32 := muli v62 v57
  let c1_i32_22 : BitVec 32 := 1#32
  let v64 : IVec S256x128 32 := broadcast S256x128 c1_i32_22
  let v65 : IVec S256x128 32 := addi v63 v64
  let v66 : IVec S256x128 1 := cmpi .eq v58 v65
  let cst_23 : F .f32 := Scalar.ofBits .f32 0x41800000#32
  let v67 : FVec F S256x128 .f32 := broadcast S256x128 cst_23
  let cst_24 : F .f32 := Scalar.ofBits .f32 0x00000000#32
  let v68 : FVec F S256x128 .f32 := broadcast S256x128 cst_24
  let v69 : FVec F S256x128 .f32 := select v66 v67 v68
  let v71 : FVec F S256x128 .f32 := select v61 v70 v69
  let v72 : FVec F S256x128 .bf16 := truncf .bf16 v71 bitsLt_bf16_f32
  shapeCast S256x128 v72 shapeCasts_S256x128_S256x128

def initK1 (v76 : Elt F .i32) (v88 : FVec F S8x128 .f32) : FVec F S1x128 .f32 :=
  let cst_34 : F .f32 := Named.named κ "thousandth" 0x3A83126F#32
  let v89 : FVec F S8x128 .f32 := broadcast S8x128 cst_34
  let cst_32 : F .f32 := Scalar.ofBits .f32 0x3F800000#32
  let v85 : FVec F S8x128 .f32 := broadcast S8x128 cst_32
  let cst_31 : F .f32 := Scalar.ofBits .f32 0x3F7FBE77#32
  let v83 : FVec F S8x128 .f32 := broadcast S8x128 cst_31
  let v77 : IVec S8x128 32 := broadcast S8x128 v76
  let v78 : FVec F S8x128 .f32 := sitofp .f32 v77
  let v84 : FVec F S8x128 .f32 := powf v83 v78
  let v86 : FVec F S8x128 .f32 := subf v85 v84
  let v90 : FVec F S8x128 .f32 := divf v89 v86
  let v91 : FVec F S8x128 .f32 := sqrt v90
  let v92 : FVec F S8x128 .f32 := mulf v91 v88
  let v93 : FVec F S1x128 .f32 := extractStridedSlice S1x128 ![0, 0] v92 slices_S8x128_o0_0_S1x128
  shapeCast S1x128 v93 shapeCasts_S1x128_S1x128

def initK2 (v88 : FVec F S8x128 .f32) : FVec F S1x128 .f32 :=
  let cst_37 : F .f32 := Named.named κ "eps" 0x322BCC77#32
  let v97 : FVec F S8x128 .f32 := broadcast S8x128 cst_37
  let v98 : FVec F S8x128 .f32 := mulf v97 v88
  let v99 : FVec F S1x128 .f32 := extractStridedSlice S1x128 ![0, 0] v98 slices_S8x128_o0_0_S1x128
  shapeCast S1x128 v99 shapeCasts_S1x128_S1x128

def initRo  : FVec F S5x384 .f32 :=
  let cst_39 : F .f32 := Scalar.ofBits .f32 0x00000000#32
  broadcast S5x384 cst_39

def initCo  : FVec F S5x2880 .f32 :=
  let cst_42 : F .f32 := Scalar.ofBits .f32 0x00000000#32
  broadcast S5x2880 cst_42

def init (A : Mems)   : Prog (TpuEff nD τ sig (Elt F) Λ₀ .tc) (PUnit) := do
  let _v54 : Vec F S256x256 .bf16 ← Prog.lift (.load A.arg15 (Rect.unit (s := S256x256) ![0, 0] S256x256.size inb_S256x256_S256x256_0_0).toLoadRect (View.loadsAt_vmem h_S256x256))
  Prog.lift (.store A.arg15 (Rect.unit (s := S256x256) ![0, 0] S256x256.size inb_S256x256_S256x256_0_0) (initQ ) Finset.univ (View.stores_vmem h_S256x256 (A.harg15.storeExact_slice rfl _ packedbf16_S256x256_S256x256_0_0) (fun _ => rfl)) (.inl rfl))
  let _v73 : Vec F S256x128 .bf16 ← Prog.lift (.load A.arg16 (Rect.unit (s := S256x128) ![0, 0] S256x128.size inb_S256x128_S256x128_0_0).toLoadRect (View.loadsAt_vmem h_S256x128))
  Prog.lift (.store A.arg16 (Rect.unit (s := S256x128) ![0, 0] S256x128.size inb_S256x128_S256x128_0_0) (initP ) Finset.univ (View.stores_vmem h_S256x128 (A.harg16.storeExact_slice rfl _ packedbf16_S256x128_S256x128_0_0) (fun _ => rfl)) (.inl rfl))
  let v76 : Elt F .i32 ← smemLoad A.arg1 (Rect.unit (s := S1) ![0] S1.size inb_S1_S1_0) numel1_S1 rfl
  let v88 : FVec F S8x128 .f32 := initA v76
  let _v94 : Vec F S1x128 .f32 ← Prog.lift (.load A.arg17 (Rect.unit (s := S8x128) ![0, 0] S1x128.size inb_S8x128_S1x128_0_0).toLoadRect (View.loadsAt_vmem h_S1x128))
  Prog.lift (.store A.arg17 (Rect.unit (s := S8x128) ![0, 0] S1x128.size inb_S8x128_S1x128_0_0) (initK1 v76 v88) Finset.univ (View.stores_vmem_bits_univ h_S1x128 rfl) (.inl rfl))
  let _v100 : Vec F S1x128 .f32 ← Prog.lift (.load A.arg17 (Rect.unit (s := S8x128) ![1, 0] S1x128.size inb_S8x128_S1x128_1_0).toLoadRect (View.loadsAt_vmem h_S1x128))
  Prog.lift (.store A.arg17 (Rect.unit (s := S8x128) ![1, 0] S1x128.size inb_S8x128_S1x128_1_0) (initK2 v88) Finset.univ (View.stores_vmem_bits_univ h_S1x128 rfl) (.inl rfl))
  let _v104 : Vec F S5x384 .f32 ← Prog.lift (.load A.arg13 (Rect.unit (s := S5x384) ![0, 0] S5x384.size inb_S5x384_S5x384_0_0).toLoadRect (View.loadsAt_vmem h_S5x384))
  Prog.lift (.store A.arg13 (Rect.unit (s := S5x384) ![0, 0] S5x384.size inb_S5x384_S5x384_0_0) (initRo ) Finset.univ (View.stores_vmem_bits_univ h_S5x384 rfl) (.inl rfl))
  let _v106 : Vec F S5x2880 .f32 ← Prog.lift (.load A.arg14 (Rect.unit (s := S5x2880) ![0, 0] S5x2880.size inb_S5x2880_S5x2880_0_0).toLoadRect (View.loadsAt_vmem h_S5x2880))
  Prog.lift (.store A.arg14 (Rect.unit (s := S5x2880) ![0, 0] S5x2880.size inb_S5x2880_S5x2880_0_0) (initCo ) Finset.univ (View.stores_vmem_bits_univ h_S5x2880 rfl) (.inl rfl))
  pure ⟨⟩

def initS   (S : St F) : St F :=
  let S : St F := { S with a15 := VecWindow.put (s := S256x256) S.a15 ![0, 0] S256x256.size (initQ ) }
  let S : St F := { S with a16 := VecWindow.put (s := S256x128) S.a16 ![0, 0] S256x128.size (initP ) }
  let v76 : Elt F .i32 := VecWindow.window (s := S1) S.a1 ![0] S1.size inb_S1_S1_0 (Shape.Idx.first (numel1_S1.symm ▸ Nat.one_pos))
  let v88 : FVec F S8x128 .f32 := initA v76
  let S : St F := { S with a17 := VecWindow.put (s := S8x128) S.a17 ![0, 0] S1x128.size (initK1 v76 v88) }
  let S : St F := { S with a17 := VecWindow.put (s := S8x128) S.a17 ![1, 0] S1x128.size (initK2 v88) }
  let S : St F := { S with a13 := VecWindow.put (s := S5x384) S.a13 ![0, 0] S5x384.size (initRo ) }
  let S : St F := { S with a14 := VecWindow.put (s := S5x2880) S.a14 ![0, 0] S5x2880.size (initCo ) }
  S

theorem init_runs (c : Dev nD) (A : Mems)   (S : St F) :
    Runs defs₀ Variants.none (c : Thread nD τ) (Pst c A) (init A ) S (initS  S) ⟨⟩ := by
  unfold init
  refine Runs.load (cell15 A c) ?_
  refine Runs.store (cell15 A c) ?_
  refine Runs.load (cell16 A c) ?_
  refine Runs.store (cell16 A c) ?_
  refine Runs.load (cell1 A c) ?_
  refine Runs.load (cell17 A c) ?_
  refine Runs.store (cell17 A c) ?_
  refine Runs.load (cell17 A c) ?_
  refine Runs.store (cell17 A c) ?_
  refine Runs.load (cell13 A c) ?_
  refine Runs.store (cell13 A c) ?_
  refine Runs.load (cell14 A c) ?_
  refine Runs.store (cell14 A c) ?_
  exact Runs.ret _ _

/-! ### A new expert -/

def startCn (v3943 : Vec F S5x2880 .f32) (v16 : BitVec 32) : FVec F S1x2880 .f32 :=
  let v3944 : IVec S5x2880 32 := iota .tc S5x2880 32 [0] iota_S5x2880_d0_w32
  let v3945 : IVec S5x2880 32 := broadcast S5x2880 v16
  let v3946 : IVec S5x2880 1 := cmpi .eq v3944 v3945
  let cst_1985 : F .f32 := Scalar.ofBits .f32 0x00000000#32
  let v3947 : FVec F S5x2880 .f32 := broadcast S5x2880 cst_1985
  let v3948 : Vec F S5x2880 .f32 := select v3946 v3943 v3947
  let v3949 : FVec F S2880 .f32 := multiReduction .add [0] S2880 v3948 0x00000000#32 reduces_S5x2880_S2880 (.inl rfl) rfl
  let v3950 : FVec F S1x2880 .f32 := shapeCast S1x2880 v3949 shapeCasts_S2880_S1x2880
  let cst_1987 : F .f32 := Scalar.ofBits .f32 0x4479C000#32
  let v3951 : FVec F S1x2880 .f32 := broadcast S1x2880 cst_1987
  let v3952 : FVec F S1x2880 .f32 := mulf v3950 v3951
  let cst_1988 : F .f32 := Scalar.ofBits .f32 0x02800000#32
  let v3953 : FVec F S1x2880 .f32 := broadcast S1x2880 cst_1988
  let v3954 : FVec F S1x2880 .f32 := maximumf v3952 v3953
  shapeCast S1x2880 v3954 shapeCasts_S1x2880_S1x2880

def startMax  : FVec F S1x8x2880 .f32 :=
  let cst_1991 : F .f32 := Scalar.ofBits .f32 0x00000000#32
  let v3958 : FVec F S1x8x2880 .f32 := broadcast S1x8x2880 cst_1991
  shapeCast S1x8x2880 v3958 shapeCasts_S1x8x2880_S1x8x2880

def startSc  : FVec F S1x6x2880 .f32 :=
  let cst_2000 : F .f32 := Scalar.ofBits .f32 0x00000000#32
  let v3973 : FVec F S6x2880 .f32 := broadcast S6x2880 cst_2000
  shapeCast S1x6x2880 v3973 shapeCasts_S6x2880_S1x6x2880

def start (A : Mems) (cp : ℕ) (hcp : cp < 2) (v16 : BitVec 32) : Prog (TpuEff nD τ sig (Elt F) Λ₀ .tc) (PUnit) := do
  let v3943 : Vec F S5x2880 .f32 ← Prog.lift (.load A.arg8 (Rect.unit (s := S5x2880) ![0, 0] S5x2880.size inb_S5x2880_S5x2880_0_0).toLoadRect (View.loadsAt_vmem h_S5x2880))
  let _v3955 : Vec F S1x2880 .f32 ← Prog.lift (.load A.arg23 (Rect.unit (s := S1x2880) ![0, 0] S1x2880.size inb_S1x2880_S1x2880_0_0).toLoadRect (View.loadsAt_vmem h_S1x2880))
  Prog.lift (.store A.arg23 (Rect.unit (s := S1x2880) ![0, 0] S1x2880.size inb_S1x2880_S1x2880_0_0) (startCn v3943 v16) Finset.univ (View.stores_vmem_bits_univ h_S1x2880 rfl) (.inl rfl))
  let _v3970 : Vec F S1x8x2880 .f32 ← Prog.lift (.load A.arg20 (Rect.unit (s := S2x8x2880) ![cp, 0, 0] S1x8x2880.size (inbMw hcp)).toLoadRect (View.loadsAt_vmem h_S1x8x2880))
  Prog.lift (.store A.arg20 (Rect.unit (s := S2x8x2880) ![cp, 0, 0] S1x8x2880.size (inbMw hcp)) (startMax ) Finset.univ (View.stores_vmem_bits_univ h_S1x8x2880 rfl) (.inl rfl))
  let _v3974 : Vec F S1x6x2880 .f32 ← Prog.lift (.load A.arg11 (Rect.unit (s := S1x6x2880) ![0, 0, 0] S1x6x2880.size inb_S1x6x2880_S1x6x2880_0_0_0).toLoadRect (View.loadsAt_vmem h_S1x6x2880))
  Prog.lift (.store A.arg11 (Rect.unit (s := S1x6x2880) ![0, 0, 0] S1x6x2880.size inb_S1x6x2880_S1x6x2880_0_0_0) (startSc ) Finset.univ (View.stores_vmem_bits_univ h_S1x6x2880 rfl) (.inl rfl))
  pure ⟨⟩

def startS (cp : ℕ) (hcp : cp < 2) (v16 : BitVec 32) (S : St F) : St F :=
  let v3943 : Vec F S5x2880 .f32 := VecWindow.window (s := S5x2880) S.a8 ![0, 0] S5x2880.size inb_S5x2880_S5x2880_0_0
  let S : St F := { S with a23 := VecWindow.put (s := S1x2880) S.a23 ![0, 0] S1x2880.size (startCn v3943 v16) }
  let S : St F := { S with a20 := VecWindow.put (s := S2x8x2880) S.a20 ![cp, 0, 0] S1x8x2880.size (startMax ) }
  let S : St F := { S with a11 := VecWindow.put (s := S1x6x2880) S.a11 ![0, 0, 0] S1x6x2880.size (startSc ) }
  S

theorem start_runs (c : Dev nD) (A : Mems) (cp : ℕ) (hcp : cp < 2) (v16 : BitVec 32) (S : St F) :
    Runs defs₀ Variants.none (c : Thread nD τ) (Pst c A) (start A cp hcp v16) S (startS cp hcp v16 S) ⟨⟩ := by
  unfold start
  refine Runs.load (cell8 A c) ?_
  refine Runs.load (cell23 A c) ?_
  refine Runs.store (cell23 A c) ?_
  refine Runs.load (cell20 A c) ?_
  refine Runs.store (cell20 A c) ?_
  refine Runs.load (cell11 A c) ?_
  refine Runs.store (cell11 A c) ?_
  exact Runs.ret _ _

/-! ### The row maxima -/

def preRn (v42 : Vec F S5x128 .f32) (v16 : BitVec 32) : FVec F S128x128 .f32 :=
  let v43 : IVec S5x128 32 := iota .tc S5x128 32 [0] iota_S5x128_d0_w32
  let v44 : IVec S5x128 32 := broadcast S5x128 v16
  let v45 : IVec S5x128 1 := cmpi .eq v43 v44
  let cst : F .f32 := Scalar.ofBits .f32 0x00000000#32
  let v46 : FVec F S5x128 .f32 := broadcast S5x128 cst
  let v47 : Vec F S5x128 .f32 := select v45 v42 v46
  let v48 : FVec F S128 .f32 := multiReduction .add [0] S128 v47 0x00000000#32 reduces_S5x128_S128 (.inl rfl) rfl
  let v49 : FVec F S1x128 .f32 := shapeCast S1x128 v48 shapeCasts_S128_S1x128
  let cst_18 : F .f32 := Scalar.ofBits .f32 0x4479C000#32
  let v50 : FVec F S1x128 .f32 := broadcast S1x128 cst_18
  let v51 : FVec F S1x128 .f32 := mulf v49 v50
  let cst_19 : F .f32 := Scalar.ofBits .f32 0x02800000#32
  let v52 : FVec F S1x128 .f32 := broadcast S1x128 cst_19
  let v53 : FVec F S1x128 .f32 := maximumf v51 v52
  let v54 : FVec F S1x128 .f32 := shapeCast S1x128 v53 shapeCasts_S1x128_S1x128
  let v55 : FVec F S128x128 .f32 := broadcastTo S128x128 v54 broadcasts_S1x128_S128x128
  let v56 : FVec F S128x128 .f32 := transpose S128x128 [1, 0] v55 transposes_S128x128_p1_0_S128x128
  shapeCast S128x128 v56 shapeCasts_S128x128_S128x128

def pre (A : Mems) (ls : ℕ) (hls : ls + 128 ≤ 384) (v16 : BitVec 32) : Prog (TpuEff nD τ sig (Elt F) Λ₀ .tc) (Vec F S1x128 .f32 × Vec F S1x128 .f32) := do
  let v42 : Vec F S5x128 .f32 ← Prog.lift (.load A.arg7 (Rect.unit (s := S5x384) ![0, ls] S5x128.size (inbL hls)).toLoadRect (View.loadsAt_vmem h_S5x128))
  let _v57 : Vec F S128x128 .f32 ← Prog.lift (.load A.arg22 (Rect.unit (s := S128x128) ![0, 0] S128x128.size inb_S128x128_S128x128_0_0).toLoadRect (View.loadsAt_vmem h_S128x128))
  Prog.lift (.store A.arg22 (Rect.unit (s := S128x128) ![0, 0] S128x128.size inb_S128x128_S128x128_0_0) (preRn v42 v16) Finset.univ (View.stores_vmem_bits_univ h_S128x128 rfl) (.inl rfl))
  let v60 : Vec F S1x128 .f32 ← Prog.lift (.load A.arg17 (Rect.unit (s := S8x128) ![0, 0] S1x128.size inb_S8x128_S1x128_0_0).toLoadRect (View.loadsAt_vmem h_S1x128))
  let v61 : Vec F S1x128 .f32 ← Prog.lift (.load A.arg17 (Rect.unit (s := S8x128) ![1, 0] S1x128.size inb_S8x128_S1x128_1_0).toLoadRect (View.loadsAt_vmem h_S1x128))
  pure (v60, v61)

def preS (ls : ℕ) (hls : ls + 128 ≤ 384) (v16 : BitVec 32) (S : St F) : St F × (Vec F S1x128 .f32 × Vec F S1x128 .f32) :=
  let v42 : Vec F S5x128 .f32 := VecWindow.window (s := S5x384) S.a7 ![0, ls] S5x128.size (inbL hls)
  let S : St F := { S with a22 := VecWindow.put (s := S128x128) S.a22 ![0, 0] S128x128.size (preRn v42 v16) }
  let v60 : Vec F S1x128 .f32 := VecWindow.window (s := S8x128) S.a17 ![0, 0] S1x128.size inb_S8x128_S1x128_0_0
  let v61 : Vec F S1x128 .f32 := VecWindow.window (s := S8x128) S.a17 ![1, 0] S1x128.size inb_S8x128_S1x128_1_0
  (S, (v60, v61))

theorem pre_runs (c : Dev nD) (A : Mems) (ls : ℕ) (hls : ls + 128 ≤ 384) (v16 : BitVec 32) (S : St F) :
    Runs defs₀ Variants.none (c : Thread nD τ) (Pst c A) (pre A ls hls v16) S (preS ls hls v16 S).1 (preS ls hls v16 S).2 := by
  unfold pre
  refine Runs.load (cell7 A c) ?_
  refine Runs.load (cell22 A c) ?_
  refine Runs.store (cell22 A c) ?_
  refine Runs.load (cell17 A c) ?_
  refine Runs.load (cell17 A c) ?_
  exact Runs.ret _ _

/-! ### The scales of a block -/

def headSc (v73 : Vec F S1x6x2880 .f32) (v76 : BitVec 32) : FVec F S1x2880 .f32 :=
  let v77 : IVec S6x2880 32 := iota .tc S6x2880 32 [0] iota_S6x2880_d0_w32
  let v78 : IVec S6x2880 32 := broadcast S6x2880 v76
  let v79 : IVec S6x2880 1 := cmpi .eq v77 v78
  let v74 : FVec F S6x2880 .f32 := shapeCast S6x2880 v73 shapeCasts_S1x6x2880_S6x2880
  let cst_35 : F .f32 := Scalar.ofBits .f32 0x00000000#32
  let v80 : FVec F S6x2880 .f32 := broadcast S6x2880 cst_35
  let v81 : FVec F S6x2880 .f32 := select v79 v74 v80
  let v82 : FVec F S2880 .f32 := multiReduction .add [0] S2880 v81 0x00000000#32 reduces_S6x2880_S2880 (.inl rfl) rfl
  let v83 : FVec F S1x2880 .f32 := shapeCast S1x2880 v82 shapeCasts_S2880_S1x2880
  let cst_37 : F .f32 := Scalar.ofBits .f32 0x41100000#32
  let v84 : FVec F S1x2880 .f32 := broadcast S1x2880 cst_37
  let v85 : FVec F S1x2880 .f32 := mulf v83 v84
  shapeCast S1x2880 v85 shapeCasts_S1x2880_S1x2880

def head (A : Mems)  (v76 : BitVec 32) : Prog (TpuEff nD τ sig (Elt F) Λ₀ .tc) (PUnit) := do
  let v73 : Vec F S1x6x2880 .f32 ← Prog.lift (.load A.arg5 (Rect.unit (s := S1x6x2880) ![0, 0, 0] S1x6x2880.size inb_S1x6x2880_S1x6x2880_0_0_0).toLoadRect (View.loadsAt_vmem h_S1x6x2880))
  let _v86 : Vec F S1x2880 .f32 ← Prog.lift (.load A.arg24 (Rect.unit (s := S2x2880) ![0, 0] S1x2880.size inb_S2x2880_S1x2880_0_0).toLoadRect (View.loadsAt_vmem h_S1x2880))
  Prog.lift (.store A.arg24 (Rect.unit (s := S2x2880) ![0, 0] S1x2880.size inb_S2x2880_S1x2880_0_0) (headSc v73 v76) Finset.univ (View.stores_vmem_bits_univ h_S1x2880 rfl) (.inl rfl))
  pure ⟨⟩

def headS  (v76 : BitVec 32) (S : St F) : St F :=
  let v73 : Vec F S1x6x2880 .f32 := VecWindow.window (s := S1x6x2880) S.a5 ![0, 0, 0] S1x6x2880.size inb_S1x6x2880_S1x6x2880_0_0_0
  let S : St F := { S with a24 := VecWindow.put (s := S2x2880) S.a24 ![0, 0] S1x2880.size (headSc v73 v76) }
  S

theorem head_runs (c : Dev nD) (A : Mems)  (v76 : BitVec 32) (S : St F) :
    Runs defs₀ Variants.none (c : Thread nD τ) (Pst c A) (head A v76) S (headS v76 S) ⟨⟩ := by
  unfold head
  refine Runs.load (cell5 A c) ?_
  refine Runs.load (cell24 A c) ?_
  refine Runs.store (cell24 A c) ?_
  exact Runs.ret _ _

/-! ### The end of a block -/

def tailMax (v1914 : FVec F S64x128 .f32) : FVec F S64x128 .f32 :=
  let v1979 : FVec F S64 .f32 := multiReduction .maximumf [1] S64 v1914 0xFF800000#32 reduces_S64x128_S64 (.inl rfl) rfl
  let v1980 : FVec F S64x1 .f32 := shapeCast S64x1 v1979 shapeCasts_S64_S64x1
  let v1981 : FVec F S64x1 .f32 := shapeCast S64x1 v1980 shapeCasts_S64x1_S64x1
  broadcastTo S64x128 v1981 broadcasts_S64x1_S64x128

def tailSc (v1965 : Vec F S1x6x2880 .f32) (v1967 : Vec F S1x2880 .f32) (v1969 : BitVec 32) : FVec F S1x6x2880 .f32 :=
  let v1970 : IVec S6x2880 32 := iota .tc S6x2880 32 [0] iota_S6x2880_d0_w32
  let v1971 : IVec S6x2880 32 := broadcast S6x2880 v1969
  let v1972 : IVec S6x2880 1 := cmpi .eq v1970 v1971
  let v1973 : FVec F S1x2880 .f32 := shapeCast S1x2880 v1967 shapeCasts_S1x2880_S1x2880
  let v1974 : FVec F S6x2880 .f32 := broadcastTo S6x2880 v1973 broadcasts_S1x2880_S6x2880
  let v1966 : FVec F S6x2880 .f32 := shapeCast S6x2880 v1965 shapeCasts_S1x6x2880_S6x2880
  let v1975 : FVec F S6x2880 .f32 := select v1972 v1974 v1966
  shapeCast S1x6x2880 v1975 shapeCasts_S6x2880_S1x6x2880

def tailInv (v1982 : FVec F S64x128 .f32) : FVec F S1x64x128 .f32 :=
  let cst_984 : F .f32 := Named.named κ "thousandth" 0x3A83126F#32
  let v1983 : FVec F S64x128 .f32 := broadcast S64x128 cst_984
  let v1984 : FVec F S64x128 .f32 := mulf v1982 v1983
  let cst_985 : F .f32 := Scalar.ofBits .f32 0x00000000#32
  let v1985 : FVec F S64x128 .f32 := broadcast S64x128 cst_985
  let v1986 : IVec S64x128 1 := cmpf .oeq v1984 v1985
  let cst_987 : F .f32 := Scalar.ofBits .f32 0x00000000#32
  let v1989 : FVec F S64x128 .f32 := broadcast S64x128 cst_987
  let cst_986 : F .f32 := Scalar.ofBits .f32 0x41800000#32
  let v1987 : FVec F S64x128 .f32 := broadcast S64x128 cst_986
  let v1988 : FVec F S64x128 .f32 := divf v1987 v1982
  let v1990 : FVec F S64x128 .f32 := select v1986 v1989 v1988
  shapeCast S1x64x128 v1990 shapeCasts_S64x128_S1x64x128

def tailRn_ (v1982 : FVec F S64x128 .f32) : FVec F S64x128 .f32 :=
  shapeCast S64x128 v1982 shapeCasts_S64x128_S64x128

def tail (A : Mems) (vs : ℕ) (mb : ℕ) (hvs : vs < 6) (hmb : mb < 2) (v1969 : BitVec 32) (v1914 : FVec F S64x128 .f32) : Prog (TpuEff nD τ sig (Elt F) Λ₀ .tc) (PUnit) := do
  let v1982 : FVec F S64x128 .f32 := tailMax v1914
  let v1965 : Vec F S1x6x2880 .f32 ← Prog.lift (.load A.arg11 (Rect.unit (s := S1x6x2880) ![0, 0, 0] S1x6x2880.size inb_S1x6x2880_S1x6x2880_0_0_0).toLoadRect (View.loadsAt_vmem h_S1x6x2880))
  let v1967 : Vec F S1x2880 .f32 ← Prog.lift (.load A.arg24 (Rect.unit (s := S2x2880) ![1, 0] S1x2880.size inb_S2x2880_S1x2880_1_0).toLoadRect (View.loadsAt_vmem h_S1x2880))
  let _v1976 : Vec F S1x6x2880 .f32 ← Prog.lift (.load A.arg11 (Rect.unit (s := S1x6x2880) ![0, 0, 0] S1x6x2880.size inb_S1x6x2880_S1x6x2880_0_0_0).toLoadRect (View.loadsAt_vmem h_S1x6x2880))
  Prog.lift (.store A.arg11 (Rect.unit (s := S1x6x2880) ![0, 0, 0] S1x6x2880.size inb_S1x6x2880_S1x6x2880_0_0_0) (tailSc v1965 v1967 v1969) Finset.univ (View.stores_vmem_bits_univ h_S1x6x2880 rfl) (.inl rfl))
  let _v1992 : Vec F S1x64x128 .f32 ← Prog.lift (.load A.arg19 (Rect.unit (s := S6x128x128) ![vs, 64 * mb, 0] S1x64x128.size (inbI hvs hmb)).toLoadRect (View.loadsAt_vmem h_S1x64x128))
  Prog.lift (.store A.arg19 (Rect.unit (s := S6x128x128) ![vs, 64 * mb, 0] S1x64x128.size (inbI hvs hmb)) (tailInv v1982) Finset.univ (View.stores_vmem_bits_univ h_S1x64x128 rfl) (.inl rfl))
  let _v1995 : Vec F S64x128 .f32 ← Prog.lift (.load A.arg22 (Rect.unit (s := S128x128) ![64 * mb, 0] S64x128.size (inbR hmb)).toLoadRect (View.loadsAt_vmem h_S64x128))
  Prog.lift (.store A.arg22 (Rect.unit (s := S128x128) ![64 * mb, 0] S64x128.size (inbR hmb)) (tailRn_ v1982) Finset.univ (View.stores_vmem_bits_univ h_S64x128 rfl) (.inl rfl))
  pure ⟨⟩

def tailS (vs : ℕ) (mb : ℕ) (hvs : vs < 6) (hmb : mb < 2) (v1969 : BitVec 32) (v1914 : FVec F S64x128 .f32) (S : St F) : St F :=
  let v1982 : FVec F S64x128 .f32 := tailMax v1914
  let v1965 : Vec F S1x6x2880 .f32 := VecWindow.window (s := S1x6x2880) S.a11 ![0, 0, 0] S1x6x2880.size inb_S1x6x2880_S1x6x2880_0_0_0
  let v1967 : Vec F S1x2880 .f32 := VecWindow.window (s := S2x2880) S.a24 ![1, 0] S1x2880.size inb_S2x2880_S1x2880_1_0
  let S : St F := { S with a11 := VecWindow.put (s := S1x6x2880) S.a11 ![0, 0, 0] S1x6x2880.size (tailSc v1965 v1967 v1969) }
  let S : St F := { S with a19 := VecWindow.put (s := S6x128x128) S.a19 ![vs, 64 * mb, 0] S1x64x128.size (tailInv v1982) }
  let S : St F := { S with a22 := VecWindow.put (s := S128x128) S.a22 ![64 * mb, 0] S64x128.size (tailRn_ v1982) }
  S

theorem tail_runs (c : Dev nD) (A : Mems) (vs : ℕ) (mb : ℕ) (hvs : vs < 6) (hmb : mb < 2) (v1969 : BitVec 32) (v1914 : FVec F S64x128 .f32) (S : St F) :
    Runs defs₀ Variants.none (c : Thread nD τ) (Pst c A) (tail A vs mb hvs hmb v1969 v1914) S (tailS vs mb hvs hmb v1969 v1914 S) ⟨⟩ := by
  unfold tail
  refine Runs.load (cell11 A c) ?_
  refine Runs.load (cell24 A c) ?_
  refine Runs.load (cell11 A c) ?_
  refine Runs.store (cell11 A c) ?_
  refine Runs.load (cell19 A c) ?_
  refine Runs.store (cell19 A c) ?_
  refine Runs.load (cell22 A c) ?_
  refine Runs.store (cell22 A c) ?_
  exact Runs.ret _ _

/-! ### The row maxima written -/

def vroRow (v3925 : Vec F S5x128 .f32) (v3927 : Vec F S128x128 .f32) (v16 : BitVec 32) : FVec F S5x128 .f32 :=
  let v3932 : IVec S5x128 32 := iota .tc S5x128 32 [0] iota_S5x128_d0_w32
  let v3933 : IVec S5x128 32 := broadcast S5x128 v16
  let v3934 : IVec S5x128 1 := cmpi .eq v3932 v3933
  let v3928 : FVec F S128x128 .f32 := transpose S128x128 [1, 0] v3927 transposes_S128x128_p1_0_S128x128
  let v3929 : FVec F S1x128 .f32 := extractStridedSlice S1x128 ![0, 0] v3928 slices_S128x128_o0_0_S1x128
  let cst_1979 : F .f32 := Named.named κ "thousandth" 0x3A83126F#32
  let v3930 : FVec F S1x128 .f32 := broadcast S1x128 cst_1979
  let v3931 : FVec F S1x128 .f32 := mulf v3929 v3930
  let v3935 : FVec F S1x128 .f32 := shapeCast S1x128 v3931 shapeCasts_S1x128_S1x128
  let v3936 : FVec F S5x128 .f32 := broadcastTo S5x128 v3935 broadcasts_S1x128_S5x128
  let v3926 : FVec F S5x128 .f32 := shapeCast S5x128 v3925 shapeCasts_S5x128_S5x128
  select v3934 v3936 v3926

def vro (A : Mems) (ls : ℕ) (hls : ls + 128 ≤ 384) (v16 : BitVec 32) : Prog (TpuEff nD τ sig (Elt F) Λ₀ .tc) (PUnit) := do
  let v3925 : Vec F S5x128 .f32 ← Prog.lift (.load A.arg13 (Rect.unit (s := S5x384) ![0, ls] S5x128.size (inbL hls)).toLoadRect (View.loadsAt_vmem h_S5x128))
  let v3927 : Vec F S128x128 .f32 ← Prog.lift (.load A.arg22 (Rect.unit (s := S128x128) ![0, 0] S128x128.size inb_S128x128_S128x128_0_0).toLoadRect (View.loadsAt_vmem h_S128x128))
  let _v3939 : Vec F S5x128 .f32 ← Prog.lift (.load A.arg13 (Rect.unit (s := S5x384) ![0, ls] S5x128.size (inbL hls)).toLoadRect (View.loadsAt_vmem h_S5x128))
  Prog.lift (.store A.arg13 (Rect.unit (s := S5x384) ![0, ls] S5x128.size (inbL hls)) (vroRow v3925 v3927 v16) Finset.univ (View.stores_vmem_bits_univ h_S5x128 rfl) (.inl rfl))
  pure ⟨⟩

def vroS (ls : ℕ) (hls : ls + 128 ≤ 384) (v16 : BitVec 32) (S : St F) : St F :=
  let v3925 : Vec F S5x128 .f32 := VecWindow.window (s := S5x384) S.a13 ![0, ls] S5x128.size (inbL hls)
  let v3927 : Vec F S128x128 .f32 := VecWindow.window (s := S128x128) S.a22 ![0, 0] S128x128.size inb_S128x128_S128x128_0_0
  let S : St F := { S with a13 := VecWindow.put (s := S5x384) S.a13 ![0, ls] S5x128.size (vroRow v3925 v3927 v16) }
  S

theorem vro_runs (c : Dev nD) (A : Mems) (ls : ℕ) (hls : ls + 128 ≤ 384) (v16 : BitVec 32) (S : St F) :
    Runs defs₀ Variants.none (c : Thread nD τ) (Pst c A) (vro A ls hls v16) S (vroS ls hls v16 S) ⟨⟩ := by
  unfold vro
  refine Runs.load (cell13 A c) ?_
  refine Runs.load (cell22 A c) ?_
  refine Runs.load (cell13 A c) ?_
  refine Runs.store (cell13 A c) ?_
  exact Runs.ret _ _

/-! ### A finished expert -/

def finMax (v3954 : Vec F S1x8x2880 .f32) : FVec F S1x2880 .f32 :=
  let v3955 : FVec F S8x2880 .f32 := shapeCast S8x2880 v3954 shapeCasts_S1x8x2880_S8x2880
  let v3956 : FVec F S2880 .f32 := multiReduction .maximumf [0] S2880 v3955 0xFF800000#32 reduces_S8x2880_S2880 (.inl rfl) rfl
  shapeCast S1x2880 v3956 shapeCasts_S2880_S1x2880

def finCo (v3957 : FVec F S1x2880 .f32) (v3960 : Vec F S5x2880 .f32) (v16 : BitVec 32) : FVec F S5x2880 .f32 :=
  let v3962 : IVec S5x2880 32 := iota .tc S5x2880 32 [0] iota_S5x2880_d0_w32
  let v3963 : IVec S5x2880 32 := broadcast S5x2880 v16
  let v3964 : IVec S5x2880 1 := cmpi .eq v3962 v3963
  let cst_1992 : F .f32 := Named.named κ "thousandth" 0x3A83126F#32
  let v3958 : FVec F S1x2880 .f32 := broadcast S1x2880 cst_1992
  let v3959 : FVec F S1x2880 .f32 := mulf v3957 v3958
  let v3965 : FVec F S1x2880 .f32 := shapeCast S1x2880 v3959 shapeCasts_S1x2880_S1x2880
  let v3966 : FVec F S5x2880 .f32 := broadcastTo S5x2880 v3965 broadcasts_S1x2880_S5x2880
  let v3961 : FVec F S5x2880 .f32 := shapeCast S5x2880 v3960 shapeCasts_S5x2880_S5x2880
  select v3964 v3966 v3961

def finInv (v3957 : FVec F S1x2880 .f32) : FVec F S1x1x2880 .f32 :=
  let cst_1992 : F .f32 := Named.named κ "thousandth" 0x3A83126F#32
  let v3958 : FVec F S1x2880 .f32 := broadcast S1x2880 cst_1992
  let v3959 : FVec F S1x2880 .f32 := mulf v3957 v3958
  let cst_1997 : F .f32 := Scalar.ofBits .f32 0x00000000#32
  let v3969 : FVec F S1x2880 .f32 := broadcast S1x2880 cst_1997
  let v3970 : IVec S1x2880 1 := cmpf .oeq v3959 v3969
  let cst_1999 : F .f32 := Scalar.ofBits .f32 0x00000000#32
  let v3973 : FVec F S1x2880 .f32 := broadcast S1x2880 cst_1999
  let cst_1998 : F .f32 := Scalar.ofBits .f32 0x41800000#32
  let v3971 : FVec F S1x2880 .f32 := broadcast S1x2880 cst_1998
  let v3972 : FVec F S1x2880 .f32 := divf v3971 v3957
  let v3974 : FVec F S1x2880 .f32 := select v3970 v3973 v3972
  shapeCast S1x1x2880 v3974 shapeCasts_S1x2880_S1x1x2880

def finish (A : Mems) (cp : ℕ) (hcp : cp < 2) (v16 : BitVec 32) : Prog (TpuEff nD τ sig (Elt F) Λ₀ .tc) (PUnit) := do
  let v3954 : Vec F S1x8x2880 .f32 ← Prog.lift (.load A.arg20 (Rect.unit (s := S2x8x2880) ![cp, 0, 0] S1x8x2880.size (inbMw hcp)).toLoadRect (View.loadsAt_vmem h_S1x8x2880))
  let v3957 : FVec F S1x2880 .f32 := finMax v3954
  let v3960 : Vec F S5x2880 .f32 ← Prog.lift (.load A.arg14 (Rect.unit (s := S5x2880) ![0, 0] S5x2880.size inb_S5x2880_S5x2880_0_0).toLoadRect (View.loadsAt_vmem h_S5x2880))
  let _v3968 : Vec F S5x2880 .f32 ← Prog.lift (.load A.arg14 (Rect.unit (s := S5x2880) ![0, 0] S5x2880.size inb_S5x2880_S5x2880_0_0).toLoadRect (View.loadsAt_vmem h_S5x2880))
  Prog.lift (.store A.arg14 (Rect.unit (s := S5x2880) ![0, 0] S5x2880.size inb_S5x2880_S5x2880_0_0) (finCo v3957 v3960 v16) Finset.univ (View.stores_vmem_bits_univ h_S5x2880 rfl) (.inl rfl))
  let _v3986 : Vec F S1x1x2880 .f32 ← Prog.lift (.load A.arg21 (Rect.unit (s := S2x1x2880) ![cp, 0, 0] S1x1x2880.size (inbKw hcp)).toLoadRect (View.loadsAt_vmem h_S1x1x2880))
  Prog.lift (.store A.arg21 (Rect.unit (s := S2x1x2880) ![cp, 0, 0] S1x1x2880.size (inbKw hcp)) (finInv v3957) Finset.univ (View.stores_vmem_bits_univ h_S1x1x2880 rfl) (.inl rfl))
  pure ⟨⟩

def finishS (cp : ℕ) (hcp : cp < 2) (v16 : BitVec 32) (S : St F) : St F :=
  let v3954 : Vec F S1x8x2880 .f32 := VecWindow.window (s := S2x8x2880) S.a20 ![cp, 0, 0] S1x8x2880.size (inbMw hcp)
  let v3957 : FVec F S1x2880 .f32 := finMax v3954
  let v3960 : Vec F S5x2880 .f32 := VecWindow.window (s := S5x2880) S.a14 ![0, 0] S5x2880.size inb_S5x2880_S5x2880_0_0
  let S : St F := { S with a14 := VecWindow.put (s := S5x2880) S.a14 ![0, 0] S5x2880.size (finCo v3957 v3960 v16) }
  let S : St F := { S with a21 := VecWindow.put (s := S2x1x2880) S.a21 ![cp, 0, 0] S1x1x2880.size (finInv v3957) }
  S

theorem finish_runs (c : Dev nD) (A : Mems) (cp : ℕ) (hcp : cp < 2) (v16 : BitVec 32) (S : St F) :
    Runs defs₀ Variants.none (c : Thread nD τ) (Pst c A) (finish A cp hcp v16) S (finishS cp hcp v16 S) ⟨⟩ := by
  unfold finish
  refine Runs.load (cell20 A c) ?_
  refine Runs.load (cell14 A c) ?_
  refine Runs.load (cell14 A c) ?_
  refine Runs.store (cell14 A c) ?_
  refine Runs.load (cell21 A c) ?_
  refine Runs.store (cell21 A c) ?_
  exact Runs.ret _ _

end Cert.KernelIdeal.Body

end

end
-- ==== Proof.ITiles.lean ====
/-
  The tiles of the kernel body: 64 rows by 256 columns (the last one by 64) of the update, and of the second moment's
  requantisation three points later.
-/
module

public import proofs.«01_k».proof.Proof.Gen.KernelIdeal.Frame
public import proofs.«01_k».proof.Proof.Runs
public import proofs.«01_k».proof.Proof.IMach
@[expose] public section

set_option maxRecDepth 16384

noncomputable section

namespace Cert.KernelIdeal.Body

open Cert.KernelIdeal Cert.KernelIdeal.Gen Cert.Proof
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ### A tile of the update -/

def tU_mp (v89 : Vec F S1x64x256 .bf16) (v92 : Vec F S1x64x128 .i8) (v106 : Vec F S256x256 .bf16) (v108 : Vec F S1x256 .f32) : FVec F S64x256 .f32 :=
  let v93 : IVec S64x128 8 := shapeCast S64x128 v92 shapeCasts_S1x64x128_S64x128
  let v94 : IVec S16x128 32 := bitcast S16x128 32 v93 bitcasts_S64x128_w8_S16x128_w32
  let c4_i32 : BitVec 32 := 4#32
  let v95 : IVec S16x128 32 := broadcast S16x128 c4_i32
  let v96 : IVec S16x128 32 := shli v94 v95
  let c_m252645136_i32 : BitVec 32 := 4042322160#32
  let v97 : IVec S16x128 32 := broadcast S16x128 c_m252645136_i32
  let v98 : IVec S16x128 32 := andi v96 v97
  let v101 : IVec S64x128 8 := bitcast S64x128 8 v98 bitcasts_S16x128_w32_S64x128_w8
  let v102 : FVec F S64x128 .bf16 := sitofp .bf16 v101
  let c_m252645136_i32_46 : BitVec 32 := 4042322160#32
  let v99 : IVec S16x128 32 := broadcast S16x128 c_m252645136_i32_46
  let v100 : IVec S16x128 32 := andi v94 v99
  let v103 : IVec S64x128 8 := bitcast S64x128 8 v100 bitcasts_S16x128_w32_S64x128_w8
  let v104 : FVec F S64x128 .bf16 := sitofp .bf16 v103
  let v105 : FVec F S64x256 .bf16 := concatenate S64x256 1 [⟨S64x128, v102⟩, ⟨S64x128, v104⟩] concatenates_S64x128_S64x128_S64x256_d1
  let cst_49 : FVec F S64x256 .f32 := constant S64x256 .f32 0x00000000#32
  let v107 : FVec F S64x256 .f32 := matmul dot_S64x256_S256x256_S64x256_1_0_0_1_n_n none v105 v106 cst_49
  let v109 : FVec F S64x256 .f32 := broadcastTo S64x256 v108 broadcasts_S1x256_S64x256
  let v110 : FVec F S64x256 .f32 := mulf v107 v109
  let v90 : FVec F S64x256 .bf16 := shapeCast S64x256 v89 shapeCasts_S1x64x256_S64x256
  let v91 : FVec F S64x256 .f32 := extf .f32 v90 bitsLt_bf16_f32
  addf v110 v91

def tU_vp (v89 : Vec F S1x64x256 .bf16) (v159 : Vec F S1x64x128 .i8) (v177 : Vec F S256x256 .bf16) (v179 : Vec F S64x128 .f32) (v181 : Vec F S1x256 .f32) : FVec F S64x256 .f32 :=
  let v160 : IVec S64x128 8 := shapeCast S64x128 v159 shapeCasts_S1x64x128_S64x128
  let v161 : IVec S16x128 32 := bitcast S16x128 32 v160 bitcasts_S64x128_w8_S16x128_w32
  let c252645135_i32 : BitVec 32 := 252645135#32
  let v162 : IVec S16x128 32 := broadcast S16x128 c252645135_i32
  let v163 : IVec S16x128 32 := andi v161 v162
  let c16843009_i32 : BitVec 32 := 16843009#32
  let v164 : IVec S16x128 32 := broadcast S16x128 c16843009_i32
  let v165 : IVec S16x128 32 := addi v163 v164
  let v172 : IVec S64x128 8 := bitcast S64x128 8 v165 bitcasts_S16x128_w32_S64x128_w8
  let v173 : FVec F S64x128 .bf16 := sitofp .bf16 v172
  let c4_i32_77 : BitVec 32 := 4#32
  let v166 : IVec S16x128 32 := broadcast S16x128 c4_i32_77
  let v167 : IVec S16x128 32 := shrsi v161 v166
  let c252645135_i32_78 : BitVec 32 := 252645135#32
  let v168 : IVec S16x128 32 := broadcast S16x128 c252645135_i32_78
  let v169 : IVec S16x128 32 := andi v167 v168
  let c16843009_i32_79 : BitVec 32 := 16843009#32
  let v170 : IVec S16x128 32 := broadcast S16x128 c16843009_i32_79
  let v171 : IVec S16x128 32 := addi v169 v170
  let v174 : IVec S64x128 8 := bitcast S64x128 8 v171 bitcasts_S16x128_w32_S64x128_w8
  let v175 : FVec F S64x128 .bf16 := sitofp .bf16 v174
  let v176 : FVec F S64x256 .bf16 := concatenate S64x256 1 [⟨S64x128, v173⟩, ⟨S64x128, v175⟩] concatenates_S64x128_S64x128_S64x256_d1
  let cst_82 : FVec F S64x256 .f32 := constant S64x256 .f32 0x00000000#32
  let v178 : FVec F S64x256 .f32 := matmul dot_S64x256_S256x256_S64x256_1_0_0_1_n_n none v176 v177 cst_82
  let v180 : FVec F S64x256 .f32 := concatenate S64x256 1 [⟨S64x128, v179⟩, ⟨S64x128, v179⟩] concatenates_S64x128_S64x128_S64x256_d1
  let v182 : FVec F S64x256 .f32 := broadcastTo S64x256 v181 broadcasts_S1x256_S64x256
  let v183 : FVec F S64x256 .f32 := minimumf v180 v182
  let v184 : FVec F S64x256 .f32 := mulf v178 v183
  let v90 : FVec F S64x256 .bf16 := shapeCast S64x256 v89 shapeCasts_S1x64x256_S64x256
  let v91 : FVec F S64x256 .f32 := extf .f32 v90 bitsLt_bf16_f32
  let v185 : FVec F S64x256 .f32 := mulf v91 v91
  addf v184 v185

def tU_sc (v111 : FVec F S64x256 .f32) : FVec F S1x256 .f32 :=
  let v112 : FVec F S64x256 .f32 := absf v111
  let v113 : FVec F S256 .f32 := multiReduction .maximumf [0] S256 v112 0xFF800000#32 reduces_S64x256_S256 (.inl rfl) rfl
  let v114 : FVec F S1x256 .f32 := shapeCast S1x256 v113 shapeCasts_S256_S1x256
  let cst_56 : F .f32 := Scalar.ofBits .f32 0x00000000#32
  let v121 : FVec F S1x256 .f32 := broadcast S1x256 cst_56
  let v122 : IVec S1x256 1 := cmpf .oeq v114 v121
  let cst_58 : F .f32 := Scalar.ofBits .f32 0x3F800000#32
  let v125 : FVec F S1x256 .f32 := broadcast S1x256 cst_58
  let cst_57 : F .f32 := Named.named κ "seventieth" 0x3C6A0EA1#32
  let v123 : FVec F S1x256 .f32 := broadcast S1x256 cst_57
  let v124 : FVec F S1x256 .f32 := mulf v114 v123
  let v126 : FVec F S1x256 .f32 := select v122 v125 v124
  shapeCast S1x256 v126 shapeCasts_S1x256_S1x256

def tU_m (v111 : FVec F S64x256 .f32) (v146 : Vec F S256x128 .bf16) : IVec S1x64x128 8 :=
  let cst_61 : F .f32 := Scalar.ofBits .f32 0x3F800000#32
  let v130 : FVec F S1x256 .f32 := broadcast S1x256 cst_61
  let v112 : FVec F S64x256 .f32 := absf v111
  let v113 : FVec F S256 .f32 := multiReduction .maximumf [0] S256 v112 0xFF800000#32 reduces_S64x256_S256 (.inl rfl) rfl
  let v114 : FVec F S1x256 .f32 := shapeCast S1x256 v113 shapeCasts_S256_S1x256
  let cst_53 : F .f32 := Scalar.ofBits .f32 0x00000000#32
  let v115 : FVec F S1x256 .f32 := broadcast S1x256 cst_53
  let v116 : IVec S1x256 1 := cmpf .oeq v114 v115
  let cst_55 : F .f32 := Scalar.ofBits .f32 0x3F800000#32
  let v119 : FVec F S1x256 .f32 := broadcast S1x256 cst_55
  let cst_54 : F .f32 := Named.named κ "seventh" 0x3E124925#32
  let v117 : FVec F S1x256 .f32 := broadcast S1x256 cst_54
  let v118 : FVec F S1x256 .f32 := mulf v114 v117
  let v120 : FVec F S1x256 .f32 := select v116 v119 v118
  let v131 : FVec F S1x256 .f32 := divf v130 v120
  let v132 : FVec F S64x256 .f32 := broadcastTo S64x256 v131 broadcasts_S1x256_S64x256
  let v133 : FVec F S64x256 .f32 := mulf v111 v132
  let cst_62 : F .f32 := Scalar.ofBits .f32 0x4B404308#32
  let v134 : FVec F S64x256 .f32 := broadcast S64x256 cst_62
  let v135 : FVec F S64x256 .f32 := addf v133 v134
  let cst_63 : F .f32 := Scalar.ofBits .f32 0x4B400000#32
  let v136 : FVec F S64x256 .f32 := broadcast S64x256 cst_63
  let v137 : FVec F S64x256 .f32 := subf v135 v136
  let v138 : FVec F S64x256 .f32 := roundeven v137
  let cst_64 : F .f32 := Scalar.ofBits .f32 0x46850000#32
  let v139 : FVec F S64x256 .f32 := broadcast S64x256 cst_64
  let v140 : FVec F S64x256 .f32 := subf v138 v139
  let v141 : FVec F S64x256 .bf16 := truncf .bf16 v140 bitsLt_bf16_f32
  let cst_65 : F .bf16 := Scalar.ofBits .bf16 0x4301#16
  let v142 : FVec F S64x256 .bf16 := broadcast S64x256 cst_65
  let v143 : FVec F S64x256 .bf16 := maximumf v141 v142
  let cst_66 : F .bf16 := Scalar.ofBits .bf16 0x430F#16
  let v144 : FVec F S64x256 .bf16 := broadcast S64x256 cst_66
  let v145 : FVec F S64x256 .bf16 := minimumf v143 v144
  let cst_69 : FVec F S64x128 .f32 := constant S64x128 .f32 0x00000000#32
  let v147 : FVec F S64x128 .f32 := matmul dot_S64x256_S256x128_S64x128_1_0_0_1_n_n none v145 v146 cst_69
  let cst_70 : F .f32 := Scalar.ofBits .f32 0x45080000#32
  let v148 : FVec F S64x128 .f32 := broadcast S64x128 cst_70
  let v149 : FVec F S64x128 .f32 := subf v147 v148
  let v150 : IVec S64x128 32 := fptosi 32 v149
  let v151 : IVec S64x128 8 := trunci 8 v150 natLt_8_32
  let v152 : IVec S16x128 32 := bitcast S16x128 32 v151 bitcasts_S64x128_w8_S16x128_w32
  let c_m2004318072_i32 : BitVec 32 := 2290649224#32
  let v153 : IVec S16x128 32 := broadcast S16x128 c_m2004318072_i32
  let v154 : IVec S16x128 32 := xori v152 v153
  let v155 : IVec S64x128 8 := bitcast S64x128 8 v154 bitcasts_S16x128_w32_S64x128_w8
  shapeCast S1x64x128 v155 shapeCasts_S64x128_S1x64x128

def tU_v (v186 : FVec F S64x256 .f32) : FVec F S1x64x256 .f32 :=
  shapeCast S1x64x256 v186 shapeCasts_S64x256_S1x64x256

def tU_cmax (v186 : FVec F S64x256 .f32) (v208 : Vec F S1x8x256 .f32) : FVec F S1x8x256 .f32 :=
  let v209 : FVec F S8x256 .f32 := shapeCast S8x256 v208 shapeCasts_S1x8x256_S8x256
  let v195 : FVec F S8x8x256 .f32 := shapeCast S8x8x256 v186 shapeCasts_S64x256_S8x8x256
  let v196 : FVec F S8x256 .f32 := multiReduction .maximumf [0] S8x256 v195 0xFF800000#32 reduces_S8x8x256_S8x256 (.inl rfl) rfl
  let v210 : FVec F S8x256 .f32 := maximumf v209 v196
  shapeCast S1x8x256 v210 shapeCasts_S8x256_S1x8x256

def tU_dw (v111 : FVec F S64x256 .f32) (v186 : FVec F S64x256 .f32) (v236 : Vec F S1x64x256 .bf16) (v60 : Vec F S1x128 .f32) (v61 : Vec F S1x128 .f32) : FVec F S1x64x256 .f32 :=
  let v225 : FVec F S64x256 .f32 := rsqrt v186
  let v226 : FVec F S64x256 .f32 := mulf v111 v225
  let cst_106 : F .f32 := Scalar.ofBits .f32 0x3F800000#32
  let v233 : FVec F S64x256 .f32 := broadcast S64x256 cst_106
  let v227 : FVec F S1x256 .f32 := concatenate S1x256 1 [⟨S1x128, v60⟩, ⟨S1x128, v60⟩] concatenates_S1x128_S1x128_S1x256_d1
  let v231 : FVec F S64x256 .f32 := broadcastTo S64x256 v227 broadcasts_S1x256_S64x256
  let v228 : FVec F S1x256 .f32 := concatenate S1x256 1 [⟨S1x128, v61⟩, ⟨S1x128, v61⟩] concatenates_S1x128_S1x128_S1x256_d1
  let v229 : FVec F S64x256 .f32 := broadcastTo S64x256 v228 broadcasts_S1x256_S64x256
  let v230 : FVec F S64x256 .f32 := mulf v229 v225
  let v232 : FVec F S64x256 .f32 := addf v231 v230
  let v234 : FVec F S64x256 .f32 := divf v233 v232
  let v235 : FVec F S64x256 .f32 := mulf v226 v234
  let v237 : FVec F S64x256 .bf16 := shapeCast S64x256 v236 shapeCasts_S1x64x256_S64x256
  let v238 : FVec F S64x256 .f32 := extf .f32 v237 bitsLt_bf16_f32
  let cst_110 : F .f32 := Named.named κ "lr_decay" 0x37FBA882#32
  let v239 : FVec F S64x256 .f32 := broadcast S64x256 cst_110
  let v240 : FVec F S64x256 .f32 := mulf v238 v239
  let v241 : FVec F S64x256 .f32 := addf v235 v240
  shapeCast S1x64x256 v241 shapeCasts_S64x256_S1x64x256

def tU_rmax (v186 : FVec F S64x256 .f32) (v72 : FVec F S64x128 .f32) : FVec F S64x128 .f32 :=
  let v191 : FVec F S64x128 .f32 := extractStridedSlice S64x128 ![0, 0] v186 slices_S64x256_o0_0_S64x128
  let v192 : FVec F S64x128 .f32 := maximumf v72 v191
  let v193 : FVec F S64x128 .f32 := extractStridedSlice S64x128 ![0, 128] v186 slices_S64x256_o0_128_S64x128
  maximumf v192 v193

def tileU (A : Mems) (vs : ℕ) (cp : ℕ) (mb : ℕ) (j : ℕ) (hvs : vs < 6) (hcp : cp < 2) (hmb : mb < 2) (hj : j < 11) (v60 : Vec F S1x128 .f32) (v61 : Vec F S1x128 .f32) (v72 : FVec F S64x128 .f32) : Prog (TpuEff nD τ sig (Elt F) Λ₀ .tc) (FVec F S64x128 .f32) := do
  let v89 : Vec F S1x64x256 .bf16 ← Prog.lift (.load A.arg3 (Rect.unit (s := S1x128x2880) ![0, 64 * mb, 256 * j] S1x64x256.size (inbB hmb hj)).toLoadRect (View.loadsAt_vmem h_S1x64x256))
  let v92 : Vec F S1x64x128 .i8 ← Prog.lift (.load A.arg4 (Rect.unit (s := S1x128x1440) ![0, 64 * mb, 128 * j] S1x64x128.size (inbC hmb hj)).toLoadRect (View.loadsAt_vmem h_S1x64x128))
  let v106 : Vec F S256x256 .bf16 ← Prog.lift (.load A.arg15 (Rect.unit (s := S256x256) ![0, 0] S256x256.size inb_S256x256_S256x256_0_0).toLoadRect (View.loadsAt_vmem h_S256x256))
  let v108 : Vec F S1x256 .f32 ← Prog.lift (.load A.arg24 (Rect.unit (s := S2x2880) ![0, 256 * j] S1x256.size (inbS0 hj)).toLoadRect (View.loadsAt_vmem h_S1x256))
  let v111 : FVec F S64x256 .f32 := tU_mp v89 v92 v106 v108
  let _v127 : Vec F S1x256 .f32 ← Prog.lift (.load A.arg24 (Rect.unit (s := S2x2880) ![1, 256 * j] S1x256.size (inbS1 hj)).toLoadRect (View.loadsAt_vmem h_S1x256))
  Prog.lift (.store A.arg24 (Rect.unit (s := S2x2880) ![1, 256 * j] S1x256.size (inbS1 hj)) (tU_sc v111) Finset.univ (View.stores_vmem_bits_univ h_S1x256 rfl) (.inl rfl))
  let v146 : Vec F S256x128 .bf16 ← Prog.lift (.load A.arg16 (Rect.unit (s := S256x128) ![0, 0] S256x128.size inb_S256x128_S256x128_0_0).toLoadRect (View.loadsAt_vmem h_S256x128))
  let _v156 : Vec F S1x64x128 .i8 ← Prog.lift (.load A.arg10 (Rect.unit (s := S1x128x1440) ![0, 64 * mb, 128 * j] S1x64x128.size (inbC hmb hj)).toLoadRect (View.loadsAt_vmem h_S1x64x128))
  Prog.lift (.store A.arg10 (Rect.unit (s := S1x128x1440) ![0, 64 * mb, 128 * j] S1x64x128.size (inbC hmb hj)) (tU_m v111 v146) Finset.univ (View.stores_vmem h_S1x64x128 (A.harg10.storeExact_slice rfl _ (packedC hmb hj)) (fun _ => rfl)) (.inl rfl))
  let v159 : Vec F S1x64x128 .i8 ← Prog.lift (.load A.arg6 (Rect.unit (s := S1x128x1440) ![0, 64 * mb, 128 * j] S1x64x128.size (inbC hmb hj)).toLoadRect (View.loadsAt_vmem h_S1x64x128))
  let v177 : Vec F S256x256 .bf16 ← Prog.lift (.load A.arg15 (Rect.unit (s := S256x256) ![0, 0] S256x256.size inb_S256x256_S256x256_0_0).toLoadRect (View.loadsAt_vmem h_S256x256))
  let v179 : Vec F S64x128 .f32 ← Prog.lift (.load A.arg22 (Rect.unit (s := S128x128) ![64 * mb, 0] S64x128.size (inbR hmb)).toLoadRect (View.loadsAt_vmem h_S64x128))
  let v181 : Vec F S1x256 .f32 ← Prog.lift (.load A.arg23 (Rect.unit (s := S1x2880) ![0, 256 * j] S1x256.size (inbN hj)).toLoadRect (View.loadsAt_vmem h_S1x256))
  let v186 : FVec F S64x256 .f32 := tU_vp v89 v159 v177 v179 v181
  let _v188 : Vec F S1x64x256 .f32 ← Prog.lift (.load A.arg18 (Rect.unit (s := S6x128x2880) ![vs, 64 * mb, 256 * j] S1x64x256.size (inbV hvs hmb hj)).toLoadRect (View.loadsAt_vmem h_S1x64x256))
  Prog.lift (.store A.arg18 (Rect.unit (s := S6x128x2880) ![vs, 64 * mb, 256 * j] S1x64x256.size (inbV hvs hmb hj)) (tU_v v186) Finset.univ (View.stores_vmem_bits_univ h_S1x64x256 rfl) (.inl rfl))
  let v208 : Vec F S1x8x256 .f32 ← Prog.lift (.load A.arg20 (Rect.unit (s := S2x8x2880) ![cp, 0, 256 * j] S1x8x256.size (inbM hcp hj)).toLoadRect (View.loadsAt_vmem h_S1x8x256))
  let _v222 : Vec F S1x8x256 .f32 ← Prog.lift (.load A.arg20 (Rect.unit (s := S2x8x2880) ![cp, 0, 256 * j] S1x8x256.size (inbM hcp hj)).toLoadRect (View.loadsAt_vmem h_S1x8x256))
  Prog.lift (.store A.arg20 (Rect.unit (s := S2x8x2880) ![cp, 0, 256 * j] S1x8x256.size (inbM hcp hj)) (tU_cmax v186 v208) Finset.univ (View.stores_vmem_bits_univ h_S1x8x256 rfl) (.inl rfl))
  let v236 : Vec F S1x64x256 .bf16 ← Prog.lift (.load A.arg2 (Rect.unit (s := S1x128x2880) ![0, 64 * mb, 256 * j] S1x64x256.size (inbB hmb hj)).toLoadRect (View.loadsAt_vmem h_S1x64x256))
  let _v242 : Vec F S1x64x256 .f32 ← Prog.lift (.load A.arg9 (Rect.unit (s := S1x128x2880) ![0, 64 * mb, 256 * j] S1x64x256.size (inbB hmb hj)).toLoadRect (View.loadsAt_vmem h_S1x64x256))
  Prog.lift (.store A.arg9 (Rect.unit (s := S1x128x2880) ![0, 64 * mb, 256 * j] S1x64x256.size (inbB hmb hj)) (tU_dw v111 v186 v236 v60 v61) Finset.univ (View.stores_vmem_bits_univ h_S1x64x256 rfl) (.inl rfl))
  pure (tU_rmax v186 v72)

def tileUS (vs : ℕ) (cp : ℕ) (mb : ℕ) (j : ℕ) (hvs : vs < 6) (hcp : cp < 2) (hmb : mb < 2) (hj : j < 11) (v60 : Vec F S1x128 .f32) (v61 : Vec F S1x128 .f32) (v72 : FVec F S64x128 .f32) (S : St F) : St F × (FVec F S64x128 .f32) :=
  let v89 : Vec F S1x64x256 .bf16 := VecWindow.window (s := S1x128x2880) S.a3 ![0, 64 * mb, 256 * j] S1x64x256.size (inbB hmb hj)
  let v92 : Vec F S1x64x128 .i8 := VecWindow.window (s := S1x128x1440) S.a4 ![0, 64 * mb, 128 * j] S1x64x128.size (inbC hmb hj)
  let v106 : Vec F S256x256 .bf16 := VecWindow.window (s := S256x256) S.a15 ![0, 0] S256x256.size inb_S256x256_S256x256_0_0
  let v108 : Vec F S1x256 .f32 := VecWindow.window (s := S2x2880) S.a24 ![0, 256 * j] S1x256.size (inbS0 hj)
  let v111 : FVec F S64x256 .f32 := tU_mp v89 v92 v106 v108
  let S : St F := { S with a24 := VecWindow.put (s := S2x2880) S.a24 ![1, 256 * j] S1x256.size (tU_sc v111) }
  let v146 : Vec F S256x128 .bf16 := VecWindow.window (s := S256x128) S.a16 ![0, 0] S256x128.size inb_S256x128_S256x128_0_0
  let S : St F := { S with a10 := VecWindow.put (s := S1x128x1440) S.a10 ![0, 64 * mb, 128 * j] S1x64x128.size (tU_m v111 v146) }
  let v159 : Vec F S1x64x128 .i8 := VecWindow.window (s := S1x128x1440) S.a6 ![0, 64 * mb, 128 * j] S1x64x128.size (inbC hmb hj)
  let v177 : Vec F S256x256 .bf16 := VecWindow.window (s := S256x256) S.a15 ![0, 0] S256x256.size inb_S256x256_S256x256_0_0
  let v179 : Vec F S64x128 .f32 := VecWindow.window (s := S128x128) S.a22 ![64 * mb, 0] S64x128.size (inbR hmb)
  let v181 : Vec F S1x256 .f32 := VecWindow.window (s := S1x2880) S.a23 ![0, 256 * j] S1x256.size (inbN hj)
  let v186 : FVec F S64x256 .f32 := tU_vp v89 v159 v177 v179 v181
  let S : St F := { S with a18 := VecWindow.put (s := S6x128x2880) S.a18 ![vs, 64 * mb, 256 * j] S1x64x256.size (tU_v v186) }
  let v208 : Vec F S1x8x256 .f32 := VecWindow.window (s := S2x8x2880) S.a20 ![cp, 0, 256 * j] S1x8x256.size (inbM hcp hj)
  let S : St F := { S with a20 := VecWindow.put (s := S2x8x2880) S.a20 ![cp, 0, 256 * j] S1x8x256.size (tU_cmax v186 v208) }
  let v236 : Vec F S1x64x256 .bf16 := VecWindow.window (s := S1x128x2880) S.a2 ![0, 64 * mb, 256 * j] S1x64x256.size (inbB hmb hj)
  let S : St F := { S with a9 := VecWindow.put (s := S1x128x2880) S.a9 ![0, 64 * mb, 256 * j] S1x64x256.size (tU_dw v111 v186 v236 v60 v61) }
  (S, (tU_rmax v186 v72))

theorem tileU_runs (c : Dev nD) (A : Mems) (vs : ℕ) (cp : ℕ) (mb : ℕ) (j : ℕ) (hvs : vs < 6) (hcp : cp < 2) (hmb : mb < 2) (hj : j < 11) (v60 : Vec F S1x128 .f32) (v61 : Vec F S1x128 .f32) (v72 : FVec F S64x128 .f32) (S : St F) :
    Runs defs₀ Variants.none (c : Thread nD τ) (Pst c A) (tileU A vs cp mb j hvs hcp hmb hj v60 v61 v72) S (tileUS vs cp mb j hvs hcp hmb hj v60 v61 v72 S).1 (tileUS vs cp mb j hvs hcp hmb hj v60 v61 v72 S).2 := by
  unfold tileU
  refine Runs.load (cell3 A c) ?_
  refine Runs.load (cell4 A c) ?_
  refine Runs.load (cell15 A c) ?_
  refine Runs.load (cell24 A c) ?_
  refine Runs.load (cell24 A c) ?_
  refine Runs.store (cell24 A c) ?_
  refine Runs.load (cell16 A c) ?_
  refine Runs.load (cell10 A c) ?_
  refine Runs.store (cell10 A c) ?_
  refine Runs.load (cell6 A c) ?_
  refine Runs.load (cell15 A c) ?_
  refine Runs.load (cell22 A c) ?_
  refine Runs.load (cell23 A c) ?_
  refine Runs.load (cell18 A c) ?_
  refine Runs.store (cell18 A c) ?_
  refine Runs.load (cell20 A c) ?_
  refine Runs.load (cell20 A c) ?_
  refine Runs.store (cell20 A c) ?_
  refine Runs.load (cell2 A c) ?_
  refine Runs.load (cell9 A c) ?_
  refine Runs.store (cell9 A c) ?_
  exact Runs.ret _ _

/-! ### The last tile of the update -/

def tUl_mp (v1805 : Vec F S1x64x64 .bf16) (v1808 : Vec F S1x64x32 .i8) (v1821 : Vec F S32x64 .bf16) (v1823 : Vec F S32x64 .bf16) (v1826 : Vec F S1x64 .f32) : FVec F S64x64 .f32 :=
  let v1809 : IVec S64x32 8 := shapeCast S64x32 v1808 shapeCasts_S1x64x32_S64x32
  let v1810 : IVec S16x32 32 := bitcast S16x32 32 v1809 bitcasts_S64x32_w8_S16x32_w32
  let c4_i32_893 : BitVec 32 := 4#32
  let v1811 : IVec S16x32 32 := broadcast S16x32 c4_i32_893
  let v1812 : IVec S16x32 32 := shli v1810 v1811
  let c_m252645136_i32_894 : BitVec 32 := 4042322160#32
  let v1813 : IVec S16x32 32 := broadcast S16x32 c_m252645136_i32_894
  let v1814 : IVec S16x32 32 := andi v1812 v1813
  let v1817 : IVec S64x32 8 := bitcast S64x32 8 v1814 bitcasts_S16x32_w32_S64x32_w8
  let v1818 : FVec F S64x32 .bf16 := sitofp .bf16 v1817
  let cst_898 : FVec F S64x64 .f32 := constant S64x64 .f32 0x00000000#32
  let v1822 : FVec F S64x64 .f32 := matmul dot_S64x32_S32x64_S64x64_1_0_0_1_n_n none v1818 v1821 cst_898
  let c_m252645136_i32_895 : BitVec 32 := 4042322160#32
  let v1815 : IVec S16x32 32 := broadcast S16x32 c_m252645136_i32_895
  let v1816 : IVec S16x32 32 := andi v1810 v1815
  let v1819 : IVec S64x32 8 := bitcast S64x32 8 v1816 bitcasts_S16x32_w32_S64x32_w8
  let v1820 : FVec F S64x32 .bf16 := sitofp .bf16 v1819
  let cst_901 : FVec F S64x64 .f32 := constant S64x64 .f32 0x00000000#32
  let v1824 : FVec F S64x64 .f32 := matmul dot_S64x32_S32x64_S64x64_1_0_0_1_n_n none v1820 v1823 cst_901
  let v1825 : FVec F S64x64 .f32 := addf v1822 v1824
  let v1827 : FVec F S64x64 .f32 := broadcastTo S64x64 v1826 broadcasts_S1x64_S64x64
  let v1828 : FVec F S64x64 .f32 := mulf v1825 v1827
  let v1806 : FVec F S64x64 .bf16 := shapeCast S64x64 v1805 shapeCasts_S1x64x64_S64x64
  let v1807 : FVec F S64x64 .f32 := extf .f32 v1806 bitsLt_bf16_f32
  addf v1828 v1807

def tUl_vp (v1805 : Vec F S1x64x64 .bf16) (v1877 : Vec F S1x64x32 .i8) (v1894 : Vec F S32x64 .bf16) (v1896 : Vec F S32x64 .bf16) (v1899 : Vec F S64x128 .f32) (v1901 : Vec F S1x64 .f32) : FVec F S64x64 .f32 :=
  let v1878 : IVec S64x32 8 := shapeCast S64x32 v1877 shapeCasts_S1x64x32_S64x32
  let v1879 : IVec S16x32 32 := bitcast S16x32 32 v1878 bitcasts_S64x32_w8_S16x32_w32
  let c252645135_i32_930 : BitVec 32 := 252645135#32
  let v1880 : IVec S16x32 32 := broadcast S16x32 c252645135_i32_930
  let v1881 : IVec S16x32 32 := andi v1879 v1880
  let c16843009_i32_931 : BitVec 32 := 16843009#32
  let v1882 : IVec S16x32 32 := broadcast S16x32 c16843009_i32_931
  let v1883 : IVec S16x32 32 := addi v1881 v1882
  let v1890 : IVec S64x32 8 := bitcast S64x32 8 v1883 bitcasts_S16x32_w32_S64x32_w8
  let v1891 : FVec F S64x32 .bf16 := sitofp .bf16 v1890
  let cst_937 : FVec F S64x64 .f32 := constant S64x64 .f32 0x00000000#32
  let v1895 : FVec F S64x64 .f32 := matmul dot_S64x32_S32x64_S64x64_1_0_0_1_n_n none v1891 v1894 cst_937
  let c4_i32_932 : BitVec 32 := 4#32
  let v1884 : IVec S16x32 32 := broadcast S16x32 c4_i32_932
  let v1885 : IVec S16x32 32 := shrsi v1879 v1884
  let c252645135_i32_933 : BitVec 32 := 252645135#32
  let v1886 : IVec S16x32 32 := broadcast S16x32 c252645135_i32_933
  let v1887 : IVec S16x32 32 := andi v1885 v1886
  let c16843009_i32_934 : BitVec 32 := 16843009#32
  let v1888 : IVec S16x32 32 := broadcast S16x32 c16843009_i32_934
  let v1889 : IVec S16x32 32 := addi v1887 v1888
  let v1892 : IVec S64x32 8 := bitcast S64x32 8 v1889 bitcasts_S16x32_w32_S64x32_w8
  let v1893 : FVec F S64x32 .bf16 := sitofp .bf16 v1892
  let cst_940 : FVec F S64x64 .f32 := constant S64x64 .f32 0x00000000#32
  let v1897 : FVec F S64x64 .f32 := matmul dot_S64x32_S32x64_S64x64_1_0_0_1_n_n none v1893 v1896 cst_940
  let v1898 : FVec F S64x64 .f32 := addf v1895 v1897
  let v1900 : FVec F S64x64 .f32 := extractStridedSlice S64x64 ![0, 0] v1899 slices_S64x128_o0_0_S64x64
  let v1902 : FVec F S64x64 .f32 := broadcastTo S64x64 v1901 broadcasts_S1x64_S64x64
  let v1903 : FVec F S64x64 .f32 := minimumf v1900 v1902
  let v1904 : FVec F S64x64 .f32 := mulf v1898 v1903
  let v1806 : FVec F S64x64 .bf16 := shapeCast S64x64 v1805 shapeCasts_S1x64x64_S64x64
  let v1807 : FVec F S64x64 .f32 := extf .f32 v1806 bitsLt_bf16_f32
  let v1905 : FVec F S64x64 .f32 := mulf v1807 v1807
  addf v1904 v1905

def tUl_sc (v1829 : FVec F S64x64 .f32) : FVec F S1x64 .f32 :=
  let v1830 : FVec F S64x64 .f32 := absf v1829
  let v1831 : FVec F S64 .f32 := multiReduction .maximumf [0] S64 v1830 0xFF800000#32 reduces_S64x64_S64 (.inl rfl) rfl
  let v1832 : FVec F S1x64 .f32 := shapeCast S1x64 v1831 shapeCasts_S64_S1x64
  let cst_908 : F .f32 := Scalar.ofBits .f32 0x00000000#32
  let v1839 : FVec F S1x64 .f32 := broadcast S1x64 cst_908
  let v1840 : IVec S1x64 1 := cmpf .oeq v1832 v1839
  let cst_910 : F .f32 := Scalar.ofBits .f32 0x3F800000#32
  let v1843 : FVec F S1x64 .f32 := broadcast S1x64 cst_910
  let cst_909 : F .f32 := Named.named κ "seventieth" 0x3C6A0EA1#32
  let v1841 : FVec F S1x64 .f32 := broadcast S1x64 cst_909
  let v1842 : FVec F S1x64 .f32 := mulf v1832 v1841
  let v1844 : FVec F S1x64 .f32 := select v1840 v1843 v1842
  shapeCast S1x64 v1844 shapeCasts_S1x64_S1x64

def tUl_m (v1829 : FVec F S64x64 .f32) (v1864 : Vec F S64x32 .bf16) : IVec S1x64x32 8 :=
  let cst_913 : F .f32 := Scalar.ofBits .f32 0x3F800000#32
  let v1848 : FVec F S1x64 .f32 := broadcast S1x64 cst_913
  let v1830 : FVec F S64x64 .f32 := absf v1829
  let v1831 : FVec F S64 .f32 := multiReduction .maximumf [0] S64 v1830 0xFF800000#32 reduces_S64x64_S64 (.inl rfl) rfl
  let v1832 : FVec F S1x64 .f32 := shapeCast S1x64 v1831 shapeCasts_S64_S1x64
  let cst_905 : F .f32 := Scalar.ofBits .f32 0x00000000#32
  let v1833 : FVec F S1x64 .f32 := broadcast S1x64 cst_905
  let v1834 : IVec S1x64 1 := cmpf .oeq v1832 v1833
  let cst_907 : F .f32 := Scalar.ofBits .f32 0x3F800000#32
  let v1837 : FVec F S1x64 .f32 := broadcast S1x64 cst_907
  let cst_906 : F .f32 := Named.named κ "seventh" 0x3E124925#32
  let v1835 : FVec F S1x64 .f32 := broadcast S1x64 cst_906
  let v1836 : FVec F S1x64 .f32 := mulf v1832 v1835
  let v1838 : FVec F S1x64 .f32 := select v1834 v1837 v1836
  let v1849 : FVec F S1x64 .f32 := divf v1848 v1838
  let v1850 : FVec F S64x64 .f32 := broadcastTo S64x64 v1849 broadcasts_S1x64_S64x64
  let v1851 : FVec F S64x64 .f32 := mulf v1829 v1850
  let cst_914 : F .f32 := Scalar.ofBits .f32 0x4B404308#32
  let v1852 : FVec F S64x64 .f32 := broadcast S64x64 cst_914
  let v1853 : FVec F S64x64 .f32 := addf v1851 v1852
  let cst_915 : F .f32 := Scalar.ofBits .f32 0x4B400000#32
  let v1854 : FVec F S64x64 .f32 := broadcast S64x64 cst_915
  let v1855 : FVec F S64x64 .f32 := subf v1853 v1854
  let v1856 : FVec F S64x64 .f32 := roundeven v1855
  let cst_916 : F .f32 := Scalar.ofBits .f32 0x46850000#32
  let v1857 : FVec F S64x64 .f32 := broadcast S64x64 cst_916
  let v1858 : FVec F S64x64 .f32 := subf v1856 v1857
  let v1859 : FVec F S64x64 .bf16 := truncf .bf16 v1858 bitsLt_bf16_f32
  let cst_917 : F .bf16 := Scalar.ofBits .bf16 0x4301#16
  let v1860 : FVec F S64x64 .bf16 := broadcast S64x64 cst_917
  let v1861 : FVec F S64x64 .bf16 := maximumf v1859 v1860
  let cst_918 : F .bf16 := Scalar.ofBits .bf16 0x430F#16
  let v1862 : FVec F S64x64 .bf16 := broadcast S64x64 cst_918
  let v1863 : FVec F S64x64 .bf16 := minimumf v1861 v1862
  let cst_921 : FVec F S64x32 .f32 := constant S64x32 .f32 0x00000000#32
  let v1865 : FVec F S64x32 .f32 := matmul dot_S64x64_S64x32_S64x32_1_0_0_1_n_n none v1863 v1864 cst_921
  let cst_922 : F .f32 := Scalar.ofBits .f32 0x45080000#32
  let v1866 : FVec F S64x32 .f32 := broadcast S64x32 cst_922
  let v1867 : FVec F S64x32 .f32 := subf v1865 v1866
  let v1868 : IVec S64x32 32 := fptosi 32 v1867
  let v1869 : IVec S64x32 8 := trunci 8 v1868 natLt_8_32
  let v1870 : IVec S16x32 32 := bitcast S16x32 32 v1869 bitcasts_S64x32_w8_S16x32_w32
  let c_m2004318072_i32_923 : BitVec 32 := 2290649224#32
  let v1871 : IVec S16x32 32 := broadcast S16x32 c_m2004318072_i32_923
  let v1872 : IVec S16x32 32 := xori v1870 v1871
  let v1873 : IVec S64x32 8 := bitcast S64x32 8 v1872 bitcasts_S16x32_w32_S64x32_w8
  shapeCast S1x64x32 v1873 shapeCasts_S64x32_S1x64x32

def tUl_v (v1906 : FVec F S64x64 .f32) : FVec F S1x64x64 .f32 :=
  shapeCast S1x64x64 v1906 shapeCasts_S64x64_S1x64x64

def tUl_cmax (v1906 : FVec F S64x64 .f32) (v1928 : Vec F S1x8x64 .f32) : FVec F S1x8x64 .f32 :=
  let v1929 : FVec F S8x64 .f32 := shapeCast S8x64 v1928 shapeCasts_S1x8x64_S8x64
  let v1915 : FVec F S8x8x64 .f32 := shapeCast S8x8x64 v1906 shapeCasts_S64x64_S8x8x64
  let v1916 : FVec F S8x64 .f32 := multiReduction .maximumf [0] S8x64 v1915 0xFF800000#32 reduces_S8x8x64_S8x64 (.inl rfl) rfl
  let v1930 : FVec F S8x64 .f32 := maximumf v1929 v1916
  shapeCast S1x8x64 v1930 shapeCasts_S8x64_S1x8x64

def tUl_dw (v1829 : FVec F S64x64 .f32) (v1906 : FVec F S64x64 .f32) (v1956 : Vec F S1x64x64 .bf16) (v60 : Vec F S1x128 .f32) (v61 : Vec F S1x128 .f32) : FVec F S1x64x64 .f32 :=
  let v1945 : FVec F S64x64 .f32 := rsqrt v1906
  let v1946 : FVec F S64x64 .f32 := mulf v1829 v1945
  let cst_965 : F .f32 := Scalar.ofBits .f32 0x3F800000#32
  let v1953 : FVec F S64x64 .f32 := broadcast S64x64 cst_965
  let v1947 : FVec F S1x64 .f32 := extractStridedSlice S1x64 ![0, 0] v60 slices_S1x128_o0_0_S1x64
  let v1951 : FVec F S64x64 .f32 := broadcastTo S64x64 v1947 broadcasts_S1x64_S64x64
  let v1948 : FVec F S1x64 .f32 := extractStridedSlice S1x64 ![0, 0] v61 slices_S1x128_o0_0_S1x64
  let v1949 : FVec F S64x64 .f32 := broadcastTo S64x64 v1948 broadcasts_S1x64_S64x64
  let v1950 : FVec F S64x64 .f32 := mulf v1949 v1945
  let v1952 : FVec F S64x64 .f32 := addf v1951 v1950
  let v1954 : FVec F S64x64 .f32 := divf v1953 v1952
  let v1955 : FVec F S64x64 .f32 := mulf v1946 v1954
  let v1957 : FVec F S64x64 .bf16 := shapeCast S64x64 v1956 shapeCasts_S1x64x64_S64x64
  let v1958 : FVec F S64x64 .f32 := extf .f32 v1957 bitsLt_bf16_f32
  let cst_969 : F .f32 := Named.named κ "lr_decay" 0x37FBA882#32
  let v1959 : FVec F S64x64 .f32 := broadcast S64x64 cst_969
  let v1960 : FVec F S64x64 .f32 := mulf v1958 v1959
  let v1961 : FVec F S64x64 .f32 := addf v1955 v1960
  shapeCast S1x64x64 v1961 shapeCasts_S64x64_S1x64x64

def tUl_rmax (v1906 : FVec F S64x64 .f32) (v1754 : FVec F S64x128 .f32) : FVec F S64x128 .f32 :=
  let v1911 : FVec F S64 .f32 := multiReduction .maximumf [1] S64 v1906 0xFF800000#32 reduces_S64x64_S64_2 (.inl rfl) rfl
  let v1912 : FVec F S64x1 .f32 := shapeCast S64x1 v1911 shapeCasts_S64_S64x1
  let v1913 : FVec F S64x128 .f32 := broadcastTo S64x128 v1912 broadcasts_S64x1_S64x128
  maximumf v1754 v1913

def tileUl (A : Mems) (vs : ℕ) (cp : ℕ) (mb : ℕ) (hvs : vs < 6) (hcp : cp < 2) (hmb : mb < 2) (v60 : Vec F S1x128 .f32) (v61 : Vec F S1x128 .f32) (v1754 : FVec F S64x128 .f32) : Prog (TpuEff nD τ sig (Elt F) Λ₀ .tc) (FVec F S64x128 .f32) := do
  let v1805 : Vec F S1x64x64 .bf16 ← Prog.lift (.load A.arg3 (Rect.unit (s := S1x128x2880) ![0, 64 * mb, 2816] S1x64x64.size (inbBl hmb)).toLoadRect (View.loadsAt_vmem h_S1x64x64))
  let v1808 : Vec F S1x64x32 .i8 ← Prog.lift (.load A.arg4 (Rect.unit (s := S1x128x1440) ![0, 64 * mb, 1408] S1x64x32.size (inbCl hmb)).toLoadRect (View.loadsAt_vmem h_S1x64x32))
  let v1821 : Vec F S32x64 .bf16 ← Prog.lift (.load A.arg15 (Rect.unit (s := S256x256) ![0, 0] S32x64.size inb_S256x256_S32x64_0_0).toLoadRect (View.loadsAt_vmem h_S32x64))
  let v1823 : Vec F S32x64 .bf16 ← Prog.lift (.load A.arg15 (Rect.unit (s := S256x256) ![128, 0] S32x64.size inb_S256x256_S32x64_128_0).toLoadRect (View.loadsAt_vmem h_S32x64))
  let v1826 : Vec F S1x64 .f32 ← Prog.lift (.load A.arg24 (Rect.unit (s := S2x2880) ![0, 2816] S1x64.size inb_S2x2880_S1x64_0_2816).toLoadRect (View.loadsAt_vmem h_S1x64))
  let v1829 : FVec F S64x64 .f32 := tUl_mp v1805 v1808 v1821 v1823 v1826
  let _v1845 : Vec F S1x64 .f32 ← Prog.lift (.load A.arg24 (Rect.unit (s := S2x2880) ![1, 2816] S1x64.size inb_S2x2880_S1x64_1_2816).toLoadRect (View.loadsAt_vmem h_S1x64))
  Prog.lift (.store A.arg24 (Rect.unit (s := S2x2880) ![1, 2816] S1x64.size inb_S2x2880_S1x64_1_2816) (tUl_sc v1829) Finset.univ (View.stores_vmem_bits_univ h_S1x64 rfl) (.inl rfl))
  let v1864 : Vec F S64x32 .bf16 ← Prog.lift (.load A.arg16 (Rect.unit (s := S256x128) ![0, 0] S64x32.size inb_S256x128_S64x32_0_0).toLoadRect (View.loadsAt_vmem h_S64x32))
  let _v1874 : Vec F S1x64x32 .i8 ← Prog.lift (.load A.arg10 (Rect.unit (s := S1x128x1440) ![0, 64 * mb, 1408] S1x64x32.size (inbCl hmb)).toLoadRect (View.loadsAt_vmem h_S1x64x32))
  Prog.lift (.store A.arg10 (Rect.unit (s := S1x128x1440) ![0, 64 * mb, 1408] S1x64x32.size (inbCl hmb)) (tUl_m v1829 v1864) Finset.univ (View.stores_vmem h_S1x64x32 (A.harg10.storeExact_slice rfl _ (packedCl hmb)) (fun _ => rfl)) (.inl rfl))
  let v1877 : Vec F S1x64x32 .i8 ← Prog.lift (.load A.arg6 (Rect.unit (s := S1x128x1440) ![0, 64 * mb, 1408] S1x64x32.size (inbCl hmb)).toLoadRect (View.loadsAt_vmem h_S1x64x32))
  let v1894 : Vec F S32x64 .bf16 ← Prog.lift (.load A.arg15 (Rect.unit (s := S256x256) ![0, 0] S32x64.size inb_S256x256_S32x64_0_0).toLoadRect (View.loadsAt_vmem h_S32x64))
  let v1896 : Vec F S32x64 .bf16 ← Prog.lift (.load A.arg15 (Rect.unit (s := S256x256) ![128, 0] S32x64.size inb_S256x256_S32x64_128_0).toLoadRect (View.loadsAt_vmem h_S32x64))
  let v1899 : Vec F S64x128 .f32 ← Prog.lift (.load A.arg22 (Rect.unit (s := S128x128) ![64 * mb, 0] S64x128.size (inbR hmb)).toLoadRect (View.loadsAt_vmem h_S64x128))
  let v1901 : Vec F S1x64 .f32 ← Prog.lift (.load A.arg23 (Rect.unit (s := S1x2880) ![0, 2816] S1x64.size inb_S1x2880_S1x64_0_2816).toLoadRect (View.loadsAt_vmem h_S1x64))
  let v1906 : FVec F S64x64 .f32 := tUl_vp v1805 v1877 v1894 v1896 v1899 v1901
  let _v1908 : Vec F S1x64x64 .f32 ← Prog.lift (.load A.arg18 (Rect.unit (s := S6x128x2880) ![vs, 64 * mb, 2816] S1x64x64.size (inbVl hvs hmb)).toLoadRect (View.loadsAt_vmem h_S1x64x64))
  Prog.lift (.store A.arg18 (Rect.unit (s := S6x128x2880) ![vs, 64 * mb, 2816] S1x64x64.size (inbVl hvs hmb)) (tUl_v v1906) Finset.univ (View.stores_vmem_bits_univ h_S1x64x64 rfl) (.inl rfl))
  let v1928 : Vec F S1x8x64 .f32 ← Prog.lift (.load A.arg20 (Rect.unit (s := S2x8x2880) ![cp, 0, 2816] S1x8x64.size (inbMl hcp)).toLoadRect (View.loadsAt_vmem h_S1x8x64))
  let _v1942 : Vec F S1x8x64 .f32 ← Prog.lift (.load A.arg20 (Rect.unit (s := S2x8x2880) ![cp, 0, 2816] S1x8x64.size (inbMl hcp)).toLoadRect (View.loadsAt_vmem h_S1x8x64))
  Prog.lift (.store A.arg20 (Rect.unit (s := S2x8x2880) ![cp, 0, 2816] S1x8x64.size (inbMl hcp)) (tUl_cmax v1906 v1928) Finset.univ (View.stores_vmem_bits_univ h_S1x8x64 rfl) (.inl rfl))
  let v1956 : Vec F S1x64x64 .bf16 ← Prog.lift (.load A.arg2 (Rect.unit (s := S1x128x2880) ![0, 64 * mb, 2816] S1x64x64.size (inbBl hmb)).toLoadRect (View.loadsAt_vmem h_S1x64x64))
  let _v1962 : Vec F S1x64x64 .f32 ← Prog.lift (.load A.arg9 (Rect.unit (s := S1x128x2880) ![0, 64 * mb, 2816] S1x64x64.size (inbBl hmb)).toLoadRect (View.loadsAt_vmem h_S1x64x64))
  Prog.lift (.store A.arg9 (Rect.unit (s := S1x128x2880) ![0, 64 * mb, 2816] S1x64x64.size (inbBl hmb)) (tUl_dw v1829 v1906 v1956 v60 v61) Finset.univ (View.stores_vmem_bits_univ h_S1x64x64 rfl) (.inl rfl))
  pure (tUl_rmax v1906 v1754)

def tileUlS (vs : ℕ) (cp : ℕ) (mb : ℕ) (hvs : vs < 6) (hcp : cp < 2) (hmb : mb < 2) (v60 : Vec F S1x128 .f32) (v61 : Vec F S1x128 .f32) (v1754 : FVec F S64x128 .f32) (S : St F) : St F × (FVec F S64x128 .f32) :=
  let v1805 : Vec F S1x64x64 .bf16 := VecWindow.window (s := S1x128x2880) S.a3 ![0, 64 * mb, 2816] S1x64x64.size (inbBl hmb)
  let v1808 : Vec F S1x64x32 .i8 := VecWindow.window (s := S1x128x1440) S.a4 ![0, 64 * mb, 1408] S1x64x32.size (inbCl hmb)
  let v1821 : Vec F S32x64 .bf16 := VecWindow.window (s := S256x256) S.a15 ![0, 0] S32x64.size inb_S256x256_S32x64_0_0
  let v1823 : Vec F S32x64 .bf16 := VecWindow.window (s := S256x256) S.a15 ![128, 0] S32x64.size inb_S256x256_S32x64_128_0
  let v1826 : Vec F S1x64 .f32 := VecWindow.window (s := S2x2880) S.a24 ![0, 2816] S1x64.size inb_S2x2880_S1x64_0_2816
  let v1829 : FVec F S64x64 .f32 := tUl_mp v1805 v1808 v1821 v1823 v1826
  let S : St F := { S with a24 := VecWindow.put (s := S2x2880) S.a24 ![1, 2816] S1x64.size (tUl_sc v1829) }
  let v1864 : Vec F S64x32 .bf16 := VecWindow.window (s := S256x128) S.a16 ![0, 0] S64x32.size inb_S256x128_S64x32_0_0
  let S : St F := { S with a10 := VecWindow.put (s := S1x128x1440) S.a10 ![0, 64 * mb, 1408] S1x64x32.size (tUl_m v1829 v1864) }
  let v1877 : Vec F S1x64x32 .i8 := VecWindow.window (s := S1x128x1440) S.a6 ![0, 64 * mb, 1408] S1x64x32.size (inbCl hmb)
  let v1894 : Vec F S32x64 .bf16 := VecWindow.window (s := S256x256) S.a15 ![0, 0] S32x64.size inb_S256x256_S32x64_0_0
  let v1896 : Vec F S32x64 .bf16 := VecWindow.window (s := S256x256) S.a15 ![128, 0] S32x64.size inb_S256x256_S32x64_128_0
  let v1899 : Vec F S64x128 .f32 := VecWindow.window (s := S128x128) S.a22 ![64 * mb, 0] S64x128.size (inbR hmb)
  let v1901 : Vec F S1x64 .f32 := VecWindow.window (s := S1x2880) S.a23 ![0, 2816] S1x64.size inb_S1x2880_S1x64_0_2816
  let v1906 : FVec F S64x64 .f32 := tUl_vp v1805 v1877 v1894 v1896 v1899 v1901
  let S : St F := { S with a18 := VecWindow.put (s := S6x128x2880) S.a18 ![vs, 64 * mb, 2816] S1x64x64.size (tUl_v v1906) }
  let v1928 : Vec F S1x8x64 .f32 := VecWindow.window (s := S2x8x2880) S.a20 ![cp, 0, 2816] S1x8x64.size (inbMl hcp)
  let S : St F := { S with a20 := VecWindow.put (s := S2x8x2880) S.a20 ![cp, 0, 2816] S1x8x64.size (tUl_cmax v1906 v1928) }
  let v1956 : Vec F S1x64x64 .bf16 := VecWindow.window (s := S1x128x2880) S.a2 ![0, 64 * mb, 2816] S1x64x64.size (inbBl hmb)
  let S : St F := { S with a9 := VecWindow.put (s := S1x128x2880) S.a9 ![0, 64 * mb, 2816] S1x64x64.size (tUl_dw v1829 v1906 v1956 v60 v61) }
  (S, (tUl_rmax v1906 v1754))

theorem tileUl_runs (c : Dev nD) (A : Mems) (vs : ℕ) (cp : ℕ) (mb : ℕ) (hvs : vs < 6) (hcp : cp < 2) (hmb : mb < 2) (v60 : Vec F S1x128 .f32) (v61 : Vec F S1x128 .f32) (v1754 : FVec F S64x128 .f32) (S : St F) :
    Runs defs₀ Variants.none (c : Thread nD τ) (Pst c A) (tileUl A vs cp mb hvs hcp hmb v60 v61 v1754) S (tileUlS vs cp mb hvs hcp hmb v60 v61 v1754 S).1 (tileUlS vs cp mb hvs hcp hmb v60 v61 v1754 S).2 := by
  unfold tileUl
  refine Runs.load (cell3 A c) ?_
  refine Runs.load (cell4 A c) ?_
  refine Runs.load (cell15 A c) ?_
  refine Runs.load (cell15 A c) ?_
  refine Runs.load (cell24 A c) ?_
  refine Runs.load (cell24 A c) ?_
  refine Runs.store (cell24 A c) ?_
  refine Runs.load (cell16 A c) ?_
  refine Runs.load (cell10 A c) ?_
  refine Runs.store (cell10 A c) ?_
  refine Runs.load (cell6 A c) ?_
  refine Runs.load (cell15 A c) ?_
  refine Runs.load (cell15 A c) ?_
  refine Runs.load (cell22 A c) ?_
  refine Runs.load (cell23 A c) ?_
  refine Runs.load (cell18 A c) ?_
  refine Runs.store (cell18 A c) ?_
  refine Runs.load (cell20 A c) ?_
  refine Runs.load (cell20 A c) ?_
  refine Runs.store (cell20 A c) ?_
  refine Runs.load (cell2 A c) ?_
  refine Runs.load (cell9 A c) ?_
  refine Runs.store (cell9 A c) ?_
  exact Runs.ret _ _

/-! ### A tile of the requantisation -/

def tR_v (v59 : Vec F S1x64x128 .f32) (v63 : Vec F S1x1x256 .f32) (v68 : Vec F S1x64x256 .f32) (v83 : Vec F S256x128 .bf16) : IVec S1x64x128 8 :=
  let v69 : FVec F S64x256 .f32 := shapeCast S64x256 v68 shapeCasts_S1x64x256_S64x256
  let v60 : FVec F S64x128 .f32 := shapeCast S64x128 v59 shapeCasts_S1x64x128_S64x128
  let v61 : FVec F S64x256 .f32 := concatenate S64x256 1 [⟨S64x128, v60⟩, ⟨S64x128, v60⟩] concatenates_S64x128_S64x128_S64x256_d1
  let v64 : FVec F S1x256 .f32 := shapeCast S1x256 v63 shapeCasts_S1x1x256_S1x256
  let v65 : FVec F S64x256 .f32 := broadcastTo S64x256 v64 broadcasts_S1x256_S64x256
  let v66 : FVec F S64x256 .f32 := maximumf v61 v65
  let v70 : FVec F S64x256 .f32 := mulf v69 v66
  let cst : F .f32 := Scalar.ofBits .f32 0x4B4042FF#32
  let v71 : FVec F S64x256 .f32 := broadcast S64x256 cst
  let v72 : FVec F S64x256 .f32 := addf v70 v71
  let cst_32 : F .f32 := Scalar.ofBits .f32 0x4B400000#32
  let v73 : FVec F S64x256 .f32 := broadcast S64x256 cst_32
  let v74 : FVec F S64x256 .f32 := subf v72 v73
  let v75 : FVec F S64x256 .f32 := roundeven v74
  let cst_33 : F .f32 := Scalar.ofBits .f32 0x46850000#32
  let v76 : FVec F S64x256 .f32 := broadcast S64x256 cst_33
  let v77 : FVec F S64x256 .f32 := subf v75 v76
  let v78 : FVec F S64x256 .bf16 := truncf .bf16 v77 bitsLt_bf16_f32
  let cst_34 : F .bf16 := Scalar.ofBits .bf16 0x4300#16
  let v79 : FVec F S64x256 .bf16 := broadcast S64x256 cst_34
  let v80 : FVec F S64x256 .bf16 := maximumf v78 v79
  let cst_35 : F .bf16 := Scalar.ofBits .bf16 0x430F#16
  let v81 : FVec F S64x256 .bf16 := broadcast S64x256 cst_35
  let v82 : FVec F S64x256 .bf16 := minimumf v80 v81
  let cst_38 : FVec F S64x128 .f32 := constant S64x128 .f32 0x00000000#32
  let v84 : FVec F S64x128 .f32 := matmul dot_S64x256_S256x128_S64x128_1_0_0_1_n_n none v82 v83 cst_38
  let cst_39 : F .f32 := Scalar.ofBits .f32 0x45080000#32
  let v85 : FVec F S64x128 .f32 := broadcast S64x128 cst_39
  let v86 : FVec F S64x128 .f32 := subf v84 v85
  let v87 : IVec S64x128 32 := fptosi 32 v86
  let v88 : IVec S64x128 8 := trunci 8 v87 natLt_8_32
  shapeCast S1x64x128 v88 shapeCasts_S64x128_S1x64x128

def tileR (A : Mems) (vs : ℕ) (cp : ℕ) (mb : ℕ) (j : ℕ) (hvs : vs < 6) (hcp : cp < 2) (hmb : mb < 2) (hj : j < 11)  : Prog (TpuEff nD τ sig (Elt F) Λ₀ .tc) (PUnit) := do
  let v59 : Vec F S1x64x128 .f32 ← Prog.lift (.load A.arg19 (Rect.unit (s := S6x128x128) ![vs, 64 * mb, 0] S1x64x128.size (inbI hvs hmb)).toLoadRect (View.loadsAt_vmem h_S1x64x128))
  let v63 : Vec F S1x1x256 .f32 ← Prog.lift (.load A.arg21 (Rect.unit (s := S2x1x2880) ![cp, 0, 256 * j] S1x1x256.size (inbK hcp hj)).toLoadRect (View.loadsAt_vmem h_S1x1x256))
  let v68 : Vec F S1x64x256 .f32 ← Prog.lift (.load A.arg18 (Rect.unit (s := S6x128x2880) ![vs, 64 * mb, 256 * j] S1x64x256.size (inbV hvs hmb hj)).toLoadRect (View.loadsAt_vmem h_S1x64x256))
  let v83 : Vec F S256x128 .bf16 ← Prog.lift (.load A.arg16 (Rect.unit (s := S256x128) ![0, 0] S256x128.size inb_S256x128_S256x128_0_0).toLoadRect (View.loadsAt_vmem h_S256x128))
  let _v89 : Vec F S1x64x128 .i8 ← Prog.lift (.load A.arg12 (Rect.unit (s := S1x128x1440) ![0, 64 * mb, 128 * j] S1x64x128.size (inbC hmb hj)).toLoadRect (View.loadsAt_vmem h_S1x64x128))
  Prog.lift (.store A.arg12 (Rect.unit (s := S1x128x1440) ![0, 64 * mb, 128 * j] S1x64x128.size (inbC hmb hj)) (tR_v v59 v63 v68 v83) Finset.univ (View.stores_vmem h_S1x64x128 (A.harg12.storeExact_slice rfl _ (packedC hmb hj)) (fun _ => rfl)) (.inl rfl))
  pure ⟨⟩

def tileRS (vs : ℕ) (cp : ℕ) (mb : ℕ) (j : ℕ) (hvs : vs < 6) (hcp : cp < 2) (hmb : mb < 2) (hj : j < 11)  (S : St F) : St F :=
  let v59 : Vec F S1x64x128 .f32 := VecWindow.window (s := S6x128x128) S.a19 ![vs, 64 * mb, 0] S1x64x128.size (inbI hvs hmb)
  let v63 : Vec F S1x1x256 .f32 := VecWindow.window (s := S2x1x2880) S.a21 ![cp, 0, 256 * j] S1x1x256.size (inbK hcp hj)
  let v68 : Vec F S1x64x256 .f32 := VecWindow.window (s := S6x128x2880) S.a18 ![vs, 64 * mb, 256 * j] S1x64x256.size (inbV hvs hmb hj)
  let v83 : Vec F S256x128 .bf16 := VecWindow.window (s := S256x128) S.a16 ![0, 0] S256x128.size inb_S256x128_S256x128_0_0
  let S : St F := { S with a12 := VecWindow.put (s := S1x128x1440) S.a12 ![0, 64 * mb, 128 * j] S1x64x128.size (tR_v v59 v63 v68 v83) }
  S

theorem tileR_runs (c : Dev nD) (A : Mems) (vs : ℕ) (cp : ℕ) (mb : ℕ) (j : ℕ) (hvs : vs < 6) (hcp : cp < 2) (hmb : mb < 2) (hj : j < 11)  (S : St F) :
    Runs defs₀ Variants.none (c : Thread nD τ) (Pst c A) (tileR A vs cp mb j hvs hcp hmb hj) S (tileRS vs cp mb j hvs hcp hmb hj S) ⟨⟩ := by
  unfold tileR
  refine Runs.load (cell19 A c) ?_
  refine Runs.load (cell21 A c) ?_
  refine Runs.load (cell18 A c) ?_
  refine Runs.load (cell16 A c) ?_
  refine Runs.load (cell12 A c) ?_
  refine Runs.store (cell12 A c) ?_
  exact Runs.ret _ _

/-! ### The last tile of the requantisation -/

def tRl_v (v433 : Vec F S1x64x128 .f32) (v437 : Vec F S1x1x64 .f32) (v442 : Vec F S1x64x64 .f32) (v457 : Vec F S64x32 .bf16) : IVec S1x64x32 8 :=
  let v443 : FVec F S64x64 .f32 := shapeCast S64x64 v442 shapeCasts_S1x64x64_S64x64
  let v434 : FVec F S64x128 .f32 := shapeCast S64x128 v433 shapeCasts_S1x64x128_S64x128
  let v435 : FVec F S64x64 .f32 := extractStridedSlice S64x64 ![0, 0] v434 slices_S64x128_o0_0_S64x64
  let v438 : FVec F S1x64 .f32 := shapeCast S1x64 v437 shapeCasts_S1x1x64_S1x64
  let v439 : FVec F S64x64 .f32 := broadcastTo S64x64 v438 broadcasts_S1x64_S64x64
  let v440 : FVec F S64x64 .f32 := maximumf v435 v439
  let v444 : FVec F S64x64 .f32 := mulf v443 v440
  let cst_213 : F .f32 := Scalar.ofBits .f32 0x4B4042FF#32
  let v445 : FVec F S64x64 .f32 := broadcast S64x64 cst_213
  let v446 : FVec F S64x64 .f32 := addf v444 v445
  let cst_214 : F .f32 := Scalar.ofBits .f32 0x4B400000#32
  let v447 : FVec F S64x64 .f32 := broadcast S64x64 cst_214
  let v448 : FVec F S64x64 .f32 := subf v446 v447
  let v449 : FVec F S64x64 .f32 := roundeven v448
  let cst_215 : F .f32 := Scalar.ofBits .f32 0x46850000#32
  let v450 : FVec F S64x64 .f32 := broadcast S64x64 cst_215
  let v451 : FVec F S64x64 .f32 := subf v449 v450
  let v452 : FVec F S64x64 .bf16 := truncf .bf16 v451 bitsLt_bf16_f32
  let cst_216 : F .bf16 := Scalar.ofBits .bf16 0x4300#16
  let v453 : FVec F S64x64 .bf16 := broadcast S64x64 cst_216
  let v454 : FVec F S64x64 .bf16 := maximumf v452 v453
  let cst_217 : F .bf16 := Scalar.ofBits .bf16 0x430F#16
  let v455 : FVec F S64x64 .bf16 := broadcast S64x64 cst_217
  let v456 : FVec F S64x64 .bf16 := minimumf v454 v455
  let cst_220 : FVec F S64x32 .f32 := constant S64x32 .f32 0x00000000#32
  let v458 : FVec F S64x32 .f32 := matmul dot_S64x64_S64x32_S64x32_1_0_0_1_n_n none v456 v457 cst_220
  let cst_221 : F .f32 := Scalar.ofBits .f32 0x45080000#32
  let v459 : FVec F S64x32 .f32 := broadcast S64x32 cst_221
  let v460 : FVec F S64x32 .f32 := subf v458 v459
  let v461 : IVec S64x32 32 := fptosi 32 v460
  let v462 : IVec S64x32 8 := trunci 8 v461 natLt_8_32
  shapeCast S1x64x32 v462 shapeCasts_S64x32_S1x64x32

def tileRl (A : Mems) (vs : ℕ) (cp : ℕ) (mb : ℕ) (hvs : vs < 6) (hcp : cp < 2) (hmb : mb < 2)  : Prog (TpuEff nD τ sig (Elt F) Λ₀ .tc) (PUnit) := do
  let v433 : Vec F S1x64x128 .f32 ← Prog.lift (.load A.arg19 (Rect.unit (s := S6x128x128) ![vs, 64 * mb, 0] S1x64x128.size (inbI hvs hmb)).toLoadRect (View.loadsAt_vmem h_S1x64x128))
  let v437 : Vec F S1x1x64 .f32 ← Prog.lift (.load A.arg21 (Rect.unit (s := S2x1x2880) ![cp, 0, 2816] S1x1x64.size (inbKl hcp)).toLoadRect (View.loadsAt_vmem h_S1x1x64))
  let v442 : Vec F S1x64x64 .f32 ← Prog.lift (.load A.arg18 (Rect.unit (s := S6x128x2880) ![vs, 64 * mb, 2816] S1x64x64.size (inbVl hvs hmb)).toLoadRect (View.loadsAt_vmem h_S1x64x64))
  let v457 : Vec F S64x32 .bf16 ← Prog.lift (.load A.arg16 (Rect.unit (s := S256x128) ![0, 0] S64x32.size inb_S256x128_S64x32_0_0).toLoadRect (View.loadsAt_vmem h_S64x32))
  let _v463 : Vec F S1x64x32 .i8 ← Prog.lift (.load A.arg12 (Rect.unit (s := S1x128x1440) ![0, 64 * mb, 1408] S1x64x32.size (inbCl hmb)).toLoadRect (View.loadsAt_vmem h_S1x64x32))
  Prog.lift (.store A.arg12 (Rect.unit (s := S1x128x1440) ![0, 64 * mb, 1408] S1x64x32.size (inbCl hmb)) (tRl_v v433 v437 v442 v457) Finset.univ (View.stores_vmem h_S1x64x32 (A.harg12.storeExact_slice rfl _ (packedCl hmb)) (fun _ => rfl)) (.inl rfl))
  pure ⟨⟩

def tileRlS (vs : ℕ) (cp : ℕ) (mb : ℕ) (hvs : vs < 6) (hcp : cp < 2) (hmb : mb < 2)  (S : St F) : St F :=
  let v433 : Vec F S1x64x128 .f32 := VecWindow.window (s := S6x128x128) S.a19 ![vs, 64 * mb, 0] S1x64x128.size (inbI hvs hmb)
  let v437 : Vec F S1x1x64 .f32 := VecWindow.window (s := S2x1x2880) S.a21 ![cp, 0, 2816] S1x1x64.size (inbKl hcp)
  let v442 : Vec F S1x64x64 .f32 := VecWindow.window (s := S6x128x2880) S.a18 ![vs, 64 * mb, 2816] S1x64x64.size (inbVl hvs hmb)
  let v457 : Vec F S64x32 .bf16 := VecWindow.window (s := S256x128) S.a16 ![0, 0] S64x32.size inb_S256x128_S64x32_0_0
  let S : St F := { S with a12 := VecWindow.put (s := S1x128x1440) S.a12 ![0, 64 * mb, 1408] S1x64x32.size (tRl_v v433 v437 v442 v457) }
  S

theorem tileRl_runs (c : Dev nD) (A : Mems) (vs : ℕ) (cp : ℕ) (mb : ℕ) (hvs : vs < 6) (hcp : cp < 2) (hmb : mb < 2)  (S : St F) :
    Runs defs₀ Variants.none (c : Thread nD τ) (Pst c A) (tileRl A vs cp mb hvs hcp hmb) S (tileRlS vs cp mb hvs hcp hmb S) ⟨⟩ := by
  unfold tileRl
  refine Runs.load (cell19 A c) ?_
  refine Runs.load (cell21 A c) ?_
  refine Runs.load (cell18 A c) ?_
  refine Runs.load (cell16 A c) ?_
  refine Runs.load (cell12 A c) ?_
  refine Runs.store (cell12 A c) ?_
  exact Runs.ret _ _

end Cert.KernelIdeal.Body

end

end
-- ==== Proof.IBody.lean ====
/-
  The kernel body as its pieces: the printed body is `body`, by definitional unfolding, and `body` runs as the function
  `step` of the state.
-/
module

public import proofs.«01_k».proof.Proof.Gen.KernelIdeal.Frame
public import proofs.«01_k».proof.Proof.Runs
public import proofs.«01_k».proof.Proof.IPieces
public import proofs.«01_k».proof.Proof.ITiles
@[expose] public section

set_option maxRecDepth 16384

noncomputable section

namespace Cert.KernelIdeal.Body

open Cert.KernelIdeal Cert.KernelIdeal.Gen Cert.Proof
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The chunk of three points a point belongs to (the expert), and its place there (the block of 128 rows). -/
def kW (i : grid0.Coords) : BitVec 32 :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  v16

def nW (i : grid0.Coords) : BitVec 32 :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  v26

/-- The row maxima of a block before its first tile. -/
def rmax0 : FVec F S64x128 .f32 := broadcast S64x128 (Scalar.ofBits .f32 0x00000000#32 : F .f32)

/-- The first `n` tiles of a block of 64 rows. -/
def tilesU (A : Mems) (vs cp mb : ℕ) (hvs : vs < 6) (hcp : cp < 2) (hmb : mb < 2) (k1 k2 : Vec F S1x128 .f32) :
    (n : ℕ) → n ≤ 11 → Prog (TpuEff nD τ sig (Elt F) Λ₀ .tc) (FVec F S64x128 .f32)
  | 0, _ => pure rmax0
  | n + 1, h => do
    let r ← tilesU A vs cp mb hvs hcp hmb k1 k2 n (Nat.le_of_succ_le h)
    tileU A vs cp mb n hvs hcp hmb (Nat.lt_of_succ_le h) k1 k2 r

def tilesUS (vs cp mb : ℕ) (hvs : vs < 6) (hcp : cp < 2) (hmb : mb < 2) (k1 k2 : Vec F S1x128 .f32) :
    (n : ℕ) → n ≤ 11 → St F → St F × FVec F S64x128 .f32
  | 0, _, S => (S, rmax0)
  | n + 1, h, S =>
    let p := tilesUS vs cp mb hvs hcp hmb k1 k2 n (Nat.le_of_succ_le h) S
    tileUS vs cp mb n hvs hcp hmb (Nat.lt_of_succ_le h) k1 k2 p.2 p.1

theorem tilesU_runs (c : Dev nD) (A : Mems) (vs cp mb : ℕ) (hvs : vs < 6) (hcp : cp < 2) (hmb : mb < 2) (k1 k2 : Vec F S1x128 .f32) (S : St F) (n : ℕ) (h : n ≤ 11) :
    Runs defs₀ Variants.none (c : Thread nD τ) (Pst c A) (tilesU A vs cp mb hvs hcp hmb k1 k2 n h) S
      (tilesUS vs cp mb hvs hcp hmb k1 k2 n h S).1 (tilesUS vs cp mb hvs hcp hmb k1 k2 n h S).2 := by
  induction n with
  | zero => exact Runs.ret _ _
  | succ n ih => exact Runs.bind (ih (Nat.le_of_succ_le h)) (tileU_runs c A vs cp mb n hvs hcp hmb (Nat.lt_of_succ_le h) k1 k2 _ _)

/-- A block of 64 rows of the update. -/
def block (A : Mems) (vs cp mb : ℕ) (hvs : vs < 6) (hcp : cp < 2) (hmb : mb < 2) (w : BitVec 32) (k1 k2 : Vec F S1x128 .f32) :
    Prog (TpuEff nD τ sig (Elt F) Λ₀ .tc) PUnit := do
  head A w
  let r ← tilesU A vs cp mb hvs hcp hmb k1 k2 11 le_rfl
  let r' ← tileUl A vs cp mb hvs hcp hmb k1 k2 r
  tail A vs mb hvs hmb w r'

def blockS (vs cp mb : ℕ) (hvs : vs < 6) (hcp : cp < 2) (hmb : mb < 2) (w : BitVec 32) (k1 k2 : Vec F S1x128 .f32) (S : St F) : St F :=
  let S := headS w S
  let p := tilesUS vs cp mb hvs hcp hmb k1 k2 11 le_rfl S
  let q := tileUlS vs cp mb hvs hcp hmb k1 k2 p.2 p.1
  tailS vs mb hvs hmb w q.2 q.1

theorem block_runs (c : Dev nD) (A : Mems) (vs cp mb : ℕ) (hvs : vs < 6) (hcp : cp < 2) (hmb : mb < 2) (w : BitVec 32) (k1 k2 : Vec F S1x128 .f32) (S : St F) :
    Runs defs₀ Variants.none (c : Thread nD τ) (Pst c A) (block A vs cp mb hvs hcp hmb w k1 k2) S (blockS vs cp mb hvs hcp hmb w k1 k2 S) ⟨⟩ :=
  Runs.bind (head_runs c A w S) (Runs.bind (tilesU_runs c A vs cp mb hvs hcp hmb k1 k2 _ 11 le_rfl)
    (Runs.bind (tileUl_runs c A vs cp mb hvs hcp hmb k1 k2 _ _) (tail_runs c A vs mb hvs hmb w _ _)))

/-- The first `n` tiles of a block of 64 rows of the requantisation. -/
def tilesR (A : Mems) (vs cp mb : ℕ) (hvs : vs < 6) (hcp : cp < 2) (hmb : mb < 2) : (n : ℕ) → n ≤ 11 → Prog (TpuEff nD τ sig (Elt F) Λ₀ .tc) PUnit
  | 0, _ => pure ⟨⟩
  | n + 1, h => do
    tilesR A vs cp mb hvs hcp hmb n (Nat.le_of_succ_le h)
    tileR A vs cp mb n hvs hcp hmb (Nat.lt_of_succ_le h)

def tilesRS (vs cp mb : ℕ) (hvs : vs < 6) (hcp : cp < 2) (hmb : mb < 2) : (n : ℕ) → n ≤ 11 → St F → St F
  | 0, _, S => S
  | n + 1, h, S => tileRS vs cp mb n hvs hcp hmb (Nat.lt_of_succ_le h) (tilesRS vs cp mb hvs hcp hmb n (Nat.le_of_succ_le h) S)

theorem tilesR_runs (c : Dev nD) (A : Mems) (vs cp mb : ℕ) (hvs : vs < 6) (hcp : cp < 2) (hmb : mb < 2) (S : St F) (n : ℕ) (h : n ≤ 11) :
    Runs defs₀ Variants.none (c : Thread nD τ) (Pst c A) (tilesR A vs cp mb hvs hcp hmb n h) S (tilesRS vs cp mb hvs hcp hmb n h S) ⟨⟩ := by
  induction n with
  | zero => exact Runs.ret _ _
  | succ n ih => exact Runs.bind (ih (Nat.le_of_succ_le h)) (tileR_runs c A vs cp mb n hvs hcp hmb (Nat.lt_of_succ_le h) _)

/-- A block of 64 rows of the requantisation. -/
def blockR (A : Mems) (vs cp mb : ℕ) (hvs : vs < 6) (hcp : cp < 2) (hmb : mb < 2) : Prog (TpuEff nD τ sig (Elt F) Λ₀ .tc) PUnit := do
  tilesR A vs cp mb hvs hcp hmb 11 le_rfl
  tileRl A vs cp mb hvs hcp hmb

def blockRS (vs cp mb : ℕ) (hvs : vs < 6) (hcp : cp < 2) (hmb : mb < 2) (S : St F) : St F :=
  tileRlS vs cp mb hvs hcp hmb (tilesRS vs cp mb hvs hcp hmb 11 le_rfl S)

theorem blockR_runs (c : Dev nD) (A : Mems) (vs cp mb : ℕ) (hvs : vs < 6) (hcp : cp < 2) (hmb : mb < 2) (S : St F) :
    Runs defs₀ Variants.none (c : Thread nD τ) (Pst c A) (blockR A vs cp mb hvs hcp hmb) S (blockRS vs cp mb hvs hcp hmb S) ⟨⟩ :=
  Runs.bind (tilesR_runs c A vs cp mb hvs hcp hmb S 11 le_rfl) (tileRl_runs c A vs cp mb hvs hcp hmb _)

/-! ### The body's dynamic offsets

A point's slot of the six second-moment blocks kept (`vSlot`), its place of the two experts' column maxima (`cPar`), its
row of lanes in the row maxima (`lane`), and the slot and place read three points later (`rSlot`, `rPar`). -/

def vSlot (i : grid0.Coords) : ℕ := k0_off3 i 0
def cPar (i : grid0.Coords) : ℕ := k0_off4 i 0
def lane (i : grid0.Coords) : ℕ := k0_off2 i 1
def rSlot (i : grid0.Coords) : ℕ := k0_off43 i 0
def rPar (i : grid0.Coords) : ℕ := k0_off44 i 0

theorem vSlot_lt (i : grid0.Coords) (h : k0_cond2 i = 1#1) : vSlot i < 6 := k0_off3_inb i h 0
theorem cPar_lt (i : grid0.Coords) (h : k0_cond2 i = 1#1) : cPar i < 2 := k0_off4_inb i h 0
theorem lane_le (i : grid0.Coords) (h : k0_cond2 i = 1#1) : lane i + 128 ≤ 384 := k0_off2_inb i h 1
theorem rSlot_lt (i : grid0.Coords) (h : k0_cond5 i = 1#1) : rSlot i < 6 := k0_off43_inb i h 0
theorem rPar_lt (i : grid0.Coords) (h : k0_cond5 i = 1#1) : rPar i < 2 := k0_off44_inb i h 0

/-- A new expert's start, at the points that begin one. -/
def starts (A : Mems) (i : grid0.Coords) (h2 : k0_cond2 i = 1#1) : Prog (TpuEff nD τ sig (Elt F) Λ₀ .tc) PUnit :=
  if h3 : k0_cond3 i = 1#1 then start A (cPar i) (cPar_lt i h2) (kW i) else pure ⟨⟩

/-- A finished expert's end, at the points that finish one. -/
def finishes (A : Mems) (i : grid0.Coords) (h2 : k0_cond2 i = 1#1) : Prog (TpuEff nD τ sig (Elt F) Λ₀ .tc) PUnit :=
  if h4 : k0_cond4 i = 1#1 then finish A (cPar i) (cPar_lt i h2) (kW i) else pure ⟨⟩

/-- A point's update: the head of a new expert, two blocks of 64 rows, the row maxima written, a finished expert's end. -/
def update (A : Mems) (i : grid0.Coords) (h2 : k0_cond2 i = 1#1) : Prog (TpuEff nD τ sig (Elt F) Λ₀ .tc) PUnit := do
  starts A i h2
  let p ← pre A (lane i) (lane_le i h2) (kW i)
  block A (vSlot i) (cPar i) 0 (vSlot_lt i h2) (cPar_lt i h2) (by omega) (Scalar.addi (Scalar.muli (nW i) 2#32) 0#32) p.1 p.2
  block A (vSlot i) (cPar i) 1 (vSlot_lt i h2) (cPar_lt i h2) (by omega) (Scalar.addi (Scalar.muli (nW i) 2#32) 1#32) p.1 p.2
  vro A (lane i) (lane_le i h2) (kW i)
  finishes A i h2

/-- A point's requantisation of the second moment of three points before. -/
def requant (A : Mems) (i : grid0.Coords) (h5 : k0_cond5 i = 1#1) : Prog (TpuEff nD τ sig (Elt F) Λ₀ .tc) PUnit := do
  blockR A (rSlot i) (rPar i) 0 (rSlot_lt i h5) (rPar_lt i h5) (by omega)
  blockR A (rSlot i) (rPar i) 1 (rSlot_lt i h5) (rPar_lt i h5) (by omega)

/-- The body of a point, by its pieces. -/
def body (A : Mems) (i : grid0.Coords) : Prog (TpuEff nD τ sig (Elt F) Λ₀ .tc) PUnit := do
  (if h1 : k0_cond1 i = 1#1 then init A else pure ⟨⟩)
  (if h2 : k0_cond2 i = 1#1 then update A i h2 else pure ⟨⟩)
  (if h5 : k0_cond5 i = 1#1 then requant A i h5 else pure ⟨⟩)

set_option maxRecDepth 65536 in
/-- The printed body is its pieces. -/
theorem body_eq (i : grid0.Coords) (arg1 : Memref sig .tc .smem S1 .i32) (harg1 : arg1.IsWhole) (arg2 : Memref sig .tc .vmem S1x128x2880 .bf16) (harg2 : arg2.IsWhole) (arg3 : Memref sig .tc .vmem S1x128x2880 .bf16) (harg3 : arg3.IsWhole) (arg4 : Memref sig .tc .vmem S1x128x1440 .i8) (harg4 : arg4.IsWhole) (arg5 : Memref sig .tc .vmem S1x6x2880 .f32) (harg5 : arg5.IsWhole) (arg6 : Memref sig .tc .vmem S1x128x1440 .i8) (harg6 : arg6.IsWhole) (arg7 : Memref sig .tc .vmem S5x384 .f32) (harg7 : arg7.IsWhole) (arg8 : Memref sig .tc .vmem S5x2880 .f32) (harg8 : arg8.IsWhole) (arg9 : Memref sig .tc .vmem S1x128x2880 .f32) (harg9 : arg9.IsWhole) (arg10 : Memref sig .tc .vmem S1x128x1440 .i8) (harg10 : arg10.IsWhole) (arg11 : Memref sig .tc .vmem S1x6x2880 .f32) (harg11 : arg11.IsWhole) (arg12 : Memref sig .tc .vmem S1x128x1440 .i8) (harg12 : arg12.IsWhole) (arg13 : Memref sig .tc .vmem S5x384 .f32) (harg13 : arg13.IsWhole) (arg14 : Memref sig .tc .vmem S5x2880 .f32) (harg14 : arg14.IsWhole) (arg15 : Memref sig .tc .vmem S256x256 .bf16) (harg15 : arg15.IsWhole) (arg16 : Memref sig .tc .vmem S256x128 .bf16) (harg16 : arg16.IsWhole) (arg17 : Memref sig .tc .vmem S8x128 .f32) (harg17 : arg17.IsWhole) (arg18 : Memref sig .tc .vmem S6x128x2880 .f32) (harg18 : arg18.IsWhole) (arg19 : Memref sig .tc .vmem S6x128x128 .f32) (harg19 : arg19.IsWhole) (arg20 : Memref sig .tc .vmem S2x8x2880 .f32) (harg20 : arg20.IsWhole) (arg21 : Memref sig .tc .vmem S2x1x2880 .f32) (harg21 : arg21.IsWhole) (arg22 : Memref sig .tc .vmem S128x128 .f32) (harg22 : arg22.IsWhole) (arg23 : Memref sig .tc .vmem S1x2880 .f32) (harg23 : arg23.IsWhole) (arg24 : Memref sig .tc .vmem S2x2880 .f32) (harg24 : arg24.IsWhole) :
    cc0_adamw4bit (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 = body ⟨arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, arg24, harg24⟩ i := by
  unfold cc0_adamw4bit body
  by_cases h1 : k0_cond1 i = 1#1 <;> by_cases h2 : k0_cond2 i = 1#1 <;> by_cases h3 : k0_cond3 i = 1#1 <;> by_cases h4 : k0_cond4 i = 1#1 <;> by_cases h5 : k0_cond5 i = 1#1
  all_goals (simp -zeta only [↓reduceDIte, h1, h2, h3, h4, h5, k0_part103, k0_part3, update, starts, finishes]; sl_kernel_rfl)

def startsS (i : grid0.Coords) (h2 : k0_cond2 i = 1#1) (S : St F) : St F :=
  if h3 : k0_cond3 i = 1#1 then startS (cPar i) (cPar_lt i h2) (kW i) S else S

def finishesS (i : grid0.Coords) (h2 : k0_cond2 i = 1#1) (S : St F) : St F :=
  if h4 : k0_cond4 i = 1#1 then finishS (cPar i) (cPar_lt i h2) (kW i) S else S

def updateS (i : grid0.Coords) (h2 : k0_cond2 i = 1#1) (S : St F) : St F :=
  let p := preS (lane i) (lane_le i h2) (kW i) (startsS i h2 S)
  let S₁ := blockS (vSlot i) (cPar i) 0 (vSlot_lt i h2) (cPar_lt i h2) (by omega) (Scalar.addi (Scalar.muli (nW i) 2#32) 0#32) p.2.1 p.2.2 p.1
  let S₂ := blockS (vSlot i) (cPar i) 1 (vSlot_lt i h2) (cPar_lt i h2) (by omega) (Scalar.addi (Scalar.muli (nW i) 2#32) 1#32) p.2.1 p.2.2 S₁
  finishesS i h2 (vroS (lane i) (lane_le i h2) (kW i) S₂)

def requantS (i : grid0.Coords) (h5 : k0_cond5 i = 1#1) (S : St F) : St F :=
  blockRS (rSlot i) (rPar i) 1 (rSlot_lt i h5) (rPar_lt i h5) (by omega) (blockRS (rSlot i) (rPar i) 0 (rSlot_lt i h5) (rPar_lt i h5) (by omega) S)

/-- What a point makes of what the buffers hold. -/
def step (i : grid0.Coords) (S : St F) : St F :=
  let S₁ := if h1 : k0_cond1 i = 1#1 then initS S else S
  let S₂ := if h2 : k0_cond2 i = 1#1 then updateS i h2 S₁ else S₁
  if h5 : k0_cond5 i = 1#1 then requantS i h5 S₂ else S₂

theorem update_runs (c : Dev nD) (A : Mems) (i : grid0.Coords) (h2 : k0_cond2 i = 1#1) (S : St F) :
    Runs defs₀ Variants.none (c : Thread nD τ) (Pst c A) (update A i h2) S (updateS i h2 S) ⟨⟩ :=
  Runs.bind (Runs.dite (fun _ => start_runs c A _ _ _ S) (fun _ => Runs.ret _ _)) (Runs.bind (pre_runs c A _ _ _ _)
    (Runs.bind (block_runs c A _ _ 0 _ _ _ _ _ _ _) (Runs.bind (block_runs c A _ _ 1 _ _ _ _ _ _ _) (Runs.bind (vro_runs c A _ _ _ _)
      (Runs.dite (fun _ => finish_runs c A _ _ _ _) (fun _ => Runs.ret _ _))))))

theorem requant_runs (c : Dev nD) (A : Mems) (i : grid0.Coords) (h5 : k0_cond5 i = 1#1) (S : St F) :
    Runs defs₀ Variants.none (c : Thread nD τ) (Pst c A) (requant A i h5) S (requantS i h5 S) ⟨⟩ :=
  Runs.bind (blockR_runs c A _ _ 0 _ _ _ _) (blockR_runs c A _ _ 1 _ _ _ _)

/-- A point's body runs as `step`. -/
theorem body_runs (c : Dev nD) (A : Mems) (i : grid0.Coords) (S : St F) :
    Runs defs₀ Variants.none (c : Thread nD τ) (Pst c A) (body A i) S (step i S) ⟨⟩ :=
  Runs.bind (Runs.dite (fun _ => init_runs c A S) (fun _ => Runs.ret _ _)) (Runs.bind
    (Runs.dite (fun h => update_runs c A i h _) (fun _ => Runs.ret _ _)) (Runs.dite (fun h => requant_runs c A i h _) (fun _ => Runs.ret _ _)))

end Cert.KernelIdeal.Body

end

end
-- ==== Proof.IRun.lean ====
/-
  The launch of the kernel over what its points do to the buffers (`step`): a SPECIFICATION says what the scratch buffers
  hold before each point and what each result's buffer holds after it; sound at every point, it holds of the run.
-/
module

public import proofs.«01_k».proof.Proof.Gen.KernelIdeal.Frame
public import proofs.«01_k».proof.Proof.IBody
public import Idealize.ShloMosaic.Lib.Pipeline.ArrRel

@[expose] public section

set_option maxRecDepth 16384

noncomputable section

namespace Cert.KernelIdeal.Body

open Cert.KernelIdeal Cert.KernelIdeal.Gen Cert.Proof
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg RDat Window)

variable {F : FTy → Type} [FloatOps F] [Named F]

local notation "𝕄" => MT nD τ sig Unit (Elt F) ℕ (UR sig nD τ) ℕ

/-! ### What the buffers hold, by kind: the inputs, and the scratch -/

/-- What the input buffers hold. -/
def St.ins (S : St F) :=
  (S.a1, S.a2, S.a3, S.a4, S.a5, S.a6, S.a7, S.a8)

/-- What the scratch buffers hold. -/
structure Sc (F : FTy → Type) where
  a15 : S256x256.Idx → Elt F .bf16
  a16 : S256x128.Idx → Elt F .bf16
  a17 : S8x128.Idx → Elt F .f32
  a18 : S6x128x2880.Idx → Elt F .f32
  a19 : S6x128x128.Idx → Elt F .f32
  a20 : S2x8x2880.Idx → Elt F .f32
  a21 : S2x1x2880.Idx → Elt F .f32
  a22 : S128x128.Idx → Elt F .f32
  a23 : S1x2880.Idx → Elt F .f32
  a24 : S2x2880.Idx → Elt F .f32

/-- The scratch part of a state. -/
def St.sc (S : St F) : Sc F := ⟨S.a15, S.a16, S.a17, S.a18, S.a19, S.a20, S.a21, S.a22, S.a23, S.a24⟩

theorem tilesUS_ins (vs cp mb : ℕ) (hvs : vs < 6) (hcp : cp < 2) (hmb : mb < 2) (k1 k2 : Vec F S1x128 .f32) (S : St F) (n : ℕ) (h : n ≤ 11) :
    (tilesUS vs cp mb hvs hcp hmb k1 k2 n h S).1.ins = S.ins := by
  induction n with
  | zero => rfl
  | succ n ih => exact Eq.trans rfl (ih (Nat.le_of_succ_le h))

theorem tilesRS_ins (vs cp mb : ℕ) (hvs : vs < 6) (hcp : cp < 2) (hmb : mb < 2) (S : St F) (n : ℕ) (h : n ≤ 11) :
    (tilesRS vs cp mb hvs hcp hmb n h S).ins = S.ins := by
  induction n with
  | zero => rfl
  | succ n ih => exact Eq.trans rfl (ih (Nat.le_of_succ_le h))

theorem blockS_ins (vs cp mb : ℕ) (hvs : vs < 6) (hcp : cp < 2) (hmb : mb < 2) (w : BitVec 32) (k1 k2 : Vec F S1x128 .f32) (S : St F) :
    (blockS vs cp mb hvs hcp hmb w k1 k2 S).ins = S.ins :=
  (tilesUS_ins vs cp mb hvs hcp hmb k1 k2 (headS w S) 11 le_rfl).trans rfl

theorem tileRlS_ins (vs cp mb : ℕ) (hvs : vs < 6) (hcp : cp < 2) (hmb : mb < 2) (S : St F) : (tileRlS vs cp mb hvs hcp hmb S).ins = S.ins := rfl

theorem blockRS_ins (vs cp mb : ℕ) (hvs : vs < 6) (hcp : cp < 2) (hmb : mb < 2) (S : St F) : (blockRS vs cp mb hvs hcp hmb S).ins = S.ins := by
  unfold blockRS; rw [tileRlS_ins, tilesRS_ins]

theorem startsS_ins (i : grid0.Coords) (h2 : k0_cond2 i = 1#1) (S : St F) : (startsS i h2 S).ins = S.ins := by
  unfold startsS; split <;> rfl

theorem finishesS_ins (i : grid0.Coords) (h2 : k0_cond2 i = 1#1) (S : St F) : (finishesS i h2 S).ins = S.ins := by
  unfold finishesS; split <;> rfl

theorem preS_ins (ls : ℕ) (hls : ls + 128 ≤ 384) (w : BitVec 32) (S : St F) : (preS ls hls w S).1.ins = S.ins := rfl

theorem vroS_ins (ls : ℕ) (hls : ls + 128 ≤ 384) (w : BitVec 32) (S : St F) : (vroS ls hls w S).ins = S.ins := rfl

theorem updateS_ins (i : grid0.Coords) (h2 : k0_cond2 i = 1#1) (S : St F) : (updateS i h2 S).ins = S.ins := by
  unfold updateS
  dsimp only
  rw [finishesS_ins, vroS_ins, blockS_ins, blockS_ins, preS_ins, startsS_ins]

theorem requantS_ins (i : grid0.Coords) (h5 : k0_cond5 i = 1#1) (S : St F) : (requantS i h5 S).ins = S.ins := by
  unfold requantS; rw [blockRS_ins, blockRS_ins]

/-- A point leaves the inputs as it finds them. -/
theorem step_ins (i : grid0.Coords) (S : St F) : (step i S).ins = S.ins := by
  have e1 : ∀ S : St F, (if h1 : k0_cond1 i = 1#1 then initS S else S).ins = S.ins := fun S => by split <;> rfl
  have e2 : ∀ S : St F, (if h2 : k0_cond2 i = 1#1 then updateS i h2 S else S).ins = S.ins := fun S => by
    split
    · exact updateS_ins i _ S
    · rfl
  have e3 : ∀ S : St F, (if h5 : k0_cond5 i = 1#1 then requantS i h5 S else S).ins = S.ins := fun S => by
    split
    · exact requantS_ins i _ S
    · rfl
  exact (e3 _).trans ((e2 _).trans (e1 S))

/-! ### A specification of the run -/

/-- What the scratch holds before a point (`inv`), and what each result's buffer holds after it. -/
structure Spec (F : FTy → Type) where
  inv : ℕ → Sc F → Prop
  o9 : ℕ → (S1x128x2880.Idx → Elt F .f32) → Prop
  o10 : ℕ → (S1x128x1440.Idx → Elt F .i8) → Prop
  o11 : ℕ → (S1x6x2880.Idx → Elt F .f32) → Prop
  o12 : ℕ → (S1x128x1440.Idx → Elt F .i8) → Prop
  o13 : ℕ → (S5x384.Idx → Elt F .f32) → Prop
  o14 : ℕ → (S5x2880.Idx → Elt F .f32) → Prop

/-- The specification that says nothing. -/
def Spec.none : Spec F := ⟨fun _ _ => True, fun _ _ => True, fun _ _ => True, fun _ _ => True, fun _ _ => True, fun _ _ => True, fun _ _ => True⟩

variable (m : (ℓ : Loc nD τ sig) → Buf (Elt F) ℓ) (ρ : Dev nD → PrngReg)

/-- The inputs' blocks at a point. -/
def insAt (c : Dev nD) (t : Fin cfg0.N) : (S1.Idx → Elt F .i32) × (S1x128x2880.Idx → Elt F .bf16) × (S1x128x2880.Idx → Elt F .bf16) × (S1x128x1440.Idx → Elt F .i8) × (S1x6x2880.Idx → Elt F .f32) × (S1x128x1440.Idx → Elt F .i8) × (S5x384.Idx → Elt F .f32) × (S5x2880.Idx → Elt F .f32) :=
  (iblk m c 0 t, iblk m c 1 t, iblk m c 2 t, iblk m c 3 t, iblk m c 4 t, iblk m c 5 t, iblk m c 6 t, iblk m c 7 t)

/-- A result's buffer is found as the point before left it, where that point did not write it back. -/
def Kept (w : Fin cfg0.W) (t : Fin cfg0.N) (o : ℕ → Prop) : Prop :=
  t.val ≠ 0 → (cfg0.win w).flush ⟨t.val - 1, Nat.lt_of_le_of_lt (Nat.sub_le _ _) t.isLt⟩ ≠ true → o (t.val - 1)

/-- The specification holds at every point: it holds of the scratch before the first point whatever it holds, and a
    point that finds it leaves it. -/
structure Sound (c : Dev nD) (sp : Spec F) : Prop where
  init : ∀ s, sp.inv 0 s
  step : ∀ (t : Fin cfg0.N) (S : St F), S.ins = insAt m c t → sp.inv t.val S.sc →
    Kept 8 t (fun u => sp.o9 u S.a9) →
    Kept 9 t (fun u => sp.o10 u S.a10) →
    Kept 10 t (fun u => sp.o11 u S.a11) →
    Kept 11 t (fun u => sp.o12 u S.a12) →
    Kept 12 t (fun u => sp.o13 u S.a13) →
    Kept 13 t (fun u => sp.o14 u S.a14) →
    sp.inv (t.val + 1) (step (grid0.coords t) S).sc ∧ sp.o9 t.val (step (grid0.coords t) S).a9 ∧ sp.o10 t.val (step (grid0.coords t) S).a10 ∧ sp.o11 t.val (step (grid0.coords t) S).a11 ∧ sp.o12 t.val (step (grid0.coords t) S).a12 ∧ sp.o13 t.val (step (grid0.coords t) S).a13 ∧ sp.o14 t.val (step (grid0.coords t) S).a14

theorem Sound.none (c : Dev nD) : Sound m c (Spec.none (F := F)) :=
  ⟨fun _ => trivial, fun _ _ _ _ _ _ _ _ _ _ => ⟨trivial, trivial, trivial, trivial, trivial, trivial, trivial⟩⟩

variable (c : Dev nD) (sp : Spec F)

/-- The scratch buffers at contents `s`. -/
def scOwns (s : Sc F) : sProp 𝕄 :=
  iprop(owns (c : Thread nD τ) (Memref.whole cc0_scratch0) fullShare s.a15 ∗ owns (c : Thread nD τ) (Memref.whole cc0_scratch1) fullShare s.a16 ∗ owns (c : Thread nD τ) (Memref.whole cc0_scratch2) fullShare s.a17 ∗ owns (c : Thread nD τ) (Memref.whole cc0_scratch3) fullShare s.a18 ∗ owns (c : Thread nD τ) (Memref.whole cc0_scratch4) fullShare s.a19 ∗ owns (c : Thread nD τ) (Memref.whole cc0_scratch5) fullShare s.a20 ∗ owns (c : Thread nD τ) (Memref.whole cc0_scratch6) fullShare s.a21 ∗ owns (c : Thread nD τ) (Memref.whole cc0_scratch7) fullShare s.a22 ∗ owns (c : Thread nD τ) (Memref.whole cc0_scratch8) fullShare s.a23 ∗ owns (c : Thread nD τ) (Memref.whole cc0_scratch9) fullShare s.a24)

/-- The memrefs the body is called with at a point. -/
def memsAt (t : Fin cfg0.N) : Mems :=
  ⟨win0_0.stage (cfg0.slots t 0), hstage0_0 ((cfg0.slots t 0).cast nbuf0_0), win0_1.stage (cfg0.slots t 1), hstage0_1 ((cfg0.slots t 1).cast nbuf0_1), win0_2.stage (cfg0.slots t 2), hstage0_2 ((cfg0.slots t 2).cast nbuf0_2), win0_3.stage (cfg0.slots t 3), hstage0_3 ((cfg0.slots t 3).cast nbuf0_3), win0_4.stage (cfg0.slots t 4), hstage0_4 ((cfg0.slots t 4).cast nbuf0_4), win0_5.stage (cfg0.slots t 5), hstage0_5 ((cfg0.slots t 5).cast nbuf0_5), win0_6.stage (cfg0.slots t 6), hstage0_6 ((cfg0.slots t 6).cast nbuf0_6), win0_7.stage (cfg0.slots t 7), hstage0_7 ((cfg0.slots t 7).cast nbuf0_7), win0_8.stage (cfg0.slots t 8), hstage0_8 ((cfg0.slots t 8).cast nbuf0_8), win0_9.stage (cfg0.slots t 9), hstage0_9 ((cfg0.slots t 9).cast nbuf0_9), win0_10.stage (cfg0.slots t 10), hstage0_10 ((cfg0.slots t 10).cast nbuf0_10), win0_11.stage (cfg0.slots t 11), hstage0_11 ((cfg0.slots t 11).cast nbuf0_11), win0_12.stage (cfg0.slots t 12), hstage0_12 ((cfg0.slots t 12).cast nbuf0_12), win0_13.stage (cfg0.slots t 13), hstage0_13 ((cfg0.slots t 13).cast nbuf0_13),
   Memref.whole cc0_scratch0, Memref.isWhole_whole _, Memref.whole cc0_scratch1, Memref.isWhole_whole _, Memref.whole cc0_scratch2, Memref.isWhole_whole _, Memref.whole cc0_scratch3, Memref.isWhole_whole _, Memref.whole cc0_scratch4, Memref.isWhole_whole _, Memref.whole cc0_scratch5, Memref.isWhole_whole _, Memref.whole cc0_scratch6, Memref.isWhole_whole _, Memref.whole cc0_scratch7, Memref.isWhole_whole _, Memref.whole cc0_scratch8, Memref.isWhole_whole _, Memref.whole cc0_scratch9, Memref.isWhole_whole _⟩

/-- The proof data: an input's buffer is left as found, a result's as the specification says. -/
def rdat : RDat τ (Elt F) Unit ℕ (UR sig nD τ) ℕ cfg0 c where
  A w := V m c (Pipeline.arrRef spec0 w)
  after w := match w with
    | ⟨0, _⟩ => fun _ Y X => X = Y
    | ⟨1, _⟩ => fun _ Y X => X = Y
    | ⟨2, _⟩ => fun _ Y X => X = Y
    | ⟨3, _⟩ => fun _ Y X => X = Y
    | ⟨4, _⟩ => fun _ Y X => X = Y
    | ⟨5, _⟩ => fun _ Y X => X = Y
    | ⟨6, _⟩ => fun _ Y X => X = Y
    | ⟨7, _⟩ => fun _ Y X => X = Y
    | ⟨8, _⟩ => fun t _ X => sp.o9 t.val X
    | ⟨9, _⟩ => fun t _ X => sp.o10 t.val X
    | ⟨10, _⟩ => fun t _ X => sp.o11 t.val X
    | ⟨11, _⟩ => fun t _ X => sp.o12 t.val X
    | ⟨12, _⟩ => fun t _ X => sp.o13 t.val X
    | ⟨13, _⟩ => fun t _ X => sp.o14 t.val X
  Φ t := iprop((∃ s : Sc F, ⌜sp.inv t.val s⌝ ∗ scOwns c s) ∗ ∃ r, prngReg c r)
  q _ := fullShare
  owed _ := 0

theorem rdat_Φ (t : Fin (cfg0.N + 1)) :
    (rdat m c sp).Φ t = iprop((∃ s : Sc F, ⌜sp.inv t.val s⌝ ∗ scOwns c s) ∗ ∃ r, prngReg c r) := rfl

theorem defs₀_row (t : Fin cfg0.N) : defs₀ (F := F) .tc cfg0.body (cfg0.bodyArgs t (cfg0.slots t)) = body (memsAt t) (grid0.coords t) := by
  refine Eq.trans (b := bodyAt0 t) ?_ (body_eq _ _ _ _ _ _ _ _ _ _ _ _ _ _ _ _ _ _ _ _ _ _ _ _ _ _ _ _ _ _ _ _ _ _ _ _ _ _ _ _ _ _ _ _ _ _ _ _ _)
  unfold defs₀; rw [Defs.onTc_tc]

/-- A result's buffer, found: as the point before left it unless that point wrote it back. -/
theorem kept_of_finds {w : Fin cfg0.W} (t : Fin cfg0.N) {Y} (o : ℕ → ((cfg0.win w).block.Idx → Elt F (cfg0.win w).elt) → Prop) (hw : (cfg0.win w).isOut = true)
    (ha : ∀ u Y X, (rdat m c sp).after w u Y X → o u.val X) (hY : (rdat m c sp).Finds w t Y) : Kept w t (fun u => o u Y) := by
  intro ht hf
  have hfe : (cfg0.win w).fetch t = false := (cfg0.win w).fetch_out hw t
  rcases ((rdat m c sp).finds_of_pos hfe ht Y).mp hY with h | ⟨Y', _, h⟩
  · exact absurd h hf
  · exact ha _ _ _ h

/-- An input's buffer, found: its block. -/
theorem found {w : Fin cfg0.W} (t : Fin cfg0.N) {Y} (hw : (cfg0.win w).isOut = false)
    (hclip : ∀ t t' : Fin cfg0.N, (cfg0.win w).index t = (cfg0.win w).index t' → (cfg0.win w).clip (cfg0.grid.coords t) = (cfg0.win w).clip (cfg0.grid.coords t'))
    (ha : ∀ u Y X, (rdat m c sp).after w u Y X → X = Y) (hY : (rdat m c sp).Finds w t Y) : ∃ d, Y = (rdat m c sp).fetched w t d :=
  (rdat m c sp).finds_in_eq_fetched w hw hclip ha t Y hY

theorem body_obligation (hs : Sound m c sp) : (rdat m c sp).BodyObligation defs₀ Variants.none () Set.univ := by
  intro t Y hY
  rw [defs₀_row, bigSep_W0, bigSep_W0, rdat_Φ, rdat_Φ]
  have y0 : Y 0 = iblk m c 0 t := (found m c sp (w := 0) t rfl (fun _ _ _ => rfl) (fun _ _ _ h => h) (hY 0)).elim fun _ h => h
  have y1 : Y 1 = iblk m c 1 t := (found m c sp (w := 1) t rfl (fun _ _ _ => rfl) (fun _ _ _ h => h) (hY 1)).elim fun _ h => h
  have y2 : Y 2 = iblk m c 2 t := (found m c sp (w := 2) t rfl (fun _ _ _ => rfl) (fun _ _ _ h => h) (hY 2)).elim fun _ h => h
  have y3 : Y 3 = iblk m c 3 t := (found m c sp (w := 3) t rfl (fun _ _ _ => rfl) (fun _ _ _ h => h) (hY 3)).elim fun _ h => h
  have y4 : Y 4 = iblk m c 4 t := (found m c sp (w := 4) t rfl (fun _ _ _ => rfl) (fun _ _ _ h => h) (hY 4)).elim fun _ h => h
  have y5 : Y 5 = iblk m c 5 t := (found m c sp (w := 5) t rfl (fun _ _ _ => rfl) (fun _ _ _ h => h) (hY 5)).elim fun _ h => h
  have y6 : Y 6 = iblk m c 6 t := (found m c sp (w := 6) t rfl (fun _ _ _ => rfl) (fun _ _ _ h => h) (hY 6)).elim fun _ h => h
  have y7 : Y 7 = iblk m c 7 t := (found m c sp (w := 7) t rfl (fun _ _ _ => rfl) (fun _ _ _ h => h) (hY 7)).elim fun _ h => h
  have y8 := kept_of_finds m c sp t (w := 8) sp.o9 rfl (fun _ _ _ h => h) (hY 8)
  have y9 := kept_of_finds m c sp t (w := 9) sp.o10 rfl (fun _ _ _ h => h) (hY 9)
  have y10 := kept_of_finds m c sp t (w := 10) sp.o11 rfl (fun _ _ _ h => h) (hY 10)
  have y11 := kept_of_finds m c sp t (w := 11) sp.o12 rfl (fun _ _ _ h => h) (hY 11)
  have y12 := kept_of_finds m c sp t (w := 12) sp.o13 rfl (fun _ _ _ h => h) (hY 12)
  have y13 := kept_of_finds m c sp t (w := 13) sp.o14 rfl (fun _ _ _ h => h) (hY 13)
  iintro ⟨⟨⟨%s, %hs', Hsc⟩, Hr⟩, Hos, Hw⟩
  have hS := hs.step t ⟨Y 0, Y 1, Y 2, Y 3, Y 4, Y 5, Y 6, Y 7, Y 8, Y 9, Y 10, Y 11, Y 12, Y 13, s.a15, s.a16, s.a17, s.a18, s.a19, s.a20, s.a21, s.a22, s.a23, s.a24⟩
    (by unfold St.ins insAt; simp only [y0, y1, y2, y3, y4, y5, y6, y7]) hs' y8 y9 y10 y11 y12 y13
  generalize hSe : (⟨Y 0, Y 1, Y 2, Y 3, Y 4, Y 5, Y 6, Y 7, Y 8, Y 9, Y 10, Y 11, Y 12, Y 13, s.a15, s.a16, s.a17, s.a18, s.a19, s.a20, s.a21, s.a22, s.a23, s.a24⟩ : St F) = S at hS
  have hi := step_ins (grid0.coords t) S
  iapply (body_runs c (memsAt t) (grid0.coords t) S Set.univ _)
  generalize step (grid0.coords t) S = S' at hS hi
  subst hSe
  obtain ⟨hinv, h9, h10, h11, h12, h13, h14⟩ := hS
  unfold St.ins at hi
  simp only [Prod.mk.injEq] at hi
  obtain ⟨e1, e2, e3, e4, e5, e6, e7, e8⟩ := hi
  isplitl [Hsc Hw]
  · unfold scOwns
    icases Hsc with ⟨H15, H16, H17, H18, H19, H20, H21, H22, H23, H24⟩
    icases Hw with ⟨H1, H2, H3, H4, H5, H6, H7, H8, H9, H10, H11, H12, H13, H14⟩
    unfold Pst
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [H23]
    · iexact H23
    iexact H24
  iintro HP
  unfold Pst
  icases HP with ⟨H1, H2, H3, H4, H5, H6, H7, H8, H9, H10, H11, H12, H13, H14, H15, H16, H17, H18, H19, H20, H21, H22, H23, H24⟩
  isplitl [Hr H15 H16 H17 H18 H19 H20 H21 H22 H23 H24]
  · isplitr [Hr]
    · iexists S'.sc
      isplitr
      · ipureintro; exact hinv
      unfold scOwns
      isplitl [H15]
      · iexact H15
      isplitl [H16]
      · iexact H16
      isplitl [H17]
      · iexact H17
      isplitl [H18]
      · iexact H18
      isplitl [H19]
      · iexact H19
      isplitl [H20]
      · iexact H20
      isplitl [H21]
      · iexact H21
      isplitl [H22]
      · iexact H22
      isplitl [H23]
      · iexact H23
      iexact H24
    iexact Hr
  isplitl [Hos]
  · iexact Hos
  isplitl [H1]
  · iexists S'.a1
    isplitr
    · ipureintro; exact e1
    iexact H1
  isplitl [H2]
  · iexists S'.a2
    isplitr
    · ipureintro; exact e2
    iexact H2
  isplitl [H3]
  · iexists S'.a3
    isplitr
    · ipureintro; exact e3
    iexact H3
  isplitl [H4]
  · iexists S'.a4
    isplitr
    · ipureintro; exact e4
    iexact H4
  isplitl [H5]
  · iexists S'.a5
    isplitr
    · ipureintro; exact e5
    iexact H5
  isplitl [H6]
  · iexists S'.a6
    isplitr
    · ipureintro; exact e6
    iexact H6
  isplitl [H7]
  · iexists S'.a7
    isplitr
    · ipureintro; exact e7
    iexact H7
  isplitl [H8]
  · iexists S'.a8
    isplitr
    · ipureintro; exact e8
    iexact H8
  isplitl [H9]
  · iexists S'.a9
    isplitr
    · ipureintro; exact h9
    iexact H9
  isplitl [H10]
  · iexists S'.a10
    isplitr
    · ipureintro; exact h10
    iexact H10
  isplitl [H11]
  · iexists S'.a11
    isplitr
    · ipureintro; exact h11
    iexact H11
  isplitl [H12]
  · iexists S'.a12
    isplitr
    · ipureintro; exact h12
    iexact H12
  isplitl [H13]
  · iexists S'.a13
    isplitr
    · ipureintro; exact h13
    iexact H13
  · iexists S'.a14
    isplitr
    · ipureintro; exact h14
    iexact H14

end Cert.KernelIdeal.Body

end

end
-- ==== Proof.ILaunch.lean ====
/-
  The whole program's run: the invariant taken from the region's entry and given back at its exit, the run with every
  grid point's description, and the frame.
-/
module

public import proofs.«01_k».proof.Proof.IRun

@[expose] public section

noncomputable section
namespace Cert.KernelIdeal.Body

open Cert.KernelIdeal Cert.KernelIdeal.Gen Cert.Proof
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg RDat Window)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the region hands over at its entry is the invariant before the first point. -/
theorem phi_in (c : Dev nD) (sp : Spec F) (hs : Sound m c sp) :
    (Pipeline.ΦA spec0 c : sProp 𝕄) ⊢ (rdat m c sp).Φ 0 := by
  rw [rdat_Φ]
  unfold Pipeline.ΦA
  rw [Gen.scopedRest0_eq c]
  iintro ⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩⟩, Hr⟩
  isplitr [Hr]
  · iexists (⟨f0, f1, f2, f3, f4, f5, f6, f7, f8, f9⟩ : Sc F)
    isplitr
    · ipureintro; exact hs.init _
    unfold scOwns
    simp only [owns_whole_eq]
    isplitl [H0]
    · iexists f0; isplitr; (ipureintro; rfl); iexact H0
    isplitl [H1]
    · iexists f1; isplitr; (ipureintro; rfl); iexact H1
    isplitl [H2]
    · iexists f2; isplitr; (ipureintro; rfl); iexact H2
    isplitl [H3]
    · iexists f3; isplitr; (ipureintro; rfl); iexact H3
    isplitl [H4]
    · iexists f4; isplitr; (ipureintro; rfl); iexact H4
    isplitl [H5]
    · iexists f5; isplitr; (ipureintro; rfl); iexact H5
    isplitl [H6]
    · iexists f6; isplitr; (ipureintro; rfl); iexact H6
    isplitl [H7]
    · iexists f7; isplitr; (ipureintro; rfl); iexact H7
    isplitl [H8]
    · iexists f8; isplitr; (ipureintro; rfl); iexact H8
    · iexists f9; isplitr; (ipureintro; rfl); iexact H9
  iexact Hr

/-- The invariant after the last point gives back what the region takes at its exit. -/
theorem phi_out (c : Dev nD) (sp : Spec F) :
    (rdat m c sp).Φ (Fin.last cfg0.N) ⊢ (Pipeline.ΦA spec0 c : sProp 𝕄) := by
  rw [rdat_Φ]
  unfold Pipeline.ΦA
  rw [Gen.scopedRest0_eq c]
  unfold scOwns
  simp only [owns_whole_eq]
  iintro ⟨⟨%s, -, ⟨%f0, -, H0⟩, ⟨%f1, -, H1⟩, ⟨%f2, -, H2⟩, ⟨%f3, -, H3⟩, ⟨%f4, -, H4⟩, ⟨%f5, -, H5⟩, ⟨%f6, -, H6⟩, ⟨%f7, -, H7⟩, ⟨%f8, -, H8⟩, ⟨%f9, -, H9⟩⟩, Hr⟩
  isplitr [Hr]
  · isplitl [H0]
    · iexists f0; iexact H0
    isplitl [H1]
    · iexists f1; iexact H1
    isplitl [H2]
    · iexists f2; iexact H2
    isplitl [H3]
    · iexists f3; iexact H3
    isplitl [H4]
    · iexists f4; iexact H4
    isplitl [H5]
    · iexists f5; iexact H5
    isplitl [H6]
    · iexists f6; iexact H6
    isplitl [H7]
    · iexists f7; iexact H7
    isplitl [H8]
    · iexists f8; iexact H8
    · iexists f9; iexact H9
  iexact Hr

/-- The whole run, for a sound description of every grid point. -/
theorem run (sp : Dev nD → Spec F) (hs : ∀ c, Sound m c (sp c)) :
    θ_run defs (onTc (τ := τ) (main (F := F))) ⟨m, fun _ => 0, ρ⟩
      (fun r => RDat.FramePost cfg0 (fun c => rdat m c (sp c)) (Gen.V m) r ∧ r.2.sem = fun _ => 0) :=
  RDat.θ_run_frame_track cfgs 0 Gen.launch0 defs₀ Variants.none (fun c => rdat m c (sp c)) m ρ main
    (fun c => body_obligation m c (sp c) (hs c)) (fun c w => by unfold RDat.share; split <;> rfl) (fun c t => rfl) (Gen.V m)
    (Gen.hmain m Variants.none) (fun c w => rfl) (fun c => phi_in m c (sp c) (hs c)) (fun c => phi_out m c (sp c)) _ (fun r h => h)

/-- What the run leaves in the argument arrays: what was there. -/
theorem args_of_post (sp : Dev nD → Spec F) {r : PUnit × MemSt nD τ sig (Elt F)}
    (h : RDat.FramePost cfg0 (fun c => rdat m c (sp c)) (Gen.V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) :=
  ⟨(h.arr_in c 1 rfl).trans (Gen.V_main_arg0 m c), (h.arr_in c 2 rfl).trans (Gen.V_main_arg1 m c),
   ((h c).2 main_arg2 (Pipeline.mem_restRefs_of main_arg2 (by decide) (by decide))).trans (Gen.V_main_arg2 m c),
   (h.arr_in c 3 rfl).trans (Gen.V_main_arg3 m c), (h.arr_in c 4 rfl).trans (Gen.V_main_arg4 m c),
   (h.arr_in c 5 rfl).trans (Gen.V_main_arg5 m c), (h.arr_in c 6 rfl).trans (Gen.V_main_arg6 m c),
   (h.arr_in c 7 rfl).trans (Gen.V_main_arg7 m c)⟩

/-- From any memory the program terminates, its arguments and its counters as they were. -/
theorem frame :
    θ_run defs (onTc (τ := τ) (main (F := F))) ⟨m, fun _ => 0, ρ⟩ (fun r =>
    (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)) ∧ r.2.sem = fun _ => 0) :=
  (θ_run defs _ _).mono (fun _ h => ⟨args_of_post m _ h.1, h.2⟩) (run m ρ (fun _ => Spec.none) (fun c => Sound.none m c))

end Cert.KernelIdeal.Body

end
-- ==== Proof.Ref.lean ====
/-
  The reference's run. Its @main is a straight line of host operations (`ops`), each writing one buffer that no later
  operation writes again and reading buffers already written, so that after the run every operation's equation holds of
  the final contents (`holds`): `W m c r` is what the buffer `r` holds after the run.
-/
module

public import Idealize.ShloMosaic.Lib.StableHlo.Run
public import Idealize.ShloMosaic.Lib.Quiescent
public import proofs.«01_k».proof.Proof.Gen.ReferenceIdeal

@[expose] public section

set_option maxRecDepth 16384
set_option maxHeartbeats 4000000

noncomputable section

namespace Cert.ReferenceIdeal.Ref

open Cert.ReferenceIdeal Cert.ReferenceIdeal.Gen
open Idealize.ShloMosaic Idealize.ShloMosaic.TcCoe Idealize.ShloMosaic.StableHlo Idealize.SL.Sem

/-! ## A straight line whose every operation writes a buffer of its own -/

section Line

variable {τ : Topo} {sig : RefSig} {Val : EltTy → Type}

/-- The buffers an operation touches, from those it reads and the one it writes. -/
def touched (p : List (Ref sig .tc) × Ref sig .tc) : Finset (DevRef τ sig) :=
  p.1.foldr (fun r s => insert (Proc.devRef (τ := τ) .tc r) s) {Proc.devRef (τ := τ) .tc p.2}

theorem mem_touched (p : List (Ref sig .tc) × Ref sig .tc) {r : Ref sig .tc} (h : r ∈ p.1 ∨ r = p.2) :
    Proc.devRef (τ := τ) .tc r ∈ touched (τ := τ) p := by
  obtain ⟨l, y⟩ := p
  unfold touched
  induction l with
  | nil => simp_all
  | cons a l ih =>
    simp only [List.foldr_cons, Finset.mem_insert]
    rcases h with h | h
    · rcases List.mem_cons.mp h with h | h
      · exact Or.inl (by rw [h])
      · exact Or.inr (ih (Or.inl h))
    · exact Or.inr (ih (Or.inr h))

/-- No later operation writes what an earlier one read or wrote, nor any what it reads. -/
def Once : List (List (Ref sig .tc) × Ref sig .tc) → Prop
  | [] => True
  | p :: l => p.2 ∉ p.1 ∧ (∀ q ∈ l, q.2 ∉ p.1 ∧ q.2 ≠ p.2) ∧ Once l

/-- Places that rise along the writes, each above those it reads. -/
def Rising (n : ℕ) : List (List (Ref sig .tc) × Ref sig .tc) → Bool
  | [] => true
  | p :: l => decide (p.2.idx.val = n) && p.1.all (fun r => decide (r.idx.val < n)) && Rising (n + 1) l

theorem Rising.ge {n : ℕ} {l : List (List (Ref sig .tc) × Ref sig .tc)} (h : Rising n l = true) :
    ∀ q ∈ l, n ≤ q.2.idx.val := by
  induction l generalizing n with
  | nil => intro q hq; cases hq
  | cons p l ih =>
    simp only [Rising, Bool.and_eq_true, decide_eq_true_eq] at h
    intro q hq
    rcases List.mem_cons.mp hq with rfl | hq
    · exact h.1.1.ge
    · exact (Nat.le_succ n).trans (ih h.2 q hq)

theorem Rising.once {n : ℕ} {l : List (List (Ref sig .tc) × Ref sig .tc)} (h : Rising n l = true) : Once l := by
  induction l generalizing n with
  | nil => trivial
  | cons p l ih =>
    have h' := h
    simp only [Rising, Bool.and_eq_true, decide_eq_true_eq, List.all_eq_true] at h
    refine ⟨fun hm => ?_, fun q hq => ⟨fun hm => ?_, fun he => ?_⟩, ih h.2⟩
    · have := h.1.2 _ hm; omega
    · have := h.1.2 _ hm; have := Rising.ge h.2 q hq; omega
    · have := Rising.ge h.2 q hq; rw [he] at this; omega

/-- An operation's equation at contents `W`: its result there, from contents that agree with `W` on what it reads. -/
def Holds (op : HloOp τ sig Val) (p : List (Ref sig .tc) × Ref sig .tc) (W : Valuation τ sig Val) : Prop :=
  ∃ V : Valuation τ sig Val, (∀ r ∈ p.1, V (Proc.devRef .tc r) = W (Proc.devRef .tc r))
    ∧ W (Proc.devRef .tc p.2) = op.result V (Proc.devRef .tc p.2)

theorem holds_of_once (ops : List (HloOp τ sig Val)) (io : List (List (Ref sig .tc) × Ref sig .tc))
    (hw : ops.map HloOp.writes = io.map fun p => {Proc.devRef (τ := τ) .tc p.2}) (ho : Once io)
    (V : Valuation τ sig Val) (i : ℕ) (hi : i < ops.length) (hi' : i < io.length) :
    Holds ops[i] io[i] (after ops V) := by
  induction ops generalizing io V i with
  | nil => cases hi
  | cons op ops ih =>
    cases io with
    | nil => cases hi'
    | cons p io =>
      simp only [List.map_cons, List.cons.injEq] at hw
      obtain ⟨ho1, ho2, ho3⟩ := ho
      have keep : ∀ r : Ref sig .tc, (∀ q ∈ io, q.2 ≠ r) → ∀ F : Valuation τ sig Val,
          after ops F (Proc.devRef .tc r) = F (Proc.devRef .tc r) := fun r hr F =>
        after_of_writes_sub (W := io.map Prod.snd) ops F
          (forall_writes_sub_of_map (hw.2.trans (by rw [List.map_map]; rfl)))
          (fun hm => by obtain ⟨q, hq, e⟩ := List.mem_map.mp hm; exact hr q hq e)
      cases i with
      | zero =>
        refine ⟨V, fun r hr => ?_, ?_⟩
        · show V _ = after ops (op.result V) _
          rw [keep r (fun q hq e => (ho2 q hq).1 (e ▸ hr))]
          refine (op.result_of_not_mem V ?_).symm
          rw [hw.1]
          intro hm
          exact ho1 (Proc.devRef_injective _ (Finset.mem_singleton.mp hm) ▸ hr)
        · exact keep p.2 (fun q hq => (ho2 q hq).2) _
      | succ i => exact ih io hw.2 ho3 _ i (Nat.lt_of_succ_lt_succ hi) (Nat.lt_of_succ_lt_succ hi')

variable {x a b c y : Ref sig .tc}

theorem Holds.nullary {W : Valuation τ sig Val} {v : y.ty.Contents Val} {hy}
    (h : Holds (StableHlo.nullary (τ := τ) y v hy) ([], y) W) : W (Proc.devRef .tc y) = v := by
  obtain ⟨V, hV, e⟩ := h
  exact e.trans (nullary_result y v hy V)

theorem Holds.unary {W : Valuation τ sig Val} {f : x.ty.Contents Val → y.ty.Contents Val} {hx hy}
    (h : Holds (StableHlo.unary (τ := τ) x y f hx hy) ([x], y) W) :
    W (Proc.devRef .tc y) = f (W (Proc.devRef .tc x)) := by
  obtain ⟨V, hV, e⟩ := h
  rw [← hV x (by simp)]
  exact e.trans (unary_result x y f hx hy V)

theorem Holds.reshape {W : Valuation τ sig Val} {he : x.ty.elt = y.ty.elt} {hn : x.ty.shape.ShapeCasts y.ty.shape} {hx hy}
    (h : Holds (StableHlo.reshape (τ := τ) x y he hn hx hy) ([x], y) W) :
    W (Proc.devRef .tc y) = fun i => he ▸ shapeCast y.ty.shape (W (Proc.devRef .tc x)) hn i := by
  obtain ⟨V, hV, e⟩ := h
  rw [← hV x (by simp)]
  exact e.trans (reshape_result x y he hn hx hy V)

theorem Holds.binary {W : Valuation τ sig Val} {f : a.ty.Contents Val → b.ty.Contents Val → y.ty.Contents Val} {ha hb hy}
    (h : Holds (StableHlo.binary (τ := τ) a b y f ha hb hy) ([a, b], y) W) :
    W (Proc.devRef .tc y) = f (W (Proc.devRef .tc a)) (W (Proc.devRef .tc b)) := by
  obtain ⟨V, hV, e⟩ := h
  rw [← hV a (by simp), ← hV b (by simp)]
  exact e.trans (binary_result a b y f ha hb hy V)

theorem Holds.ternary {W : Valuation τ sig Val}
    {f : c.ty.Contents Val → a.ty.Contents Val → b.ty.Contents Val → y.ty.Contents Val} {hc ha hb hy}
    (h : Holds (StableHlo.ternary (τ := τ) c a b y f hc ha hb hy) ([c, a, b], y) W) :
    W (Proc.devRef .tc y) = f (W (Proc.devRef .tc c)) (W (Proc.devRef .tc a)) (W (Proc.devRef .tc b)) := by
  obtain ⟨V, hV, e⟩ := h
  rw [← hV c (by simp), ← hV a (by simp), ← hV b (by simp)]
  exact e.trans (ternary_result c a b y f hc ha hb hy V)

end Line

/-! ## The program as such a line -/

variable {F : FTy → Type} [FloatOps F]

/-- The arrays of a shape and an element type. -/
abbrev A (F : FTy → Type) (s : Shape) (e : EltTy) : Type := (⟨s, e⟩ : BufTy).Contents (Elt F)

/-- The operations of @main's window 0. -/
def ops0 : List (HloOp τ sig (Elt F)) :=
  [ unary main_arg3 main_v0 ((extui 32 · natLt_8_32) : A F S5x384x1440 .i8 → A F S5x384x1440 .i32),
    nullary main_c (constantI S_ 32 15#32),
    unary main_c main_v1 (broadcastInDim S5x384x1440 ![] bcast_S_S5x384x1440 : A F S_ .i32 → A F S5x384x1440 .i32),
    binary main_v0 main_v1 main_v2 (andi : A F S5x384x1440 .i32 → A F S5x384x1440 .i32 → A F S5x384x1440 .i32),
    nullary main_c_0 (constantI S_ 32 4#32),
    unary main_c_0 main_v3 (broadcastInDim S5x384x1440 ![] bcast_S_S5x384x1440 : A F S_ .i32 → A F S5x384x1440 .i32),
    binary main_v0 main_v3 main_v4 (Host.shrsi : A F S5x384x1440 .i32 → A F S5x384x1440 .i32 → A F S5x384x1440 .i32),
    unary main_v2 main_v5 (broadcastInDim S5x384x1440x1 ![0, 1, 2] bcast_S5x384x1440_S5x384x1440x1_0_1_2 : A F S5x384x1440 .i32 → A F S5x384x1440x1 .i32),
    unary main_v4 main_v6 (broadcastInDim S5x384x1440x1 ![0, 1, 2] bcast_S5x384x1440_S5x384x1440x1_0_1_2 : A F S5x384x1440 .i32 → A F S5x384x1440x1 .i32),
    binary main_v5 main_v6 main_v7 ((fun a b => concatenate S5x384x1440x2 3 [⟨S5x384x1440x1, a⟩, ⟨S5x384x1440x1, b⟩] concatenates_S5x384x1440x1_S5x384x1440x1_S5x384x1440x2_d3) : A F S5x384x1440x1 .i32 → A F S5x384x1440x1 .i32 → A F S5x384x1440x2 .i32),
    reshape main_v7 main_v8 (rfl : (.i32 : EltTy) = .i32) shapeCasts_S5x384x1440x2_S5x384x2880,
    nullary main_c_1 (constantI S_ 32 8#32),
    unary main_c_1 main_v9 (broadcastInDim S5x384x2880 ![] bcast_S_S5x384x2880 : A F S_ .i32 → A F S5x384x2880 .i32),
    binary main_v8 main_v9 main_v10 (cmpi .sge : A F S5x384x2880 .i32 → A F S5x384x2880 .i32 → A F S5x384x2880 .i1),
    nullary main_c_2 (constantI S_ 32 16#32),
    unary main_c_2 main_v11 (broadcastInDim S5x384x2880 ![] bcast_S_S5x384x2880 : A F S_ .i32 → A F S5x384x2880 .i32),
    binary main_v8 main_v11 main_v12 (subi : A F S5x384x2880 .i32 → A F S5x384x2880 .i32 → A F S5x384x2880 .i32),
    TRef.ternary (.of main_v10) (.of main_v12) (.of main_v8) (.of main_v13) select,
    unary main_v13 main_v14 (sitofp .f32 : A F S5x384x2880 .i32 → A F S5x384x2880 .f32),
    reshape main_v14 main_v15 (rfl : (.f32 : EltTy) = .f32) shapeCasts_S5x384x2880_S5x6x64x2880,
    unary main_arg4 main_v16 (broadcastInDim S5x6x1x2880 ![0, 1, 3] bcast_S5x6x2880_S5x6x1x2880_0_1_3 : A F S5x6x2880 .f32 → A F S5x6x1x2880 .f32),
    unary main_v16 main_v17 (broadcastInDim S5x6x64x2880 ![0, 1, 2, 3] bcast_S5x6x1x2880_S5x6x64x2880_0_1_2_3 : A F S5x6x1x2880 .f32 → A F S5x6x64x2880 .f32),
    binary main_v15 main_v17 main_v18 (mulf : A F S5x6x64x2880 .f32 → A F S5x6x64x2880 .f32 → A F S5x6x64x2880 .f32),
    reshape main_v18 main_v19 (rfl : (.f32 : EltTy) = .f32) shapeCasts_S5x6x64x2880_S5x384x2880,
    unary main_arg5 main_v20 ((extui 32 · natLt_8_32) : A F S5x384x1440 .i8 → A F S5x384x1440 .i32),
    nullary main_c_3 (constantI S_ 32 15#32),
    unary main_c_3 main_v21 (broadcastInDim S5x384x1440 ![] bcast_S_S5x384x1440 : A F S_ .i32 → A F S5x384x1440 .i32),
    binary main_v20 main_v21 main_v22 (andi : A F S5x384x1440 .i32 → A F S5x384x1440 .i32 → A F S5x384x1440 .i32),
    nullary main_c_4 (constantI S_ 32 4#32),
    unary main_c_4 main_v23 (broadcastInDim S5x384x1440 ![] bcast_S_S5x384x1440 : A F S_ .i32 → A F S5x384x1440 .i32),
    binary main_v20 main_v23 main_v24 (Host.shrsi : A F S5x384x1440 .i32 → A F S5x384x1440 .i32 → A F S5x384x1440 .i32),
    unary main_v22 main_v25 (broadcastInDim S5x384x1440x1 ![0, 1, 2] bcast_S5x384x1440_S5x384x1440x1_0_1_2 : A F S5x384x1440 .i32 → A F S5x384x1440x1 .i32),
    unary main_v24 main_v26 (broadcastInDim S5x384x1440x1 ![0, 1, 2] bcast_S5x384x1440_S5x384x1440x1_0_1_2 : A F S5x384x1440 .i32 → A F S5x384x1440x1 .i32),
    binary main_v25 main_v26 main_v27 ((fun a b => concatenate S5x384x1440x2 3 [⟨S5x384x1440x1, a⟩, ⟨S5x384x1440x1, b⟩] concatenates_S5x384x1440x1_S5x384x1440x1_S5x384x1440x2_d3) : A F S5x384x1440x1 .i32 → A F S5x384x1440x1 .i32 → A F S5x384x1440x2 .i32),
    reshape main_v27 main_v28 (rfl : (.i32 : EltTy) = .i32) shapeCasts_S5x384x1440x2_S5x384x2880,
    unary main_v28 main_v29 (sitofp .f32 : A F S5x384x2880 .i32 → A F S5x384x2880 .f32),
    nullary main_cst (constant S_ .f32 0x3F800000#32),
    unary main_cst main_v30 (broadcastInDim S5x384x2880 ![] bcast_S_S5x384x2880 : A F S_ .f32 → A F S5x384x2880 .f32),
    binary main_v29 main_v30 main_v31 (addf : A F S5x384x2880 .f32 → A F S5x384x2880 .f32 → A F S5x384x2880 .f32),
    nullary main_cst_5 (constant S_ .f32 0x3D800000#32),
    unary main_cst_5 main_v32 (broadcastInDim S5x384x2880 ![] bcast_S_S5x384x2880 : A F S_ .f32 → A F S5x384x2880 .f32),
    binary main_v31 main_v32 main_v33 (mulf : A F S5x384x2880 .f32 → A F S5x384x2880 .f32 → A F S5x384x2880 .f32),
    unary main_arg6 main_v34 (broadcastInDim S5x384x1 ![0, 1] bcast_S5x384_S5x384x1_0_1 : A F S5x384 .f32 → A F S5x384x1 .f32),
    unary main_arg7 main_v35 (broadcastInDim S5x1x2880 ![0, 2] bcast_S5x2880_S5x1x2880_0_2 : A F S5x2880 .f32 → A F S5x1x2880 .f32),
    unary main_v34 main_v36 (broadcastInDim S5x384x2880 ![0, 1, 2] bcast_S5x384x1_S5x384x2880_0_1_2 : A F S5x384x1 .f32 → A F S5x384x2880 .f32),
    unary main_v35 main_v37 (broadcastInDim S5x384x2880 ![0, 1, 2] bcast_S5x1x2880_S5x384x2880_0_1_2 : A F S5x1x2880 .f32 → A F S5x384x2880 .f32),
    binary main_v36 main_v37 main_v38 (minimumf : A F S5x384x2880 .f32 → A F S5x384x2880 .f32 → A F S5x384x2880 .f32),
    binary main_v33 main_v38 main_v39 (mulf : A F S5x384x2880 .f32 → A F S5x384x2880 .f32 → A F S5x384x2880 .f32),
    unary main_arg1 main_v40 ((extf .f32 · bitsLt_bf16_f32) : A F S5x384x2880 .bf16 → A F S5x384x2880 .f32),
    nullary main_cst_6 (constant S_ .f32 0x41100000#32),
    nullary main_cst_7 (constant S_ .f32 0x41200000#32),
    binary main_cst_6 main_cst_7 main_v41 (Host.divf : A F S_ .f32 → A F S_ .f32 → A F S_ .f32),
    unary main_v41 main_v42 (broadcastInDim S5x384x2880 ![] bcast_S_S5x384x2880 : A F S_ .f32 → A F S5x384x2880 .f32),
    binary main_v42 main_v19 main_v43 (mulf : A F S5x384x2880 .f32 → A F S5x384x2880 .f32 → A F S5x384x2880 .f32),
    nullary main_cst_8 (constant S_ .f32 0x3F800000#32),
    nullary main_cst_9 (constant S_ .f32 0x41200000#32),
    binary main_cst_8 main_cst_9 main_v44 (Host.divf : A F S_ .f32 → A F S_ .f32 → A F S_ .f32),
    unary main_v44 main_v45 (broadcastInDim S5x384x2880 ![] bcast_S_S5x384x2880 : A F S_ .f32 → A F S5x384x2880 .f32),
    binary main_v45 main_v40 main_v46 (mulf : A F S5x384x2880 .f32 → A F S5x384x2880 .f32 → A F S5x384x2880 .f32),
    binary main_v43 main_v46 main_v47 (addf : A F S5x384x2880 .f32 → A F S5x384x2880 .f32 → A F S5x384x2880 .f32) ]

theorem part0_eq (d : Dev nD) : main_part0 (F := F) d = seq ops0 := rfl

/-- The operations of @main's window 1. -/
def ops1 : List (HloOp τ sig (Elt F)) :=
  [ nullary main_cst_10 (constant S_ .f32 0x4479C000#32),
    nullary main_cst_11 (constant S_ .f32 0x447A0000#32),
    binary main_cst_10 main_cst_11 main_v48 (Host.divf : A F S_ .f32 → A F S_ .f32 → A F S_ .f32),
    unary main_v48 main_v49 (broadcastInDim S5x384x2880 ![] bcast_S_S5x384x2880 : A F S_ .f32 → A F S5x384x2880 .f32),
    binary main_v49 main_v39 main_v50 (mulf : A F S5x384x2880 .f32 → A F S5x384x2880 .f32 → A F S5x384x2880 .f32),
    nullary main_cst_12 (constant S_ .f32 0x3F800000#32),
    nullary main_cst_13 (constant S_ .f32 0x447A0000#32),
    binary main_cst_12 main_cst_13 main_v51 (Host.divf : A F S_ .f32 → A F S_ .f32 → A F S_ .f32),
    binary main_v40 main_v40 main_v52 (mulf : A F S5x384x2880 .f32 → A F S5x384x2880 .f32 → A F S5x384x2880 .f32),
    unary main_v51 main_v53 (broadcastInDim S5x384x2880 ![] bcast_S_S5x384x2880 : A F S_ .f32 → A F S5x384x2880 .f32),
    binary main_v53 main_v52 main_v54 (mulf : A F S5x384x2880 .f32 → A F S5x384x2880 .f32 → A F S5x384x2880 .f32),
    binary main_v50 main_v54 main_v55 (addf : A F S5x384x2880 .f32 → A F S5x384x2880 .f32 → A F S5x384x2880 .f32),
    unary main_arg2 main_v56 (sitofp .f32 : A F S_ .i32 → A F S_ .f32),
    nullary main_cst_14 (constant S_ .f32 0x3F666666#32),
    binary main_cst_14 main_v56 main_v57 (Host.powf : A F S_ .f32 → A F S_ .f32 → A F S_ .f32),
    nullary main_cst_15 (constant S_ .f32 0x3F800000#32),
    binary main_cst_15 main_v57 main_v58 (subf : A F S_ .f32 → A F S_ .f32 → A F S_ .f32),
    nullary main_cst_16 (constant S_ .f32 0x3F7FBE77#32),
    binary main_cst_16 main_v56 main_v59 (Host.powf : A F S_ .f32 → A F S_ .f32 → A F S_ .f32),
    nullary main_cst_17 (constant S_ .f32 0x3F800000#32),
    binary main_cst_17 main_v59 main_v60 (subf : A F S_ .f32 → A F S_ .f32 → A F S_ .f32),
    unary main_v58 main_v61 (broadcastInDim S5x384x2880 ![] bcast_S_S5x384x2880 : A F S_ .f32 → A F S5x384x2880 .f32),
    binary main_v47 main_v61 main_v62 (Host.divf : A F S5x384x2880 .f32 → A F S5x384x2880 .f32 → A F S5x384x2880 .f32),
    unary main_v60 main_v63 (broadcastInDim S5x384x2880 ![] bcast_S_S5x384x2880 : A F S_ .f32 → A F S5x384x2880 .f32),
    binary main_v55 main_v63 main_v64 (Host.divf : A F S5x384x2880 .f32 → A F S5x384x2880 .f32 → A F S5x384x2880 .f32),
    unary main_v64 main_v65 (Host.sqrt : A F S5x384x2880 .f32 → A F S5x384x2880 .f32),
    nullary main_cst_18 (constant S_ .f32 0x3F800000#32),
    nullary main_cst_19 (constant S_ .f32 0x4CBEBC20#32),
    binary main_cst_18 main_cst_19 main_v66 (Host.divf : A F S_ .f32 → A F S_ .f32 → A F S_ .f32),
    unary main_v66 main_v67 (broadcastInDim S5x384x2880 ![] bcast_S_S5x384x2880 : A F S_ .f32 → A F S5x384x2880 .f32),
    binary main_v65 main_v67 main_v68 (addf : A F S5x384x2880 .f32 → A F S5x384x2880 .f32 → A F S5x384x2880 .f32),
    binary main_v62 main_v68 main_v69 (Host.divf : A F S5x384x2880 .f32 → A F S5x384x2880 .f32 → A F S5x384x2880 .f32),
    nullary main_cst_20 (constant S_ .f32 0x40400000#32),
    nullary main_cst_21 (constant S_ .f32 0x461C4000#32),
    binary main_cst_20 main_cst_21 main_v70 (Host.divf : A F S_ .f32 → A F S_ .f32 → A F S_ .f32),
    nullary main_cst_22 (constant S_ .f32 0x3F800000#32),
    nullary main_cst_23 (constant S_ .f32 0x41200000#32),
    binary main_cst_22 main_cst_23 main_v71 (Host.divf : A F S_ .f32 → A F S_ .f32 → A F S_ .f32),
    unary main_arg0 main_v72 ((extf .f32 · bitsLt_bf16_f32) : A F S5x384x2880 .bf16 → A F S5x384x2880 .f32),
    unary main_v71 main_v73 (broadcastInDim S5x384x2880 ![] bcast_S_S5x384x2880 : A F S_ .f32 → A F S5x384x2880 .f32),
    binary main_v73 main_v72 main_v74 (mulf : A F S5x384x2880 .f32 → A F S5x384x2880 .f32 → A F S5x384x2880 .f32),
    binary main_v69 main_v74 main_v75 (addf : A F S5x384x2880 .f32 → A F S5x384x2880 .f32 → A F S5x384x2880 .f32),
    unary main_v70 main_v76 (broadcastInDim S5x384x2880 ![] bcast_S_S5x384x2880 : A F S_ .f32 → A F S5x384x2880 .f32),
    binary main_v76 main_v75 main_v77 (mulf : A F S5x384x2880 .f32 → A F S5x384x2880 .f32 → A F S5x384x2880 .f32),
    reshape main_v47 main_v78 (rfl : (.f32 : EltTy) = .f32) shapeCasts_S5x384x2880_S5x6x64x2880,
    unary main_v78 main_v79 (Host.absf : A F S5x6x64x2880 .f32 → A F S5x6x64x2880 .f32),
    nullary main_cst_24 (constant S_ .f32 0xFF800000#32),
    binary main_v79 main_cst_24 main_v80 ((fun x v => Host.reduce FloatOps.maximumf x v reducesTo_S5x6x64x2880_S5x6x2880_d2 h_S_) : A F S5x6x64x2880 .f32 → A F S_ .f32 → A F S5x6x2880 .f32),
    nullary main_cst_25 (constant S_ .f32 0x00000000#32),
    unary main_cst_25 main_v81 (broadcastInDim S5x6x2880 ![] bcast_S_S5x6x2880 : A F S_ .f32 → A F S5x6x2880 .f32),
    binary main_v80 main_v81 main_v82 (cmpf .oeq : A F S5x6x2880 .f32 → A F S5x6x2880 .f32 → A F S5x6x2880 .i1),
    nullary main_cst_26 (constant S_ .f32 0x40E00000#32),
    unary main_cst_26 main_v83 (broadcastInDim S5x6x2880 ![] bcast_S_S5x6x2880 : A F S_ .f32 → A F S5x6x2880 .f32),
    binary main_v80 main_v83 main_v84 (Host.divf : A F S5x6x2880 .f32 → A F S5x6x2880 .f32 → A F S5x6x2880 .f32),
    nullary main_cst_27 (constant S_ .f32 0x3F800000#32),
    TRef.unary (.of main_cst_27) (.of main_call1_v0) id,
    TRef.unary (.of main_call1_v0) (.of main_call1_v1) (broadcastInDim S5x6x2880 ![] bcast_S_S5x6x2880),
    TRef.ternary (.of main_v82) (.of main_call1_v1) (.of main_v84) (.of main_v85) select,
    unary main_v85 main_v86 (broadcastInDim S5x6x1x2880 ![0, 1, 3] bcast_S5x6x2880_S5x6x1x2880_0_1_3 : A F S5x6x2880 .f32 → A F S5x6x1x2880 .f32),
    unary main_v86 main_v87 (broadcastInDim S5x6x64x2880 ![0, 1, 2, 3] bcast_S5x6x1x2880_S5x6x64x2880_0_1_2_3 : A F S5x6x1x2880 .f32 → A F S5x6x64x2880 .f32),
    binary main_v78 main_v87 main_v88 (Host.divf : A F S5x6x64x2880 .f32 → A F S5x6x64x2880 .f32 → A F S5x6x64x2880 .f32),
    TRef.unary (.of main_v88) (.of main_v89) Host.roundeven ]

theorem part1_eq (d : Dev nD) : main_part1 (F := F) d = seq ops1 := rfl

/-- The operations of @main's window 2. -/
def ops2 : List (HloOp τ sig (Elt F)) :=
  [ nullary main_cst_28 (constant S_ .f32 0xC0E00000#32),
    nullary main_cst_29 (constant S_ .f32 0x40E00000#32),
    TRef.unary (.of main_cst_28) (.of main_call3_v0) id,
    TRef.unary (.of main_call3_v0) (.of main_call3_v1) (broadcastInDim S5x6x64x2880 ![] bcast_S_S5x6x64x2880),
    TRef.binary (.of main_call3_v1) (.of main_v89) (.of main_call3_v2) maximumf,
    TRef.unary (.of main_cst_29) (.of main_call3_v3) id,
    TRef.unary (.of main_call3_v3) (.of main_call3_v4) (broadcastInDim S5x6x64x2880 ![] bcast_S_S5x6x64x2880),
    TRef.binary (.of main_call3_v4) (.of main_call3_v2) (.of main_v90) minimumf,
    unary main_v90 main_v91 (fptosi 32 : A F S5x6x64x2880 .f32 → A F S5x6x64x2880 .i32),
    reshape main_v91 main_v92 (rfl : (.i32 : EltTy) = .i32) shapeCasts_S5x6x64x2880_S5x384x2880,
    nullary main_cst_30 (constant S_ .f32 0xFF800000#32),
    binary main_v55 main_cst_30 main_v93 ((fun x v => Host.reduce FloatOps.maximumf x v reducesTo_S5x384x2880_S5x384_d2 h_S_) : A F S5x384x2880 .f32 → A F S_ .f32 → A F S5x384 .f32),
    nullary main_cst_31 (constant S_ .f32 0xFF800000#32),
    binary main_v55 main_cst_31 main_v94 ((fun x v => Host.reduce FloatOps.maximumf x v reducesTo_S5x384x2880_S5x2880_d1 h_S_) : A F S5x384x2880 .f32 → A F S_ .f32 → A F S5x2880 .f32),
    unary main_v93 main_v95 (broadcastInDim S5x384x1 ![0, 1] bcast_S5x384_S5x384x1_0_1 : A F S5x384 .f32 → A F S5x384x1 .f32),
    unary main_v94 main_v96 (broadcastInDim S5x1x2880 ![0, 2] bcast_S5x2880_S5x1x2880_0_2 : A F S5x2880 .f32 → A F S5x1x2880 .f32),
    unary main_v95 main_v97 (broadcastInDim S5x384x2880 ![0, 1, 2] bcast_S5x384x1_S5x384x2880_0_1_2 : A F S5x384x1 .f32 → A F S5x384x2880 .f32),
    unary main_v96 main_v98 (broadcastInDim S5x384x2880 ![0, 1, 2] bcast_S5x1x2880_S5x384x2880_0_1_2 : A F S5x1x2880 .f32 → A F S5x384x2880 .f32),
    binary main_v97 main_v98 main_v99 (minimumf : A F S5x384x2880 .f32 → A F S5x384x2880 .f32 → A F S5x384x2880 .f32),
    nullary main_cst_32 (constant S_ .f32 0x41800000#32),
    unary main_cst_32 main_v100 (broadcastInDim S5x384x2880 ![] bcast_S_S5x384x2880 : A F S_ .f32 → A F S5x384x2880 .f32),
    binary main_v100 main_v55 main_v101 (mulf : A F S5x384x2880 .f32 → A F S5x384x2880 .f32 → A F S5x384x2880 .f32),
    binary main_v101 main_v99 main_v102 (Host.divf : A F S5x384x2880 .f32 → A F S5x384x2880 .f32 → A F S5x384x2880 .f32),
    nullary main_cst_33 (constant S_ .f32 0x3F800000#32),
    unary main_cst_33 main_v103 (broadcastInDim S5x384x2880 ![] bcast_S_S5x384x2880 : A F S_ .f32 → A F S5x384x2880 .f32),
    binary main_v102 main_v103 main_v104 (subf : A F S5x384x2880 .f32 → A F S5x384x2880 .f32 → A F S5x384x2880 .f32),
    TRef.unary (.of main_v104) (.of main_v105) Host.roundeven,
    nullary main_cst_34 (constant S_ .f32 0x00000000#32),
    nullary main_cst_35 (constant S_ .f32 0x41700000#32),
    TRef.unary (.of main_cst_34) (.of main_call5_v0) id,
    TRef.unary (.of main_call5_v0) (.of main_call5_v1) (broadcastInDim S5x384x2880 ![] bcast_S_S5x384x2880),
    TRef.binary (.of main_call5_v1) (.of main_v105) (.of main_call5_v2) maximumf,
    TRef.unary (.of main_cst_35) (.of main_call5_v3) id,
    TRef.unary (.of main_call5_v3) (.of main_call5_v4) (broadcastInDim S5x384x2880 ![] bcast_S_S5x384x2880),
    TRef.binary (.of main_call5_v4) (.of main_call5_v2) (.of main_v106) minimumf,
    unary main_v106 main_v107 (fptosi 32 : A F S5x384x2880 .f32 → A F S5x384x2880 .i32),
    nullary main_c_36 (constantI S_ 32 15#32),
    unary main_c_36 main_v108 (broadcastInDim S5x384x2880 ![] bcast_S_S5x384x2880 : A F S_ .i32 → A F S5x384x2880 .i32),
    binary main_v92 main_v108 main_v109 (andi : A F S5x384x2880 .i32 → A F S5x384x2880 .i32 → A F S5x384x2880 .i32),
    reshape main_v109 main_v110 (rfl : (.i32 : EltTy) = .i32) shapeCasts_S5x384x2880_S5x384x1440x2,
    unary main_v110 main_v111 ((extractStridedSlice S5x384x1440x1 ![0, 0, 0, 0] · slices_S5x384x1440x2_S5x384x1440x1_0_0_0_0) : A F S5x384x1440x2 .i32 → A F S5x384x1440x1 .i32),
    reshape main_v111 main_v112 (rfl : (.i32 : EltTy) = .i32) shapeCasts_S5x384x1440x1_S5x384x1440,
    unary main_v110 main_v113 ((extractStridedSlice S5x384x1440x1 ![0, 0, 0, 1] · slices_S5x384x1440x2_S5x384x1440x1_0_0_0_1) : A F S5x384x1440x2 .i32 → A F S5x384x1440x1 .i32),
    reshape main_v113 main_v114 (rfl : (.i32 : EltTy) = .i32) shapeCasts_S5x384x1440x1_S5x384x1440,
    nullary main_c_37 (constantI S_ 32 4#32),
    unary main_c_37 main_v115 (broadcastInDim S5x384x1440 ![] bcast_S_S5x384x1440 : A F S_ .i32 → A F S5x384x1440 .i32),
    binary main_v114 main_v115 main_v116 (Host.shli : A F S5x384x1440 .i32 → A F S5x384x1440 .i32 → A F S5x384x1440 .i32),
    binary main_v112 main_v116 main_v117 (ori : A F S5x384x1440 .i32 → A F S5x384x1440 .i32 → A F S5x384x1440 .i32),
    unary main_v117 main_v118 ((trunci 8 · natLt_8_32) : A F S5x384x1440 .i32 → A F S5x384x1440 .i8),
    nullary main_c_38 (constantI S_ 32 15#32),
    unary main_c_38 main_v119 (broadcastInDim S5x384x2880 ![] bcast_S_S5x384x2880 : A F S_ .i32 → A F S5x384x2880 .i32),
    binary main_v107 main_v119 main_v120 (andi : A F S5x384x2880 .i32 → A F S5x384x2880 .i32 → A F S5x384x2880 .i32),
    reshape main_v120 main_v121 (rfl : (.i32 : EltTy) = .i32) shapeCasts_S5x384x2880_S5x384x1440x2,
    unary main_v121 main_v122 ((extractStridedSlice S5x384x1440x1 ![0, 0, 0, 0] · slices_S5x384x1440x2_S5x384x1440x1_0_0_0_0) : A F S5x384x1440x2 .i32 → A F S5x384x1440x1 .i32),
    reshape main_v122 main_v123 (rfl : (.i32 : EltTy) = .i32) shapeCasts_S5x384x1440x1_S5x384x1440,
    unary main_v121 main_v124 ((extractStridedSlice S5x384x1440x1 ![0, 0, 0, 1] · slices_S5x384x1440x2_S5x384x1440x1_0_0_0_1) : A F S5x384x1440x2 .i32 → A F S5x384x1440x1 .i32),
    reshape main_v124 main_v125 (rfl : (.i32 : EltTy) = .i32) shapeCasts_S5x384x1440x1_S5x384x1440,
    nullary main_c_39 (constantI S_ 32 4#32),
    unary main_c_39 main_v126 (broadcastInDim S5x384x1440 ![] bcast_S_S5x384x1440 : A F S_ .i32 → A F S5x384x1440 .i32),
    binary main_v125 main_v126 main_v127 (Host.shli : A F S5x384x1440 .i32 → A F S5x384x1440 .i32 → A F S5x384x1440 .i32),
    binary main_v123 main_v127 main_v128 (ori : A F S5x384x1440 .i32 → A F S5x384x1440 .i32 → A F S5x384x1440 .i32),
    unary main_v128 main_v129 ((trunci 8 · natLt_8_32) : A F S5x384x1440 .i32 → A F S5x384x1440 .i8) ]

theorem part2_eq (d : Dev nD) : main_part2 (F := F) d = seq ops2 := rfl

/-- @main's operations, in order. -/
def ops : List (HloOp τ sig (Elt F)) := ops0 ++ (ops1 ++ ops2)

theorem main_eq (d : Dev nD) : main (F := F) d = seq ops := by
  unfold ops
  rw [seq_append, seq_append, ← part0_eq d, ← part1_eq d, ← part2_eq d]
  rfl

/-- What each operation of window 0 reads, and what it writes. -/
def io0 : List (List (Ref sig .tc) × Ref sig .tc) :=
  [([main_arg3], main_v0),
   ([], main_c),
   ([main_c], main_v1),
   ([main_v0, main_v1], main_v2),
   ([], main_c_0),
   ([main_c_0], main_v3),
   ([main_v0, main_v3], main_v4),
   ([main_v2], main_v5),
   ([main_v4], main_v6),
   ([main_v5, main_v6], main_v7),
   ([main_v7], main_v8),
   ([], main_c_1),
   ([main_c_1], main_v9),
   ([main_v8, main_v9], main_v10),
   ([], main_c_2),
   ([main_c_2], main_v11),
   ([main_v8, main_v11], main_v12),
   ([main_v10, main_v12, main_v8], main_v13),
   ([main_v13], main_v14),
   ([main_v14], main_v15),
   ([main_arg4], main_v16),
   ([main_v16], main_v17),
   ([main_v15, main_v17], main_v18),
   ([main_v18], main_v19),
   ([main_arg5], main_v20),
   ([], main_c_3),
   ([main_c_3], main_v21),
   ([main_v20, main_v21], main_v22),
   ([], main_c_4),
   ([main_c_4], main_v23),
   ([main_v20, main_v23], main_v24),
   ([main_v22], main_v25),
   ([main_v24], main_v26),
   ([main_v25, main_v26], main_v27),
   ([main_v27], main_v28),
   ([main_v28], main_v29),
   ([], main_cst),
   ([main_cst], main_v30),
   ([main_v29, main_v30], main_v31),
   ([], main_cst_5),
   ([main_cst_5], main_v32),
   ([main_v31, main_v32], main_v33),
   ([main_arg6], main_v34),
   ([main_arg7], main_v35),
   ([main_v34], main_v36),
   ([main_v35], main_v37),
   ([main_v36, main_v37], main_v38),
   ([main_v33, main_v38], main_v39),
   ([main_arg1], main_v40),
   ([], main_cst_6),
   ([], main_cst_7),
   ([main_cst_6, main_cst_7], main_v41),
   ([main_v41], main_v42),
   ([main_v42, main_v19], main_v43),
   ([], main_cst_8),
   ([], main_cst_9),
   ([main_cst_8, main_cst_9], main_v44),
   ([main_v44], main_v45),
   ([main_v45, main_v40], main_v46),
   ([main_v43, main_v46], main_v47)]

theorem writes0 : (ops0 (F := F)).map HloOp.writes = io0.map fun p => {Proc.devRef (τ := τ) .tc p.2} := rfl

theorem bufs0 : (ops0 (F := F)).map HloOp.bufs = io0.map touched := rfl

theorem fresh0 : (ops0 (F := F)).map HloOp.fresh = (ops0 (F := F)).map fun _ => (∅ : Finset (DevRef τ sig)) := rfl

/-- What each operation of window 1 reads, and what it writes. -/
def io1 : List (List (Ref sig .tc) × Ref sig .tc) :=
  [([], main_cst_10),
   ([], main_cst_11),
   ([main_cst_10, main_cst_11], main_v48),
   ([main_v48], main_v49),
   ([main_v49, main_v39], main_v50),
   ([], main_cst_12),
   ([], main_cst_13),
   ([main_cst_12, main_cst_13], main_v51),
   ([main_v40, main_v40], main_v52),
   ([main_v51], main_v53),
   ([main_v53, main_v52], main_v54),
   ([main_v50, main_v54], main_v55),
   ([main_arg2], main_v56),
   ([], main_cst_14),
   ([main_cst_14, main_v56], main_v57),
   ([], main_cst_15),
   ([main_cst_15, main_v57], main_v58),
   ([], main_cst_16),
   ([main_cst_16, main_v56], main_v59),
   ([], main_cst_17),
   ([main_cst_17, main_v59], main_v60),
   ([main_v58], main_v61),
   ([main_v47, main_v61], main_v62),
   ([main_v60], main_v63),
   ([main_v55, main_v63], main_v64),
   ([main_v64], main_v65),
   ([], main_cst_18),
   ([], main_cst_19),
   ([main_cst_18, main_cst_19], main_v66),
   ([main_v66], main_v67),
   ([main_v65, main_v67], main_v68),
   ([main_v62, main_v68], main_v69),
   ([], main_cst_20),
   ([], main_cst_21),
   ([main_cst_20, main_cst_21], main_v70),
   ([], main_cst_22),
   ([], main_cst_23),
   ([main_cst_22, main_cst_23], main_v71),
   ([main_arg0], main_v72),
   ([main_v71], main_v73),
   ([main_v73, main_v72], main_v74),
   ([main_v69, main_v74], main_v75),
   ([main_v70], main_v76),
   ([main_v76, main_v75], main_v77),
   ([main_v47], main_v78),
   ([main_v78], main_v79),
   ([], main_cst_24),
   ([main_v79, main_cst_24], main_v80),
   ([], main_cst_25),
   ([main_cst_25], main_v81),
   ([main_v80, main_v81], main_v82),
   ([], main_cst_26),
   ([main_cst_26], main_v83),
   ([main_v80, main_v83], main_v84),
   ([], main_cst_27),
   ([main_cst_27], main_call1_v0),
   ([main_call1_v0], main_call1_v1),
   ([main_v82, main_call1_v1, main_v84], main_v85),
   ([main_v85], main_v86),
   ([main_v86], main_v87),
   ([main_v78, main_v87], main_v88),
   ([main_v88], main_v89)]

theorem writes1 : (ops1 (F := F)).map HloOp.writes = io1.map fun p => {Proc.devRef (τ := τ) .tc p.2} := rfl

theorem bufs1 : (ops1 (F := F)).map HloOp.bufs = io1.map touched := rfl

theorem fresh1 : (ops1 (F := F)).map HloOp.fresh = (ops1 (F := F)).map fun _ => (∅ : Finset (DevRef τ sig)) := rfl

/-- What each operation of window 2 reads, and what it writes. -/
def io2 : List (List (Ref sig .tc) × Ref sig .tc) :=
  [([], main_cst_28),
   ([], main_cst_29),
   ([main_cst_28], main_call3_v0),
   ([main_call3_v0], main_call3_v1),
   ([main_call3_v1, main_v89], main_call3_v2),
   ([main_cst_29], main_call3_v3),
   ([main_call3_v3], main_call3_v4),
   ([main_call3_v4, main_call3_v2], main_v90),
   ([main_v90], main_v91),
   ([main_v91], main_v92),
   ([], main_cst_30),
   ([main_v55, main_cst_30], main_v93),
   ([], main_cst_31),
   ([main_v55, main_cst_31], main_v94),
   ([main_v93], main_v95),
   ([main_v94], main_v96),
   ([main_v95], main_v97),
   ([main_v96], main_v98),
   ([main_v97, main_v98], main_v99),
   ([], main_cst_32),
   ([main_cst_32], main_v100),
   ([main_v100, main_v55], main_v101),
   ([main_v101, main_v99], main_v102),
   ([], main_cst_33),
   ([main_cst_33], main_v103),
   ([main_v102, main_v103], main_v104),
   ([main_v104], main_v105),
   ([], main_cst_34),
   ([], main_cst_35),
   ([main_cst_34], main_call5_v0),
   ([main_call5_v0], main_call5_v1),
   ([main_call5_v1, main_v105], main_call5_v2),
   ([main_cst_35], main_call5_v3),
   ([main_call5_v3], main_call5_v4),
   ([main_call5_v4, main_call5_v2], main_v106),
   ([main_v106], main_v107),
   ([], main_c_36),
   ([main_c_36], main_v108),
   ([main_v92, main_v108], main_v109),
   ([main_v109], main_v110),
   ([main_v110], main_v111),
   ([main_v111], main_v112),
   ([main_v110], main_v113),
   ([main_v113], main_v114),
   ([], main_c_37),
   ([main_c_37], main_v115),
   ([main_v114, main_v115], main_v116),
   ([main_v112, main_v116], main_v117),
   ([main_v117], main_v118),
   ([], main_c_38),
   ([main_c_38], main_v119),
   ([main_v107, main_v119], main_v120),
   ([main_v120], main_v121),
   ([main_v121], main_v122),
   ([main_v122], main_v123),
   ([main_v121], main_v124),
   ([main_v124], main_v125),
   ([], main_c_39),
   ([main_c_39], main_v126),
   ([main_v125, main_v126], main_v127),
   ([main_v123, main_v127], main_v128),
   ([main_v128], main_v129)]

theorem writes2 : (ops2 (F := F)).map HloOp.writes = io2.map fun p => {Proc.devRef (τ := τ) .tc p.2} := rfl

theorem bufs2 : (ops2 (F := F)).map HloOp.bufs = io2.map touched := rfl

theorem fresh2 : (ops2 (F := F)).map HloOp.fresh = (ops2 (F := F)).map fun _ => (∅ : Finset (DevRef τ sig)) := rfl

/-- What each operation reads, and what it writes. -/
def io : List (List (Ref sig .tc) × Ref sig .tc) := io0 ++ (io1 ++ io2)

theorem writes : (ops (F := F)).map HloOp.writes = io.map fun p => {Proc.devRef (τ := τ) .tc p.2} := by
  unfold ops io
  simp only [List.map_append, writes0, writes1, writes2]

theorem bufs : (ops (F := F)).map HloOp.bufs = io.map touched := by
  unfold ops io
  simp only [List.map_append, bufs0, bufs1, bufs2]

theorem fresh : (ops (F := F)).map HloOp.fresh = (ops (F := F)).map fun _ => (∅ : Finset (DevRef τ sig)) := by
  unfold ops
  rw [List.map_append, List.map_append, fresh0, fresh1, fresh2, List.map_append, List.map_append]

theorem rising : Rising 8 io = true := by decide +kernel

theorem scopedRefs_eq : (Finset.univ.filter fun b : Ref sig .tc => b.isScoped) = ∅ := by decide
theorem scopedSems_eq : (Finset.univ.filter fun sm : SemLoc sig => sm.isScoped .tc) = ∅ := by decide

theorem bufs_sub : (ops (F := F)).Forall fun op => op.bufs ⊆ tcRefs τ sig := by
  refine List.forall_iff_forall_mem.mpr fun op hop => ?_
  have hm : op.bufs ∈ (ops (F := F)).map HloOp.bufs := List.mem_map_of_mem hop
  rw [bufs] at hm
  obtain ⟨⟨l, y⟩, -, e⟩ := List.mem_map.mp hm
  rw [← e]
  unfold touched
  dsimp only
  clear e hm
  induction l with
  | nil => exact Finset.singleton_subset_iff.mpr (devRef_mem_tcRefs _)
  | cons a l ih => exact Finset.insert_subset (devRef_mem_tcRefs _) ih

variable (m : (ℓ : Loc nD τ sig) → Buf (Elt F) ℓ) (ρ : Dev nD → PrngReg)

/-- What the device's buffers hold after the run. -/
def W (d : Dev nD) : Valuation τ sig (Elt F) := after ops (launchContents m d)

/-- The run: every buffer ends at `W`. -/
theorem run : θ_run defs (onTc (τ := τ) (main (F := F))) ⟨m, fun _ => 0, ρ⟩ fun r =>
    ∀ (d : Dev nD) (b : Ref sig .tc), r.2.mem ((d.tc : Thread nD τ).loc b) = W m d (Proc.devRef .tc b) :=
  run_seq scopedRefs_eq scopedSems_eq defs main (fun _ => ops) main_eq (fun _ => bufs_sub) m ρ
    (fun _ => List.forall_iff_forall_mem.mp (forall_fresh_of_map fresh))

/-- A buffer below the first one written keeps what the launch found there. -/
theorem W_arg (d : Dev nD) {b : Ref sig .tc} (hb : b.idx.val < 8) :
    W m d (Proc.devRef .tc b) = m ((d.tc : Thread nD τ).loc b) :=
  after_of_writes_sub (W := io.map Prod.snd) ops _ (forall_writes_sub_of_map (writes.trans (by rw [List.map_map]; rfl)))
    (fun hm => by
      obtain ⟨q, hq, e⟩ := List.mem_map.mp hm
      have := Rising.ge rising q hq
      rw [e] at this; omega)

/-- From any memory the program terminates, its arguments and its counters as they were. -/
theorem frame :
    θ_run defs (onTc (τ := τ) (main (F := F))) ⟨m, fun _ => 0, ρ⟩ (fun r =>
    (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)) ∧ r.2.sem = fun _ => 0) :=
  (θ_run defs _ _).mono (fun _ h => ⟨fun d => ⟨(h d _).trans (W_arg m d (by decide)), (h d _).trans (W_arg m d (by decide)),
    (h d _).trans (W_arg m d (by decide)), (h d _).trans (W_arg m d (by decide)), (h d _).trans (W_arg m d (by decide)),
    (h d _).trans (W_arg m d (by decide)), (h d _).trans (W_arg m d (by decide)), (h d _).trans (W_arg m d (by decide))⟩, sem_eq_zero_of_no_sems rfl _⟩)
    (run m ρ)

/-- The equation of the operation at place `i`. -/
theorem holds (d : Dev nD) (i : ℕ) (hi : i < (ops (F := F)).length) (hi' : i < io.length) :
    Holds (ops (F := F))[i] io[i] (W m d) :=
  holds_of_once ops io writes (Rising.once rising) _ i hi hi'

end Cert.ReferenceIdeal.Ref

end
-- ==== Proof.VPre.lean ====
/-
  What the precondition says of the arguments.
-/
module

public import proofs.«01_k».proof.Pre_pre
public import Idealize.ShloMosaic.Lib.ReduceAll
public import Idealize.ShloMosaic.Lib.Pointwise
public import Idealize.ShloMosaic.PureOps.Ideal
@[expose] public section

set_option maxRecDepth 100000

noncomputable section

namespace Cert.Pre_pre

open Idealize.ShloMosaic

theorem bcast0 : S_.BroadcastsInDim S5x384 (![] : Fin 0 → Fin S5x384.rank) := by decide
theorem red0 : S5x384.ReducesTo [0, 1] S_ := by decide
theorem numel0 : 0 < S_.numel := by decide
theorem bcast1 : S_.BroadcastsInDim S5x2880 (![] : Fin 0 → Fin S5x2880.rank) := by decide
theorem red1 : S5x2880.ReducesTo [0, 1] S_ := by decide

instance facts : Facts where
  bcast_S_S5x384 := bcast0
  reducesTo_S5x384_S_d0_1 := red0
  h_S_ := numel0
  bcast_S_S5x2880 := bcast1
  reducesTo_S5x2880_S_d0_1 := red1

theorem and_one {a b : BitVec 1} (h : IntOp.andi a b = 1#1) : a = 1#1 ∧ b = 1#1 := by
  revert a b
  decide

theorem oge_one {a b : EReal} (h : FloatOps.cmpf (F := Ideal) (φ := .f32) .oge a b = 1#1) : b ≤ a := by
  by_contra h'
  simp [FloatOps.cmpf, Ideal.cmp, h'] at h

theorem sge_one {x : BitVec 32} (h : IntOp.cmpi .sge x 1#32 = 1#1) : 1 ≤ x.toInt := by
  by_contra h'
  simp [IntOp.cmpi, BitVec.sle, h'] at h

theorem of_fn (a0 : FVec Ideal S5x384x2880 .bf16) (a1 : FVec Ideal S5x384x2880 .bf16) (a2 : IVec S_ 32) (a3 : IVec S5x384x1440 8)
    (a4 : FVec Ideal S5x6x2880 .f32) (a5 : IVec S5x384x1440 8) (a6 : FVec Ideal S5x384 .f32) (a7 : FVec Ideal S5x2880 .f32)
    (h : fn (F := Ideal) a0 a1 a2 a3 a4 a5 a6 a7 = fun _ => 1#1) :
    1 ≤ (a2 ix0).toInt ∧ (∀ i, Ideal.ofBits .f32 0x00800000#32 ≤ (a6 i : EReal)) ∧ ∀ i, Ideal.ofBits .f32 0x00800000#32 ≤ (a7 i : EReal) := by
  have h0 := congrFun h ix0
  unfold fn at h0
  obtain ⟨h1, h7⟩ := and_one h0
  obtain ⟨h2, h6⟩ := and_one h1
  have hs : Subsingleton S_.Idx := ⟨fun a b => funext fun i => i.elim0⟩
  refine ⟨?_, fun i => ?_, fun i => ?_⟩
  · exact sge_one h2
  · exact oge_one (Host.reduce_andi_all _ _ _ _ _ h6 i)
  · exact oge_one (Host.reduce_andi_all _ _ _ _ _ h7 i)

end Cert.Pre_pre
-- ==== Proof.VRead.lean ====
/-
  Contents read at natural-number coordinates: `rd2 X a b`, `rd3 X a b c` are the entry of `X` there, and a default value
  outside the shape. The window of an array and an array with a window replaced, read at coordinates. Thirty-two-bit
  words made of four bytes, changed byte by byte.
-/
module

public import Idealize.ShloMosaic.Lib.VecWindow
public import Idealize.ShloMosaic.Lib.Pointwise
public import Idealize.ShloMosaic.Lib.BitcastFour
public import Mathlib.Tactic.IntervalCases
@[expose] public section

set_option maxRecDepth 16384

noncomputable section

namespace Cert.Val

open Idealize.ShloMosaic

section Read
variable {α : Type} [Inhabited α] {n0 n1 n2 : ℕ}

/-- The entry at row `a`, column `b`. -/
def rd2 (X : (⟨2, ![n0, n1]⟩ : Shape).Idx → α) (a b : ℕ) : α :=
  if h : a < n0 ∧ b < n1 then X (ix2 ⟨a, h.1⟩ ⟨b, h.2⟩) else default

/-- The entry at `(a, b, c)`. -/
def rd3 (X : (⟨3, ![n0, n1, n2]⟩ : Shape).Idx → α) (a b c : ℕ) : α :=
  if h : a < n0 ∧ b < n1 ∧ c < n2 then X (ix3 ⟨a, h.1⟩ ⟨b, h.2.1⟩ ⟨c, h.2.2⟩) else default

theorem rd2_fin (X : (⟨2, ![n0, n1]⟩ : Shape).Idx → α) (a : Fin n0) (b : Fin n1) : rd2 X a b = X (ix2 a b) :=
  dif_pos ⟨a.isLt, b.isLt⟩

theorem rd3_fin (X : (⟨3, ![n0, n1, n2]⟩ : Shape).Idx → α) (a : Fin n0) (b : Fin n1) (c : Fin n2) :
    rd3 X a b c = X (ix3 a b c) := dif_pos ⟨a.isLt, b.isLt, c.isLt⟩

theorem rd2_lt (X : (⟨2, ![n0, n1]⟩ : Shape).Idx → α) (a b : ℕ) (ha : a < n0) (hb : b < n1) :
    rd2 X a b = X (ix2 ⟨a, ha⟩ ⟨b, hb⟩) := dif_pos ⟨ha, hb⟩

theorem rd3_lt (X : (⟨3, ![n0, n1, n2]⟩ : Shape).Idx → α) (a b c : ℕ) (ha : a < n0) (hb : b < n1) (hc : c < n2) :
    rd3 X a b c = X (ix3 ⟨a, ha⟩ ⟨b, hb⟩ ⟨c, hc⟩) := dif_pos ⟨ha, hb, hc⟩

variable (o0 o1 o2 s0 s1 s2 : ℕ)

theorem rd2_window (X : (⟨2, ![n0, n1]⟩ : Shape).Idx → α)
    (inb : ∀ a : Fin 2, (![o0, o1] : Fin 2 → ℕ) a + (![s0, s1] : Fin 2 → ℕ) a ≤ (![n0, n1] : Fin 2 → ℕ) a)
    (a b : ℕ) (ha : a < s0) (hb : b < s1) :
    rd2 (VecWindow.window (s := ⟨2, ![n0, n1]⟩) X ![o0, o1] ![s0, s1] inb) a b = rd2 X (o0 + a) (o1 + b) := by
  have i0 : o0 + s0 ≤ n0 := inb 0
  have i1 : o1 + s1 ≤ n1 := inb 1
  rw [rd2_lt _ a b ha hb, rd2_lt X _ _ (by omega) (by omega)]
  refine congrArg X (funext fun k => Fin.ext ?_)
  match k with
  | ⟨0, _⟩ => exact congrArg (o0 + ·) (Nat.one_mul a)
  | ⟨1, _⟩ => exact congrArg (o1 + ·) (Nat.one_mul b)

theorem rd3_window (X : (⟨3, ![n0, n1, n2]⟩ : Shape).Idx → α)
    (inb : ∀ a : Fin 3, (![o0, o1, o2] : Fin 3 → ℕ) a + (![s0, s1, s2] : Fin 3 → ℕ) a ≤ (![n0, n1, n2] : Fin 3 → ℕ) a)
    (a b c : ℕ) (ha : a < s0) (hb : b < s1) (hc : c < s2) :
    rd3 (VecWindow.window (s := ⟨3, ![n0, n1, n2]⟩) X ![o0, o1, o2] ![s0, s1, s2] inb) a b c = rd3 X (o0 + a) (o1 + b) (o2 + c) := by
  have i0 : o0 + s0 ≤ n0 := inb 0
  have i1 : o1 + s1 ≤ n1 := inb 1
  have i2 : o2 + s2 ≤ n2 := inb 2
  rw [rd3_lt _ a b c ha hb hc, rd3_lt X _ _ _ (by omega) (by omega) (by omega)]
  refine congrArg X (funext fun k => Fin.ext ?_)
  match k with
  | ⟨0, _⟩ => exact congrArg (o0 + ·) (Nat.one_mul a)
  | ⟨1, _⟩ => exact congrArg (o1 + ·) (Nat.one_mul b)
  | ⟨2, _⟩ => exact congrArg (o2 + ·) (Nat.one_mul c)

theorem rd2_put_in (X : (⟨2, ![n0, n1]⟩ : Shape).Idx → α) (W : (⟨2, ![s0, s1]⟩ : Shape).Idx → α) (a b : ℕ)
    (ha : a < n0) (hb : b < n1) (h0 : o0 ≤ a ∧ a < o0 + s0) (h1 : o1 ≤ b ∧ b < o1 + s1) :
    rd2 (VecWindow.put (s := ⟨2, ![n0, n1]⟩) X ![o0, o1] ![s0, s1] W) a b = rd2 W (a - o0) (b - o1) := by
  rw [rd2_lt _ a b ha hb, rd2_lt W _ _ (by omega) (by omega)]
  unfold VecWindow.put
  rw [dif_pos (fun k => match k with | ⟨0, _⟩ => h0 | ⟨1, _⟩ => h1)]
  refine congrArg W (funext fun k => Fin.ext ?_)
  match k with
  | ⟨0, _⟩ => rfl
  | ⟨1, _⟩ => rfl

theorem rd2_put_out (X : (⟨2, ![n0, n1]⟩ : Shape).Idx → α) (W : (⟨2, ![s0, s1]⟩ : Shape).Idx → α) (a b : ℕ)
    (h : ¬ ((o0 ≤ a ∧ a < o0 + s0) ∧ (o1 ≤ b ∧ b < o1 + s1))) :
    rd2 (VecWindow.put (s := ⟨2, ![n0, n1]⟩) X ![o0, o1] ![s0, s1] W) a b = rd2 X a b := by
  unfold rd2
  split
  · unfold VecWindow.put
    rw [dif_neg (fun hall => h ⟨hall (0 : Fin 2), hall (1 : Fin 2)⟩)]
  · rfl

theorem rd3_put_in (X : (⟨3, ![n0, n1, n2]⟩ : Shape).Idx → α) (W : (⟨3, ![s0, s1, s2]⟩ : Shape).Idx → α) (a b c : ℕ)
    (ha : a < n0) (hb : b < n1) (hc : c < n2) (h0 : o0 ≤ a ∧ a < o0 + s0) (h1 : o1 ≤ b ∧ b < o1 + s1) (h2 : o2 ≤ c ∧ c < o2 + s2) :
    rd3 (VecWindow.put (s := ⟨3, ![n0, n1, n2]⟩) X ![o0, o1, o2] ![s0, s1, s2] W) a b c = rd3 W (a - o0) (b - o1) (c - o2) := by
  rw [rd3_lt _ a b c ha hb hc, rd3_lt W _ _ _ (by omega) (by omega) (by omega)]
  unfold VecWindow.put
  rw [dif_pos (fun k => match k with | ⟨0, _⟩ => h0 | ⟨1, _⟩ => h1 | ⟨2, _⟩ => h2)]
  refine congrArg W (funext fun k => Fin.ext ?_)
  match k with
  | ⟨0, _⟩ => rfl
  | ⟨1, _⟩ => rfl
  | ⟨2, _⟩ => rfl

theorem rd3_put_out (X : (⟨3, ![n0, n1, n2]⟩ : Shape).Idx → α) (W : (⟨3, ![s0, s1, s2]⟩ : Shape).Idx → α) (a b c : ℕ)
    (h : ¬ ((o0 ≤ a ∧ a < o0 + s0) ∧ (o1 ≤ b ∧ b < o1 + s1) ∧ (o2 ≤ c ∧ c < o2 + s2))) :
    rd3 (VecWindow.put (s := ⟨3, ![n0, n1, n2]⟩) X ![o0, o1, o2] ![s0, s1, s2] W) a b c = rd3 X a b c := by
  unfold rd3
  split
  · unfold VecWindow.put
    rw [dif_neg (fun hall => h ⟨hall (0 : Fin 3), hall (1 : Fin 3), hall (2 : Fin 3)⟩)]
  · rfl

end Read

/-- `X` is `X0` with the columns below `c0` of the rows `r0 ≤ r < r0 + nr` of slab `a` filled from `T`. -/
def Fill {α : Type} [Inhabited α] {n0 n1 n2 : ℕ} (a r0 nr c0 : ℕ) (T : ℕ → ℕ → α) (X0 X : (⟨3, ![n0, n1, n2]⟩ : Shape).Idx → α) : Prop :=
  (∀ r c, r0 ≤ r → r < r0 + nr → c < c0 → c < n2 → rd3 X a r c = T r c) ∧
  (∀ k r c, ¬ (k = a ∧ (r0 ≤ r ∧ r < r0 + nr) ∧ c < c0) → rd3 X k r c = rd3 X0 k r c)

theorem Fill.zero {α : Type} [Inhabited α] {n0 n1 n2 : ℕ} (a r0 nr : ℕ) (T : ℕ → ℕ → α) (X0 : (⟨3, ![n0, n1, n2]⟩ : Shape).Idx → α) :
    Fill a r0 nr 0 T X0 X0 :=
  ⟨fun _ _ _ _ h => absurd h (Nat.not_lt_zero _), fun _ _ _ _ => rfl⟩

/-- One more group of columns filled. -/
theorem Fill.put {α : Type} [Inhabited α] {n0 n1 n2 a r0 nr c0 w : ℕ} {T : ℕ → ℕ → α} {X0 X : (⟨3, ![n0, n1, n2]⟩ : Shape).Idx → α}
    (h : Fill a r0 nr c0 T X0 X) (W : (⟨3, ![1, nr, w]⟩ : Shape).Idx → α) (ha : a < n0) (hr : r0 + nr ≤ n1)
    (hW : ∀ r x, r < nr → x < w → rd3 W 0 r x = T (r0 + r) (c0 + x)) {c1 : ℕ} (hc : c1 = c0 + w) :
    Fill a r0 nr c1 T X0 (VecWindow.put (s := ⟨3, ![n0, n1, n2]⟩) X ![a, r0, c0] ![1, nr, w] W) := by
  subst hc
  refine ⟨fun r c h1 h2 h3 h4 => ?_, fun k r c hn => ?_⟩
  · by_cases hc : c < c0
    · rw [rd3_put_out _ _ _ _ _ _ _ _ _ _ _ (by omega)]; exact h.1 r c h1 h2 hc h4
    · rw [rd3_put_in _ _ _ _ _ _ _ _ _ _ _ ha (by omega) h4 (by omega) (by omega) (by omega), Nat.sub_self,
        hW _ _ (by omega) (by omega)]
      congr 1 <;> omega
  · rw [rd3_put_out _ _ _ _ _ _ _ _ _ _ _ (by omega)]; exact h.2 k r c (by omega)

/-! ### Four bytes of a word -/

/-- A word changed by `f` where `f` changes every byte by `g`: the bytes changed by `g`. -/
theorem bytes_map {n : ℕ} (X : (⟨2, ![64, n]⟩ : Shape).Idx → BitVec 8) (h1 : (⟨2, ![64, n]⟩ : Shape).Bitcasts 8 ⟨2, ![16, n]⟩ 32)
    (h2 : (⟨2, ![16, n]⟩ : Shape).Bitcasts 32 ⟨2, ![64, n]⟩ 8) (f : BitVec 32 → BitVec 32) (g : BitVec 8 → BitVec 8)
    (H : ∀ (w : BitVec 32) (k : ℕ), k < 4 → (f w).extractLsb' (8 * k) 8 = g (w.extractLsb' (8 * k) 8)) (r : Fin 64) (c : Fin n) :
    bitcast ⟨2, ![64, n]⟩ 8 (fun i => f (bitcast ⟨2, ![16, n]⟩ 32 X h1 i)) h2 (ix2 r c) = g (X (ix2 r c)) := by
  have hb : ∀ (k : ℕ), k < 4 → ∀ a : Fin 16, ∀ p : Fin 64, p.val = 4 * a.val + k →
      (bitcast ⟨2, ![16, n]⟩ 32 X h1 (ix2 a c)).extractLsb' (8 * k) 8 = X (ix2 p c) := by
    intro k hk a p hp
    apply BitVec.eq_of_getLsbD_eq
    intro i hi
    rw [BitVec.getLsbD_extractLsb', decide_eq_true hi, Bool.true_and]
    have e := bitcast_8_32_getLsbD_ix2 X h1 a c (8 * k + i) (by omega) p (by omega)
    rw [show (8 * k + i) % 8 = i by omega] at e
    exact e
  have hr : r.val / 4 < 16 := by omega
  have key := H (bitcast ⟨2, ![16, n]⟩ 32 X h1 (ix2 ⟨r.val / 4, hr⟩ c)) (r.val % 4) (by omega)
  rw [hb (r.val % 4) (by omega) ⟨r.val / 4, hr⟩ r (by show r.val = 4 * (r.val / 4) + r.val % 4; omega)] at key
  rw [← key]
  apply BitVec.eq_of_getLsbD_eq
  intro q hq
  rw [bitcast_getLsbD _ h2 (ix2 r c) q hq (by decide), BitVec.getLsbD_extractLsb', decide_eq_true hq, Bool.true_and]
  have hrow : (ix2 r c : (⟨2, ![64, n]⟩ : Shape).Idx) ⟨0, Nat.zero_lt_two⟩ = r := rfl
  have e1 : (Shape.row (⟨2, ![64, n]⟩ : Shape) (ix2 r c) * 8 + q) % 32 = 8 * (r.val % 4) + q := by
    show (r.val * 8 + q) % 32 = _
    omega
  rw [e1]
  refine congrArg (fun i => (f (bitcast ⟨2, ![16, n]⟩ 32 X h1 i)).getLsbD (8 * (r.val % 4) + q)) (funext fun a => ?_)
  match a with
  | ⟨0, _⟩ =>
    refine Fin.ext ((h2.srcIdx_row _ _ _ ⟨0, Nat.zero_lt_two⟩ rfl).trans ?_)
    show (r.val * 8 + q) / 32 = r.val / 4
    omega
  | ⟨1, _⟩ => exact Fin.ext (h2.srcIdx_other _ _ _ ⟨1, Nat.one_lt_two⟩ (by show ¬ 1 + 2 = 2; omega))

theorem byte_and (w : BitVec 32) (m : BitVec 32) (b : BitVec 8) (hm : ∀ k, k < 4 → m.extractLsb' (8 * k) 8 = b) (k : ℕ) (hk : k < 4) :
    (w &&& m).extractLsb' (8 * k) 8 = w.extractLsb' (8 * k) 8 &&& b := by
  rw [← hm k hk]
  apply BitVec.eq_of_getLsbD_eq
  intro i hi
  simp [BitVec.getLsbD_extractLsb', hi]

theorem byte_xor (w : BitVec 32) (m : BitVec 32) (b : BitVec 8) (hm : ∀ k, k < 4 → m.extractLsb' (8 * k) 8 = b) (k : ℕ) (hk : k < 4) :
    (w ^^^ m).extractLsb' (8 * k) 8 = w.extractLsb' (8 * k) 8 ^^^ b := by
  rw [← hm k hk]
  apply BitVec.eq_of_getLsbD_eq
  intro i hi
  simp [BitVec.getLsbD_extractLsb', hi]

/-- The low four bits of every byte moved up. -/
theorem byte_up (w : BitVec 32) (k : ℕ) (hk : k < 4) :
    (IntOp.andi (IntOp.shli .vector w 4#32) 4042322160#32).extractLsb' (8 * k) 8 = (w.extractLsb' (8 * k) 8) <<< 4 := by
  show ((IntOp.shli .vector w 4#32) &&& 4042322160#32).extractLsb' (8 * k) 8 = _
  rw [byte_and _ _ 240#8 (by decide) k hk]
  have e : IntOp.shli .vector w 4#32 = w <<< 4 := (if_pos (by decide)).trans rfl
  rw [e]
  apply BitVec.eq_of_getLsbD_eq
  intro i hi
  have h240 : (240#8 : BitVec 8).getLsbD i = decide (4 ≤ i) := by
    interval_cases i <;> rfl
  simp only [BitVec.getLsbD_and, BitVec.getLsbD_extractLsb', BitVec.getLsbD_shiftLeft, h240, hi, decide_true, Bool.true_and]
  by_cases h : 4 ≤ i
  · have a1 : 8 * k + i < 32 := by omega
    have a2 : ¬ 8 * k + i < 4 := by omega
    have a3 : ¬ i < 4 := by omega
    have a4 : i - 4 < 8 := by omega
    have a5 : 8 * k + i - 4 = 8 * k + (i - 4) := by omega
    simp [a1, a2, a3, a4, a5, h]
  · have a3 : i < 4 := by omega
    simp [h, a3]

/-- The high four bits of every byte moved down, under the low mask. -/
theorem byte_down (w : BitVec 32) (k : ℕ) (hk : k < 4) :
    (IntOp.andi (IntOp.shrsi .vector w 4#32) 252645135#32).extractLsb' (8 * k) 8 = (w.extractLsb' (8 * k) 8) >>> 4 := by
  show ((IntOp.shrsi .vector w 4#32) &&& 252645135#32).extractLsb' (8 * k) 8 = _
  rw [byte_and _ _ 15#8 (by decide) k hk]
  have e : IntOp.shrsi .vector w 4#32 = w.sshiftRight 4 := (if_pos (by decide)).trans rfl
  rw [e]
  apply BitVec.eq_of_getLsbD_eq
  intro i hi
  have h15 : (15#8 : BitVec 8).getLsbD i = decide (i < 4) := by
    interval_cases i <;> rfl
  simp only [BitVec.getLsbD_and, BitVec.getLsbD_extractLsb', BitVec.getLsbD_ushiftRight, BitVec.getLsbD_sshiftRight, h15, hi, decide_true, Bool.true_and]
  by_cases h : i < 4
  · have a1 : ¬ 32 ≤ 8 * k + i := by omega
    have a2 : 4 + (8 * k + i) < 32 := by omega
    have a4 : 4 + i < 8 := by omega
    have a5 : 4 + (8 * k + i) = 8 * k + (4 + i) := by omega
    simp [a1, a2, a4, a5, h]
    exact fun h' => absurd h' (by omega)
  · have a3 : ¬ 4 + i < 8 := by omega
    simp [h, a3]

/-- One added to every byte where no byte overflows. -/
theorem byte_add (u : BitVec 32) (h : ∀ k, k < 4 → (u.extractLsb' (8 * k) 8).toNat ≤ 15) (k : ℕ) (hk : k < 4) :
    (IntOp.addi u 16843009#32).extractLsb' (8 * k) 8 = u.extractLsb' (8 * k) 8 + 1#8 := by
  have e : IntOp.addi u 16843009#32 = u + 16843009#32 := rfl
  rw [e]
  have g : ∀ (x : BitVec 32) (k : ℕ), (x.extractLsb' (8 * k) 8).toNat = x.toNat / 2 ^ (8 * k) % 256 := by
    intro x k
    rw [BitVec.extractLsb'_toNat, Nat.shiftRight_eq_div_pow]
  have h0 := h 0 (by omega)
  have h1 := h 1 (by omega)
  have h2 := h 2 (by omega)
  have h3 := h 3 (by omega)
  rw [g] at h0 h1 h2 h3
  have hu := u.isLt
  apply BitVec.eq_of_toNat_eq
  rw [g, BitVec.toNat_add, BitVec.toNat_add, g]
  norm_num at h0 h1 h2 h3 hu ⊢
  interval_cases k <;> norm_num <;> omega

end Cert.Val

end

end
-- ==== Proof.VTile.lean ====
/-
  The tiles of the update and of the requantisation at the extended reals, entry by entry.
-/
module

public import proofs.«01_k».proof.Proof.IBody
public import proofs.«01_k».proof.Proof.VRead
@[expose] public section

set_option maxRecDepth 16384

noncomputable section

namespace Cert.KernelIdeal.Body

open Cert.KernelIdeal Cert.KernelIdeal.Gen Cert.Proof Cert.Val
open Idealize.ShloMosaic Idealize.ShloMosaic.TcCoe Idealize.SL.Sem

/-! ### Four-bit numbers in a byte -/

/-- The four-bit number at place `p` (0 low, else high) of a byte. -/
def nib (b : BitVec 8) (p : ℕ) : ℤ := if p = 0 then (b.toNat % 16 : ℕ) else (b.toNat / 16 : ℕ)

/-- The same read with its sign. -/
def nibS (b : BitVec 8) (p : ℕ) : ℤ := if 8 ≤ nib b p then nib b p - 16 else nib b p

theorem up_toInt : ∀ b : BitVec 8, (b <<< 4).toInt = 16 * nibS b 0 := by decide +kernel
theorem high_toInt : ∀ b : BitVec 8, (b &&& 240#8).toInt = 16 * nibS b 1 := by decide +kernel
theorem low_toInt : ∀ b : BitVec 8, (((b &&& 15#8) + 1#8)).toInt = nib b 0 + 1 := by decide +kernel
theorem down_toInt : ∀ b : BitVec 8, ((b >>> 4) + 1#8).toInt = nib b 1 + 1 := by decide +kernel
theorem low_le : ∀ b : BitVec 8, (b &&& 15#8).toNat ≤ 15 := by decide +kernel
theorem down_le : ∀ b : BitVec 8, (b >>> 4).toNat ≤ 15 := by decide +kernel

section Bytes
variable {n : ℕ} (X : (⟨2, ![64, n]⟩ : Shape).Idx → BitVec 8) (h1 : (⟨2, ![64, n]⟩ : Shape).Bitcasts 8 ⟨2, ![16, n]⟩ 32)
    (h2 : (⟨2, ![16, n]⟩ : Shape).Bitcasts 32 ⟨2, ![64, n]⟩ 8) (r : Fin 64) (c : Fin n)

theorem bytes_up : bitcast ⟨2, ![64, n]⟩ 8 (andi (shli (bitcast ⟨2, ![16, n]⟩ 32 X h1) (broadcast ⟨2, ![16, n]⟩ 4#32)) (broadcast ⟨2, ![16, n]⟩ 4042322160#32)) h2 (ix2 r c)
    = X (ix2 r c) <<< 4 :=
  bytes_map X h1 h2 (fun w => IntOp.andi (IntOp.shli .vector w 4#32) 4042322160#32) (fun b => b <<< 4) byte_up r c

theorem bytes_high : bitcast ⟨2, ![64, n]⟩ 8 (andi (bitcast ⟨2, ![16, n]⟩ 32 X h1) (broadcast ⟨2, ![16, n]⟩ 4042322160#32)) h2 (ix2 r c)
    = X (ix2 r c) &&& 240#8 :=
  bytes_map X h1 h2 (fun w => IntOp.andi w 4042322160#32) (fun b => b &&& 240#8) (fun w => byte_and w _ _ (by decide)) r c

theorem bytes_low : bitcast ⟨2, ![64, n]⟩ 8 (addi (andi (bitcast ⟨2, ![16, n]⟩ 32 X h1) (broadcast ⟨2, ![16, n]⟩ 252645135#32)) (broadcast ⟨2, ![16, n]⟩ 16843009#32)) h2 (ix2 r c)
    = (X (ix2 r c) &&& 15#8) + 1#8 :=
  bytes_map X h1 h2 (fun w => IntOp.addi (IntOp.andi w 252645135#32) 16843009#32) (fun b => (b &&& 15#8) + 1#8)
    (fun w k hk => by
      have e := byte_and w 252645135#32 15#8 (by decide)
      have e' : ∀ k, k < 4 → (IntOp.andi w 252645135#32).extractLsb' (8 * k) 8 = w.extractLsb' (8 * k) 8 &&& 15#8 := e
      rw [byte_add _ (fun k hk => by rw [e' k hk]; exact low_le _) k hk, e' k hk]) r c

theorem bytes_down : bitcast ⟨2, ![64, n]⟩ 8 (addi (andi (shrsi (bitcast ⟨2, ![16, n]⟩ 32 X h1) (broadcast ⟨2, ![16, n]⟩ 4#32)) (broadcast ⟨2, ![16, n]⟩ 252645135#32)) (broadcast ⟨2, ![16, n]⟩ 16843009#32)) h2 (ix2 r c)
    = (X (ix2 r c) >>> 4) + 1#8 :=
  bytes_map X h1 h2 (fun w => IntOp.addi (IntOp.andi (IntOp.shrsi .vector w 4#32) 252645135#32) 16843009#32) (fun b => (b >>> 4) + 1#8)
    (fun w k hk => by
      rw [byte_add _ (fun k hk => by rw [byte_down w k hk]; exact down_le _) k hk, byte_down w k hk]) r c

theorem bytes_flip : bitcast ⟨2, ![64, n]⟩ 8 (xori (bitcast ⟨2, ![16, n]⟩ 32 X h1) (broadcast ⟨2, ![16, n]⟩ 2290649224#32)) h2 (ix2 r c)
    = X (ix2 r c) ^^^ 136#8 :=
  bytes_map X h1 h2 (fun w => IntOp.xori w 2290649224#32) (fun b => b ^^^ 136#8) (fun w => byte_xor w _ _ (by decide)) r c

end Bytes

/-! ### Sums against a selection matrix -/

theorem sum_sel {n : ℕ} (A : Fin n → EReal) (q : Fin n → EReal) (v : EReal) (j : Fin n)
    (hq : ∀ x : Fin n, q x = if x.val = j.val then v else 0) : ∑ x : Fin n, A x * q x = A j * v := by
  rw [Finset.sum_eq_single j]
  · rw [hq, if_pos rfl]
  · intro x _ hx
    rw [hq, if_neg (fun h => hx (Fin.ext h)), mul_zero]
  · intro h; exact absurd (Finset.mem_univ _) h

theorem sum_none {n : ℕ} (A : Fin n → EReal) (q : Fin n → EReal) (hq : ∀ x : Fin n, q x = 0) : ∑ x : Fin n, A x * q x = 0 :=
  Finset.sum_eq_zero fun x _ => by rw [hq, mul_zero]

/-- The entries of the matrix that sends the low numbers to the even columns and the high ones to the odd. -/
def selQ (k c : ℕ) : EReal := if c = (if k < 128 then 2 * k else 2 * (k - 128) + 1) then (((1 : ℝ) / 16 : ℝ) : EReal) else 0

theorem sel_pair {n : ℕ} (hn : n ≤ 128) (A B : Fin n → EReal) (q1 q2 : Fin n → EReal) (c : ℕ) (hc : c / 2 < n)
    (h1 : ∀ x : Fin n, q1 x = selQ x c) (h2 : ∀ x : Fin n, q2 x = selQ (128 + x) c) :
    (∑ x : Fin n, A x * q1 x) + ∑ x : Fin n, B x * q2 x
      = (if c % 2 = 0 then A ⟨c / 2, hc⟩ else B ⟨c / 2, hc⟩) * (((1 : ℝ) / 16 : ℝ) : EReal) := by
  by_cases hp : c % 2 = 0
  · rw [sum_sel A q1 _ ⟨c / 2, hc⟩ (fun x => by
        rw [h1]; unfold selQ; have := x.isLt
        rw [if_pos (by omega : x.val < 128)]
        exact if_congr (by show _ ↔ x.val = c / 2; omega) rfl rfl),
      sum_none B q2 (fun x => by
        rw [h2]; unfold selQ
        rw [if_neg (by omega : ¬ 128 + x.val < 128), if_neg (by omega)]), if_pos hp, add_zero]
  · rw [sum_none A q1 (fun x => by
        rw [h1]; unfold selQ; have := x.isLt
        rw [if_pos (by omega : x.val < 128), if_neg (by omega)]),
      sum_sel B q2 _ ⟨c / 2, hc⟩ (fun x => by
        rw [h2]; unfold selQ
        rw [if_neg (by omega : ¬ 128 + x.val < 128)]
        exact if_congr (by show _ ↔ x.val = c / 2; omega) rfl rfl), if_neg hp, zero_add]

theorem nibS_of (b : BitVec 8) (p : ℕ) (hp : p < 2) :
    (if p = 0 then (((b <<< 4).toInt : ℝ) : EReal) else (((b &&& 240#8).toInt : ℝ) : EReal)) * (((1 : ℝ) / 16 : ℝ) : EReal)
      = ((nibS b p : ℝ) : EReal) := by
  have hp' : p = 0 ∨ p = 1 := by omega
  rcases hp' with rfl | rfl
  · rw [if_pos rfl, up_toInt, ← EReal.coe_mul]; congr 1; push_cast; ring
  · rw [if_neg (by decide), high_toInt, ← EReal.coe_mul]; congr 1; push_cast; ring

theorem nib_of (b : BitVec 8) (p : ℕ) (hp : p < 2) :
    (if p = 0 then (((((b &&& 15#8) + 1#8)).toInt : ℝ) : EReal) else ((((b >>> 4) + 1#8).toInt : ℝ) : EReal)) * (((1 : ℝ) / 16 : ℝ) : EReal)
      = (((nib b p + 1 : ℝ) / 16 : ℝ) : EReal) := by
  have hp' : p = 0 ∨ p = 1 := by omega
  rcases hp' with rfl | rfl
  · rw [if_pos rfl, low_toInt, ← EReal.coe_mul]; congr 1; push_cast; ring
  · rw [if_neg (by decide), down_toInt, ← EReal.coe_mul]; congr 1; push_cast; ring

/-! ### Ten times the new first moment, a thousand times the new second -/

/-- Ten times the new first moment. -/
def MP (b : BitVec 8) (p : ℕ) (s g : EReal) : EReal := ((nibS b p : ℝ) : EReal) * s + g

/-- A thousand times the new second moment. -/
def VP (b : BitVec 8) (p : ℕ) (row col g : EReal) : EReal := (((nib b p + 1 : ℝ) / 16 : ℝ) : EReal) * min row col + g * g

theorem tU_mp_at (g : FVec Ideal S1x64x256 .bf16) (mc : IVec S1x64x128 8) (Q : FVec Ideal S256x256 .bf16) (sc : FVec Ideal S1x256 .f32)
    (hQ : ∀ k c : Fin 256, Q (ix2 k c) = selQ k c) (r : Fin 64) (c : Fin 256) :
    tU_mp (F := Ideal) g mc Q sc (ix2 r c) = MP (mc (ix3 0 r ⟨c / 2, by omega⟩)) (c.val % 2) (sc (ix2 0 c)) (g (ix3 0 r c)) := by
  pointwise [tU_mp]
  rw [sel_pair (le_refl 128) _ _ _ _ c.val (by omega) (fun x => hQ _ _) (fun x => hQ _ _)]
  rw [bytes_up, bytes_high]
  unfold MP
  rw [← nibS_of _ _ (Nat.mod_lt _ (by decide))]
  pointwise
  rfl

theorem tU_vp_at (g : FVec Ideal S1x64x256 .bf16) (vc : IVec S1x64x128 8) (Q : FVec Ideal S256x256 .bf16) (rn : FVec Ideal S64x128 .f32)
    (cn : FVec Ideal S1x256 .f32) (hQ : ∀ k c : Fin 256, Q (ix2 k c) = selQ k c) (row : ℕ → EReal) (hrn : ∀ (r : Fin 64) (l : Fin 128), rn (ix2 r l) = row r)
    (r : Fin 64) (c : Fin 256) :
    tU_vp (F := Ideal) g vc Q rn cn (ix2 r c) = VP (vc (ix3 0 r ⟨c / 2, by omega⟩)) (c.val % 2) (row r) (cn (ix2 0 c)) (g (ix3 0 r c)) := by
  pointwise [tU_vp, hrn]
  rw [sel_pair (le_refl 128) _ _ _ _ c.val (by omega) (fun x => hQ _ _) (fun x => hQ _ _)]
  rw [bytes_low, bytes_down]
  unfold VP
  rw [← nib_of _ _ (Nat.mod_lt _ (by decide))]
  pointwise
  rw [dite_eq_ite, ite_self]
  rfl

/-- The largest absolute value of 64 numbers. -/
def AM (f : ℕ → EReal) : EReal := Finset.univ.fold max (Ideal.ofBits .f32 0xFF800000#32) fun x : Fin 64 => max (f x) (-(f x))

/-- The new scale of the first moment. -/
def SC (a : EReal) : EReal := if a = 0 then 1 else a * Named.named (F := Ideal) (φ := .f32) κ "seventieth" 0x3C6A0EA1#32

/-- Ten times the new scale of the first moment. -/
def SK (a : EReal) : EReal := if a = 0 then 1 else a * Named.named (F := Ideal) (φ := .f32) κ "seventh" 0x3E124925#32

/-- The step. -/
def DW (mp vp w k1 k2 : EReal) : EReal :=
  mp * Ideal.rsqrt vp * Ideal.div 1 (k1 + k2 * Ideal.rsqrt vp) + w * Named.named (F := Ideal) (φ := .f32) κ "lr_decay" 0x37FBA882#32

theorem tU_sc_at (m : FVec Ideal S64x256 .f32) (M : ℕ → ℕ → EReal) (hm : ∀ (r : Fin 64) (c : Fin 256), m (ix2 r c) = M r c) (c : Fin 256) :
    tU_sc (F := Ideal) m (ix2 0 c) = SC (AM fun r => M r c) := by
  pointwise [tU_sc]
  simp only [hm]
  rfl

theorem tU_dw_at (m v : FVec Ideal S64x256 .f32) (w : FVec Ideal S1x64x256 .bf16) (k1 k2 : FVec Ideal S1x128 .f32) (x1 x2 : EReal)
    (h1 : ∀ l : Fin 128, k1 (ix2 0 l) = x1) (h2 : ∀ l : Fin 128, k2 (ix2 0 l) = x2) (r : Fin 64) (c : Fin 256) :
    tU_dw (F := Ideal) m v w k1 k2 (ix3 0 r c) = DW (m (ix2 r c)) (v (ix2 r c)) (w (ix3 0 r c)) x1 x2 := by
  pointwise [tU_dw, h1, h2]
  simp only [dite_eq_ite, ite_self]
  rfl

/-- The largest of eight rows, eight apart. -/
def CM (f : ℕ → EReal) (s : ℕ) : EReal := Finset.univ.fold max (Ideal.ofBits .f32 0xFF800000#32) fun x : Fin 8 => f (x * 8 + s)

theorem tU_cmax_at (v : FVec Ideal S64x256 .f32) (o : FVec Ideal S1x8x256 .f32) (V : ℕ → ℕ → EReal) (hv : ∀ (r : Fin 64) (c : Fin 256), v (ix2 r c) = V r c)
    (s : Fin 8) (c : Fin 256) :
    tU_cmax (F := Ideal) v o (ix3 0 s c) = max (o (ix3 0 s c)) (CM (fun r => V r c) s) := by
  pointwise [tU_cmax]
  simp only [hv]
  rfl

theorem tU_rmax_at (v : FVec Ideal S64x256 .f32) (o : FVec Ideal S64x128 .f32) (r : Fin 64) (l : Fin 128) :
    tU_rmax (F := Ideal) v o (ix2 r l) = max (max (o (ix2 r l)) (v (ix2 r ⟨l, by omega⟩))) (v (ix2 r ⟨128 + l, by omega⟩)) := by
  pointwise [tU_rmax]

theorem tU_v_at (v : FVec Ideal S64x256 .f32) (r : Fin 64) (c : Fin 256) : tU_v (F := Ideal) v (ix3 0 r c) = v (ix2 r c) := by
  pointwise [tU_v]

/-! ### Packing two codes into a byte -/

/-- The matrix that adds an even column and sixteen times the next. -/
def selP (k h : ℕ) : EReal := if k = 2 * h then 1 else if k = 2 * h + 1 then ((16 : ℝ) : EReal) else 0

theorem sum_selP {n : ℕ} (A : Fin n → EReal) (q : Fin n → EReal) (h : ℕ) (hh : 2 * h + 1 < n) (hq : ∀ x : Fin n, q x = selP x h) :
    ∑ x : Fin n, A x * q x = A ⟨2 * h, by omega⟩ + A ⟨2 * h + 1, hh⟩ * ((16 : ℝ) : EReal) := by
  have e : ∀ x : Fin n, A x * q x = A x * (if x.val = 2 * h then 1 else 0) + A x * (if x.val = 2 * h + 1 then ((16 : ℝ) : EReal) else 0) := by
    intro x
    rw [hq]; unfold selP
    by_cases h1 : x.val = 2 * h
    · rw [if_pos h1, if_pos h1, if_neg (by omega), mul_zero, add_zero]
    · rw [if_neg h1, if_neg h1, mul_zero, zero_add]
  rw [Finset.sum_congr rfl fun x _ => e x, Finset.sum_add_distrib,
    sum_sel A (fun x => if x.val = 2 * h then 1 else 0) 1 ⟨2 * h, by omega⟩ (fun _ => rfl),
    sum_sel A (fun x => if x.val = 2 * h + 1 then ((16 : ℝ) : EReal) else 0) _ ⟨2 * h + 1, hh⟩ (fun _ => rfl), mul_one]

theorem sum_selP_two (A : Fin 256 → EReal) (q : Fin 256 → EReal) (h : ℕ) (hh : 2 * h + 1 < 256) (hq : ∀ x : Fin 256, q x = selP x h) :
    ((∑ x : Fin 128, A ⟨x, by omega⟩ * q ⟨x, by omega⟩) + ∑ x : Fin 128, A ⟨128 + x, by omega⟩ * q ⟨128 + x, by omega⟩)
      = A ⟨2 * h, by omega⟩ + A ⟨2 * h + 1, hh⟩ * ((16 : ℝ) : EReal) :=
  (Fin.sum_univ_add (a := 128) (b := 128) (fun x : Fin 256 => A x * q x)).symm.trans (sum_selP A q h hh hq)

/-- A number already shifted up, rounded and clipped to `lo … hi`. -/
def CLIP (lo hi : BitVec 16) (t : EReal) : EReal :=
  min (max (Ideal.liftRound Ideal.roundHalfEven (t - Ideal.ofBits .f32 0x4B400000#32) - Ideal.ofBits .f32 0x46850000#32) (Ideal.ofBits .bf16 lo)) (Ideal.ofBits .bf16 hi)

/-- Two codes in a byte. -/
def BYTE (x y : EReal) : BitVec 8 :=
  (Ideal.fptosi 32 (x + y * ((16 : ℝ) : EReal) - Ideal.ofBits .f32 0x45080000#32)).setWidth 8

/-- The shifted first moment over its scale. -/
def TM (m a : EReal) : EReal := m * Ideal.div 1 (SK a) + Ideal.ofBits .f32 0x4B404308#32

/-- Two codes of the first moment. -/
def MB2 (m0 m1 a0 a1 : EReal) : BitVec 8 := BYTE (CLIP 0x4301#16 0x430F#16 (TM m0 a0)) (CLIP 0x4301#16 0x430F#16 (TM m1 a1)) ^^^ 136#8

theorem tU_m_at (m : FVec Ideal S64x256 .f32) (P : FVec Ideal S256x128 .bf16) (M : ℕ → ℕ → EReal) (hm : ∀ (r : Fin 64) (c : Fin 256), m (ix2 r c) = M r c)
    (hP : ∀ (k : Fin 256) (h : Fin 128), P (ix2 k h) = selP k h) (r : Fin 64) (h : Fin 128) :
    tU_m (F := Ideal) m P (ix3 0 r h) = MB2 (M r (2 * h)) (M r (2 * h + 1)) (AM fun r => M r (2 * h)) (AM fun r => M r (2 * h + 1)) := by
  unfold tU_m
  pointwise
  rw [bytes_flip]
  pointwise
  rw [sum_selP _ _ h.val (by omega) (fun k => hP k h)]
  simp only [hm]
  rfl

/-! ### The last tile of a row -/

theorem tUl_mp_at (g : FVec Ideal S1x64x64 .bf16) (mc : IVec S1x64x32 8) (q1 q2 : FVec Ideal S32x64 .bf16) (sc : FVec Ideal S1x64 .f32)
    (h1 : ∀ (k : Fin 32) (c : Fin 64), q1 (ix2 k c) = selQ k c) (h2 : ∀ (k : Fin 32) (c : Fin 64), q2 (ix2 k c) = selQ (128 + k) c) (r : Fin 64) (c : Fin 64) :
    tUl_mp (F := Ideal) g mc q1 q2 sc (ix2 r c) = MP (mc (ix3 0 r ⟨c / 2, by omega⟩)) (c.val % 2) (sc (ix2 0 c)) (g (ix3 0 r c)) := by
  pointwise [tUl_mp]
  rw [sel_pair (by decide) _ _ _ _ c.val (by omega) (fun x => h1 _ _) (fun x => h2 _ _)]
  rw [bytes_up, bytes_high]
  unfold MP
  rw [← nibS_of _ _ (Nat.mod_lt _ (by decide))]
  pointwise
  rfl

theorem tUl_vp_at (g : FVec Ideal S1x64x64 .bf16) (vc : IVec S1x64x32 8) (q1 q2 : FVec Ideal S32x64 .bf16) (rn : FVec Ideal S64x128 .f32)
    (cn : FVec Ideal S1x64 .f32)
    (h1 : ∀ (k : Fin 32) (c : Fin 64), q1 (ix2 k c) = selQ k c) (h2 : ∀ (k : Fin 32) (c : Fin 64), q2 (ix2 k c) = selQ (128 + k) c)
    (row : ℕ → EReal) (hrn : ∀ (r : Fin 64) (l : Fin 128), rn (ix2 r l) = row r) (r : Fin 64) (c : Fin 64) :
    tUl_vp (F := Ideal) g vc q1 q2 rn cn (ix2 r c) = VP (vc (ix3 0 r ⟨c / 2, by omega⟩)) (c.val % 2) (row r) (cn (ix2 0 c)) (g (ix3 0 r c)) := by
  pointwise [tUl_vp, hrn]
  rw [sel_pair (by decide) _ _ _ _ c.val (by omega) (fun x => h1 _ _) (fun x => h2 _ _)]
  rw [bytes_low, bytes_down]
  unfold VP
  rw [← nib_of _ _ (Nat.mod_lt _ (by decide))]
  pointwise
  rfl

theorem tUl_sc_at (m : FVec Ideal S64x64 .f32) (M : ℕ → ℕ → EReal) (hm : ∀ (r : Fin 64) (c : Fin 64), m (ix2 r c) = M r c) (c : Fin 64) :
    tUl_sc (F := Ideal) m (ix2 0 c) = SC (AM fun r => M r c) := by
  pointwise [tUl_sc]
  simp only [hm]
  rfl

theorem tUl_dw_at (m v : FVec Ideal S64x64 .f32) (w : FVec Ideal S1x64x64 .bf16) (k1 k2 : FVec Ideal S1x128 .f32) (x1 x2 : EReal)
    (h1 : ∀ l : Fin 128, k1 (ix2 0 l) = x1) (h2 : ∀ l : Fin 128, k2 (ix2 0 l) = x2) (r : Fin 64) (c : Fin 64) :
    tUl_dw (F := Ideal) m v w k1 k2 (ix3 0 r c) = DW (m (ix2 r c)) (v (ix2 r c)) (w (ix3 0 r c)) x1 x2 := by
  pointwise [tUl_dw, h1, h2]
  rfl

theorem tUl_cmax_at (v : FVec Ideal S64x64 .f32) (o : FVec Ideal S1x8x64 .f32) (V : ℕ → ℕ → EReal) (hv : ∀ (r : Fin 64) (c : Fin 64), v (ix2 r c) = V r c)
    (s : Fin 8) (c : Fin 64) :
    tUl_cmax (F := Ideal) v o (ix3 0 s c) = max (o (ix3 0 s c)) (CM (fun r => V r c) s) := by
  pointwise [tUl_cmax]
  simp only [hv]
  rfl

theorem tUl_rmax_at (v : FVec Ideal S64x64 .f32) (o : FVec Ideal S64x128 .f32) (r : Fin 64) (l : Fin 128) :
    tUl_rmax (F := Ideal) v o (ix2 r l) = max (o (ix2 r l)) (Finset.univ.fold max (Ideal.ofBits .f32 0xFF800000#32) fun c : Fin 64 => v (ix2 r c)) := by
  pointwise [tUl_rmax]

theorem tUl_v_at (v : FVec Ideal S64x64 .f32) (r : Fin 64) (c : Fin 64) : tUl_v (F := Ideal) v (ix3 0 r c) = v (ix2 r c) := by
  pointwise [tUl_v]

theorem tUl_m_at (m : FVec Ideal S64x64 .f32) (P : FVec Ideal S64x32 .bf16) (M : ℕ → ℕ → EReal) (hm : ∀ (r : Fin 64) (c : Fin 64), m (ix2 r c) = M r c)
    (hP : ∀ (k : Fin 64) (h : Fin 32), P (ix2 k h) = selP k h) (r : Fin 64) (h : Fin 32) :
    tUl_m (F := Ideal) m P (ix3 0 r h) = MB2 (M r (2 * h)) (M r (2 * h + 1)) (AM fun r => M r (2 * h)) (AM fun r => M r (2 * h + 1)) := by
  unfold tUl_m
  pointwise
  rw [bytes_flip]
  pointwise
  rw [sum_selP _ _ h.val (by omega) (fun k => hP k h)]
  simp only [hm]
  rfl

/-! ### Requantisation of the second moment -/

/-- The shifted second moment over its scale. -/
def TV (v inv : EReal) : EReal := v * inv + Ideal.ofBits .f32 0x4B4042FF#32

/-- Two codes of the second moment. -/
def VB2 (v0 v1 i0 i1 : EReal) : BitVec 8 := BYTE (CLIP 0x4300#16 0x430F#16 (TV v0 i0)) (CLIP 0x4300#16 0x430F#16 (TV v1 i1))

theorem tR_v_at (ri : FVec Ideal S1x64x128 .f32) (ci : FVec Ideal S1x1x256 .f32) (v : FVec Ideal S1x64x256 .f32) (P : FVec Ideal S256x128 .bf16)
    (row : ℕ → EReal) (hri : ∀ (r : Fin 64) (l : Fin 128), ri (ix3 0 r l) = row r)
    (hP : ∀ (k : Fin 256) (h : Fin 128), P (ix2 k h) = selP k h) (r : Fin 64) (h : Fin 128) :
    tR_v (F := Ideal) ri ci v P (ix3 0 r h)
      = VB2 (v (ix3 0 r ⟨2 * h, by omega⟩)) (v (ix3 0 r ⟨2 * h + 1, by omega⟩)) (max (row r) (ci (ix3 0 0 ⟨2 * h, by omega⟩))) (max (row r) (ci (ix3 0 0 ⟨2 * h + 1, by omega⟩))) := by
  pointwise [tR_v]
  simp only [hri]
  exact congrArg (fun z => (Ideal.fptosi 32 (z - Ideal.ofBits .f32 0x45080000#32)).setWidth 8)
    (sum_selP_two (fun k => CLIP 0x4300#16 0x430F#16 (TV (v (ix3 0 r k)) (max (row r) (ci (ix3 0 0 k))))) (fun k => P (ix2 k h)) h.val
      (by omega) (fun k => hP k h))

theorem tRl_v_at (ri : FVec Ideal S1x64x128 .f32) (ci : FVec Ideal S1x1x64 .f32) (v : FVec Ideal S1x64x64 .f32) (P : FVec Ideal S64x32 .bf16)
    (row : ℕ → EReal) (hri : ∀ (r : Fin 64) (l : Fin 128), ri (ix3 0 r l) = row r)
    (hP : ∀ (k : Fin 64) (h : Fin 32), P (ix2 k h) = selP k h) (r : Fin 64) (h : Fin 32) :
    tRl_v (F := Ideal) ri ci v P (ix3 0 r h)
      = VB2 (v (ix3 0 r ⟨2 * h, by omega⟩)) (v (ix3 0 r ⟨2 * h + 1, by omega⟩)) (max (row r) (ci (ix3 0 0 ⟨2 * h, by omega⟩))) (max (row r) (ci (ix3 0 0 ⟨2 * h + 1, by omega⟩))) := by
  pointwise [tRl_v]
  rw [sum_selP _ _ h.val (by omega) (fun k => hP k h)]
  simp only [hri, dite_eq_ite, ite_self]
  rfl

end Cert.KernelIdeal.Body

end

end
-- ==== Proof.VPiece.lean ====
/-
  The pieces of the kernel body that happen once at a point, at the extended reals, entry by entry.
-/
module

public import proofs.«01_k».proof.Proof.VTile
@[expose] public section

set_option maxRecDepth 16384

noncomputable section

namespace Cert.KernelIdeal.Body

open Cert.KernelIdeal Cert.KernelIdeal.Gen Cert.Proof Cert.Val
open Idealize.ShloMosaic Idealize.ShloMosaic.TcCoe Idealize.SL.Sem

/-! ### Words -/

theorem select_word {α : Type} (n : ℕ) (a : ℕ) (e : ℕ) (ha : a < 4294967296) (he : e < 4294967296) (x y : α) :
    Scalar.select (IntOp.cmpi CmpIPredicate.eq (BitVec.ofNat 32 a) (BitVec.ofNat 32 e)) x y = if a = e then x else y := by
  have h := WordCmp.cmpi_eq_ofNat_eq_one_iff (w := 32) (a := a) (b := e) (by omega) (by omega)
  show (if _ then x else y) = _
  exact if_congr h rfl rfl

theorem pick_row {n : ℕ} (f : Fin n → EReal) (e : ℕ) (he : e < n) (hn : n < 4294967296) :
    (∑ x : Fin n, Scalar.select (IntOp.cmpi CmpIPredicate.eq (BitVec.ofNat 32 x.val) (BitVec.ofNat 32 e)) (f x) 0) = f ⟨e, he⟩ := by
  rw [Finset.sum_eq_single (⟨e, he⟩ : Fin n)]
  · rw [select_word 0 _ _ (by omega) (by omega), if_pos rfl]
  · intro x _ hx
    rw [select_word 0 _ _ (by have := x.isLt; omega) (by omega), if_neg (fun h => hx (Fin.ext h))]
  · intro h; exact absurd (Finset.mem_univ _) h

/-! ### Constants -/

/-- The named thousandth. -/
def THOU : EReal := Named.named (F := Ideal) (φ := .f32) κ "thousandth" 0x3A83126F#32

/-- A maximum divided by a thousand. -/
def MEAN (a : EReal) : EReal := a * THOU

/-- Sixteen over a maximum. -/
def INV (a : EReal) : EReal := if a * THOU = 0 then 0 else Ideal.div (Ideal.ofBits FTy.f32 1098907648#32) a

/-- A maximum of the second moment scaled and held up. -/
def NEXT (a : EReal) : EReal := max (a * Ideal.ofBits FTy.f32 1148829696#32) (Ideal.ofBits FTy.f32 41943040#32)

/-- The root of a thousandth over the second bias correction. -/
def K0 (t : BitVec 32) : EReal :=
  Ideal.sqrt (Ideal.div THOU (1 - Ideal.pow (Ideal.ofBits FTy.f32 1065336439#32) (FloatOps.sitofp (F := Ideal) FTy.f32 t)))

/-- A third of ten to the fifth of the first bias correction. -/
def KA (t : BitVec 32) : EReal :=
  (1 - Ideal.pow (Ideal.ofBits FTy.f32 1063675494#32) (FloatOps.sitofp (F := Ideal) FTy.f32 t)) *
    Named.named (F := Ideal) (φ := .f32) κ "inv_lr_tenth" 1191327061#32

def K1 (t : BitVec 32) : EReal := K0 t * KA t

def K2 (t : BitVec 32) : EReal := Named.named (F := Ideal) (φ := .f32) κ "eps" 841731191#32 * KA t

theorem preRn_at (x : FVec Ideal S5x128 .f32) (e : ℕ) (he : e < 5) (r l : Fin 128) :
    preRn (F := Ideal) x (BitVec.ofNat 32 e) (ix2 r l) = NEXT (x (ix2 ⟨e, he⟩ r)) := by
  pointwise [preRn]
  rw [pick_row (fun k => x (ix2 k r)) e he (by decide)]
  rfl

theorem startCn_at (x : FVec Ideal S5x2880 .f32) (e : ℕ) (he : e < 5) (r : Fin 2880) :
    startCn (F := Ideal) x (BitVec.ofNat 32 e) (ix2 0 r) = NEXT (x (ix2 ⟨e, he⟩ r)) := by
  pointwise [startCn]
  rw [pick_row (fun k => x (ix2 k r)) e he (by decide)]
  rfl

theorem headSc_at (x : FVec Ideal S1x6x2880 .f32) (e : ℕ) (he : e < 6) (r : Fin 2880) :
    headSc (F := Ideal) x (BitVec.ofNat 32 e) (ix2 0 r) = x (ix3 0 ⟨e, he⟩ r) * Ideal.ofBits FTy.f32 1091567616#32 := by
  pointwise [headSc]
  rw [pick_row (fun k => x (ix3 0 k r)) e he (by decide)]

theorem tailSc_at (x : FVec Ideal S1x6x2880 .f32) (y : FVec Ideal S1x2880 .f32) (e : ℕ) (he : e < 6) (k : Fin 6) (r : Fin 2880) :
    tailSc (F := Ideal) x y (BitVec.ofNat 32 e) (ix3 0 k r) = if k.val = e then y (ix2 0 r) else x (ix3 0 k r) := by
  pointwise [tailSc]
  rw [select_word 0 _ _ (by omega) (by omega)]

theorem tailMax_at (x : FVec Ideal S64x128 .f32) (r : Fin 64) (l : Fin 128) :
    tailMax (F := Ideal) x (ix2 r l) = Finset.univ.fold max (Ideal.ofBits .f32 0xFF800000#32) (fun k : Fin 128 => x (ix2 r k)) := by
  pointwise [tailMax]

theorem tailInv_at (x : FVec Ideal S64x128 .f32) (r : Fin 64) (l : Fin 128) :
    tailInv (F := Ideal) x (ix3 0 r l) = INV (x (ix2 r l)) := by
  pointwise [tailInv]
  rfl

theorem tailRn_at (x : FVec Ideal S64x128 .f32) (r : Fin 64) (l : Fin 128) :
    tailRn_ (F := Ideal) x (ix2 r l) = x (ix2 r l) := by
  pointwise [tailRn_]

theorem vroRow_at (x : FVec Ideal S5x128 .f32) (y : FVec Ideal S128x128 .f32) (e : ℕ) (he : e < 5) (k : Fin 5) (r : Fin 128) :
    vroRow (F := Ideal) x y (BitVec.ofNat 32 e) (ix2 k r) = if k.val = e then MEAN (y (ix2 r 0)) else x (ix2 k r) := by
  pointwise [vroRow]
  rw [select_word 0 _ _ (by omega) (by omega)]
  rfl

theorem finMax_at (x : FVec Ideal S1x8x2880 .f32) (r : Fin 2880) :
    finMax (F := Ideal) x (ix2 0 r) = Finset.univ.fold max (Ideal.ofBits .f32 0xFF800000#32) (fun k : Fin 8 => x (ix3 0 k r)) := by
  pointwise [finMax]

theorem finCo_at (x : FVec Ideal S1x2880 .f32) (y : FVec Ideal S5x2880 .f32) (e : ℕ) (he : e < 5) (k : Fin 5) (r : Fin 2880) :
    finCo (F := Ideal) x y (BitVec.ofNat 32 e) (ix2 k r) = if k.val = e then MEAN (x (ix2 0 r)) else y (ix2 k r) := by
  pointwise [finCo]
  rw [select_word 0 _ _ (by omega) (by omega)]
  rfl

theorem finInv_at (x : FVec Ideal S1x2880 .f32) (r : Fin 2880) :
    finInv (F := Ideal) x (ix3 0 0 r) = INV (x (ix2 0 r)) := by
  pointwise [finInv]
  rfl

theorem initK1_at (t : BitVec 32) (l : Fin 128) : initK1 (F := Ideal) t (initA t) (ix2 0 l) = K1 t := by
  pointwise [initK1, initA]
  rfl

theorem initK2_at (t : BitVec 32) (l : Fin 128) : initK2 (F := Ideal) (initA t) (ix2 0 l) = K2 t := by
  pointwise [initK2, initA]
  rfl

theorem startMax_at (k : Fin 8) (h : Fin 2880) : startMax (F := Ideal) (ix3 0 k h) = 0 := by
  pointwise [startMax]

theorem ofBits_16 : Ideal.ofBits FTy.f32 1098907648#32 = ((16 : ℝ) : EReal) := by
  simp [Ideal.ofBits, Ideal.ieee]; norm_num
  rw [← EReal.coe_mul]; norm_num

theorem ofBits_16th : Ideal.ofBits FTy.f32 0x3D800000#32 = (((1 : ℝ) / 16 : ℝ) : EReal) := by
  simp [Ideal.ofBits, Ideal.ieee]; norm_num
  rw [← EReal.coe_mul]; norm_num

theorem initP_at (k : Fin 256) (h : Fin 128) : initP (F := Ideal) (ix2 k h) = selP k h := by
  pointwise [initP]
  have e1 : IntOp.muli (2#32) (BitVec.ofNat 32 h.val) = BitVec.ofNat 32 (2 * h.val) := by
    show BitVec.ofNat 32 2 * BitVec.ofNat 32 h.val = _
    rw [BitVec.ofNat_mul]
  have e2 : IntOp.addi (BitVec.ofNat 32 (2 * h.val)) (1#32) = BitVec.ofNat 32 (2 * h.val + 1) := by
    show BitVec.ofNat 32 (2 * h.val) + BitVec.ofNat 32 1 = _
    rw [BitVec.ofNat_add]
  rw [e1, e2, select_word 0 _ _ (by omega) (by omega), select_word 0 _ _ (by omega) (by omega), ofBits_16]
  rfl

theorem srcQ : ∀ k : Fin 256, Scalar.select (IntOp.cmpi CmpIPredicate.slt (BitVec.ofNat 32 k.val) 128#32)
      (IntOp.muli 2#32 (BitVec.ofNat 32 k.val)) (IntOp.addi (IntOp.muli 2#32 (IntOp.subi (BitVec.ofNat 32 k.val) 128#32)) 1#32)
    = BitVec.ofNat 32 (if k.val < 128 then 2 * k.val else 2 * (k.val - 128) + 1) := by decide +kernel

theorem initQ_at (k c : Fin 256) : initQ (F := Ideal) (ix2 k c) = selQ k c := by
  pointwise [initQ]
  rw [srcQ k, select_word 0 _ _ (by omega) (by split <;> omega), ofBits_16th]
  rfl

end Cert.KernelIdeal.Body

end

end
-- ==== Proof.VBlock.lean ====
/-
  A block of 64 rows of the update: what its twelve tiles leave, by induction over the tiles, and what its end leaves.
-/
module

public import proofs.«01_k».proof.Proof.VPiece
@[expose] public section

set_option maxRecDepth 16384

noncomputable section

namespace Cert.Val

open Idealize.ShloMosaic

section
variable {α : Type} [Inhabited α] {n0 n1 n2 : ℕ}

theorem win2 (o0 o1 s0 s1 : ℕ) (X : (⟨2, ![n0, n1]⟩ : Shape).Idx → α)
    (inb : ∀ a : Fin 2, (![o0, o1] : Fin 2 → ℕ) a + (![s0, s1] : Fin 2 → ℕ) a ≤ (![n0, n1] : Fin 2 → ℕ) a)
    (a : Fin s0) (b : Fin s1) :
    VecWindow.window (s := ⟨2, ![n0, n1]⟩) X ![o0, o1] ![s0, s1] inb (ix2 a b) = rd2 X (o0 + a) (o1 + b) := by
  rw [← rd2_window o0 o1 s0 s1 X inb a b a.isLt b.isLt, rd2_fin]

theorem win3 (o0 o1 o2 s0 s1 s2 : ℕ) (X : (⟨3, ![n0, n1, n2]⟩ : Shape).Idx → α)
    (inb : ∀ a : Fin 3, (![o0, o1, o2] : Fin 3 → ℕ) a + (![s0, s1, s2] : Fin 3 → ℕ) a ≤ (![n0, n1, n2] : Fin 3 → ℕ) a)
    (a : Fin s0) (b : Fin s1) (c : Fin s2) :
    VecWindow.window (s := ⟨3, ![n0, n1, n2]⟩) X ![o0, o1, o2] ![s0, s1, s2] inb (ix3 a b c) = rd3 X (o0 + a) (o1 + b) (o2 + c) := by
  rw [← rd3_window o0 o1 o2 s0 s1 s2 X inb a b c a.isLt b.isLt c.isLt, rd3_fin]

theorem rd2_out (X : (⟨2, ![n0, n1]⟩ : Shape).Idx → α) (a b : ℕ) (h : ¬ (a < n0 ∧ b < n1)) : rd2 X a b = default := dif_neg h

theorem rd3_out (X : (⟨3, ![n0, n1, n2]⟩ : Shape).Idx → α) (a b c : ℕ) (h : ¬ (a < n0 ∧ b < n1 ∧ c < n2)) : rd3 X a b c = default := dif_neg h

/-- An equation at all coordinates in range, read by natural numbers. -/
theorem rd2_of {X : (⟨2, ![n0, n1]⟩ : Shape).Idx → α} {T : ℕ → ℕ → α} (h : ∀ (a : Fin n0) (b : Fin n1), X (ix2 a b) = T a b)
    (a b : ℕ) (ha : a < n0) (hb : b < n1) : rd2 X a b = T a b := (rd2_lt X a b ha hb).trans (h ⟨a, ha⟩ ⟨b, hb⟩)

theorem rd3_of {X : (⟨3, ![n0, n1, n2]⟩ : Shape).Idx → α} {T : ℕ → ℕ → ℕ → α} (h : ∀ (a : Fin n0) (b : Fin n1) (c : Fin n2), X (ix3 a b c) = T a b c)
    (a b c : ℕ) (ha : a < n0) (hb : b < n1) (hc : c < n2) : rd3 X a b c = T a b c := (rd3_lt X a b c ha hb hc).trans (h ⟨a, ha⟩ ⟨b, hb⟩ ⟨c, hc⟩)
end

theorem bot_bits : Ideal.ofBits .f32 0xFF800000#32 = (⊥ : EReal) := by
  simp [Ideal.ofBits, Ideal.ieee]

/-- The largest of `n` numbers and zero. -/
def MX (n : ℕ) (f : ℕ → EReal) : EReal := Finset.univ.fold max 0 fun x : Fin n => f x

theorem MX_le {n : ℕ} {f : ℕ → EReal} {y : EReal} : MX n f ≤ y ↔ 0 ≤ y ∧ ∀ c < n, f c ≤ y := by
  unfold MX
  rw [Finset.fold_max_le]
  exact and_congr_right fun _ => ⟨fun h c hc => h ⟨c, hc⟩ (Finset.mem_univ _), fun h x _ => h x x.isLt⟩

/-- A maximum from below everything is at most `y` when every number is. -/
theorem fold_bot_le {n : ℕ} {f : Fin n → EReal} {y : EReal} :
    Finset.univ.fold max (Ideal.ofBits .f32 0xFF800000#32) f ≤ y ↔ ∀ x, f x ≤ y := by
  rw [Finset.fold_max_le, bot_bits]
  exact ⟨fun h x => h.2 x (Finset.mem_univ _), fun h => ⟨bot_le, fun x _ => h x⟩⟩

end Cert.Val

namespace Cert.KernelIdeal.Body

open Cert.KernelIdeal Cert.KernelIdeal.Gen Cert.Proof Cert.Val
open Idealize.ShloMosaic Idealize.ShloMosaic.TcCoe Idealize.SL.Sem

section Block
variable (M V : ℕ → ℕ → EReal) (row : ℕ → EReal) (x1 x2 : EReal) (vs cp mb : ℕ)

/-- What a block reads, in terms of the moments `M`, `V` it is to make. -/
structure BIn (S : St Ideal) : Prop where
  q : ∀ k c, k < 256 → c < 256 → rd2 (α := EReal) S.a15 k c = selQ k c
  p : ∀ k h, k < 256 → h < 128 → rd2 (α := EReal) S.a16 k h = selP k h
  hrow : ∀ r l, 64 * mb ≤ r → r < 64 * mb + 64 → l < 128 → rd2 (α := EReal) S.a22 r l = row r
  hM : ∀ r c, 64 * mb ≤ r → r < 64 * mb + 64 → c < 2880 →
    MP (rd3 (α := BitVec 8) S.a4 0 r (c / 2)) (c % 2) (rd2 (α := EReal) S.a24 0 c) (rd3 (α := EReal) S.a3 0 r c) = M r c
  hV : ∀ r c, 64 * mb ≤ r → r < 64 * mb + 64 → c < 2880 →
    VP (rd3 (α := BitVec 8) S.a6 0 r (c / 2)) (c % 2) (row r) (rd2 (α := EReal) S.a23 0 c) (rd3 (α := EReal) S.a3 0 r c) = V r c

/-- The block's largest absolute value in a column. -/
def AMB (c : ℕ) : EReal := AM fun k => M (64 * mb + k) c

/-- The block's step. -/
def T9 (W : ℕ → ℕ → EReal) (r c : ℕ) : EReal := DW (M r c) (V r c) (W r c) x1 x2

/-- The block's codes of the first moment. -/
def T10 (r h : ℕ) : BitVec 8 := MB2 (M r (2 * h)) (M r (2 * h + 1)) (AMB M mb (2 * h)) (AMB M mb (2 * h + 1))

/-- The block's column maxima. -/
def T20 (O : ℕ → ℕ → EReal) (s c : ℕ) : EReal := max (O s c) (CM (fun k => V (64 * mb + k) c) s)

/-- The buffers and the row maxima after the tiles of the columns below `c0`. -/
structure UB (S : St Ideal) (X9 : S1x128x2880.Idx → EReal) (X10 : S1x128x1440.Idx → BitVec 8) (X18 : S6x128x2880.Idx → EReal)
    (X20 : S2x8x2880.Idx → EReal) (X24 : S2x2880.Idx → EReal) (rm : S64x128.Idx → EReal) (c0 : ℕ) : Prop where
  f9 : Fill (α := EReal) 0 (64 * mb) 64 c0 (T9 M V x1 x2 (rd3 (α := EReal) S.a2 0)) S.a9 X9
  f10 : Fill (α := BitVec 8) 0 (64 * mb) 64 (c0 / 2) (T10 M mb) S.a10 X10
  f18 : Fill (α := EReal) vs (64 * mb) 64 c0 V S.a18 X18
  f20 : Fill (α := EReal) cp 0 8 c0 (T20 V mb (rd3 (α := EReal) S.a20 cp)) S.a20 X20
  f24a : ∀ c, rd2 X24 0 c = rd2 (α := EReal) S.a24 0 c
  f24b : ∀ c, c < c0 → c < 2880 → rd2 X24 1 c = SC (AMB M mb c)
  frm : ∀ r : Fin 64, ∀ y : EReal, (∀ l : Fin 128, rm (ix2 r l) ≤ y) ↔ 0 ≤ y ∧ ∀ c < c0, V (64 * mb + r) c ≤ y

theorem UB.zero (S : St Ideal) : UB M V x1 x2 vs cp mb S S.a9 S.a10 S.a18 S.a20 S.a24 (rmax0 (F := Ideal)) 0 where
  f9 := Fill.zero ..
  f10 := Fill.zero ..
  f18 := Fill.zero ..
  f20 := Fill.zero ..
  f24a _ := rfl
  f24b _ h := absurd h (Nat.not_lt_zero _)
  frm r y := by
    have e : ∀ l : Fin 128, rmax0 (F := Ideal) (ix2 r l) = 0 := fun l => by pointwise [rmax0]
    simp only [e]
    exact ⟨fun h => ⟨h 0, fun c hc => absurd hc (Nat.not_lt_zero _)⟩, fun h _ => h.1⟩

variable {M V row x1 x2 vs cp mb}

/-- One more tile of `w` columns. -/
theorem UB.next {S : St Ideal} {X9 : S1x128x2880.Idx → EReal} {X10 : S1x128x1440.Idx → BitVec 8} {X18 : S6x128x2880.Idx → EReal}
    {X20 : S2x8x2880.Idx → EReal} {X24 : S2x2880.Idx → EReal} {rm : S64x128.Idx → EReal} {c0 : ℕ}
    (h : UB M V x1 x2 vs cp mb S X9 X10 X18 X20 X24 rm c0) (hvs : vs < 6) (hcp : cp < 2) (hmb : mb < 2) (w w' h0 : ℕ) (hw : w = 2 * w') (hh : c0 = 2 * h0)
    (hc : c0 + w ≤ 2880)
    (W9 : (⟨3, ![1, 64, w]⟩ : Shape).Idx → EReal) (W10 : (⟨3, ![1, 64, w']⟩ : Shape).Idx → BitVec 8)
    (W18 : (⟨3, ![1, 64, w]⟩ : Shape).Idx → EReal) (W20 : (⟨3, ![1, 8, w]⟩ : Shape).Idx → EReal) (W24 : (⟨2, ![1, w]⟩ : Shape).Idx → EReal)
    (rm' : S64x128.Idx → EReal)
    (h9 : ∀ (r : Fin 64) (c : Fin w), W9 (ix3 0 r c) = T9 M V x1 x2 (rd3 (α := EReal) S.a2 0) (64 * mb + r) (c0 + c))
    (h10 : ∀ (r : Fin 64) (c : Fin w'), W10 (ix3 0 r c) = T10 M mb (64 * mb + r) (h0 + c))
    (h18 : ∀ (r : Fin 64) (c : Fin w), W18 (ix3 0 r c) = V (64 * mb + r) (c0 + c))
    (h20 : ∀ (s : Fin 8) (c : Fin w), W20 (ix3 0 s c) = T20 V mb (rd3 (α := EReal) X20 cp) s (c0 + c))
    (h24 : ∀ c : Fin w, W24 (ix2 0 c) = SC (AMB M mb (c0 + c)))
    (hrm : ∀ r : Fin 64, ∀ y : EReal, (∀ l : Fin 128, rm' (ix2 r l) ≤ y) ↔ (∀ l : Fin 128, rm (ix2 r l) ≤ y) ∧ ∀ c < w, V (64 * mb + r) (c0 + c) ≤ y) :
    UB M V x1 x2 vs cp mb S
      (VecWindow.put (s := ⟨3, ![1, 128, 2880]⟩) X9 ![0, 64 * mb, c0] ![1, 64, w] W9)
      (VecWindow.put (s := ⟨3, ![1, 128, 1440]⟩) X10 ![0, 64 * mb, h0] ![1, 64, w'] W10)
      (VecWindow.put (s := ⟨3, ![6, 128, 2880]⟩) X18 ![vs, 64 * mb, c0] ![1, 64, w] W18)
      (VecWindow.put (s := ⟨3, ![2, 8, 2880]⟩) X20 ![cp, 0, c0] ![1, 8, w] W20)
      (VecWindow.put (s := ⟨2, ![2, 2880]⟩) X24 ![1, c0] ![1, w] W24) rm' (c0 + w) where
  f9 := h.f9.put W9 (by omega) (by omega) (fun r x hr hx => (rd3_lt W9 0 r x (by omega) hr hx).trans (h9 ⟨r, hr⟩ ⟨x, hx⟩)) rfl
  f10 := by
    have e0 : h0 = c0 / 2 := by omega
    subst e0
    exact h.f10.put W10 (by omega) (by omega) (fun r x hr hx => (rd3_lt W10 0 r x (by omega) hr hx).trans (h10 ⟨r, hr⟩ ⟨x, hx⟩)) (by omega)
  f18 := h.f18.put W18 (by omega) (by omega) (fun r x hr hx => (rd3_lt W18 0 r x (by omega) hr hx).trans (h18 ⟨r, hr⟩ ⟨x, hx⟩)) rfl
  f20 := h.f20.put W20 (by omega) (by omega) (fun r x hr hx => (rd3_lt W20 0 r x (by omega) hr hx).trans ((h20 ⟨r, hr⟩ ⟨x, hx⟩).trans (by
    unfold T20
    rw [Nat.zero_add, h.f20.2 cp r (c0 + x) (by omega)]))) rfl
  f24a c := (rd2_put_out _ _ _ _ _ _ _ _ (by omega)).trans (h.f24a c)
  f24b c h1 h2 := by
    by_cases hc : c < c0
    · exact (rd2_put_out _ _ _ _ _ _ _ _ (by omega)).trans (h.f24b c hc h2)
    · rw [rd2_put_in _ _ _ _ _ _ _ _ (by omega) h2 (by omega) (by omega), Nat.sub_self, rd2_lt _ _ _ (by omega) (by omega)]
      refine (h24 ⟨c - c0, by omega⟩).trans ?_
      show SC (AMB M mb (c0 + (c - c0))) = _
      rw [show c0 + (c - c0) = c by omega]
  frm r y := by
    rw [hrm r y, h.frm r y, and_assoc]
    refine and_congr_right fun _ => ⟨fun hh c hc => ?_, fun hh => ⟨fun c hc => hh c (by omega), fun c hc => hh _ (by omega)⟩⟩
    by_cases h1 : c < c0
    · exact hh.1 c h1
    · have := hh.2 (c - c0) (by omega)
      rwa [show c0 + (c - c0) = c by omega] at this

theorem MP_congr {b b' : BitVec 8} {p p' : ℕ} {s s' g g' : EReal} (hb : b = b') (hp : p = p') (hs : s = s') (hg : g = g') :
    MP b p s g = MP b' p' s' g' := by rw [hb, hp, hs, hg]

theorem VP_congr {b b' : BitVec 8} {p p' : ℕ} {r r' s s' g g' : EReal} (hb : b = b') (hp : p = p') (hr : r = r') (hs : s = s') (hg : g = g') :
    VP b p r s g = VP b' p' r' s' g' := by rw [hb, hp, hr, hs, hg]

theorem DW_congr {m m' v v' w w' x1 x2 : EReal} (hm : m = m') (hv : v = v') (hw : w = w') : DW m v w x1 x2 = DW m' v' w' x1 x2 := by rw [hm, hv, hw]

theorem tileU_ub {S : St Ideal} {X9 : S1x128x2880.Idx → EReal} {X10 : S1x128x1440.Idx → BitVec 8} {X18 : S6x128x2880.Idx → EReal}
    {X20 : S2x8x2880.Idx → EReal} {X24 : S2x2880.Idx → EReal} {rm : S64x128.Idx → EReal} (j : ℕ) (hj : j < 11) (hvs : vs < 6) (hcp : cp < 2) (hmb : mb < 2)
    (hin : BIn M V row mb S) (k1 k2 : Vec Ideal S1x128 .f32) (hk1 : ∀ l : Fin 128, k1 (ix2 0 l) = x1) (hk2 : ∀ l : Fin 128, k2 (ix2 0 l) = x2)
    (h : UB M V x1 x2 vs cp mb S X9 X10 X18 X20 X24 rm (256 * j)) :
    ∃ Y9 Y10 Y18 Y20 Y24,
      (tileUS vs cp mb j hvs hcp hmb hj k1 k2 rm { S with a9 := X9, a10 := X10, a18 := X18, a20 := X20, a24 := X24 }).1
        = { S with a9 := Y9, a10 := Y10, a18 := Y18, a20 := Y20, a24 := Y24 } ∧
      UB M V x1 x2 vs cp mb S Y9 Y10 Y18 Y20 Y24
        (tileUS vs cp mb j hvs hcp hmb hj k1 k2 rm { S with a9 := X9, a10 := X10, a18 := X18, a20 := X20, a24 := X24 }).2 (256 * j + 256) := by
  have hQ : ∀ k c : Fin 256, VecWindow.window (s := S256x256) S.a15 ![0, 0] S256x256.size inb_S256x256_S256x256_0_0 (ix2 k c) = selQ k c := fun k c =>
    (win2 (α := EReal) 0 0 256 256 S.a15 inb_S256x256_S256x256_0_0 k c).trans (by rw [Nat.zero_add, Nat.zero_add]; exact hin.q k c k.isLt c.isLt)
  have hP : ∀ (k : Fin 256) (h : Fin 128), VecWindow.window (s := S256x128) S.a16 ![0, 0] S256x128.size inb_S256x128_S256x128_0_0 (ix2 k h) = selP k h := fun k c =>
    (win2 (α := EReal) 0 0 256 128 S.a16 inb_S256x128_S256x128_0_0 k c).trans (by rw [Nat.zero_add, Nat.zero_add]; exact hin.p k c k.isLt c.isLt)
  have hg : ∀ (r : Fin 64) (c : Fin 256), (VecWindow.window (s := S1x128x2880) S.a3 ![0, 64 * mb, (256 * j)] S1x64x256.size (inbB hmb hj)) (ix3 0 r c)
      = rd3 (α := EReal) S.a3 0 (64 * mb + r) ((256 * j) + c) := fun r c => win3 (α := EReal) 0 (64 * mb) (256 * j) 1 64 256 S.a3 (inbB hmb hj) 0 r c
  have hw : ∀ (r : Fin 64) (c : Fin 256), (VecWindow.window (s := S1x128x2880) S.a2 ![0, 64 * mb, (256 * j)] S1x64x256.size (inbB hmb hj)) (ix3 0 r c)
      = rd3 (α := EReal) S.a2 0 (64 * mb + r) ((256 * j) + c) := fun r c => win3 (α := EReal) 0 (64 * mb) (256 * j) 1 64 256 S.a2 (inbB hmb hj) 0 r c
  have hmp : ∀ (r : Fin 64) (c : Fin 256), tU_mp (F := Ideal) (VecWindow.window (s := S1x128x2880) S.a3 ![0, 64 * mb, (256 * j)] S1x64x256.size (inbB hmb hj))
      (VecWindow.window (s := S1x128x1440) S.a4 ![0, 64 * mb, (128 * j)] S1x64x128.size (inbC hmb hj)) (VecWindow.window (s := S256x256) S.a15 ![0, 0] S256x256.size inb_S256x256_S256x256_0_0)
      (VecWindow.window (s := S2x2880) X24 ![0, (256 * j)] S1x256.size (inbS0 hj)) (ix2 r c) = M (64 * mb + r) ((256 * j) + c) := fun r c =>
    (tU_mp_at _ _ _ _ hQ r c).trans ((MP_congr
      ((win3 (α := BitVec 8) 0 (64 * mb) (128 * j) 1 64 128 S.a4 (inbC hmb hj) 0 r ⟨c / 2, by omega⟩).trans
        (by show rd3 _ 0 (64 * mb + r.val) ((128 * j) + c.val / 2) = rd3 _ 0 (64 * mb + r.val) (((256 * j) + c.val) / 2); congr 1; omega))
      (by show c.val % 2 = ((256 * j) + c.val) % 2; omega)
      ((win2 (α := EReal) 0 (256 * j) 1 256 X24 (inbS0 hj) 0 c).trans (h.f24a _))
      (hg r c)).trans (hin.hM (64 * mb + r) ((256 * j) + c) (by omega) (by omega) (by omega)))
  have hvp : ∀ (r : Fin 64) (c : Fin 256), tU_vp (F := Ideal) (VecWindow.window (s := S1x128x2880) S.a3 ![0, 64 * mb, (256 * j)] S1x64x256.size (inbB hmb hj))
      (VecWindow.window (s := S1x128x1440) S.a6 ![0, 64 * mb, (128 * j)] S1x64x128.size (inbC hmb hj)) (VecWindow.window (s := S256x256) S.a15 ![0, 0] S256x256.size inb_S256x256_S256x256_0_0)
      (VecWindow.window (s := S128x128) S.a22 ![64 * mb, 0] S64x128.size (inbR hmb))
      (VecWindow.window (s := S1x2880) S.a23 ![0, (256 * j)] S1x256.size (inbN hj)) (ix2 r c) = V (64 * mb + r) ((256 * j) + c) := fun r c =>
    (tU_vp_at _ _ _ _ _ hQ (fun k => row (64 * mb + k)) (fun r l => (win2 (α := EReal) (64 * mb) 0 64 128 S.a22 (inbR hmb) r l).trans
        (hin.hrow _ _ (by omega) (by omega) (by omega))) r c).trans ((VP_congr
      ((win3 (α := BitVec 8) 0 (64 * mb) (128 * j) 1 64 128 S.a6 (inbC hmb hj) 0 r ⟨c / 2, by omega⟩).trans
        (by show rd3 _ 0 (64 * mb + r.val) ((128 * j) + c.val / 2) = rd3 _ 0 (64 * mb + r.val) (((256 * j) + c.val) / 2); congr 1; omega))
      (by show c.val % 2 = ((256 * j) + c.val) % 2; omega) rfl
      (win2 (α := EReal) 0 (256 * j) 1 256 S.a23 (inbN hj) 0 c)
      (hg r c)).trans (hin.hV (64 * mb + r) ((256 * j) + c) (by omega) (by omega) (by omega)))
  refine ⟨_, _, _, _, _, rfl, UB.next h hvs hcp hmb 256 128 (128 * j) rfl (by omega) (by omega) _ _ _ _ _ _ ?_ ?_ ?_ ?_ ?_ ?_⟩
  · exact fun r c => (tU_dw_at _ _ _ _ _ _ _ hk1 hk2 r c).trans (DW_congr (hmp r c) (hvp r c) (hw r c))
  · exact fun r c => (tU_m_at _ _ (fun r c => M (64 * mb + r) ((256 * j) + c)) hmp hP r c).trans (by
      show MB2 (M (64 * mb + r) ((256 * j) + 2 * c)) (M (64 * mb + r) ((256 * j) + (2 * c + 1))) (AMB M mb ((256 * j) + 2 * c)) (AMB M mb ((256 * j) + (2 * c + 1))) = _
      unfold T10
      rw [show 2 * ((128 * j) + c.val) = (256 * j) + 2 * c.val by omega, Nat.add_assoc])
  · exact fun r c => (tU_v_at _ r c).trans (hvp r c)
  · exact fun s c => (tU_cmax_at _ _ (fun r c => V (64 * mb + r) ((256 * j) + c)) hvp s c).trans
      (congrArg (fun z => max z _) ((win3 (α := EReal) cp 0 (256 * j) 1 8 256 X20 (inbM hcp hj) 0 s c).trans (by rw [Nat.zero_add]; rfl)))
  · exact fun c => tU_sc_at _ (fun r c => M (64 * mb + r) ((256 * j) + c)) hmp c
  · intro r y
    show (∀ l : Fin 128, tU_rmax (F := Ideal) _ _ (ix2 r l) ≤ y) ↔ _
    simp only [tU_rmax_at, max_le_iff]
    constructor
    · intro h
      refine ⟨fun l => (h l).1.1, fun c hc => ?_⟩
      by_cases h1 : c < 128
      · have := (h ⟨c, h1⟩).1.2
        rwa [hvp] at this
      · have := (h ⟨c - 128, by omega⟩).2
        rw [hvp] at this
        rwa [show 256 * j + c = 256 * j + (128 + (c - 128)) by omega]
    · intro h l
      rw [hvp, hvp]
      exact ⟨⟨h.1 l, h.2 _ (by omega)⟩, h.2 _ (by show 128 + l.val < 256; omega)⟩

theorem tileUl_ub {S : St Ideal} {X9 : S1x128x2880.Idx → EReal} {X10 : S1x128x1440.Idx → BitVec 8} {X18 : S6x128x2880.Idx → EReal}
    {X20 : S2x8x2880.Idx → EReal} {X24 : S2x2880.Idx → EReal} {rm : S64x128.Idx → EReal} (hvs : vs < 6) (hcp : cp < 2) (hmb : mb < 2)
    (hin : BIn M V row mb S) (k1 k2 : Vec Ideal S1x128 .f32) (hk1 : ∀ l : Fin 128, k1 (ix2 0 l) = x1) (hk2 : ∀ l : Fin 128, k2 (ix2 0 l) = x2)
    (h : UB M V x1 x2 vs cp mb S X9 X10 X18 X20 X24 rm 2816) :
    ∃ Y9 Y10 Y18 Y20 Y24,
      (tileUlS vs cp mb hvs hcp hmb k1 k2 rm { S with a9 := X9, a10 := X10, a18 := X18, a20 := X20, a24 := X24 }).1
        = { S with a9 := Y9, a10 := Y10, a18 := Y18, a20 := Y20, a24 := Y24 } ∧
      UB M V x1 x2 vs cp mb S Y9 Y10 Y18 Y20 Y24
        (tileUlS vs cp mb hvs hcp hmb k1 k2 rm { S with a9 := X9, a10 := X10, a18 := X18, a20 := X20, a24 := X24 }).2 2880 := by
  have hQ1 : ∀ (k : Fin 32) (c : Fin 64), VecWindow.window (s := S256x256) S.a15 ![0, 0] S32x64.size inb_S256x256_S32x64_0_0 (ix2 k c) = selQ k c := fun k c =>
    (win2 (α := EReal) 0 0 32 64 S.a15 inb_S256x256_S32x64_0_0 k c).trans (by rw [Nat.zero_add, Nat.zero_add]; exact hin.q k c (by omega) (by omega))
  have hQ2 : ∀ (k : Fin 32) (c : Fin 64), VecWindow.window (s := S256x256) S.a15 ![128, 0] S32x64.size inb_S256x256_S32x64_128_0 (ix2 k c) = selQ (128 + k) c := fun k c =>
    (win2 (α := EReal) 128 0 32 64 S.a15 inb_S256x256_S32x64_128_0 k c).trans (by rw [Nat.zero_add]; exact hin.q (128 + k) c (by omega) (by omega))
  have hP : ∀ (k : Fin 64) (h : Fin 32), VecWindow.window (s := S256x128) S.a16 ![0, 0] S64x32.size inb_S256x128_S64x32_0_0 (ix2 k h) = selP k h := fun k c =>
    (win2 (α := EReal) 0 0 64 32 S.a16 inb_S256x128_S64x32_0_0 k c).trans (by rw [Nat.zero_add, Nat.zero_add]; exact hin.p k c (by omega) (by omega))
  have hg : ∀ (r : Fin 64) (c : Fin 64), (VecWindow.window (s := S1x128x2880) S.a3 ![0, 64 * mb, 2816] S1x64x64.size (inbBl hmb)) (ix3 0 r c)
      = rd3 (α := EReal) S.a3 0 (64 * mb + r) (2816 + c) := fun r c => win3 (α := EReal) 0 (64 * mb) 2816 1 64 64 S.a3 (inbBl hmb) 0 r c
  have hw : ∀ (r : Fin 64) (c : Fin 64), (VecWindow.window (s := S1x128x2880) S.a2 ![0, 64 * mb, 2816] S1x64x64.size (inbBl hmb)) (ix3 0 r c)
      = rd3 (α := EReal) S.a2 0 (64 * mb + r) (2816 + c) := fun r c => win3 (α := EReal) 0 (64 * mb) 2816 1 64 64 S.a2 (inbBl hmb) 0 r c
  have hmp : ∀ (r : Fin 64) (c : Fin 64), tUl_mp (F := Ideal) (VecWindow.window (s := S1x128x2880) S.a3 ![0, 64 * mb, 2816] S1x64x64.size (inbBl hmb))
      (VecWindow.window (s := S1x128x1440) S.a4 ![0, 64 * mb, 1408] S1x64x32.size (inbCl hmb)) (VecWindow.window (s := S256x256) S.a15 ![0, 0] S32x64.size inb_S256x256_S32x64_0_0) (VecWindow.window (s := S256x256) S.a15 ![128, 0] S32x64.size inb_S256x256_S32x64_128_0)
      (VecWindow.window (s := S2x2880) X24 ![0, 2816] S1x64.size inb_S2x2880_S1x64_0_2816) (ix2 r c) = M (64 * mb + r) (2816 + c) := fun r c =>
    (tUl_mp_at _ _ _ _ _ hQ1 hQ2 r c).trans ((MP_congr
      ((win3 (α := BitVec 8) 0 (64 * mb) 1408 1 64 32 S.a4 (inbCl hmb) 0 r ⟨c / 2, by omega⟩).trans
        (by show rd3 _ 0 (64 * mb + r.val) (1408 + c.val / 2) = rd3 _ 0 (64 * mb + r.val) ((2816 + c.val) / 2); congr 1; omega))
      (by show c.val % 2 = (2816 + c.val) % 2; omega)
      ((win2 (α := EReal) 0 2816 1 64 X24 inb_S2x2880_S1x64_0_2816 0 c).trans (h.f24a _))
      (hg r c)).trans (hin.hM (64 * mb + r) (2816 + c) (by omega) (by omega) (by omega)))
  have hvp : ∀ (r : Fin 64) (c : Fin 64), tUl_vp (F := Ideal) (VecWindow.window (s := S1x128x2880) S.a3 ![0, 64 * mb, 2816] S1x64x64.size (inbBl hmb))
      (VecWindow.window (s := S1x128x1440) S.a6 ![0, 64 * mb, 1408] S1x64x32.size (inbCl hmb)) (VecWindow.window (s := S256x256) S.a15 ![0, 0] S32x64.size inb_S256x256_S32x64_0_0) (VecWindow.window (s := S256x256) S.a15 ![128, 0] S32x64.size inb_S256x256_S32x64_128_0)
      (VecWindow.window (s := S128x128) S.a22 ![64 * mb, 0] S64x128.size (inbR hmb))
      (VecWindow.window (s := S1x2880) S.a23 ![0, 2816] S1x64.size inb_S1x2880_S1x64_0_2816) (ix2 r c) = V (64 * mb + r) (2816 + c) := fun r c =>
    (tUl_vp_at _ _ _ _ _ _ hQ1 hQ2 (fun k => row (64 * mb + k)) (fun r l => (win2 (α := EReal) (64 * mb) 0 64 128 S.a22 (inbR hmb) r l).trans
        (hin.hrow _ _ (by omega) (by omega) (by omega))) r c).trans ((VP_congr
      ((win3 (α := BitVec 8) 0 (64 * mb) 1408 1 64 32 S.a6 (inbCl hmb) 0 r ⟨c / 2, by omega⟩).trans
        (by show rd3 _ 0 (64 * mb + r.val) (1408 + c.val / 2) = rd3 _ 0 (64 * mb + r.val) ((2816 + c.val) / 2); congr 1; omega))
      (by show c.val % 2 = (2816 + c.val) % 2; omega) rfl
      (win2 (α := EReal) 0 2816 1 64 S.a23 inb_S1x2880_S1x64_0_2816 0 c)
      (hg r c)).trans (hin.hV (64 * mb + r) (2816 + c) (by omega) (by omega) (by omega)))
  refine ⟨_, _, _, _, _, rfl, UB.next h hvs hcp hmb 64 32 1408 rfl (by omega) (by omega) _ _ _ _ _ _ ?_ ?_ ?_ ?_ ?_ ?_⟩
  · exact fun r c => (tUl_dw_at _ _ _ _ _ _ _ hk1 hk2 r c).trans (DW_congr (hmp r c) (hvp r c) (hw r c))
  · exact fun r c => (tUl_m_at _ _ (fun r c => M (64 * mb + r) (2816 + c)) hmp hP r c).trans (by
      show MB2 (M (64 * mb + r) (2816 + 2 * c)) (M (64 * mb + r) (2816 + (2 * c + 1))) (AMB M mb (2816 + 2 * c)) (AMB M mb (2816 + (2 * c + 1))) = _
      unfold T10
      rw [show 2 * (1408 + c.val) = 2816 + 2 * c.val by omega, Nat.add_assoc])
  · exact fun r c => (tUl_v_at _ r c).trans (hvp r c)
  · exact fun s c => (tUl_cmax_at _ _ (fun r c => V (64 * mb + r) (2816 + c)) hvp s c).trans
      (congrArg (fun z => max z _) ((win3 (α := EReal) cp 0 2816 1 8 64 X20 (inbMl hcp) 0 s c).trans (by rw [Nat.zero_add]; rfl)))
  · exact fun c => tUl_sc_at _ (fun r c => M (64 * mb + r) (2816 + c)) hmp c
  · intro r y
    show (∀ l : Fin 128, tUl_rmax (F := Ideal) _ _ (ix2 r l) ≤ y) ↔ _
    simp only [tUl_rmax_at, max_le_iff, fold_bot_le, hvp]
    exact ⟨fun h => ⟨fun l => (h l).1, fun c hc => (h 0).2 ⟨c, hc⟩⟩, fun h l => ⟨h.1 l, fun x => h.2 x x.isLt⟩⟩

/-- All the whole tiles. -/
theorem tilesU_ub {S : St Ideal} (hvs : vs < 6) (hcp : cp < 2) (hmb : mb < 2) (hin : BIn M V row mb S)
    (k1 k2 : Vec Ideal S1x128 .f32) (hk1 : ∀ l : Fin 128, k1 (ix2 0 l) = x1) (hk2 : ∀ l : Fin 128, k2 (ix2 0 l) = x2) (n : ℕ) (hn : n ≤ 11) :
    ∃ X9 X10 X18 X20 X24, (tilesUS vs cp mb hvs hcp hmb k1 k2 n hn S).1 = { S with a9 := X9, a10 := X10, a18 := X18, a20 := X20, a24 := X24 } ∧
      UB M V x1 x2 vs cp mb S X9 X10 X18 X20 X24 (tilesUS vs cp mb hvs hcp hmb k1 k2 n hn S).2 (256 * n) := by
  induction n with
  | zero => exact ⟨_, _, _, _, _, rfl, UB.zero M V x1 x2 vs cp mb S⟩
  | succ n ih =>
    obtain ⟨X9, X10, X18, X20, X24, e, h⟩ := ih (Nat.le_of_succ_le hn)
    have := tileU_ub n (Nat.lt_of_succ_le hn) hvs hcp hmb hin k1 k2 hk1 hk2 h
    rw [← e] at this
    exact this

/-- What a block leaves: the step, the codes, the scales, the second moment and its maxima. -/
structure BOut (M V : ℕ → ℕ → EReal) (x1 x2 : EReal) (vs cp mb b : ℕ) (S : St Ideal) (X9 : S1x128x2880.Idx → EReal) (X10 : S1x128x1440.Idx → BitVec 8)
    (X11 : S1x6x2880.Idx → EReal) (X18 : S6x128x2880.Idx → EReal) (X19 : S6x128x128.Idx → EReal) (X20 : S2x8x2880.Idx → EReal)
    (X22 : S128x128.Idx → EReal) : Prop where
  f9 : Fill (α := EReal) 0 (64 * mb) 64 2880 (T9 M V x1 x2 (rd3 (α := EReal) S.a2 0)) S.a9 X9
  f10 : Fill (α := BitVec 8) 0 (64 * mb) 64 1440 (T10 M mb) S.a10 X10
  f11 : Fill (α := EReal) 0 b 1 2880 (fun _ c => SC (AMB M mb c)) S.a11 X11
  f18 : Fill (α := EReal) vs (64 * mb) 64 2880 V S.a18 X18
  f19 : Fill (α := EReal) vs (64 * mb) 64 128 (fun r _ => INV (MX 2880 (V r))) S.a19 X19
  f20 : Fill (α := EReal) cp 0 8 2880 (T20 V mb (rd3 (α := EReal) S.a20 cp)) S.a20 X20
  f22 : ∀ r l, r < 128 → l < 128 → rd2 X22 r l = if 64 * mb ≤ r ∧ r < 64 * mb + 64 then MX 2880 (V r) else rd2 (α := EReal) S.a22 r l

/-- A block of 64 rows. -/
theorem block_out {S : St Ideal} (hvs : vs < 6) (hcp : cp < 2) (hmb : mb < 2) (b : ℕ) (hb : b < 6) (hin : BIn M V row mb (headS (BitVec.ofNat 32 b) S))
    (k1 k2 : Vec Ideal S1x128 .f32) (hk1 : ∀ l : Fin 128, k1 (ix2 0 l) = x1) (hk2 : ∀ l : Fin 128, k2 (ix2 0 l) = x2) :
    ∃ X9 X10 X11 X18 X19 X20 X22 X24, blockS vs cp mb hvs hcp hmb (BitVec.ofNat 32 b) k1 k2 S
        = { S with a9 := X9, a10 := X10, a11 := X11, a18 := X18, a19 := X19, a20 := X20, a22 := X22, a24 := X24 } ∧
      BOut M V x1 x2 vs cp mb b S X9 X10 X11 X18 X19 X20 X22 := by
  obtain ⟨X9, X10, X18, X20, X24, e, h⟩ := tilesU_ub hvs hcp hmb hin k1 k2 hk1 hk2 11 le_rfl
  obtain ⟨Y9, Y10, Y18, Y20, Y24, e', h'⟩ := tileUl_ub hvs hcp hmb hin k1 k2 hk1 hk2 h
  rw [← e] at e' h'
  have hrm : ∀ (r : Fin 64) (l : Fin 128), tailMax (F := Ideal) (tileUlS vs cp mb hvs hcp hmb k1 k2
      (tilesUS vs cp mb hvs hcp hmb k1 k2 11 le_rfl (headS (BitVec.ofNat 32 b) S)).2
      (tilesUS vs cp mb hvs hcp hmb k1 k2 11 le_rfl (headS (BitVec.ofNat 32 b) S)).1).2 (ix2 r l) = MX 2880 (V (64 * mb + r)) := fun r l => by
    rw [tailMax_at]
    refine eq_of_forall_ge_iff fun y => ?_
    rw [fold_bot_le, h'.frm r y, MX_le]
  refine ⟨_, _, _, _, _, _, _, _, (congrArg (tailS vs mb hvs hmb (BitVec.ofNat 32 b) _) e').trans rfl, ?_⟩
  refine { f9 := h'.f9, f10 := h'.f10, f18 := h'.f18, f20 := h'.f20, f11 := ?_, f19 := ?_, f22 := ?_ }
  · have key : ∀ k c, k < 6 → c < 2880 → rd3 (α := EReal) (VecWindow.put (s := S1x6x2880) S.a11 ![0, 0, 0] S1x6x2880.size
        (tailSc (F := Ideal) (VecWindow.window (s := S1x6x2880) S.a11 ![0, 0, 0] S1x6x2880.size inb_S1x6x2880_S1x6x2880_0_0_0)
          (VecWindow.window (s := S2x2880) Y24 ![1, 0] S1x2880.size inb_S2x2880_S1x2880_1_0) (BitVec.ofNat 32 b))) 0 k c
        = if k = b then SC (AMB M mb c) else rd3 (α := EReal) S.a11 0 k c := fun k c hk hc => by
      refine (rd3_put_in (α := EReal) 0 0 0 1 6 2880 S.a11 _ 0 k c (by omega) hk hc (by omega) (by omega) (by omega)).trans ?_
      refine (rd3_lt (α := EReal) _ _ _ _ (by omega) (by omega) (by omega)).trans ((tailSc_at _ _ b hb ⟨k, hk⟩ ⟨c, hc⟩).trans (if_congr Iff.rfl ?_ ?_))
      · exact (win2 (α := EReal) 1 0 1 2880 Y24 inb_S2x2880_S1x2880_1_0 0 ⟨c, hc⟩).trans (by
          rw [Nat.zero_add]; exact h'.f24b c hc hc)
      · exact (win3 (α := EReal) 0 0 0 1 6 2880 S.a11 inb_S1x6x2880_S1x6x2880_0_0_0 0 ⟨k, hk⟩ ⟨c, hc⟩).trans (by
          simp only [Nat.zero_add]; rfl)
    refine ⟨fun r c h1 h2 h3 h4 => (key r c (by omega) h4).trans (if_pos (by omega)), fun k r c hn => ?_⟩
    by_cases hk : k < 1 ∧ r < 6 ∧ c < 2880
    · have hk0 : k = 0 := by omega
      subst hk0
      exact (key r c hk.2.1 hk.2.2).trans (if_neg (by omega))
    · rw [rd3_out _ _ _ _ hk]
      exact (rd3_out (α := EReal) S.a11 _ _ _ hk).symm
  · exact (Fill.zero (α := EReal) vs (64 * mb) 64 (fun r _ => INV (MX 2880 (V r))) S.a19).put (w := 128) _ (by omega) (by omega)
      (fun r x hr hx => (rd3_lt (α := EReal) _ 0 r x (by omega) hr hx).trans ((tailInv_at _ ⟨r, hr⟩ ⟨x, hx⟩).trans (congrArg INV (hrm ⟨r, hr⟩ ⟨x, hx⟩)))) rfl
  · intro r l hr hl
    by_cases hh : 64 * mb ≤ r ∧ r < 64 * mb + 64
    · rw [if_pos hh]
      refine (rd2_put_in (α := EReal) (64 * mb) 0 64 128 S.a22 _ r l hr hl hh (by omega)).trans ?_
      refine (rd2_lt (α := EReal) _ _ _ (by omega) (by omega)).trans ((tailRn_at _ ⟨r - 64 * mb, by omega⟩ ⟨l - 0, by omega⟩).trans ((hrm _ _).trans ?_))
      show MX 2880 (V (64 * mb + (r - 64 * mb))) = _
      rw [show 64 * mb + (r - 64 * mb) = r by omega]
    · rw [if_neg hh]
      exact rd2_put_out (α := EReal) (64 * mb) 0 64 128 S.a22 _ r l (by omega)

end Block

end Cert.KernelIdeal.Body

end

end
-- ==== Proof.VPoint.lean ====
/-
  A point's update: what it leaves in the output windows and in the scratch, from what it found there.
-/
module

public import proofs.«01_k».proof.Proof.VBlock
@[expose] public section

set_option maxRecDepth 16384

noncomputable section

namespace Cert.KernelIdeal.Body

open Cert.KernelIdeal Cert.KernelIdeal.Gen Cert.Proof Cert.Val
open Idealize.ShloMosaic Idealize.ShloMosaic.TcCoe Idealize.SL.Sem

/-- The scale a block reads, times nine. -/
def S9 (a : EReal) : EReal := a * Ideal.ofBits FTy.f32 1091567616#32

theorem CM_le {f : ℕ → EReal} {s : ℕ} {y : EReal} : CM f s ≤ y ↔ ∀ x < 8, f (x * 8 + s) ≤ y := by
  unfold CM
  rw [fold_bot_le]
  exact ⟨fun h x hx => h ⟨x, hx⟩, fun h x => h x x.isLt⟩

/-- Eight maxima of every eighth row bound every row. -/
theorem CM_all {f : ℕ → EReal} {y : EReal} : (∀ s < 8, CM f s ≤ y) ↔ ∀ k < 64, f k ≤ y := by
  simp only [CM_le]
  constructor
  · intro h k hk
    have := h (k % 8) (by omega) (k / 8) (by omega)
    rwa [show k / 8 * 8 + k % 8 = k by omega] at this
  · exact fun h s hs x hx => h _ (by omega)

section Point
variable (S : St Ideal) (e n : ℕ)

/-- Ten times the new first moment, in the point's block. -/
def Ml (r c : ℕ) : EReal :=
  MP (rd3 (α := BitVec 8) S.a4 0 r (c / 2)) (c % 2) (S9 (rd3 (α := EReal) S.a5 0 (2 * n + r / 64) c)) (rd3 (α := EReal) S.a3 0 r c)

/-- A thousand times the new second moment, in the point's block. -/
def Vl (r c : ℕ) : EReal :=
  VP (rd3 (α := BitVec 8) S.a6 0 r (c / 2)) (c % 2) (NEXT (rd2 (α := EReal) S.a7 e (128 * n + r))) (NEXT (rd2 (α := EReal) S.a8 e c)) (rd3 (α := EReal) S.a3 0 r c)

/-- A point's update, by the numbers of its expert and of its block. -/
structure Pt (i : grid0.Coords) : Prop where
  he : e < 5
  hn : n < 3
  w : kW i = BitVec.ofNat 32 e
  b0 : Scalar.addi (Scalar.muli (nW i) 2#32) 0#32 = BitVec.ofNat 32 (2 * n)
  b1 : Scalar.addi (Scalar.muli (nW i) 2#32) 1#32 = BitVec.ofNat 32 (2 * n + 1)
  l : lane i = 128 * n
  c3 : k0_cond3 i = 1#1 ↔ n = 0
  c4 : k0_cond4 i = 1#1 ↔ n = 2

variable (x1 x2 : EReal)

/-- What a point's update reads besides its windows. -/
structure UIn : Prop where
  q : ∀ k c, k < 256 → c < 256 → rd2 (α := EReal) S.a15 k c = selQ k c
  p : ∀ k h, k < 256 → h < 128 → rd2 (α := EReal) S.a16 k h = selP k h
  k1 : ∀ l, l < 128 → rd2 (α := EReal) S.a17 0 l = x1
  k2 : ∀ l, l < 128 → rd2 (α := EReal) S.a17 1 l = x2
  cn : n ≠ 0 → ∀ c, c < 2880 → rd2 (α := EReal) S.a23 0 c = NEXT (rd2 (α := EReal) S.a8 e c)

variable {S e n x1 x2}

theorem starts_out {i : grid0.Coords} (h2 : k0_cond2 i = 1#1) (hp : Pt e n i) (hin : UIn S e n x1 x2) :
    ∃ Y11 Y20 Y23, startsS i h2 S = { S with a11 := Y11, a20 := Y20, a23 := Y23 } ∧
      (n ≠ 0 → Y11 = S.a11) ∧
      (∀ s c, s < 8 → c < 2880 → rd3 (α := EReal) Y20 (cPar i) s c = if n = 0 then 0 else rd3 (α := EReal) S.a20 (cPar i) s c) ∧
      (∀ k s c, k ≠ cPar i → rd3 (α := EReal) Y20 k s c = rd3 (α := EReal) S.a20 k s c) ∧
      ∀ c, c < 2880 → rd2 (α := EReal) Y23 0 c = NEXT (rd2 (α := EReal) S.a8 e c) := by
  have hcp := cPar_lt i h2
  by_cases hn : n = 0
  · refine ⟨_, _, _, (dif_pos (hp.c3.mpr hn)).trans rfl, fun h => absurd hn h, ?_, ?_, ?_⟩
    · intro s c hs hc
      rw [if_pos hn]
      refine (rd3_put_in (α := EReal) (cPar i) 0 0 1 8 2880 S.a20 _ (cPar i) s c (by omega) hs hc (by omega) (by omega) (by omega)).trans ?_
      exact (rd3_lt (α := EReal) _ _ _ _ (by omega) (by omega) (by omega)).trans (startMax_at ⟨s, hs⟩ ⟨c, hc⟩ |> fun h => by
        rw [← h]; congr 1; funext a; match a with | ⟨0, _⟩ => exact Fin.ext (Nat.sub_self _) | ⟨1, _⟩ => rfl | ⟨2, _⟩ => rfl)
    · intro k s c hk
      exact rd3_put_out (α := EReal) (cPar i) 0 0 1 8 2880 S.a20 _ k s c (by omega)
    · intro c hc
      refine (rd2_put_in (α := EReal) 0 0 1 2880 S.a23 _ 0 c (by omega) hc (by omega) (by omega)).trans ?_
      rw [hp.w]
      refine (rd2_lt (α := EReal) _ _ _ (by omega) (by omega)).trans ((startCn_at _ e hp.he ⟨c, hc⟩).trans (congrArg NEXT ?_))
      exact (win2 (α := EReal) 0 0 5 2880 S.a8 inb_S5x2880_S5x2880_0_0 ⟨e, hp.he⟩ ⟨c, hc⟩).trans (by simp only [Nat.zero_add])
  · exact ⟨S.a11, S.a20, S.a23, (dif_neg (fun h => hn (hp.c3.mp h))).trans rfl, fun _ => rfl, fun s c _ _ => (if_neg hn).symm, fun _ _ _ _ => rfl, hin.cn hn⟩

variable (e n x1 x2)

/-- What a point's update leaves. -/
structure UOut (i : grid0.Coords) (S : St Ideal) (X9 : S1x128x2880.Idx → EReal) (X10 : S1x128x1440.Idx → BitVec 8)
    (X11 : S1x6x2880.Idx → EReal) (X13 : S5x384.Idx → EReal) (X14 : S5x2880.Idx → EReal) (X18 : S6x128x2880.Idx → EReal) (X19 : S6x128x128.Idx → EReal)
    (X20 : S2x8x2880.Idx → EReal) (X21 : S2x1x2880.Idx → EReal) (X23 : S1x2880.Idx → EReal) : Prop where
  r9 : ∀ r c, r < 128 → c < 2880 → rd3 X9 0 r c = DW (Ml S n r c) (Vl S e n r c) (rd3 (α := EReal) S.a2 0 r c) x1 x2
  r10 : ∀ r h, r < 128 → h < 1440 → rd3 X10 0 r h = T10 (Ml S n) (r / 64) r h
  r11 : ∀ b c, b / 2 = n → c < 2880 → rd3 X11 0 b c = SC (AMB (Ml S n) (b % 2) c)
  r11' : n ≠ 0 → ∀ b c, b / 2 ≠ n → rd3 X11 0 b c = rd3 (α := EReal) S.a11 0 b c
  r13 : ∀ r, r < 128 → rd2 X13 e (128 * n + r) = MEAN (MX 2880 (Vl S e n r))
  r13' : ∀ k r, ¬ (k = e ∧ r / 128 = n) → rd2 X13 k r = rd2 (α := EReal) S.a13 k r
  r14 : n = 2 → ∃ C : ℕ → EReal, (∀ c, c < 2880 → ∀ y, C c ≤ y ↔ ∀ s < 8, rd3 X20 (cPar i) s c ≤ y) ∧ (∀ c, c < 2880 → rd2 X14 e c = MEAN (C c)) ∧
    ∀ c, c < 2880 → rd3 X21 (cPar i) 0 c = INV (C c)
  r14' : ∀ k c, ¬ (k = e ∧ n = 2) → rd2 X14 k c = rd2 (α := EReal) S.a14 k c
  r18 : ∀ r c, r < 128 → c < 2880 → rd3 X18 (vSlot i) r c = Vl S e n r c
  r18' : ∀ k r c, k ≠ vSlot i → rd3 X18 k r c = rd3 (α := EReal) S.a18 k r c
  r19 : ∀ r l, r < 128 → l < 128 → rd3 X19 (vSlot i) r l = INV (MX 2880 (Vl S e n r))
  r19' : ∀ k r l, k ≠ vSlot i → rd3 X19 k r l = rd3 (α := EReal) S.a19 k r l
  r20 : ∀ c, c < 2880 → ∀ y, (∀ s < 8, rd3 X20 (cPar i) s c ≤ y) ↔ (if n = 0 then 0 ≤ y else ∀ s < 8, rd3 (α := EReal) S.a20 (cPar i) s c ≤ y) ∧ ∀ r < 128, Vl S e n r c ≤ y
  r21' : ∀ k c, ¬ (k = cPar i ∧ n = 2) → rd3 X21 k 0 c = rd3 (α := EReal) S.a21 k 0 c
  r23 : ∀ c, c < 2880 → rd2 X23 0 c = NEXT (rd2 (α := EReal) S.a8 e c)

variable {e n x1 x2}

theorem update_out {i : grid0.Coords} (h2 : k0_cond2 i = 1#1) (hp : Pt e n i) (hin : UIn S e n x1 x2) :
    ∃ X9 X10 X11 X13 X14 X18 X19 X20 X21 X22 X23 X24, updateS i h2 S = { S with a9 := X9, a10 := X10, a11 := X11, a13 := X13, a14 := X14, a18 := X18, a19 := X19, a20 := X20, a21 := X21, a22 := X22, a23 := X23, a24 := X24 } ∧
      UOut e n x1 x2 i S X9 X10 X11 X13 X14 X18 X19 X20 X21 X23 := by
  have hcp := cPar_lt i h2
  have hvs := vSlot_lt i h2
  have he := hp.he
  have hn3 := hp.hn
  obtain ⟨Y11, Y20, Y23, e0, y11, y20, y20', y23⟩ := starts_out h2 hp hin
  have hk1 : ∀ l : Fin 128, (preS (lane i) (lane_le i h2) (kW i) (startsS i h2 S)).2.1 (ix2 0 l) = x1 := fun l => by
    rw [e0]
    exact (win2 (α := EReal) 0 0 1 128 S.a17 inb_S8x128_S1x128_0_0 0 l).trans (by simp only [Nat.zero_add]; exact hin.k1 l l.isLt)
  have hk2 : ∀ l : Fin 128, (preS (lane i) (lane_le i h2) (kW i) (startsS i h2 S)).2.2 (ix2 0 l) = x2 := fun l => by
    rw [e0]
    exact (win2 (α := EReal) 1 0 1 128 S.a17 inb_S8x128_S1x128_1_0 0 l).trans (by simp only [Nat.zero_add]; exact hin.k2 l l.isLt)
  have epre : ∃ Y22, (preS (lane i) (lane_le i h2) (kW i) (startsS i h2 S)).1 = { S with a11 := Y11, a20 := Y20, a22 := Y22, a23 := Y23 } ∧
      ∀ r l, r < 128 → l < 128 → rd2 (α := EReal) Y22 r l = NEXT (rd2 (α := EReal) S.a7 e (128 * n + r)) := by
    rw [e0]
    refine ⟨_, rfl, fun r l hr hl => ?_⟩
    refine (rd2_put_in (α := EReal) 0 0 128 128 S.a22 _ r l hr hl (by omega) (by omega)).trans ?_
    rw [hp.w]
    refine (rd2_lt (α := EReal) _ _ _ (by omega) (by omega)).trans ((preRn_at _ e hp.he ⟨r, hr⟩ ⟨l, hl⟩).trans (congrArg NEXT ?_))
    refine (win2 (α := EReal) 0 (lane i) 5 128 S.a7 (inbL (lane_le i h2)) ⟨e, hp.he⟩ ⟨r, hr⟩).trans ?_
    rw [hp.l]; simp only [Nat.zero_add]
  obtain ⟨Y22, e1, y22⟩ := epre
  have head24 : ∀ (b : ℕ) (hb : b < 6) (S' : St Ideal), S'.a5 = S.a5 → ∀ c, c < 2880 →
      rd2 (α := EReal) (headS (BitVec.ofNat 32 b) S').a24 0 c = S9 (rd3 (α := EReal) S.a5 0 b c) := fun b hb S' h5 c hc => by
    refine (rd2_put_in (α := EReal) 0 0 1 2880 S'.a24 _ 0 c (by omega) hc (by omega) (by omega)).trans ?_
    refine (rd2_lt (α := EReal) _ _ _ (by omega) (by omega)).trans ((headSc_at _ b hb ⟨c, hc⟩).trans ?_)
    refine congrArg S9 ((win3 (α := EReal) 0 0 0 1 6 2880 S'.a5 inb_S1x6x2880_S1x6x2880_0_0_0 0 ⟨b, hb⟩ ⟨c, hc⟩).trans ?_)
    rw [h5]; simp only [Nat.zero_add]; rfl
  have in0 : BIn (Ml S n) (Vl S e n) (fun r => NEXT (rd2 (α := EReal) S.a7 e (128 * n + r))) 0
      (headS (BitVec.ofNat 32 (2 * n)) { S with a11 := Y11, a20 := Y20, a22 := Y22, a23 := Y23 }) :=
    { q := hin.q
      p := hin.p
      hrow := fun r l h1 h2 h3 => y22 r l (by omega) h3
      hM := fun r c h1 h2 h3 => by
        refine MP_congr rfl rfl ((head24 (2 * n) (by omega) { S with a11 := Y11, a20 := Y20, a22 := Y22, a23 := Y23 } rfl c h3).trans ?_) rfl
        rw [show 2 * n + r / 64 = 2 * n by omega]
      hV := fun r c h1 h2 h3 => VP_congr rfl rfl rfl (y23 c h3) rfl }
  obtain ⟨A9, A10, A11, A18, A19, A20, A22, A24, ea, oa⟩ := block_out hvs hcp (by omega : 0 < 2) (2 * n) (by omega) in0 _ _ hk1 hk2
  have in1 : BIn (Ml S n) (Vl S e n) (fun r => NEXT (rd2 (α := EReal) S.a7 e (128 * n + r))) 1
      (headS (BitVec.ofNat 32 (2 * n + 1)) { S with a9 := A9, a10 := A10, a11 := A11, a18 := A18, a19 := A19, a20 := A20, a22 := A22, a23 := Y23, a24 := A24 }) :=
    { q := hin.q
      p := hin.p
      hrow := fun r l h1 h2 h3 => (oa.f22 r l (by omega) h3).trans ((if_neg (by omega)).trans (y22 r l (by omega) h3))
      hM := fun r c h1 h2 h3 => by
        refine MP_congr rfl rfl ((head24 (2 * n + 1) (by omega) { S with a9 := A9, a10 := A10, a11 := A11, a18 := A18, a19 := A19, a20 := A20, a22 := A22, a23 := Y23, a24 := A24 } rfl c h3).trans ?_) rfl
        rw [show 2 * n + r / 64 = 2 * n + 1 by omega]
      hV := fun r c h1 h2 h3 => VP_congr rfl rfl rfl (y23 c h3) rfl }
  obtain ⟨B9, B10, B11, B18, B19, B20, B22, B24, eb, ob⟩ := block_out hvs hcp (by omega : 1 < 2) (2 * n + 1) (by omega) in1 _ _ hk1 hk2
  have h22 : ∀ r l, r < 128 → l < 128 → rd2 (α := EReal) B22 r l = MX 2880 (Vl S e n r) := fun r l hr hl => by
    refine (ob.f22 r l hr hl).trans ?_
    by_cases h : 64 ≤ r
    · rw [if_pos (by omega)]
    · rw [if_neg (by omega)]
      exact (oa.f22 r l hr hl).trans (if_pos (by omega))
  have evro : ∃ B13, vroS (lane i) (lane_le i h2) (kW i) { S with a9 := B9, a10 := B10, a11 := B11, a18 := B18, a19 := B19, a20 := B20, a22 := B22, a23 := Y23, a24 := B24 }
      = { S with a9 := B9, a10 := B10, a11 := B11, a13 := B13, a18 := B18, a19 := B19, a20 := B20, a22 := B22, a23 := Y23, a24 := B24 } ∧
      (∀ r, r < 128 → rd2 (α := EReal) B13 e (128 * n + r) = MEAN (MX 2880 (Vl S e n r))) ∧
      ∀ k r, ¬ (k = e ∧ r / 128 = n) → rd2 (α := EReal) B13 k r = rd2 (α := EReal) S.a13 k r := by
    have key : ∀ k r, k < 5 → r < 128 → rd2 (α := EReal) (vroS (lane i) (lane_le i h2) (kW i) { S with a9 := B9, a10 := B10, a11 := B11, a18 := B18, a19 := B19, a20 := B20, a22 := B22, a23 := Y23, a24 := B24 }).a13 k (lane i + r)
        = if k = e then MEAN (MX 2880 (Vl S e n r)) else rd2 (α := EReal) S.a13 k (lane i + r) := fun k r hk hr => by
      have hl := lane_le i h2
      refine (rd2_put_in (α := EReal) 0 (lane i) 5 128 S.a13 _ k (lane i + r) hk (by omega) (by omega) (by omega)).trans ?_
      rw [hp.w]
      refine (rd2_lt (α := EReal) _ _ _ (by omega) (by omega)).trans ((vroRow_at _ _ e hp.he ⟨k, hk⟩ ⟨lane i + r - lane i, by omega⟩).trans (if_congr Iff.rfl ?_ ?_))
      · refine congrArg MEAN ((win2 (α := EReal) 0 0 128 128 B22 inb_S128x128_S128x128_0_0 _ 0).trans ?_)
        simp only [Nat.zero_add, Nat.add_sub_cancel_left]
        exact h22 r 0 hr (by omega)
      · refine (win2 (α := EReal) 0 (lane i) 5 128 S.a13 (inbL (lane_le i h2)) ⟨k, hk⟩ _).trans ?_
        simp only [Nat.zero_add, Nat.add_sub_cancel_left]
    refine ⟨_, rfl, fun r hr => ?_, fun k r hne => ?_⟩
    · have := key e r hp.he hr
      rw [if_pos rfl] at this
      rw [← hp.l]
      exact this
    · by_cases hk : k < 5 ∧ r < 384
      · by_cases hr : r / 128 = n
        · have := key k (r - 128 * n) hk.1 (by omega)
          rw [if_neg (by omega)] at this
          rw [show lane i + (r - 128 * n) = r by rw [hp.l]; omega] at this
          exact this
        · exact rd2_put_out (α := EReal) 0 (lane i) 5 128 S.a13 _ k r (by rw [hp.l]; omega)
      · rw [rd2_out _ _ _ hk]; exact (rd2_out (α := EReal) S.a13 _ _ hk).symm
  obtain ⟨B13, ev, v13, v13'⟩ := evro
  have efin : ∃ B14 B21, finishesS i h2 { S with a9 := B9, a10 := B10, a11 := B11, a13 := B13, a18 := B18, a19 := B19, a20 := B20, a22 := B22, a23 := Y23, a24 := B24 }
      = { S with a9 := B9, a10 := B10, a11 := B11, a13 := B13, a14 := B14, a18 := B18, a19 := B19, a20 := B20, a21 := B21, a22 := B22, a23 := Y23, a24 := B24 } ∧
      (n = 2 → ∃ C : ℕ → EReal, (∀ c, c < 2880 → ∀ y, C c ≤ y ↔ ∀ s < 8, rd3 (α := EReal) B20 (cPar i) s c ≤ y) ∧ (∀ c, c < 2880 → rd2 (α := EReal) B14 e c = MEAN (C c)) ∧
        ∀ c, c < 2880 → rd3 (α := EReal) B21 (cPar i) 0 c = INV (C c)) ∧
      (∀ k c, ¬ (k = e ∧ n = 2) → rd2 (α := EReal) B14 k c = rd2 (α := EReal) S.a14 k c) ∧
      (∀ k c, ¬ (k = cPar i ∧ n = 2) → rd3 (α := EReal) B21 k 0 c = rd3 (α := EReal) S.a21 k 0 c) := by
    by_cases hn : n = 2
    · let fm : FVec Ideal S1x2880 .f32 := finMax (VecWindow.window (s := S2x8x2880) B20 ![cPar i, 0, 0] S1x8x2880.size (inbMw hcp))
      have key : ∀ k c, k < 5 → c < 2880 → rd2 (α := EReal) (VecWindow.put (s := S5x2880) S.a14 ![0, 0] S5x2880.size
          (finCo (F := Ideal) fm (VecWindow.window (s := S5x2880) S.a14 ![0, 0] S5x2880.size inb_S5x2880_S5x2880_0_0) (kW i))) k c
          = if k = e then MEAN (rd2 (α := EReal) fm 0 c) else rd2 (α := EReal) S.a14 k c := fun k c hk hc => by
        refine (rd2_put_in (α := EReal) 0 0 5 2880 S.a14 _ k c hk hc (by omega) (by omega)).trans ?_
        rw [hp.w]
        refine (rd2_lt (α := EReal) _ _ _ (by omega) (by omega)).trans ((finCo_at _ _ e hp.he ⟨k, hk⟩ ⟨c, hc⟩).trans (if_congr Iff.rfl ?_ ?_))
        · exact congrArg MEAN (rd2_lt (α := EReal) fm 0 c (by omega) hc).symm
        · exact (win2 (α := EReal) 0 0 5 2880 S.a14 inb_S5x2880_S5x2880_0_0 ⟨k, hk⟩ ⟨c, hc⟩).trans (by simp only [Nat.zero_add])
      refine ⟨_, _, (dif_pos (hp.c4.mpr hn)).trans rfl, fun _ => ⟨fun c => rd2 (α := EReal) fm 0 c, fun c hc y => ?_, fun c hc => ?_, fun c hc => ?_⟩, fun k c hk => ?_, fun k c hk => ?_⟩
      · show rd2 (α := EReal) fm 0 c ≤ y ↔ _
        rw [rd2_lt (α := EReal) fm 0 c (by omega) hc]
        refine (iff_of_eq (congrArg (· ≤ y) (finMax_at _ ⟨c, hc⟩))).trans ?_
        rw [fold_bot_le]
        have hw : ∀ s : Fin 8, (VecWindow.window (s := S2x8x2880) B20 ![cPar i, 0, 0] S1x8x2880.size (inbMw hcp)) (ix3 0 s ⟨c, hc⟩) = rd3 (α := EReal) B20 (cPar i) s c := fun s =>
          (win3 (α := EReal) (cPar i) 0 0 1 8 2880 B20 (inbMw hcp) 0 s ⟨c, hc⟩).trans (by simp only [Nat.zero_add]; rfl)
        exact ⟨fun h s hs => (hw ⟨s, hs⟩) ▸ h ⟨s, hs⟩, fun h x => (hw x).symm ▸ h x x.isLt⟩
      · exact (key e c hp.he hc).trans (if_pos rfl)
      · refine (rd3_put_in (α := EReal) (cPar i) 0 0 1 1 2880 S.a21 _ (cPar i) 0 c (by omega) (by omega) hc (by omega) (by omega) (by omega)).trans ?_
        simp only [Nat.sub_self, Nat.sub_zero]
        refine (rd3_lt (α := EReal) _ _ _ _ (by omega) (by omega) (by omega)).trans ((finInv_at _ ⟨c, hc⟩).trans ?_)
        exact congrArg INV (rd2_lt (α := EReal) fm 0 c (by omega) hc).symm
      · by_cases hh : k < 5 ∧ c < 2880
        · exact (key k c hh.1 hh.2).trans (if_neg (by omega))
        · rw [rd2_out _ _ _ hh]; exact (rd2_out (α := EReal) S.a14 _ _ hh).symm
      · exact rd3_put_out (α := EReal) (cPar i) 0 0 1 1 2880 S.a21 _ k 0 c (by omega)
    · exact ⟨S.a14, S.a21, (dif_neg (fun h => hn (hp.c4.mp h))).trans rfl, fun h => absurd h hn, fun _ _ _ => rfl, fun _ _ _ => rfl⟩
  obtain ⟨B14, B21, ef, f14, f14', f21'⟩ := efin
  have eall : updateS i h2 S = { S with a9 := B9, a10 := B10, a11 := B11, a13 := B13, a14 := B14, a18 := B18, a19 := B19, a20 := B20, a21 := B21, a22 := B22, a23 := Y23, a24 := B24 } := by
    unfold updateS
    rw [hp.b0, hp.b1]
    rw [← e1] at ea
    show finishesS i h2 (vroS (lane i) (lane_le i h2) (kW i) (blockS (vSlot i) (cPar i) 1 _ _ _ _ _ _ (blockS (vSlot i) (cPar i) 0 _ _ _ _ _ _ _))) = _
    rw [ea, e1]
    refine (congrArg (fun z => finishesS i h2 (vroS (lane i) (lane_le i h2) (kW i) z)) eb).trans ?_
    exact (congrArg (finishesS i h2) ev).trans ef
  refine ⟨_, _, _, _, _, _, _, _, _, _, _, _, eall, ?_⟩
  exact
  { r9 := fun r c hr hc => by
      by_cases h : 64 ≤ r
      · exact ob.f9.1 r c (by omega) (by omega) hc hc
      · exact (ob.f9.2 0 r c (by omega)).trans (oa.f9.1 r c (by omega) (by omega) hc hc)
    r10 := fun r c hr hc => by
      by_cases h : 64 ≤ r
      · rw [show r / 64 = 1 by omega]; exact ob.f10.1 r c (by omega) (by omega) hc hc
      · rw [show r / 64 = 0 by omega]; exact (ob.f10.2 0 r c (by omega)).trans (oa.f10.1 r c (by omega) (by omega) hc hc)
    r11 := fun b c hb hc => by
      by_cases h : b % 2 = 1
      · rw [h]; exact ob.f11.1 b c (by omega) (by omega) hc hc
      · rw [show b % 2 = 0 by omega]; exact (ob.f11.2 0 b c (by omega)).trans (oa.f11.1 b c (by omega) (by omega) hc hc)
    r11' := fun hn b c hb => ((ob.f11.2 0 b c (by omega)).trans (oa.f11.2 0 b c (by omega))).trans (by show rd3 (α := EReal) Y11 0 b c = _; rw [y11 hn])
    r13 := v13
    r13' := v13'
    r14 := f14
    r14' := f14'
    r18 := fun r c hr hc => by
      by_cases h : 64 ≤ r
      · exact ob.f18.1 r c (by omega) (by omega) hc hc
      · exact (ob.f18.2 _ r c (by omega)).trans (oa.f18.1 r c (by omega) (by omega) hc hc)
    r18' := fun k r c hk => (ob.f18.2 k r c (by omega)).trans (oa.f18.2 k r c (by omega))
    r19 := fun r c hr hc => by
      by_cases h : 64 ≤ r
      · exact ob.f19.1 r c (by omega) (by omega) hc hc
      · exact (ob.f19.2 _ r c (by omega)).trans (oa.f19.1 r c (by omega) (by omega) hc hc)
    r19' := fun k r c hk => (ob.f19.2 k r c (by omega)).trans (oa.f19.2 k r c (by omega))
    r20 := fun c hc y => by
      have hv : ∀ s, s < 8 → rd3 (α := EReal) B20 (cPar i) s c = max (max (if n = 0 then 0 else rd3 (α := EReal) S.a20 (cPar i) s c)
          (CM (fun k => Vl S e n (64 * 0 + k) c) s)) (CM (fun k => Vl S e n (64 * 1 + k) c) s) := fun s hs => by
        refine (ob.f20.1 s c (by omega) (by omega) hc hc).trans (congrArg (fun z => max z _) ?_)
        refine (oa.f20.1 s c (by omega) (by omega) hc hc).trans (congrArg (fun z => max z _) (y20 s c hs hc))
      have h1 := CM_all (f := fun k => Vl S e n (64 * 0 + k) c) (y := y)
      have h2 := CM_all (f := fun k => Vl S e n (64 * 1 + k) c) (y := y)
      constructor
      · intro h
        have hh : ∀ s < 8, _ := fun s hs => by have := h s hs; rw [hv s hs, max_le_iff, max_le_iff] at this; exact this
        refine ⟨?_, fun r hr => ?_⟩
        · by_cases hn : n = 0
          · have := (hh 0 (by omega)).1.1; rw [if_pos hn] at this ⊢; exact this
          · rw [if_neg hn]; intro s hs; have := (hh s hs).1.1; rwa [if_neg hn] at this
        · by_cases hr' : 64 ≤ r
          · have := h2.mp (fun s hs => (hh s hs).2) (r - 64) (by omega)
            simp only [show 64 * 1 + (r - 64) = r by omega] at this; exact this
          · have := h1.mp (fun s hs => (hh s hs).1.2) r (by omega)
            simp only [show 64 * 0 + r = r by omega] at this; exact this
      · intro h s hs
        rw [hv s hs, max_le_iff, max_le_iff]
        refine ⟨⟨?_, h1.mpr (fun k hk => h.2 _ (by omega)) s hs⟩, h2.mpr (fun k hk => h.2 _ (by omega)) s hs⟩
        by_cases hn : n = 0
        · have := h.1; rw [if_pos hn] at this ⊢; exact this
        · have := h.1; rw [if_neg hn] at this ⊢; exact this s hs
    r21' := f21'
    r23 := y23 }

end Point

end Cert.KernelIdeal.Body

end

end
-- ==== Proof.VRequant.lean ====
/-
  A point's requantisation of the second moment of three points before.
-/
module

public import proofs.«01_k».proof.Proof.VBlock
@[expose] public section

set_option maxRecDepth 16384

noncomputable section

namespace Cert.KernelIdeal.Body

open Cert.KernelIdeal Cert.KernelIdeal.Gen Cert.Proof Cert.Val
open Idealize.ShloMosaic Idealize.ShloMosaic.TcCoe Idealize.SL.Sem

/-- The codes of the second moment. -/
def T12 (v : ℕ → ℕ → EReal) (ri ci : ℕ → EReal) (r h : ℕ) : BitVec 8 :=
  VB2 (v r (2 * h)) (v r (2 * h + 1)) (max (ri r) (ci (2 * h))) (max (ri r) (ci (2 * h + 1)))

theorem VB2_congr {a a' b b' c c' d d' : EReal} (h1 : a = a') (h2 : b = b') (h3 : c = c') (h4 : d = d') : VB2 a b c d = VB2 a' b' c' d' := by
  rw [h1, h2, h3, h4]

variable {S : St Ideal} {vs cp mb : ℕ} {ri : ℕ → EReal}

section
variable (hvs : vs < 6) (hcp : cp < 2) (hmb : mb < 2)
  (hp : ∀ k h, k < 256 → h < 128 → rd2 (α := EReal) S.a16 k h = selP k h)
  (hri : ∀ r l, r < 128 → l < 128 → rd3 (α := EReal) S.a19 vs r l = ri r)
include hp hri

theorem tilesR_fill (n : ℕ) (hn : n ≤ 11) :
    ∃ X12, tilesRS vs cp mb hvs hcp hmb n hn S = { S with a12 := X12 } ∧
      Fill (α := BitVec 8) 0 (64 * mb) 64 (128 * n) (T12 (rd3 (α := EReal) S.a18 vs) ri (rd3 (α := EReal) S.a21 cp 0)) S.a12 X12 := by
  induction n with
  | zero => exact ⟨S.a12, rfl, Fill.zero ..⟩
  | succ n ih =>
    obtain ⟨X, e, hf⟩ := ih (Nat.le_of_succ_le hn)
    have hj := Nat.lt_of_succ_le hn
    refine ⟨_, (congrArg (tileRS vs cp mb n hvs hcp hmb hj) e).trans rfl, hf.put (w := 128) _ (by omega) (by omega) (fun r x hr hx => ?_) (by omega)⟩
    refine (rd3_lt (α := BitVec 8) _ 0 r x (by omega) hr hx).trans ((tR_v_at _ _ _ _ (fun k => ri (64 * mb + k)) (fun r l =>
      (win3 (α := EReal) vs (64 * mb) 0 1 64 128 S.a19 (inbI hvs hmb) 0 r l).trans (hri _ _ (by omega) (by omega))) (fun k h =>
      (win2 (α := EReal) 0 0 256 128 S.a16 inb_S256x128_S256x128_0_0 k h).trans (by simp only [Nat.zero_add]; exact hp k h k.isLt h.isLt)) ⟨r, hr⟩ ⟨x, hx⟩).trans ?_)
    have hv : ∀ y (hy : y < 256), (VecWindow.window (s := S6x128x2880) S.a18 ![vs, 64 * mb, 256 * n] S1x64x256.size (inbV hvs hmb hj)) (ix3 0 ⟨r, hr⟩ ⟨y, hy⟩)
        = rd3 (α := EReal) S.a18 vs (64 * mb + r) (256 * n + y) := fun y hy => win3 (α := EReal) vs (64 * mb) (256 * n) 1 64 256 S.a18 (inbV hvs hmb hj) 0 ⟨r, hr⟩ ⟨y, hy⟩
    have hc : ∀ y (hy : y < 256), (VecWindow.window (s := S2x1x2880) S.a21 ![cp, 0, 256 * n] S1x1x256.size (inbK hcp hj)) (ix3 0 0 ⟨y, hy⟩)
        = rd3 (α := EReal) S.a21 cp 0 (256 * n + y) := fun y hy => win3 (α := EReal) cp 0 (256 * n) 1 1 256 S.a21 (inbK hcp hj) 0 0 ⟨y, hy⟩
    have e0 : 2 * (128 * n + x) = 256 * n + 2 * x := by omega
    have e1 : 2 * (128 * n + x) + 1 = 256 * n + (2 * x + 1) := by omega
    unfold T12
    rw [e1, e0]
    exact VB2_congr (hv _ _) (hv _ _) (congrArg (max _) (hc _ _)) (congrArg (max _) (hc _ _))

theorem blockR_fill :
    ∃ X12, blockRS vs cp mb hvs hcp hmb S = { S with a12 := X12 } ∧
      Fill (α := BitVec 8) 0 (64 * mb) 64 1440 (T12 (rd3 (α := EReal) S.a18 vs) ri (rd3 (α := EReal) S.a21 cp 0)) S.a12 X12 := by
  obtain ⟨X, e, hf⟩ := tilesR_fill (cp := cp) hvs hcp hmb hp hri 11 le_rfl
  refine ⟨_, (congrArg (tileRlS vs cp mb hvs hcp hmb) e).trans rfl, hf.put (w := 32) _ (by omega) (by omega) (fun r x hr hx => ?_) (by omega)⟩
  refine (rd3_lt (α := BitVec 8) _ 0 r x (by omega) hr hx).trans ((tRl_v_at _ _ _ _ (fun k => ri (64 * mb + k)) (fun r l =>
    (win3 (α := EReal) vs (64 * mb) 0 1 64 128 S.a19 (inbI hvs hmb) 0 r l).trans (hri _ _ (by omega) (by omega))) (fun k h =>
    (win2 (α := EReal) 0 0 64 32 S.a16 inb_S256x128_S64x32_0_0 k h).trans (by simp only [Nat.zero_add]; exact hp k h (by omega) (by omega))) ⟨r, hr⟩ ⟨x, hx⟩).trans ?_)
  have hv : ∀ y (hy : y < 64), (VecWindow.window (s := S6x128x2880) S.a18 ![vs, 64 * mb, 2816] S1x64x64.size (inbVl hvs hmb)) (ix3 0 ⟨r, hr⟩ ⟨y, hy⟩)
      = rd3 (α := EReal) S.a18 vs (64 * mb + r) (2816 + y) := fun y hy => win3 (α := EReal) vs (64 * mb) 2816 1 64 64 S.a18 (inbVl hvs hmb) 0 ⟨r, hr⟩ ⟨y, hy⟩
  have hc : ∀ y (hy : y < 64), (VecWindow.window (s := S2x1x2880) S.a21 ![cp, 0, 2816] S1x1x64.size (inbKl hcp)) (ix3 0 0 ⟨y, hy⟩)
      = rd3 (α := EReal) S.a21 cp 0 (2816 + y) := fun y hy => win3 (α := EReal) cp 0 2816 1 1 64 S.a21 (inbKl hcp) 0 0 ⟨y, hy⟩
  have e0 : 2 * (128 * 11 + x) = 2816 + 2 * x := by omega
  have e1 : 2 * (128 * 11 + x) + 1 = 2816 + (2 * x + 1) := by omega
  unfold T12
  rw [e1, e0]
  exact VB2_congr (hv _ _) (hv _ _) (congrArg (max _) (hc _ _)) (congrArg (max _) (hc _ _))

end

theorem requant_out {i : grid0.Coords} (h5 : k0_cond5 i = 1#1)
    (hp : ∀ k h, k < 256 → h < 128 → rd2 (α := EReal) S.a16 k h = selP k h)
    (hri : ∀ r l, r < 128 → l < 128 → rd3 (α := EReal) S.a19 (rSlot i) r l = ri r) :
    ∃ X12, requantS i h5 S = { S with a12 := X12 } ∧
      ∀ r h, r < 128 → h < 1440 → rd3 (α := BitVec 8) X12 0 r h = T12 (rd3 (α := EReal) S.a18 (rSlot i)) ri (rd3 (α := EReal) S.a21 (rPar i) 0) r h := by
  obtain ⟨X, e, hf⟩ := blockR_fill (mb := 0) (rSlot_lt i h5) (rPar_lt i h5) (by omega) hp hri
  obtain ⟨Y, e', hf'⟩ := blockR_fill (S := { S with a12 := X }) (mb := 1) (rSlot_lt i h5) (rPar_lt i h5) (by omega) hp hri
  refine ⟨Y, (congrArg (blockRS (rSlot i) (rPar i) 1 (rSlot_lt i h5) (rPar_lt i h5) (by omega)) e).trans e', fun r h hr hh => ?_⟩
  by_cases h1 : 64 ≤ r
  · exact hf'.1 r h (by omega) (by omega) hh hh
  · exact (hf'.2 0 r h (by omega)).trans (hf.1 r h (by omega) (by omega) hh hh)

end Cert.KernelIdeal.Body

end

end
-- ==== Proof.VWin.lean ====
/-
  The grid's points: which expert and block a point updates, which blocks its windows are, when results are written back.
-/
module

public import proofs.«01_k».proof.Proof.VPoint
public import proofs.«01_k».proof.Proof.VRequant
public import proofs.«01_k».proof.Proof.IRun
public import Idealize.ShloMosaic.Lib.Pipeline.ValueKit
@[expose] public section

set_option maxRecDepth 16384

noncomputable section

namespace Cert.KernelIdeal.Body

open Cert.KernelIdeal Cert.KernelIdeal.Gen Cert.Proof Cert.Val
open Idealize.ShloMosaic Idealize.ShloMosaic.TcCoe Idealize.ShloMosaic.Tactic Idealize.SL.Sem

/-- The number of the block a point's windows hold. -/
def cut (t : ℕ) : ℕ := min t 14

theorem N_eq : cfg0.N = 18 := by decide +kernel

theorem pt_conds : ∀ t : Fin cfg0.N, (k0_cond1 (grid0.coords t) = 1#1 ↔ t.val = 0) ∧ (k0_cond2 (grid0.coords t) = 1#1 ↔ t.val < 15) ∧
    (k0_cond5 (grid0.coords t) = 1#1 ↔ 3 ≤ t.val) := by decide +kernel

theorem pt_words : ∀ t : Fin cfg0.N, t.val < 15 →
    kW (grid0.coords t) = BitVec.ofNat 32 (t.val / 3) ∧
    Scalar.addi (Scalar.muli (nW (grid0.coords t)) 2#32) 0#32 = BitVec.ofNat 32 (2 * (t.val % 3)) ∧
    Scalar.addi (Scalar.muli (nW (grid0.coords t)) 2#32) 1#32 = BitVec.ofNat 32 (2 * (t.val % 3) + 1) ∧
    lane (grid0.coords t) = 128 * (t.val % 3) ∧
    (k0_cond3 (grid0.coords t) = 1#1 ↔ t.val % 3 = 0) ∧ (k0_cond4 (grid0.coords t) = 1#1 ↔ t.val % 3 = 2) ∧
    vSlot (grid0.coords t) = t.val % 6 ∧ cPar (grid0.coords t) = t.val / 3 % 2 := by decide +kernel

theorem pt_back : ∀ t : Fin cfg0.N, 3 ≤ t.val → rSlot (grid0.coords t) = (t.val - 3) % 6 ∧ rPar (grid0.coords t) = (t.val - 3) / 3 % 2 := by decide +kernel

theorem pt {t : Fin cfg0.N} (h : t.val < 15) : Pt (t.val / 3) (t.val % 3) (grid0.coords t) := by
  obtain ⟨a, b, c, d, e, f, -, -⟩ := pt_words t h
  exact ⟨by omega, by omega, a, b, c, d, e, f⟩

theorem fl_10 : ∀ t : Fin cfg0.N, (cfg0.win 8).flush t = true ↔ t.val < 14 ∨ t.val = 17 := by decide +kernel
theorem fl_11 : ∀ t : Fin cfg0.N, (cfg0.win 9).flush t = true ↔ t.val < 14 ∨ t.val = 17 := by decide +kernel
theorem fl_12 : ∀ t : Fin cfg0.N, (cfg0.win 10).flush t = true ↔ (t.val < 14 ∧ t.val % 3 = 2) ∨ t.val = 17 := by decide +kernel
theorem fl_13 : ∀ t : Fin cfg0.N, (cfg0.win 11).flush t = true ↔ 3 ≤ t.val := by decide +kernel

theorem idx : ∀ t : Fin cfg0.N, win0_0.index t = ![0] ∧ win0_1.index t = ![cut t / 3, cut t % 3, 0] ∧ win0_2.index t = ![cut t / 3, cut t % 3, 0] ∧ win0_3.index t = ![cut t / 3, cut t % 3, 0]
    ∧ win0_4.index t = ![cut t / 3, 0, 0] ∧ win0_5.index t = ![cut t / 3, cut t % 3, 0] ∧ win0_6.index t = ![0, 0] ∧ win0_7.index t = ![0, 0]
    ∧ win0_8.index t = ![cut t / 3, cut t % 3, 0] ∧ win0_9.index t = ![cut t / 3, cut t % 3, 0] ∧ win0_10.index t = ![cut t / 3, 0, 0] ∧ win0_11.index t = ![(t.val - 3) / 3, (t.val - 3) % 3, 0]
    ∧ win0_12.index t = ![0, 0] ∧ win0_13.index t = ![0, 0] := by decide +kernel

variable (m : (ℓ : Loc nD τ sig) → Buf (Elt Ideal) ℓ) (c : Dev nD)

theorem blk1 (t : Fin cfg0.N) (r k : ℕ) (hr : r < 128) (hk : k < 2880) :
    rd3 (n0 := 1) (n1 := 128) (n2 := 2880) (α := EReal) (iblk m c 1 t) 0 r k = rd3 (n0 := 5) (n1 := 384) (n2 := 2880) (α := EReal) (m ((c.tc : Thread nD τ).loc main_arg0)) (cut t / 3) (128 * (cut t % 3) + r) k := by
  have hc : cut t ≤ 14 := Nat.min_le_right _ _
  rw [rd3_lt _ _ _ _ (by omega) (by omega) (by omega), rd3_lt _ _ _ _ (by omega) (by omega) (by omega)]
  obtain ⟨e0, e1, e2, e3, e4, e5, e6, e7, -⟩ := idx t
  blk_ext [iblk, V, e1]

theorem blk2 (t : Fin cfg0.N) (r k : ℕ) (hr : r < 128) (hk : k < 2880) :
    rd3 (n0 := 1) (n1 := 128) (n2 := 2880) (α := EReal) (iblk m c 2 t) 0 r k = rd3 (n0 := 5) (n1 := 384) (n2 := 2880) (α := EReal) (m ((c.tc : Thread nD τ).loc main_arg1)) (cut t / 3) (128 * (cut t % 3) + r) k := by
  have hc : cut t ≤ 14 := Nat.min_le_right _ _
  rw [rd3_lt _ _ _ _ (by omega) (by omega) (by omega), rd3_lt _ _ _ _ (by omega) (by omega) (by omega)]
  obtain ⟨e0, e1, e2, e3, e4, e5, e6, e7, -⟩ := idx t
  blk_ext [iblk, V, e2]

theorem blk3 (t : Fin cfg0.N) (r k : ℕ) (hr : r < 128) (hk : k < 1440) :
    rd3 (n0 := 1) (n1 := 128) (n2 := 1440) (α := BitVec 8) (iblk m c 3 t) 0 r k = rd3 (n0 := 5) (n1 := 384) (n2 := 1440) (α := BitVec 8) (m ((c.tc : Thread nD τ).loc main_arg3)) (cut t / 3) (128 * (cut t % 3) + r) k := by
  have hc : cut t ≤ 14 := Nat.min_le_right _ _
  rw [rd3_lt _ _ _ _ (by omega) (by omega) (by omega), rd3_lt _ _ _ _ (by omega) (by omega) (by omega)]
  obtain ⟨e0, e1, e2, e3, e4, e5, e6, e7, -⟩ := idx t
  blk_ext [iblk, V, e3]

theorem blk5 (t : Fin cfg0.N) (r k : ℕ) (hr : r < 128) (hk : k < 1440) :
    rd3 (n0 := 1) (n1 := 128) (n2 := 1440) (α := BitVec 8) (iblk m c 5 t) 0 r k = rd3 (n0 := 5) (n1 := 384) (n2 := 1440) (α := BitVec 8) (m ((c.tc : Thread nD τ).loc main_arg5)) (cut t / 3) (128 * (cut t % 3) + r) k := by
  have hc : cut t ≤ 14 := Nat.min_le_right _ _
  rw [rd3_lt _ _ _ _ (by omega) (by omega) (by omega), rd3_lt _ _ _ _ (by omega) (by omega) (by omega)]
  obtain ⟨e0, e1, e2, e3, e4, e5, e6, e7, -⟩ := idx t
  blk_ext [iblk, V, e5]

theorem blk4 (t : Fin cfg0.N) (r k : ℕ) (hr : r < 6) (hk : k < 2880) :
    rd3 (n0 := 1) (n1 := 6) (n2 := 2880) (α := EReal) (iblk m c 4 t) 0 r k = rd3 (n0 := 5) (n1 := 6) (n2 := 2880) (α := EReal) (m ((c.tc : Thread nD τ).loc main_arg4)) (cut t / 3) r k := by
  have hc : cut t ≤ 14 := Nat.min_le_right _ _
  rw [rd3_lt _ _ _ _ (by omega) (by omega) (by omega), rd3_lt _ _ _ _ (by omega) (by omega) (by omega)]
  obtain ⟨e0, e1, e2, e3, e4, e5, e6, e7, -⟩ := idx t
  blk_ext [iblk, V, e4]

theorem blk6 (t : Fin cfg0.N) (r k : ℕ) (hr : r < 5) (hk : k < 384) :
    rd2 (n0 := 5) (n1 := 384) (α := EReal) (iblk m c 6 t) r k = rd2 (n0 := 5) (n1 := 384) (α := EReal) (m ((c.tc : Thread nD τ).loc main_arg6)) r k := by
  rw [rd2_lt _ _ _ (by omega) (by omega), rd2_lt _ _ _ (by omega) (by omega)]
  obtain ⟨e0, e1, e2, e3, e4, e5, e6, e7, -⟩ := idx t
  blk_ext [iblk, V, e6]

theorem blk7 (t : Fin cfg0.N) (r k : ℕ) (hr : r < 5) (hk : k < 2880) :
    rd2 (n0 := 5) (n1 := 2880) (α := EReal) (iblk m c 7 t) r k = rd2 (n0 := 5) (n1 := 2880) (α := EReal) (m ((c.tc : Thread nD τ).loc main_arg7)) r k := by
  rw [rd2_lt _ _ _ (by omega) (by omega), rd2_lt _ _ _ (by omega) (by omega)]
  obtain ⟨e0, e1, e2, e3, e4, e5, e6, e7, -⟩ := idx t
  blk_ext [iblk, V, e7]

theorem blk0 (t : Fin cfg0.N) (i : S1.Idx) : (iblk m c 0 t : S1.Idx → BitVec 32) i = m ((c.tc : Thread nD τ).loc main_arg2) ix0 := by
  obtain ⟨e0, e1, e2, e3, e4, e5, e6, e7, -⟩ := idx t
  show V m c main_v0 _ = _
  entry_read
  pointwise

end Cert.KernelIdeal.Body

end

end
-- ==== Proof.VSpec.lean ====
/-
  What the scratch buffers and the results' buffers hold over the run, in terms of the arguments.
-/
module

public import proofs.«01_k».proof.Proof.VWin
@[expose] public section

set_option maxRecDepth 16384

noncomputable section

namespace Cert.KernelIdeal.Body

open Cert.KernelIdeal Cert.KernelIdeal.Gen Cert.Proof Cert.Val
open Idealize.ShloMosaic Idealize.ShloMosaic.TcCoe Idealize.ShloMosaic.Tactic Idealize.SL.Sem

variable (m : (ℓ : Loc nD τ sig) → Buf (Elt Ideal) ℓ) (c : Dev nD)

/-! ### The arguments, and what the kernel makes of them -/

/-- The weight. -/
def Aw (e r k : ℕ) : EReal := rd3 (n0 := 5) (n1 := 384) (n2 := 2880) (α := EReal) (m ((c.tc : Thread nD τ).loc main_arg0)) e r k
/-- The gradient. -/
def Ag (e r k : ℕ) : EReal := rd3 (n0 := 5) (n1 := 384) (n2 := 2880) (α := EReal) (m ((c.tc : Thread nD τ).loc main_arg1)) e r k
/-- The step's number. -/
def At : BitVec 32 := m ((c.tc : Thread nD τ).loc main_arg2) ix0
/-- The codes of the first moment. -/
def Amc (e r k : ℕ) : BitVec 8 := rd3 (n0 := 5) (n1 := 384) (n2 := 1440) (α := BitVec 8) (m ((c.tc : Thread nD τ).loc main_arg3)) e r k
/-- The scales of the first moment. -/
def Ams (e r k : ℕ) : EReal := rd3 (n0 := 5) (n1 := 6) (n2 := 2880) (α := EReal) (m ((c.tc : Thread nD τ).loc main_arg4)) e r k
/-- The codes of the second moment. -/
def Avc (e r k : ℕ) : BitVec 8 := rd3 (n0 := 5) (n1 := 384) (n2 := 1440) (α := BitVec 8) (m ((c.tc : Thread nD τ).loc main_arg5)) e r k
/-- The row maxima of the second moment. -/
def Avr (e r : ℕ) : EReal := rd2 (n0 := 5) (n1 := 384) (α := EReal) (m ((c.tc : Thread nD τ).loc main_arg6)) e r
/-- The column maxima of the second moment. -/
def Avk (e k : ℕ) : EReal := rd2 (n0 := 5) (n1 := 2880) (α := EReal) (m ((c.tc : Thread nD τ).loc main_arg7)) e k

/-- Ten times the new first moment. -/
def Mg (e r k : ℕ) : EReal := MP (Amc m c e r (k / 2)) (k % 2) (S9 (Ams m c e (r / 64) k)) (Ag m c e r k)
/-- A thousand times the new second moment. -/
def Vg (e r k : ℕ) : EReal := VP (Avc m c e r (k / 2)) (k % 2) (NEXT (Avr m c e r)) (NEXT (Avk m c e k)) (Ag m c e r k)
/-- The largest absolute value of `Mg` over a block of 64 rows. -/
def AMg (e b k : ℕ) : EReal := AM fun x => Mg m c e (64 * b + x) k
/-- The largest of a row of `Vg`. -/
def RXg (e r : ℕ) : EReal := MX 2880 fun k => Vg m c e r k
/-- The largest of a column of `Vg`. -/
def CXg (e k : ℕ) : EReal := MX 384 fun r => Vg m c e r k
/-- The step. -/
def DWg (e r k : ℕ) : EReal := DW (Mg m c e r k) (Vg m c e r k) (Aw m c e r k) (K1 (At m c)) (K2 (At m c))
/-- The new codes of the first moment. -/
def MCg (e r h : ℕ) : BitVec 8 := MB2 (Mg m c e r (2 * h)) (Mg m c e r (2 * h + 1)) (AMg m c e (r / 64) (2 * h)) (AMg m c e (r / 64) (2 * h + 1))
/-- The new codes of the second moment. -/
def VCg (e r h : ℕ) : BitVec 8 := VB2 (Vg m c e r (2 * h)) (Vg m c e r (2 * h + 1)) (max (INV (RXg m c e r)) (INV (CXg m c e (2 * h)))) (max (INV (RXg m c e r)) (INV (CXg m c e (2 * h + 1))))

/-! ### The specification -/

/-- The scratch before point `t`. -/
structure Inv (t : ℕ) (s : Sc Ideal) : Prop where
  q : ∀ k l, k < 256 → l < 256 → rd2 (α := EReal) s.a15 k l = selQ k l
  p : ∀ k h, k < 256 → h < 128 → rd2 (α := EReal) s.a16 k h = selP k h
  k1 : ∀ l, l < 128 → rd2 (α := EReal) s.a17 0 l = K1 (At m c)
  k2 : ∀ l, l < 128 → rd2 (α := EReal) s.a17 1 l = K2 (At m c)
  v : ∀ u, u < 15 → u < t → t ≤ u + 4 → ∀ r k, r < 128 → k < 2880 → rd3 (α := EReal) s.a18 (u % 6) r k = Vg m c (u / 3) (128 * (u % 3) + r) k
  i : ∀ u, u < 15 → u < t → t ≤ u + 4 → ∀ r l, r < 128 → l < 128 → rd3 (α := EReal) s.a19 (u % 6) r l = INV (RXg m c (u / 3) (128 * (u % 3) + r))
  j : ∀ e, e < 5 → 3 * e + 3 ≤ t → t ≤ 3 * e + 6 → ∀ k, k < 2880 → rd3 (α := EReal) s.a21 (e % 2) 0 k = INV (CXg m c e k)
  mx : t < 15 → t % 3 ≠ 0 → ∀ k, k < 2880 → ∀ y, (∀ x < 8, rd3 (α := EReal) s.a20 (t / 3 % 2) x k ≤ y) ↔ 0 ≤ y ∧ ∀ r < 128 * (t % 3), Vg m c (t / 3) r k ≤ y
  cn : t < 15 → t % 3 ≠ 0 → ∀ k, k < 2880 → rd2 (α := EReal) s.a23 0 k = NEXT (Avk m c (t / 3) k)

/-- The step's block at point `t`. -/
def O9 (t : ℕ) (X : S1x128x2880.Idx → EReal) : Prop := ∀ r k, r < 128 → k < 2880 → rd3 X 0 r k = DWg m c (cut t / 3) (128 * (cut t % 3) + r) k
/-- The block of the first moment's codes. -/
def O10 (t : ℕ) (X : S1x128x1440.Idx → BitVec 8) : Prop := ∀ r h, r < 128 → h < 1440 → rd3 X 0 r h = MCg m c (cut t / 3) (128 * (cut t % 3) + r) h
/-- The expert's scales so far. -/
def O11 (t : ℕ) (X : S1x6x2880.Idx → EReal) : Prop := ∀ b k, b / 2 ≤ cut t % 3 → k < 2880 → rd3 X 0 b k = SC (AMg m c (cut t / 3) b k)
/-- The block of the second moment's codes, three points late. -/
def O12 (t : ℕ) (X : S1x128x1440.Idx → BitVec 8) : Prop := 3 ≤ t → ∀ r h, r < 128 → h < 1440 → rd3 X 0 r h = VCg m c ((t - 3) / 3) (128 * ((t - 3) % 3) + r) h
/-- The row maxima so far. -/
def O13 (t : ℕ) (X : S5x384.Idx → EReal) : Prop := ∀ e r, e < 5 → r < 384 → 3 * e + r / 128 ≤ t → rd2 X e r = MEAN (RXg m c e r)
/-- The column maxima so far. -/
def O14 (t : ℕ) (X : S5x2880.Idx → EReal) : Prop := ∀ e k, e < 5 → k < 2880 → 3 * e + 2 ≤ t → rd2 X e k = MEAN (CXg m c e k)

/-- What the run's buffers hold. -/
def spec : Spec Ideal where
  inv t s := t ≠ 0 → Inv m c t s
  o9 := O9 m c
  o10 := O10 m c
  o11 := O11 m c
  o12 := O12 m c
  o13 := O13 m c
  o14 := O14 m c

/-! ### A point -/

section
variable {m c} {t : Fin cfg0.N} {S : St Ideal}

theorem cut_of {t : ℕ} (h : t < 15) : cut t = t := by unfold cut; omega

theorem Ml_eq (hS : S.ins = insAt m c t) (ht : t.val < 15) {r k : ℕ} (hr : r < 128) (hk : k < 2880) :
    Ml S (t.val % 3) r k = Mg m c (t.val / 3) (128 * (t.val % 3) + r) k := by
  simp only [St.ins, insAt, Prod.mk.injEq] at hS
  obtain ⟨h1, h2, h3, h4, h5, h6, h7, h8⟩ := hS
  unfold Ml Mg Amc Ams Ag
  rw [h3, h4, h5, blk2 m c t r k hr hk, blk3 m c t r (k / 2) hr (by omega), blk4 m c t _ k (by omega) hk, cut_of ht,
    show (128 * (t.val % 3) + r) / 64 = 2 * (t.val % 3) + r / 64 by omega]

theorem Vl_eq (hS : S.ins = insAt m c t) (ht : t.val < 15) {r k : ℕ} (hr : r < 128) (hk : k < 2880) :
    Vl S (t.val / 3) (t.val % 3) r k = Vg m c (t.val / 3) (128 * (t.val % 3) + r) k := by
  simp only [St.ins, insAt, Prod.mk.injEq] at hS
  obtain ⟨h1, h2, h3, h4, h5, h6, h7, h8⟩ := hS
  unfold Vl Vg Avc Avr Avk Ag
  rw [h3, h6, h7, h8, blk2 m c t r k hr hk, blk5 m c t r (k / 2) hr (by omega), blk6 m c t _ _ (by omega) (by omega), blk7 m c t _ _ (by omega) (by omega), cut_of ht]

theorem AMB_eq (hS : S.ins = insAt m c t) (ht : t.val < 15) {b k : ℕ} (hb : b < 2) (hk : k < 2880) :
    AMB (Ml S (t.val % 3)) b k = AMg m c (t.val / 3) (2 * (t.val % 3) + b) k := by
  unfold AMB AMg AM
  congr 1
  funext x
  have := x.isLt
  dsimp only
  rw [Ml_eq hS ht (by omega) hk, show 128 * (t.val % 3) + (64 * b + x.val) = 64 * (2 * (t.val % 3) + b) + x.val by omega]

theorem MX_congr {n : ℕ} {f g : ℕ → EReal} (h : ∀ x, x < n → f x = g x) : MX n f = MX n g := by
  unfold MX
  congr 1
  funext x
  exact h x x.isLt

theorem RX_eq (hS : S.ins = insAt m c t) (ht : t.val < 15) {r : ℕ} (hr : r < 128) :
    MX 2880 (Vl S (t.val / 3) (t.val % 3) r) = RXg m c (t.val / 3) (128 * (t.val % 3) + r) :=
  MX_congr fun k hk => Vl_eq hS ht hr hk

/-- After the preparation the scratch is as before the point. -/
theorem init_inv (hS : S.ins = insAt m c t) (hi : t.val ≠ 0 → Inv m c t.val S.sc) :
    ∃ S₁ : St Ideal, (if h1 : k0_cond1 (grid0.coords t) = 1#1 then initS S else S) = S₁ ∧ S₁.ins = insAt m c t ∧ Inv m c t.val S₁.sc ∧ (t.val ≠ 0 → S₁ = S) := by
  by_cases h : t.val = 0
  · refine ⟨initS S, dif_pos ((pt_conds t).1.mpr h), hS, ?_, fun h' => absurd h h'⟩
    have e1 : VecWindow.window (s := S1) S.a1 ![0] S1.size inb_S1_S1_0 (Shape.Idx.first (numel1_S1.symm ▸ Nat.one_pos)) = At m c := by
      simp only [St.ins, insAt, Prod.mk.injEq] at hS
      exact (congrFun hS.1 _).trans (blk0 m c t _)
    constructor
    · intro k l hk hl
      refine (rd2_put_in (α := EReal) 0 0 256 256 S.a15 _ k l (by omega) (by omega) (by omega) (by omega)).trans ?_
      exact rd2_of (T := selQ) (fun a b => initQ_at a b) k l hk hl
    · intro k l hk hl
      refine (rd2_put_in (α := EReal) 0 0 256 128 S.a16 _ k l (by omega) (by omega) (by omega) (by omega)).trans ?_
      exact rd2_of (T := selP) (fun a b => initP_at a b) k l hk hl
    · intro l hl
      refine (rd2_put_out (α := EReal) 1 0 1 128 _ _ 0 l (by omega)).trans ?_
      refine (rd2_put_in (α := EReal) 0 0 1 128 S.a17 _ 0 l (by omega) (by omega) (by omega) (by omega)).trans ?_
      rw [e1]
      exact (rd2_lt (α := EReal) _ _ _ (by omega) (by omega)).trans (initK1_at _ ⟨l, hl⟩)
    · intro l hl
      refine (rd2_put_in (α := EReal) 1 0 1 128 _ _ 1 l (by omega) (by omega) (by omega) (by omega)).trans ?_
      rw [e1]
      exact (rd2_lt (α := EReal) _ _ _ (by omega) (by omega)).trans (initK2_at _ ⟨l, hl⟩)
    all_goals intros; omega
  · exact ⟨S, dif_neg (fun h' => h ((pt_conds t).1.mp h')), hS, hi h, fun _ => rfl⟩

/-- The scratch after a point's update, and what the update leaves in the results' buffers. -/
theorem update_inv (ht : t.val < 15) (hS : S.ins = insAt m c t) (hi : Inv m c t.val S.sc)
    (k11 : t.val % 3 ≠ 0 → O11 m c (t.val - 1) S.a11) (k13 : t.val ≠ 0 → O13 m c (t.val - 1) S.a13) (k14 : t.val ≠ 0 → O14 m c (t.val - 1) S.a14) :
    ∃ S₂ : St Ideal, (if h2 : k0_cond2 (grid0.coords t) = 1#1 then updateS (grid0.coords t) h2 S else S) = S₂ ∧ Inv m c (t.val + 1) S₂.sc ∧
      O9 m c t.val S₂.a9 ∧ O10 m c t.val S₂.a10 ∧ O11 m c t.val S₂.a11 ∧ O13 m c t.val S₂.a13 ∧ O14 m c t.val S₂.a14 := by
  have h2 := (pt_conds t).2.1.mpr ht
  have hp := pt ht
  obtain ⟨-, -, -, -, -, -, es, ec⟩ := pt_words t ht
  have h8 : S.a8 = iblk m c 7 t := by
    have := hS
    simp only [St.ins, insAt, Prod.mk.injEq] at this
    exact this.2.2.2.2.2.2.2
  have hw2 : ∀ r k, r < 128 → k < 2880 → rd3 (α := EReal) S.a2 0 r k = Aw m c (t.val / 3) (128 * (t.val % 3) + r) k := by
    have := hS
    simp only [St.ins, insAt, Prod.mk.injEq] at this
    intro r k hr hk
    rw [this.2.1, blk1 m c t r k hr hk, cut_of ht]; rfl
  have hin : UIn S (t.val / 3) (t.val % 3) (K1 (At m c)) (K2 (At m c)) := by
    refine ⟨hi.q, hi.p, hi.k1, hi.k2, fun hn k hk => (hi.cn ht hn k hk).trans ?_⟩
    rw [h8, blk7 m c t _ _ (by omega) hk]; rfl
  obtain ⟨X9, X10, X11, X13, X14, X18, X19, X20, X21, X22, X23, X24, e, o⟩ := update_out h2 hp hin
  have hmx : ∀ k, k < 2880 → ∀ y, (∀ x < 8, rd3 X20 (t.val / 3 % 2) x k ≤ y) ↔ 0 ≤ y ∧ ∀ r < 128 * (t.val % 3 + 1), Vg m c (t.val / 3) r k ≤ y := by
    intro k hk y
    have h := o.r20 k hk y
    rw [ec] at h
    rw [h]
    have hv : (∀ r < 128, Vl S (t.val / 3) (t.val % 3) r k ≤ y) ↔ ∀ r < 128, Vg m c (t.val / 3) (128 * (t.val % 3) + r) k ≤ y :=
      forall₂_congr fun r hr => by rw [Vl_eq hS ht hr hk]
    rw [hv]
    by_cases hn : t.val % 3 = 0
    · rw [if_pos hn, hn]
      simp only [Nat.mul_zero, Nat.zero_add, Nat.mul_one]
    · rw [if_neg hn]
      refine (and_congr_left' (hi.mx ht hn k hk y)).trans ?_
      constructor
      · rintro ⟨⟨h0, ha⟩, hb⟩
        refine ⟨h0, fun r hr => ?_⟩
        by_cases h' : r < 128 * (t.val % 3)
        · exact ha r h'
        · have := hb (r - 128 * (t.val % 3)) (by omega)
          rwa [show 128 * (t.val % 3) + (r - 128 * (t.val % 3)) = r by omega] at this
      · rintro ⟨h0, ha⟩
        exact ⟨⟨h0, fun r hr => ha r (by omega)⟩, fun r hr => ha _ (by omega)⟩
  have hC : t.val % 3 = 2 → (∀ k, k < 2880 → rd2 X14 (t.val / 3) k = MEAN (CXg m c (t.val / 3) k)) ∧ ∀ k, k < 2880 → rd3 X21 (t.val / 3 % 2) 0 k = INV (CXg m c (t.val / 3) k) := by
    intro hn
    obtain ⟨C, c1, c2, c3⟩ := o.r14 hn
    rw [ec] at c1 c3
    have hCX : ∀ k, k < 2880 → C k = CXg m c (t.val / 3) k := by
      intro k hk
      refine eq_of_forall_ge_iff fun y => ?_
      rw [c1 k hk y, hmx k hk y, hn]
      unfold CXg
      rw [MX_le]
    exact ⟨fun k hk => by rw [c2 k hk, hCX k hk], fun k hk => by rw [c3 k hk, hCX k hk]⟩
  refine ⟨_, (dif_pos h2).trans e, ?_, ?_, ?_, ?_, ?_, ?_⟩
  · constructor
    · exact hi.q
    · exact hi.p
    · exact hi.k1
    · exact hi.k2
    · intro u hu hut hut' r k hr hk
      show rd3 X18 (u % 6) r k = _
      by_cases h : u = t.val
      · have := o.r18 r k hr hk
        rw [es] at this
        rw [h, this, Vl_eq hS ht hr hk]
      · rw [o.r18' (u % 6) r k (by rw [es]; omega)]
        exact hi.v u hu (by omega) (by omega) r k hr hk
    · intro u hu hut hut' r l hr hl
      show rd3 X19 (u % 6) r l = _
      by_cases h : u = t.val
      · have := o.r19 r l hr hl
        rw [es] at this
        rw [h, this, RX_eq hS ht hr]
      · rw [o.r19' (u % 6) r l (by rw [es]; omega)]
        exact hi.i u hu (by omega) (by omega) r l hr hl
    · intro e he h3 h6 k hk
      show rd3 X21 (e % 2) 0 k = _
      by_cases h : 3 * e + 2 = t.val
      · have he' : e = t.val / 3 := by omega
        rw [he', (hC (by omega)).2 k hk]
      · rw [o.r21' (e % 2) k (by rw [ec]; omega)]
        exact hi.j e he (by omega) (by omega) k hk
    · intro h15 h3 k hk y
      have a1 : (t.val + 1) / 3 = t.val / 3 := by omega
      have a2 : (t.val + 1) % 3 = t.val % 3 + 1 := by omega
      rw [a1, a2]
      exact hmx k hk y
    · intro h15 h3 k hk
      have a1 : (t.val + 1) / 3 = t.val / 3 := by omega
      rw [a1]
      refine (o.r23 k hk).trans ?_
      rw [h8, blk7 m c t _ _ (by omega) hk]; rfl
  · intro r k hr hk
    rw [cut_of ht]
    refine (o.r9 r k hr hk).trans ?_
    rw [Ml_eq hS ht hr hk, Vl_eq hS ht hr hk, hw2 r k hr hk]; rfl
  · intro r h hr hh
    rw [cut_of ht]
    refine (o.r10 r h hr hh).trans ?_
    unfold T10 MCg
    rw [Ml_eq hS ht hr (by omega), Ml_eq hS ht hr (by omega), AMB_eq hS ht (by omega) (by omega), AMB_eq hS ht (by omega) (by omega),
      show (128 * (t.val % 3) + r) / 64 = 2 * (t.val % 3) + r / 64 by omega]
  · intro b k hb hk
    rw [cut_of ht] at hb ⊢
    by_cases h : b / 2 = t.val % 3
    · refine (o.r11 b k h hk).trans ?_
      rw [AMB_eq hS ht (by omega) hk, show 2 * (t.val % 3) + b % 2 = b by omega]
    · refine (o.r11' (by omega) b k h).trans ?_
      have := k11 (by omega) b k
      rw [cut_of (show t.val - 1 < 15 by omega)] at this
      rw [show t.val / 3 = (t.val - 1) / 3 by omega]
      exact this (by omega) hk
  · intro e r he hr h
    by_cases h' : e = t.val / 3 ∧ r / 128 = t.val % 3
    · have := o.r13 (r - 128 * (t.val % 3)) (by omega)
      rw [RX_eq hS ht (by omega), show 128 * (t.val % 3) + (r - 128 * (t.val % 3)) = r by omega] at this
      rw [h'.1]; exact this
    · refine (o.r13' e r h').trans (k13 (by omega) e r he hr (by omega))
  · intro e k he hk h
    by_cases h' : e = t.val / 3 ∧ t.val % 3 = 2
    · rw [h'.1]; exact (hC h'.2).1 k hk
    · refine (o.r14' e k h').trans (k14 (by omega) e k he hk (by omega))

end

theorem sound : Sound m c (spec m c) := by
  refine ⟨fun s h => absurd rfl h, fun t S hS hi k9 k10 k11 k12 k13 k14 => ?_⟩
  have hN : t.val < 18 := N_eq ▸ t.isLt
  obtain ⟨S₁, e₁, hS₁, hi₁, h₁⟩ := init_inv hS hi
  have kk : ∀ {w : Fin cfg0.W} {o : ℕ → Prop}, Kept w t o → t.val ≠ 0 → (cfg0.win w).flush ⟨t.val - 1, Nat.lt_of_le_of_lt (Nat.sub_le _ _) t.isLt⟩ ≠ true → o (t.val - 1) :=
    fun h => h
  have k13' : t.val ≠ 0 → O13 m c (t.val - 1) S₁.a13 := fun h => by
    rw [h₁ h]; exact kk k13 h (fun h' => by have := (flush0_12 _).mp h'; dsimp only at this; omega)
  have k14' : t.val ≠ 0 → O14 m c (t.val - 1) S₁.a14 := fun h => by
    rw [h₁ h]; exact kk k14 h (fun h' => by have := (flush0_13 _).mp h'; dsimp only at this; omega)
  have two : ∃ S₂ : St Ideal, (if h2 : k0_cond2 (grid0.coords t) = 1#1 then updateS (grid0.coords t) h2 S₁ else S₁) = S₂ ∧ Inv m c (t.val + 1) S₂.sc ∧
      O9 m c t.val S₂.a9 ∧ O10 m c t.val S₂.a10 ∧ O11 m c t.val S₂.a11 ∧ O13 m c t.val S₂.a13 ∧ O14 m c t.val S₂.a14 := by
    by_cases ht : t.val < 15
    · refine update_inv ht hS₁ hi₁ (fun h => ?_) k13' k14'
      have h0 : t.val ≠ 0 := by omega
      rw [h₁ h0]
      exact kk k11 h0 (fun h' => by have := (fl_12 _).mp h'; dsimp only at this; omega)
    · have h0 : t.val ≠ 0 := by omega
      have ec : cut t.val = cut (t.val - 1) := by unfold cut; omega
      refine ⟨S₁, dif_neg (fun h => ht ((pt_conds t).2.1.mp h)), ?_, ?_, ?_, ?_, ?_, ?_⟩
      · exact ⟨hi₁.q, hi₁.p, hi₁.k1, hi₁.k2, fun u hu hut hut' => hi₁.v u hu (by omega) (by omega), fun u hu hut hut' => hi₁.i u hu (by omega) (by omega),
          fun e he h3 h6 => hi₁.j e he (by omega) (by omega), fun h => absurd h (by omega), fun h => absurd h (by omega)⟩
      · have := kk k9 h0 (fun h' => by have := (fl_10 _).mp h'; dsimp only at this; omega)
        rw [h₁ h0]; unfold O9; rw [ec]; exact this
      · have := kk k10 h0 (fun h' => by have := (fl_11 _).mp h'; dsimp only at this; omega)
        rw [h₁ h0]; unfold O10; rw [ec]; exact this
      · have := kk k11 h0 (fun h' => by have := (fl_12 _).mp h'; dsimp only at this; omega)
        rw [h₁ h0]; unfold O11; rw [ec]; exact this
      · exact fun e r he hr h => k13' h0 e r he hr (by omega)
      · exact fun e k he hk h => k14' h0 e k he hk (by omega)
  obtain ⟨S₂, e₂, hi₂, o9, o10, o11, o13, o14⟩ := two
  have es : step (grid0.coords t) S = if h5 : k0_cond5 (grid0.coords t) = 1#1 then requantS (grid0.coords t) h5 S₂ else S₂ := by
    rw [← e₂, ← e₁]; rfl
  rw [es]
  by_cases h5 : 3 ≤ t.val
  · have h5' := (pt_conds t).2.2.mpr h5
    obtain ⟨er, ep⟩ := pt_back t h5
    obtain ⟨X12, e, hX⟩ := requant_out (S := S₂) h5' hi₂.p (ri := fun r => INV (RXg m c ((t.val - 3) / 3) (128 * ((t.val - 3) % 3) + r))) (fun r l hr hl => by
      rw [er]; exact hi₂.i (t.val - 3) (by omega) (by omega) (by omega) r l hr hl)
    rw [dif_pos h5', e]
    refine ⟨fun _ => hi₂, o9, o10, o11, fun _ r h hr hh => ?_, o13, o14⟩
    refine (hX r h hr hh).trans ?_
    unfold T12 VCg
    rw [er, ep]
    have hv := hi₂.v (t.val - 3) (by omega) (by omega) (by omega) r
    have hj := hi₂.j ((t.val - 3) / 3) (by omega) (by omega) (by omega)
    exact VB2_congr (hv _ hr (by omega)) (hv _ hr (by omega)) (congrArg (max _) (hj _ (by omega))) (congrArg (max _) (hj _ (by omega)))
  · rw [dif_neg (fun h => h5 ((pt_conds t).2.2.mp h))]
    exact ⟨fun _ => hi₂, o9, o10, o11, fun h => absurd h h5, o13, o14⟩

end Cert.KernelIdeal.Body

end

end
-- ==== Proof.VRes.lean ====
/-
  The kernel's results, entry by entry.
-/
module

public import proofs.«01_k».proof.Proof.VSpec
public import proofs.«01_k».proof.Proof.ILaunch
@[expose] public section

set_option maxRecDepth 16384

noncomputable section

namespace Cert.KernelIdeal.Body

open Cert.KernelIdeal Cert.KernelIdeal.Gen Cert.Proof Cert.Val
open Idealize.ShloMosaic Idealize.ShloMosaic.TcCoe Idealize.ShloMosaic.Tactic Idealize.SL.Sem
open Idealize.ShloMosaic.Pipeline (Cfg RDat Window)

theorem at3 {α : Type} [Inhabited α] {n0 n1 n2 : ℕ} (X : (⟨3, ![n0, n1, n2]⟩ : Shape).Idx → α) (y : (⟨3, ![n0, n1, n2]⟩ : Shape).Idx) :
    X y = rd3 X (y 0) (y 1) (y 2) := by
  refine Eq.trans ?_ (rd3_fin X (y 0) (y 1) (y 2)).symm
  congr 1
  funext a
  match a with
  | ⟨0, _⟩ => rfl
  | ⟨1, _⟩ => rfl
  | ⟨2, _⟩ => rfl

theorem eq3 {α : Type} (f : ℕ → ℕ → ℕ → α) {a a' b b' c c' : ℕ} (ha : a = a') (hb : b = b') (hc : c = c') : f a b c = f a' b' c' := by
  rw [ha, hb, hc]

theorem at2 {α : Type} [Inhabited α] {n0 n1 : ℕ} (X : (⟨2, ![n0, n1]⟩ : Shape).Idx → α) (y : (⟨2, ![n0, n1]⟩ : Shape).Idx) :
    X y = rd2 X (y 0) (y 1) := by
  refine Eq.trans ?_ (rd2_fin X (y 0) (y 1)).symm
  congr 1
  funext a
  match a with
  | ⟨0, _⟩ => rfl
  | ⟨1, _⟩ => rfl

variable {m : (ℓ : Loc nD τ sig) → Buf (Elt Ideal) ℓ} {r : PUnit × MemSt nD τ sig (Elt Ideal)}
  (h : RDat.FramePost cfg0 (fun c => rdat m c (spec m c)) (Gen.V m) r) (c : Dev nD)

include h

/-- The step. -/
theorem res0 : r.2.mem ((c.tc : Thread nD τ).loc main_v1_0) = fun i : S5x384x2880.Idx => DWg m c (i 0) (i 1) (i 2) := by
  obtain ⟨after, ha, hr⟩ := RDat.FramePost.exists_exact h c
  refine (hr 8).trans ?_
  refine Pipeline.Dat.arrAt_eq_of_covers _ 8 _ (by decide +kernel) fun t hf y => ?_
  obtain ⟨Y, -, ho⟩ := ha 8 t hf
  replace ho : O9 m c t.val (after 8 t) := ho
  have hi : win0_8.index t = _ := (idx t).2.2.2.2.2.2.2.2.1
  have hN : t.val < 18 := N_eq ▸ t.isLt
  blk_simp
  rw [hi]
  show (after 8 t : (⟨3, ![1, 128, 2880]⟩ : Shape).Idx → EReal) y = _
  have y0 : (y 0).val < 1 := (y 0).isLt
  have y1 : (y 1).val < 128 := (y 1).isLt
  have y2 : (y 2).val < 2880 := (y 2).isLt
  rw [at3 (α := EReal) (after 8 t) y]
  rw [show (y 0).val = 0 by omega]
  refine (ho _ _ y1 y2).trans ?_
  exact eq3 (DWg m c) (show _ = cut t / 3 by rfl) (show _ = cut t % 3 * 128 + (y 1).val by omega) (show _ = 0 * 2880 + (y 2).val by omega)

/-- The codes of the first moment. -/
theorem res1 : r.2.mem ((c.tc : Thread nD τ).loc main_v1_1) = fun i : S5x384x1440.Idx => MCg m c (i 0) (i 1) (i 2) := by
  obtain ⟨after, ha, hr⟩ := RDat.FramePost.exists_exact h c
  refine (hr 9).trans ?_
  refine Pipeline.Dat.arrAt_eq_of_covers _ 9 _ (by decide +kernel) fun t hf y => ?_
  obtain ⟨Y, -, ho⟩ := ha 9 t hf
  replace ho : O10 m c t.val (after 9 t) := ho
  have hi : win0_9.index t = _ := (idx t).2.2.2.2.2.2.2.2.2.1
  have hN : t.val < 18 := N_eq ▸ t.isLt
  blk_simp
  rw [hi]
  show (after 9 t : (⟨3, ![1, 128, 1440]⟩ : Shape).Idx → BitVec 8) y = _
  have y0 : (y 0).val < 1 := (y 0).isLt
  have y1 : (y 1).val < 128 := (y 1).isLt
  have y2 : (y 2).val < 1440 := (y 2).isLt
  rw [at3 (α := BitVec 8) (after 9 t) y]
  rw [show (y 0).val = 0 by omega]
  refine (ho _ _ y1 y2).trans ?_
  exact eq3 (MCg m c) (show _ = cut t / 3 by rfl) (show _ = cut t % 3 * 128 + (y 1).val by omega) (show _ = 0 * 1440 + (y 2).val by omega)

/-- The scales of the first moment. -/
theorem res2 : r.2.mem ((c.tc : Thread nD τ).loc main_v1_2) = fun i : S5x6x2880.Idx => SC (AMg m c (i 0) (i 1) (i 2)) := by
  obtain ⟨after, ha, hr⟩ := RDat.FramePost.exists_exact h c
  refine (hr 10).trans ?_
  refine Pipeline.Dat.arrAt_eq_of_covers _ 10 _ (by decide +kernel) fun t hf y => ?_
  obtain ⟨Y, -, ho⟩ := ha 10 t hf
  replace ho : O11 m c t.val (after 10 t) := ho
  have hi : win0_10.index t = _ := (idx t).2.2.2.2.2.2.2.2.2.2.1
  have hN : t.val < 18 := N_eq ▸ t.isLt
  blk_simp
  rw [hi]
  show (after 10 t : (⟨3, ![1, 6, 2880]⟩ : Shape).Idx → EReal) y = _
  have y0 : (y 0).val < 1 := (y 0).isLt
  have y1 : (y 1).val < 6 := (y 1).isLt
  have y2 : (y 2).val < 2880 := (y 2).isLt
  rw [at3 (α := EReal) (after 10 t) y]
  rw [show (y 0).val = 0 by omega]
  have h2 : cut t % 3 = 2 := by
    rcases (fl_12 t).mp hf with h' | h'
    · rw [cut_of (by omega)]; exact h'.2
    · unfold cut; omega
  refine (ho _ _ (by omega) y2).trans ?_
  exact congrArg SC (eq3 (AMg m c) (show _ = cut t / 3 by rfl) (show _ = 0 * 6 + (y 1).val by omega) (show _ = 0 * 2880 + (y 2).val by omega))

/-- The codes of the second moment. -/
theorem res3 : r.2.mem ((c.tc : Thread nD τ).loc main_v1_3) = fun i : S5x384x1440.Idx => VCg m c (i 0) (i 1) (i 2) := by
  obtain ⟨after, ha, hr⟩ := RDat.FramePost.exists_exact h c
  refine (hr 11).trans ?_
  refine Pipeline.Dat.arrAt_eq_of_covers _ 11 _ (by decide +kernel) fun t hf y => ?_
  obtain ⟨Y, -, ho⟩ := ha 11 t hf
  replace ho : O12 m c t.val (after 11 t) := ho
  have hi : win0_11.index t = _ := (idx t).2.2.2.2.2.2.2.2.2.2.2.1
  have hN : t.val < 18 := N_eq ▸ t.isLt
  blk_simp
  rw [hi]
  show (after 11 t : (⟨3, ![1, 128, 1440]⟩ : Shape).Idx → BitVec 8) y = _
  have y0 : (y 0).val < 1 := (y 0).isLt
  have y1 : (y 1).val < 128 := (y 1).isLt
  have y2 : (y 2).val < 1440 := (y 2).isLt
  rw [at3 (α := BitVec 8) (after 11 t) y]
  rw [show (y 0).val = 0 by omega]
  refine (ho ((fl_13 t).mp hf) _ _ y1 y2).trans ?_
  exact eq3 (VCg m c) (show _ = (t.val - 3) / 3 by rfl) (show _ = (t.val - 3) % 3 * 128 + (y 1).val by omega) (show _ = 0 * 1440 + (y 2).val by omega)

/-- The row maxima. -/
theorem res4 : r.2.mem ((c.tc : Thread nD τ).loc main_v1_4) = fun i : S5x384.Idx => MEAN (RXg m c (i 0) (i 1)) := by
  obtain ⟨after, ha, hr⟩ := RDat.FramePost.exists_exact h c
  refine (hr 12).trans ?_
  refine Pipeline.Dat.arrAt_eq_of_covers _ 12 _ (by decide +kernel) fun t hf y => ?_
  obtain ⟨Y, -, ho⟩ := ha 12 t hf
  replace ho : O13 m c t.val (after 12 t) := ho
  have hi : win0_12.index t = _ := (idx t).2.2.2.2.2.2.2.2.2.2.2.2.1
  have hN : t.val < 18 := N_eq ▸ t.isLt
  blk_simp
  rw [hi]
  show (after 12 t : (⟨2, ![5, 384]⟩ : Shape).Idx → EReal) y = _
  have y0 : (y 0).val < 5 := (y 0).isLt
  have y1 : (y 1).val < 384 := (y 1).isLt
  rw [at2 (α := EReal) (after 12 t) y]
  have h17 := (flush0_12 t).mp hf
  refine (ho _ _ y0 y1 (by omega)).trans ?_
  show MEAN (RXg m c _ _) = MEAN (RXg m c (0 * 5 + (y 0).val) (0 * 384 + (y 1).val))
  congr 2 <;> omega

/-- The column maxima. -/
theorem res5 : r.2.mem ((c.tc : Thread nD τ).loc main_v1_5) = fun i : S5x2880.Idx => MEAN (CXg m c (i 0) (i 1)) := by
  obtain ⟨after, ha, hr⟩ := RDat.FramePost.exists_exact h c
  refine (hr 13).trans ?_
  refine Pipeline.Dat.arrAt_eq_of_covers _ 13 _ (by decide +kernel) fun t hf y => ?_
  obtain ⟨Y, -, ho⟩ := ha 13 t hf
  replace ho : O14 m c t.val (after 13 t) := ho
  have hi : win0_13.index t = _ := (idx t).2.2.2.2.2.2.2.2.2.2.2.2.2
  have hN : t.val < 18 := N_eq ▸ t.isLt
  blk_simp
  rw [hi]
  show (after 13 t : (⟨2, ![5, 2880]⟩ : Shape).Idx → EReal) y = _
  have y0 : (y 0).val < 5 := (y 0).isLt
  have y1 : (y 1).val < 2880 := (y 1).isLt
  rw [at2 (α := EReal) (after 13 t) y]
  have h17 := (flush0_13 t).mp hf
  refine (ho _ _ y0 y1 (by omega)).trans ?_
  show MEAN (CXg m c _ _) = MEAN (CXg m c (0 * 5 + (y 0).val) (0 * 2880 + (y 1).val))
  congr 2 <;> omega

end Cert.KernelIdeal.Body

end

end
-- ==== Proof.VNum.lean ====
/-
  Extended reals: the constants' values, and products with positive reals.
-/
module

public import proofs.«01_k».proof.Proof.VSpec
@[expose] public section

noncomputable section

namespace Cert.KernelIdeal.Body

open Cert.KernelIdeal Cert.KernelIdeal.Gen Cert.Proof Cert.Val
open Idealize.ShloMosaic Idealize.ShloMosaic.TcCoe Idealize.SL.Sem

theorem b_9 : Ideal.ofBits FTy.f32 1091567616#32 = ((9 : ℝ) : EReal) := by
  simp [Ideal.ofBits, Ideal.ieee] <;> norm_num <;> simp only [← EReal.coe_pow, ← EReal.coe_mul] <;> norm_num
theorem b_10 : Ideal.ofBits FTy.f32 1092616192#32 = ((10 : ℝ) : EReal) := by
  simp [Ideal.ofBits, Ideal.ieee] <;> norm_num <;> simp only [← EReal.coe_pow, ← EReal.coe_mul] <;> norm_num
theorem b_999 : Ideal.ofBits FTy.f32 1148829696#32 = ((999 : ℝ) : EReal) := by
  simp [Ideal.ofBits, Ideal.ieee] <;> norm_num <;> simp only [← EReal.coe_pow, ← EReal.coe_mul] <;> norm_num
theorem b_1000 : Ideal.ofBits FTy.f32 1148846080#32 = ((1000 : ℝ) : EReal) := by
  simp [Ideal.ofBits, Ideal.ieee] <;> norm_num <;> simp only [← EReal.coe_pow, ← EReal.coe_mul] <;> norm_num
theorem b_1 : Ideal.ofBits FTy.f32 1065353216#32 = ((1 : ℝ) : EReal) := by
  exact Ideal.ofBits_one_f32
theorem b_3 : Ideal.ofBits FTy.f32 0x40400000#32 = ((3 : ℝ) : EReal) := by
  simp [Ideal.ofBits, Ideal.ieee] <;> norm_num <;> simp only [← EReal.coe_pow, ← EReal.coe_mul] <;> norm_num
theorem b_7 : Ideal.ofBits FTy.f32 1088421888#32 = ((7 : ℝ) : EReal) := by
  simp [Ideal.ofBits, Ideal.ieee] <;> norm_num <;> simp only [← EReal.coe_pow, ← EReal.coe_mul] <;> norm_num
theorem b_m7 : Ideal.ofBits FTy.f32 0xC0E00000#32 = ((-7 : ℝ) : EReal) := by
  simp [Ideal.ofBits, Ideal.ieee] <;> norm_num <;> simp only [← EReal.coe_pow, ← EReal.coe_mul] <;> norm_num
theorem b_15 : Ideal.ofBits FTy.f32 0x41700000#32 = ((15 : ℝ) : EReal) := by
  simp [Ideal.ofBits, Ideal.ieee] <;> norm_num <;> simp only [← EReal.coe_pow, ← EReal.coe_mul] <;> norm_num
theorem b_16th : Ideal.ofBits FTy.f32 1031798784#32 = (((1 : ℝ) / 16 : ℝ) : EReal) := by
  simp [Ideal.ofBits, Ideal.ieee] <;> norm_num <;> simp only [← EReal.coe_pow, ← EReal.coe_mul] <;> norm_num
theorem b_1e4 : Ideal.ofBits FTy.f32 0x461C4000#32 = ((10000 : ℝ) : EReal) := by
  simp [Ideal.ofBits, Ideal.ieee] <;> norm_num <;> simp only [← EReal.coe_pow, ← EReal.coe_mul] <;> norm_num
theorem b_1e8 : Ideal.ofBits FTy.f32 0x4CBEBC20#32 = ((100000000 : ℝ) : EReal) := by
  simp [Ideal.ofBits, Ideal.ieee] <;> norm_num <;> simp only [← EReal.coe_pow, ← EReal.coe_mul] <;> norm_num
theorem b_0 : Ideal.ofBits FTy.f32 0#32 = (0 : EReal) := by
  simp [Ideal.ofBits, Ideal.ieee]
theorem b_big : Ideal.ofBits FTy.f32 0x4B400000#32 = ((12582912 : ℝ) : EReal) := by
  simp [Ideal.ofBits, Ideal.ieee] <;> norm_num <;> simp only [← EReal.coe_pow, ← EReal.coe_mul] <;> norm_num
theorem b_bm : Ideal.ofBits FTy.f32 0x4B404308#32 = ((12600072 : ℝ) : EReal) := by
  simp [Ideal.ofBits, Ideal.ieee] <;> norm_num <;> simp only [← EReal.coe_pow, ← EReal.coe_mul] <;> norm_num
theorem b_bv : Ideal.ofBits FTy.f32 0x4B4042FF#32 = ((12600063 : ℝ) : EReal) := by
  simp [Ideal.ofBits, Ideal.ieee] <;> norm_num <;> simp only [← EReal.coe_pow, ← EReal.coe_mul] <;> norm_num
theorem b_17024 : Ideal.ofBits FTy.f32 0x46850000#32 = ((17024 : ℝ) : EReal) := by
  simp [Ideal.ofBits, Ideal.ieee] <;> norm_num <;> simp only [← EReal.coe_pow, ← EReal.coe_mul] <;> norm_num
theorem b_2176 : Ideal.ofBits FTy.f32 0x45080000#32 = ((2176 : ℝ) : EReal) := by
  simp [Ideal.ofBits, Ideal.ieee] <;> norm_num <;> simp only [← EReal.coe_pow, ← EReal.coe_mul] <;> norm_num
theorem h_128 : Ideal.ofBits FTy.bf16 0x4300#16 = ((128 : ℝ) : EReal) := by
  simp [Ideal.ofBits, Ideal.ieee] <;> norm_num <;> simp only [← EReal.coe_pow, ← EReal.coe_mul] <;> norm_num
theorem h_129 : Ideal.ofBits FTy.bf16 0x4301#16 = ((129 : ℝ) : EReal) := by
  simp [Ideal.ofBits, Ideal.ieee] <;> norm_num <;> simp only [← EReal.coe_pow, ← EReal.coe_mul] <;> norm_num
theorem h_143 : Ideal.ofBits FTy.bf16 0x430F#16 = ((143 : ℝ) : EReal) := by
  simp [Ideal.ofBits, Ideal.ieee] <;> norm_num <;> simp only [← EReal.coe_pow, ← EReal.coe_mul] <;> norm_num
/-- The lower bound the kernel holds the maxima at. -/
theorem b_low : Ideal.ofBits FTy.f32 41943040#32 = (((2 : ℝ) ^ (-122 : ℤ) : ℝ) : EReal) := by
  simp [Ideal.ofBits, Ideal.ieee] <;> norm_num <;> simp only [← EReal.coe_pow, ← EReal.coe_mul] <;> norm_num
/-- The smallest normal number. -/
theorem b_tiny : Ideal.ofBits FTy.f32 0x00800000#32 = (((2 : ℝ) ^ (-126 : ℤ) : ℝ) : EReal) := by
  simp [Ideal.ofBits, Ideal.ieee] <;> norm_num <;> simp only [← EReal.coe_pow, ← EReal.coe_mul] <;> norm_num

theorem n_thousandth : THOU = (((1 : ℝ) / 1000 : ℝ) : EReal) := IdealRules.named_const.ideal_named_scalar _ _ _ _ rfl
theorem n_seventieth : Named.named (F := Ideal) (φ := .f32) κ "seventieth" 0x3C6A0EA1#32 = (((1 : ℝ) / 70 : ℝ) : EReal) := IdealRules.named_const.ideal_named_scalar _ _ _ _ rfl
theorem n_seventh : Named.named (F := Ideal) (φ := .f32) κ "seventh" 0x3E124925#32 = (((1 : ℝ) / 7 : ℝ) : EReal) := IdealRules.named_const.ideal_named_scalar _ _ _ _ rfl
theorem n_decay : Named.named (F := Ideal) (φ := .f32) κ "lr_decay" 0x37FBA882#32 = (((3 : ℝ) / 100000 : ℝ) : EReal) := IdealRules.named_const.ideal_named_scalar _ _ _ _ rfl
theorem n_lr : Named.named (F := Ideal) (φ := .f32) κ "inv_lr_tenth" 1191327061#32 = (((100000 : ℝ) / 3 : ℝ) : EReal) := IdealRules.named_const.ideal_named_scalar _ _ _ _ rfl
theorem n_eps : Named.named (F := Ideal) (φ := .f32) κ "eps" 841731191#32 = (((1 : ℝ) / 100000000 : ℝ) : EReal) := IdealRules.named_const.ideal_named_scalar _ _ _ _ rfl

/-! ### Products with a positive real -/

theorem scale_add {c : ℝ} (hc : 0 < c) (x y : EReal) : (c : EReal) * (x + y) = c * x + c * y :=
  EReal.left_distrib_of_nonneg_of_ne_top (by exact_mod_cast hc.le) (EReal.coe_ne_top c) x y

theorem scale_le {c : ℝ} (hc : 0 < c) {x y : EReal} (h : x ≤ y) : (c : EReal) * x ≤ c * y :=
  mul_le_mul_of_nonneg_left h (by exact_mod_cast hc.le)

theorem scale_max {c : ℝ} (hc : 0 < c) (x y : EReal) : (c : EReal) * max x y = max (c * x) (c * y) := by
  rcases le_total x y with h | h
  · rw [max_eq_right h, max_eq_right (scale_le hc h)]
  · rw [max_eq_left h, max_eq_left (scale_le hc h)]

theorem scale_min {c : ℝ} (hc : 0 < c) (x y : EReal) : (c : EReal) * min x y = min (c * x) (c * y) := by
  rcases le_total x y with h | h
  · rw [min_eq_left h, min_eq_left (scale_le hc h)]
  · rw [min_eq_right h, min_eq_right (scale_le hc h)]

theorem scale_scale (a b : ℝ) (x : EReal) : (a : EReal) * ((b : EReal) * x) = ((a * b : ℝ) : EReal) * x := by
  rw [EReal.coe_mul, mul_assoc]

theorem scale_abs {c : ℝ} (hc : 0 < c) (x : EReal) : max ((c : EReal) * x) (-((c : EReal) * x)) = c * max x (-x) := by
  rw [scale_max hc, mul_neg]

/-- The largest of scaled values. -/
theorem scale_fold {c : ℝ} (hc : 0 < c) {n : ℕ} (f : Fin n → EReal) :
    (Finset.univ : Finset (Fin n)).fold max (⊥ : EReal) (fun x => (c : EReal) * f x) = c * Finset.univ.fold max ⊥ f := by
  have h := Finset.fold_hom (op := max) (op' := max) (s := (Finset.univ : Finset (Fin n))) (b := (⊥ : EReal)) (f := f) (m := fun x => (c : EReal) * x) (scale_max hc)
  rw [show (c : EReal) * ⊥ = ⊥ from EReal.coe_mul_bot_of_pos hc] at h
  exact h

/-- The largest of positive values, with or without a zero among them. -/
theorem fold_pos {n : ℕ} (hn : 0 < n) (f : ℕ → EReal) (hf : ∀ k < n, 0 < f k) :
    (Finset.univ : Finset (Fin n)).fold max (⊥ : EReal) (fun x : Fin n => f x) = MX n f := by
  refine le_antisymm ?_ ?_
  · rw [Finset.fold_max_le]
    exact ⟨bot_le, fun x _ => (MX_le.mp (le_refl _)).2 x x.isLt⟩
  · rw [MX_le]
    have h : ∀ c < n, f c ≤ (Finset.univ : Finset (Fin n)).fold max (⊥ : EReal) (fun x : Fin n => f x) := fun c hc =>
      (Finset.le_fold_max _).mpr (Or.inr ⟨⟨c, hc⟩, Finset.mem_univ _, le_refl _⟩)
    exact ⟨(hf 0 hn).le.trans (h 0 hn), h⟩

end Cert.KernelIdeal.Body
-- ==== Proof.VMom.lean ====
/-
  The two moments, their maxima and the scale, as the reference writes them.
-/
module

public import proofs.«01_k».proof.Proof.VNum

@[expose] public section

noncomputable section

namespace Cert.KernelIdeal.Body

open Cert.KernelIdeal Cert.KernelIdeal.Gen Cert.Proof Cert.Val
open Idealize.ShloMosaic Idealize.ShloMosaic.TcCoe Idealize.SL.Sem

/-- The reference's first moment is a tenth of the kernel's. -/
theorem rm_eq (b : BitVec 8) (p : ℕ) (s g : EReal) :
    Ideal.div (Ideal.ofBits .f32 1091567616#32) (Ideal.ofBits .f32 1092616192#32) * (((nibS b p : ℝ) : EReal) * s)
      + Ideal.div (Ideal.ofBits .f32 1065353216#32) (Ideal.ofBits .f32 1092616192#32) * g = (((1 : ℝ) / 10 : ℝ) : EReal) * MP b p (S9 s) g := by
  unfold MP S9
  rw [mul_comm s, mul_left_comm ((nibS b p : ℝ) : EReal) _ s, b_9, b_10, b_1, Ideal.div_coe (by norm_num), Ideal.div_coe (by norm_num), scale_add (by norm_num),
    ← EReal.coe_mul, ← EReal.coe_mul, scale_scale (1 / 10) 9]
  norm_num

theorem next_eq {a : EReal} (h : Ideal.ofBits .f32 0x00800000#32 ≤ a) : NEXT a = ((999 : ℝ) : EReal) * a := by
  unfold NEXT
  rw [b_999, b_low, mul_comm a, max_eq_left]
  rw [b_tiny] at h
  refine le_trans ?_ (scale_le (by norm_num) h)
  rw [← EReal.coe_mul, EReal.coe_le_coe_iff]
  norm_num

/-- The reference's second moment is a thousandth of the kernel's. -/
theorem rv_eq (b : BitVec 8) (p : ℕ) (row col g : EReal) (hr : Ideal.ofBits .f32 0x00800000#32 ≤ row) (hc : Ideal.ofBits .f32 0x00800000#32 ≤ col) :
    Ideal.div (Ideal.ofBits .f32 1148829696#32) (Ideal.ofBits .f32 1148846080#32) * ((((nib b p : ℝ) : EReal) + 1) * Ideal.ofBits .f32 1031798784#32 * min row col)
      + Ideal.div (Ideal.ofBits .f32 1065353216#32) (Ideal.ofBits .f32 1148846080#32) * (g * g)
      = (((1 : ℝ) / 1000 : ℝ) : EReal) * VP b p (NEXT row) (NEXT col) g := by
  unfold VP
  rw [next_eq hr, next_eq hc, ← scale_min (by norm_num), b_999, b_1000, b_1, b_16th, Ideal.div_coe (by norm_num), Ideal.div_coe (by norm_num), scale_add (by norm_num),
    ← EReal.coe_one, ← EReal.coe_add, ← EReal.coe_mul, ← EReal.coe_mul, ← EReal.coe_mul, scale_scale, scale_scale, scale_scale]
  congr 3
  · ring
  · norm_num

theorem nib_nonneg (b : BitVec 8) (p : ℕ) : 0 ≤ nib b p := by
  unfold nib
  split <;> positivity

theorem sq_nonneg' (g : EReal) : 0 ≤ g * g := by
  rcases le_total 0 g with h | h
  · exact mul_nonneg h h
  · rw [← neg_mul_neg]
    exact mul_nonneg (EReal.neg_nonneg.mpr h) (EReal.neg_nonneg.mpr h)

theorem tiny_pos : (0 : EReal) < Ideal.ofBits .f32 0x00800000#32 := by
  rw [b_tiny]
  exact_mod_cast (by positivity : (0 : ℝ) < (2 : ℝ) ^ (-126 : ℤ))

theorem vp_pos (b : BitVec 8) (p : ℕ) (row col g : EReal) (hr : Ideal.ofBits .f32 0x00800000#32 ≤ row) (hc : Ideal.ofBits .f32 0x00800000#32 ≤ col) :
    0 < VP b p (NEXT row) (NEXT col) g := by
  unfold VP
  rw [next_eq hr, next_eq hc, ← scale_min (by norm_num), scale_scale]
  have h1 : (0 : ℝ) < (nib b p + 1 : ℝ) / 16 * 999 := by
    have h := nib_nonneg b p
    have h' : (0 : ℝ) ≤ nib b p := by exact_mod_cast h
    positivity
  have h2 : (0 : EReal) < min row col := lt_min (tiny_pos.trans_le hr) (tiny_pos.trans_le hc)
  exact lt_of_lt_of_le (EReal.mul_pos (by exact_mod_cast h1) h2) (le_add_of_nonneg_right (sq_nonneg' g))

/-- The scale. -/
theorem sc_eq (A : EReal) :
    (if (((1 : ℝ) / 10 : ℝ) : EReal) * A = Ideal.ofBits .f32 0#32 then Ideal.ofBits .f32 1065353216#32 else Ideal.div ((((1 : ℝ) / 10 : ℝ) : EReal) * A) (Ideal.ofBits .f32 1088421888#32)) = SC A := by
  unfold SC
  rw [b_0, b_1, b_7, n_seventieth, Ideal.div_coe (by norm_num)]
  by_cases h : A = 0
  · rw [if_pos h, if_pos (by rw [h, mul_zero]), EReal.coe_one]
  · have h' : ¬ (((1 : ℝ) / 10 : ℝ) : EReal) * A = 0 := by
      rw [mul_eq_zero]
      rintro (h0 | h0)
      · norm_num at h0
      · exact h h0
    rw [if_neg h, if_neg h', mul_comm, scale_scale, mul_comm A]
    norm_num

/-- A maximum over a thousand. -/
theorem mean_eq (a : EReal) : (((1 : ℝ) / 1000 : ℝ) : EReal) * a = MEAN a := by
  unfold MEAN
  rw [n_thousandth, mul_comm]

end Cert.KernelIdeal.Body
-- ==== Proof.VDw.lean ====
/-
  The step, as the reference writes it.
-/
module

public import proofs.«01_k».proof.Proof.VNum

@[expose] public section

noncomputable section

namespace Cert.KernelIdeal.Body

open Cert.KernelIdeal Cert.KernelIdeal.Gen Cert.Proof Cert.Val
open Idealize.ShloMosaic Idealize.ShloMosaic.TcCoe Idealize.SL.Sem

theorem beta1 : ∃ b : ℝ, 0 ≤ b ∧ b < 1 ∧ Ideal.ofBits FTy.f32 1063675494#32 = (b : EReal) := by
  refine ⟨15099494 / 2 ^ 24, by norm_num, by norm_num, ?_⟩
  simp [Ideal.ofBits, Ideal.ieee] <;> norm_num <;> simp only [← EReal.coe_pow, ← EReal.coe_mul] <;> norm_num
theorem beta2 : ∃ b : ℝ, 0 ≤ b ∧ b < 1 ∧ Ideal.ofBits FTy.f32 1065336439#32 = (b : EReal) := by
  refine ⟨16760439 / 2 ^ 24, by norm_num, by norm_num, ?_⟩
  simp [Ideal.ofBits, Ideal.ieee] <;> norm_num <;> simp only [← EReal.coe_pow, ← EReal.coe_mul] <;> norm_num

/-- A bias correction is a positive real. -/
theorem corr (x : EReal) (hx : ∃ b : ℝ, 0 ≤ b ∧ b < 1 ∧ x = (b : EReal)) (t : BitVec 32) (ht : 1 ≤ t.toInt) :
    ∃ y : ℝ, 0 < y ∧ 1 - Ideal.pow x (((t.toInt : ℝ) : EReal)) = (y : EReal) := by
  obtain ⟨b, h0, h1, rfl⟩ := hx
  refine ⟨1 - Real.rpow b t.toInt, ?_, ?_⟩
  · have h : Real.rpow b (t.toInt : ℝ) < 1 := Real.rpow_lt_one h0 h1 (by exact_mod_cast (by omega : 0 < t.toInt))
    linarith
  · show 1 - ((Real.rpow b t.toInt : ℝ) : EReal) = _
    rw [← EReal.coe_one, ← EReal.coe_sub]

theorem sqrt_coe {x : ℝ} (h : 0 ≤ x) : Ideal.sqrt (x : EReal) = ((Real.sqrt x : ℝ) : EReal) := by
  show (if x < 0 then ⊥ else (Real.sqrt x : EReal)) = _
  rw [if_neg (not_lt.mpr h)]

theorem rsqrt_coe {x : ℝ} (h : 0 < x) : Ideal.rsqrt (x : EReal) = (((Real.sqrt x)⁻¹ : ℝ) : EReal) := by
  show (if x < 0 then ⊥ else if x = 0 then ⊤ else (((Real.sqrt x)⁻¹ : ℝ) : EReal)) = _
  rw [if_neg (not_lt.mpr h.le), if_neg h.ne']

theorem div_top (x : EReal) : Ideal.div x ⊤ = 0 := by
  unfold Ideal.div
  rw [if_neg (by simp), EReal.inv_top, mul_zero]

theorem top_scale {c : ℝ} (h : 0 < c) : (c : EReal) * ⊤ = ⊤ := EReal.coe_mul_top_of_pos h

/-- The two ways to write the factor of the first moment. -/
theorem factor {a b v : ℝ} (ha : 0 < a) (hb : 0 < b) (hv : 0 < v) :
    (Real.sqrt v)⁻¹ * (1 * (1 / (Real.sqrt (1 / 1000 * (1 / b)) * (a * (100000 / 3)) + 1 / 100000000 * (a * (100000 / 3)) * (Real.sqrt v)⁻¹)))
      = 3 * (1 / 10000) * (1 / (Real.sqrt (1 / 1000 * v * (1 / b)) + 1 * (1 / 100000000))) * (1 / a) * (1 / 10) := by
  have e : Real.sqrt (1 / 1000 * v * (1 / b)) = Real.sqrt v * Real.sqrt (1 / 1000 * (1 / b)) := by
    rw [← Real.sqrt_mul hv.le]
    congr 1
    ring
  rw [e]
  have hs : 0 < Real.sqrt v := Real.sqrt_pos.mpr hv
  have hq : 0 < Real.sqrt (1 / 1000 * (1 / b)) := Real.sqrt_pos.mpr (by positivity)
  generalize Real.sqrt v = s at *
  generalize Real.sqrt (1 / 1000 * (1 / b)) = q at *
  have h1 : q * (a * (100000 / 3)) + 1 / 100000000 * (a * (100000 / 3)) * s⁻¹ ≠ 0 := by positivity
  have h2 : s * q + 1 * (1 / 100000000) ≠ 0 := by positivity
  field_simp
  ring

/-- The step. -/
theorem dw_eq (M V w : EReal) (t : BitVec 32) (ht : 1 ≤ t.toInt) (hV : 0 < V) :
    Ideal.div (Ideal.ofBits .f32 0x40400000#32) (Ideal.ofBits .f32 0x461C4000#32)
      * (Ideal.div (Ideal.div ((((1 : ℝ) / 10 : ℝ) : EReal) * M) (Ideal.ofBits .f32 0x3F800000#32 - Ideal.pow (Ideal.ofBits .f32 0x3F666666#32) ((t.toInt : ℝ) : EReal)))
          (Ideal.sqrt (Ideal.div ((((1 : ℝ) / 1000 : ℝ) : EReal) * V) (Ideal.ofBits .f32 0x3F800000#32 - Ideal.pow (Ideal.ofBits .f32 0x3F7FBE77#32) ((t.toInt : ℝ) : EReal)))
            + Ideal.div (Ideal.ofBits .f32 0x3F800000#32) (Ideal.ofBits .f32 0x4CBEBC20#32))
        + Ideal.div (Ideal.ofBits .f32 0x3F800000#32) (Ideal.ofBits .f32 0x41200000#32) * w)
      = DW M V w (K1 t) (K2 t) := by
  obtain ⟨a, ha, ea⟩ := corr _ beta1 t ht
  obtain ⟨b, hb, eb⟩ := corr _ beta2 t ht
  have ek : K0 t = ((Real.sqrt (1 / 1000 * (1 / b)) : ℝ) : EReal) := by
    show Ideal.sqrt (Ideal.div THOU (1 - Ideal.pow (Ideal.ofBits FTy.f32 1065336439#32) ((t.toInt : ℝ) : EReal))) = _
    rw [eb, n_thousandth, Ideal.div_coe hb.ne', ← EReal.coe_mul, sqrt_coe (by positivity)]
  have eA : KA t = ((a * (100000 / 3) : ℝ) : EReal) := by
    show (1 - Ideal.pow (Ideal.ofBits FTy.f32 1063675494#32) ((t.toInt : ℝ) : EReal)) * _ = _
    rw [ea, n_lr, ← EReal.coe_mul]
  unfold DW K1 K2
  rw [ek, eA, n_eps, n_decay, ← EReal.coe_mul, ← EReal.coe_mul]
  rw [show Ideal.ofBits .f32 0x3F800000#32 = (1 : EReal) from Ideal.ofBits_one_f32, ea, eb, b_3, b_1e4, b_1e8, b_10, ← EReal.coe_one,
    Ideal.div_coe (y := 10000) (by norm_num), Ideal.div_coe (y := 100000000) (by norm_num), Ideal.div_coe (y := 10) (by norm_num), Ideal.div_coe ha.ne', Ideal.div_coe hb.ne',
    ← EReal.coe_mul, ← EReal.coe_mul, ← EReal.coe_mul, scale_add (by norm_num), scale_scale]
  congr 1
  · induction V using EReal.rec with
    | bot => exact absurd hV (by simp)
    | top =>
      rw [top_scale (by norm_num), EReal.top_mul_coe_of_pos (by positivity)]
      rw [show Ideal.sqrt (⊤ : EReal) = ⊤ from rfl, EReal.top_add_coe, div_top, show Ideal.rsqrt (⊤ : EReal) = 0 from rfl, mul_zero, mul_zero, zero_mul]
    | coe v =>
      have hv : 0 < v := by exact_mod_cast hV
      have hs : 0 < Real.sqrt v := Real.sqrt_pos.mpr hv
      have h1 : Real.sqrt (1 / 1000 * (1 / b)) * (a * (100000 / 3)) + 1 / 100000000 * (a * (100000 / 3)) * (Real.sqrt v)⁻¹ ≠ 0 := by positivity
      have h2 : Real.sqrt (1 / 1000 * v * (1 / b)) + 1 * (1 / 100000000) ≠ 0 := by positivity
      rw [← EReal.coe_mul, ← EReal.coe_mul, sqrt_coe (by positivity), ← EReal.coe_add, Ideal.div_coe h2, rsqrt_coe hv, ← EReal.coe_mul, ← EReal.coe_add, Ideal.div_coe h1,
        mul_assoc M, ← EReal.coe_mul, ← EReal.coe_mul, mul_comm M]
      rw [show ∀ x y z : EReal, x * M * y * z = z * (y * (x * M)) from fun x y z => by ac_rfl, scale_scale, scale_scale, scale_scale]
      rw [factor ha hb hv]
  · rw [mul_comm w]
    norm_num

end Cert.KernelIdeal.Body
-- ==== Proof.VRef.lean ====
/-
  What each operation of the reference leaves, in terms of what the operations before it left.
-/
module

public import proofs.«01_k».proof.Proof.Ref
public import Idealize.ShloMosaic.Lib.Pointwise
@[expose] public section

set_option maxRecDepth 100000

noncomputable section

namespace Cert.ReferenceIdeal.Ref

open Cert.ReferenceIdeal Cert.ReferenceIdeal.Gen
open Idealize.ShloMosaic Idealize.ShloMosaic.TcCoe Idealize.ShloMosaic.StableHlo Idealize.SL.Sem

variable (m : (ℓ : Loc nD τ sig) → Buf (Elt Ideal) ℓ) (d : Dev nD)

theorem len : (ops (F := Ideal)).length = 184 := rfl
theorem len' : io.length = 184 := rfl

/-- The equation of the operation at place `i`. -/
theorem at_ (i : ℕ) (h : i < 184 := by decide) : Holds ((ops (F := Ideal))[i]'(len ▸ h)) (io[i]'(len' ▸ h)) (W m d) := holds m d i (len ▸ h) (len' ▸ h)

/-! Reading such an equation, by the kind of the operation. -/

section
variable {W : Valuation τ sig (Elt Ideal)} (a b y : Ref sig .tc)

theorem nu {v : y.ty.Contents (Elt Ideal)} (hy : _ := by decide)
    (h : Holds (StableHlo.nullary (τ := τ) y v hy) ([], y) W) : W (Proc.devRef .tc y) = v := h.nullary

theorem un {f : a.ty.Contents (Elt Ideal) → y.ty.Contents (Elt Ideal)} (ha : _ := by decide) (hy : _ := by decide)
    (h : Holds (StableHlo.unary (τ := τ) a y f ha hy) ([a], y) W) : W (Proc.devRef .tc y) = f (W (Proc.devRef .tc a)) := h.unary

theorem re {hn : a.ty.shape.ShapeCasts y.ty.shape} (he : a.ty.elt = y.ty.elt := by rfl) (ha : _ := by decide) (hy : _ := by decide)
    (h : Holds (StableHlo.reshape (τ := τ) a y he hn ha hy) ([a], y) W) :
    W (Proc.devRef .tc y) = fun i => he ▸ shapeCast y.ty.shape (W (Proc.devRef .tc a)) hn i := h.reshape

theorem bi {f : a.ty.Contents (Elt Ideal) → b.ty.Contents (Elt Ideal) → y.ty.Contents (Elt Ideal)} (ha : _ := by decide)
    (hb : _ := by decide) (hy : _ := by decide) (h : Holds (StableHlo.binary (τ := τ) a b y f ha hb hy) ([a, b], y) W) :
    W (Proc.devRef .tc y) = f (W (Proc.devRef .tc a)) (W (Proc.devRef .tc b)) := h.binary
end

def x_arg0 : FVec Ideal S5x384x2880 .bf16 := m ((d.tc : Thread nD τ).loc main_arg0)
def x_arg1 : FVec Ideal S5x384x2880 .bf16 := m ((d.tc : Thread nD τ).loc main_arg1)
def x_arg2 : IVec S_ 32 := m ((d.tc : Thread nD τ).loc main_arg2)
def x_arg3 : IVec S5x384x1440 8 := m ((d.tc : Thread nD τ).loc main_arg3)
def x_arg4 : FVec Ideal S5x6x2880 .f32 := m ((d.tc : Thread nD τ).loc main_arg4)
def x_arg5 : IVec S5x384x1440 8 := m ((d.tc : Thread nD τ).loc main_arg5)
def x_arg6 : FVec Ideal S5x384 .f32 := m ((d.tc : Thread nD τ).loc main_arg6)
def x_arg7 : FVec Ideal S5x2880 .f32 := m ((d.tc : Thread nD τ).loc main_arg7)
def x_v0 : IVec S5x384x1440 32 := W m d (Proc.devRef .tc main_v0)
def x_c : IVec S_ 32 := W m d (Proc.devRef .tc main_c)
def x_v1 : IVec S5x384x1440 32 := W m d (Proc.devRef .tc main_v1)
def x_v2 : IVec S5x384x1440 32 := W m d (Proc.devRef .tc main_v2)
def x_c_0 : IVec S_ 32 := W m d (Proc.devRef .tc main_c_0)
def x_v3 : IVec S5x384x1440 32 := W m d (Proc.devRef .tc main_v3)
def x_v4 : IVec S5x384x1440 32 := W m d (Proc.devRef .tc main_v4)
def x_v5 : IVec S5x384x1440x1 32 := W m d (Proc.devRef .tc main_v5)
def x_v6 : IVec S5x384x1440x1 32 := W m d (Proc.devRef .tc main_v6)
def x_v7 : IVec S5x384x1440x2 32 := W m d (Proc.devRef .tc main_v7)
def x_v8 : IVec S5x384x2880 32 := W m d (Proc.devRef .tc main_v8)
def x_c_1 : IVec S_ 32 := W m d (Proc.devRef .tc main_c_1)
def x_v9 : IVec S5x384x2880 32 := W m d (Proc.devRef .tc main_v9)
def x_v10 : IVec S5x384x2880 1 := W m d (Proc.devRef .tc main_v10)
def x_c_2 : IVec S_ 32 := W m d (Proc.devRef .tc main_c_2)
def x_v11 : IVec S5x384x2880 32 := W m d (Proc.devRef .tc main_v11)
def x_v12 : IVec S5x384x2880 32 := W m d (Proc.devRef .tc main_v12)
def x_v13 : IVec S5x384x2880 32 := W m d (Proc.devRef .tc main_v13)
def x_v14 : FVec Ideal S5x384x2880 .f32 := W m d (Proc.devRef .tc main_v14)
def x_v15 : FVec Ideal S5x6x64x2880 .f32 := W m d (Proc.devRef .tc main_v15)
def x_v16 : FVec Ideal S5x6x1x2880 .f32 := W m d (Proc.devRef .tc main_v16)
def x_v17 : FVec Ideal S5x6x64x2880 .f32 := W m d (Proc.devRef .tc main_v17)
def x_v18 : FVec Ideal S5x6x64x2880 .f32 := W m d (Proc.devRef .tc main_v18)
def x_v19 : FVec Ideal S5x384x2880 .f32 := W m d (Proc.devRef .tc main_v19)
def x_v20 : IVec S5x384x1440 32 := W m d (Proc.devRef .tc main_v20)
def x_c_3 : IVec S_ 32 := W m d (Proc.devRef .tc main_c_3)
def x_v21 : IVec S5x384x1440 32 := W m d (Proc.devRef .tc main_v21)
def x_v22 : IVec S5x384x1440 32 := W m d (Proc.devRef .tc main_v22)
def x_c_4 : IVec S_ 32 := W m d (Proc.devRef .tc main_c_4)
def x_v23 : IVec S5x384x1440 32 := W m d (Proc.devRef .tc main_v23)
def x_v24 : IVec S5x384x1440 32 := W m d (Proc.devRef .tc main_v24)
def x_v25 : IVec S5x384x1440x1 32 := W m d (Proc.devRef .tc main_v25)
def x_v26 : IVec S5x384x1440x1 32 := W m d (Proc.devRef .tc main_v26)
def x_v27 : IVec S5x384x1440x2 32 := W m d (Proc.devRef .tc main_v27)
def x_v28 : IVec S5x384x2880 32 := W m d (Proc.devRef .tc main_v28)
def x_v29 : FVec Ideal S5x384x2880 .f32 := W m d (Proc.devRef .tc main_v29)
def x_cst : FVec Ideal S_ .f32 := W m d (Proc.devRef .tc main_cst)
def x_v30 : FVec Ideal S5x384x2880 .f32 := W m d (Proc.devRef .tc main_v30)
def x_v31 : FVec Ideal S5x384x2880 .f32 := W m d (Proc.devRef .tc main_v31)
def x_cst_5 : FVec Ideal S_ .f32 := W m d (Proc.devRef .tc main_cst_5)
def x_v32 : FVec Ideal S5x384x2880 .f32 := W m d (Proc.devRef .tc main_v32)
def x_v33 : FVec Ideal S5x384x2880 .f32 := W m d (Proc.devRef .tc main_v33)
def x_v34 : FVec Ideal S5x384x1 .f32 := W m d (Proc.devRef .tc main_v34)
def x_v35 : FVec Ideal S5x1x2880 .f32 := W m d (Proc.devRef .tc main_v35)
def x_v36 : FVec Ideal S5x384x2880 .f32 := W m d (Proc.devRef .tc main_v36)
def x_v37 : FVec Ideal S5x384x2880 .f32 := W m d (Proc.devRef .tc main_v37)
def x_v38 : FVec Ideal S5x384x2880 .f32 := W m d (Proc.devRef .tc main_v38)
def x_v39 : FVec Ideal S5x384x2880 .f32 := W m d (Proc.devRef .tc main_v39)
def x_v40 : FVec Ideal S5x384x2880 .f32 := W m d (Proc.devRef .tc main_v40)
def x_cst_6 : FVec Ideal S_ .f32 := W m d (Proc.devRef .tc main_cst_6)
def x_cst_7 : FVec Ideal S_ .f32 := W m d (Proc.devRef .tc main_cst_7)
def x_v41 : FVec Ideal S_ .f32 := W m d (Proc.devRef .tc main_v41)
def x_v42 : FVec Ideal S5x384x2880 .f32 := W m d (Proc.devRef .tc main_v42)
def x_v43 : FVec Ideal S5x384x2880 .f32 := W m d (Proc.devRef .tc main_v43)
def x_cst_8 : FVec Ideal S_ .f32 := W m d (Proc.devRef .tc main_cst_8)
def x_cst_9 : FVec Ideal S_ .f32 := W m d (Proc.devRef .tc main_cst_9)
def x_v44 : FVec Ideal S_ .f32 := W m d (Proc.devRef .tc main_v44)
def x_v45 : FVec Ideal S5x384x2880 .f32 := W m d (Proc.devRef .tc main_v45)
def x_v46 : FVec Ideal S5x384x2880 .f32 := W m d (Proc.devRef .tc main_v46)
def x_v47 : FVec Ideal S5x384x2880 .f32 := W m d (Proc.devRef .tc main_v47)
def x_cst_10 : FVec Ideal S_ .f32 := W m d (Proc.devRef .tc main_cst_10)
def x_cst_11 : FVec Ideal S_ .f32 := W m d (Proc.devRef .tc main_cst_11)
def x_v48 : FVec Ideal S_ .f32 := W m d (Proc.devRef .tc main_v48)
def x_v49 : FVec Ideal S5x384x2880 .f32 := W m d (Proc.devRef .tc main_v49)
def x_v50 : FVec Ideal S5x384x2880 .f32 := W m d (Proc.devRef .tc main_v50)
def x_cst_12 : FVec Ideal S_ .f32 := W m d (Proc.devRef .tc main_cst_12)
def x_cst_13 : FVec Ideal S_ .f32 := W m d (Proc.devRef .tc main_cst_13)
def x_v51 : FVec Ideal S_ .f32 := W m d (Proc.devRef .tc main_v51)
def x_v52 : FVec Ideal S5x384x2880 .f32 := W m d (Proc.devRef .tc main_v52)
def x_v53 : FVec Ideal S5x384x2880 .f32 := W m d (Proc.devRef .tc main_v53)
def x_v54 : FVec Ideal S5x384x2880 .f32 := W m d (Proc.devRef .tc main_v54)
def x_v55 : FVec Ideal S5x384x2880 .f32 := W m d (Proc.devRef .tc main_v55)
def x_v56 : FVec Ideal S_ .f32 := W m d (Proc.devRef .tc main_v56)
def x_cst_14 : FVec Ideal S_ .f32 := W m d (Proc.devRef .tc main_cst_14)
def x_v57 : FVec Ideal S_ .f32 := W m d (Proc.devRef .tc main_v57)
def x_cst_15 : FVec Ideal S_ .f32 := W m d (Proc.devRef .tc main_cst_15)
def x_v58 : FVec Ideal S_ .f32 := W m d (Proc.devRef .tc main_v58)
def x_cst_16 : FVec Ideal S_ .f32 := W m d (Proc.devRef .tc main_cst_16)
def x_v59 : FVec Ideal S_ .f32 := W m d (Proc.devRef .tc main_v59)
def x_cst_17 : FVec Ideal S_ .f32 := W m d (Proc.devRef .tc main_cst_17)
def x_v60 : FVec Ideal S_ .f32 := W m d (Proc.devRef .tc main_v60)
def x_v61 : FVec Ideal S5x384x2880 .f32 := W m d (Proc.devRef .tc main_v61)
def x_v62 : FVec Ideal S5x384x2880 .f32 := W m d (Proc.devRef .tc main_v62)
def x_v63 : FVec Ideal S5x384x2880 .f32 := W m d (Proc.devRef .tc main_v63)
def x_v64 : FVec Ideal S5x384x2880 .f32 := W m d (Proc.devRef .tc main_v64)
def x_v65 : FVec Ideal S5x384x2880 .f32 := W m d (Proc.devRef .tc main_v65)
def x_cst_18 : FVec Ideal S_ .f32 := W m d (Proc.devRef .tc main_cst_18)
def x_cst_19 : FVec Ideal S_ .f32 := W m d (Proc.devRef .tc main_cst_19)
def x_v66 : FVec Ideal S_ .f32 := W m d (Proc.devRef .tc main_v66)
def x_v67 : FVec Ideal S5x384x2880 .f32 := W m d (Proc.devRef .tc main_v67)
def x_v68 : FVec Ideal S5x384x2880 .f32 := W m d (Proc.devRef .tc main_v68)
def x_v69 : FVec Ideal S5x384x2880 .f32 := W m d (Proc.devRef .tc main_v69)
def x_cst_20 : FVec Ideal S_ .f32 := W m d (Proc.devRef .tc main_cst_20)
def x_cst_21 : FVec Ideal S_ .f32 := W m d (Proc.devRef .tc main_cst_21)
def x_v70 : FVec Ideal S_ .f32 := W m d (Proc.devRef .tc main_v70)
def x_cst_22 : FVec Ideal S_ .f32 := W m d (Proc.devRef .tc main_cst_22)
def x_cst_23 : FVec Ideal S_ .f32 := W m d (Proc.devRef .tc main_cst_23)
def x_v71 : FVec Ideal S_ .f32 := W m d (Proc.devRef .tc main_v71)
def x_v72 : FVec Ideal S5x384x2880 .f32 := W m d (Proc.devRef .tc main_v72)
def x_v73 : FVec Ideal S5x384x2880 .f32 := W m d (Proc.devRef .tc main_v73)
def x_v74 : FVec Ideal S5x384x2880 .f32 := W m d (Proc.devRef .tc main_v74)
def x_v75 : FVec Ideal S5x384x2880 .f32 := W m d (Proc.devRef .tc main_v75)
def x_v76 : FVec Ideal S5x384x2880 .f32 := W m d (Proc.devRef .tc main_v76)
def x_v77 : FVec Ideal S5x384x2880 .f32 := W m d (Proc.devRef .tc main_v77)
def x_v78 : FVec Ideal S5x6x64x2880 .f32 := W m d (Proc.devRef .tc main_v78)
def x_v79 : FVec Ideal S5x6x64x2880 .f32 := W m d (Proc.devRef .tc main_v79)
def x_cst_24 : FVec Ideal S_ .f32 := W m d (Proc.devRef .tc main_cst_24)
def x_v80 : FVec Ideal S5x6x2880 .f32 := W m d (Proc.devRef .tc main_v80)
def x_cst_25 : FVec Ideal S_ .f32 := W m d (Proc.devRef .tc main_cst_25)
def x_v81 : FVec Ideal S5x6x2880 .f32 := W m d (Proc.devRef .tc main_v81)
def x_v82 : IVec S5x6x2880 1 := W m d (Proc.devRef .tc main_v82)
def x_cst_26 : FVec Ideal S_ .f32 := W m d (Proc.devRef .tc main_cst_26)
def x_v83 : FVec Ideal S5x6x2880 .f32 := W m d (Proc.devRef .tc main_v83)
def x_v84 : FVec Ideal S5x6x2880 .f32 := W m d (Proc.devRef .tc main_v84)
def x_cst_27 : FVec Ideal S_ .f32 := W m d (Proc.devRef .tc main_cst_27)
def x_call1_v0 : FVec Ideal S_ .f32 := W m d (Proc.devRef .tc main_call1_v0)
def x_call1_v1 : FVec Ideal S5x6x2880 .f32 := W m d (Proc.devRef .tc main_call1_v1)
def x_v85 : FVec Ideal S5x6x2880 .f32 := W m d (Proc.devRef .tc main_v85)
def x_v86 : FVec Ideal S5x6x1x2880 .f32 := W m d (Proc.devRef .tc main_v86)
def x_v87 : FVec Ideal S5x6x64x2880 .f32 := W m d (Proc.devRef .tc main_v87)
def x_v88 : FVec Ideal S5x6x64x2880 .f32 := W m d (Proc.devRef .tc main_v88)
def x_v89 : FVec Ideal S5x6x64x2880 .f32 := W m d (Proc.devRef .tc main_v89)
def x_cst_28 : FVec Ideal S_ .f32 := W m d (Proc.devRef .tc main_cst_28)
def x_cst_29 : FVec Ideal S_ .f32 := W m d (Proc.devRef .tc main_cst_29)
def x_call3_v0 : FVec Ideal S_ .f32 := W m d (Proc.devRef .tc main_call3_v0)
def x_call3_v1 : FVec Ideal S5x6x64x2880 .f32 := W m d (Proc.devRef .tc main_call3_v1)
def x_call3_v2 : FVec Ideal S5x6x64x2880 .f32 := W m d (Proc.devRef .tc main_call3_v2)
def x_call3_v3 : FVec Ideal S_ .f32 := W m d (Proc.devRef .tc main_call3_v3)
def x_call3_v4 : FVec Ideal S5x6x64x2880 .f32 := W m d (Proc.devRef .tc main_call3_v4)
def x_v90 : FVec Ideal S5x6x64x2880 .f32 := W m d (Proc.devRef .tc main_v90)
def x_v91 : IVec S5x6x64x2880 32 := W m d (Proc.devRef .tc main_v91)
def x_v92 : IVec S5x384x2880 32 := W m d (Proc.devRef .tc main_v92)
def x_cst_30 : FVec Ideal S_ .f32 := W m d (Proc.devRef .tc main_cst_30)
def x_v93 : FVec Ideal S5x384 .f32 := W m d (Proc.devRef .tc main_v93)
def x_cst_31 : FVec Ideal S_ .f32 := W m d (Proc.devRef .tc main_cst_31)
def x_v94 : FVec Ideal S5x2880 .f32 := W m d (Proc.devRef .tc main_v94)
def x_v95 : FVec Ideal S5x384x1 .f32 := W m d (Proc.devRef .tc main_v95)
def x_v96 : FVec Ideal S5x1x2880 .f32 := W m d (Proc.devRef .tc main_v96)
def x_v97 : FVec Ideal S5x384x2880 .f32 := W m d (Proc.devRef .tc main_v97)
def x_v98 : FVec Ideal S5x384x2880 .f32 := W m d (Proc.devRef .tc main_v98)
def x_v99 : FVec Ideal S5x384x2880 .f32 := W m d (Proc.devRef .tc main_v99)
def x_cst_32 : FVec Ideal S_ .f32 := W m d (Proc.devRef .tc main_cst_32)
def x_v100 : FVec Ideal S5x384x2880 .f32 := W m d (Proc.devRef .tc main_v100)
def x_v101 : FVec Ideal S5x384x2880 .f32 := W m d (Proc.devRef .tc main_v101)
def x_v102 : FVec Ideal S5x384x2880 .f32 := W m d (Proc.devRef .tc main_v102)
def x_cst_33 : FVec Ideal S_ .f32 := W m d (Proc.devRef .tc main_cst_33)
def x_v103 : FVec Ideal S5x384x2880 .f32 := W m d (Proc.devRef .tc main_v103)
def x_v104 : FVec Ideal S5x384x2880 .f32 := W m d (Proc.devRef .tc main_v104)
def x_v105 : FVec Ideal S5x384x2880 .f32 := W m d (Proc.devRef .tc main_v105)
def x_cst_34 : FVec Ideal S_ .f32 := W m d (Proc.devRef .tc main_cst_34)
def x_cst_35 : FVec Ideal S_ .f32 := W m d (Proc.devRef .tc main_cst_35)
def x_call5_v0 : FVec Ideal S_ .f32 := W m d (Proc.devRef .tc main_call5_v0)
def x_call5_v1 : FVec Ideal S5x384x2880 .f32 := W m d (Proc.devRef .tc main_call5_v1)
def x_call5_v2 : FVec Ideal S5x384x2880 .f32 := W m d (Proc.devRef .tc main_call5_v2)
def x_call5_v3 : FVec Ideal S_ .f32 := W m d (Proc.devRef .tc main_call5_v3)
def x_call5_v4 : FVec Ideal S5x384x2880 .f32 := W m d (Proc.devRef .tc main_call5_v4)
def x_v106 : FVec Ideal S5x384x2880 .f32 := W m d (Proc.devRef .tc main_v106)
def x_v107 : IVec S5x384x2880 32 := W m d (Proc.devRef .tc main_v107)
def x_c_36 : IVec S_ 32 := W m d (Proc.devRef .tc main_c_36)
def x_v108 : IVec S5x384x2880 32 := W m d (Proc.devRef .tc main_v108)
def x_v109 : IVec S5x384x2880 32 := W m d (Proc.devRef .tc main_v109)
def x_v110 : IVec S5x384x1440x2 32 := W m d (Proc.devRef .tc main_v110)
def x_v111 : IVec S5x384x1440x1 32 := W m d (Proc.devRef .tc main_v111)
def x_v112 : IVec S5x384x1440 32 := W m d (Proc.devRef .tc main_v112)
def x_v113 : IVec S5x384x1440x1 32 := W m d (Proc.devRef .tc main_v113)
def x_v114 : IVec S5x384x1440 32 := W m d (Proc.devRef .tc main_v114)
def x_c_37 : IVec S_ 32 := W m d (Proc.devRef .tc main_c_37)
def x_v115 : IVec S5x384x1440 32 := W m d (Proc.devRef .tc main_v115)
def x_v116 : IVec S5x384x1440 32 := W m d (Proc.devRef .tc main_v116)
def x_v117 : IVec S5x384x1440 32 := W m d (Proc.devRef .tc main_v117)
def x_v118 : IVec S5x384x1440 8 := W m d (Proc.devRef .tc main_v118)
def x_c_38 : IVec S_ 32 := W m d (Proc.devRef .tc main_c_38)
def x_v119 : IVec S5x384x2880 32 := W m d (Proc.devRef .tc main_v119)
def x_v120 : IVec S5x384x2880 32 := W m d (Proc.devRef .tc main_v120)
def x_v121 : IVec S5x384x1440x2 32 := W m d (Proc.devRef .tc main_v121)
def x_v122 : IVec S5x384x1440x1 32 := W m d (Proc.devRef .tc main_v122)
def x_v123 : IVec S5x384x1440 32 := W m d (Proc.devRef .tc main_v123)
def x_v124 : IVec S5x384x1440x1 32 := W m d (Proc.devRef .tc main_v124)
def x_v125 : IVec S5x384x1440 32 := W m d (Proc.devRef .tc main_v125)
def x_c_39 : IVec S_ 32 := W m d (Proc.devRef .tc main_c_39)
def x_v126 : IVec S5x384x1440 32 := W m d (Proc.devRef .tc main_v126)
def x_v127 : IVec S5x384x1440 32 := W m d (Proc.devRef .tc main_v127)
def x_v128 : IVec S5x384x1440 32 := W m d (Proc.devRef .tc main_v128)
def x_v129 : IVec S5x384x1440 8 := W m d (Proc.devRef .tc main_v129)

theorem a_arg0 : W m d (Proc.devRef .tc main_arg0) = x_arg0 m d := W_arg m d (by decide)
theorem a_arg1 : W m d (Proc.devRef .tc main_arg1) = x_arg1 m d := W_arg m d (by decide)
theorem a_arg2 : W m d (Proc.devRef .tc main_arg2) = x_arg2 m d := W_arg m d (by decide)
theorem a_arg3 : W m d (Proc.devRef .tc main_arg3) = x_arg3 m d := W_arg m d (by decide)
theorem a_arg4 : W m d (Proc.devRef .tc main_arg4) = x_arg4 m d := W_arg m d (by decide)
theorem a_arg5 : W m d (Proc.devRef .tc main_arg5) = x_arg5 m d := W_arg m d (by decide)
theorem a_arg6 : W m d (Proc.devRef .tc main_arg6) = x_arg6 m d := W_arg m d (by decide)
theorem a_arg7 : W m d (Proc.devRef .tc main_arg7) = x_arg7 m d := W_arg m d (by decide)
theorem e_v0 : x_v0 m d = extui 32 (x_arg3 m d) natLt_8_32 := by
  have h := un main_arg3 main_v0 (f := fun (t : IVec S5x384x1440 8) => (extui 32 t natLt_8_32 : IVec S5x384x1440 32)) (h := at_ m d 0)
  rw [a_arg3 m d] at h
  exact h
theorem e_c : x_c m d = (constantI S_ 32 15#32) := nu main_c (h := at_ m d 1)
theorem e_v1 : x_v1 m d = (broadcastInDim S5x384x1440 ![] bcast_S_S5x384x1440) (x_c m d) := un main_c main_v1 (h := at_ m d 2)
theorem e_v2 : x_v2 m d = (andi) (x_v0 m d) (x_v1 m d) := bi main_v0 main_v1 main_v2 (h := at_ m d 3)
theorem e_c_0 : x_c_0 m d = (constantI S_ 32 4#32) := nu main_c_0 (h := at_ m d 4)
theorem e_v3 : x_v3 m d = (broadcastInDim S5x384x1440 ![] bcast_S_S5x384x1440) (x_c_0 m d) := un main_c_0 main_v3 (h := at_ m d 5)
theorem e_v4 : x_v4 m d = (Host.shrsi) (x_v0 m d) (x_v3 m d) := bi main_v0 main_v3 main_v4 (h := at_ m d 6)
theorem e_v5 : x_v5 m d = (broadcastInDim S5x384x1440x1 ![0, 1, 2] bcast_S5x384x1440_S5x384x1440x1_0_1_2) (x_v2 m d) := un main_v2 main_v5 (h := at_ m d 7)
theorem e_v6 : x_v6 m d = (broadcastInDim S5x384x1440x1 ![0, 1, 2] bcast_S5x384x1440_S5x384x1440x1_0_1_2) (x_v4 m d) := un main_v4 main_v6 (h := at_ m d 8)
theorem e_v7 : x_v7 m d = concatenate S5x384x1440x2 3 [⟨S5x384x1440x1, x_v5 m d⟩, ⟨S5x384x1440x1, x_v6 m d⟩] concatenates_S5x384x1440x1_S5x384x1440x1_S5x384x1440x2_d3 := bi main_v5 main_v6 main_v7 (f := fun (p : IVec S5x384x1440x1 32) (q : IVec S5x384x1440x1 32) => (concatenate S5x384x1440x2 3 [⟨S5x384x1440x1, p⟩, ⟨S5x384x1440x1, q⟩] concatenates_S5x384x1440x1_S5x384x1440x1_S5x384x1440x2_d3 : IVec S5x384x1440x2 32)) (h := at_ m d 9)
theorem e_v8 : x_v8 m d = shapeCast S5x384x2880 (x_v7 m d) shapeCasts_S5x384x1440x2_S5x384x2880 := re main_v7 main_v8 (h := at_ m d 10)
theorem e_c_1 : x_c_1 m d = (constantI S_ 32 8#32) := nu main_c_1 (h := at_ m d 11)
theorem e_v9 : x_v9 m d = (broadcastInDim S5x384x2880 ![] bcast_S_S5x384x2880) (x_c_1 m d) := un main_c_1 main_v9 (h := at_ m d 12)
theorem e_v10 : x_v10 m d = (cmpi .sge) (x_v8 m d) (x_v9 m d) := bi main_v8 main_v9 main_v10 (h := at_ m d 13)
theorem e_c_2 : x_c_2 m d = (constantI S_ 32 16#32) := nu main_c_2 (h := at_ m d 14)
theorem e_v11 : x_v11 m d = (broadcastInDim S5x384x2880 ![] bcast_S_S5x384x2880) (x_c_2 m d) := un main_c_2 main_v11 (h := at_ m d 15)
theorem e_v12 : x_v12 m d = (subi) (x_v8 m d) (x_v11 m d) := bi main_v8 main_v11 main_v12 (h := at_ m d 16)
theorem e_v13 : x_v13 m d = select (x_v10 m d) (x_v12 m d) (x_v8 m d) := Holds.ternary (Val := Elt Ideal) (c := main_v10) (a := main_v12) (b := main_v8) (y := main_v13) (hc := by decide) (ha := by decide) (hb := by decide) (hy := by decide) (at_ m d 17 (by decide))
theorem e_v14 : x_v14 m d = (sitofp .f32) (x_v13 m d) := un main_v13 main_v14 (h := at_ m d 18)
theorem e_v15 : x_v15 m d = shapeCast S5x6x64x2880 (x_v14 m d) shapeCasts_S5x384x2880_S5x6x64x2880 := re main_v14 main_v15 (h := at_ m d 19)
theorem e_v16 : x_v16 m d = (broadcastInDim S5x6x1x2880 ![0, 1, 3] bcast_S5x6x2880_S5x6x1x2880_0_1_3) (x_arg4 m d) := by
  have h := un main_arg4 main_v16 (h := at_ m d 20)
  rw [a_arg4 m d] at h
  exact h
theorem e_v17 : x_v17 m d = (broadcastInDim S5x6x64x2880 ![0, 1, 2, 3] bcast_S5x6x1x2880_S5x6x64x2880_0_1_2_3) (x_v16 m d) := un main_v16 main_v17 (h := at_ m d 21)
theorem e_v18 : x_v18 m d = (mulf) (x_v15 m d) (x_v17 m d) := bi main_v15 main_v17 main_v18 (h := at_ m d 22)
theorem e_v19 : x_v19 m d = shapeCast S5x384x2880 (x_v18 m d) shapeCasts_S5x6x64x2880_S5x384x2880 := re main_v18 main_v19 (h := at_ m d 23)
theorem e_v20 : x_v20 m d = extui 32 (x_arg5 m d) natLt_8_32 := by
  have h := un main_arg5 main_v20 (f := fun (t : IVec S5x384x1440 8) => (extui 32 t natLt_8_32 : IVec S5x384x1440 32)) (h := at_ m d 24)
  rw [a_arg5 m d] at h
  exact h
theorem e_c_3 : x_c_3 m d = (constantI S_ 32 15#32) := nu main_c_3 (h := at_ m d 25)
theorem e_v21 : x_v21 m d = (broadcastInDim S5x384x1440 ![] bcast_S_S5x384x1440) (x_c_3 m d) := un main_c_3 main_v21 (h := at_ m d 26)
theorem e_v22 : x_v22 m d = (andi) (x_v20 m d) (x_v21 m d) := bi main_v20 main_v21 main_v22 (h := at_ m d 27)
theorem e_c_4 : x_c_4 m d = (constantI S_ 32 4#32) := nu main_c_4 (h := at_ m d 28)
theorem e_v23 : x_v23 m d = (broadcastInDim S5x384x1440 ![] bcast_S_S5x384x1440) (x_c_4 m d) := un main_c_4 main_v23 (h := at_ m d 29)
theorem e_v24 : x_v24 m d = (Host.shrsi) (x_v20 m d) (x_v23 m d) := bi main_v20 main_v23 main_v24 (h := at_ m d 30)
theorem e_v25 : x_v25 m d = (broadcastInDim S5x384x1440x1 ![0, 1, 2] bcast_S5x384x1440_S5x384x1440x1_0_1_2) (x_v22 m d) := un main_v22 main_v25 (h := at_ m d 31)
theorem e_v26 : x_v26 m d = (broadcastInDim S5x384x1440x1 ![0, 1, 2] bcast_S5x384x1440_S5x384x1440x1_0_1_2) (x_v24 m d) := un main_v24 main_v26 (h := at_ m d 32)
theorem e_v27 : x_v27 m d = concatenate S5x384x1440x2 3 [⟨S5x384x1440x1, x_v25 m d⟩, ⟨S5x384x1440x1, x_v26 m d⟩] concatenates_S5x384x1440x1_S5x384x1440x1_S5x384x1440x2_d3 := bi main_v25 main_v26 main_v27 (f := fun (p : IVec S5x384x1440x1 32) (q : IVec S5x384x1440x1 32) => (concatenate S5x384x1440x2 3 [⟨S5x384x1440x1, p⟩, ⟨S5x384x1440x1, q⟩] concatenates_S5x384x1440x1_S5x384x1440x1_S5x384x1440x2_d3 : IVec S5x384x1440x2 32)) (h := at_ m d 33)
theorem e_v28 : x_v28 m d = shapeCast S5x384x2880 (x_v27 m d) shapeCasts_S5x384x1440x2_S5x384x2880 := re main_v27 main_v28 (h := at_ m d 34)
theorem e_v29 : x_v29 m d = (sitofp .f32) (x_v28 m d) := un main_v28 main_v29 (h := at_ m d 35)
theorem e_cst : x_cst m d = (constant S_ .f32 0x3F800000#32) := nu main_cst (h := at_ m d 36)
theorem e_v30 : x_v30 m d = (broadcastInDim S5x384x2880 ![] bcast_S_S5x384x2880) (x_cst m d) := un main_cst main_v30 (h := at_ m d 37)
theorem e_v31 : x_v31 m d = (addf) (x_v29 m d) (x_v30 m d) := bi main_v29 main_v30 main_v31 (h := at_ m d 38)
theorem e_cst_5 : x_cst_5 m d = (constant S_ .f32 0x3D800000#32) := nu main_cst_5 (h := at_ m d 39)
theorem e_v32 : x_v32 m d = (broadcastInDim S5x384x2880 ![] bcast_S_S5x384x2880) (x_cst_5 m d) := un main_cst_5 main_v32 (h := at_ m d 40)
theorem e_v33 : x_v33 m d = (mulf) (x_v31 m d) (x_v32 m d) := bi main_v31 main_v32 main_v33 (h := at_ m d 41)
theorem e_v34 : x_v34 m d = (broadcastInDim S5x384x1 ![0, 1] bcast_S5x384_S5x384x1_0_1) (x_arg6 m d) := by
  have h := un main_arg6 main_v34 (h := at_ m d 42)
  rw [a_arg6 m d] at h
  exact h
theorem e_v35 : x_v35 m d = (broadcastInDim S5x1x2880 ![0, 2] bcast_S5x2880_S5x1x2880_0_2) (x_arg7 m d) := by
  have h := un main_arg7 main_v35 (h := at_ m d 43)
  rw [a_arg7 m d] at h
  exact h
theorem e_v36 : x_v36 m d = (broadcastInDim S5x384x2880 ![0, 1, 2] bcast_S5x384x1_S5x384x2880_0_1_2) (x_v34 m d) := un main_v34 main_v36 (h := at_ m d 44)
theorem e_v37 : x_v37 m d = (broadcastInDim S5x384x2880 ![0, 1, 2] bcast_S5x1x2880_S5x384x2880_0_1_2) (x_v35 m d) := un main_v35 main_v37 (h := at_ m d 45)
theorem e_v38 : x_v38 m d = (minimumf) (x_v36 m d) (x_v37 m d) := bi main_v36 main_v37 main_v38 (h := at_ m d 46)
theorem e_v39 : x_v39 m d = (mulf) (x_v33 m d) (x_v38 m d) := bi main_v33 main_v38 main_v39 (h := at_ m d 47)
theorem e_v40 : x_v40 m d = extf .f32 (x_arg1 m d) bitsLt_bf16_f32 := by
  have h := un main_arg1 main_v40 (f := fun (t : FVec Ideal S5x384x2880 .bf16) => (extf .f32 t bitsLt_bf16_f32 : FVec Ideal S5x384x2880 .f32)) (h := at_ m d 48)
  rw [a_arg1 m d] at h
  exact h
theorem e_cst_6 : x_cst_6 m d = (constant S_ .f32 0x41100000#32) := nu main_cst_6 (h := at_ m d 49)
theorem e_cst_7 : x_cst_7 m d = (constant S_ .f32 0x41200000#32) := nu main_cst_7 (h := at_ m d 50)
theorem e_v41 : x_v41 m d = (Host.divf) (x_cst_6 m d) (x_cst_7 m d) := bi main_cst_6 main_cst_7 main_v41 (h := at_ m d 51)
theorem e_v42 : x_v42 m d = (broadcastInDim S5x384x2880 ![] bcast_S_S5x384x2880) (x_v41 m d) := un main_v41 main_v42 (h := at_ m d 52)
theorem e_v43 : x_v43 m d = (mulf) (x_v42 m d) (x_v19 m d) := bi main_v42 main_v19 main_v43 (h := at_ m d 53)
theorem e_cst_8 : x_cst_8 m d = (constant S_ .f32 0x3F800000#32) := nu main_cst_8 (h := at_ m d 54)
theorem e_cst_9 : x_cst_9 m d = (constant S_ .f32 0x41200000#32) := nu main_cst_9 (h := at_ m d 55)
theorem e_v44 : x_v44 m d = (Host.divf) (x_cst_8 m d) (x_cst_9 m d) := bi main_cst_8 main_cst_9 main_v44 (h := at_ m d 56)
theorem e_v45 : x_v45 m d = (broadcastInDim S5x384x2880 ![] bcast_S_S5x384x2880) (x_v44 m d) := un main_v44 main_v45 (h := at_ m d 57)
theorem e_v46 : x_v46 m d = (mulf) (x_v45 m d) (x_v40 m d) := bi main_v45 main_v40 main_v46 (h := at_ m d 58)
theorem e_v47 : x_v47 m d = (addf) (x_v43 m d) (x_v46 m d) := bi main_v43 main_v46 main_v47 (h := at_ m d 59)
theorem e_cst_10 : x_cst_10 m d = (constant S_ .f32 0x4479C000#32) := nu main_cst_10 (h := at_ m d 60)
theorem e_cst_11 : x_cst_11 m d = (constant S_ .f32 0x447A0000#32) := nu main_cst_11 (h := at_ m d 61)
theorem e_v48 : x_v48 m d = (Host.divf) (x_cst_10 m d) (x_cst_11 m d) := bi main_cst_10 main_cst_11 main_v48 (h := at_ m d 62)
theorem e_v49 : x_v49 m d = (broadcastInDim S5x384x2880 ![] bcast_S_S5x384x2880) (x_v48 m d) := un main_v48 main_v49 (h := at_ m d 63)
theorem e_v50 : x_v50 m d = (mulf) (x_v49 m d) (x_v39 m d) := bi main_v49 main_v39 main_v50 (h := at_ m d 64)
theorem e_cst_12 : x_cst_12 m d = (constant S_ .f32 0x3F800000#32) := nu main_cst_12 (h := at_ m d 65)
theorem e_cst_13 : x_cst_13 m d = (constant S_ .f32 0x447A0000#32) := nu main_cst_13 (h := at_ m d 66)
theorem e_v51 : x_v51 m d = (Host.divf) (x_cst_12 m d) (x_cst_13 m d) := bi main_cst_12 main_cst_13 main_v51 (h := at_ m d 67)
theorem e_v52 : x_v52 m d = (mulf) (x_v40 m d) (x_v40 m d) := bi main_v40 main_v40 main_v52 (h := at_ m d 68)
theorem e_v53 : x_v53 m d = (broadcastInDim S5x384x2880 ![] bcast_S_S5x384x2880) (x_v51 m d) := un main_v51 main_v53 (h := at_ m d 69)
theorem e_v54 : x_v54 m d = (mulf) (x_v53 m d) (x_v52 m d) := bi main_v53 main_v52 main_v54 (h := at_ m d 70)
theorem e_v55 : x_v55 m d = (addf) (x_v50 m d) (x_v54 m d) := bi main_v50 main_v54 main_v55 (h := at_ m d 71)
theorem e_v56 : x_v56 m d = (sitofp .f32) (x_arg2 m d) := by
  have h := un main_arg2 main_v56 (h := at_ m d 72)
  rw [a_arg2 m d] at h
  exact h
theorem e_cst_14 : x_cst_14 m d = (constant S_ .f32 0x3F666666#32) := nu main_cst_14 (h := at_ m d 73)
theorem e_v57 : x_v57 m d = (Host.powf) (x_cst_14 m d) (x_v56 m d) := bi main_cst_14 main_v56 main_v57 (h := at_ m d 74)
theorem e_cst_15 : x_cst_15 m d = (constant S_ .f32 0x3F800000#32) := nu main_cst_15 (h := at_ m d 75)
theorem e_v58 : x_v58 m d = (subf) (x_cst_15 m d) (x_v57 m d) := bi main_cst_15 main_v57 main_v58 (h := at_ m d 76)
theorem e_cst_16 : x_cst_16 m d = (constant S_ .f32 0x3F7FBE77#32) := nu main_cst_16 (h := at_ m d 77)
theorem e_v59 : x_v59 m d = (Host.powf) (x_cst_16 m d) (x_v56 m d) := bi main_cst_16 main_v56 main_v59 (h := at_ m d 78)
theorem e_cst_17 : x_cst_17 m d = (constant S_ .f32 0x3F800000#32) := nu main_cst_17 (h := at_ m d 79)
theorem e_v60 : x_v60 m d = (subf) (x_cst_17 m d) (x_v59 m d) := bi main_cst_17 main_v59 main_v60 (h := at_ m d 80)
theorem e_v61 : x_v61 m d = (broadcastInDim S5x384x2880 ![] bcast_S_S5x384x2880) (x_v58 m d) := un main_v58 main_v61 (h := at_ m d 81)
theorem e_v62 : x_v62 m d = (Host.divf) (x_v47 m d) (x_v61 m d) := bi main_v47 main_v61 main_v62 (h := at_ m d 82)
theorem e_v63 : x_v63 m d = (broadcastInDim S5x384x2880 ![] bcast_S_S5x384x2880) (x_v60 m d) := un main_v60 main_v63 (h := at_ m d 83)
theorem e_v64 : x_v64 m d = (Host.divf) (x_v55 m d) (x_v63 m d) := bi main_v55 main_v63 main_v64 (h := at_ m d 84)
theorem e_v65 : x_v65 m d = (Host.sqrt) (x_v64 m d) := un main_v64 main_v65 (h := at_ m d 85)
theorem e_cst_18 : x_cst_18 m d = (constant S_ .f32 0x3F800000#32) := nu main_cst_18 (h := at_ m d 86)
theorem e_cst_19 : x_cst_19 m d = (constant S_ .f32 0x4CBEBC20#32) := nu main_cst_19 (h := at_ m d 87)
theorem e_v66 : x_v66 m d = (Host.divf) (x_cst_18 m d) (x_cst_19 m d) := bi main_cst_18 main_cst_19 main_v66 (h := at_ m d 88)
theorem e_v67 : x_v67 m d = (broadcastInDim S5x384x2880 ![] bcast_S_S5x384x2880) (x_v66 m d) := un main_v66 main_v67 (h := at_ m d 89)
theorem e_v68 : x_v68 m d = (addf) (x_v65 m d) (x_v67 m d) := bi main_v65 main_v67 main_v68 (h := at_ m d 90)
theorem e_v69 : x_v69 m d = (Host.divf) (x_v62 m d) (x_v68 m d) := bi main_v62 main_v68 main_v69 (h := at_ m d 91)
theorem e_cst_20 : x_cst_20 m d = (constant S_ .f32 0x40400000#32) := nu main_cst_20 (h := at_ m d 92)
theorem e_cst_21 : x_cst_21 m d = (constant S_ .f32 0x461C4000#32) := nu main_cst_21 (h := at_ m d 93)
theorem e_v70 : x_v70 m d = (Host.divf) (x_cst_20 m d) (x_cst_21 m d) := bi main_cst_20 main_cst_21 main_v70 (h := at_ m d 94)
theorem e_cst_22 : x_cst_22 m d = (constant S_ .f32 0x3F800000#32) := nu main_cst_22 (h := at_ m d 95)
theorem e_cst_23 : x_cst_23 m d = (constant S_ .f32 0x41200000#32) := nu main_cst_23 (h := at_ m d 96)
theorem e_v71 : x_v71 m d = (Host.divf) (x_cst_22 m d) (x_cst_23 m d) := bi main_cst_22 main_cst_23 main_v71 (h := at_ m d 97)
theorem e_v72 : x_v72 m d = extf .f32 (x_arg0 m d) bitsLt_bf16_f32 := by
  have h := un main_arg0 main_v72 (f := fun (t : FVec Ideal S5x384x2880 .bf16) => (extf .f32 t bitsLt_bf16_f32 : FVec Ideal S5x384x2880 .f32)) (h := at_ m d 98)
  rw [a_arg0 m d] at h
  exact h
theorem e_v73 : x_v73 m d = (broadcastInDim S5x384x2880 ![] bcast_S_S5x384x2880) (x_v71 m d) := un main_v71 main_v73 (h := at_ m d 99)
theorem e_v74 : x_v74 m d = (mulf) (x_v73 m d) (x_v72 m d) := bi main_v73 main_v72 main_v74 (h := at_ m d 100)
theorem e_v75 : x_v75 m d = (addf) (x_v69 m d) (x_v74 m d) := bi main_v69 main_v74 main_v75 (h := at_ m d 101)
theorem e_v76 : x_v76 m d = (broadcastInDim S5x384x2880 ![] bcast_S_S5x384x2880) (x_v70 m d) := un main_v70 main_v76 (h := at_ m d 102)
theorem e_v77 : x_v77 m d = (mulf) (x_v76 m d) (x_v75 m d) := bi main_v76 main_v75 main_v77 (h := at_ m d 103)
theorem e_v78 : x_v78 m d = shapeCast S5x6x64x2880 (x_v47 m d) shapeCasts_S5x384x2880_S5x6x64x2880 := re main_v47 main_v78 (h := at_ m d 104)
theorem e_v79 : x_v79 m d = (Host.absf) (x_v78 m d) := un main_v78 main_v79 (h := at_ m d 105)
theorem e_cst_24 : x_cst_24 m d = (constant S_ .f32 0xFF800000#32) := nu main_cst_24 (h := at_ m d 106)
theorem e_v80 : x_v80 m d = Host.reduce (FloatOps.maximumf (F := Ideal) (φ := .f32)) (x_v79 m d) (x_cst_24 m d) reducesTo_S5x6x64x2880_S5x6x2880_d2 h_S_ := bi main_v79 main_cst_24 main_v80 (f := fun (p : FVec Ideal S5x6x64x2880 .f32) (q : FVec Ideal S_ .f32) => (Host.reduce (FloatOps.maximumf (F := Ideal) (φ := .f32)) p q reducesTo_S5x6x64x2880_S5x6x2880_d2 h_S_ : FVec Ideal S5x6x2880 .f32)) (h := at_ m d 107)
theorem e_cst_25 : x_cst_25 m d = (constant S_ .f32 0x00000000#32) := nu main_cst_25 (h := at_ m d 108)
theorem e_v81 : x_v81 m d = (broadcastInDim S5x6x2880 ![] bcast_S_S5x6x2880) (x_cst_25 m d) := un main_cst_25 main_v81 (h := at_ m d 109)
theorem e_v82 : x_v82 m d = (cmpf .oeq) (x_v80 m d) (x_v81 m d) := bi main_v80 main_v81 main_v82 (h := at_ m d 110)
theorem e_cst_26 : x_cst_26 m d = (constant S_ .f32 0x40E00000#32) := nu main_cst_26 (h := at_ m d 111)
theorem e_v83 : x_v83 m d = (broadcastInDim S5x6x2880 ![] bcast_S_S5x6x2880) (x_cst_26 m d) := un main_cst_26 main_v83 (h := at_ m d 112)
theorem e_v84 : x_v84 m d = (Host.divf) (x_v80 m d) (x_v83 m d) := bi main_v80 main_v83 main_v84 (h := at_ m d 113)
theorem e_cst_27 : x_cst_27 m d = (constant S_ .f32 0x3F800000#32) := nu main_cst_27 (h := at_ m d 114)
theorem e_call1_v0 : x_call1_v0 m d = (x_cst_27 m d) := un main_cst_27 main_call1_v0 (h := at_ m d 115)
theorem e_call1_v1 : x_call1_v1 m d = (broadcastInDim S5x6x2880 ![] bcast_S_S5x6x2880) (x_call1_v0 m d) := un main_call1_v0 main_call1_v1 (h := at_ m d 116)
theorem e_v85 : x_v85 m d = select (x_v82 m d) (x_call1_v1 m d) (x_v84 m d) := Holds.ternary (Val := Elt Ideal) (c := main_v82) (a := main_call1_v1) (b := main_v84) (y := main_v85) (hc := by decide) (ha := by decide) (hb := by decide) (hy := by decide) (at_ m d 117 (by decide))
theorem e_v86 : x_v86 m d = (broadcastInDim S5x6x1x2880 ![0, 1, 3] bcast_S5x6x2880_S5x6x1x2880_0_1_3) (x_v85 m d) := un main_v85 main_v86 (h := at_ m d 118)
theorem e_v87 : x_v87 m d = (broadcastInDim S5x6x64x2880 ![0, 1, 2, 3] bcast_S5x6x1x2880_S5x6x64x2880_0_1_2_3) (x_v86 m d) := un main_v86 main_v87 (h := at_ m d 119)
theorem e_v88 : x_v88 m d = (Host.divf) (x_v78 m d) (x_v87 m d) := bi main_v78 main_v87 main_v88 (h := at_ m d 120)
theorem e_v89 : x_v89 m d = Host.roundeven (x_v88 m d) := un main_v88 main_v89 (h := at_ m d 121)
theorem e_cst_28 : x_cst_28 m d = (constant S_ .f32 0xC0E00000#32) := nu main_cst_28 (h := at_ m d 122)
theorem e_cst_29 : x_cst_29 m d = (constant S_ .f32 0x40E00000#32) := nu main_cst_29 (h := at_ m d 123)
theorem e_call3_v0 : x_call3_v0 m d = (x_cst_28 m d) := un main_cst_28 main_call3_v0 (h := at_ m d 124)
theorem e_call3_v1 : x_call3_v1 m d = (broadcastInDim S5x6x64x2880 ![] bcast_S_S5x6x64x2880) (x_call3_v0 m d) := un main_call3_v0 main_call3_v1 (h := at_ m d 125)
theorem e_call3_v2 : x_call3_v2 m d = maximumf (x_call3_v1 m d) (x_v89 m d) := bi main_call3_v1 main_v89 main_call3_v2 (h := at_ m d 126)
theorem e_call3_v3 : x_call3_v3 m d = (x_cst_29 m d) := un main_cst_29 main_call3_v3 (h := at_ m d 127)
theorem e_call3_v4 : x_call3_v4 m d = (broadcastInDim S5x6x64x2880 ![] bcast_S_S5x6x64x2880) (x_call3_v3 m d) := un main_call3_v3 main_call3_v4 (h := at_ m d 128)
theorem e_v90 : x_v90 m d = minimumf (x_call3_v4 m d) (x_call3_v2 m d) := bi main_call3_v4 main_call3_v2 main_v90 (h := at_ m d 129)
theorem e_v91 : x_v91 m d = (fptosi 32) (x_v90 m d) := un main_v90 main_v91 (h := at_ m d 130)
theorem e_v92 : x_v92 m d = shapeCast S5x384x2880 (x_v91 m d) shapeCasts_S5x6x64x2880_S5x384x2880 := re main_v91 main_v92 (h := at_ m d 131)
theorem e_cst_30 : x_cst_30 m d = (constant S_ .f32 0xFF800000#32) := nu main_cst_30 (h := at_ m d 132)
theorem e_v93 : x_v93 m d = Host.reduce (FloatOps.maximumf (F := Ideal) (φ := .f32)) (x_v55 m d) (x_cst_30 m d) reducesTo_S5x384x2880_S5x384_d2 h_S_ := bi main_v55 main_cst_30 main_v93 (f := fun (p : FVec Ideal S5x384x2880 .f32) (q : FVec Ideal S_ .f32) => (Host.reduce (FloatOps.maximumf (F := Ideal) (φ := .f32)) p q reducesTo_S5x384x2880_S5x384_d2 h_S_ : FVec Ideal S5x384 .f32)) (h := at_ m d 133)
theorem e_cst_31 : x_cst_31 m d = (constant S_ .f32 0xFF800000#32) := nu main_cst_31 (h := at_ m d 134)
theorem e_v94 : x_v94 m d = Host.reduce (FloatOps.maximumf (F := Ideal) (φ := .f32)) (x_v55 m d) (x_cst_31 m d) reducesTo_S5x384x2880_S5x2880_d1 h_S_ := bi main_v55 main_cst_31 main_v94 (f := fun (p : FVec Ideal S5x384x2880 .f32) (q : FVec Ideal S_ .f32) => (Host.reduce (FloatOps.maximumf (F := Ideal) (φ := .f32)) p q reducesTo_S5x384x2880_S5x2880_d1 h_S_ : FVec Ideal S5x2880 .f32)) (h := at_ m d 135)
theorem e_v95 : x_v95 m d = (broadcastInDim S5x384x1 ![0, 1] bcast_S5x384_S5x384x1_0_1) (x_v93 m d) := un main_v93 main_v95 (h := at_ m d 136)
theorem e_v96 : x_v96 m d = (broadcastInDim S5x1x2880 ![0, 2] bcast_S5x2880_S5x1x2880_0_2) (x_v94 m d) := un main_v94 main_v96 (h := at_ m d 137)
theorem e_v97 : x_v97 m d = (broadcastInDim S5x384x2880 ![0, 1, 2] bcast_S5x384x1_S5x384x2880_0_1_2) (x_v95 m d) := un main_v95 main_v97 (h := at_ m d 138)
theorem e_v98 : x_v98 m d = (broadcastInDim S5x384x2880 ![0, 1, 2] bcast_S5x1x2880_S5x384x2880_0_1_2) (x_v96 m d) := un main_v96 main_v98 (h := at_ m d 139)
theorem e_v99 : x_v99 m d = (minimumf) (x_v97 m d) (x_v98 m d) := bi main_v97 main_v98 main_v99 (h := at_ m d 140)
theorem e_cst_32 : x_cst_32 m d = (constant S_ .f32 0x41800000#32) := nu main_cst_32 (h := at_ m d 141)
theorem e_v100 : x_v100 m d = (broadcastInDim S5x384x2880 ![] bcast_S_S5x384x2880) (x_cst_32 m d) := un main_cst_32 main_v100 (h := at_ m d 142)
theorem e_v101 : x_v101 m d = (mulf) (x_v100 m d) (x_v55 m d) := bi main_v100 main_v55 main_v101 (h := at_ m d 143)
theorem e_v102 : x_v102 m d = (Host.divf) (x_v101 m d) (x_v99 m d) := bi main_v101 main_v99 main_v102 (h := at_ m d 144)
theorem e_cst_33 : x_cst_33 m d = (constant S_ .f32 0x3F800000#32) := nu main_cst_33 (h := at_ m d 145)
theorem e_v103 : x_v103 m d = (broadcastInDim S5x384x2880 ![] bcast_S_S5x384x2880) (x_cst_33 m d) := un main_cst_33 main_v103 (h := at_ m d 146)
theorem e_v104 : x_v104 m d = (subf) (x_v102 m d) (x_v103 m d) := bi main_v102 main_v103 main_v104 (h := at_ m d 147)
theorem e_v105 : x_v105 m d = Host.roundeven (x_v104 m d) := un main_v104 main_v105 (h := at_ m d 148)
theorem e_cst_34 : x_cst_34 m d = (constant S_ .f32 0x00000000#32) := nu main_cst_34 (h := at_ m d 149)
theorem e_cst_35 : x_cst_35 m d = (constant S_ .f32 0x41700000#32) := nu main_cst_35 (h := at_ m d 150)
theorem e_call5_v0 : x_call5_v0 m d = (x_cst_34 m d) := un main_cst_34 main_call5_v0 (h := at_ m d 151)
theorem e_call5_v1 : x_call5_v1 m d = (broadcastInDim S5x384x2880 ![] bcast_S_S5x384x2880) (x_call5_v0 m d) := un main_call5_v0 main_call5_v1 (h := at_ m d 152)
theorem e_call5_v2 : x_call5_v2 m d = maximumf (x_call5_v1 m d) (x_v105 m d) := bi main_call5_v1 main_v105 main_call5_v2 (h := at_ m d 153)
theorem e_call5_v3 : x_call5_v3 m d = (x_cst_35 m d) := un main_cst_35 main_call5_v3 (h := at_ m d 154)
theorem e_call5_v4 : x_call5_v4 m d = (broadcastInDim S5x384x2880 ![] bcast_S_S5x384x2880) (x_call5_v3 m d) := un main_call5_v3 main_call5_v4 (h := at_ m d 155)
theorem e_v106 : x_v106 m d = minimumf (x_call5_v4 m d) (x_call5_v2 m d) := bi main_call5_v4 main_call5_v2 main_v106 (h := at_ m d 156)
theorem e_v107 : x_v107 m d = (fptosi 32) (x_v106 m d) := un main_v106 main_v107 (h := at_ m d 157)
theorem e_c_36 : x_c_36 m d = (constantI S_ 32 15#32) := nu main_c_36 (h := at_ m d 158)
theorem e_v108 : x_v108 m d = (broadcastInDim S5x384x2880 ![] bcast_S_S5x384x2880) (x_c_36 m d) := un main_c_36 main_v108 (h := at_ m d 159)
theorem e_v109 : x_v109 m d = (andi) (x_v92 m d) (x_v108 m d) := bi main_v92 main_v108 main_v109 (h := at_ m d 160)
theorem e_v110 : x_v110 m d = shapeCast S5x384x1440x2 (x_v109 m d) shapeCasts_S5x384x2880_S5x384x1440x2 := re main_v109 main_v110 (h := at_ m d 161)
theorem e_v112 : x_v112 m d = shapeCast S5x384x1440 (x_v111 m d) shapeCasts_S5x384x1440x1_S5x384x1440 := re main_v111 main_v112 (h := at_ m d 163)
theorem e_v114 : x_v114 m d = shapeCast S5x384x1440 (x_v113 m d) shapeCasts_S5x384x1440x1_S5x384x1440 := re main_v113 main_v114 (h := at_ m d 165)
theorem e_c_37 : x_c_37 m d = (constantI S_ 32 4#32) := nu main_c_37 (h := at_ m d 166)
theorem e_v115 : x_v115 m d = (broadcastInDim S5x384x1440 ![] bcast_S_S5x384x1440) (x_c_37 m d) := un main_c_37 main_v115 (h := at_ m d 167)
theorem e_v116 : x_v116 m d = (Host.shli) (x_v114 m d) (x_v115 m d) := bi main_v114 main_v115 main_v116 (h := at_ m d 168)
theorem e_v117 : x_v117 m d = (ori) (x_v112 m d) (x_v116 m d) := bi main_v112 main_v116 main_v117 (h := at_ m d 169)
theorem e_v118 : x_v118 m d = trunci 8 (x_v117 m d) natLt_8_32 := un main_v117 main_v118 (f := fun (t : IVec S5x384x1440 32) => (trunci 8 t natLt_8_32 : IVec S5x384x1440 8)) (h := at_ m d 170)
theorem e_c_38 : x_c_38 m d = (constantI S_ 32 15#32) := nu main_c_38 (h := at_ m d 171)
theorem e_v119 : x_v119 m d = (broadcastInDim S5x384x2880 ![] bcast_S_S5x384x2880) (x_c_38 m d) := un main_c_38 main_v119 (h := at_ m d 172)
theorem e_v120 : x_v120 m d = (andi) (x_v107 m d) (x_v119 m d) := bi main_v107 main_v119 main_v120 (h := at_ m d 173)
theorem e_v121 : x_v121 m d = shapeCast S5x384x1440x2 (x_v120 m d) shapeCasts_S5x384x2880_S5x384x1440x2 := re main_v120 main_v121 (h := at_ m d 174)
theorem e_v123 : x_v123 m d = shapeCast S5x384x1440 (x_v122 m d) shapeCasts_S5x384x1440x1_S5x384x1440 := re main_v122 main_v123 (h := at_ m d 176)
theorem e_v125 : x_v125 m d = shapeCast S5x384x1440 (x_v124 m d) shapeCasts_S5x384x1440x1_S5x384x1440 := re main_v124 main_v125 (h := at_ m d 178)
theorem e_c_39 : x_c_39 m d = (constantI S_ 32 4#32) := nu main_c_39 (h := at_ m d 179)
theorem e_v126 : x_v126 m d = (broadcastInDim S5x384x1440 ![] bcast_S_S5x384x1440) (x_c_39 m d) := un main_c_39 main_v126 (h := at_ m d 180)
theorem e_v127 : x_v127 m d = (Host.shli) (x_v125 m d) (x_v126 m d) := bi main_v125 main_v126 main_v127 (h := at_ m d 181)
theorem e_v128 : x_v128 m d = (ori) (x_v123 m d) (x_v127 m d) := bi main_v123 main_v127 main_v128 (h := at_ m d 182)
theorem e_v129 : x_v129 m d = trunci 8 (x_v128 m d) natLt_8_32 := un main_v128 main_v129 (f := fun (t : IVec S5x384x1440 32) => (trunci 8 t natLt_8_32 : IVec S5x384x1440 8)) (h := at_ m d 183)

theorem op_v111 : (ops (F := Ideal))[162]'(by rw [len]; decide) = unary main_v110 main_v111 ((extractStridedSlice S5x384x1440x1 ![0, 0, 0, 0] · slices_S5x384x1440x2_S5x384x1440x1_0_0_0_0) : (⟨S5x384x1440x2, .i32⟩ : BufTy).Contents (Elt Ideal) → (⟨S5x384x1440x1, .i32⟩ : BufTy).Contents (Elt Ideal)) := by
  refine Eq.trans (b := (ops2 (F := Ideal))[40]'(by decide)) rfl ?_
  unfold ops2
  rfl

theorem e_v111 : x_v111 m d = extractStridedSlice S5x384x1440x1 ![0, 0, 0, 0] (x_v110 m d) slices_S5x384x1440x2_S5x384x1440x1_0_0_0_0 := by
  have h := at_ m d 162 (by decide)
  rw [op_v111] at h
  exact Holds.unary (x := main_v110) (y := main_v111) h

theorem op_v113 : (ops (F := Ideal))[164]'(by rw [len]; decide) = unary main_v110 main_v113 ((extractStridedSlice S5x384x1440x1 ![0, 0, 0, 1] · slices_S5x384x1440x2_S5x384x1440x1_0_0_0_1) : (⟨S5x384x1440x2, .i32⟩ : BufTy).Contents (Elt Ideal) → (⟨S5x384x1440x1, .i32⟩ : BufTy).Contents (Elt Ideal)) := by
  refine Eq.trans (b := (ops2 (F := Ideal))[42]'(by decide)) rfl ?_
  unfold ops2
  rfl

theorem e_v113 : x_v113 m d = extractStridedSlice S5x384x1440x1 ![0, 0, 0, 1] (x_v110 m d) slices_S5x384x1440x2_S5x384x1440x1_0_0_0_1 := by
  have h := at_ m d 164 (by decide)
  rw [op_v113] at h
  exact Holds.unary (x := main_v110) (y := main_v113) h

theorem op_v122 : (ops (F := Ideal))[175]'(by rw [len]; decide) = unary main_v121 main_v122 ((extractStridedSlice S5x384x1440x1 ![0, 0, 0, 0] · slices_S5x384x1440x2_S5x384x1440x1_0_0_0_0) : (⟨S5x384x1440x2, .i32⟩ : BufTy).Contents (Elt Ideal) → (⟨S5x384x1440x1, .i32⟩ : BufTy).Contents (Elt Ideal)) := by
  refine Eq.trans (b := (ops2 (F := Ideal))[53]'(by decide)) rfl ?_
  unfold ops2
  rfl

theorem e_v122 : x_v122 m d = extractStridedSlice S5x384x1440x1 ![0, 0, 0, 0] (x_v121 m d) slices_S5x384x1440x2_S5x384x1440x1_0_0_0_0 := by
  have h := at_ m d 175 (by decide)
  rw [op_v122] at h
  exact Holds.unary (x := main_v121) (y := main_v122) h

theorem op_v124 : (ops (F := Ideal))[177]'(by rw [len]; decide) = unary main_v121 main_v124 ((extractStridedSlice S5x384x1440x1 ![0, 0, 0, 1] · slices_S5x384x1440x2_S5x384x1440x1_0_0_0_1) : (⟨S5x384x1440x2, .i32⟩ : BufTy).Contents (Elt Ideal) → (⟨S5x384x1440x1, .i32⟩ : BufTy).Contents (Elt Ideal)) := by
  refine Eq.trans (b := (ops2 (F := Ideal))[55]'(by decide)) rfl ?_
  unfold ops2
  rfl

theorem e_v124 : x_v124 m d = extractStridedSlice S5x384x1440x1 ![0, 0, 0, 1] (x_v121 m d) slices_S5x384x1440x2_S5x384x1440x1_0_0_0_1 := by
  have h := at_ m d 177 (by decide)
  rw [op_v124] at h
  exact Holds.unary (x := main_v121) (y := main_v124) h

end Cert.ReferenceIdeal.Ref

end

end
-- ==== Proof.VVal.lean ====
/-
  The reference's values, entry by entry.
-/
module

public import proofs.«01_k».proof.Proof.VRef
public import proofs.«01_k».proof.Proof.VTile
@[expose] public section

set_option maxRecDepth 100000

noncomputable section

namespace Cert.ReferenceIdeal.Ref

open Cert.ReferenceIdeal Cert.ReferenceIdeal.Gen
open Idealize.ShloMosaic Idealize.ShloMosaic.TcCoe Idealize.ShloMosaic.StableHlo Idealize.SL.Sem
open Cert.KernelIdeal.Body (nib nibS)

variable (m : (ℓ : Loc nD τ sig) → Buf (Elt Ideal) ℓ) (d : Dev nD)

/-- The four bits of a byte at a place of parity `p`, widened. -/
def nyb (b : BitVec 8) (p : ℕ) : BitVec 32 := if p < 1 then IntOp.andi (BitVec.setWidth 32 b) 15#32 else IntOp.shrsi ArithUnit.host (BitVec.setWidth 32 b) 4#32

theorem nyb0 : ∀ b : BitVec 8, (nyb b 0).toInt = nib b 0 := by decide +kernel
theorem nyb1 : ∀ b : BitVec 8, (nyb b 1).toInt = nib b 1 := by decide +kernel
theorem nybS0 : ∀ b : BitVec 8, (Scalar.select (IntOp.cmpi .sge (nyb b 0) 8#32) (IntOp.subi (nyb b 0) 16#32) (nyb b 0)).toInt = nibS b 0 := by decide +kernel
theorem nybS1 : ∀ b : BitVec 8, (Scalar.select (IntOp.cmpi .sge (nyb b 1) 8#32) (IntOp.subi (nyb b 1) 16#32) (nyb b 1)).toInt = nibS b 1 := by decide +kernel

theorem nyb_toInt (b : BitVec 8) (p : ℕ) (hp : p < 2) : (nyb b p).toInt = nib b p := by
  obtain rfl | rfl : p = 0 ∨ p = 1 := by omega
  · exact nyb0 b
  · exact nyb1 b
theorem nybS_toInt (b : BitVec 8) (p : ℕ) (hp : p < 2) : (Scalar.select (IntOp.cmpi .sge (nyb b p) 8#32) (IntOp.subi (nyb b p) 16#32) (nyb b p)).toInt = nibS b p := by
  obtain rfl | rfl : p = 0 ∨ p = 1 := by omega
  · exact nybS0 b
  · exact nybS1 b

theorem v19_at (e : Fin 5) (r : Fin 384) (k : Fin 2880) :
    x_v19 m d (ix3 e r k) = ((nibS (x_arg3 m d (ix3 e r ⟨k / 2, by omega⟩)) (k % 2) : ℝ) : EReal) * x_arg4 m d (ix3 e ⟨r / 64, by omega⟩ k) := by
  rw [← nybS_toInt _ _ (Nat.mod_lt _ (by decide))]
  pointwise [e_v19, e_v18, e_v17, e_v16, e_v15, e_v14, e_v13, e_v12, e_v11, e_c_2, e_v10, e_v9, e_c_1, e_v8, e_v7, e_v6, e_v5, e_v4, e_v3, e_c_0, e_v2, e_v1, e_c, e_v0]
  rfl
theorem v39_at (e : Fin 5) (r : Fin 384) (k : Fin 2880) :
    x_v39 m d (ix3 e r k) = (((nib (x_arg5 m d (ix3 e r ⟨k / 2, by omega⟩)) (k % 2) : ℝ) : EReal) + 1) * Ideal.ofBits .f32 1031798784#32 * min (x_arg6 m d (ix2 e r)) (x_arg7 m d (ix2 e k)) := by
  rw [← nyb_toInt _ _ (Nat.mod_lt _ (by decide))]
  pointwise [e_v39, e_v38, e_v37, e_v36, e_v35, e_v34, e_v33, e_v32, e_v31, e_v30, e_v29, e_v28, e_v27, e_v26, e_v25, e_v24, e_v23, e_v22, e_v21, e_v20, e_cst, e_cst_5, e_c_3, e_c_4]
  rfl
theorem v47_at (e : Fin 5) (r : Fin 384) (k : Fin 2880) :
    x_v47 m d (ix3 e r k) = Ideal.div (Ideal.ofBits .f32 1091567616#32) (Ideal.ofBits .f32 1092616192#32) * x_v19 m d (ix3 e r k)
      + Ideal.div (Ideal.ofBits .f32 1065353216#32) (Ideal.ofBits .f32 1092616192#32) * x_arg1 m d (ix3 e r k) := by
  pointwise [e_v47, e_v46, e_v45, e_v44, e_v43, e_v42, e_v41, e_v40, e_cst_6, e_cst_7, e_cst_8, e_cst_9]

theorem v55_at (e : Fin 5) (r : Fin 384) (k : Fin 2880) :
    x_v55 m d (ix3 e r k) = Ideal.div (Ideal.ofBits .f32 1148829696#32) (Ideal.ofBits .f32 1148846080#32) * x_v39 m d (ix3 e r k)
      + Ideal.div (Ideal.ofBits .f32 1065353216#32) (Ideal.ofBits .f32 1148846080#32) * (x_arg1 m d (ix3 e r k) * x_arg1 m d (ix3 e r k)) := by
  pointwise [e_v55, e_v54, e_v53, e_v52, e_v51, e_v50, e_v49, e_v48, e_v40, e_cst_10, e_cst_11, e_cst_12, e_cst_13]

theorem v93_at (e : Fin 5) (r : Fin 384) : x_v93 m d (ix2 e r) = (Finset.univ : Finset (Fin 2880)).fold max (Ideal.ofBits .f32 4286578688#32) (fun x => (x_v55 m d (ix3 e r x) : EReal)) := by
  pointwise [e_v93, e_cst_30]
theorem v94_at (e : Fin 5) (k : Fin 2880) : x_v94 m d (ix2 e k) = (Finset.univ : Finset (Fin 384)).fold max (Ideal.ofBits .f32 4286578688#32) (fun x => (x_v55 m d (ix3 e x k) : EReal)) := by
  pointwise [e_v94, e_cst_31]
theorem bcx (Y : FVec Ideal S_ .f32) (i : S5x384x2880.Idx) : (broadcastInDim S5x384x2880 ![] bcast_S_S5x384x2880 : FVec Ideal S_ .f32 → _) Y i = Y ix0 := by
  obtain ⟨e, r, k, rfl⟩ : ∃ (e : Fin 5) (r : Fin 384) (k : Fin 2880), i = ix3 e r k := ⟨i 0, i 1, i 2, by funext a; match a with | ⟨0, _⟩ => rfl | ⟨1, _⟩ => rfl | ⟨2, _⟩ => rfl⟩
  pointwise
theorem v58_at : x_v58 m d ix0 = Ideal.ofBits .f32 0x3F800000#32 - Ideal.pow (Ideal.ofBits .f32 0x3F666666#32) (((x_arg2 m d ix0).toInt : ℝ) : EReal) := by
  rw [e_v58, e_v57, e_v56, e_cst_14, e_cst_15]; rfl
theorem v60_at : x_v60 m d ix0 = Ideal.ofBits .f32 0x3F800000#32 - Ideal.pow (Ideal.ofBits .f32 0x3F7FBE77#32) (((x_arg2 m d ix0).toInt : ℝ) : EReal) := by
  rw [e_v60, e_v59, e_v56, e_cst_16, e_cst_17]; rfl
theorem v66_at : x_v66 m d ix0 = Ideal.div (Ideal.ofBits .f32 0x3F800000#32) (Ideal.ofBits .f32 0x4CBEBC20#32) := by
  rw [e_v66, e_cst_18, e_cst_19]; rfl
theorem v70_at : x_v70 m d ix0 = Ideal.div (Ideal.ofBits .f32 0x40400000#32) (Ideal.ofBits .f32 0x461C4000#32) := by
  rw [e_v70, e_cst_20, e_cst_21]; rfl
theorem v71_at : x_v71 m d ix0 = Ideal.div (Ideal.ofBits .f32 0x3F800000#32) (Ideal.ofBits .f32 0x41200000#32) := by
  rw [e_v71, e_cst_22, e_cst_23]; rfl
theorem v61_at (i : S5x384x2880.Idx) : x_v61 m d i = x_v58 m d ix0 := (congrFun (e_v61 m d) i).trans (bcx _ _)
theorem v63_at (i : S5x384x2880.Idx) : x_v63 m d i = x_v60 m d ix0 := (congrFun (e_v63 m d) i).trans (bcx _ _)
theorem v67_at (i : S5x384x2880.Idx) : x_v67 m d i = x_v66 m d ix0 := (congrFun (e_v67 m d) i).trans (bcx _ _)
theorem v73_at (i : S5x384x2880.Idx) : x_v73 m d i = x_v71 m d ix0 := (congrFun (e_v73 m d) i).trans (bcx _ _)
theorem v76_at (i : S5x384x2880.Idx) : x_v76 m d i = x_v70 m d ix0 := (congrFun (e_v76 m d) i).trans (bcx _ _)
theorem op69 (A B C D E : FVec Ideal S5x384x2880 .f32) (i : S5x384x2880.Idx) :
    (Host.divf (F := Ideal) (φ := .f32) (Host.divf (F := Ideal) (φ := .f32) A B) (addf (Host.sqrt (F := Ideal) (φ := .f32) (Host.divf (F := Ideal) (φ := .f32) C D)) E)) i = Ideal.div (Ideal.div (A i) (B i)) (Ideal.sqrt (Ideal.div (C i) (D i)) + E i) := rfl
theorem v69_at (i : S5x384x2880.Idx) : x_v69 m d i = Ideal.div (Ideal.div (x_v47 m d i) (x_v58 m d ix0)) (Ideal.sqrt (Ideal.div (x_v55 m d i) (x_v60 m d ix0)) + x_v66 m d ix0) := by
  rw [e_v69, e_v68, e_v65, e_v64, e_v62]
  refine (op69 _ _ _ _ _ i).trans ?_
  rw [v61_at, v63_at, v67_at]
theorem op77 (A B C : FVec Ideal S5x384x2880 .f32) (D : FVec Ideal S5x384x2880 .bf16) (i : S5x384x2880.Idx) :
    (mulf A (addf B (mulf C (extf .f32 D bitsLt_bf16_f32)))) i = (A i * (B i + C i * D i) : EReal) := rfl
theorem v77_at (i : S5x384x2880.Idx) : x_v77 m d i = (x_v70 m d ix0 * (x_v69 m d i + x_v71 m d ix0 * x_arg0 m d i) : EReal) := by
  rw [e_v77, e_v75, e_v74, e_v72]
  refine (op77 _ _ _ _ i).trans ?_
  rw [v76_at, v73_at]
theorem v78_at (e : Fin 5) (b : Fin 6) (x : Fin 64) (k : Fin 2880) : x_v78 m d (ix4 e b x k) = x_v47 m d (ix3 e ⟨b * 64 + x, by omega⟩ k) := by
  pointwise [e_v78]
theorem v80_at' (e : Fin 5) (b : Fin 6) (k : Fin 2880) : x_v80 m d (ix3 e b k) = (Finset.univ : Finset (Fin 64)).fold max (Ideal.ofBits .f32 4286578688#32) (fun x => max (x_v78 m d (ix4 e b x k)) (- x_v78 m d (ix4 e b x k))) := by
  pointwise [e_v80, e_v79, e_cst_24]
  rfl
theorem v80_at (e : Fin 5) (b : Fin 6) (k : Fin 2880) : x_v80 m d (ix3 e b k) = (Finset.univ : Finset (Fin 64)).fold max (Ideal.ofBits .f32 4286578688#32) (fun x : Fin 64 => max (x_v47 m d (ix3 e ⟨b * 64 + x, by omega⟩ k)) (- x_v47 m d (ix3 e ⟨b * 64 + x, by omega⟩ k))) := by
  rw [v80_at']; simp only [v78_at]

theorem op85 (C : IVec S5x6x2880 1) (A B : FVec Ideal S5x6x2880 .f32) (i : S5x6x2880.Idx) : (select C A B) i = Scalar.select (C i) (A i) (B i) := rfl
theorem op82 (A B : FVec Ideal S5x6x2880 .f32) (i : S5x6x2880.Idx) : (cmpf (F := Ideal) (φ := .f32) .oeq A B) i = FloatOps.cmpf (F := Ideal) (φ := .f32) .oeq (A i) (B i) := rfl
theorem op84 (A B : FVec Ideal S5x6x2880 .f32) (i : S5x6x2880.Idx) : (Host.divf (F := Ideal) (φ := .f32) A B) i = Ideal.div (A i) (B i) := rfl
theorem bc3 (b : BitVec 32) (i : S5x6x2880.Idx) : (broadcastInDim S5x6x2880 ![] bcast_S_S5x6x2880 : FVec Ideal S_ .f32 → _) (constant (F := Ideal) S_ .f32 b) i = Ideal.ofBits .f32 b := rfl
theorem v81_at (i : S5x6x2880.Idx) : x_v81 m d i = Ideal.ofBits .f32 0#32 := by rw [e_v81, e_cst_25]; exact bc3 _ _
theorem v83_at (i : S5x6x2880.Idx) : x_v83 m d i = Ideal.ofBits .f32 1088421888#32 := by rw [e_v83, e_cst_26]; exact bc3 _ _
theorem c1_at (i : S5x6x2880.Idx) : x_call1_v1 m d i = Ideal.ofBits .f32 1065353216#32 := by rw [e_call1_v1, e_call1_v0, e_cst_27]; exact bc3 _ _
theorem v82_at (i : S5x6x2880.Idx) : x_v82 m d i = FloatOps.cmpf (F := Ideal) (φ := .f32) .oeq (x_v80 m d i) (x_v81 m d i) := (congrFun (e_v82 m d) i).trans (op82 _ _ _)
theorem v84_at (i : S5x6x2880.Idx) : x_v84 m d i = Ideal.div (x_v80 m d i) (x_v83 m d i) := (congrFun (e_v84 m d) i).trans (op84 _ _ _)
theorem v85_at' (i : S5x6x2880.Idx) : x_v85 m d i = Scalar.select (x_v82 m d i) (x_call1_v1 m d i) (x_v84 m d i) := (congrFun (e_v85 m d) i).trans (op85 _ _ _ _)
theorem sel_oeq (a b x y : EReal) : (Scalar.select (FloatOps.cmpf (F := Ideal) (φ := .f32) .oeq a b) x y : EReal) = if a = b then x else y := by
  by_cases h : a = b
  · simp [Scalar.select, FloatOps.cmpf, Ideal.cmp, h]
  · simp [Scalar.select, FloatOps.cmpf, Ideal.cmp, h]
theorem v85_at (i : S5x6x2880.Idx) : (x_v85 m d i : EReal) = if x_v80 m d i = Ideal.ofBits .f32 0#32 then Ideal.ofBits .f32 1065353216#32 else Ideal.div (x_v80 m d i) (Ideal.ofBits .f32 1088421888#32) := by
  rw [v85_at', v82_at, v81_at, v84_at, v83_at, c1_at]
  exact sel_oeq _ _ _ _
theorem bc4 (b : BitVec 32) (i : S5x6x64x2880.Idx) : (broadcastInDim S5x6x64x2880 ![] bcast_S_S5x6x64x2880 : FVec Ideal S_ .f32 → _) (constant (F := Ideal) S_ .f32 b) i = Ideal.ofBits .f32 b := rfl
theorem v87_at (e : Fin 5) (b : Fin 6) (x : Fin 64) (k : Fin 2880) : x_v87 m d (ix4 e b x k) = x_v85 m d (ix3 e b k) := by
  pointwise [e_v87, e_v86]
theorem op91 (A B C D : FVec Ideal S5x6x64x2880 .f32) (i : S5x6x64x2880.Idx) :
    (fptosi 32 (minimumf A (maximumf B (Host.roundeven (F := Ideal) (φ := .f32) (Host.divf (F := Ideal) (φ := .f32) C D))))) i
      = FloatOps.fptosi (F := Ideal) (φ := .f32) 32 (min (A i : EReal) (max (B i) (Ideal.liftRound Ideal.roundHalfEven (Ideal.div (C i) (D i))))) := rfl
theorem v91_at (i : S5x6x64x2880.Idx) : x_v91 m d i = FloatOps.fptosi (F := Ideal) (φ := .f32) 32 (min (Ideal.ofBits .f32 0x40E00000#32 : EReal) (max (Ideal.ofBits .f32 0xC0E00000#32)
      (Ideal.liftRound Ideal.roundHalfEven (Ideal.div (x_v78 m d i) (x_v87 m d i))))) := by
  rw [e_v91, e_v90, e_call3_v4, e_call3_v3, e_call3_v2, e_call3_v1, e_call3_v0, e_cst_28, e_cst_29, e_v89, e_v88]
  refine (op91 _ _ _ _ i).trans ?_
  rw [bc4, bc4]
theorem v92_at' (e : Fin 5) (r : Fin 384) (k : Fin 2880) : x_v92 m d (ix3 e r k) = x_v91 m d (ix4 e ⟨r / 64, by omega⟩ ⟨r % 64, by omega⟩ k) := by
  pointwise [e_v92]
theorem v92_at (e : Fin 5) (r : Fin 384) (k : Fin 2880) : x_v92 m d (ix3 e r k) = FloatOps.fptosi (F := Ideal) (φ := .f32) 32 (min (Ideal.ofBits .f32 0x40E00000#32 : EReal) (max (Ideal.ofBits .f32 0xC0E00000#32)
      (Ideal.liftRound Ideal.roundHalfEven (Ideal.div (x_v47 m d (ix3 e r k)) (x_v85 m d (ix3 e ⟨r / 64, by omega⟩ k)))))) := by
  rw [v92_at', v91_at, v87_at, v78_at]
  congr 6
  exact congrArg (fun z => ix3 e z k) (Fin.ext (by show r.val / 64 * 64 + r.val % 64 = r.val; omega))
theorem bc_i (b : BitVec 32) (i : S5x384x2880.Idx) : (broadcastInDim S5x384x2880 ![] bcast_S_S5x384x2880 : IVec S_ 32 → _) (constantI S_ 32 b) i = b := rfl
theorem bc_h (b : BitVec 32) (i : S5x384x1440.Idx) : (broadcastInDim S5x384x1440 ![] bcast_S_S5x384x1440 : IVec S_ 32 → _) (constantI S_ 32 b) i = b := rfl
theorem op118 (A B C : IVec S5x384x1440 32) (i : S5x384x1440.Idx) : (trunci 8 (ori A (Host.shli B C)) natLt_8_32) i = BitVec.setWidth 8 (IntOp.ori (A i) (IntOp.shli ArithUnit.host (B i) (C i))) := rfl
theorem op109 (A B : IVec S5x384x2880 32) (i : S5x384x2880.Idx) : (andi A B) i = IntOp.andi (A i) (B i) := rfl
theorem v109_at (i : S5x384x2880.Idx) : x_v109 m d i = IntOp.andi (x_v92 m d i) 15#32 := by
  rw [e_v109, e_v108, e_c_36]
  refine (op109 _ _ i).trans ?_
  rw [bc_i]
theorem v120_at (i : S5x384x2880.Idx) : x_v120 m d i = IntOp.andi (x_v107 m d i) 15#32 := by
  rw [e_v120, e_v119, e_c_38]
  refine (op109 _ _ i).trans ?_
  rw [bc_i]
theorem v110_at (e : Fin 5) (r : Fin 384) (k : Fin 1440) (p : Fin 2) : x_v110 m d (ix4 e r k p) = x_v109 m d (ix3 e r ⟨k * 2 + p, by omega⟩) := by
  pointwise [e_v110]
theorem v121_at (e : Fin 5) (r : Fin 384) (k : Fin 1440) (p : Fin 2) : x_v121 m d (ix4 e r k p) = x_v120 m d (ix3 e r ⟨k * 2 + p, by omega⟩) := by
  pointwise [e_v121]
theorem v112_at (e : Fin 5) (r : Fin 384) (k : Fin 1440) : x_v112 m d (ix3 e r k) = x_v111 m d (ix4 e r k 0) := by
  pointwise [e_v112]
theorem v114_at (e : Fin 5) (r : Fin 384) (k : Fin 1440) : x_v114 m d (ix3 e r k) = x_v113 m d (ix4 e r k 0) := by
  pointwise [e_v114]
theorem v123_at (e : Fin 5) (r : Fin 384) (k : Fin 1440) : x_v123 m d (ix3 e r k) = x_v122 m d (ix4 e r k 0) := by
  pointwise [e_v123]
theorem v125_at (e : Fin 5) (r : Fin 384) (k : Fin 1440) : x_v125 m d (ix3 e r k) = x_v124 m d (ix4 e r k 0) := by
  pointwise [e_v125]
theorem v111_at (e : Fin 5) (r : Fin 384) (k : Fin 1440) : x_v111 m d (ix4 e r k 0) = x_v110 m d (ix4 e r k 0) := by
  pointwise [e_v111]
theorem v113_at (e : Fin 5) (r : Fin 384) (k : Fin 1440) : x_v113 m d (ix4 e r k 0) = x_v110 m d (ix4 e r k 1) := by
  pointwise [e_v113]
theorem v122_at (e : Fin 5) (r : Fin 384) (k : Fin 1440) : x_v122 m d (ix4 e r k 0) = x_v121 m d (ix4 e r k 0) := by
  pointwise [e_v122]
theorem v124_at (e : Fin 5) (r : Fin 384) (k : Fin 1440) : x_v124 m d (ix4 e r k 0) = x_v121 m d (ix4 e r k 1) := by
  pointwise [e_v124]
/-- Two codes in one byte. -/
def PK (a b : BitVec 32) : BitVec 8 := BitVec.setWidth 8 (IntOp.ori (IntOp.andi a 15#32) (IntOp.shli ArithUnit.host (IntOp.andi b 15#32) 4#32))
theorem v118_at (e : Fin 5) (r : Fin 384) (k : Fin 1440) : x_v118 m d (ix3 e r k) = PK (x_v92 m d (ix3 e r ⟨k * 2, by omega⟩)) (x_v92 m d (ix3 e r ⟨k * 2 + 1, by omega⟩)) := by
  rw [e_v118, e_v117, e_v116, e_v115, e_c_37]
  refine (op118 _ _ _ _).trans ?_
  rw [bc_h, v112_at, v114_at, v111_at, v113_at, v110_at, v110_at, v109_at, v109_at]
  rfl
theorem v129_at (e : Fin 5) (r : Fin 384) (k : Fin 1440) : x_v129 m d (ix3 e r k) = PK (x_v107 m d (ix3 e r ⟨k * 2, by omega⟩)) (x_v107 m d (ix3 e r ⟨k * 2 + 1, by omega⟩)) := by
  rw [e_v129, e_v128, e_v127, e_v126, e_c_39]
  refine (op118 _ _ _ _).trans ?_
  rw [bc_h, v123_at, v125_at, v122_at, v124_at, v121_at, v121_at, v120_at, v120_at]
  rfl
theorem bc_c (b : BitVec 32) (i : S5x384x2880.Idx) : (broadcastInDim S5x384x2880 ![] bcast_S_S5x384x2880 : FVec Ideal S_ .f32 → _) (constant (F := Ideal) S_ .f32 b) i = Ideal.ofBits .f32 b := rfl
theorem op107 (A B C D E G : FVec Ideal S5x384x2880 .f32) (i : S5x384x2880.Idx) :
    (fptosi 32 (minimumf A (maximumf B (Host.roundeven (F := Ideal) (φ := .f32) (subf (Host.divf (F := Ideal) (φ := .f32) (mulf C D) E) G))))) i
      = FloatOps.fptosi (F := Ideal) (φ := .f32) 32 (min (A i : EReal) (max (B i) (Ideal.liftRound Ideal.roundHalfEven (Ideal.div (C i * D i) (E i) - G i)))) := rfl
theorem v97_at (e : Fin 5) (r : Fin 384) (k : Fin 2880) : x_v97 m d (ix3 e r k) = x_v93 m d (ix2 e r) := by
  pointwise [e_v97, e_v95]
theorem v98_at (e : Fin 5) (r : Fin 384) (k : Fin 2880) : x_v98 m d (ix3 e r k) = x_v94 m d (ix2 e k) := by
  pointwise [e_v98, e_v96]
theorem op99 (A B : FVec Ideal S5x384x2880 .f32) (i : S5x384x2880.Idx) : (minimumf A B) i = (min (A i) (B i) : EReal) := rfl
theorem v99_at (e : Fin 5) (r : Fin 384) (k : Fin 2880) : x_v99 m d (ix3 e r k) = (min (x_v93 m d (ix2 e r)) (x_v94 m d (ix2 e k)) : EReal) := by
  rw [e_v99]
  refine (op99 _ _ _).trans ?_
  rw [v97_at, v98_at]
theorem v107_at (i : S5x384x2880.Idx) : x_v107 m d i = FloatOps.fptosi (F := Ideal) (φ := .f32) 32 (min (Ideal.ofBits .f32 0x41700000#32 : EReal) (max (Ideal.ofBits .f32 0#32)
      (Ideal.liftRound Ideal.roundHalfEven (Ideal.div (Ideal.ofBits .f32 0x41800000#32 * x_v55 m d i) (x_v99 m d i) - Ideal.ofBits .f32 0x3F800000#32)))) := by
  rw [e_v107, e_v106, e_call5_v4, e_call5_v3, e_call5_v2, e_call5_v1, e_call5_v0, e_cst_34, e_cst_35, e_v105, e_v104, e_v103, e_cst_33, e_v102, e_v101, e_v100, e_cst_32]
  refine (op107 _ _ _ _ _ _ i).trans ?_
  rw [bc_c, bc_c, bc_c, bc_c]

end Cert.ReferenceIdeal.Ref
-- ==== Proof.VCode.lean ====
/-
  The codes, as the reference writes them.
-/
module

public import proofs.«01_k».proof.Proof.VNum
public import proofs.«01_k».proof.Proof.VVal
@[expose] public section

noncomputable section

namespace Cert.KernelIdeal.Body

open Cert.KernelIdeal Cert.KernelIdeal.Gen Cert.Proof Cert.Val
open Idealize.ShloMosaic Idealize.ShloMosaic.TcCoe Idealize.SL.Sem

open Cert.ReferenceIdeal.Ref (PK)

/-- An integer held between two bounds. -/
def hold (lo hi n : ℤ) : ℤ := min (max n lo) hi

theorem round_shift (q : ℝ) (n : ℤ) (hn : Even n) : Ideal.roundHalfEven (q + n) = Ideal.roundHalfEven q + n := by
  unfold Ideal.roundHalfEven
  simp only [Int.floor_add_intCast]
  have h1 : q + n - ((⌊q⌋ + n : ℤ) : ℝ) = q - ⌊q⌋ := by push_cast; ring
  have h2 : Even (⌊q⌋ + n) ↔ Even ⌊q⌋ := by simp [Int.even_add, hn]
  rw [h1]
  simp only [h2]
  split_ifs <;> ring

theorem hold_coe (lo hi n : ℤ) : min (max ((n : ℝ) : EReal) ((lo : ℝ) : EReal)) ((hi : ℝ) : EReal) = ((hold lo hi n : ℝ) : EReal) := by
  unfold hold
  rw [← EReal.coe_strictMono.monotone.map_max, ← EReal.coe_strictMono.monotone.map_min]
  push_cast
  rfl

theorem hold_coe' (lo hi n : ℤ) : min ((hi : ℝ) : EReal) (max ((lo : ℝ) : EReal) ((n : ℝ) : EReal)) = ((hold lo hi n : ℝ) : EReal) := by
  rw [min_comm, max_comm, hold_coe]

theorem hold_shift (lo hi n k : ℤ) : hold (lo + k) (hi + k) (n + k) = hold lo hi n + k := by
  unfold hold
  omega

theorem clip_m (q : ℝ) : CLIP 0x4301#16 0x430F#16 ((q : EReal) + Ideal.ofBits .f32 0x4B404308#32) = ((hold (-7) 7 (Ideal.roundHalfEven q) + 136 : ℤ) : ℝ) := by
  unfold CLIP
  rw [b_bm, b_big, b_17024, h_129, h_143, ← EReal.coe_add, ← EReal.coe_sub,
    show q + 12600072 - 12582912 = q + ((17160 : ℤ) : ℝ) by push_cast; ring]
  show min (max (((Ideal.roundHalfEven (q + ((17160 : ℤ) : ℝ)) : ℝ) : EReal) - _) _) _ = _
  rw [round_shift _ _ (by decide), ← EReal.coe_sub, show ((Ideal.roundHalfEven q + 17160 : ℤ) : ℝ) - 17024 = ((Ideal.roundHalfEven q + 136 : ℤ) : ℝ) by push_cast; ring,
    show (129 : ℝ) = ((-7 + 136 : ℤ) : ℝ) by norm_num, show (143 : ℝ) = ((7 + 136 : ℤ) : ℝ) by norm_num, hold_coe, hold_shift]

theorem clip_v (q : ℝ) : CLIP 0x4300#16 0x430F#16 ((q : EReal) + Ideal.ofBits .f32 0x4B4042FF#32) = ((hold 0 15 (Ideal.roundHalfEven (q - 1)) + 128 : ℤ) : ℝ) := by
  unfold CLIP
  rw [b_bv, b_big, b_17024, h_128, h_143, ← EReal.coe_add, ← EReal.coe_sub,
    show q + 12600063 - 12582912 = (q - 1) + ((17152 : ℤ) : ℝ) by push_cast; ring]
  show min (max (((Ideal.roundHalfEven ((q - 1) + ((17152 : ℤ) : ℝ)) : ℝ) : EReal) - _) _) _ = _
  rw [round_shift _ _ (by decide), ← EReal.coe_sub, show ((Ideal.roundHalfEven (q - 1) + 17152 : ℤ) : ℝ) - 17024 = ((Ideal.roundHalfEven (q - 1) + 128 : ℤ) : ℝ) by push_cast; ring,
    show (128 : ℝ) = ((0 + 128 : ℤ) : ℝ) by norm_num, show (143 : ℝ) = ((15 + 128 : ℤ) : ℝ) by norm_num, hold_coe, hold_shift]

/-- An integer of 32 bits is converted to itself. -/
theorem toI (n : ℤ) (h1 : -2147483648 ≤ n) (h2 : n ≤ 2147483647) : Ideal.fptosi 32 ((n : ℝ) : EReal) = BitVec.ofInt 32 n := by
  unfold Ideal.fptosi
  rw [Ideal.toIntClamped_coe]
  congr 1
  rw [Int.floor_intCast, Int.ceil_intCast, ite_self]
  norm_num
  omega

theorem hold_mem (lo hi n : ℤ) (h : lo ≤ hi) : lo ≤ hold lo hi n ∧ hold lo hi n ≤ hi := by
  unfold hold
  omega

theorem ref_m (q : ℝ) : Ideal.fptosi 32 (min (Ideal.ofBits .f32 0x40E00000#32) (max (Ideal.ofBits .f32 0xC0E00000#32) (Ideal.liftRound Ideal.roundHalfEven (q : EReal))))
    = BitVec.ofInt 32 (hold (-7) 7 (Ideal.roundHalfEven q)) := by
  rw [b_7, b_m7]
  show Ideal.fptosi 32 (min _ (max _ ((Ideal.roundHalfEven q : ℝ) : EReal))) = _
  rw [show (-7 : ℝ) = ((-7 : ℤ) : ℝ) by norm_num, show (7 : ℝ) = ((7 : ℤ) : ℝ) by norm_num, hold_coe']
  have h := hold_mem (-7) 7 (Ideal.roundHalfEven q) (by decide)
  exact toI _ (by omega) (by omega)

theorem ref_v (q : ℝ) : Ideal.fptosi 32 (min (Ideal.ofBits .f32 0x41700000#32) (max (Ideal.ofBits .f32 0#32) (Ideal.liftRound Ideal.roundHalfEven ((q : EReal) - Ideal.ofBits .f32 0x3F800000#32))))
    = BitVec.ofInt 32 (hold 0 15 (Ideal.roundHalfEven (q - 1))) := by
  rw [b_15, b_0, b_1, ← EReal.coe_sub]
  show Ideal.fptosi 32 (min _ (max _ ((Ideal.roundHalfEven (q - 1) : ℝ) : EReal))) = _
  rw [show (0 : EReal) = (((0 : ℤ) : ℝ) : EReal) by norm_num, show (15 : ℝ) = ((15 : ℤ) : ℝ) by norm_num, hold_coe']
  have h := hold_mem 0 15 (Ideal.roundHalfEven (q - 1)) (by decide)
  exact toI _ (by omega) (by omega)

theorem byte_m_all : ∀ a b : Fin 15, (BitVec.ofInt 32 (((a.val : ℤ) - 7 + 136) + ((b.val : ℤ) - 7 + 136) * 16 - 2176)).setWidth 8 ^^^ 136#8
    = PK (BitVec.ofInt 32 ((a.val : ℤ) - 7)) (BitVec.ofInt 32 ((b.val : ℤ) - 7)) := by decide +kernel

theorem byte_v_all : ∀ a b : Fin 16, (BitVec.ofInt 32 (((a.val : ℤ) + 128) + ((b.val : ℤ) + 128) * 16 - 2176)).setWidth 8
    = PK (BitVec.ofInt 32 (a.val : ℤ)) (BitVec.ofInt 32 (b.val : ℤ)) := by decide +kernel

theorem byte_of (x y : ℤ) (hx : 0 ≤ x ∧ x ≤ 1000) (hy : 0 ≤ y ∧ y ≤ 1000) :
    BYTE ((x : ℝ) : EReal) ((y : ℝ) : EReal) = (BitVec.ofInt 32 (x + y * 16 - 2176)).setWidth 8 := by
  unfold BYTE
  rw [b_2176, ← EReal.coe_mul, ← EReal.coe_add, ← EReal.coe_sub, show (x : ℝ) + y * 16 - 2176 = ((x + y * 16 - 2176 : ℤ) : ℝ) by push_cast; ring, toI _ (by omega) (by omega)]

theorem byte_m (a b : ℤ) (ha : -7 ≤ a ∧ a ≤ 7) (hb : -7 ≤ b ∧ b ≤ 7) :
    BYTE (((a + 136 : ℤ) : ℝ) : EReal) (((b + 136 : ℤ) : ℝ) : EReal) ^^^ 136#8 = PK (BitVec.ofInt 32 a) (BitVec.ofInt 32 b) := by
  rw [byte_of _ _ (by omega) (by omega)]
  have h := byte_m_all ⟨(a + 7).toNat, by omega⟩ ⟨(b + 7).toNat, by omega⟩
  simp only [show (((a + 7).toNat : ℕ) : ℤ) = a + 7 by omega, show (((b + 7).toNat : ℕ) : ℤ) = b + 7 by omega, add_sub_cancel_right] at h
  exact h

theorem byte_v (a b : ℤ) (ha : 0 ≤ a ∧ a ≤ 15) (hb : 0 ≤ b ∧ b ≤ 15) :
    BYTE (((a + 128 : ℤ) : ℝ) : EReal) (((b + 128 : ℤ) : ℝ) : EReal) = PK (BitVec.ofInt 32 a) (BitVec.ofInt 32 b) := by
  rw [byte_of _ _ (by omega) (by omega)]
  have h := byte_v_all ⟨a.toNat, by omega⟩ ⟨b.toNat, by omega⟩
  simp only [show ((a.toNat : ℕ) : ℤ) = a by omega, show ((b.toNat : ℕ) : ℤ) = b by omega] at h
  exact h

end Cert.KernelIdeal.Body
-- ==== Proof.VQuot.lean ====
/-
  The quotients that are rounded to codes, as the reference writes them.
-/
module

public import proofs.«01_k».proof.Proof.VMom
public import proofs.«01_k».proof.Proof.VDw
public import proofs.«01_k».proof.Proof.VCode
@[expose] public section

noncomputable section

namespace Cert.KernelIdeal.Body

open Cert.KernelIdeal Cert.KernelIdeal.Gen Cert.Proof Cert.Val
open Idealize.ShloMosaic Idealize.ShloMosaic.TcCoe Idealize.SL.Sem
open Cert.ReferenceIdeal.Ref (PK)

theorem tenth_ne {A : EReal} (h : A ≠ 0) {c : ℝ} (hc : 0 < c) : (c : EReal) * A ≠ 0 :=
  mul_ne_zero (by exact_mod_cast hc.ne') h

/-- The first moment over its scale is one real, on both sides. -/
theorem m_q (M A : EReal) (h : max M (-M) ≤ A) : ∃ q : ℝ, M * Ideal.div 1 (SK A) = (q : EReal) ∧
    Ideal.div ((((1 : ℝ) / 10 : ℝ) : EReal) * M) (if (((1 : ℝ) / 10 : ℝ) : EReal) * A = Ideal.ofBits .f32 0#32 then Ideal.ofBits .f32 1065353216#32 else Ideal.div ((((1 : ℝ) / 10 : ℝ) : EReal) * A) (Ideal.ofBits .f32 1088421888#32)) = (q : EReal) := by
  have hM : M ≤ A := (le_max_left _ _).trans h
  have hM' : -A ≤ M := EReal.neg_le.mpr ((le_max_right _ _).trans h)
  unfold SK
  rw [b_0, b_1, b_7, n_seventh, Ideal.div_coe (y := 7) (by norm_num)]
  induction A using EReal.rec with
  | bot =>
    exfalso
    rw [EReal.neg_bot] at hM'
    rw [top_le_iff.mp hM'] at hM
    simp at hM
  | top =>
    refine ⟨0, ?_, ?_⟩
    · rw [if_neg (by simp), EReal.top_mul_coe_of_pos (by norm_num), div_top, mul_zero, EReal.coe_zero]
    · rw [if_neg (tenth_ne (by simp) (by norm_num)), top_scale (by norm_num), EReal.top_mul_coe_of_pos (by norm_num), div_top, EReal.coe_zero]
  | coe a =>
    induction M using EReal.rec with
    | bot => rw [← EReal.coe_neg] at hM'; simp at hM'
    | top => simp at hM
    | coe x =>
      rw [EReal.coe_le_coe_iff] at hM
      rw [← EReal.coe_neg, EReal.coe_le_coe_iff] at hM'
      rcases eq_or_ne a 0 with rfl | ha
      · have hx : x = 0 := le_antisymm hM (by simpa using hM')
        subst hx
        refine ⟨0, ?_, ?_⟩
        · rw [EReal.coe_zero, zero_mul]
        · rw [EReal.coe_zero, mul_zero, zero_mul, if_pos rfl, Ideal.div_coe (by norm_num), zero_mul]
      · refine ⟨x * (7 / a), ?_, ?_⟩
        · rw [if_neg (by exact_mod_cast ha), ← EReal.coe_mul, Ideal.div_coe (by simpa using ha), ← EReal.coe_one, ← EReal.coe_mul, ← EReal.coe_mul]
          congr 1
          field_simp
        · rw [if_neg (tenth_ne (by exact_mod_cast ha) (by norm_num)), ← EReal.coe_mul, ← EReal.coe_mul, ← EReal.coe_mul, Ideal.div_coe (by simpa using ha), ← EReal.coe_mul]
          congr 1
          field_simp

/-- The larger of two inverses is the inverse of the smaller. -/
theorem inv_anti {a b : EReal} (ha : 0 < a) (h : a ≤ b) : INV b ≤ INV a := by
  have hb : 0 < b := ha.trans_le h
  have key : ∀ x : EReal, 0 < x → INV x = Ideal.div ((16 : ℝ) : EReal) x := fun x hx => by
    unfold INV
    rw [ofBits_16, n_thousandth, if_neg]
    rw [mul_comm]
    exact tenth_ne hx.ne' (by norm_num)
  rw [key _ ha, key _ hb]
  induction b using EReal.rec with
  | bot => simp at hb
  | top =>
    rw [div_top]
    induction a using EReal.rec with
    | bot => simp at ha
    | top => rw [div_top]
    | coe x =>
      have hx : 0 < x := by exact_mod_cast ha
      rw [Ideal.div_coe hx.ne', ← EReal.coe_mul]
      exact_mod_cast (by positivity : (0 : ℝ) ≤ 16 * (1 / x))
  | coe y =>
    induction a using EReal.rec with
    | bot => simp at ha
    | top => simp at h
    | coe x =>
      have hx : 0 < x := by exact_mod_cast ha
      have hy : 0 < y := by exact_mod_cast hb
      rw [EReal.coe_le_coe_iff] at h
      rw [Ideal.div_coe hx.ne', Ideal.div_coe hy.ne', ← EReal.coe_mul, ← EReal.coe_mul, EReal.coe_le_coe_iff]
      have := one_div_le_one_div_of_le hx h
      linarith

theorem max_inv {R C : EReal} (hR : 0 < R) (hC : 0 < C) : max (INV R) (INV C) = INV (min R C) := by
  rcases le_total R C with h | h
  · rw [min_eq_left h, max_eq_left (inv_anti hR h)]
  · rw [min_eq_right h, max_eq_right (inv_anti hC h)]

/-- Sixteen times the second moment over the smaller maximum is one real, on both sides. -/
theorem v_q (V R C : EReal) (hV : 0 < V) (hR : V ≤ R) (hC : V ≤ C) : ∃ q : ℝ, V * max (INV R) (INV C) = (q : EReal) ∧
    Ideal.div (Ideal.ofBits .f32 0x41800000#32 * ((((1 : ℝ) / 1000 : ℝ) : EReal) * V)) (min ((((1 : ℝ) / 1000 : ℝ) : EReal) * R) ((((1 : ℝ) / 1000 : ℝ) : EReal) * C)) = (q : EReal) := by
  rw [max_inv (hV.trans_le hR) (hV.trans_le hC), ← scale_min (by norm_num)]
  have hS : V ≤ min R C := le_min hR hC
  generalize min R C = S at hS
  have hS0 : 0 < S := hV.trans_le hS
  unfold INV
  rw [ofBits_16, n_thousandth, if_neg (by rw [mul_comm]; exact tenth_ne hS0.ne' (by norm_num))]
  induction S using EReal.rec with
  | bot => simp at hS0
  | top =>
    refine ⟨0, ?_, ?_⟩
    · rw [div_top, mul_zero, EReal.coe_zero]
    · rw [top_scale (by norm_num), div_top, EReal.coe_zero]
  | coe s =>
    induction V using EReal.rec with
    | bot => simp at hV
    | top => simp at hS
    | coe v =>
      have hs : s ≠ 0 := by
        have : 0 < s := by exact_mod_cast hS0
        exact this.ne'
      refine ⟨v * (16 / s), ?_, ?_⟩
      · rw [Ideal.div_coe hs, ← EReal.coe_mul, ← EReal.coe_mul]
        congr 1
        field_simp
      · rw [← EReal.coe_mul, ← EReal.coe_mul, ← EReal.coe_mul, Ideal.div_coe (by simpa using hs), ← EReal.coe_mul]
        congr 1
        field_simp

/-- The reference's code of a first moment `M` under the scale `A`. -/
def RC (M A : EReal) : BitVec 32 :=
  Ideal.fptosi 32 (min (Ideal.ofBits .f32 0x40E00000#32) (max (Ideal.ofBits .f32 0xC0E00000#32) (Ideal.liftRound Ideal.roundHalfEven
    (Ideal.div ((((1 : ℝ) / 10 : ℝ) : EReal) * M) (if (((1 : ℝ) / 10 : ℝ) : EReal) * A = Ideal.ofBits .f32 0#32 then Ideal.ofBits .f32 1065353216#32 else Ideal.div ((((1 : ℝ) / 10 : ℝ) : EReal) * A) (Ideal.ofBits .f32 1088421888#32))))))

/-- The reference's code of a second moment `V` under the maxima `R` and `C`. -/
def RV (V R C : EReal) : BitVec 32 :=
  Ideal.fptosi 32 (min (Ideal.ofBits .f32 0x41700000#32) (max (Ideal.ofBits .f32 0#32) (Ideal.liftRound Ideal.roundHalfEven
    (Ideal.div (Ideal.ofBits .f32 0x41800000#32 * ((((1 : ℝ) / 1000 : ℝ) : EReal) * V)) (min ((((1 : ℝ) / 1000 : ℝ) : EReal) * R) ((((1 : ℝ) / 1000 : ℝ) : EReal) * C)) - Ideal.ofBits .f32 0x3F800000#32))))

/-- Two codes of the first moment. -/
theorem mb_eq (M0 M1 A0 A1 : EReal) (h0 : max M0 (-M0) ≤ A0) (h1 : max M1 (-M1) ≤ A1) : PK (RC M0 A0) (RC M1 A1) = MB2 M0 M1 A0 A1 := by
  obtain ⟨q0, e0, f0⟩ := m_q M0 A0 h0
  obtain ⟨q1, e1, f1⟩ := m_q M1 A1 h1
  unfold RC MB2 TM
  rw [e0, e1, f0, f1, ref_m, ref_m, clip_m, clip_m, byte_m _ _ (hold_mem _ _ _ (by decide)) (hold_mem _ _ _ (by decide))]

/-- Two codes of the second moment. -/
theorem vb_eq (V0 V1 R C0 C1 : EReal) (p0 : 0 < V0) (p1 : 0 < V1) (r0 : V0 ≤ R) (r1 : V1 ≤ R) (c0 : V0 ≤ C0) (c1 : V1 ≤ C1) :
    PK (RV V0 R C0) (RV V1 R C1) = VB2 V0 V1 (max (INV R) (INV C0)) (max (INV R) (INV C1)) := by
  obtain ⟨q0, e0, f0⟩ := v_q V0 R C0 p0 r0 c0
  obtain ⟨q1, e1, f1⟩ := v_q V1 R C1 p1 r1 c1
  unfold RV VB2 TV
  rw [e0, e1, f0, f1, ref_v, ref_v, clip_v, clip_v, byte_v _ _ (hold_mem _ _ _ (by decide)) (hold_mem _ _ _ (by decide))]

end Cert.KernelIdeal.Body
-- ==== Proof.VMatch.lean ====
/-
  The reference's results are the kernel's, entry by entry, where the arguments are the same.
-/
module

public import proofs.«01_k».proof.Proof.VQuot
public import proofs.«01_k».proof.Proof.VVal
@[expose] public section

set_option maxRecDepth 100000

noncomputable section

namespace Cert.Match

open Idealize.ShloMosaic Idealize.ShloMosaic.TcCoe Idealize.SL.Sem
open Cert.Val
open Cert.KernelIdeal.Body (Aw Ag At Amc Ams Avc Avr Avk Mg Vg AMg RXg CXg DWg MCg VCg MEAN SC)
open Cert.ReferenceIdeal.Ref

/-- Two memories with the same arguments, such as the precondition asks for. -/
structure Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop where
  w : ∀ (e : Fin 5) (r : Fin 384) (k : Fin 2880), x_arg0 m' c (ix3 e r k) = Aw m c e r k
  g : ∀ (e : Fin 5) (r : Fin 384) (k : Fin 2880), x_arg1 m' c (ix3 e r k) = Ag m c e r k
  t : x_arg2 m' c ix0 = At m c
  mc : ∀ (e : Fin 5) (r : Fin 384) (k : Fin 1440), x_arg3 m' c (ix3 e r k) = Amc m c e r k
  ms : ∀ (e : Fin 5) (b : Fin 6) (k : Fin 2880), x_arg4 m' c (ix3 e b k) = Ams m c e b k
  vc : ∀ (e : Fin 5) (r : Fin 384) (k : Fin 1440), x_arg5 m' c (ix3 e r k) = Avc m c e r k
  vr : ∀ (e : Fin 5) (r : Fin 384), x_arg6 m' c (ix2 e r) = Avr m c e r
  vk : ∀ (e : Fin 5) (k : Fin 2880), x_arg7 m' c (ix2 e k) = Avk m c e k
  t1 : 1 ≤ (At m c).toInt
  vr1 : ∀ (e : Fin 5) (r : Fin 384), Ideal.ofBits .f32 0x00800000#32 ≤ Avr m c e r
  vk1 : ∀ (e : Fin 5) (k : Fin 2880), Ideal.ofBits .f32 0x00800000#32 ≤ Avk m c e k

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ} {c : Dev Cert.KernelIdeal.nD} (A : Agree m m' c)
include A

/-- The first moment. -/
theorem v47 (e : Fin 5) (r : Fin 384) (k : Fin 2880) : (x_v47 m' c (ix3 e r k) : EReal) = (((1 : ℝ) / 10 : ℝ) : EReal) * Mg m c e r k := by
  refine (v47_at m' c e r k).trans ?_
  rw [v19_at m' c e r k, A.g, A.mc, A.ms]
  exact Cert.KernelIdeal.Body.rm_eq _ _ _ _

/-- The second moment. -/
theorem v55 (e : Fin 5) (r : Fin 384) (k : Fin 2880) : (x_v55 m' c (ix3 e r k) : EReal) = (((1 : ℝ) / 1000 : ℝ) : EReal) * Vg m c e r k := by
  refine (v55_at m' c e r k).trans ?_
  rw [v39_at m' c e r k, A.g, A.vc, A.vr, A.vk]
  exact Cert.KernelIdeal.Body.rv_eq _ _ _ _ _ (A.vr1 e r) (A.vk1 e k)

theorem vpos (e : Fin 5) (r : Fin 384) (k : Fin 2880) : 0 < Vg m c e r k :=
  Cert.KernelIdeal.Body.vp_pos _ _ _ _ _ (A.vr1 e r) (A.vk1 e k)

/-- A block's largest absolute value. -/
theorem v80 (e : Fin 5) (b : Fin 6) (k : Fin 2880) : (x_v80 m' c (ix3 e b k) : EReal) = (((1 : ℝ) / 10 : ℝ) : EReal) * AMg m c e b k := by
  refine (v80_at m' c e b k).trans ?_
  simp only [v47 A, Cert.KernelIdeal.Body.scale_abs (show (0 : ℝ) < 1 / 10 by norm_num)]
  unfold AMg Cert.KernelIdeal.Body.AM
  rw [bot_bits, Cert.KernelIdeal.Body.scale_fold (show (0 : ℝ) < 1 / 10 by norm_num)]
  simp only [Nat.mul_comm 64]

/-- The scale. -/
theorem v85 (e : Fin 5) (b : Fin 6) (k : Fin 2880) : (x_v85 m' c (ix3 e b k) : EReal) = SC (AMg m c e b k) := by
  refine (v85_at m' c (ix3 e b k)).trans ?_
  rw [v80 A]
  exact Cert.KernelIdeal.Body.sc_eq _

theorem v93' (e : Fin 5) (r : Fin 384) : (x_v93 m' c (ix2 e r) : EReal) = (((1 : ℝ) / 1000 : ℝ) : EReal) * RXg m c e r := by
  refine (v93_at m' c e r).trans ?_
  simp only [v55 A]
  rw [bot_bits, Cert.KernelIdeal.Body.scale_fold (show (0 : ℝ) < 1 / 1000 by norm_num)]
  rw [Cert.KernelIdeal.Body.fold_pos (by decide) (fun k => Vg m c e r k) fun k hk => vpos A e r ⟨k, hk⟩]
  rfl

theorem v94' (e : Fin 5) (k : Fin 2880) : (x_v94 m' c (ix2 e k) : EReal) = (((1 : ℝ) / 1000 : ℝ) : EReal) * CXg m c e k := by
  refine (v94_at m' c e k).trans ?_
  simp only [v55 A]
  rw [bot_bits, Cert.KernelIdeal.Body.scale_fold (show (0 : ℝ) < 1 / 1000 by norm_num)]
  rw [Cert.KernelIdeal.Body.fold_pos (by decide) (fun r => Vg m c e r k) fun r hr => vpos A e ⟨r, hr⟩ k]
  rfl

/-- The row maxima. -/
theorem v93 (e : Fin 5) (r : Fin 384) : (x_v93 m' c (ix2 e r) : EReal) = MEAN (RXg m c e r) :=
  (v93' A e r).trans (Cert.KernelIdeal.Body.mean_eq _)

/-- The column maxima. -/
theorem v94 (e : Fin 5) (k : Fin 2880) : (x_v94 m' c (ix2 e k) : EReal) = MEAN (CXg m c e k) :=
  (v94' A e k).trans (Cert.KernelIdeal.Body.mean_eq _)

/-- The step. -/
theorem v77 (e : Fin 5) (r : Fin 384) (k : Fin 2880) : (x_v77 m' c (ix3 e r k) : EReal) = DWg m c e r k := by
  refine (v77_at m' c (ix3 e r k)).trans ?_
  rw [v69_at m' c (ix3 e r k), v47 A, v55 A, A.w, v58_at m' c, v60_at m' c, v66_at m' c, v70_at m' c, v71_at m' c, A.t]
  exact Cert.KernelIdeal.Body.dw_eq _ _ _ _ A.t1 (vpos A e r k)

theorem v92 (e : Fin 5) (r : Fin 384) (k : Fin 2880) : x_v92 m' c (ix3 e r k) = Cert.KernelIdeal.Body.RC (Mg m c e r k) (AMg m c e (r / 64 : ℕ) k) := by
  refine (v92_at m' c e r k).trans ?_
  rw [v85_at m' c (ix3 e ⟨r / 64, by omega⟩ k), v47 A, v80 A]
  rfl

theorem v107 (e : Fin 5) (r : Fin 384) (k : Fin 2880) : x_v107 m' c (ix3 e r k) = Cert.KernelIdeal.Body.RV (Vg m c e r k) (RXg m c e r) (CXg m c e k) := by
  refine (v107_at m' c (ix3 e r k)).trans ?_
  rw [v99_at m' c e r k, v55 A, v93' A, v94' A]
  rfl

theorem am_le (e : Fin 5) (r : Fin 384) (k : ℕ) : max (Mg m c e r k) (-(Mg m c e r k)) ≤ AMg m c e (r / 64 : ℕ) k := by
  unfold AMg Cert.KernelIdeal.Body.AM
  refine (Finset.le_fold_max _).mpr (Or.inr ⟨⟨r.val % 64, by omega⟩, Finset.mem_univ _, ?_⟩)
  show _ ≤ max (Mg m c e (64 * (r.val / 64) + r.val % 64) k) (-(Mg m c e (64 * (r.val / 64) + r.val % 64) k))
  rw [Nat.div_add_mod]

theorem row_le (e : Fin 5) (r : Fin 384) (k : ℕ) (hk : k < 2880) : Vg m c e r k ≤ RXg m c e r :=
  (MX_le.mp (le_refl (RXg m c e r))).2 k hk

theorem col_le (e : Fin 5) (r : Fin 384) (k : ℕ) : Vg m c e r k ≤ CXg m c e k :=
  (MX_le.mp (le_refl (CXg m c e k))).2 r r.isLt

/-- The codes of the first moment. -/
theorem v118 (e : Fin 5) (r : Fin 384) (h : Fin 1440) : x_v118 m' c (ix3 e r h) = MCg m c e r h := by
  refine (v118_at m' c e r h).trans ?_
  rw [v92 A, v92 A]
  unfold MCg
  rw [← Cert.KernelIdeal.Body.mb_eq _ _ _ _ (am_le A e r _) (am_le A e r _), Nat.mul_comm 2]

/-- The codes of the second moment. -/
theorem v129 (e : Fin 5) (r : Fin 384) (h : Fin 1440) : x_v129 m' c (ix3 e r h) = VCg m c e r h := by
  refine (v129_at m' c e r h).trans ?_
  rw [v107 A, v107 A]
  unfold VCg
  rw [Nat.mul_comm 2]
  exact Cert.KernelIdeal.Body.vb_eq _ _ _ _ _ (vpos A e r ⟨h * 2, by omega⟩) (vpos A e r ⟨h * 2 + 1, by omega⟩)
    (row_le A e r _ (by omega)) (row_le A e r _ (by omega)) (col_le A e r _) (col_le A e r _)

end Cert.Match
-- ==== Proof.lean ====
module

public import proofs.«01_k».proof.Defs
public import proofs.«01_k».proof.Proof.KLaunch
public import proofs.«01_k».proof.Proof.ILaunch
public import proofs.«01_k».proof.Proof.Ref
public import proofs.«01_k».proof.Proof.VPre
public import proofs.«01_k».proof.Proof.VRes
public import proofs.«01_k».proof.Proof.VMatch
public import proofs.«01_k».proof.Proof.Gen.Kernel
public import proofs.«01_k».proof.Proof.Gen.KernelIdeal
public import proofs.«01_k».proof.Proof.Gen.ReferenceIdeal

@[expose] public section

noncomputable section

namespace Cert.Proof

open Idealize.ShloMosaic Idealize.ShloMosaic.TcCoe Idealize.SL.Sem
open Cert.KernelIdeal.Body (DWg MCg VCg AMg RXg CXg MEAN SC spec sound res0 res1 res2 res3 res4 res5)
open Cert.ReferenceIdeal.Ref (W_arg)

theorem quiescent_Kernel : Cert.quiescent_Kernel := fun m ρ _ => Cert.Kernel.Body.frame m ρ

theorem quiescent_KernelIdeal : Cert.quiescent_KernelIdeal := fun m ρ _ => Cert.KernelIdeal.Body.frame m ρ

theorem quiescent_KernelIdeal_pre : Cert.quiescent_KernelIdeal_pre_pre := fun m ρ _ => Cert.KernelIdeal.Body.frame m ρ

theorem quiescent_ReferenceIdeal : Cert.quiescent_ReferenceIdeal := fun m ρ _ => Cert.ReferenceIdeal.Ref.frame m ρ

theorem quiescent_ReferenceIdeal_pre : Cert.quiescent_ReferenceIdeal_pre_pre := fun m ρ _ => Cert.ReferenceIdeal.Ref.frame m ρ

theorem preserves : Cert.preserves_Kernel_KernelIdeal :=
  ⟨IdealRules.named_const.statement _ _ _ _ _ rfl, IdealRules.named_const.statement _ _ _ _ _ rfl,
   IdealRules.named_const.statement _ _ _ _ _ rfl, IdealRules.named_const.statement _ _ _ _ _ rfl,
   IdealRules.named_const.statement _ _ _ _ _ rfl, IdealRules.named_const.statement _ _ _ _ _ rfl⟩

/-- Two arrays of three axes with the same entries. -/
theorem funext3 {α : Type} {a b c : ℕ} {f g : (⟨3, ![a, b, c]⟩ : Shape).Idx → α} (h : ∀ i j k, f (ix3 i j k) = g (ix3 i j k)) : f = g :=
  funext fun i => by rw [eq_ix3 i]; exact h _ _ _

/-- Two arrays of two axes with the same entries. -/
theorem funext2 {α : Type} {a b : ℕ} {f g : (⟨2, ![a, b]⟩ : Shape).Idx → α} (h : ∀ i j, f (ix2 i j) = g (ix2 i j)) : f = g :=
  funext fun i => by rw [eq_ix2 i]; exact h _ _

/-- The precondition and the shared arguments, entry by entry. -/
theorem agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hp : Cert.Pre_KernelIdeal_pre m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.Match.Agree m m' c := by
  have q := Cert.Pre_pre.of_fn _ _ _ _ _ _ _ _ (hp c)
  exact
    { w := fun e r k => (congrFun h0 (ix3 e r k)).trans (Cert.Val.rd3_fin (α := EReal) _ e r k).symm
      g := fun e r k => (congrFun h1 (ix3 e r k)).trans (Cert.Val.rd3_fin (α := EReal) _ e r k).symm
      t := congrFun h2 ix0
      mc := fun e r k => (congrFun h3 (ix3 e r k)).trans (Cert.Val.rd3_fin _ e r k).symm
      ms := fun e b k => (congrFun h4 (ix3 e b k)).trans (Cert.Val.rd3_fin (α := EReal) _ e b k).symm
      vc := fun e r k => (congrFun h5 (ix3 e r k)).trans (Cert.Val.rd3_fin _ e r k).symm
      vr := fun e r => (congrFun h6 (ix2 e r)).trans (Cert.Val.rd2_fin (α := EReal) _ e r).symm
      vk := fun e k => (congrFun h7 (ix2 e k)).trans (Cert.Val.rd2_fin (α := EReal) _ e k).symm
      t1 := q.1
      vr1 := fun e r => (q.2.1 (ix2 e r)).trans (le_of_eq (Cert.Val.rd2_fin _ e r).symm)
      vk1 := fun e k => (q.2.2 (ix2 e k)).trans (le_of_eq (Cert.Val.rd2_fin _ e k).symm) }

theorem algebraic : Cert.algebraic_KernelIdeal_ReferenceIdeal_pre_pre := by
  intro m g m' g' hp h
  have A : ∀ c, Cert.Match.Agree m m' c := fun c =>
    agree m m' hp c (h c).1 (h c).2.1 (h c).2.2.1 (h c).2.2.2.1 (h c).2.2.2.2.1 (h c).2.2.2.2.2.1 (h c).2.2.2.2.2.2.1 (h c).2.2.2.2.2.2.2
  refine ⟨fun c => fun i : (⟨3, ![5, 384, 2880]⟩ : Shape).Idx => DWg m c (i 0) (i 1) (i 2),
    fun c => fun i : (⟨3, ![5, 384, 1440]⟩ : Shape).Idx => MCg m c (i 0) (i 1) (i 2),
    fun c => fun i : (⟨3, ![5, 6, 2880]⟩ : Shape).Idx => SC (AMg m c (i 0) (i 1) (i 2)),
    fun c => fun i : (⟨3, ![5, 384, 1440]⟩ : Shape).Idx => VCg m c (i 0) (i 1) (i 2),
    fun c => fun i : (⟨2, ![5, 384]⟩ : Shape).Idx => MEAN (RXg m c (i 0) (i 1)),
    fun c => fun i : (⟨2, ![5, 2880]⟩ : Shape).Idx => MEAN (CXg m c (i 0) (i 1)), ?_, ?_⟩
  · refine (θ_run _ _ _).mono (fun r k c => ?_) (Cert.KernelIdeal.Body.run m g (fun c => spec m c) (fun c => sound m c))
    exact ⟨res0 k.1 c, res1 k.1 c, res2 k.1 c, res3 k.1 c, res4 k.1 c, res5 k.1 c, Cert.KernelIdeal.Body.args_of_post m _ k.1 c⟩
  · refine (θ_run _ _ _).mono (fun r k c => ?_) (Cert.ReferenceIdeal.Ref.run m' g')
    exact ⟨(k c _).trans (funext3 fun e r k => Cert.Match.v77 (A c) e r k),
      (k c _).trans (funext3 fun e r k => Cert.Match.v118 (A c) e r k),
      (k c _).trans (funext3 fun e b k => Cert.Match.v85 (A c) e b k),
      (k c _).trans (funext3 fun e r k => Cert.Match.v129 (A c) e r k),
      (k c _).trans (funext2 fun e r => Cert.Match.v93 (A c) e r),
      (k c _).trans (funext2 fun e k => Cert.Match.v94 (A c) e k),
      (k c _).trans (W_arg m' c (by decide)), (k c _).trans (W_arg m' c (by decide)), (k c _).trans (W_arg m' c (by decide)),
      (k c _).trans (W_arg m' c (by decide)), (k c _).trans (W_arg m' c (by decide)), (k c _).trans (W_arg m' c (by decide)),
      (k c _).trans (W_arg m' c (by decide)), (k c _).trans (W_arg m' c (by decide))⟩

theorem claim : Cert.Claim :=
  ⟨Cert.Kernel.Gen.facts, Cert.KernelIdeal.Gen.facts, Cert.ReferenceIdeal.Gen.facts, Cert.Pre_pre.facts,
   quiescent_Kernel, quiescent_KernelIdeal, quiescent_KernelIdeal_pre, quiescent_ReferenceIdeal, quiescent_ReferenceIdeal_pre,
   preserves, algebraic⟩

end Cert.Proof

end
